-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_blocks_in_range : Cert.Pre_blocks_in_range.Facts] (m : (ℓ : Loc Cert.Experts.nD Cert.Experts.τ Cert.Experts.sig) → Buf (Elt Bits) ℓ) : Prop :=
  ∀ c : Dev Cert.Experts.nD,
    (Cert.Pre_blocks_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))) = (fun _ => 1#1)

def Pre_ExpertsIdeal [hPre_blocks_in_range : Cert.Pre_blocks_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_blocks_in_range [hPre_blocks_in_range : Cert.Pre_blocks_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_blocks_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9))) = (fun _ => 1#1)

def Pre_ExpertsPacked [hPre_blocks_in_range : Cert.Pre_blocks_in_range.Facts] (m : (ℓ : Loc Cert.ExpertsPacked.nD Cert.ExpertsPacked.τ Cert.ExpertsPacked.sig) → Buf (Elt Bits) ℓ) : Prop :=
  ∀ c : Dev Cert.ExpertsPacked.nD,
    (Cert.Pre_blocks_in_range.fn (F := Bits) (m ((c.tc : Thread Cert.ExpertsPacked.nD Cert.ExpertsPacked.τ).loc Cert.ExpertsPacked.main_arg0)) (m ((c.tc : Thread Cert.ExpertsPacked.nD Cert.ExpertsPacked.τ).loc Cert.ExpertsPacked.main_arg1)) (m ((c.tc : Thread Cert.ExpertsPacked.nD Cert.ExpertsPacked.τ).loc Cert.ExpertsPacked.main_arg2)) (m ((c.tc : Thread Cert.ExpertsPacked.nD Cert.ExpertsPacked.τ).loc Cert.ExpertsPacked.main_arg3)) (m ((c.tc : Thread Cert.ExpertsPacked.nD Cert.ExpertsPacked.τ).loc Cert.ExpertsPacked.main_arg4)) (m ((c.tc : Thread Cert.ExpertsPacked.nD Cert.ExpertsPacked.τ).loc Cert.ExpertsPacked.main_arg5)) (m ((c.tc : Thread Cert.ExpertsPacked.nD Cert.ExpertsPacked.τ).loc Cert.ExpertsPacked.main_arg6)) (m ((c.tc : Thread Cert.ExpertsPacked.nD Cert.ExpertsPacked.τ).loc Cert.ExpertsPacked.main_arg7)) (m ((c.tc : Thread Cert.ExpertsPacked.nD Cert.ExpertsPacked.τ).loc Cert.ExpertsPacked.main_arg8)) (m ((c.tc : Thread Cert.ExpertsPacked.nD Cert.ExpertsPacked.τ).loc Cert.ExpertsPacked.main_arg9))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilRefIdeal (m : (ℓ : Loc Cert.DilRefIdeal.nD Cert.DilRefIdeal.τ Cert.DilRefIdeal.sig) → Buf (Elt Ideal) ℓ) : Prop :=
  True

def Pre_Dil4 (m : (ℓ : Loc Cert.Dil4.nD Cert.Dil4.τ Cert.Dil4.sig) → Buf (Elt Bits) ℓ) : Prop :=
  True

def Pre_Dil4Ideal (m : (ℓ : Loc Cert.Dil4Ideal.nD Cert.Dil4Ideal.τ Cert.Dil4Ideal.sig) → Buf (Elt Ideal) ℓ) : Prop :=
  True

def Pre_Dil4RefIdeal (m : (ℓ : Loc Cert.Dil4RefIdeal.nD Cert.Dil4RefIdeal.τ Cert.Dil4RefIdeal.sig) → Buf (Elt Ideal) ℓ) : Prop :=
  True

def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Dil16RefIdeal (m : (ℓ : Loc Cert.Dil16RefIdeal.nD Cert.Dil16RefIdeal.τ Cert.Dil16RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_blocks_in_range : Cert.Pre_blocks_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] [hPre_blocks_in_range : Cert.Pre_blocks_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0)

def quiescent_ExpertsRefIdeal_pre_blocks_in_range [hExpertsRefIdeal : Cert.ExpertsRefIdeal.Facts] [hPre_blocks_in_range : Cert.Pre_blocks_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_blocks_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0)

def quiescent_ExpertsPacked [hExpertsPacked : Cert.ExpertsPacked.Facts] [hPre_blocks_in_range : Cert.Pre_blocks_in_range.Facts] : Prop :=
  ∀ (m : (ℓ : Loc Cert.ExpertsPacked.nD Cert.ExpertsPacked.τ Cert.ExpertsPacked.sig) → Buf (Elt Bits) ℓ) (g : Dev Cert.ExpertsPacked.nD → PrngReg), Pre_ExpertsPacked m →
    θ_run (Cert.ExpertsPacked.defs (F := Bits)) (onTc (τ := Cert.ExpertsPacked.τ) (Cert.ExpertsPacked.main (F := Bits))) ⟨m, fun _ => 0, g⟩ (fun r => (∀ c : Dev Cert.ExpertsPacked.nD,
      r.2.mem ((c.tc : Thread Cert.ExpertsPacked.nD Cert.ExpertsPacked.τ).loc Cert.ExpertsPacked.main_arg0) = m ((c.tc : Thread Cert.ExpertsPacked.nD Cert.ExpertsPacked.τ).loc Cert.ExpertsPacked.main_arg0)
      ∧ r.2.mem ((c.tc : Thread Cert.ExpertsPacked.nD Cert.ExpertsPacked.τ).loc Cert.ExpertsPacked.main_arg1) = m ((c.tc : Thread Cert.ExpertsPacked.nD Cert.ExpertsPacked.τ).loc Cert.ExpertsPacked.main_arg1)
      ∧ r.2.mem ((c.tc : Thread Cert.ExpertsPacked.nD Cert.ExpertsPacked.τ).loc Cert.ExpertsPacked.main_arg2) = m ((c.tc : Thread Cert.ExpertsPacked.nD Cert.ExpertsPacked.τ).loc Cert.ExpertsPacked.main_arg2)
      ∧ r.2.mem ((c.tc : Thread Cert.ExpertsPacked.nD Cert.ExpertsPacked.τ).loc Cert.ExpertsPacked.main_arg3) = m ((c.tc : Thread Cert.ExpertsPacked.nD Cert.ExpertsPacked.τ).loc Cert.ExpertsPacked.main_arg3)
      ∧ r.2.mem ((c.tc : Thread Cert.ExpertsPacked.nD Cert.ExpertsPacked.τ).loc Cert.ExpertsPacked.main_arg4) = m ((c.tc : Thread Cert.ExpertsPacked.nD Cert.ExpertsPacked.τ).loc Cert.ExpertsPacked.main_arg4)
      ∧ r.2.mem ((c.tc : Thread Cert.ExpertsPacked.nD Cert.ExpertsPacked.τ).loc Cert.ExpertsPacked.main_arg5) = m ((c.tc : Thread Cert.ExpertsPacked.nD Cert.ExpertsPacked.τ).loc Cert.ExpertsPacked.main_arg5)
      ∧ r.2.mem ((c.tc : Thread Cert.ExpertsPacked.nD Cert.ExpertsPacked.τ).loc Cert.ExpertsPacked.main_arg6) = m ((c.tc : Thread Cert.ExpertsPacked.nD Cert.ExpertsPacked.τ).loc Cert.ExpertsPacked.main_arg6)
      ∧ r.2.mem ((c.tc : Thread Cert.ExpertsPacked.nD Cert.ExpertsPacked.τ).loc Cert.ExpertsPacked.main_arg7) = m ((c.tc : Thread Cert.ExpertsPacked.nD Cert.ExpertsPacked.τ).loc Cert.ExpertsPacked.main_arg7)
      ∧ r.2.mem ((c.tc : Thread Cert.ExpertsPacked.nD Cert.ExpertsPacked.τ).loc Cert.ExpertsPacked.main_arg8) = m ((c.tc : Thread Cert.ExpertsPacked.nD Cert.ExpertsPacked.τ).loc Cert.ExpertsPacked.main_arg8)
      ∧ r.2.mem ((c.tc : Thread Cert.ExpertsPacked.nD Cert.ExpertsPacked.τ).loc Cert.ExpertsPacked.main_arg9) = m ((c.tc : Thread Cert.ExpertsPacked.nD Cert.ExpertsPacked.τ).loc Cert.ExpertsPacked.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1))
      ∧ r.2.sem = fun _ => 0)

def quiescent_Dil4 [hDil4 : Cert.Dil4.Facts] : Prop :=
  ∀ (m : (ℓ : Loc Cert.Dil4.nD Cert.Dil4.τ Cert.Dil4.sig) → Buf (Elt Bits) ℓ) (g : Dev Cert.Dil4.nD → PrngReg), Pre_Dil4 m →
    θ_run (Cert.Dil4.defs (F := Bits)) (onTc (τ := Cert.Dil4.τ) (Cert.Dil4.main (F := Bits))) ⟨m, fun _ => 0, g⟩ (fun r => (∀ c : Dev Cert.Dil4.nD,
      r.2.mem ((c.tc : Thread Cert.Dil4.nD Cert.Dil4.τ).loc Cert.Dil4.main_arg0) = m ((c.tc : Thread Cert.Dil4.nD Cert.Dil4.τ).loc Cert.Dil4.main_arg0)
      ∧ r.2.mem ((c.tc : Thread Cert.Dil4.nD Cert.Dil4.τ).loc Cert.Dil4.main_arg1) = m ((c.tc : Thread Cert.Dil4.nD Cert.Dil4.τ).loc Cert.Dil4.main_arg1))
      ∧ r.2.sem = fun _ => 0)

def quiescent_Dil4Ideal [hDil4Ideal : Cert.Dil4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0)
      ∧ r.2.mem ((c.tc : Thread Cert.Dil4Ideal.nD Cert.Dil4Ideal.τ).loc Cert.Dil4Ideal.main_arg1) = m ((c.tc : Thread Cert.Dil4Ideal.nD Cert.Dil4Ideal.τ).loc Cert.Dil4Ideal.main_arg1))
      ∧ r.2.sem = fun _ => 0)

def quiescent_Dil4RefIdeal [hDil4RefIdeal : Cert.Dil4RefIdeal.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0)
      ∧ r.2.mem ((c.tc : Thread Cert.Dil4RefIdeal.nD Cert.Dil4RefIdeal.τ).loc Cert.Dil4RefIdeal.main_arg1) = m ((c.tc : Thread Cert.Dil4RefIdeal.nD Cert.Dil4RefIdeal.τ).loc Cert.Dil4RefIdeal.main_arg1))
      ∧ r.2.sem = fun _ => 0)

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0)
      ∧ r.2.mem ((c.tc : Thread Cert.Dil16.nD Cert.Dil16.τ).loc Cert.Dil16.main_arg1) = m ((c.tc : Thread Cert.Dil16.nD Cert.Dil16.τ).loc Cert.Dil16.main_arg1))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0)
      ∧ r.2.mem ((c.tc : Thread Cert.Dil16Ideal.nD Cert.Dil16Ideal.τ).loc Cert.Dil16Ideal.main_arg1) = m ((c.tc : Thread Cert.Dil16Ideal.nD Cert.Dil16Ideal.τ).loc Cert.Dil16Ideal.main_arg1))
      ∧ r.2.sem = fun _ => 0)

def quiescent_Dil16RefIdeal [hDil16RefIdeal : Cert.Dil16RefIdeal.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0)
      ∧ r.2.mem ((c.tc : Thread Cert.Dil16RefIdeal.nD Cert.Dil16RefIdeal.τ).loc Cert.Dil16RefIdeal.main_arg1) = m ((c.tc : Thread Cert.Dil16RefIdeal.nD Cert.Dil16RefIdeal.τ).loc Cert.Dil16RefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsRefIdeal_on_used [hExpertsIdeal : Cert.ExpertsIdeal.Facts] [hExpertsRefIdeal : Cert.ExpertsRefIdeal.Facts] [hPre_blocks_in_range : Cert.Pre_blocks_in_range.Facts] [hOn_used : Cert.On_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)
      ∧ m' ((c.tc : Thread Cert.ExpertsRefIdeal.nD Cert.ExpertsRefIdeal.τ).loc Cert.ExpertsRefIdeal.main_arg9) = m ((c.tc : Thread Cert.ExpertsIdeal.nD Cert.ExpertsIdeal.τ).loc Cert.ExpertsIdeal.main_arg9)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![294912, 1024]⟩ : Shape).Idx, (Cert.On_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) i = 1#1 → r.2.mem ((c.tc : Thread Cert.ExpertsIdeal.nD Cert.ExpertsIdeal.τ).loc Cert.ExpertsIdeal.main_v3) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![294912, 1024]⟩ : Shape).Idx, (Cert.On_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) i = 1#1 → r.2.mem ((c.tc : Thread Cert.ExpertsRefIdeal.nD Cert.ExpertsRefIdeal.τ).loc Cert.ExpertsRefIdeal.main_v86) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m' ((c.tc : Thread Cert.ExpertsRefIdeal.nD Cert.ExpertsRefIdeal.τ).loc Cert.ExpertsRefIdeal.main_arg9))

def preserves_Qkv_QkvIdeal : Prop :=
  IdealRules.named_const.Statement Cert.QkvIdeal.κ "log2e_8" .f32 0x3E38AA3B#32 (((8 * (Real.log 2))⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v28) = v0 c
          ∧ r.2.mem ((c.tc : Thread Cert.QkvRefIdeal.nD Cert.QkvRefIdeal.τ).loc Cert.QkvRefIdeal.main_v30) = v1 c
          ∧ r.2.mem ((c.tc : Thread Cert.QkvRefIdeal.nD Cert.QkvRefIdeal.τ).loc Cert.QkvRefIdeal.main_v32) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Dil_DilIdeal : Prop :=
  IdealRules.named_const.Statement Cert.DilIdeal.κ "neg_inf" .f32 0xF149F2CA#32 ⊥

def algebraic_DilIdeal_DilRefIdeal [hDilIdeal : Cert.DilIdeal.Facts] [hDilRefIdeal : Cert.DilRefIdeal.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)) →
    ∃ (v0 : (c : Dev Cert.DilIdeal.nD) → Buf (Elt Ideal) ((c.tc : Thread Cert.DilIdeal.nD Cert.DilIdeal.τ).loc Cert.DilIdeal.main_v17_0)) (v1 : (c : Dev Cert.DilIdeal.nD) → Buf (Elt Ideal) ((c.tc : Thread Cert.DilIdeal.nD Cert.DilIdeal.τ).loc Cert.DilIdeal.main_v17_1)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v17_0) = v0 c
          ∧ r.2.mem ((c.tc : Thread Cert.DilIdeal.nD Cert.DilIdeal.τ).loc Cert.DilIdeal.main_v17_1) = v1 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v72) = v0 c
          ∧ r.2.mem ((c.tc : Thread Cert.DilRefIdeal.nD Cert.DilRefIdeal.τ).loc Cert.DilRefIdeal.main_v84) = v1 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1))

def preserves_Dil4_Dil4Ideal : Prop :=
  IdealRules.named_const.Statement Cert.Dil4Ideal.κ "neg_inf" .f32 0xF149F2CA#32 ⊥

def algebraic_Dil4Ideal_Dil4RefIdeal [hDil4Ideal : Cert.Dil4Ideal.Facts] [hDil4RefIdeal : Cert.Dil4RefIdeal.Facts] : Prop :=
  ∀ (m : (ℓ : Loc Cert.Dil4Ideal.nD Cert.Dil4Ideal.τ Cert.Dil4Ideal.sig) → Buf (Elt Ideal) ℓ) (g : Dev Cert.Dil4Ideal.nD → PrngReg)
    (m' : (ℓ : Loc Cert.Dil4RefIdeal.nD Cert.Dil4RefIdeal.τ Cert.Dil4RefIdeal.sig) → Buf (Elt Ideal) ℓ) (g' : Dev Cert.Dil4RefIdeal.nD → PrngReg), Pre_Dil4Ideal m →
    (∀ c : Dev Cert.Dil4Ideal.nD,
      m' ((c.tc : Thread Cert.Dil4RefIdeal.nD Cert.Dil4RefIdeal.τ).loc Cert.Dil4RefIdeal.main_arg0) = m ((c.tc : Thread Cert.Dil4Ideal.nD Cert.Dil4Ideal.τ).loc Cert.Dil4Ideal.main_arg0)
      ∧ m' ((c.tc : Thread Cert.Dil4RefIdeal.nD Cert.Dil4RefIdeal.τ).loc Cert.Dil4RefIdeal.main_arg1) = m ((c.tc : Thread Cert.Dil4Ideal.nD Cert.Dil4Ideal.τ).loc Cert.Dil4Ideal.main_arg1)) →
    ∃ (v0 : (c : Dev Cert.Dil4Ideal.nD) → Buf (Elt Ideal) ((c.tc : Thread Cert.Dil4Ideal.nD Cert.Dil4Ideal.τ).loc Cert.Dil4Ideal.main_v17_0)) (v1 : (c : Dev Cert.Dil4Ideal.nD) → Buf (Elt Ideal) ((c.tc : Thread Cert.Dil4Ideal.nD Cert.Dil4Ideal.τ).loc Cert.Dil4Ideal.main_v17_1)),
      θ_run (Cert.Dil4Ideal.defs (F := Ideal)) (onTc (τ := Cert.Dil4Ideal.τ) (Cert.Dil4Ideal.main (F := Ideal))) ⟨m, fun _ => 0, g⟩ (fun r => ∀ c : Dev Cert.Dil4Ideal.nD,
          r.2.mem ((c.tc : Thread Cert.Dil4Ideal.nD Cert.Dil4Ideal.τ).loc Cert.Dil4Ideal.main_v17_0) = v0 c
          ∧ r.2.mem ((c.tc : Thread Cert.Dil4Ideal.nD Cert.Dil4Ideal.τ).loc Cert.Dil4Ideal.main_v17_1) = v1 c
          ∧ r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0)
          ∧ r.2.mem ((c.tc : Thread Cert.Dil4Ideal.nD Cert.Dil4Ideal.τ).loc Cert.Dil4Ideal.main_arg1) = m ((c.tc : Thread Cert.Dil4Ideal.nD Cert.Dil4Ideal.τ).loc Cert.Dil4Ideal.main_arg1))
      ∧ θ_run (Cert.Dil4RefIdeal.defs (F := Ideal)) (onTc (τ := Cert.Dil4RefIdeal.τ) (Cert.Dil4RefIdeal.main (F := Ideal))) ⟨m', fun _ => 0, g'⟩ (fun r => ∀ c : Dev Cert.Dil4RefIdeal.nD,
          r.2.mem ((c.tc : Thread Cert.Dil4RefIdeal.nD Cert.Dil4RefIdeal.τ).loc Cert.Dil4RefIdeal.main_v86) = v0 c
          ∧ r.2.mem ((c.tc : Thread Cert.Dil4RefIdeal.nD Cert.Dil4RefIdeal.τ).loc Cert.Dil4RefIdeal.main_v87) = v1 c
          ∧ r.2.mem ((c.tc : Thread Cert.Dil4RefIdeal.nD Cert.Dil4RefIdeal.τ).loc Cert.Dil4RefIdeal.main_arg0) = m' ((c.tc : Thread Cert.Dil4RefIdeal.nD Cert.Dil4RefIdeal.τ).loc Cert.Dil4RefIdeal.main_arg0)
          ∧ r.2.mem ((c.tc : Thread Cert.Dil4RefIdeal.nD Cert.Dil4RefIdeal.τ).loc Cert.Dil4RefIdeal.main_arg1) = m' ((c.tc : Thread Cert.Dil4RefIdeal.nD Cert.Dil4RefIdeal.τ).loc Cert.Dil4RefIdeal.main_arg1))

def preserves_Dil16_Dil16Ideal : Prop :=
  IdealRules.named_const.Statement Cert.Dil16Ideal.κ "neg_inf" .f32 0xF149F2CA#32 ⊥

def algebraic_Dil16Ideal_Dil16RefIdeal [hDil16Ideal : Cert.Dil16Ideal.Facts] [hDil16RefIdeal : Cert.Dil16RefIdeal.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.Dil16RefIdeal.nD Cert.Dil16RefIdeal.τ Cert.Dil16RefIdeal.sig) → Buf (Elt Ideal) ℓ) (g' : Dev Cert.Dil16RefIdeal.nD → PrngReg), Pre_Dil16Ideal m →
    (∀ c : Dev Cert.Dil16Ideal.nD,
      m' ((c.tc : Thread Cert.Dil16RefIdeal.nD Cert.Dil16RefIdeal.τ).loc Cert.Dil16RefIdeal.main_arg0) = m ((c.tc : Thread Cert.Dil16Ideal.nD Cert.Dil16Ideal.τ).loc Cert.Dil16Ideal.main_arg0)
      ∧ m' ((c.tc : Thread Cert.Dil16RefIdeal.nD Cert.Dil16RefIdeal.τ).loc Cert.Dil16RefIdeal.main_arg1) = m ((c.tc : Thread Cert.Dil16Ideal.nD Cert.Dil16Ideal.τ).loc Cert.Dil16Ideal.main_arg1)) →
    ∃ (v0 : (c : Dev Cert.Dil16Ideal.nD) → Buf (Elt Ideal) ((c.tc : Thread Cert.Dil16Ideal.nD Cert.Dil16Ideal.τ).loc Cert.Dil16Ideal.main_v17_0)) (v1 : (c : Dev Cert.Dil16Ideal.nD) → Buf (Elt Ideal) ((c.tc : Thread Cert.Dil16Ideal.nD Cert.Dil16Ideal.τ).loc Cert.Dil16Ideal.main_v17_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v17_0) = v0 c
          ∧ r.2.mem ((c.tc : Thread Cert.Dil16Ideal.nD Cert.Dil16Ideal.τ).loc Cert.Dil16Ideal.main_v17_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0)
          ∧ r.2.mem ((c.tc : Thread Cert.Dil16Ideal.nD Cert.Dil16Ideal.τ).loc Cert.Dil16Ideal.main_arg1) = m ((c.tc : Thread Cert.Dil16Ideal.nD Cert.Dil16Ideal.τ).loc Cert.Dil16Ideal.main_arg1))
      ∧ θ_run (Cert.Dil16RefIdeal.defs (F := Ideal)) (onTc (τ := Cert.Dil16RefIdeal.τ) (Cert.Dil16RefIdeal.main (F := Ideal))) ⟨m', fun _ => 0, g'⟩ (fun r => ∀ c : Dev Cert.Dil16RefIdeal.nD,
          r.2.mem ((c.tc : Thread Cert.Dil16RefIdeal.nD Cert.Dil16RefIdeal.τ).loc Cert.Dil16RefIdeal.main_v86) = v0 c
          ∧ r.2.mem ((c.tc : Thread Cert.Dil16RefIdeal.nD Cert.Dil16RefIdeal.τ).loc Cert.Dil16RefIdeal.main_v87) = v1 c
          ∧ r.2.mem ((c.tc : Thread Cert.Dil16RefIdeal.nD Cert.Dil16RefIdeal.τ).loc Cert.Dil16RefIdeal.main_arg0) = m' ((c.tc : Thread Cert.Dil16RefIdeal.nD Cert.Dil16RefIdeal.τ).loc Cert.Dil16RefIdeal.main_arg0)
          ∧ r.2.mem ((c.tc : Thread Cert.Dil16RefIdeal.nD Cert.Dil16RefIdeal.τ).loc Cert.Dil16RefIdeal.main_arg1) = m' ((c.tc : Thread Cert.Dil16RefIdeal.nD Cert.Dil16RefIdeal.τ).loc Cert.Dil16RefIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hExpertsPacked : Cert.ExpertsPacked.Facts) (hQkv : Cert.Qkv.Facts) (hQkvIdeal : Cert.QkvIdeal.Facts) (hQkvRefIdeal : Cert.QkvRefIdeal.Facts) (hDil : Cert.Dil.Facts) (hDilIdeal : Cert.DilIdeal.Facts) (hDilRefIdeal : Cert.DilRefIdeal.Facts) (hDil4 : Cert.Dil4.Facts) (hDil4Ideal : Cert.Dil4Ideal.Facts) (hDil4RefIdeal : Cert.Dil4RefIdeal.Facts) (hDil16 : Cert.Dil16.Facts) (hDil16Ideal : Cert.Dil16Ideal.Facts) (hDil16RefIdeal : Cert.Dil16RefIdeal.Facts) (hPre_blocks_in_range : Cert.Pre_blocks_in_range.Facts) (hOn_used : Cert.On_used.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_blocks_in_range := hPre_blocks_in_range)
    ∧ quiescent_ExpertsIdeal (hExpertsIdeal := hExpertsIdeal) (hPre_blocks_in_range := hPre_blocks_in_range)
    ∧ quiescent_ExpertsRefIdeal (hExpertsRefIdeal := hExpertsRefIdeal)
    ∧ quiescent_ExpertsRefIdeal_pre_blocks_in_range (hExpertsRefIdeal := hExpertsRefIdeal) (hPre_blocks_in_range := hPre_blocks_in_range)
    ∧ quiescent_ExpertsPacked (hExpertsPacked := hExpertsPacked) (hPre_blocks_in_range := hPre_blocks_in_range)
    ∧ quiescent_Qkv (hQkv := hQkv)
    ∧ quiescent_QkvIdeal (hQkvIdeal := hQkvIdeal)
    ∧ quiescent_QkvRefIdeal (hQkvRefIdeal := hQkvRefIdeal)
    ∧ quiescent_Dil (hDil := hDil)
    ∧ quiescent_DilIdeal (hDilIdeal := hDilIdeal)
    ∧ quiescent_DilRefIdeal (hDilRefIdeal := hDilRefIdeal)
    ∧ quiescent_Dil4 (hDil4 := hDil4)
    ∧ quiescent_Dil4Ideal (hDil4Ideal := hDil4Ideal)
    ∧ quiescent_Dil4RefIdeal (hDil4RefIdeal := hDil4RefIdeal)
    ∧ quiescent_Dil16 (hDil16 := hDil16)
    ∧ quiescent_Dil16Ideal (hDil16Ideal := hDil16Ideal)
    ∧ quiescent_Dil16RefIdeal (hDil16RefIdeal := hDil16RefIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsRefIdeal_on_used (hExpertsIdeal := hExpertsIdeal) (hExpertsRefIdeal := hExpertsRefIdeal) (hPre_blocks_in_range := hPre_blocks_in_range) (hOn_used := hOn_used)
    ∧ preserves_Qkv_QkvIdeal
    ∧ algebraic_QkvIdeal_QkvRefIdeal (hQkvIdeal := hQkvIdeal) (hQkvRefIdeal := hQkvRefIdeal)
    ∧ preserves_Dil_DilIdeal
    ∧ algebraic_DilIdeal_DilRefIdeal (hDilIdeal := hDilIdeal) (hDilRefIdeal := hDilRefIdeal)
    ∧ preserves_Dil4_Dil4Ideal
    ∧ algebraic_Dil4Ideal_Dil4RefIdeal (hDil4Ideal := hDil4Ideal) (hDil4RefIdeal := hDil4RefIdeal)
    ∧ preserves_Dil16_Dil16Ideal
    ∧ algebraic_Dil16Ideal_Dil16RefIdeal (hDil16Ideal := hDil16Ideal) (hDil16RefIdeal := hDil16RefIdeal)
-- ==== On_used.lean ====
abbrev S294912x512 : Shape := ⟨2, ![294912, 512]⟩
abbrev S288 : Shape := ⟨1, ![288]⟩
abbrev S1 : Shape := ⟨1, ![1]⟩
abbrev S32x1024x1024 : Shape := ⟨3, ![32, 1024, 1024]⟩
abbrev S32x1024 : Shape := ⟨2, ![32, 1024]⟩
abbrev S294912x1024 : Shape := ⟨2, ![294912, 1024]⟩
abbrev S_ : Shape := ⟨0, ![]⟩

class Facts : Prop where
  shapeCasts_S1_S_ : S1.ShapeCasts S_
  bcast_S_S294912x1024 : S_.BroadcastsInDim S294912x1024 (![] : Fin 0 → Fin S294912x1024.rank)

variable [Facts]

def fn {F : FTy → Type} [FloatOps F] (main_arg0 : IVec S294912x512 32) (main_arg1 : IVec S288 32) (main_arg2 : IVec S1 32) (main_arg3 : IVec S288 32) (main_arg4 : FVec F S32x1024x1024 .f32) (main_arg5 : FVec F S32x1024 .f32) (main_arg6 : FVec F S32x1024x1024 .f32) (main_arg7 : FVec F S32x1024 .f32) (main_arg8 : FVec F S32x1024x1024 .f32) (main_arg9 : FVec F S32x1024 .f32) : IVec S294912x1024 1 :=
  let main_v0 : IVec S294912x1024 32 := iotaInDim S294912x1024 32 0
  let main_v1 : IVec S_ 32 := shapeCast S_ main_arg2 shapeCasts_S1_S_
  let main_c : IVec S_ 32 := constantI S_ 32 1024#32
  let main_v2 : IVec S_ 32 := muli main_v1 main_c
  let main_v3 : IVec S294912x1024 32 := broadcastInDim S294912x1024 ![] bcast_S_S294912x1024 main_v2
  let main_v4 : IVec S294912x1024 1 := cmpi .slt main_v0 main_v3
  main_v4
-- ==== Pre_blocks_in_range.lean ====
abbrev S294912x512 : Shape := ⟨2, ![294912, 512]⟩
abbrev S288 : Shape := ⟨1, ![288]⟩
abbrev S1 : Shape := ⟨1, ![1]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S294912x512 32) (main_arg1 : IVec S288 32) (main_arg2 : IVec S1 32) (main_arg3 : IVec S288 32) (main_arg4 : FVec F S32x1024x1024 .f32) (main_arg5 : FVec F S32x1024 .f32) (main_arg6 : FVec F S32x1024x1024 .f32) (main_arg7 : FVec F S32x1024 .f32) (main_arg8 : FVec F S32x1024x1024 .f32) (main_arg9 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg2 shapeCasts_S1_S_
  let main_c_3 : IVec S_ 32 := constantI S_ 32 288#32
  let main_v10 : IVec S_ 1 := cmpi .sle main_v9 main_c_3
  let main_v11 : IVec S_ 1 := andi main_v8 main_v10
  main_v11
-- ==== Kernel.lean ====
abbrev S262144x512 : Shape := ⟨2, ![262144, 512]⟩
abbrev S8x65536 : Shape := ⟨2, ![8, 65536]⟩
abbrev S65536x1024 : Shape := ⟨2, ![65536, 1024]⟩
abbrev S1024 : Shape := ⟨1, ![1024]⟩
abbrev S4x65536x512 : Shape := ⟨3, ![4, 65536, 512]⟩
abbrev S1x1024 : Shape := ⟨2, ![1, 1024]⟩
abbrev S4x512x512 : Shape := ⟨3, ![4, 512, 512]⟩
abbrev S8x512 : Shape := ⟨2, ![8, 512]⟩
abbrev S512x1024 : Shape := ⟨2, ![512, 1024]⟩
abbrev S512x8 : Shape := ⟨2, ![512, 8]⟩
abbrev S512x1 : Shape := ⟨2, ![512, 1]⟩
abbrev S1x512x512 : Shape := ⟨3, ![1, 512, 512]⟩
abbrev S512x512 : Shape := ⟨2, ![512, 512]⟩
abbrev S512 : Shape := ⟨1, ![512]⟩

abbrev nBuf : Space → Nat
  | .hbm => 7
  | .vmem => 9
  | .smem => 0
  | _ => 0

abbrev bufTy : (tb : Table) → Fin (tcTables nBuf tb) → BufTy
  | .hbm, ⟨0, _⟩ => ⟨S262144x512, .i32⟩
  | .hbm, ⟨1, _⟩ => ⟨S8x65536, .f32⟩
  | .hbm, ⟨2, _⟩ => ⟨S65536x1024, .f32⟩
  | .hbm, ⟨3, _⟩ => ⟨S1024, .f32⟩
  | .hbm, ⟨4, _⟩ => ⟨S4x65536x512, .i32⟩
  | .hbm, ⟨5, _⟩ => ⟨S1x1024, .f32⟩
  | .hbm, ⟨6, _⟩ => ⟨S65536x1024, .f32⟩
  | .local _ .vmem, ⟨0, _⟩ => ⟨S4x512x512, .i32⟩
  | .local _ .vmem, ⟨1, _⟩ => ⟨S4x512x512, .i32⟩
  | .local _ .vmem, ⟨2, _⟩ => ⟨S8x512, .f32⟩
  | .local _ .vmem, ⟨3, _⟩ => ⟨S8x512, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S262144x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S262144x512 : Shape := ⟨2, ![262144, 512]⟩
abbrev S8x65536 : Shape := ⟨2, ![8, 65536]⟩
abbrev S65536x1024 : Shape := ⟨2, ![65536, 1024]⟩
abbrev S1024 : Shape := ⟨1, ![1024]⟩
abbrev S4x65536x512 : Shape := ⟨3, ![4, 65536, 512]⟩
abbrev S_ : Shape := ⟨0, ![]⟩
abbrev S4x65536x1024 : Shape := ⟨3, ![4, 65536, 1024]⟩
abbrev S4x65536 : Shape := ⟨2, ![4, 65536]⟩
abbrev S4x65536x1 : Shape := ⟨3, ![4, 65536, 1]⟩
abbrev S65536 : Shape := ⟨1, ![65536]⟩
abbrev S65536x1 : Shape := ⟨2, ![65536, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S262144x512, .i32⟩
  | .hbm, ⟨1, _⟩ => ⟨S8x65536, .f32⟩
  | .hbm, ⟨2, _⟩ => ⟨S65536x1024, .f32⟩
  | .hbm, ⟨3, _⟩ => ⟨S1024, .f32⟩
  | .hbm, ⟨4, _⟩ => ⟨S4x65536x512, .i32⟩
  | .hbm, ⟨5, _⟩ => ⟨S_, .i32⟩
  | .hbm, ⟨6, _⟩ => ⟨S4x65536x512, .i32⟩
  | .hbm, ⟨7, _⟩ => ⟨S4x65536x512, .i32⟩
  | .hbm, ⟨8, _⟩ => ⟨S4x65536x512, .f32⟩
  | .hbm, ⟨9, _⟩ => ⟨S_, .i32⟩
  | .hbm, ⟨10, _⟩ => ⟨S4x65536x512, .i32⟩
  | .hbm, ⟨11, _⟩ => ⟨S4x65536x512, .i32⟩
  | .hbm, ⟨12, _⟩ => ⟨S4x65536x512, .f32⟩
  | .hbm, ⟨13, _⟩ => ⟨S4x65536x1024, .f32⟩
  | .hbm, ⟨14, _⟩ => ⟨S4x65536, .f32⟩
  | .hbm, ⟨15, _⟩ => ⟨S4x65536x1, .f32⟩
  | .hbm, ⟨16, _⟩ => ⟨S4x65536x1024, .f32⟩
  | .hbm, ⟨17, _⟩ => ⟨S4x65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | _, _ => ⟨S262144x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Experts.lean ====
abbrev S294912x512 : Shape := ⟨2, ![294912, 512]⟩
abbrev S288 : Shape := ⟨1, ![288]⟩
abbrev S1 : Shape := ⟨1, ![1]⟩
abbrev S32x1024x1024 : Shape := ⟨3, ![32, 1024, 1024]⟩
abbrev S32x1024 : Shape := ⟨2, ![32, 1024]⟩
abbrev S32x1x1024 : Shape := ⟨3, ![32, 1, 1024]⟩
abbrev S294912x1024 : Shape := ⟨2, ![294912, 1024]⟩
abbrev S1024x512 : Shape := ⟨2, ![1024, 512]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 11
  | .vmem => 16
  | .smem => 3
  | _ => 0

abbrev bufTy : (tb : Table) → Fin (tcTables nBuf tb) → BufTy
  | .hbm, ⟨0, _⟩ => ⟨S294912x512, .i32⟩
  | .hbm, ⟨1, _⟩ => ⟨S32x1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S294912x1024, .bf16⟩
  | .local _ .vmem, ⟨0, _⟩ => ⟨S1024x512, .i32⟩
  | .local _ .vmem, ⟨1, _⟩ => ⟨S1024x512, .i32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .bf16⟩
  | .local _ .vmem, ⟨15, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S294912x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S294912x512 : Shape := ⟨2, ![294912, 512]⟩
abbrev S288 : Shape := ⟨1, ![288]⟩
abbrev S1 : Shape := ⟨1, ![1]⟩
abbrev S32x1024x1024 : Shape := ⟨3, ![32, 1024, 1024]⟩
abbrev S32x1024 : Shape := ⟨2, ![32, 1024]⟩
abbrev S_ : Shape := ⟨0, ![]⟩
abbrev S294912x1024 : Shape := ⟨2, ![294912, 1024]⟩
abbrev S288x1024x1024 : Shape := ⟨3, ![288, 1024, 1024]⟩
abbrev S1024 : Shape := ⟨1, ![1024]⟩
abbrev S1x1024 : Shape := ⟨2, ![1, 1024]⟩
abbrev S288x1 : Shape := ⟨2, ![288, 1]⟩
abbrev S288x1024 : Shape := ⟨2, ![288, 1024]⟩
abbrev S288x1024x1 : Shape := ⟨3, ![288, 1024, 1]⟩
abbrev S288x1x1024 : Shape := ⟨3, ![288, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S294912x512, .i32⟩
  | .hbm, ⟨1, _⟩ => ⟨S288, .i32⟩
  | .hbm, ⟨2, _⟩ => ⟨S1, .i32⟩
  | .hbm, ⟨3, _⟩ => ⟨S288, .i32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024x1024, .f32⟩
  | .hbm, ⟨9, _⟩ => ⟨S32x1024, .f32⟩
  | .hbm, ⟨10, _⟩ => ⟨S_, .i32⟩
  | .hbm, ⟨11, _⟩ => ⟨S294912x512, .i32⟩
  | .hbm, ⟨12, _⟩ => ⟨S294912x512, .i32⟩
  | .hbm, ⟨13, _⟩ => ⟨S294912x512, .f32⟩
  | .hbm, ⟨14, _⟩ => ⟨S_, .i32⟩
  | .hbm, ⟨15, _⟩ => ⟨S294912x512, .i32⟩
  | .hbm, ⟨16, _⟩ => ⟨S294912x512, .i32⟩
  | .hbm, ⟨17, _⟩ => ⟨S294912x512, .f32⟩
  | .hbm, ⟨18, _⟩ => ⟨S294912x1024, .f32⟩
  | .hbm, ⟨19, _⟩ => ⟨S288x1024x1024, .f32⟩
  | .hbm, ⟨20, _⟩ => ⟨S1024, .i32⟩
  | .hbm, ⟨21, _⟩ => ⟨S1x1024, .i32⟩
  | .hbm, ⟨22, _⟩ => ⟨S288x1, .i32⟩
  | .hbm, ⟨23, _⟩ => ⟨S288x1024, .i32⟩
  | .hbm, ⟨24, _⟩ => ⟨S288x1024, .i32⟩
  | .hbm, ⟨25, _⟩ => ⟨S288x1024, .i1⟩
  | .hbm, ⟨26, _⟩ => ⟨S288x1024x1, .i1⟩
  | .hbm, ⟨27, _⟩ => ⟨S_, .f32⟩
  | .hbm, ⟨28, _⟩ => ⟨S_, .f32⟩
  | .hbm, ⟨29, _⟩ => ⟨S288x1024x1024, .i1⟩
  | .hbm, ⟨30, _⟩ => ⟨S288x1024x1024, .f32⟩
  | .hbm, ⟨31, _⟩ => ⟨S288x1024x1024, .f32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S_, .i32⟩
  | .hbm, ⟨36, _⟩ => ⟨S288, .i32⟩
  | .hbm, ⟨37, _⟩ => ⟨S288, .i32⟩
  | .hbm, ⟨38, _⟩ => ⟨S288, .i32⟩
  | .hbm, ⟨39, _⟩ => ⟨S288x1, .i32⟩
  | .hbm, ⟨40, _⟩ => ⟨S288x1024x1024, .f32⟩
  | .hbm, ⟨41, _⟩ => ⟨S288x1024x1024, .f32⟩
  | .hbm, ⟨42, _⟩ => ⟨S_, .i32⟩
  | .hbm, ⟨43, _⟩ => ⟨S288, .i32⟩
  | .hbm, ⟨44, _⟩ => ⟨S288, .i1⟩
  | .hbm, ⟨45, _⟩ => ⟨S_, .i32⟩
  | .hbm, ⟨46, _⟩ => ⟨S288, .i32⟩
  | .hbm, ⟨47, _⟩ => ⟨S288, .i32⟩
  | .hbm, ⟨48, _⟩ => ⟨S288, .i32⟩
  | .hbm, ⟨49, _⟩ => ⟨S288x1, .i32⟩
  | .hbm, ⟨50, _⟩ => ⟨S288x1024, .f32⟩
  | .hbm, ⟨51, _⟩ => ⟨S288x1x1024, .f32⟩
  | .hbm, ⟨52, _⟩ => ⟨S288x1024x1024, .f32⟩
  | .hbm, ⟨53, _⟩ => ⟨S288x1024x1024, .f32⟩
  | .hbm, ⟨54, _⟩ => ⟨S_, .i32⟩
  | .hbm, ⟨55, _⟩ => ⟨S288, .i32⟩
  | .hbm, ⟨56, _⟩ => ⟨S288, .i1⟩
  | .hbm, ⟨57, _⟩ => ⟨S_, .i32⟩
  | .hbm, ⟨58, _⟩ => ⟨S288, .i32⟩
  | .hbm, ⟨59, _⟩ => ⟨S288, .i32⟩
  | .hbm, ⟨60, _⟩ => ⟨S288, .i32⟩
  | .hbm, ⟨61, _⟩ => ⟨S288x1, .i32⟩
  | .hbm, ⟨62, _⟩ => ⟨S288x1024x1024, .f32⟩
  | .hbm, ⟨63, _⟩ => ⟨S288x1024x1024, .f32⟩
  | .hbm, ⟨64, _⟩ => ⟨S_, .i32⟩
  | .hbm, ⟨65, _⟩ => ⟨S288, .i32⟩
  | .hbm, ⟨66, _⟩ => ⟨S288, .i1⟩
  | .hbm, ⟨67, _⟩ => ⟨S_, .i32⟩
  | .hbm, ⟨68, _⟩ => ⟨S288, .i32⟩
  | .hbm, ⟨69, _⟩ => ⟨S288, .i32⟩
  | .hbm, ⟨70, _⟩ => ⟨S288, .i32⟩
  | .hbm, ⟨71, _⟩ => ⟨S288x1, .i32⟩
  | .hbm, ⟨72, _⟩ => ⟨S288x1024, .f32⟩
  | .hbm, ⟨73, _⟩ => ⟨S288x1x1024, .f32⟩
  | .hbm, ⟨74, _⟩ => ⟨S288x1024x1024, .f32⟩
  | .hbm, ⟨75, _⟩ => ⟨S288x1024x1024, .f32⟩
  | .hbm, ⟨76, _⟩ => ⟨S_, .f32⟩
  | .hbm, ⟨77, _⟩ => ⟨S288x1024x1024, .f32⟩
  | .hbm, ⟨78, _⟩ => ⟨S288x1024x1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S288x1024x1024, .f32⟩
  | .hbm, ⟨83, _⟩ => ⟨S288x1024x1024, .f32⟩
  | .hbm, ⟨84, _⟩ => ⟨S_, .f32⟩
  | .hbm, ⟨85, _⟩ => ⟨S288x1024x1024, .f32⟩
  | .hbm, ⟨86, _⟩ => ⟨S288x1024x1024, .f32⟩
  | .hbm, ⟨87, _⟩ => ⟨S_, .f32⟩
  | .hbm, ⟨88, _⟩ => ⟨S288x1024x1024, .f32⟩
  | .hbm, ⟨89, _⟩ => ⟨S288x1024x1024, .f32⟩
  | .hbm, ⟨90, _⟩ => ⟨S288x1024x1024, .f32⟩
  | .hbm, ⟨91, _⟩ => ⟨S288x1024x1024, .f32⟩
  | .hbm, ⟨92, _⟩ => ⟨S_, .f32⟩
  | .hbm, ⟨93, _⟩ => ⟨S288x1024x1024, .f32⟩
  | .hbm, ⟨94, _⟩ => ⟨S288x1024x1024, .f32⟩
  | .hbm, ⟨95, _⟩ => ⟨S_, .f32⟩
  | .hbm, ⟨96, _⟩ => ⟨S288x1024x1024, .f32⟩
  | .hbm, ⟨97, _⟩ => ⟨S288x1024x1024, .f32⟩
  | .hbm, ⟨98, _⟩ => ⟨S288x1024x1024, .f32⟩
  | .hbm, ⟨99, _⟩ => ⟨S_, .f32⟩
  | .hbm, ⟨100, _⟩ => ⟨S288x1024x1024, .f32⟩
  | .hbm, ⟨101, _⟩ => ⟨S288x1024x1024, .f32⟩
  | .hbm, ⟨102, _⟩ => ⟨S288x1024x1024, .f32⟩
  | .hbm, ⟨103, _⟩ => ⟨S_, .i32⟩
  | .hbm, ⟨104, _⟩ => ⟨S288, .i32⟩
  | .hbm, ⟨105, _⟩ => ⟨S288, .i1⟩
  | .hbm, ⟨106, _⟩ => ⟨S_, .i32⟩
  | .hbm, ⟨107, _⟩ => ⟨S288, .i32⟩
  | .hbm, ⟨108, _⟩ => ⟨S288, .i32⟩
  | .hbm, ⟨109, _⟩ => ⟨S288, .i32⟩
  | .hbm, ⟨110, _⟩ => ⟨S288x1, .i32⟩
  | .hbm, ⟨111, _⟩ => ⟨S288x1024x1024, .f32⟩
  | .hbm, ⟨112, _⟩ => ⟨S288x1024x1024, .f32⟩
  | .hbm, ⟨113, _⟩ => ⟨S_, .i32⟩
  | .hbm, ⟨114, _⟩ => ⟨S288, .i32⟩
  | .hbm, ⟨115, _⟩ => ⟨S288, .i1⟩
  | .hbm, ⟨116, _⟩ => ⟨S_, .i32⟩
  | .hbm, ⟨117, _⟩ => ⟨S288, .i32⟩
  | .hbm, ⟨118, _⟩ => ⟨S288, .i32⟩
  | .hbm, ⟨119, _⟩ => ⟨S288, .i32⟩
  | .hbm, ⟨120, _⟩ => ⟨S288x1, .i32⟩
  | .hbm, ⟨121, _⟩ => ⟨S288x1024, .f32⟩
  | .hbm, ⟨122, _⟩ => ⟨S288x1x1024, .f32⟩
  | .hbm, ⟨123, _⟩ => ⟨S288x1024x1024, .f32⟩
  | .hbm, ⟨124, _⟩ => ⟨S288x1024x1024, .f32⟩
  | .hbm, ⟨125, _⟩ => ⟨S294912x1024, .f32⟩
  | .hbm, ⟨126, _⟩ => ⟨S294912x1024, .bf16⟩
  | _, _ => ⟨S294912x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_cst_11 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_16 : Ref sig .tc := ⟨.hbm, 103, rfl⟩
abbrev main_v67 : Ref sig .tc := ⟨.hbm, 104, rfl⟩
abbrev main_v68 : Ref sig .tc := ⟨.hbm, 105, rfl⟩
abbrev main_c_17 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_18 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]
-- ==== ExpertsPacked.lean ====
abbrev S294912x512 : Shape := ⟨2, ![294912, 512]⟩
abbrev S288 : Shape := ⟨1, ![288]⟩
abbrev S1 : Shape := ⟨1, ![1]⟩
abbrev S32x1024x1024 : Shape := ⟨3, ![32, 1024, 1024]⟩
abbrev S32x1024 : Shape := ⟨2, ![32, 1024]⟩
abbrev S32x1x1024 : Shape := ⟨3, ![32, 1, 1024]⟩
abbrev S1024x512 : Shape := ⟨2, ![1024, 512]⟩
abbrev S1x1024x1024 : Shape := ⟨3, ![1, 1024, 1024]⟩
abbrev S1x1x1024 : Shape := ⟨3, ![1, 1, 1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 11
  | .vmem => 16
  | .smem => 3
  | _ => 0

abbrev bufTy : (tb : Table) → Fin (tcTables nBuf tb) → BufTy
  | .hbm, ⟨0, _⟩ => ⟨S294912x512, .i32⟩
  | .hbm, ⟨1, _⟩ => ⟨S32x1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S294912x512, .i32⟩
  | .local _ .vmem, ⟨0, _⟩ => ⟨S1024x512, .i32⟩
  | .local _ .vmem, ⟨1, _⟩ => ⟨S1024x512, .i32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x512, .i32⟩
  | .local _ .vmem, ⟨15, _⟩ => ⟨S1024x512, .i32⟩
  | .local _ .smem, ⟨0, _⟩ => ⟨S288, .i32⟩
  | .local _ .smem, ⟨1, _⟩ => ⟨S1, .i32⟩
  | .local _ .smem, ⟨2, _⟩ => ⟨S288, .i32⟩
  | _, _ => ⟨S294912x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![288], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Qkv.lean ====
abbrev S8x8192x1024 : Shape := ⟨3, ![8, 8192, 1024]⟩
abbrev S1024 : Shape := ⟨1, ![1024]⟩
abbrev S1024x3072 : Shape := ⟨2, ![1024, 3072]⟩
abbrev S65536x1024 : Shape := ⟨2, ![65536, 1024]⟩
abbrev S1x1024 : Shape := ⟨2, ![1, 1024]⟩
abbrev S65536x3072 : Shape := ⟨2, ![65536, 3072]⟩
abbrev S16384x6144 : Shape := ⟨2, ![16384, 6144]⟩
abbrev S4096x24576 : Shape := ⟨2, ![4096, 24576]⟩
abbrev S1024x1024 : Shape := ⟨2, ![1024, 1024]⟩
abbrev S256x6144 : Shape := ⟨2, ![256, 6144]⟩
abbrev S64x24576 : Shape := ⟨2, ![64, 24576]⟩
abbrev S12x1024x128 : Shape := ⟨3, ![12, 1024, 128]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 9
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S65536x1024, .f32⟩
  | .hbm, ⟨4, _⟩ => ⟨S1x1024, .f32⟩
  | .hbm, ⟨5, _⟩ => ⟨S1024x3072, .bf16⟩
  | .hbm, ⟨6, _⟩ => ⟨S65536x3072, .bf16⟩
  | .hbm, ⟨7, _⟩ => ⟨S16384x6144, .bf16⟩
  | .hbm, ⟨8, _⟩ => ⟨S4096x24576, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x3072, .bf16⟩
  | .local _ .vmem, ⟨6, _⟩ => ⟨S256x6144, .bf16⟩
  | .local _ .vmem, ⟨7, _⟩ => ⟨S256x6144, .bf16⟩
  | .local _ .vmem, ⟨8, _⟩ => ⟨S64x24576, .bf16⟩
  | .local _ .vmem, ⟨9, _⟩ => ⟨S64x24576, .bf16⟩
  | .local _ .vmem, ⟨10, _⟩ => ⟨S12x1024x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x24576 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvIdeal.lean ====
variable {F : FTy → Type} [FloatOps F] [Named F]
def κ : String → Option EReal := fun
  | "log2e_8" => some (((8 * (Real.log 2))⁻¹ : ℝ) : EReal)
  | _ => none
-- ==== QkvRefIdeal.lean ====
abbrev S8x8192x1024 : Shape := ⟨3, ![8, 8192, 1024]⟩
abbrev S1024 : Shape := ⟨1, ![1024]⟩
abbrev S1024x3072 : Shape := ⟨2, ![1024, 3072]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S65536x3072 : Shape := ⟨2, ![65536, 3072]⟩
abbrev S65536x512 : Shape := ⟨2, ![65536, 512]⟩
abbrev S65536x1024 : Shape := ⟨2, ![65536, 1024]⟩
abbrev S65536x1536 : Shape := ⟨2, ![65536, 1536]⟩
abbrev S16384x6144 : Shape := ⟨2, ![16384, 6144]⟩
abbrev S4096x24576 : Shape := ⟨2, ![4096, 24576]⟩

abbrev nBuf : Space → Nat
  | .hbm => 42
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x3072, .f32⟩
  | .hbm, ⟨20, _⟩ => ⟨S65536x3072, .f32⟩
  | .hbm, ⟨21, _⟩ => ⟨S65536x512, .f32⟩
  | .hbm, ⟨22, _⟩ => ⟨S65536x1024, .f32⟩
  | .hbm, ⟨23, _⟩ => ⟨S65536x512, .f32⟩
  | .hbm, ⟨24, _⟩ => ⟨S65536x1024, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S65536x1536, .f32⟩
  | .hbm, ⟨29, _⟩ => ⟨S_, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S_, .f32⟩
  | .hbm, ⟨34, _⟩ => ⟨S65536x512, .f32⟩
  | .hbm, ⟨35, _⟩ => ⟨S65536x512, .f32⟩
  | .hbm, ⟨36, _⟩ => ⟨S65536x3072, .f32⟩
  | .hbm, ⟨37, _⟩ => ⟨S65536x3072, .bf16⟩
  | .hbm, ⟨38, _⟩ => ⟨S16384x6144, .f32⟩
  | .hbm, ⟨39, _⟩ => ⟨S16384x6144, .bf16⟩
  | .hbm, ⟨40, _⟩ => ⟨S4096x24576, .f32⟩
  | .hbm, ⟨41, _⟩ => ⟨S4096x24576, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Dil.lean ====
abbrev S65536x3072 : Shape := ⟨2, ![65536, 3072]⟩
abbrev S8x128x256 : Shape := ⟨3, ![8, 128, 256]⟩
abbrev S8x8192x3072 : Shape := ⟨3, ![8, 8192, 3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S8x8192x512 : Shape := ⟨3, ![8, 8192, 512]⟩
abbrev S8x8192x128 : Shape := ⟨3, ![8, 8192, 128]⟩
abbrev S1x2048x1536 : Shape := ⟨3, ![1, 2048, 1536]⟩
abbrev S1x128x1536 : Shape := ⟨3, ![1, 128, 1536]⟩
abbrev S1x2048x512 : Shape := ⟨3, ![1, 2048, 512]⟩
abbrev S1x2048x128 : Shape := ⟨3, ![1, 2048, 128]⟩
abbrev S128x128 : Shape := ⟨2, ![128, 128]⟩
abbrev S1x128 : Shape := ⟨2, ![1, 128]⟩
abbrev S1x128x128 : Shape := ⟨3, ![1, 128, 128]⟩
abbrev S256x128 : Shape := ⟨2, ![256, 128]⟩

abbrev nBuf : Space → Nat
  | .hbm => 28
  | .vmem => 9
  | .smem => 0
  | _ => 0

abbrev bufTy : (tb : Table) → Fin (tcTables nBuf tb) → BufTy
  | .hbm, ⟨0, _⟩ => ⟨S65536x3072, .bf16⟩
  | .hbm, ⟨1, _⟩ => ⟨S8x128x256, .f32⟩
  | .hbm, ⟨2, _⟩ => ⟨S8x8192x3072, .bf16⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S1x128x256, .i1⟩
  | .hbm, ⟨21, _⟩ => ⟨S_, .f32⟩
  | .hbm, ⟨22, _⟩ => ⟨S_, .f32⟩
  | .hbm, ⟨23, _⟩ => ⟨S8x128x256, .i1⟩
  | .hbm, ⟨24, _⟩ => ⟨S8x128x256, .f32⟩
  | .hbm, ⟨25, _⟩ => ⟨S8x128x256, .f32⟩
  | .hbm, ⟨26, _⟩ => ⟨S8x8192x512, .f32⟩
  | .hbm, ⟨27, _⟩ => ⟨S8x8192x128, .f32⟩
  | .local _ .vmem, ⟨0, _⟩ => ⟨S1x2048x1536, .bf16⟩
  | .local _ .vmem, ⟨1, _⟩ => ⟨S1x2048x1536, .bf16⟩
  | .local _ .vmem, ⟨2, _⟩ => ⟨S1x128x1536, .bf16⟩
  | .local _ .vmem, ⟨3, _⟩ => ⟨S1x128x1536, .bf16⟩
  | .local _ .vmem, ⟨4, _⟩ => ⟨S8x128x256, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x128, .f32⟩
  | .local _ .vmem, ⟨8, _⟩ => ⟨S1x2048x128, .f32⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli arg1 c2_i32
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DilIdeal.lean ====
variable {F : FTy → Type} [FloatOps F] [Named F]
def κ : String → Option EReal := fun
  | "neg_inf" => some ⊥
  | _ => none
-- ==== DilRefIdeal.lean ====
abbrev S65536x3072 : Shape := ⟨2, ![65536, 3072]⟩
abbrev S8x128x256 : Shape := ⟨3, ![8, 128, 256]⟩
abbrev S65536x512 : Shape := ⟨2, ![65536, 512]⟩
abbrev S8x8192x8x64 : Shape := ⟨4, ![8, 8192, 8, 64]⟩
abbrev S8x8192x1x8x64 : Shape := ⟨5, ![8, 8192, 1, 8, 64]⟩
abbrev S8x1x8192x8x64 : Shape := ⟨5, ![8, 1, 8192, 8, 64]⟩
abbrev S8x1x64x128x8x64 : Shape := ⟨6, ![8, 1, 64, 128, 8, 64]⟩
abbrev S8x1x63x128x8x64 : Shape := ⟨6, ![8, 1, 63, 128, 8, 64]⟩
abbrev S_ : Shape := ⟨0, ![]⟩
abbrev S8x1x64x256x8x64 : Shape := ⟨6, ![8, 1, 64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x1x64x8x128x256 : Shape := ⟨6, ![8, 1, 64, 8, 128, 256]⟩
abbrev S1x1x1x8x128x256 : Shape := ⟨6, ![1, 1, 1, 8, 128, 256]⟩
abbrev S1x1x64x1x128x256 : Shape := ⟨6, ![1, 1, 64, 1, 128, 256]⟩
abbrev S8x1x64x8x128 : Shape := ⟨5, ![8, 1, 64, 8, 128]⟩
abbrev S8x1x64x8x128x1 : Shape := ⟨6, ![8, 1, 64, 8, 128, 1]⟩
abbrev S8x1x64x8x64x128 : Shape := ⟨6, ![8, 1, 64, 8, 64, 128]⟩
abbrev S8x8192x512 : Shape := ⟨3, ![8, 8192, 512]⟩
abbrev S8x1x64x128x8 : Shape := ⟨5, ![8, 1, 64, 128, 8]⟩
abbrev S8x1x8192x8 : Shape := ⟨4, ![8, 1, 8192, 8]⟩
abbrev S8x8192x1x8 : Shape := ⟨4, ![8, 8192, 1, 8]⟩
abbrev S8x8192x8 : Shape := ⟨3, ![8, 8192, 8]⟩
abbrev S8x8192x112 : Shape := ⟨3, ![8, 8192, 112]⟩
abbrev S8x8192x128 : Shape := ⟨3, ![8, 8192, 128]⟩

abbrev nBuf : Space → Nat
  | .hbm => 108
  | .vmem => 0
  | .smem => 0
  | _ => 0

abbrev bufTy : (tb : Table) → Fin (tcTables nBuf tb) → BufTy
  | .hbm, ⟨0, _⟩ => ⟨S65536x3072, .bf16⟩
  | .hbm, ⟨1, _⟩ => ⟨S8x128x256, .f32⟩
  | .hbm, ⟨2, _⟩ => ⟨S65536x512, .bf16⟩
  | .hbm, ⟨3, _⟩ => ⟨S8x8192x8x64, .bf16⟩
  | .hbm, ⟨4, _⟩ => ⟨S65536x512, .bf16⟩
  | .hbm, ⟨5, _⟩ => ⟨S8x8192x8x64, .bf16⟩
  | .hbm, ⟨6, _⟩ => ⟨S65536x512, .bf16⟩
  | .hbm, ⟨7, _⟩ => ⟨S8x8192x8x64, .bf16⟩
  | .hbm, ⟨8, _⟩ => ⟨S8x8192x8x64, .f32⟩
  | .hbm, ⟨9, _⟩ => ⟨S8x8192x1x8x64, .f32⟩
  | .hbm, ⟨10, _⟩ => ⟨S8x1x8192x8x64, .f32⟩
  | .hbm, ⟨11, _⟩ => ⟨S8x1x64x128x8x64, .f32⟩
  | .hbm, ⟨12, _⟩ => ⟨S8x8192x8x64, .f32⟩
  | .hbm, ⟨13, _⟩ => ⟨S8x8192x1x8x64, .f32⟩
  | .hbm, ⟨14, _⟩ => ⟨S8x1x8192x8x64, .f32⟩
  | .hbm, ⟨15, _⟩ => ⟨S8x1x64x128x8x64, .f32⟩
  | .hbm, ⟨16, _⟩ => ⟨S8x1x63x128x8x64, .f32⟩
  | .hbm, ⟨17, _⟩ => ⟨S_, .i32⟩
  | .hbm, ⟨18, _⟩ => ⟨S_, .f32⟩
  | .hbm, ⟨19, _⟩ => ⟨S8x1x64x128x8x64, .f32⟩
  | .hbm, ⟨20, _⟩ => ⟨S8x1x64x256x8x64, .f32⟩
  | .hbm, ⟨21, _⟩ => ⟨S8x8192x8x64, .f32⟩
  | .hbm, ⟨22, _⟩ => ⟨S8x8192x1x8x64, .f32⟩
  | .hbm, ⟨23, _⟩ => ⟨S8x1x8192x8x64, .f32⟩
  | .hbm, ⟨24, _⟩ => ⟨S8x1x64x128x8x64, .f32⟩
  | .hbm, ⟨25, _⟩ => ⟨S8x1x63x128x8x64, .f32⟩
  | .hbm, ⟨26, _⟩ => ⟨S_, .i32⟩
  | .hbm, ⟨27, _⟩ => ⟨S_, .f32⟩
  | .hbm, ⟨28, _⟩ => ⟨S8x1x64x128x8x64, .f32⟩
  | .hbm, ⟨29, _⟩ => ⟨S8x1x64x256x8x64, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S64, .i32⟩
  | .hbm, ⟨48, _⟩ => ⟨S64x1x1, .i32⟩
  | .hbm, ⟨49, _⟩ => ⟨S_, .i32⟩
  | .hbm, ⟨50, _⟩ => ⟨S64x1x1, .i32⟩
  | .hbm, ⟨51, _⟩ => ⟨S64x1x1, .i32⟩
  | .hbm, ⟨52, _⟩ => ⟨S_, .i32⟩
  | .hbm, ⟨53, _⟩ => ⟨S64x1x1, .i32⟩
  | .hbm, ⟨54, _⟩ => ⟨S64x1x1, .i32⟩
  | .hbm, ⟨55, _⟩ => ⟨S1x1x256, .i32⟩
  | .hbm, ⟨56, _⟩ => ⟨S64x1x256, .i32⟩
  | .hbm, ⟨57, _⟩ => ⟨S64x1x256, .i32⟩
  | .hbm, ⟨58, _⟩ => ⟨S64x1x256, .i32⟩
  | .hbm, ⟨59, _⟩ => ⟨S1x128x256, .i1⟩
  | .hbm, ⟨60, _⟩ => ⟨S_, .i32⟩
  | .hbm, ⟨61, _⟩ => ⟨S64x1x256, .i32⟩
  | .hbm, ⟨62, _⟩ => ⟨S64x1x256, .i1⟩
  | .hbm, ⟨63, _⟩ => ⟨S64x128x256, .i1⟩
  | .hbm, ⟨64, _⟩ => ⟨S64x128x256, .i1⟩
  | .hbm, ⟨65, _⟩ => ⟨S64x128x256, .i1⟩
  | .hbm, ⟨66, _⟩ => ⟨S8x1x64x8x128x256, .f32⟩
  | .hbm, ⟨67, _⟩ => ⟨S1x1x1x8x128x256, .f32⟩
  | .hbm, ⟨68, _⟩ => ⟨S8x1x64x8x128x256, .f32⟩
  | .hbm, ⟨69, _⟩ => ⟨S8x1x64x8x128x256, .f32⟩
  | .hbm, ⟨70, _⟩ => ⟨S1x1x64x1x128x256, .i1⟩
  | .hbm, ⟨71, _⟩ => ⟨S_, .f32⟩
  | .hbm, ⟨72, _⟩ => ⟨S_, .f32⟩
  | .hbm, ⟨73, _⟩ => ⟨S8x1x64x8x128x256, .i1⟩
  | .hbm, ⟨74, _⟩ => ⟨S8x1x64x8x128x256, .f32⟩
  | .hbm, ⟨75, _⟩ => ⟨S8x1x64x8x128x256, .f32⟩
  | .hbm, ⟨76, _⟩ => ⟨S_, .f32⟩
  | .hbm, ⟨77, _⟩ => ⟨S8x1x64x8x128, .f32⟩
  | .hbm, ⟨78, _⟩ => ⟨S8x1x64x8x128x1, .f32⟩
  | .hbm, ⟨79, _⟩ => ⟨S8x1x64x8x128x256, .f32⟩
  | .hbm, ⟨80, _⟩ => ⟨S8x1x64x8x128x256, .f32⟩
  | .hbm, ⟨81, _⟩ => ⟨S8x1x64x8x128x256, .f32⟩
  | .hbm, ⟨82, _⟩ => ⟨S_, .f32⟩
  | .hbm, ⟨83, _⟩ => ⟨S_, .f32⟩
  | .hbm, ⟨84, _⟩ => ⟨S8x1x64x8x128x256, .i1⟩
  | .hbm, ⟨85, _⟩ => ⟨S8x1x64x8x128x256, .f32⟩
  | .hbm, ⟨86, _⟩ => ⟨S8x1x64x8x128x256, .f32⟩
  | .hbm, ⟨87, _⟩ => ⟨S_, .f32⟩
  | .hbm, ⟨88, _⟩ => ⟨S8x1x64x8x128, .f32⟩
  | .hbm, ⟨89, _⟩ => ⟨S8x1x64x8x128x1, .f32⟩
  | .hbm, ⟨90, _⟩ => ⟨S8x1x64x8x64x128, .f32⟩
  | .hbm, ⟨91, _⟩ => ⟨S8x1x64x128x8x64, .f32⟩
  | .hbm, ⟨92, _⟩ => ⟨S8x1x8192x8x64, .f32⟩
  | .hbm, ⟨93, _⟩ => ⟨S8x8192x1x8x64, .f32⟩
  | .hbm, ⟨94, _⟩ => ⟨S8x8192x512, .f32⟩
  | .hbm, ⟨95, _⟩ => ⟨S8x1x64x8x128, .f32⟩
  | .hbm, ⟨96, _⟩ => ⟨S8x1x64x128x8, .f32⟩
  | .hbm, ⟨97, _⟩ => ⟨S8x1x8192x8, .f32⟩
  | .hbm, ⟨98, _⟩ => ⟨S8x8192x1x8, .f32⟩
  | .hbm, ⟨99, _⟩ => ⟨S8x8192x8, .f32⟩
  | .hbm, ⟨100, _⟩ => ⟨S8x1x64x8x128, .f32⟩
  | .hbm, ⟨101, _⟩ => ⟨S8x1x64x128x8, .f32⟩
  | .hbm, ⟨102, _⟩ => ⟨S8x1x8192x8, .f32⟩
  | .hbm, ⟨103, _⟩ => ⟨S8x8192x1x8, .f32⟩
  | .hbm, ⟨104, _⟩ => ⟨S8x8192x8, .f32⟩
  | .hbm, ⟨105, _⟩ => ⟨S_, .f32⟩
  | .hbm, ⟨106, _⟩ => ⟨S8x8192x112, .f32⟩
  | .hbm, ⟨107, _⟩ => ⟨S8x8192x128, .f32⟩
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Dil4.lean ====
abbrev S16384x6144 : Shape := ⟨2, ![16384, 6144]⟩
abbrev S8x128x256 : Shape := ⟨3, ![8, 128, 256]⟩
abbrev S8x2048x6144 : Shape := ⟨3, ![8, 2048, 6144]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S8x2048x2048 : Shape := ⟨3, ![8, 2048, 2048]⟩
abbrev S8x2048x512 : Shape := ⟨3, ![8, 2048, 512]⟩
abbrev S1x2048x1536 : Shape := ⟨3, ![1, 2048, 1536]⟩
abbrev S1x128x1536 : Shape := ⟨3, ![1, 128, 1536]⟩
abbrev S1x2048x512 : Shape := ⟨3, ![1, 2048, 512]⟩
abbrev S1x2048x128 : Shape := ⟨3, ![1, 2048, 128]⟩
abbrev S128x128 : Shape := ⟨2, ![128, 128]⟩
abbrev S1x128 : Shape := ⟨2, ![1, 128]⟩
abbrev S1x128x128 : Shape := ⟨3, ![1, 128, 128]⟩
abbrev S256x128 : Shape := ⟨2, ![256, 128]⟩

abbrev nBuf : Space → Nat
  | .hbm => 28
  | .vmem => 9
  | .smem => 0
  | _ => 0

abbrev bufTy : (tb : Table) → Fin (tcTables nBuf tb) → BufTy
  | .hbm, ⟨0, _⟩ => ⟨S16384x6144, .bf16⟩
  | .hbm, ⟨1, _⟩ => ⟨S8x128x256, .f32⟩
  | .hbm, ⟨2, _⟩ => ⟨S8x2048x6144, .bf16⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S1x128x256, .i1⟩
  | .hbm, ⟨21, _⟩ => ⟨S_, .f32⟩
  | .hbm, ⟨22, _⟩ => ⟨S_, .f32⟩
  | .hbm, ⟨23, _⟩ => ⟨S8x128x256, .i1⟩
  | .hbm, ⟨24, _⟩ => ⟨S8x128x256, .f32⟩
  | .hbm, ⟨25, _⟩ => ⟨S8x128x256, .f32⟩
  | .hbm, ⟨26, _⟩ => ⟨S8x2048x2048, .f32⟩
  | .hbm, ⟨27, _⟩ => ⟨S8x2048x512, .f32⟩
  | .local _ .vmem, ⟨0, _⟩ => ⟨S1x2048x1536, .bf16⟩
  | .local _ .vmem, ⟨1, _⟩ => ⟨S1x2048x1536, .bf16⟩
  | .local _ .vmem, ⟨2, _⟩ => ⟨S1x128x1536, .bf16⟩
  | .local _ .vmem, ⟨3, _⟩ => ⟨S1x128x1536, .bf16⟩
  | .local _ .vmem, ⟨4, _⟩ => ⟨S8x128x256, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x128, .f32⟩
  | .local _ .vmem, ⟨8, _⟩ => ⟨S1x2048x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.muli arg1 c1_i32_0
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Dil4Ideal.lean ====
variable {F : FTy → Type} [FloatOps F] [Named F]
def κ : String → Option EReal := fun
  | "neg_inf" => some ⊥
  | _ => none
-- ==== Dil4RefIdeal.lean ====
abbrev S16384x6144 : Shape := ⟨2, ![16384, 6144]⟩
abbrev S8x128x256 : Shape := ⟨3, ![8, 128, 256]⟩
abbrev S65536x1536 : Shape := ⟨2, ![65536, 1536]⟩
abbrev S65536x512 : Shape := ⟨2, ![65536, 512]⟩
abbrev S8x8192x8x64 : Shape := ⟨4, ![8, 8192, 8, 64]⟩
abbrev S8x2048x4x8x64 : Shape := ⟨5, ![8, 2048, 4, 8, 64]⟩
abbrev S8x4x2048x8x64 : Shape := ⟨5, ![8, 4, 2048, 8, 64]⟩
abbrev S8x4x16x128x8x64 : Shape := ⟨6, ![8, 4, 16, 128, 8, 64]⟩
abbrev S8x4x15x128x8x64 : Shape := ⟨6, ![8, 4, 15, 128, 8, 64]⟩
abbrev S_ : Shape := ⟨0, ![]⟩
abbrev S8x4x16x256x8x64 : Shape := ⟨6, ![8, 4, 16, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S8x4x16x8x128x256 : Shape := ⟨6, ![8, 4, 16, 8, 128, 256]⟩
abbrev S1x1x1x8x128x256 : Shape := ⟨6, ![1, 1, 1, 8, 128, 256]⟩
abbrev S1x1x16x1x128x256 : Shape := ⟨6, ![1, 1, 16, 1, 128, 256]⟩
abbrev S8x4x16x8x128 : Shape := ⟨5, ![8, 4, 16, 8, 128]⟩
abbrev S8x4x16x8x128x1 : Shape := ⟨6, ![8, 4, 16, 8, 128, 1]⟩
abbrev S8x4x16x8x64x128 : Shape := ⟨6, ![8, 4, 16, 8, 64, 128]⟩
abbrev S8x8192x512 : Shape := ⟨3, ![8, 8192, 512]⟩
abbrev S8x4x16x128x8 : Shape := ⟨5, ![8, 4, 16, 128, 8]⟩
abbrev S8x4x2048x8 : Shape := ⟨4, ![8, 4, 2048, 8]⟩
abbrev S8x2048x4x8 : Shape := ⟨4, ![8, 2048, 4, 8]⟩
abbrev S8x8192x8 : Shape := ⟨3, ![8, 8192, 8]⟩
abbrev S8x8192x112 : Shape := ⟨3, ![8, 8192, 112]⟩
abbrev S8x8192x128 : Shape := ⟨3, ![8, 8192, 128]⟩
abbrev S8x2048x2048 : Shape := ⟨3, ![8, 2048, 2048]⟩
abbrev S8x2048x512 : Shape := ⟨3, ![8, 2048, 512]⟩

abbrev nBuf : Space → Nat
  | .hbm => 111
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S8x128x256, .f32⟩
  | .hbm, ⟨2, _⟩ => ⟨S65536x1536, .bf16⟩
  | .hbm, ⟨3, _⟩ => ⟨S65536x512, .bf16⟩
  | .hbm, ⟨4, _⟩ => ⟨S8x8192x8x64, .bf16⟩
  | .hbm, ⟨5, _⟩ => ⟨S65536x512, .bf16⟩
  | .hbm, ⟨6, _⟩ => ⟨S8x8192x8x64, .bf16⟩
  | .hbm, ⟨7, _⟩ => ⟨S65536x512, .bf16⟩
  | .hbm, ⟨8, _⟩ => ⟨S8x8192x8x64, .bf16⟩
  | .hbm, ⟨9, _⟩ => ⟨S8x8192x8x64, .f32⟩
  | .hbm, ⟨10, _⟩ => ⟨S8x2048x4x8x64, .f32⟩
  | .hbm, ⟨11, _⟩ => ⟨S8x4x2048x8x64, .f32⟩
  | .hbm, ⟨12, _⟩ => ⟨S8x4x16x128x8x64, .f32⟩
  | .hbm, ⟨13, _⟩ => ⟨S8x8192x8x64, .f32⟩
  | .hbm, ⟨14, _⟩ => ⟨S8x2048x4x8x64, .f32⟩
  | .hbm, ⟨15, _⟩ => ⟨S8x4x2048x8x64, .f32⟩
  | .hbm, ⟨16, _⟩ => ⟨S8x4x16x128x8x64, .f32⟩
  | .hbm, ⟨17, _⟩ => ⟨S8x4x15x128x8x64, .f32⟩
  | .hbm, ⟨18, _⟩ => ⟨S_, .i32⟩
  | .hbm, ⟨19, _⟩ => ⟨S_, .f32⟩
  | .hbm, ⟨20, _⟩ => ⟨S8x4x16x128x8x64, .f32⟩
  | .hbm, ⟨21, _⟩ => ⟨S8x4x16x256x8x64, .f32⟩
  | .hbm, ⟨22, _⟩ => ⟨S8x8192x8x64, .f32⟩
  | .hbm, ⟨23, _⟩ => ⟨S8x2048x4x8x64, .f32⟩
  | .hbm, ⟨24, _⟩ => ⟨S8x4x2048x8x64, .f32⟩
  | .hbm, ⟨25, _⟩ => ⟨S8x4x16x128x8x64, .f32⟩
  | .hbm, ⟨26, _⟩ => ⟨S8x4x15x128x8x64, .f32⟩
  | .hbm, ⟨27, _⟩ => ⟨S_, .i32⟩
  | .hbm, ⟨28, _⟩ => ⟨S_, .f32⟩
  | .hbm, ⟨29, _⟩ => ⟨S8x4x16x128x8x64, .f32⟩
  | .hbm, ⟨30, _⟩ => ⟨S8x4x16x256x8x64, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S16, .i32⟩
  | .hbm, ⟨49, _⟩ => ⟨S16x1x1, .i32⟩
  | .hbm, ⟨50, _⟩ => ⟨S_, .i32⟩
  | .hbm, ⟨51, _⟩ => ⟨S16x1x1, .i32⟩
  | .hbm, ⟨52, _⟩ => ⟨S16x1x1, .i32⟩
  | .hbm, ⟨53, _⟩ => ⟨S_, .i32⟩
  | .hbm, ⟨54, _⟩ => ⟨S16x1x1, .i32⟩
  | .hbm, ⟨55, _⟩ => ⟨S16x1x1, .i32⟩
  | .hbm, ⟨56, _⟩ => ⟨S1x1x256, .i32⟩
  | .hbm, ⟨57, _⟩ => ⟨S16x1x256, .i32⟩
  | .hbm, ⟨58, _⟩ => ⟨S16x1x256, .i32⟩
  | .hbm, ⟨59, _⟩ => ⟨S16x1x256, .i32⟩
  | .hbm, ⟨60, _⟩ => ⟨S1x128x256, .i1⟩
  | .hbm, ⟨61, _⟩ => ⟨S_, .i32⟩
  | .hbm, ⟨62, _⟩ => ⟨S16x1x256, .i32⟩
  | .hbm, ⟨63, _⟩ => ⟨S16x1x256, .i1⟩
  | .hbm, ⟨64, _⟩ => ⟨S16x128x256, .i1⟩
  | .hbm, ⟨65, _⟩ => ⟨S16x128x256, .i1⟩
  | .hbm, ⟨66, _⟩ => ⟨S16x128x256, .i1⟩
  | .hbm, ⟨67, _⟩ => ⟨S8x4x16x8x128x256, .f32⟩
  | .hbm, ⟨68, _⟩ => ⟨S1x1x1x8x128x256, .f32⟩
  | .hbm, ⟨69, _⟩ => ⟨S8x4x16x8x128x256, .f32⟩
  | .hbm, ⟨70, _⟩ => ⟨S8x4x16x8x128x256, .f32⟩
  | .hbm, ⟨71, _⟩ => ⟨S1x1x16x1x128x256, .i1⟩
  | .hbm, ⟨72, _⟩ => ⟨S_, .f32⟩
  | .hbm, ⟨73, _⟩ => ⟨S_, .f32⟩
  | .hbm, ⟨74, _⟩ => ⟨S8x4x16x8x128x256, .i1⟩
  | .hbm, ⟨75, _⟩ => ⟨S8x4x16x8x128x256, .f32⟩
  | .hbm, ⟨76, _⟩ => ⟨S8x4x16x8x128x256, .f32⟩
  | .hbm, ⟨77, _⟩ => ⟨S_, .f32⟩
  | .hbm, ⟨78, _⟩ => ⟨S8x4x16x8x128, .f32⟩
  | .hbm, ⟨79, _⟩ => ⟨S8x4x16x8x128x1, .f32⟩
  | .hbm, ⟨80, _⟩ => ⟨S8x4x16x8x128x256, .f32⟩
  | .hbm, ⟨81, _⟩ => ⟨S8x4x16x8x128x256, .f32⟩
  | .hbm, ⟨82, _⟩ => ⟨S8x4x16x8x128x256, .f32⟩
  | .hbm, ⟨83, _⟩ => ⟨S_, .f32⟩
  | .hbm, ⟨84, _⟩ => ⟨S_, .f32⟩
  | .hbm, ⟨85, _⟩ => ⟨S8x4x16x8x128x256, .i1⟩
  | .hbm, ⟨86, _⟩ => ⟨S8x4x16x8x128x256, .f32⟩
  | .hbm, ⟨87, _⟩ => ⟨S8x4x16x8x128x256, .f32⟩
  | .hbm, ⟨88, _⟩ => ⟨S_, .f32⟩
  | .hbm, ⟨89, _⟩ => ⟨S8x4x16x8x128, .f32⟩
  | .hbm, ⟨90, _⟩ => ⟨S8x4x16x8x128x1, .f32⟩
  | .hbm, ⟨91, _⟩ => ⟨S8x4x16x8x64x128, .f32⟩
  | .hbm, ⟨92, _⟩ => ⟨S8x4x16x128x8x64, .f32⟩
  | .hbm, ⟨93, _⟩ => ⟨S8x4x2048x8x64, .f32⟩
  | .hbm, ⟨94, _⟩ => ⟨S8x2048x4x8x64, .f32⟩
  | .hbm, ⟨95, _⟩ => ⟨S8x8192x512, .f32⟩
  | .hbm, ⟨96, _⟩ => ⟨S8x4x16x8x128, .f32⟩
  | .hbm, ⟨97, _⟩ => ⟨S8x4x16x128x8, .f32⟩
  | .hbm, ⟨98, _⟩ => ⟨S8x4x2048x8, .f32⟩
  | .hbm, ⟨99, _⟩ => ⟨S8x2048x4x8, .f32⟩
  | .hbm, ⟨100, _⟩ => ⟨S8x8192x8, .f32⟩
  | .hbm, ⟨101, _⟩ => ⟨S8x4x16x8x128, .f32⟩
  | .hbm, ⟨102, _⟩ => ⟨S8x4x16x128x8, .f32⟩
  | .hbm, ⟨103, _⟩ => ⟨S8x4x2048x8, .f32⟩
  | .hbm, ⟨104, _⟩ => ⟨S8x2048x4x8, .f32⟩
  | .hbm, ⟨105, _⟩ => ⟨S8x8192x8, .f32⟩
  | .hbm, ⟨106, _⟩ => ⟨S_, .f32⟩
  | .hbm, ⟨107, _⟩ => ⟨S8x8192x112, .f32⟩
  | .hbm, ⟨108, _⟩ => ⟨S8x8192x128, .f32⟩
  | .hbm, ⟨109, _⟩ => ⟨S8x2048x2048, .f32⟩
  | .hbm, ⟨110, _⟩ => ⟨S8x2048x512, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_call1_v0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Dil16.lean ====
abbrev S4096x24576 : Shape := ⟨2, ![4096, 24576]⟩
abbrev S8x128x256 : Shape := ⟨3, ![8, 128, 256]⟩
abbrev S8x512x24576 : Shape := ⟨3, ![8, 512, 24576]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S8x512x8192 : Shape := ⟨3, ![8, 512, 8192]⟩
abbrev S8x512x2048 : Shape := ⟨3, ![8, 512, 2048]⟩
abbrev S1x512x6144 : Shape := ⟨3, ![1, 512, 6144]⟩
abbrev S1x128x6144 : Shape := ⟨3, ![1, 128, 6144]⟩
abbrev S1x512x2048 : Shape := ⟨3, ![1, 512, 2048]⟩
abbrev S1x512x512 : Shape := ⟨3, ![1, 512, 512]⟩
abbrev S128x128 : Shape := ⟨2, ![128, 128]⟩
abbrev S1x128 : Shape := ⟨2, ![1, 128]⟩
abbrev S1x128x128 : Shape := ⟨3, ![1, 128, 128]⟩
abbrev S256x128 : Shape := ⟨2, ![256, 128]⟩

abbrev nBuf : Space → Nat
  | .hbm => 28
  | .vmem => 9
  | .smem => 0
  | _ => 0

abbrev bufTy : (tb : Table) → Fin (tcTables nBuf tb) → BufTy
  | .hbm, ⟨0, _⟩ => ⟨S4096x24576, .bf16⟩
  | .hbm, ⟨1, _⟩ => ⟨S8x128x256, .f32⟩
  | .hbm, ⟨2, _⟩ => ⟨S8x512x24576, .bf16⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S1x128x256, .i1⟩
  | .hbm, ⟨21, _⟩ => ⟨S_, .f32⟩
  | .hbm, ⟨22, _⟩ => ⟨S_, .f32⟩
  | .hbm, ⟨23, _⟩ => ⟨S8x128x256, .i1⟩
  | .hbm, ⟨24, _⟩ => ⟨S8x128x256, .f32⟩
  | .hbm, ⟨25, _⟩ => ⟨S8x128x256, .f32⟩
  | .hbm, ⟨26, _⟩ => ⟨S8x512x8192, .f32⟩
  | .hbm, ⟨27, _⟩ => ⟨S8x512x2048, .f32⟩
  | .local _ .vmem, ⟨0, _⟩ => ⟨S1x512x6144, .bf16⟩
  | .local _ .vmem, ⟨1, _⟩ => ⟨S1x512x6144, .bf16⟩
  | .local _ .vmem, ⟨2, _⟩ => ⟨S1x128x6144, .bf16⟩
  | .local _ .vmem, ⟨3, _⟩ => ⟨S1x128x6144, .bf16⟩
  | .local _ .vmem, ⟨4, _⟩ => ⟨S8x128x256, .f32⟩
  | .local _ .vmem, ⟨5, _⟩ => ⟨S1x512x2048, .f32⟩
  | .local _ .vmem, ⟨6, _⟩ => ⟨S1x512x2048, .f32⟩
  | .local _ .vmem, ⟨7, _⟩ => ⟨S1x512x512, .f32⟩
  | .local _ .vmem, ⟨8, _⟩ => ⟨S1x512x512, .f32⟩
  | _, _ => ⟨S4096x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Dil16Ideal.lean ====
variable {F : FTy → Type} [FloatOps F] [Named F]
def κ : String → Option EReal := fun
  | "neg_inf" => some ⊥
  | _ => none
-- ==== Dil16RefIdeal.lean ====
abbrev S4096x24576 : Shape := ⟨2, ![4096, 24576]⟩
abbrev S8x128x256 : Shape := ⟨3, ![8, 128, 256]⟩
abbrev S65536x1536 : Shape := ⟨2, ![65536, 1536]⟩
abbrev S65536x512 : Shape := ⟨2, ![65536, 512]⟩
abbrev S8x8192x8x64 : Shape := ⟨4, ![8, 8192, 8, 64]⟩
abbrev S8x512x16x8x64 : Shape := ⟨5, ![8, 512, 16, 8, 64]⟩
abbrev S8x16x512x8x64 : Shape := ⟨5, ![8, 16, 512, 8, 64]⟩
abbrev S8x16x4x128x8x64 : Shape := ⟨6, ![8, 16, 4, 128, 8, 64]⟩
abbrev S8x16x3x128x8x64 : Shape := ⟨6, ![8, 16, 3, 128, 8, 64]⟩
abbrev S_ : Shape := ⟨0, ![]⟩
abbrev S8x16x4x256x8x64 : Shape := ⟨6, ![8, 16, 4, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S8x16x4x8x128x256 : Shape := ⟨6, ![8, 16, 4, 8, 128, 256]⟩
abbrev S1x1x1x8x128x256 : Shape := ⟨6, ![1, 1, 1, 8, 128, 256]⟩
abbrev S1x1x4x1x128x256 : Shape := ⟨6, ![1, 1, 4, 1, 128, 256]⟩
abbrev S8x16x4x8x128 : Shape := ⟨5, ![8, 16, 4, 8, 128]⟩
abbrev S8x16x4x8x128x1 : Shape := ⟨6, ![8, 16, 4, 8, 128, 1]⟩
abbrev S8x16x4x8x64x128 : Shape := ⟨6, ![8, 16, 4, 8, 64, 128]⟩
abbrev S8x8192x512 : Shape := ⟨3, ![8, 8192, 512]⟩
abbrev S8x16x4x128x8 : Shape := ⟨5, ![8, 16, 4, 128, 8]⟩
abbrev S8x16x512x8 : Shape := ⟨4, ![8, 16, 512, 8]⟩
abbrev S8x512x16x8 : Shape := ⟨4, ![8, 512, 16, 8]⟩
abbrev S8x8192x8 : Shape := ⟨3, ![8, 8192, 8]⟩
abbrev S8x8192x112 : Shape := ⟨3, ![8, 8192, 112]⟩
abbrev S8x8192x128 : Shape := ⟨3, ![8, 8192, 128]⟩
abbrev S8x512x8192 : Shape := ⟨3, ![8, 512, 8192]⟩
abbrev S8x512x2048 : Shape := ⟨3, ![8, 512, 2048]⟩

abbrev nBuf : Space → Nat
  | .hbm => 111
  | .vmem => 0
  | .smem => 0
  | _ => 0

abbrev bufTy : (tb : Table) → Fin (tcTables nBuf tb) → BufTy
  | .hbm, ⟨0, _⟩ => ⟨S4096x24576, .bf16⟩
  | .hbm, ⟨1, _⟩ => ⟨S8x128x256, .f32⟩
  | .hbm, ⟨2, _⟩ => ⟨S65536x1536, .bf16⟩
  | .hbm, ⟨3, _⟩ => ⟨S65536x512, .bf16⟩
  | .hbm, ⟨4, _⟩ => ⟨S8x8192x8x64, .bf16⟩
  | .hbm, ⟨5, _⟩ => ⟨S65536x512, .bf16⟩
  | .hbm, ⟨6, _⟩ => ⟨S8x8192x8x64, .bf16⟩
  | .hbm, ⟨7, _⟩ => ⟨S65536x512, .bf16⟩
  | .hbm, ⟨8, _⟩ => ⟨S8x8192x8x64, .bf16⟩
  | .hbm, ⟨9, _⟩ => ⟨S8x8192x8x64, .f32⟩
  | .hbm, ⟨10, _⟩ => ⟨S8x512x16x8x64, .f32⟩
  | .hbm, ⟨11, _⟩ => ⟨S8x16x512x8x64, .f32⟩
  | .hbm, ⟨12, _⟩ => ⟨S8x16x4x128x8x64, .f32⟩
  | .hbm, ⟨13, _⟩ => ⟨S8x8192x8x64, .f32⟩
  | .hbm, ⟨14, _⟩ => ⟨S8x512x16x8x64, .f32⟩
  | .hbm, ⟨15, _⟩ => ⟨S8x16x512x8x64, .f32⟩
  | .hbm, ⟨16, _⟩ => ⟨S8x16x4x128x8x64, .f32⟩
  | .hbm, ⟨17, _⟩ => ⟨S8x16x3x128x8x64, .f32⟩
  | .hbm, ⟨18, _⟩ => ⟨S_, .i32⟩
  | .hbm, ⟨19, _⟩ => ⟨S_, .f32⟩
  | .hbm, ⟨20, _⟩ => ⟨S8x16x4x128x8x64, .f32⟩
  | .hbm, ⟨21, _⟩ => ⟨S8x16x4x256x8x64, .f32⟩
  | .hbm, ⟨22, _⟩ => ⟨S8x8192x8x64, .f32⟩
  | .hbm, ⟨23, _⟩ => ⟨S8x512x16x8x64, .f32⟩
  | .hbm, ⟨24, _⟩ => ⟨S8x16x512x8x64, .f32⟩
  | .hbm, ⟨25, _⟩ => ⟨S8x16x4x128x8x64, .f32⟩
  | .hbm, ⟨26, _⟩ => ⟨S8x16x3x128x8x64, .f32⟩
  | .hbm, ⟨27, _⟩ => ⟨S_, .i32⟩
  | .hbm, ⟨28, _⟩ => ⟨S_, .f32⟩
  | .hbm, ⟨29, _⟩ => ⟨S8x16x4x128x8x64, .f32⟩
  | .hbm, ⟨30, _⟩ => ⟨S8x16x4x256x8x64, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S4, .i32⟩
  | .hbm, ⟨49, _⟩ => ⟨S4x1x1, .i32⟩
  | .hbm, ⟨50, _⟩ => ⟨S_, .i32⟩
  | .hbm, ⟨51, _⟩ => ⟨S4x1x1, .i32⟩
  | .hbm, ⟨52, _⟩ => ⟨S4x1x1, .i32⟩
  | .hbm, ⟨53, _⟩ => ⟨S_, .i32⟩
  | .hbm, ⟨54, _⟩ => ⟨S4x1x1, .i32⟩
  | .hbm, ⟨55, _⟩ => ⟨S4x1x1, .i32⟩
  | .hbm, ⟨56, _⟩ => ⟨S1x1x256, .i32⟩
  | .hbm, ⟨57, _⟩ => ⟨S4x1x256, .i32⟩
  | .hbm, ⟨58, _⟩ => ⟨S4x1x256, .i32⟩
  | .hbm, ⟨59, _⟩ => ⟨S4x1x256, .i32⟩
  | .hbm, ⟨60, _⟩ => ⟨S1x128x256, .i1⟩
  | .hbm, ⟨61, _⟩ => ⟨S_, .i32⟩
  | .hbm, ⟨62, _⟩ => ⟨S4x1x256, .i32⟩
  | .hbm, ⟨63, _⟩ => ⟨S4x1x256, .i1⟩
  | .hbm, ⟨64, _⟩ => ⟨S4x128x256, .i1⟩
  | .hbm, ⟨65, _⟩ => ⟨S4x128x256, .i1⟩
  | .hbm, ⟨66, _⟩ => ⟨S4x128x256, .i1⟩
  | .hbm, ⟨67, _⟩ => ⟨S8x16x4x8x128x256, .f32⟩
  | .hbm, ⟨68, _⟩ => ⟨S1x1x1x8x128x256, .f32⟩
  | .hbm, ⟨69, _⟩ => ⟨S8x16x4x8x128x256, .f32⟩
  | .hbm, ⟨70, _⟩ => ⟨S8x16x4x8x128x256, .f32⟩
  | .hbm, ⟨71, _⟩ => ⟨S1x1x4x1x128x256, .i1⟩
  | .hbm, ⟨72, _⟩ => ⟨S_, .f32⟩
  | .hbm, ⟨73, _⟩ => ⟨S_, .f32⟩
  | .hbm, ⟨74, _⟩ => ⟨S8x16x4x8x128x256, .i1⟩
  | .hbm, ⟨75, _⟩ => ⟨S8x16x4x8x128x256, .f32⟩
  | .hbm, ⟨76, _⟩ => ⟨S8x16x4x8x128x256, .f32⟩
  | .hbm, ⟨77, _⟩ => ⟨S_, .f32⟩
  | .hbm, ⟨78, _⟩ => ⟨S8x16x4x8x128, .f32⟩
  | .hbm, ⟨79, _⟩ => ⟨S8x16x4x8x128x1, .f32⟩
  | .hbm, ⟨80, _⟩ => ⟨S8x16x4x8x128x256, .f32⟩
  | .hbm, ⟨81, _⟩ => ⟨S8x16x4x8x128x256, .f32⟩
  | .hbm, ⟨82, _⟩ => ⟨S8x16x4x8x128x256, .f32⟩
  | .hbm, ⟨83, _⟩ => ⟨S_, .f32⟩
  | .hbm, ⟨84, _⟩ => ⟨S_, .f32⟩
  | .hbm, ⟨85, _⟩ => ⟨S8x16x4x8x128x256, .i1⟩
  | .hbm, ⟨86, _⟩ => ⟨S8x16x4x8x128x256, .f32⟩
  | .hbm, ⟨87, _⟩ => ⟨S8x16x4x8x128x256, .f32⟩
  | .hbm, ⟨88, _⟩ => ⟨S_, .f32⟩
  | .hbm, ⟨89, _⟩ => ⟨S8x16x4x8x128, .f32⟩
  | .hbm, ⟨90, _⟩ => ⟨S8x16x4x8x128x1, .f32⟩
  | .hbm, ⟨91, _⟩ => ⟨S8x16x4x8x64x128, .f32⟩
  | .hbm, ⟨92, _⟩ => ⟨S8x16x4x128x8x64, .f32⟩
  | .hbm, ⟨93, _⟩ => ⟨S8x16x512x8x64, .f32⟩
  | .hbm, ⟨94, _⟩ => ⟨S8x512x16x8x64, .f32⟩
  | .hbm, ⟨95, _⟩ => ⟨S8x8192x512, .f32⟩
  | .hbm, ⟨96, _⟩ => ⟨S8x16x4x8x128, .f32⟩
  | .hbm, ⟨97, _⟩ => ⟨S8x16x4x128x8, .f32⟩
  | .hbm, ⟨98, _⟩ => ⟨S8x16x512x8, .f32⟩
  | .hbm, ⟨99, _⟩ => ⟨S8x512x16x8, .f32⟩
  | .hbm, ⟨100, _⟩ => ⟨S8x8192x8, .f32⟩
  | .hbm, ⟨101, _⟩ => ⟨S8x16x4x8x128, .f32⟩
  | .hbm, ⟨102, _⟩ => ⟨S8x16x4x128x8, .f32⟩
  | .hbm, ⟨103, _⟩ => ⟨S8x16x512x8, .f32⟩
  | .hbm, ⟨104, _⟩ => ⟨S8x512x16x8, .f32⟩
  | .hbm, ⟨105, _⟩ => ⟨S8x8192x8, .f32⟩
  | .hbm, ⟨106, _⟩ => ⟨S_, .f32⟩
  | .hbm, ⟨107, _⟩ => ⟨S8x8192x112, .f32⟩
  | .hbm, ⟨108, _⟩ => ⟨S8x8192x128, .f32⟩
  | .hbm, ⟨109, _⟩ => ⟨S8x512x8192, .f32⟩
  | .hbm, ⟨110, _⟩ => ⟨S8x512x2048, .f32⟩
  | _, _ => ⟨S4096x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_call1_v0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Proof.Words.lean ====
/- The bf16 halves of a 32-bit word, as extended reals: a bf16 pattern denotes the number its f32 pattern does, the f32 pattern
   being the bf16 one above sixteen zero bits. -/
module

public import Idealize.ShloMosaic.PureOps.Ideal

@[expose] public section

noncomputable section

namespace Cert.Words

open Idealize.ShloMosaic

/-- Two patterns, of 16 bits and of 32, where the second is the first above sixteen zero bits, denote the same extended real. -/
theorem ieee_widen (h : BitVec 16) (w : BitVec 32) (hw : w.toNat = h.toNat * 65536) : Ideal.ieee 8 23 w = Ideal.ieee 8 7 h := by
  have hh : h.toNat < 65536 := h.isLt
  have hs : (w.extractLsb' (8 + 23) 1 == 1#1) = (h.extractLsb' (8 + 7) 1 == 1#1) := by
    congr 1
    apply BitVec.eq_of_toNat_eq
    simp only [BitVec.extractLsb'_toNat, hw, Nat.shiftRight_eq_div_pow]
    omega
  have he : (w.extractLsb' 23 8).toNat = (h.extractLsb' 7 8).toNat := by
    simp only [BitVec.extractLsb'_toNat, hw, Nat.shiftRight_eq_div_pow]
    omega
  have hf : (w.extractLsb' 0 23).toNat = (h.extractLsb' 0 7).toNat * 65536 := by
    simp only [BitVec.extractLsb'_toNat, hw, Nat.shiftRight_eq_div_pow]
    omega
  have hz : ((h.extractLsb' 0 7).toNat * 65536 = 0) ↔ ((h.extractLsb' 0 7).toNat = 0) := by omega
  have h16 : (2 : ℝ) ^ (16 : ℤ) = 65536 := by norm_num
  unfold Ideal.ieee
  simp only [hs, he, hf, hz]
  split_ifs
  · rfl
  · rfl
  · rfl
  all_goals
    congr 1
    push_cast
    first
      | rw [show (-133 : ℤ) = -149 + 16 by norm_num, zpow_add₀ (by norm_num), h16]
        ring
      | rw [show ∀ e : ℤ, e - 127 - 7 = (e - 127 - 23) + 16 from fun e => by ring, zpow_add₀ (by norm_num), h16]
        ring

/-- The low half of a word, read as bf16, is the word shifted up by sixteen bits, read as f32. -/
theorem low (w : BitVec 32) : Ideal.ofBits .f32 (w <<< 16) = Ideal.ofBits .bf16 (w.extractLsb' 0 16) := by
  refine ieee_widen _ _ ?_
  have := w.isLt
  simp only [BitVec.extractLsb'_toNat, BitVec.toNat_shiftLeft, Nat.shiftRight_eq_div_pow, Nat.shiftLeft_eq]
  omega

/-- The high half of a word, read as bf16, is the word with its low half cleared, read as f32. -/
theorem high (w : BitVec 32) : Ideal.ofBits .f32 (w &&& 4294901760#32) = Ideal.ofBits .bf16 (w.extractLsb' 16 16) := by
  refine ieee_widen _ _ ?_
  have e : w &&& 4294901760#32 = (w >>> 16) <<< 16 := by
    apply BitVec.eq_of_getLsbD_eq
    intro i hi
    simp only [BitVec.getLsbD_and, BitVec.getLsbD_shiftLeft, BitVec.getLsbD_ushiftRight]
    interval_cases i <;> simp
  have := w.isLt
  rw [e]
  simp only [BitVec.extractLsb'_toNat, BitVec.toNat_shiftLeft, BitVec.toNat_ushiftRight, Nat.shiftRight_eq_div_pow, Nat.shiftLeft_eq]
  omega

end Cert.Words

end
-- ==== Proof.Combine.lean ====
/- `combine` at the extended reals: the array the kernel leaves, in closed form, and the reference's result equal to it.
   Token `t`'s row is `mix`: the residual plus its four experts' outputs, each weighted by its gate; the result is that row
   normalised by its root mean square and scaled. -/
module

public import proofs.«01_k».proof.Defs
public import proofs.«01_k».proof.Proof.Gen.KernelIdeal.Frame
public import proofs.«01_k».proof.Proof.Gen.ReferenceIdeal.Run
public import proofs.«01_k».proof.Proof.Words
public import Idealize.ShloMosaic.Lib.Pointwise
public import Idealize.ShloMosaic.Lib.Pipeline.ValueKit

@[expose] public section

noncomputable section

namespace Cert.Combine

open Idealize.ShloMosaic Idealize.ShloMosaic.TcCoe Idealize.SL.Sem
open Idealize.ShloMosaic.Pipeline (Dat)

/-- The packed expert outputs, one row of words for every expert number and token; the gates; the residual stream; the scales of
    the last normalisation. -/
abbrev Yt := Cert.KernelIdeal.S4x65536x512.Idx → BitVec 32
abbrev Gates := Cert.KernelIdeal.S8x65536.Idx → EReal
abbrev Resid := Cert.KernelIdeal.S65536x1024.Idx → EReal
abbrev Scales := Cert.KernelIdeal.S1024.Idx → EReal

/-- The bf16 at column `n` of a row of 512 words: the low half of word `n`, or the high half of word `n - 512`. -/
def half (w : Fin 512 → BitVec 32) (n : Fin 1024) : EReal :=
  if h : n.val < 512 then Ideal.ofBits .bf16 ((w ⟨n.val, h⟩).extractLsb' 0 16)
  else Ideal.ofBits .bf16 ((w ⟨n.val - 512, by omega⟩).extractLsb' 16 16)

/-- The gated output of token `t`'s expert `k` at column `n`. -/
def part (yt : Yt) (g : Gates) (k : Fin 4) (t : Fin 65536) (n : Fin 1024) : EReal :=
  half (fun c => yt (ix3 k t c)) n * g (ix2 (⟨k.val, by omega⟩ : Fin 8) t)

/-- The residual row plus the gated outputs of the four experts. -/
def mix (yt : Yt) (g : Gates) (x : Resid) (t : Fin 65536) (n : Fin 1024) : EReal :=
  x (ix2 t n) + ∑ k : Fin 4, part yt g k t n

/-- A row, divided by the root of its mean square plus the epsilon, times the scales. -/
def norm (v : Fin 1024 → EReal) (s : EReal) (n : Fin 1024) : EReal :=
  v n * Ideal.rsqrt (Ideal.div (∑ l : Fin 1024, v l * v l) (Ideal.ofBits .f32 0x44800000#32) + Ideal.ofBits .f32 0x358637BD#32) * s

/-- The result. -/
def res (yt : Yt) (g : Gates) (x : Resid) (s : Scales) : Resid := fun j => norm (mix yt g x (j 0)) (s (ix1 (j 1))) (j 1)

/-! ## The kernel -/

section Kernel
open Cert.KernelIdeal Cert.KernelIdeal.Gen

/-- The sum the kernel makes in a block, at row `r` and column `n`. -/
theorem pay2_apply (P1 : Vec Ideal S8x512 .f32) (P0 : Vec Ideal S512x1024 .f32) (P2 P3 P4 P5 : Vec Ideal S1x512x512 .i32)
    (r : Fin 512) (n : Fin 1024) :
    k0_pay2 (F := Ideal) P1 P0 P2 P3 P4 P5 (ix2 r n)
      = P0 (ix2 r n) + P1 (ix2 0 r) * half (fun c => P2 (ix3 0 r c)) n + P1 (ix2 1 r) * half (fun c => P3 (ix3 0 r c)) n
        + P1 (ix2 2 r) * half (fun c => P4 (ix3 0 r c)) n + P1 (ix2 3 r) * half (fun c => P5 (ix3 0 r c)) n := by
  pointwise [k0_pay2]
  rfl

/-- What the body stores, at row `r` and column `n`: the sum's row normalised. -/
theorem pay1_apply (v : FVec Ideal S512x1024 .f32) (P6 : Vec Ideal S1x1024 .f32) (q : FVec Ideal S512x1 .f32)
    (hq : ∀ r, q (ix2 r 0) = ∑ l : Fin 1024, v (ix2 r l) * v (ix2 r l)) (r : Fin 512) (n : Fin 1024) :
    k0_pay1 (F := Ideal) v q P6 (ix2 r n) = norm (fun l => v (ix2 r l)) (P6 (ix2 0 n)) n := by
  pointwise [k0_pay1, hq]
  rfl

theorem pay3_apply (P1 : Vec Ideal S8x512 .f32) (P0 : Vec Ideal S512x1024 .f32) (P2 P3 P4 P5 : Vec Ideal S1x512x512 .i32) (r : Fin 512) :
    k0_pay3 (F := Ideal) P1 P0 P2 P3 P4 P5 (ix2 r 0)
      = ∑ l : Fin 1024, k0_pay2 (F := Ideal) P1 P0 P2 P3 P4 P5 (ix2 r l) * k0_pay2 (F := Ideal) P1 P0 P2 P3 P4 P5 (ix2 r l) := by
  pointwise [k0_pay3]

variable (m : (ℓ : Loc nD τ sig) → Buf (Elt Ideal) ℓ) (ρ : Dev nD → PrngReg)

/-- The host's two reshapes, as the region finds them. -/
theorem V_v0 (c : Dev nD) : V m c main_v0 = shapeCast S4x65536x512 (m ((c : Thread nD τ).loc main_arg0)) shapeCasts_S262144x512_S4x65536x512 := by
  dsimp only [V, hostOps0]
  after_results_simp <;> rfl

theorem V_v1 (c : Dev nD) : V m c main_v1 = shapeCast S1x1024 (m ((c : Thread nD τ).loc main_arg3)) shapeCasts_S1024_S1x1024 := by
  dsimp only [V, hostOps0]
  after_results_simp <;> rfl

theorem index4 : ∀ t : Fin cfg0.N, win0_4.index t = ![(grid0.coords t 0).val, 0] := (by decide +kernel : ∀ t : Fin grid0.N, _)
theorem index0 : ∀ t : Fin cfg0.N, win0_0.index t = ![0, (grid0.coords t 0).val, 0] := (by decide +kernel : ∀ t : Fin grid0.N, _)
theorem index1 : ∀ t : Fin cfg0.N, win0_1.index t = ![0, (grid0.coords t 0).val] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![0, 0] := (by decide +kernel : ∀ t : Fin grid0.N, _)

/-- The array the kernel leaves. -/
theorem final (c : Dev nD) : (dats m 0 c).arrAt 4 cfg0.N
    = res (V m c main_v0) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, n, rfl⟩ : ∃ (r : Fin 512) (n : Fin 1024), y = (ix2 r n : S512x1024.Idx) := ⟨y 0, y 1, eq_ix2 y⟩
  have ht : (grid0.coords t 0).val < 128 := (grid0.coords t 0).isLt
  obtain ⟨T, hT⟩ : ∃ T : Fin 65536, T.val = (grid0.coords t 0).val * 512 + r.val := ⟨⟨(grid0.coords t 0).val * 512 + r.val, by omega⟩, rfl⟩
  have e4 : (((View.whole main_v2).slice (win0_4.rect t)).emb (ix2 r n : S512x1024.Idx)) = (ix2 T n : S65536x1024.Idx) := by
    blk_ext [index4]
  have e3 : iblk m c 3 t (ix2 0 n : S1x1024.Idx) = m ((c : Thread nD τ).loc main_arg3) (ix1 n) := by
    have h : iblk m c 3 t (ix2 0 n : S1x1024.Idx) = V m c main_v1 (ix2 0 n : S1x1024.Idx) := by
      blk_simp [iblk]
      exact congrArg (V m c main_v1) (by blk_ext [index3])
    rw [h, V_v1]
    pointwise
  have e1 : ∀ k : Fin 8, iblk m c 1 t (ix2 k r : S8x512.Idx) = m ((c : Thread nD τ).loc main_arg1) (ix2 k T) := fun k => by
    rw [← V_main_arg1 m c]
    blk_simp [iblk]
    exact congrArg (V m c main_arg1) (by blk_ext [index1])
  have e2 : ∀ l : Fin 1024, iblk m c 2 t (ix2 r l : S512x1024.Idx) = m ((c : Thread nD τ).loc main_arg2) (ix2 T l) := fun l => by
    rw [← V_main_arg2 m c]
    blk_simp [iblk]
    exact congrArg (V m c main_arg2) (by blk_ext [index2])
  have e0 : ∀ (k : Fin 4) (l : Fin 512), iblk m c 0 t (ix3 k r l : S4x512x512.Idx) = V m c main_v0 (ix3 k T l) := fun k l => by
    blk_simp [iblk]
    exact congrArg (V m c main_v0) (by blk_ext [index0])
  rw [pay1_apply _ _ _ (fun r => pay3_apply _ _ _ _ _ _ r), e4, e3]
  have w0 : ∀ l : Fin 512, View.ld (iblk m c 0 t) r0_2 (ix3 0 r l) = V m c main_v0 (ix3 0 T l) := fun l => by
    rw [← e0]; refine congrArg (iblk m c 0 t) ?_; funext a; exact match a with
      | ⟨0, _⟩ => rfl
      | ⟨1, _⟩ => Fin.ext (show 0 + 1 * r.val = r.val by omega)
      | ⟨2, _⟩ => Fin.ext (show 0 + 1 * l.val = l.val by omega)
  have w1 : ∀ l : Fin 512, View.ld (iblk m c 0 t) r0_3 (ix3 0 r l) = V m c main_v0 (ix3 1 T l) := fun l => by
    rw [← e0]; refine congrArg (iblk m c 0 t) ?_; funext a; exact match a with
      | ⟨0, _⟩ => rfl
      | ⟨1, _⟩ => Fin.ext (show 0 + 1 * r.val = r.val by omega)
      | ⟨2, _⟩ => Fin.ext (show 0 + 1 * l.val = l.val by omega)
  have w2 : ∀ l : Fin 512, View.ld (iblk m c 0 t) r0_4 (ix3 0 r l) = V m c main_v0 (ix3 2 T l) := fun l => by
    rw [← e0]; refine congrArg (iblk m c 0 t) ?_; funext a; exact match a with
      | ⟨0, _⟩ => rfl
      | ⟨1, _⟩ => Fin.ext (show 0 + 1 * r.val = r.val by omega)
      | ⟨2, _⟩ => Fin.ext (show 0 + 1 * l.val = l.val by omega)
  have w3 : ∀ l : Fin 512, View.ld (iblk m c 0 t) r0_5 (ix3 0 r l) = V m c main_v0 (ix3 3 T l) := fun l => by
    rw [← e0]; refine congrArg (iblk m c 0 t) ?_; funext a; exact match a with
      | ⟨0, _⟩ => rfl
      | ⟨1, _⟩ => Fin.ext (show 0 + 1 * r.val = r.val by omega)
      | ⟨2, _⟩ => Fin.ext (show 0 + 1 * l.val = l.val by omega)
  have e : ∀ l, k0_pay2 (F := Ideal) (iblk m c 1 t) (iblk m c 2 t) (View.ld (iblk m c 0 t) r0_2) (View.ld (iblk m c 0 t) r0_3)
      (View.ld (iblk m c 0 t) r0_4) (View.ld (iblk m c 0 t) r0_5) (ix2 r l)
      = mix (V m c main_v0) (m ((c : Thread nD τ).loc main_arg1)) (m ((c : Thread nD τ).loc main_arg2)) T l := fun l => by
    rw [pay2_apply, e1, e1, e1, e1, e2]
    simp only [w0, w1, w2, w3, mix, Fin.sum_univ_four, part, add_assoc]
    simp only [mul_comm (half _ _)]
    rfl
  exact congrArg (fun v => norm v (m ((c : Thread nD τ).loc main_arg3) (ix1 n)) n) (funext e)

/-- Every run of the kernel ends with its result array at `res` of the arguments, and the arguments as they were. -/
theorem run : θ_run defs (onTc (τ := τ) (main (F := Ideal))) ⟨m, fun _ => 0, ρ⟩ fun r => ∀ c : Dev nD,
      r.2.mem ((c.tc : Thread nD τ).loc main_v2) = res (shapeCast S4x65536x512 (m ((c.tc : Thread nD τ).loc main_arg0)) shapeCasts_S262144x512_S4x65536x512)
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans ((final m c).trans (by rw [V_v0])),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩) (run_main m ρ)

end Kernel

section Reference
open Cert.ReferenceIdeal Cert.ReferenceIdeal.Gen

/-- The reference's sum over the experts. -/
def sumR (yt : Yt) (g : Gates) : FVec Ideal S65536x1024 .f32 :=
   (Host.reduceAdd (mulf (concatenate S4x65536x1024 2 [⟨S4x65536x512, (bitcastToFloat (F := Ideal) .f32 (Host.shli yt (broadcastInDim S4x65536x512 ![] bcast_S_S4x65536x512 (constantI S_ 32 16#32))))⟩, ⟨S4x65536x512, (bitcastToFloat (F := Ideal) .f32 (andi yt (broadcastInDim S4x65536x512 ![] bcast_S_S4x65536x512 (constantI S_ 32 4294901760#32))))⟩] concatenates_S4x65536x512_S4x65536x512_S4x65536x1024_d2) (broadcastInDim S4x65536x1024 ![0, 1, 2] bcast_S4x65536x1_S4x65536x1024_0_1_2 (broadcastInDim S4x65536x1 ![0, 1] bcast_S4x65536_S4x65536x1_0_1 (extractStridedSlice S4x65536 ![0, 0] g slices_S8x65536_S4x65536_0_0)))) (constant S_ .f32 0x00000000#32) reducesTo_S4x65536x1024_S65536x1024_d0 h_S_)

theorem shl16 (w : BitVec 32) : IntOp.shli .host w 16#32 = w <<< 16 := by
  rfl

theorem sumR_apply (yt : Yt) (g : Gates) (t : Fin 65536) (n : Fin 1024) : sumR yt g (ix2 t n) = ∑ k : Fin 4, part yt g k t n := by
  pointwise [sumR]
  refine Finset.sum_congr rfl fun k _ => ?_
  simp only [part, half, shl16, IntOp.andi, Words.low, Words.high]

/-- The reference's last normalisation, over the row it is given. -/
def normR (v : FVec Ideal S65536x1024 .f32) (s : Scales) : FVec Ideal S65536x1024 .f32 :=
  mulf (mulf v (broadcastInDim S65536x1024 ![0, 1] bcast_S65536x1_S65536x1024_0_1 (Host.rsqrt (addf (Host.divf (broadcastInDim S65536x1 ![0] bcast_S65536_S65536x1_0 (Host.reduceAdd (mulf v v) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 s))

theorem normR_apply (v : FVec Ideal S65536x1024 .f32) (s : Scales) (t : Fin 65536) (n : Fin 1024) :
    normR v s (ix2 t n) = norm (fun l => v (ix2 t l)) (s (ix1 n)) n := by
  pointwise [normR]
  rfl

/-- The reference's result is `res`. -/
theorem ref_eq (yt : Yt) (g : Gates) (x : Resid) (s : Scales) : normR (addf (F := Ideal) x (sumR yt g)) s = res yt g x s := by
  funext j
  obtain ⟨t, n, rfl⟩ : ∃ (t : Fin 65536) (n : Fin 1024), j = ix2 t n := ⟨j 0, j 1, eq_ix2 j⟩
  rw [normR_apply]
  have e : ∀ l, addf (F := Ideal) (φ := .f32) x (sumR yt g) (ix2 t l) = mix yt g x t l := fun l => by
    rw [addf_apply, sumR_apply]; rfl
  simp only [e]
  rfl

end Reference

/-- Both programs leave the same array. -/
theorem algebraic : Cert.algebraic_KernelIdeal_ReferenceIdeal := fun m g m' g' _ hagree =>
  ⟨fun c => res (shapeCast Cert.KernelIdeal.S4x65536x512 (m ((c.tc : Thread Cert.KernelIdeal.nD Cert.KernelIdeal.τ).loc Cert.KernelIdeal.main_arg0)) Cert.KernelIdeal.Gen.facts.shapeCasts_S262144x512_S4x65536x512)
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    run m g,
    (θ_run _ _ _).mono (fun r h c => ⟨(h c).1.trans (by
      rw [(hagree c).1, (hagree c).2.1, (hagree c).2.2.1, (hagree c).2.2.2]
      exact ref_eq _ _ _ _), (h c).2⟩) (Cert.ReferenceIdeal.Value.run (F := Ideal) m' g')⟩

end Cert.Combine

end
-- ==== Proof.ExpertsTables.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.Claim

/-! # The experts' three tables

The call reads the expert of every block (`main_arg1`), the number of blocks in use (`main_arg2`) and the number of
filled rows of every block (`main_arg3`) before it starts. Under the stated ranges of the first two every block the
call visits lies inside its array. -/

@[expose] public section

set_option maxRecDepth 16384

noncomputable section

namespace Cert.ExpertsIdeal.Hand

open Cert.ExpertsIdeal Cert.ExpertsIdeal.Gen Cert.ExpertsIdeal.Facts
open Idealize.ShloMosaic Idealize.ShloMosaic.TcCoe Idealize.ShloMosaic.Tactic
open Idealize.SL Idealize.SL.Sem
open Idealize.ShloMosaic.WordCmp (toInt_eq_toNat_of_lt_half toInt_ofNat_of_lt cmpi_slt_of_lt toNat_ofNat_of_lt)

variable {F : FTy → Type} [FloatOps F]

/-- Block `j`'s expert. -/
def expertOf (pf : pre0.Contents (Elt F)) (j : S288.Idx) : BitVec 32 := pf 0 j
/-- The number of blocks in use, as a word. -/
def usedWord (pf : pre0.Contents (Elt F)) : BitVec 32 := pf 1 (ix1 (n0 := 1) 0 : S1.Idx)

/-- Every block names one of the 32 experts; between one and all of the 288 blocks are in use. -/
structure InRange (pf : pre0.Contents (Elt F)) : Prop where
  expert : ∀ j, (expertOf pf j).toNat < 32
  pos : 1 ≤ (usedWord pf).toNat
  le : (usedWord pf).toNat ≤ 288

theorem coord_lt (i : grid0.Coords) : (i 0).val < 288 := (i 0).isLt

/-- The one element of a one-element table, however its index is written. -/
theorem at_used (pf : pre0.Contents (Elt F)) (r : Rect (pre0.ref 1).ty.shape) (h : r.shape.numel = 1) :
    pf.at 1 r h = usedWord pf := by
  show pf 1 _ = pf 1 _
  congr 1
  funext a
  exact match a with | ⟨0, _⟩ => Subsingleton.elim (α := Fin 1) _ _

theorem atD_used (pf : pre0.Contents (Elt F)) : (pf.atD 1 ![0] : BitVec 32) = usedWord pf := by
  unfold Pipeline.Prefetch.Contents.atD
  split
  · show pf 1 _ = pf 1 _
    congr 1
    funext a
    exact match a with | ⟨0, _⟩ => Subsingleton.elim (α := Fin 1) _ _
  · next h => exact absurd (fun a => by fin_cases a; show 0 + 1 ≤ 1; omega) h

/-- The block row a point stages: the point, or the last block in use if that comes first. -/
def rowOf (pf : pre0.Contents (Elt F)) (i : grid0.Coords) : ℕ := min (i 0).val ((usedWord pf).toNat - 1)

theorem minsi_eq (n : ℕ) (hn : n < 288) (v : BitVec 32) (h1 : 1 ≤ v.toNat) (h2 : v.toNat ≤ 288) :
    (Scalar.minsi (BitVec.ofNat 32 n) (Scalar.subi v 1#32)).toNat = min n (v.toNat - 1) := by
  have hs : (v - 1#32).toNat = v.toNat - 1 := BitVec.toNat_sub_of_le (by rw [BitVec.le_def]; exact h1)
  have hv : (v - 1#32).toInt = ((v.toNat - 1 : ℕ) : ℤ) := by
    rw [toInt_eq_toNat_of_lt_half (by show _ < 2147483648; omega), hs]
  have hi : (BitVec.ofNat 32 n).toInt = (n : ℤ) := toInt_ofNat_of_lt (by show _ < 2147483648; omega)
  have hn' : (BitVec.ofNat 32 n).toNat = n := toNat_ofNat_of_lt (by omega)
  show (if (BitVec.ofNat 32 n).slt (v - 1#32) then BitVec.ofNat 32 n else v - 1#32).toNat = _
  by_cases h : n < v.toNat - 1
  · rw [if_pos (by rw [BitVec.slt_iff_toInt_lt, hv, hi]; omega), hn']; omega
  · rw [if_neg (by rw [BitVec.slt_iff_toInt_lt, hv, hi]; omega), hs]; omega

/-- The guard of a point: it is one of the blocks in use. -/
theorem cond_iff (i : grid0.Coords) (v : BitVec 32) (h2 : v.toNat ≤ 288) :
    k0_cond1 i v = 1#1 ↔ (i 0).val < v.toNat := by
  have hi := coord_lt i
  unfold k0_cond1
  show IntOp.cmpi .ne ((IntOp.cmpi .slt (BitVec.ofNat 32 (i 0).val) v).setWidth 32) 0#32 = 1#1 ↔ _
  rw [cmpi_slt_of_lt (by rw [toNat_ofNat_of_lt (by omega)]; show _ < 2147483648; omega) (by show _ < 2147483648; omega), toNat_ofNat_of_lt (by omega)]
  by_cases h : (i 0).val < v.toNat
  · simp [h]; decide
  · simp [h]; decide

theorem index0 (pf : pre0.Contents (Elt F)) (h : InRange pf) (i : grid0.Coords) :
    cc0_transform_0 inb_S1_S1_0 numel1_S1 pf i = ![rowOf pf i, 0] := by
  show ![(Scalar.minsi (BitVec.ofNat 32 (i 0).val) (Scalar.subi (pf.at 1 (Rect.unit (s := S1) ![0] S1.size inb_S1_S1_0) numel1_S1) 1#32)).toNat, 0] = _
  erw [at_used pf (Rect.unit (s := S1) ![0] S1.size inb_S1_S1_0) numel1_S1, minsi_eq _ (coord_lt i) _ h.pos h.le]
  rfl

theorem index7 (pf : pre0.Contents (Elt F)) (h : InRange pf) (i : grid0.Coords) :
    cc0_transform_7 inb_S1_S1_0 numel1_S1 pf i = ![rowOf pf i, 0] := index0 pf h i

theorem index1 (pf : pre0.Contents (Elt F)) (i : grid0.Coords) :
    cc0_transform_1 k0_off1_inb numel1_S1 pf i = ![(expertOf pf (ix1 (n0 := 288) (i 0))).toNat, 0, 0] := by
  have e : pf.at 0 (Rect.unit (s := S288) ![(Scalar.indexCast (BitVec.ofNat 32 (i 0).val)).toNat] S1.size (k0_off1_inb i)) numel1_S1
      = expertOf pf (ix1 (n0 := 288) (i 0)) := by
    show pf 0 _ = pf 0 _
    congr 1
    funext a
    fin_cases a
    apply Fin.ext
    show (BitVec.ofNat 32 (i 0).val).toNat + 1 * 0 = (i 0).val
    have := coord_lt i
    rw [toNat_ofNat_of_lt (by omega)]; omega
  exact congrArg (fun v : BitVec 32 => ![v.toNat, 0, 0]) e

theorem rowOf_lt (pf : pre0.Contents (Elt F)) (i : grid0.Coords) : rowOf pf i < 288 :=
  Nat.lt_of_le_of_lt (Nat.min_le_left _ _) (coord_lt i)

theorem ok_of_range (pf : pre0.Contents (Elt F)) (h : InRange pf) : ok0 (F := F) pf := by
  have hr := rowOf_lt pf
  have he : ∀ i : grid0.Coords, (expertOf pf (ix1 (n0 := 288) (i 0))).toNat < 32 := fun i => h.expert _
  have w3 : ∀ (i : grid0.Coords) (a : Fin 3), (![(expertOf pf (ix1 (n0 := 288) (i 0))).toNat, 0, 0] a + 1) * S1x1024x1024.size a ≤ S32x1024x1024.size a := by
    intro i a
    have := he i
    fin_cases a
    · show ((expertOf pf (ix1 (n0 := 288) (i 0))).toNat + 1) * 1 ≤ 32; omega
    · show (0 + 1) * 1024 ≤ 1024; omega
    · show (0 + 1) * 1024 ≤ 1024; omega
  have b3 : ∀ (i : grid0.Coords) (a : Fin 3), (![(expertOf pf (ix1 (n0 := 288) (i 0))).toNat, 0, 0] a + 1) * S1x1x1024.size a ≤ S32x1x1024.size a := by
    intro i a
    have := he i
    fin_cases a
    · show ((expertOf pf (ix1 (n0 := 288) (i 0))).toNat + 1) * 1 ≤ 32; omega
    · show (0 + 1) * 1 ≤ 1; omega
    · show (0 + 1) * 1024 ≤ 1024; omega
  have hw := index1 pf
  refine ⟨fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩, fun i => ⟨?_, Or.inl rfl⟩, fun i => ⟨?_, Or.inr (Or.inl (Or.inr ⟨by decide, rfl, Or.inl ⟨?_, ?_⟩⟩))⟩⟩
  · rw [index0 pf h i]; intro a; have := hr i
    fin_cases a
    · show (rowOf pf i + 1) * 1024 ≤ 294912; omega
    · show (0 + 1) * 512 ≤ 512; omega
  · intro a; rw [show cc0_transform_1 k0_off1_inb numel1_S1 pf i = _ from hw i]; exact w3 i a
  · intro a; rw [show cc0_transform_2 k0_off1_inb numel1_S1 pf i = _ from hw i]; exact b3 i a
  · intro a; rw [show cc0_transform_3 k0_off1_inb numel1_S1 pf i = _ from hw i]; exact w3 i a
  · intro a; rw [show cc0_transform_4 k0_off1_inb numel1_S1 pf i = _ from hw i]; exact b3 i a
  · intro a; rw [show cc0_transform_5 k0_off1_inb numel1_S1 pf i = _ from hw i]; exact w3 i a
  · intro a; rw [show cc0_transform_6 k0_off1_inb numel1_S1 pf i = _ from hw i]; exact b3 i a
  · rw [index7 pf h i]; intro a; have := hr i
    fin_cases a
    · show (rowOf pf i + 1) * 1024 ≤ 294912; omega
    · show (0 + 1) * 1024 ≤ 1024; omega
  · show 2 ∣ cc0_transform_7 inb_S1_S1_0 numel1_S1 pf i 0 * 1024; exact Dvd.dvd.mul_left (by decide) _
  · show 2 ∣ 1024; decide

end Cert.ExpertsIdeal.Hand

end
-- ==== Proof.ExpertsBody.lean ====
module

public import proofs.«01_k».proof.Proof.ExpertsTables

/-! # One block of the experts' call: the kernel body on its staging buffers -/

@[expose] public section

set_option maxRecDepth 16384

noncomputable section

namespace Cert.ExpertsIdeal.Hand

open Cert.ExpertsIdeal Cert.ExpertsIdeal.Gen Cert.ExpertsIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a table held in scalar memory, and the half share of it the body reads under. -/
abbrev TableBuf (c : Dev nD) {S : Shape} {e : EltTy} (M : Memref sig .tc .smem S e) : Type := Buf (Elt F) (M.view.loc (c : Thread nD τ))
abbrev tableAt (c : Dev nD) {S : Shape} {e : EltTy} (M : Memref sig .tc .smem S e) (f : TableBuf (F := F) c M) : sProp 𝕄 :=
  M.view.loc (c : Thread nD τ) ↦{fullShare.right} f

abbrev tabE : Memref sig .tc .smem S288 .i32 := Memref.whole main_arg1
abbrev tabU : Memref sig .tc .smem S1 .i32 := Memref.whole main_arg2
abbrev tabV : Memref sig .tc .smem S288 .i32 := Memref.whole main_arg3

/-- The buffers whole. -/
abbrev rectX : Rect S1024x512 := Rect.unit (s := S1024x512) ![0, 0] S1024x512.size inb_S1024x512_S1024x512_0_0
abbrev rectW : Rect S1x1024x1024 := Rect.unit (s := S1x1024x1024) ![0, 0, 0] S1x1024x1024.size inb_S1x1024x1024_S1x1024x1024_0_0_0
abbrev rectB : Rect S1x1x1024 := Rect.unit (s := S1x1x1024) ![0, 0, 0] S1x1x1024.size inb_S1x1x1024_S1x1x1024_0_0_0
abbrev rectY : Rect S1024x1024 := Rect.unit (s := S1024x1024) ![0, 0] S1024x1024.size inb_S1024x1024_S1024x1024_0_0

/-- What the body stores: of `n` filled rows of words, and the weights and shifts of one expert. -/
def outBlock (n : Elt F .i32) (x0 : Vec F S1024x512 .i32) (x1 : Vec F S1x1024x1024 .f32) (x2 : Vec F S1x1x1024 .f32)
    (x3 : Vec F S1x1024x1024 .f32) (x4 : Vec F S1x1x1024 .f32) (x5 : Vec F S1x1024x1024 .f32) (x6 : Vec F S1x1x1024 .f32) :
    Vec F S1024x1024 .bf16 :=
  View.canon [⟨rectY, k0_pay1 (k0_pay3 n (View.ld x0 rectX) (View.ld x1 rectW) (View.ld x2 rectB))
    (k0_pay4 n (View.ld x0 rectX) (View.ld x3 rectW) (View.ld x4 rectB))
    (k0_pay5 n (View.ld x0 rectX) (View.ld x1 rectW) (View.ld x2 rectB)) (Scalar.ofBits .f32 0x3F59DB23#32)
    (View.ld x5 rectW) (View.ld x6 rectB)⟩]

theorem outBlock_cover (p : Vec F S1024x1024 .bf16) (y : S1024x1024.Idx) :
    ∃ pc ∈ ([⟨rectY, p⟩] : List (View.Piece (Elt F) S1024x1024 .bf16)), y ∈ pc.1.set :=
  View.cover_of_tiled [⟨rectY, p⟩] S1024x1024.size (by rfl) y

/-- The number of filled rows of the point's block, as the body reads it. -/
def rowsWord (c : Dev nD) (i : grid0.Coords) (f : TableBuf (F := F) c tabV) : Elt F .i32 := (f : S288.Idx → Elt F .i32) (ix1 (n0 := 288) (i 0))
/-- The number of blocks in use, as the body reads it. -/
def blocksWord (c : Dev nD) (f : TableBuf (F := F) c tabU) : Elt F .i32 := (f : S1.Idx → Elt F .i32) (ix1 (n0 := 1) 0)

theorem used_read (c : Dev nD) (f : TableBuf (F := F) c tabU) :
    View.readAt (Elt F) tabU.view (Rect.unit (s := S1) ![0] S1.size inb_S1_S1_0).toLoadRect f (Shape.Idx.first (numel1_S1.symm ▸ Nat.one_pos)) = blocksWord c f := by
  show (f : S1.Idx → Elt F .i32) _ = (f : S1.Idx → Elt F .i32) _
  congr 1
  funext a
  exact match a with | ⟨0, _⟩ => Subsingleton.elim (α := Fin 1) _ _

theorem rows_read (c : Dev nD) (i : grid0.Coords) (f : TableBuf (F := F) c tabV) :
    View.readAt (Elt F) tabV.view (Rect.unit (s := S288) (k0_off2 i) S1.size (k0_off2_inb i)).toLoadRect f (Shape.Idx.first (numel1_S1.symm ▸ Nat.one_pos)) = rowsWord c i f := by
  show (f : S288.Idx → Elt F .i32) _ = (f : S288.Idx → Elt F .i32) _
  congr 1
  funext a
  fin_cases a
  apply Fin.ext
  show (BitVec.ofNat 32 (i 0).val).toNat + 1 * 0 = (i 0).val
  have := coord_lt i
  rw [WordCmp.toNat_ofNat_of_lt (by omega)]; omega

set_option maxHeartbeats 2000000 in
/-- The body leaves the inputs and the tables; of a block in use it stores `outBlock`, of another it leaves the output's buffer too. -/
theorem body_run (c : Dev nD) (E : Set ℕ) (i : grid0.Coords) (arg4 : Memref sig .tc .vmem S1024x512 .i32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S1024x1024 .bf16) (harg11 : arg11.IsWhole)
    (x0 : Vec F S1024x512 .i32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (fe : TableBuf (F := F) c tabE) (fu : TableBuf (F := F) c tabU) (fv : TableBuf (F := F) c tabV)
    (d : Vec F S1024x1024 .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare d ∗ tableAt c tabE fe ∗ tableAt c tabU fu ∗ tableAt c tabV fv
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (if k0_cond1 i (blocksWord c fu) = 1#1 then outBlock (rowsWord c i fv) x0 x1 x2 x3 x4 x5 x6 else d) ∗ tableAt c tabE fe ∗ tableAt c tabU fu ∗ tableAt c tabV fv) -∗ K ⟨⟩))
      ⊢ wp frame (wpE (defs₀ (F := F)) Variants.none c none) E (cc0_experts i tabE (Memref.isWhole_whole _) tabU (Memref.isWhole_whole _) tabV (Memref.isWhole_whole _) arg4 harg4 arg5 harg5 arg6 harg6 arg7 harg7 arg8 harg8 arg9 harg9 arg10 harg10 arg11 harg11) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, HT2, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have eu : body_run.sl.r c fu = blocksWord c fu := used_read c fu
    rw [eu]
    by_cases hc : k0_cond1 i (blocksWord c fu) = 1#1
    · rw [dif_pos hc, if_pos hc, View.read_writes_eq_canon _ _ _ (outBlock_cover _)]
      have ev : body_run.sl.r_1 c i fv = rowsWord c i fv := rows_read c i fv
      unfold outBlock
      rw [← ev]
      rfl
    · rw [dif_neg hc, if_neg hc]
  isplitl [HT0]; · iexact HT0
  isplitl [HT1]; · iexact HT1
  iexact HT2

end Cert.ExpertsIdeal.Hand

end
-- ==== Proof.ExpertsRun.lean ====
module

public import proofs.«01_k».proof.Proof.ExpertsBody

/-! # The experts' call, run over its 288 blocks

What every staging buffer holds around each block, the body's obligation, and the run's conclusion: the arrays the call
reads end as they began, and the output is what the blocks in use leave in it. -/

@[expose] public section

set_option maxRecDepth 16384

noncomputable section

namespace Cert.ExpertsIdeal.Hand

open Cert.ExpertsIdeal Cert.ExpertsIdeal.Gen Cert.ExpertsIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the call starts: the three shifts have been given their middle axis. -/
abbrev V (c : Dev nD) (b : Ref sig .tc) : Buf (Elt F) ((c : Thread nD τ).loc b) := StableHlo.after hostOps0 (fun b => m (c, b)) b

theorem prefix_fresh : (hostOps0 : List (HloOp τ sig (Elt F))).Forall fun op => op.fresh = ∅ := by
  simp only [List.Forall]; repeat' constructor

set_option maxHeartbeats 800000 in
theorem to_call (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub prefix_fresh main_chain

/-- A buffer none of the three reshapes writes is as it was. -/
theorem V_of_ne (c : Dev nD) (b : Ref sig .tc) (h : b ≠ main_v0 ∧ b ≠ main_v1 ∧ b ≠ main_v2) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h.1, StableHlo.devRef_ne_of_ne h.2.1, StableHlo.devRef_ne_of_ne h.2.2⟩))

/-- The tables' contents when the call starts. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

variable (hR : InRange (tbl m))

abbrev adm : (pcfg0 (F := F)).Adm := ⟨tbl m, ok_of_range _ hR⟩
abbrev cfgM : Pipeline.Cfg sig Λ₀ := cfg0 (adm m hR)

theorem tables_eq (c : Dev nD) : (Pipeline.ΦT pre0 (tbl m) c : sProp 𝕄) = iprop(tableAt c tabE (tbl m 0) ∗ tableAt c tabU (tbl m 1) ∗ tableAt c tabV (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array. -/
def iblk (c : Dev nD) (w : Fin (cfgM m hR).W) (t : Fin (cfgM m hR).N) : (((cfgM m hR).win w).xblock ((cfgM m hR).grid.coords t)).Idx → Elt F ((cfgM m hR).win w).elt :=
  (((cfgM m hR).win w).blk t).view.read (Elt F) (V m c (Pipeline.arrRef spec0 w))

/-! ## The points and the blocks in use -/

theorem coords_val : ∀ t : Fin grid0.N, (grid0.coords t 0).val = t.val := by decide +kernel

/-- The number of blocks in use. -/
abbrev used : ℕ := (usedWord (tbl m)).toNat

/-- The last point that stored the output's buffer, at or before `t`. -/
def lastUsed (t : Fin grid0.N) : Fin grid0.N := ⟨min t.val (used m - 1), Nat.lt_of_le_of_lt (Nat.min_le_left _ _) t.isLt⟩

theorem lastUsed_of_lt (t : Fin grid0.N) (h : t.val < used m) : lastUsed m t = t := Fin.ext (by show min _ _ = _; omega)

theorem index7_row (t : Fin (cfgM m hR).N) : ((cfgM m hR).win 7).index t = ![(lastUsed m t).val, 0] := by
  refine (index7 (tbl m) hR (grid0.coords t)).trans ?_
  unfold rowOf
  rw [coords_val]
  rfl

theorem idle_word (i : grid0.Coords) (v w : BitVec 32) (e : v = w) (h : w.toNat ≤ 288) : (!(k0_cond1 i v == 1#1)) = true ↔ w.toNat ≤ (i 0).val := by
  subst e
  rw [Bool.not_eq_true', beq_eq_false_iff_ne, Ne, cond_iff _ _ h]
  exact Nat.not_lt

set_option maxHeartbeats 4000000 in
theorem idle7_iff (t : Fin (cfgM m hR).N) : (cfgM m hR).idle 7 ((cfgM m hR).grid.coords t) = true ↔ used m ≤ t.val := by
  have h := idle_word (grid0.coords t) ((tbl m).atD 1 ![0]) (usedWord (tbl m)) (atD_used (tbl m)) hR.le
  rw [coords_val t] at h
  exact h

/-- A point whose successor is past the blocks in use keeps the output's buffer. -/
theorem flush7_of_le (t : Fin (cfgM m hR).N) (h : used m ≤ t.val + 1) (hN : t.val + 1 < grid0.N) : ((cfgM m hR).win 7).flush t = false := by
  have hN' : ¬ (t.val + 1 = grid0.N) := by omega
  unfold Window.flush
  rw [Bool.and_eq_false_iff]
  right
  rw [Bool.or_eq_false_iff, decide_eq_false_iff_not, decide_eq_false_iff_not]
  refine ⟨hN', ?_⟩
  rintro ⟨_, hne⟩
  apply hne
  rw [index7_row, index7_row]
  have e : (lastUsed m ⟨t.val + 1, hN⟩).val = (lastUsed m t).val := by
    show min (t.val + 1) (used m - 1) = min t.val (used m - 1)
    omega
  exact congrArg (fun k : ℕ => ![k, 0]) e

/-- The proof data: inputs at their blocks; the output at what the last block in use stored. -/
def dats (_ : Fin 1) (c : Dev nD) : Dat τ (Elt F) Unit ℕ (UR sig nD τ) ℕ (cfgM m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => iblk m hR c 3 t
    | ⟨4, _⟩ => iblk m hR c 4 t
    | ⟨5, _⟩ => iblk m hR c 5 t
    | ⟨6, _⟩ => iblk m hR c 6 t
    | ⟨7, _⟩ => outBlock (rowsWord c (grid0.coords (lastUsed m t)) (tbl m 2)) (iblk m hR c 0 (lastUsed m t)) (iblk m hR c 1 (lastUsed m t)) (iblk m hR c 2 (lastUsed m t))
        (iblk m hR c 3 (lastUsed m t)) (iblk m hR c 4 (lastUsed m t)) (iblk m hR c 5 (lastUsed m t)) (iblk m hR c 6 (lastUsed m t))
  Φ _ := iprop(Pipeline.ΦA spec0 c ∗ Pipeline.ΦT pre0 (tbl m) c)
  q _ := fullShare
  owed _ := 0

theorem dats_A (c : Dev nD) (w : Fin (cfgM m hR).W) : (dats m hR 0 c).A w = V m c (Pipeline.arrRef spec0 w) := by
  dsimp only [dats]

theorem after_0 (c : Dev nD) (t : Fin (cfgM m hR).N) : (dats m hR 0 c).after 0 t = iblk m hR c 0 t := by dsimp only [dats]; try rfl
theorem after_1 (c : Dev nD) (t : Fin (cfgM m hR).N) : (dats m hR 0 c).after 1 t = iblk m hR c 1 t := by dsimp only [dats]; try rfl
theorem after_2 (c : Dev nD) (t : Fin (cfgM m hR).N) : (dats m hR 0 c).after 2 t = iblk m hR c 2 t := by dsimp only [dats]; try rfl
theorem after_3 (c : Dev nD) (t : Fin (cfgM m hR).N) : (dats m hR 0 c).after 3 t = iblk m hR c 3 t := by dsimp only [dats]; try rfl
theorem after_4 (c : Dev nD) (t : Fin (cfgM m hR).N) : (dats m hR 0 c).after 4 t = iblk m hR c 4 t := by dsimp only [dats]; try rfl
theorem after_5 (c : Dev nD) (t : Fin (cfgM m hR).N) : (dats m hR 0 c).after 5 t = iblk m hR c 5 t := by dsimp only [dats]; try rfl
theorem after_6 (c : Dev nD) (t : Fin (cfgM m hR).N) : (dats m hR 0 c).after 6 t = iblk m hR c 6 t := by dsimp only [dats]; try rfl

/-- What point `t` leaves in the output's buffer. -/
def leftBlock (c : Dev nD) (t : Fin (cfgM m hR).N) : Vec F S1024x1024 .bf16 :=
  outBlock (rowsWord c (grid0.coords t) (tbl m 2)) (iblk m hR c 0 t) (iblk m hR c 1 t) (iblk m hR c 2 t)
        (iblk m hR c 3 t) (iblk m hR c 4 t) (iblk m hR c 5 t) (iblk m hR c 6 t)
theorem after_7 (c : Dev nD) (t : Fin (cfgM m hR).N) : (dats m hR 0 c).after 7 t = leftBlock m hR c (lastUsed m t) := by dsimp only [dats]; try rfl

theorem before_0 (c : Dev nD) (t : Fin (cfgM m hR).N) (d) : (dats m hR 0 c).before 0 t d = iblk m hR c 0 t :=
  ((dats m hR 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin (cfgM m hR).N) (d) : (dats m hR 0 c).before 1 t d = iblk m hR c 1 t :=
  ((dats m hR 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin (cfgM m hR).N) (d) : (dats m hR 0 c).before 2 t d = iblk m hR c 2 t :=
  ((dats m hR 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
theorem before_3 (c : Dev nD) (t : Fin (cfgM m hR).N) (d) : (dats m hR 0 c).before 3 t d = iblk m hR c 3 t :=
  ((dats m hR 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)
theorem before_4 (c : Dev nD) (t : Fin (cfgM m hR).N) (d) : (dats m hR 0 c).before 4 t d = iblk m hR c 4 t :=
  ((dats m hR 0 c).before_in_eq_fetched 4 rfl (fun _ => rfl) (fun _ _ _ => rfl) (fun t => by rw [after_4]; unfold Dat.blockOf iblk; rw [dats_A]; try rfl) t d).trans
    (by unfold Dat.fetched Dat.blockOf iblk; rw [dats_A]; try rfl)
theorem before_5 (c : Dev nD) (t : Fin (cfgM m hR).N) (d) : (dats m hR 0 c).before 5 t d = iblk m hR c 5 t :=
  ((dats m hR 0 c).before_in_eq_fetched 5 rfl (fun _ => rfl) (fun _ _ _ => rfl) (fun t => by rw [after_5]; unfold Dat.blockOf iblk; rw [dats_A]; try rfl) t d).trans
    (by unfold Dat.fetched Dat.blockOf iblk; rw [dats_A]; try rfl)
theorem before_6 (c : Dev nD) (t : Fin (cfgM m hR).N) (d) : (dats m hR 0 c).before 6 t d = iblk m hR c 6 t :=
  ((dats m hR 0 c).before_in_eq_fetched 6 rfl (fun _ => rfl) (fun _ _ _ => rfl) (fun t => by rw [after_6]; unfold Dat.blockOf iblk; rw [dats_A]; try rfl) t d).trans
    (by unfold Dat.fetched Dat.blockOf iblk; rw [dats_A]; try rfl)

/-! ## The output's buffer at points past the blocks in use -/

theorem fresh7 (t : Fin (cfgM m hR).N) (h : used m ≤ t.val) : (cfgM m hR).fresh 7 t.val = false := by
  have hpos := hR.pos
  obtain ⟨n, hn⟩ : ∃ n, t.val = n + 1 := ⟨t.val - 1, by have : 1 ≤ used m := hpos; omega⟩
  have hN : n < grid0.N := by have : t.val < grid0.N := t.isLt; omega
  have key : ∀ (k : ℕ) (hk : k + 1 < grid0.N), used m ≤ k + 1 → (cfgM m hR).fresh 7 (k + 1) = false := by
    intro k
    induction k with
    | zero =>
      intro hk hu
      rw [Pipeline.Cfg.fresh_succ _ _ _ (show 0 < grid0.N by omega), flush7_of_le m hR ⟨0, _⟩ hu hk, Bool.false_or, Bool.and_eq_false_iff]
      left
      rw [Bool.eq_false_iff]
      intro hc
      have := (idle7_iff m hR ⟨0, _⟩).mp hc
      have : 1 ≤ used m := hpos
      simp only at *
      omega
    | succ k ih =>
      intro hk hu
      rw [Pipeline.Cfg.fresh_succ _ _ _ (show k + 1 < grid0.N by omega), flush7_of_le m hR ⟨k + 1, _⟩ hu hk, Bool.false_or, Bool.and_eq_false_iff]
      by_cases hk' : used m ≤ k + 1
      · right; exact ih (by omega) hk'
      · left
        rw [Bool.eq_false_iff]
        intro hc
        exact hk' ((idle7_iff m hR ⟨k + 1, _⟩).mp hc)
  rw [hn]
  exact key n (by have : t.val < grid0.N := t.isLt; omega) (by omega)

theorem before_7 (c : Dev nD) (t : Fin (cfgM m hR).N) (h : used m ≤ t.val) (d) :
    (dats m hR 0 c).before 7 t d = (dats m hR 0 c).after 7 t := by
  have hpos : 1 ≤ used m := hR.pos
  have step : ∀ t : Fin (cfgM m hR).N, used m ≤ t.val →
      (dats m hR 0 c).after 7 t = (dats m hR 0 c).after 7 ⟨t.val - 1, by omega⟩ := by
    intro t h
    rw [after_7, after_7]
    congr 1
    apply Fin.ext
    show min t.val (used m - 1) = min (t.val - 1) (used m - 1)
    omega
  rw [Pipeline.Dat.before_out_traj (dats m hR 0 c) 7 rfl (fun _ _ => rfl) (fun t ht hi _ => step t ((idle7_iff m hR t).mp hi)) t.val t rfl d,
    fresh7 m hR t h, if_neg Bool.false_ne_true]
  exact (step t h).symm

theorem cond_used (c : Dev nD) (t : Fin (cfgM m hR).N) : k0_cond1 (grid0.coords t) (blocksWord c (tbl m 1)) = 1#1 ↔ t.val < used m :=
  (cond_iff (grid0.coords t) (usedWord (tbl m)) hR.le).trans (by rw [coords_val])

/-- The output's staging buffer at a point. -/
abbrev stageY (t : Fin (cfgM m hR).N) : Memref sig .tc .vmem S1024x1024 .bf16 := spec0_7.stage ((cfgM m hR).slots t 7)

/-- What the body leaves there is what the pipeline expects to find. -/
theorem leaves_7 (c : Dev nD) (t : Fin (cfgM m hR).N) (d) (Y : Vec F S1024x1024 .bf16) (hY : (dats m hR 0 c).before 7 t d = Y)
    (P : Prop) [Decidable P] (hP : P ↔ t.val < used m) :
    (owns (c : Thread nD τ) (stageY m hR t) fullShare (if P then leftBlock m hR c t else Y) : sProp 𝕄)
      ⊢ (dats m hR 0 c).leavesExact 7 t := by
  by_cases h : used m ≤ t.val
  · have hi := (idle7_iff m hR t).mpr h
    rw [if_neg (fun hc => absurd (hP.mp hc) (by omega))]
    cases hf : ((cfgM m hR).win 7).flush t
    · rw [Pipeline.Dat.leavesExact_idle _ _ _ hi hf, ← hY]
      iintro H
      iexists d
      iexact H
    · rw [← hY, before_7 m hR c t h d]
      unfold Pipeline.Dat.leavesExact
      rw [hi, hf]
      exact .rfl
  · have hi : (cfgM m hR).idle 7 ((cfgM m hR).grid.coords t) = false := by
      rw [Bool.eq_false_iff]; exact fun hc => h ((idle7_iff m hR t).mp hc)
    rw [if_pos (hP.mpr (by omega))]
    unfold Pipeline.Dat.leavesExact
    rw [hi, after_7, lastUsed_of_lt m t (by omega)]
    exact .rfl

/-! ## The body's obligation -/

/-- The body at point `t`, on the current staging buffers. -/
abbrev bodyAt (t : Fin (cfgM m hR).N) : Prog (TpuEff nD τ sig (Elt F) Λ₀ .tc) PUnit :=
  cc0_experts (grid0.coords t) tabE (Memref.isWhole_whole _) tabU (Memref.isWhole_whole _) tabV (Memref.isWhole_whole _)
    (spec0_0.stage ((cfgM m hR).slots t 0)) (hstage0_0 (((cfgM m hR).slots t 0).cast nbuf0_0))
    (spec0_1.stage ((cfgM m hR).slots t 1)) (hstage0_1 (((cfgM m hR).slots t 1).cast nbuf0_1))
    (spec0_2.stage ((cfgM m hR).slots t 2)) (hstage0_2 (((cfgM m hR).slots t 2).cast nbuf0_2))
    (spec0_3.stage ((cfgM m hR).slots t 3)) (hstage0_3 (((cfgM m hR).slots t 3).cast nbuf0_3))
    (spec0_4.stage ((cfgM m hR).slots t 4)) (hstage0_4 (((cfgM m hR).slots t 4).cast nbuf0_4))
    (spec0_5.stage ((cfgM m hR).slots t 5)) (hstage0_5 (((cfgM m hR).slots t 5).cast nbuf0_5))
    (spec0_6.stage ((cfgM m hR).slots t 6)) (hstage0_6 (((cfgM m hR).slots t 6).cast nbuf0_6))
    (spec0_7.stage ((cfgM m hR).slots t 7)) (hstage0_7 (((cfgM m hR).slots t 7).cast nbuf0_7))

theorem body_row (t : Fin (cfgM m hR).N) :
    defs₀ (F := F) .tc (cfgM m hR).body ((cfgM m hR).bodyArgs t ((cfgM m hR).slots t)) = bodyAt m hR t := by
  unfold defs₀; rw [Defs.onTc_tc]

def bodyPre (c : Dev nD) (t : Fin (cfgM m hR).N) : sProp 𝕄 :=
  iprop((dats m hR 0 c).Φ t.castSucc ∗ (dats m hR 0 c).owesAt () t.castSucc
    ∗ (∃ d, owns (c : Thread nD τ) (spec0_0.stage ((cfgM m hR).slots t 0)) fullShare ((dats m hR 0 c).before 0 t d))
    ∗ (∃ d, owns (c : Thread nD τ) (spec0_1.stage ((cfgM m hR).slots t 1)) fullShare ((dats m hR 0 c).before 1 t d))
    ∗ (∃ d, owns (c : Thread nD τ) (spec0_2.stage ((cfgM m hR).slots t 2)) fullShare ((dats m hR 0 c).before 2 t d))
    ∗ (∃ d, owns (c : Thread nD τ) (spec0_3.stage ((cfgM m hR).slots t 3)) fullShare ((dats m hR 0 c).before 3 t d))
    ∗ (∃ d, owns (c : Thread nD τ) (spec0_4.stage ((cfgM m hR).slots t 4)) fullShare ((dats m hR 0 c).before 4 t d))
    ∗ (∃ d, owns (c : Thread nD τ) (spec0_5.stage ((cfgM m hR).slots t 5)) fullShare ((dats m hR 0 c).before 5 t d))
    ∗ (∃ d, owns (c : Thread nD τ) (spec0_6.stage ((cfgM m hR).slots t 6)) fullShare ((dats m hR 0 c).before 6 t d))
    ∗ (∃ d, owns (c : Thread nD τ) (spec0_7.stage ((cfgM m hR).slots t 7)) fullShare ((dats m hR 0 c).before 7 t d)))

def bodyPost (c : Dev nD) (t : Fin (cfgM m hR).N) : sProp 𝕄 :=
  iprop((dats m hR 0 c).Φ t.succ ∗ (dats m hR 0 c).owesAt () t.succ
    ∗ owns (c : Thread nD τ) (spec0_0.stage ((cfgM m hR).slots t 0)) fullShare ((dats m hR 0 c).after 0 t)
    ∗ owns (c : Thread nD τ) (spec0_1.stage ((cfgM m hR).slots t 1)) fullShare ((dats m hR 0 c).after 1 t)
    ∗ owns (c : Thread nD τ) (spec0_2.stage ((cfgM m hR).slots t 2)) fullShare ((dats m hR 0 c).after 2 t)
    ∗ owns (c : Thread nD τ) (spec0_3.stage ((cfgM m hR).slots t 3)) fullShare ((dats m hR 0 c).after 3 t)
    ∗ owns (c : Thread nD τ) (spec0_4.stage ((cfgM m hR).slots t 4)) fullShare ((dats m hR 0 c).after 4 t)
    ∗ owns (c : Thread nD τ) (spec0_5.stage ((cfgM m hR).slots t 5)) fullShare ((dats m hR 0 c).after 5 t)
    ∗ owns (c : Thread nD τ) (spec0_6.stage ((cfgM m hR).slots t 6)) fullShare ((dats m hR 0 c).after 6 t)
    ∗ (dats m hR 0 c).leavesExact 7 t)

set_option maxHeartbeats 1600000 in
theorem body_sound (c : Dev nD) (t : Fin (cfgM m hR).N) :
    bodyPre m hR c t ⊢ wp frame (wpE (defs₀ (F := F)) Variants.none c none) Set.univ (bodyAt m hR t) (fun _ => bodyPost m hR c t) := by
  unfold bodyPre bodyPost bodyAt
  simp only [before_0, before_1, before_2, before_3, before_4, before_5, before_6]
  rw [show (dats m hR 0 c).Φ t.succ = (dats m hR 0 c).Φ t.castSucc from rfl,
    show (dats m hR 0 c).owesAt () t.succ = (dats m hR 0 c).owesAt () t.castSucc from rfl,
    after_0, after_1, after_2, after_3, after_4, after_5, after_6]
  rw [show (dats m hR 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid0.coords t) _ _ _ _ _ _ _ _ _ _ _ _ _ _ _ _ (iblk m hR c 0 t) (iblk m hR c 1 t) (iblk m hR c 2 t) (iblk m hR c 3 t) (iblk m hR c 4 t) (iblk m hR c 5 t) (iblk m hR c 6 t) (tbl m 0) (tbl m 1) (tbl m 2) ((dats m hR 0 c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7 m hR c t d7 _ rfl _ (cond_used m hR c t))
  iexact H7

set_option maxHeartbeats 4000000 in
theorem body_obligation (c : Dev nD) : BodyObligation (dats (F := F) m hR 0 c) (defs₀ (F := F)) Variants.none () Set.univ := fun t => by
  rw [bigSep_W0, bigSep_W0, body_row m hR]
  exact triple_restated (body_sound m hR c t) rfl .rfl fun _ => .rfl

/-! ## The run -/

set_option backward.isDefEq.respectTransparency.types false in
/-- Every execution ends, with the arrays at what the write-backs leave and every other buffer untouched. -/
theorem run : θ_run defs (onTc (τ := τ) (main (F := F))) (s₀ m ρ)
    (fun r => Pipeline.FramePost (Pipeline.pin pcfgs fun _ => adm m hR) (dats m hR) 0 (V m) r ∧ r.2.sem = fun _ => 0) :=
  Pipeline.θ_run_frameP (Q' := _) pcfgs (fun _ => adm m hR) (dats m hR) (0 : Fin 1) launch0 defs₀ Variants.none m ρ main
    (hbody := fun c => (body_obligation m hR c).loose) (hshare := fun c => (dats m hR 0 c).share_full fun _ => rfl)
    (howed := fun _ _ => rfl) (V := V m) (hmain := to_call m Variants.none) (hA := dats_A m hR) (hpf := V_pre m) (hΦ := fun _ _ => rfl)

/-- An input's array ends as it began. -/
theorem arr_in (c : Dev nD) (w : Fin (cfgM m hR).W) (hw : ((cfgM m hR).win w).isOut = false) :
    (dats m hR 0 c).arrAt w (cfgM m hR).N = V m c (Pipeline.arrRef spec0 w) :=
  ((dats m hR 0 c).arrAt_in w hw _).trans (dats_A m hR c w)

abbrev Unchanged (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)

theorem unchanged_of (r : PUnit × MemSt nD τ sig (Elt F)) (h : Pipeline.FramePost (Pipeline.pin pcfgs fun _ => adm m hR) (dats m hR) 0 (V m) r) (c : Dev nD) :
    Unchanged m r c :=
  ⟨((h c).1 0).trans ((arr_in m hR c 0 rfl).trans (V_of_ne m c main_arg0 (by decide))),
   ((h c).2 main_arg1 (by decide : main_arg1 ∈ Pipeline.restRefs sig spec0)).trans (V_of_ne m c main_arg1 (by decide)),
   ((h c).2 main_arg2 (by decide : main_arg2 ∈ Pipeline.restRefs sig spec0)).trans (V_of_ne m c main_arg2 (by decide)),
   ((h c).2 main_arg3 (by decide : main_arg3 ∈ Pipeline.restRefs sig spec0)).trans (V_of_ne m c main_arg3 (by decide)),
   ((h c).1 1).trans ((arr_in m hR c 1 rfl).trans (V_of_ne m c main_arg4 (by decide))),
   ((h c).2 main_arg5 (by decide : main_arg5 ∈ Pipeline.restRefs sig spec0)).trans (V_of_ne m c main_arg5 (by decide)),
   ((h c).1 3).trans ((arr_in m hR c 3 rfl).trans (V_of_ne m c main_arg6 (by decide))),
   ((h c).2 main_arg7 (by decide : main_arg7 ∈ Pipeline.restRefs sig spec0)).trans (V_of_ne m c main_arg7 (by decide)),
   ((h c).1 5).trans ((arr_in m hR c 5 rfl).trans (V_of_ne m c main_arg8 (by decide))),
   ((h c).2 main_arg9 (by decide : main_arg9 ∈ Pipeline.restRefs sig spec0)).trans (V_of_ne m c main_arg9 (by decide))⟩

include hR in
/-- The arguments end unchanged and the counters at zero. -/
theorem frame : θ_run defs (onTc (τ := τ) (main (F := F))) ⟨m, fun _ => 0, ρ⟩ (fun r => (∀ c : Dev nD, Unchanged m r c) ∧ r.2.sem = fun _ => 0) :=
  (θ_run defs _ _).mono (fun r h => ⟨fun c => unchanged_of m hR r h.1 c, h.2⟩) (run m ρ hR)

end Cert.ExpertsIdeal.Hand

end
-- ==== Proof.ExpertsPackedTables.lean ====
module

public import proofs.«01_k».proof.Proof.Gen.ExpertsPacked.Launch
public import proofs.«01_k».proof.Proof.Gen.ExpertsPacked.Skeleton
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.Claim

/-! # The three tables of the experts' call with the packed store

The call reads the expert of every block (`main_arg1`), the number of blocks in use (`main_arg2`) and the number of
filled rows of every block (`main_arg3`) before it starts. Under the stated ranges of the first two every block the
call visits lies inside its array. -/

@[expose] public section

set_option maxRecDepth 16384

noncomputable section

namespace Cert.ExpertsPacked.Hand

open Cert.ExpertsPacked Cert.ExpertsPacked.Gen Cert.ExpertsPacked.Facts
open Idealize.ShloMosaic Idealize.ShloMosaic.TcCoe Idealize.ShloMosaic.Tactic
open Idealize.SL Idealize.SL.Sem
open Idealize.ShloMosaic.WordCmp (toInt_eq_toNat_of_lt_half toInt_ofNat_of_lt cmpi_slt_of_lt toNat_ofNat_of_lt)

variable {F : FTy → Type} [BitOps F]

/-- Block `j`'s expert. -/
def expertOf (pf : pre0.Contents (Elt F)) (j : S288.Idx) : BitVec 32 := pf 0 j
/-- The number of blocks in use, as a word. -/
def usedWord (pf : pre0.Contents (Elt F)) : BitVec 32 := pf 1 (ix1 (n0 := 1) 0 : S1.Idx)

/-- Every block names one of the 32 experts; between one and all of the 288 blocks are in use. -/
structure InRange (pf : pre0.Contents (Elt F)) : Prop where
  expert : ∀ j, (expertOf pf j).toNat < 32
  pos : 1 ≤ (usedWord pf).toNat
  le : (usedWord pf).toNat ≤ 288

theorem coord_lt (i : grid0.Coords) : (i 0).val < 288 := (i 0).isLt

/-- The one element of a one-element table, however its index is written. -/
theorem at_used (pf : pre0.Contents (Elt F)) (r : Rect (pre0.ref 1).ty.shape) (h : r.shape.numel = 1) :
    pf.at 1 r h = usedWord pf := by
  show pf 1 _ = pf 1 _
  congr 1
  funext a
  exact match a with | ⟨0, _⟩ => Subsingleton.elim (α := Fin 1) _ _

theorem atD_used (pf : pre0.Contents (Elt F)) : (pf.atD 1 ![0] : BitVec 32) = usedWord pf := by
  unfold Pipeline.Prefetch.Contents.atD
  split
  · show pf 1 _ = pf 1 _
    congr 1
    funext a
    exact match a with | ⟨0, _⟩ => Subsingleton.elim (α := Fin 1) _ _
  · next h => exact absurd (fun a => by fin_cases a; show 0 + 1 ≤ 1; omega) h

/-- The block row a point stages: the point, or the last block in use if that comes first. -/
def rowOf (pf : pre0.Contents (Elt F)) (i : grid0.Coords) : ℕ := min (i 0).val ((usedWord pf).toNat - 1)

theorem minsi_eq (n : ℕ) (hn : n < 288) (v : BitVec 32) (h1 : 1 ≤ v.toNat) (h2 : v.toNat ≤ 288) :
    (Scalar.minsi (BitVec.ofNat 32 n) (Scalar.subi v 1#32)).toNat = min n (v.toNat - 1) := by
  have hs : (v - 1#32).toNat = v.toNat - 1 := BitVec.toNat_sub_of_le (by rw [BitVec.le_def]; exact h1)
  have hv : (v - 1#32).toInt = ((v.toNat - 1 : ℕ) : ℤ) := by
    rw [toInt_eq_toNat_of_lt_half (by show _ < 2147483648; omega), hs]
  have hi : (BitVec.ofNat 32 n).toInt = (n : ℤ) := toInt_ofNat_of_lt (by show _ < 2147483648; omega)
  have hn' : (BitVec.ofNat 32 n).toNat = n := toNat_ofNat_of_lt (by omega)
  show (if (BitVec.ofNat 32 n).slt (v - 1#32) then BitVec.ofNat 32 n else v - 1#32).toNat = _
  by_cases h : n < v.toNat - 1
  · rw [if_pos (by rw [BitVec.slt_iff_toInt_lt, hv, hi]; omega), hn']; omega
  · rw [if_neg (by rw [BitVec.slt_iff_toInt_lt, hv, hi]; omega), hs]; omega

/-- The guard of a point: it is one of the blocks in use. -/
theorem cond_iff (i : grid0.Coords) (v : BitVec 32) (h2 : v.toNat ≤ 288) :
    k0_cond1 i v = 1#1 ↔ (i 0).val < v.toNat := by
  have hi := coord_lt i
  unfold k0_cond1
  show IntOp.cmpi .ne ((IntOp.cmpi .slt (BitVec.ofNat 32 (i 0).val) v).setWidth 32) 0#32 = 1#1 ↔ _
  rw [cmpi_slt_of_lt (by rw [toNat_ofNat_of_lt (by omega)]; show _ < 2147483648; omega) (by show _ < 2147483648; omega), toNat_ofNat_of_lt (by omega)]
  by_cases h : (i 0).val < v.toNat
  · simp [h]; decide
  · simp [h]; decide

theorem index0 (pf : pre0.Contents (Elt F)) (h : InRange pf) (i : grid0.Coords) :
    cc0_transform_0 inb_S1_S1_0 numel1_S1 pf i = ![rowOf pf i, 0] := by
  show ![(Scalar.minsi (BitVec.ofNat 32 (i 0).val) (Scalar.subi (pf.at 1 (Rect.unit (s := S1) ![0] S1.size inb_S1_S1_0) numel1_S1) 1#32)).toNat, 0] = _
  erw [at_used pf (Rect.unit (s := S1) ![0] S1.size inb_S1_S1_0) numel1_S1, minsi_eq _ (coord_lt i) _ h.pos h.le]
  rfl

theorem index7 (pf : pre0.Contents (Elt F)) (h : InRange pf) (i : grid0.Coords) :
    cc0_transform_7 inb_S1_S1_0 numel1_S1 pf i = ![rowOf pf i, 0] := index0 pf h i

theorem index1 (pf : pre0.Contents (Elt F)) (i : grid0.Coords) :
    cc0_transform_1 k0_off1_inb numel1_S1 pf i = ![(expertOf pf (ix1 (n0 := 288) (i 0))).toNat, 0, 0] := by
  have e : pf.at 0 (Rect.unit (s := S288) ![(Scalar.indexCast (BitVec.ofNat 32 (i 0).val)).toNat] S1.size (k0_off1_inb i)) numel1_S1
      = expertOf pf (ix1 (n0 := 288) (i 0)) := by
    show pf 0 _ = pf 0 _
    congr 1
    funext a
    fin_cases a
    apply Fin.ext
    show (BitVec.ofNat 32 (i 0).val).toNat + 1 * 0 = (i 0).val
    have := coord_lt i
    rw [toNat_ofNat_of_lt (by omega)]; omega
  exact congrArg (fun v : BitVec 32 => ![v.toNat, 0, 0]) e

theorem rowOf_lt (pf : pre0.Contents (Elt F)) (i : grid0.Coords) : rowOf pf i < 288 :=
  Nat.lt_of_le_of_lt (Nat.min_le_left _ _) (coord_lt i)

theorem ok_of_range (pf : pre0.Contents (Elt F)) (h : InRange pf) : ok0 (F := F) pf := by
  have hr := rowOf_lt pf
  have he : ∀ i : grid0.Coords, (expertOf pf (ix1 (n0 := 288) (i 0))).toNat < 32 := fun i => h.expert _
  have w3 : ∀ (i : grid0.Coords) (a : Fin 3), (![(expertOf pf (ix1 (n0 := 288) (i 0))).toNat, 0, 0] a + 1) * S1x1024x1024.size a ≤ S32x1024x1024.size a := by
    intro i a
    have := he i
    fin_cases a
    · show ((expertOf pf (ix1 (n0 := 288) (i 0))).toNat + 1) * 1 ≤ 32; omega
    · show (0 + 1) * 1024 ≤ 1024; omega
    · show (0 + 1) * 1024 ≤ 1024; omega
  have b3 : ∀ (i : grid0.Coords) (a : Fin 3), (![(expertOf pf (ix1 (n0 := 288) (i 0))).toNat, 0, 0] a + 1) * S1x1x1024.size a ≤ S32x1x1024.size a := by
    intro i a
    have := he i
    fin_cases a
    · show ((expertOf pf (ix1 (n0 := 288) (i 0))).toNat + 1) * 1 ≤ 32; omega
    · show (0 + 1) * 1 ≤ 1; omega
    · show (0 + 1) * 1024 ≤ 1024; omega
  have hw := index1 pf
  refine ⟨fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩, fun i => ⟨?_, Or.inl rfl⟩, fun i => ⟨?_, Or.inl rfl⟩⟩
  · rw [index0 pf h i]; intro a; have := hr i
    fin_cases a
    · show (rowOf pf i + 1) * 1024 ≤ 294912; omega
    · show (0 + 1) * 512 ≤ 512; omega
  · intro a; rw [show cc0_transform_1 k0_off1_inb numel1_S1 pf i = _ from hw i]; exact w3 i a
  · intro a; rw [show cc0_transform_2 k0_off1_inb numel1_S1 pf i = _ from hw i]; exact b3 i a
  · intro a; rw [show cc0_transform_3 k0_off1_inb numel1_S1 pf i = _ from hw i]; exact w3 i a
  · intro a; rw [show cc0_transform_4 k0_off1_inb numel1_S1 pf i = _ from hw i]; exact b3 i a
  · intro a; rw [show cc0_transform_5 k0_off1_inb numel1_S1 pf i = _ from hw i]; exact w3 i a
  · intro a; rw [show cc0_transform_6 k0_off1_inb numel1_S1 pf i = _ from hw i]; exact b3 i a
  · rw [index7 pf h i]; intro a; have := hr i
    fin_cases a
    · show (rowOf pf i + 1) * 1024 ≤ 294912; omega
    · show (0 + 1) * 512 ≤ 512; omega

end Cert.ExpertsPacked.Hand

end
-- ==== Proof.ExpertsPackedBody.lean ====
module

public import proofs.«01_k».proof.Proof.ExpertsPackedTables

/-! # One block of the experts' call with the packed store -/

@[expose] public section

set_option maxRecDepth 16384

noncomputable section

namespace Cert.ExpertsPacked.Hand

open Cert.ExpertsPacked Cert.ExpertsPacked.Gen Cert.ExpertsPacked.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The contents of a table held in scalar memory, and the half share of it the body reads under. -/
abbrev TableBuf (c : Dev nD) {S : Shape} {e : EltTy} (M : Memref sig .tc .smem S e) : Type := Buf (Elt F) (M.view.loc (c : Thread nD τ))
abbrev tableAt (c : Dev nD) {S : Shape} {e : EltTy} (M : Memref sig .tc .smem S e) (f : TableBuf (F := F) c M) : sProp 𝕄 :=
  M.view.loc (c : Thread nD τ) ↦{fullShare.right} f

abbrev tabE : Memref sig .tc .smem S288 .i32 := Memref.whole main_arg1
abbrev tabU : Memref sig .tc .smem S1 .i32 := Memref.whole main_arg2
abbrev tabV : Memref sig .tc .smem S288 .i32 := Memref.whole main_arg3

/-- The buffers whole. -/
abbrev rectX : Rect S1024x512 := Rect.unit (s := S1024x512) ![0, 0] S1024x512.size inb_S1024x512_S1024x512_0_0
abbrev rectW : Rect S1x1024x1024 := Rect.unit (s := S1x1024x1024) ![0, 0, 0] S1x1024x1024.size inb_S1x1024x1024_S1x1024x1024_0_0_0
abbrev rectB : Rect S1x1x1024 := Rect.unit (s := S1x1x1024) ![0, 0, 0] S1x1x1024.size inb_S1x1x1024_S1x1x1024_0_0_0
abbrev rectY : Rect S1024x512 := Rect.unit (s := S1024x512) ![0, 0] S1024x512.size inb_S1024x512_S1024x512_0_0

/-- What the body stores: of `n` filled rows of words, and the weights and shifts of one expert. -/
def outBlock (n : Elt F .i32) (x0 : Vec F S1024x512 .i32) (x1 : Vec F S1x1024x1024 .f32) (x2 : Vec F S1x1x1024 .f32)
    (x3 : Vec F S1x1024x1024 .f32) (x4 : Vec F S1x1x1024 .f32) (x5 : Vec F S1x1024x1024 .f32) (x6 : Vec F S1x1x1024 .f32) :
    Vec F S1024x512 .i32 :=
  View.canon [⟨rectY, k0_pay1 (k0_pay3 n (View.ld x0 rectX) (View.ld x1 rectW) (View.ld x2 rectB))
    (k0_pay4 n (View.ld x0 rectX) (View.ld x3 rectW) (View.ld x4 rectB))
    (k0_pay5 n (View.ld x0 rectX) (View.ld x1 rectW) (View.ld x2 rectB)) (Scalar.ofBits .f32 0x3F59DB23#32)
    (View.ld x5 rectW) (View.ld x6 rectB)⟩]

theorem outBlock_cover (p : Vec F S1024x512 .i32) (y : S1024x512.Idx) :
    ∃ pc ∈ ([⟨rectY, p⟩] : List (View.Piece (Elt F) S1024x512 .i32)), y ∈ pc.1.set :=
  View.cover_of_tiled [⟨rectY, p⟩] S1024x512.size (by rfl) y

/-- The number of filled rows of the point's block, as the body reads it. -/
def rowsWord (c : Dev nD) (i : grid0.Coords) (f : TableBuf (F := F) c tabV) : Elt F .i32 := (f : S288.Idx → Elt F .i32) (ix1 (n0 := 288) (i 0))
/-- The number of blocks in use, as the body reads it. -/
def blocksWord (c : Dev nD) (f : TableBuf (F := F) c tabU) : Elt F .i32 := (f : S1.Idx → Elt F .i32) (ix1 (n0 := 1) 0)

theorem used_read (c : Dev nD) (f : TableBuf (F := F) c tabU) :
    View.readAt (Elt F) tabU.view (Rect.unit (s := S1) ![0] S1.size inb_S1_S1_0).toLoadRect f (Shape.Idx.first (numel1_S1.symm ▸ Nat.one_pos)) = blocksWord c f := by
  show (f : S1.Idx → Elt F .i32) _ = (f : S1.Idx → Elt F .i32) _
  congr 1
  funext a
  exact match a with | ⟨0, _⟩ => Subsingleton.elim (α := Fin 1) _ _

theorem rows_read (c : Dev nD) (i : grid0.Coords) (f : TableBuf (F := F) c tabV) :
    View.readAt (Elt F) tabV.view (Rect.unit (s := S288) (k0_off2 i) S1.size (k0_off2_inb i)).toLoadRect f (Shape.Idx.first (numel1_S1.symm ▸ Nat.one_pos)) = rowsWord c i f := by
  show (f : S288.Idx → Elt F .i32) _ = (f : S288.Idx → Elt F .i32) _
  congr 1
  funext a
  fin_cases a
  apply Fin.ext
  show (BitVec.ofNat 32 (i 0).val).toNat + 1 * 0 = (i 0).val
  have := coord_lt i
  rw [WordCmp.toNat_ofNat_of_lt (by omega)]; omega

set_option maxHeartbeats 2000000 in
/-- The body leaves the inputs and the tables; of a block in use it stores `outBlock`, of another it leaves the output's buffer too. -/
theorem body_run (c : Dev nD) (E : Set ℕ) (i : grid0.Coords) (arg4 : Memref sig .tc .vmem S1024x512 .i32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S1024x512 .i32) (harg11 : arg11.IsWhole)
    (x0 : Vec F S1024x512 .i32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (fe : TableBuf (F := F) c tabE) (fu : TableBuf (F := F) c tabU) (fv : TableBuf (F := F) c tabV)
    (d : Vec F S1024x512 .i32) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare d ∗ tableAt c tabE fe ∗ tableAt c tabU fu ∗ tableAt c tabV fv
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (if k0_cond1 i (blocksWord c fu) = 1#1 then outBlock (rowsWord c i fv) x0 x1 x2 x3 x4 x5 x6 else d) ∗ tableAt c tabE fe ∗ tableAt c tabU fu ∗ tableAt c tabV fv) -∗ K ⟨⟩))
      ⊢ wp frame (wpE (defs₀ (F := F)) Variants.none c none) E (cc0_experts i tabE (Memref.isWhole_whole _) tabU (Memref.isWhole_whole _) tabV (Memref.isWhole_whole _) arg4 harg4 arg5 harg5 arg6 harg6 arg7 harg7 arg8 harg8 arg9 harg9 arg10 harg10 arg11 harg11) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, HT2, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have eu : body_run.sl.r c fu = blocksWord c fu := used_read c fu
    rw [eu]
    by_cases hc : k0_cond1 i (blocksWord c fu) = 1#1
    · rw [dif_pos hc, if_pos hc, View.read_writes_eq_canon _ _ _ (outBlock_cover _)]
      have ev : body_run.sl.r_1 c i fv = rowsWord c i fv := rows_read c i fv
      unfold outBlock
      rw [← ev]
      rfl
    · rw [dif_neg hc, if_neg hc]
  isplitl [HT0]; · iexact HT0
  isplitl [HT1]; · iexact HT1
  iexact HT2

end Cert.ExpertsPacked.Hand

end
-- ==== Proof.ExpertsPackedRun.lean ====
module

public import proofs.«01_k».proof.Proof.ExpertsPackedBody

/-! # The experts' call with the packed store, run over its 288 blocks

What every staging buffer holds around each block, the body's obligation, and the run's conclusion: the arrays the call
reads end as they began, and the output is what the blocks in use leave in it. -/

@[expose] public section

set_option maxRecDepth 16384

noncomputable section

namespace Cert.ExpertsPacked.Hand

open Cert.ExpertsPacked Cert.ExpertsPacked.Gen Cert.ExpertsPacked.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers when the call starts: the three shifts have been given their middle axis. -/
abbrev V (c : Dev nD) (b : Ref sig .tc) : Buf (Elt F) ((c : Thread nD τ).loc b) := StableHlo.after hostOps0 (fun b => m (c, b)) b

theorem prefix_fresh : (hostOps0 : List (HloOp τ sig (Elt F))).Forall fun op => op.fresh = ∅ := by
  simp only [List.Forall]; repeat' constructor

set_option maxHeartbeats 800000 in
theorem to_call (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub prefix_fresh main_chain

/-- A buffer none of the three reshapes writes is as it was. -/
theorem V_of_ne (c : Dev nD) (b : Ref sig .tc) (h : b ≠ main_v0 ∧ b ≠ main_v1 ∧ b ≠ main_v2) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h.1, StableHlo.devRef_ne_of_ne h.2.1, StableHlo.devRef_ne_of_ne h.2.2⟩))

/-- The tables' contents when the call starts. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

variable (hR : InRange (tbl m))

abbrev adm : (pcfg0 (F := F)).Adm := ⟨tbl m, ok_of_range _ hR⟩
abbrev cfgM : Pipeline.Cfg sig Λ₀ := cfg0 (adm m hR)

theorem tables_eq (c : Dev nD) : (Pipeline.ΦT pre0 (tbl m) c : sProp 𝕄) = iprop(tableAt c tabE (tbl m 0) ∗ tableAt c tabU (tbl m 1) ∗ tableAt c tabV (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array. -/
def iblk (c : Dev nD) (w : Fin (cfgM m hR).W) (t : Fin (cfgM m hR).N) : (((cfgM m hR).win w).xblock ((cfgM m hR).grid.coords t)).Idx → Elt F ((cfgM m hR).win w).elt :=
  (((cfgM m hR).win w).blk t).view.read (Elt F) (V m c (Pipeline.arrRef spec0 w))

/-! ## The points and the blocks in use -/

theorem coords_val : ∀ t : Fin grid0.N, (grid0.coords t 0).val = t.val := by decide +kernel

/-- The number of blocks in use. -/
abbrev used : ℕ := (usedWord (tbl m)).toNat

/-- The last point that stored the output's buffer, at or before `t`. -/
def lastUsed (t : Fin grid0.N) : Fin grid0.N := ⟨min t.val (used m - 1), Nat.lt_of_le_of_lt (Nat.min_le_left _ _) t.isLt⟩

theorem lastUsed_of_lt (t : Fin grid0.N) (h : t.val < used m) : lastUsed m t = t := Fin.ext (by show min _ _ = _; omega)

theorem index7_row (t : Fin (cfgM m hR).N) : ((cfgM m hR).win 7).index t = ![(lastUsed m t).val, 0] := by
  refine (index7 (tbl m) hR (grid0.coords t)).trans ?_
  unfold rowOf
  rw [coords_val]
  rfl

theorem idle_word (i : grid0.Coords) (v w : BitVec 32) (e : v = w) (h : w.toNat ≤ 288) : (!(k0_cond1 i v == 1#1)) = true ↔ w.toNat ≤ (i 0).val := by
  subst e
  rw [Bool.not_eq_true', beq_eq_false_iff_ne, Ne, cond_iff _ _ h]
  exact Nat.not_lt

set_option maxHeartbeats 4000000 in
theorem idle7_iff (t : Fin (cfgM m hR).N) : (cfgM m hR).idle 7 ((cfgM m hR).grid.coords t) = true ↔ used m ≤ t.val := by
  have h := idle_word (grid0.coords t) ((tbl m).atD 1 ![0]) (usedWord (tbl m)) (atD_used (tbl m)) hR.le
  rw [coords_val t] at h
  exact h

/-- A point whose successor is past the blocks in use keeps the output's buffer. -/
theorem flush7_of_le (t : Fin (cfgM m hR).N) (h : used m ≤ t.val + 1) (hN : t.val + 1 < grid0.N) : ((cfgM m hR).win 7).flush t = false := by
  have hN' : ¬ (t.val + 1 = grid0.N) := by omega
  unfold Window.flush
  rw [Bool.and_eq_false_iff]
  right
  rw [Bool.or_eq_false_iff, decide_eq_false_iff_not, decide_eq_false_iff_not]
  refine ⟨hN', ?_⟩
  rintro ⟨_, hne⟩
  apply hne
  rw [index7_row, index7_row]
  have e : (lastUsed m ⟨t.val + 1, hN⟩).val = (lastUsed m t).val := by
    show min (t.val + 1) (used m - 1) = min t.val (used m - 1)
    omega
  exact congrArg (fun k : ℕ => ![k, 0]) e

/-- The proof data: inputs at their blocks; the output at what the last block in use stored. -/
def dats (_ : Fin 1) (c : Dev nD) : Dat τ (Elt F) Unit ℕ (UR sig nD τ) ℕ (cfgM m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => iblk m hR c 3 t
    | ⟨4, _⟩ => iblk m hR c 4 t
    | ⟨5, _⟩ => iblk m hR c 5 t
    | ⟨6, _⟩ => iblk m hR c 6 t
    | ⟨7, _⟩ => outBlock (rowsWord c (grid0.coords (lastUsed m t)) (tbl m 2)) (iblk m hR c 0 (lastUsed m t)) (iblk m hR c 1 (lastUsed m t)) (iblk m hR c 2 (lastUsed m t))
        (iblk m hR c 3 (lastUsed m t)) (iblk m hR c 4 (lastUsed m t)) (iblk m hR c 5 (lastUsed m t)) (iblk m hR c 6 (lastUsed m t))
  Φ _ := iprop(Pipeline.ΦA spec0 c ∗ Pipeline.ΦT pre0 (tbl m) c)
  q _ := fullShare
  owed _ := 0

theorem dats_A (c : Dev nD) (w : Fin (cfgM m hR).W) : (dats m hR 0 c).A w = V m c (Pipeline.arrRef spec0 w) := by
  dsimp only [dats]

theorem after_0 (c : Dev nD) (t : Fin (cfgM m hR).N) : (dats m hR 0 c).after 0 t = iblk m hR c 0 t := by dsimp only [dats]; try rfl
theorem after_1 (c : Dev nD) (t : Fin (cfgM m hR).N) : (dats m hR 0 c).after 1 t = iblk m hR c 1 t := by dsimp only [dats]; try rfl
theorem after_2 (c : Dev nD) (t : Fin (cfgM m hR).N) : (dats m hR 0 c).after 2 t = iblk m hR c 2 t := by dsimp only [dats]; try rfl
theorem after_3 (c : Dev nD) (t : Fin (cfgM m hR).N) : (dats m hR 0 c).after 3 t = iblk m hR c 3 t := by dsimp only [dats]; try rfl
theorem after_4 (c : Dev nD) (t : Fin (cfgM m hR).N) : (dats m hR 0 c).after 4 t = iblk m hR c 4 t := by dsimp only [dats]; try rfl
theorem after_5 (c : Dev nD) (t : Fin (cfgM m hR).N) : (dats m hR 0 c).after 5 t = iblk m hR c 5 t := by dsimp only [dats]; try rfl
theorem after_6 (c : Dev nD) (t : Fin (cfgM m hR).N) : (dats m hR 0 c).after 6 t = iblk m hR c 6 t := by dsimp only [dats]; try rfl

/-- What point `t` leaves in the output's buffer. -/
def leftBlock (c : Dev nD) (t : Fin (cfgM m hR).N) : Vec F S1024x512 .i32 :=
  outBlock (rowsWord c (grid0.coords t) (tbl m 2)) (iblk m hR c 0 t) (iblk m hR c 1 t) (iblk m hR c 2 t)
        (iblk m hR c 3 t) (iblk m hR c 4 t) (iblk m hR c 5 t) (iblk m hR c 6 t)
theorem after_7 (c : Dev nD) (t : Fin (cfgM m hR).N) : (dats m hR 0 c).after 7 t = leftBlock m hR c (lastUsed m t) := by dsimp only [dats]; try rfl

theorem before_0 (c : Dev nD) (t : Fin (cfgM m hR).N) (d) : (dats m hR 0 c).before 0 t d = iblk m hR c 0 t :=
  ((dats m hR 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin (cfgM m hR).N) (d) : (dats m hR 0 c).before 1 t d = iblk m hR c 1 t :=
  ((dats m hR 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin (cfgM m hR).N) (d) : (dats m hR 0 c).before 2 t d = iblk m hR c 2 t :=
  ((dats m hR 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
theorem before_3 (c : Dev nD) (t : Fin (cfgM m hR).N) (d) : (dats m hR 0 c).before 3 t d = iblk m hR c 3 t :=
  ((dats m hR 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)
theorem before_4 (c : Dev nD) (t : Fin (cfgM m hR).N) (d) : (dats m hR 0 c).before 4 t d = iblk m hR c 4 t :=
  ((dats m hR 0 c).before_in_eq_fetched 4 rfl (fun _ => rfl) (fun _ _ _ => rfl) (fun t => by rw [after_4]; unfold Dat.blockOf iblk; rw [dats_A]; try rfl) t d).trans
    (by unfold Dat.fetched Dat.blockOf iblk; rw [dats_A]; try rfl)
theorem before_5 (c : Dev nD) (t : Fin (cfgM m hR).N) (d) : (dats m hR 0 c).before 5 t d = iblk m hR c 5 t :=
  ((dats m hR 0 c).before_in_eq_fetched 5 rfl (fun _ => rfl) (fun _ _ _ => rfl) (fun t => by rw [after_5]; unfold Dat.blockOf iblk; rw [dats_A]; try rfl) t d).trans
    (by unfold Dat.fetched Dat.blockOf iblk; rw [dats_A]; try rfl)
theorem before_6 (c : Dev nD) (t : Fin (cfgM m hR).N) (d) : (dats m hR 0 c).before 6 t d = iblk m hR c 6 t :=
  ((dats m hR 0 c).before_in_eq_fetched 6 rfl (fun _ => rfl) (fun _ _ _ => rfl) (fun t => by rw [after_6]; unfold Dat.blockOf iblk; rw [dats_A]; try rfl) t d).trans
    (by unfold Dat.fetched Dat.blockOf iblk; rw [dats_A]; try rfl)

/-! ## The output's buffer at points past the blocks in use -/

theorem fresh7 (t : Fin (cfgM m hR).N) (h : used m ≤ t.val) : (cfgM m hR).fresh 7 t.val = false := by
  have hpos := hR.pos
  obtain ⟨n, hn⟩ : ∃ n, t.val = n + 1 := ⟨t.val - 1, by have : 1 ≤ used m := hpos; omega⟩
  have hN : n < grid0.N := by have : t.val < grid0.N := t.isLt; omega
  have key : ∀ (k : ℕ) (hk : k + 1 < grid0.N), used m ≤ k + 1 → (cfgM m hR).fresh 7 (k + 1) = false := by
    intro k
    induction k with
    | zero =>
      intro hk hu
      rw [Pipeline.Cfg.fresh_succ _ _ _ (show 0 < grid0.N by omega), flush7_of_le m hR ⟨0, _⟩ hu hk, Bool.false_or, Bool.and_eq_false_iff]
      left
      rw [Bool.eq_false_iff]
      intro hc
      have := (idle7_iff m hR ⟨0, _⟩).mp hc
      have : 1 ≤ used m := hpos
      simp only at *
      omega
    | succ k ih =>
      intro hk hu
      rw [Pipeline.Cfg.fresh_succ _ _ _ (show k + 1 < grid0.N by omega), flush7_of_le m hR ⟨k + 1, _⟩ hu hk, Bool.false_or, Bool.and_eq_false_iff]
      by_cases hk' : used m ≤ k + 1
      · right; exact ih (by omega) hk'
      · left
        rw [Bool.eq_false_iff]
        intro hc
        exact hk' ((idle7_iff m hR ⟨k + 1, _⟩).mp hc)
  rw [hn]
  exact key n (by have : t.val < grid0.N := t.isLt; omega) (by omega)

theorem before_7 (c : Dev nD) (t : Fin (cfgM m hR).N) (h : used m ≤ t.val) (d) :
    (dats m hR 0 c).before 7 t d = (dats m hR 0 c).after 7 t := by
  have hpos : 1 ≤ used m := hR.pos
  have step : ∀ t : Fin (cfgM m hR).N, used m ≤ t.val →
      (dats m hR 0 c).after 7 t = (dats m hR 0 c).after 7 ⟨t.val - 1, by omega⟩ := by
    intro t h
    rw [after_7, after_7]
    congr 1
    apply Fin.ext
    show min t.val (used m - 1) = min (t.val - 1) (used m - 1)
    omega
  rw [Pipeline.Dat.before_out_traj (dats m hR 0 c) 7 rfl (fun _ _ => rfl) (fun t ht hi _ => step t ((idle7_iff m hR t).mp hi)) t.val t rfl d,
    fresh7 m hR t h, if_neg Bool.false_ne_true]
  exact (step t h).symm

theorem cond_used (c : Dev nD) (t : Fin (cfgM m hR).N) : k0_cond1 (grid0.coords t) (blocksWord c (tbl m 1)) = 1#1 ↔ t.val < used m :=
  (cond_iff (grid0.coords t) (usedWord (tbl m)) hR.le).trans (by rw [coords_val])

/-- The output's staging buffer at a point. -/
abbrev stageY (t : Fin (cfgM m hR).N) : Memref sig .tc .vmem S1024x512 .i32 := spec0_7.stage ((cfgM m hR).slots t 7)

/-- What the body leaves there is what the pipeline expects to find. -/
theorem leaves_7 (c : Dev nD) (t : Fin (cfgM m hR).N) (d) (Y : Vec F S1024x512 .i32) (hY : (dats m hR 0 c).before 7 t d = Y)
    (P : Prop) [Decidable P] (hP : P ↔ t.val < used m) :
    (owns (c : Thread nD τ) (stageY m hR t) fullShare (if P then leftBlock m hR c t else Y) : sProp 𝕄)
      ⊢ (dats m hR 0 c).leavesExact 7 t := by
  by_cases h : used m ≤ t.val
  · have hi := (idle7_iff m hR t).mpr h
    rw [if_neg (fun hc => absurd (hP.mp hc) (by omega))]
    cases hf : ((cfgM m hR).win 7).flush t
    · rw [Pipeline.Dat.leavesExact_idle _ _ _ hi hf, ← hY]
      iintro H
      iexists d
      iexact H
    · rw [← hY, before_7 m hR c t h d]
      unfold Pipeline.Dat.leavesExact
      rw [hi, hf]
      exact .rfl
  · have hi : (cfgM m hR).idle 7 ((cfgM m hR).grid.coords t) = false := by
      rw [Bool.eq_false_iff]; exact fun hc => h ((idle7_iff m hR t).mp hc)
    rw [if_pos (hP.mpr (by omega))]
    unfold Pipeline.Dat.leavesExact
    rw [hi, after_7, lastUsed_of_lt m t (by omega)]
    exact .rfl

/-! ## The body's obligation -/

/-- The body at point `t`, on the current staging buffers. -/
abbrev bodyAt (t : Fin (cfgM m hR).N) : Prog (TpuEff nD τ sig (Elt F) Λ₀ .tc) PUnit :=
  cc0_experts (grid0.coords t) tabE (Memref.isWhole_whole _) tabU (Memref.isWhole_whole _) tabV (Memref.isWhole_whole _)
    (spec0_0.stage ((cfgM m hR).slots t 0)) (hstage0_0 (((cfgM m hR).slots t 0).cast nbuf0_0))
    (spec0_1.stage ((cfgM m hR).slots t 1)) (hstage0_1 (((cfgM m hR).slots t 1).cast nbuf0_1))
    (spec0_2.stage ((cfgM m hR).slots t 2)) (hstage0_2 (((cfgM m hR).slots t 2).cast nbuf0_2))
    (spec0_3.stage ((cfgM m hR).slots t 3)) (hstage0_3 (((cfgM m hR).slots t 3).cast nbuf0_3))
    (spec0_4.stage ((cfgM m hR).slots t 4)) (hstage0_4 (((cfgM m hR).slots t 4).cast nbuf0_4))
    (spec0_5.stage ((cfgM m hR).slots t 5)) (hstage0_5 (((cfgM m hR).slots t 5).cast nbuf0_5))
    (spec0_6.stage ((cfgM m hR).slots t 6)) (hstage0_6 (((cfgM m hR).slots t 6).cast nbuf0_6))
    (spec0_7.stage ((cfgM m hR).slots t 7)) (hstage0_7 (((cfgM m hR).slots t 7).cast nbuf0_7))

theorem body_row (t : Fin (cfgM m hR).N) :
    defs₀ (F := F) .tc (cfgM m hR).body ((cfgM m hR).bodyArgs t ((cfgM m hR).slots t)) = bodyAt m hR t := by
  unfold defs₀; rw [Defs.onTc_tc]

def bodyPre (c : Dev nD) (t : Fin (cfgM m hR).N) : sProp 𝕄 :=
  iprop((dats m hR 0 c).Φ t.castSucc ∗ (dats m hR 0 c).owesAt () t.castSucc
    ∗ (∃ d, owns (c : Thread nD τ) (spec0_0.stage ((cfgM m hR).slots t 0)) fullShare ((dats m hR 0 c).before 0 t d))
    ∗ (∃ d, owns (c : Thread nD τ) (spec0_1.stage ((cfgM m hR).slots t 1)) fullShare ((dats m hR 0 c).before 1 t d))
    ∗ (∃ d, owns (c : Thread nD τ) (spec0_2.stage ((cfgM m hR).slots t 2)) fullShare ((dats m hR 0 c).before 2 t d))
    ∗ (∃ d, owns (c : Thread nD τ) (spec0_3.stage ((cfgM m hR).slots t 3)) fullShare ((dats m hR 0 c).before 3 t d))
    ∗ (∃ d, owns (c : Thread nD τ) (spec0_4.stage ((cfgM m hR).slots t 4)) fullShare ((dats m hR 0 c).before 4 t d))
    ∗ (∃ d, owns (c : Thread nD τ) (spec0_5.stage ((cfgM m hR).slots t 5)) fullShare ((dats m hR 0 c).before 5 t d))
    ∗ (∃ d, owns (c : Thread nD τ) (spec0_6.stage ((cfgM m hR).slots t 6)) fullShare ((dats m hR 0 c).before 6 t d))
    ∗ (∃ d, owns (c : Thread nD τ) (spec0_7.stage ((cfgM m hR).slots t 7)) fullShare ((dats m hR 0 c).before 7 t d)))

def bodyPost (c : Dev nD) (t : Fin (cfgM m hR).N) : sProp 𝕄 :=
  iprop((dats m hR 0 c).Φ t.succ ∗ (dats m hR 0 c).owesAt () t.succ
    ∗ owns (c : Thread nD τ) (spec0_0.stage ((cfgM m hR).slots t 0)) fullShare ((dats m hR 0 c).after 0 t)
    ∗ owns (c : Thread nD τ) (spec0_1.stage ((cfgM m hR).slots t 1)) fullShare ((dats m hR 0 c).after 1 t)
    ∗ owns (c : Thread nD τ) (spec0_2.stage ((cfgM m hR).slots t 2)) fullShare ((dats m hR 0 c).after 2 t)
    ∗ owns (c : Thread nD τ) (spec0_3.stage ((cfgM m hR).slots t 3)) fullShare ((dats m hR 0 c).after 3 t)
    ∗ owns (c : Thread nD τ) (spec0_4.stage ((cfgM m hR).slots t 4)) fullShare ((dats m hR 0 c).after 4 t)
    ∗ owns (c : Thread nD τ) (spec0_5.stage ((cfgM m hR).slots t 5)) fullShare ((dats m hR 0 c).after 5 t)
    ∗ owns (c : Thread nD τ) (spec0_6.stage ((cfgM m hR).slots t 6)) fullShare ((dats m hR 0 c).after 6 t)
    ∗ (dats m hR 0 c).leavesExact 7 t)

set_option maxHeartbeats 1600000 in
theorem body_sound (c : Dev nD) (t : Fin (cfgM m hR).N) :
    bodyPre m hR c t ⊢ wp frame (wpE (defs₀ (F := F)) Variants.none c none) Set.univ (bodyAt m hR t) (fun _ => bodyPost m hR c t) := by
  unfold bodyPre bodyPost bodyAt
  simp only [before_0, before_1, before_2, before_3, before_4, before_5, before_6]
  rw [show (dats m hR 0 c).Φ t.succ = (dats m hR 0 c).Φ t.castSucc from rfl,
    show (dats m hR 0 c).owesAt () t.succ = (dats m hR 0 c).owesAt () t.castSucc from rfl,
    after_0, after_1, after_2, after_3, after_4, after_5, after_6]
  rw [show (dats m hR 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid0.coords t) _ _ _ _ _ _ _ _ _ _ _ _ _ _ _ _ (iblk m hR c 0 t) (iblk m hR c 1 t) (iblk m hR c 2 t) (iblk m hR c 3 t) (iblk m hR c 4 t) (iblk m hR c 5 t) (iblk m hR c 6 t) (tbl m 0) (tbl m 1) (tbl m 2) ((dats m hR 0 c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7 m hR c t d7 _ rfl _ (cond_used m hR c t))
  iexact H7

set_option maxHeartbeats 4000000 in
theorem body_obligation (c : Dev nD) : BodyObligation (dats (F := F) m hR 0 c) (defs₀ (F := F)) Variants.none () Set.univ := fun t => by
  rw [bigSep_W0, bigSep_W0, body_row m hR]
  exact triple_restated (body_sound m hR c t) rfl .rfl fun _ => .rfl

/-! ## The run -/

set_option backward.isDefEq.respectTransparency.types false in
/-- Every execution ends, with the arrays at what the write-backs leave and every other buffer untouched. -/
theorem run : θ_run defs (onTc (τ := τ) (main (F := F))) (s₀ m ρ)
    (fun r => Pipeline.FramePost (Pipeline.pin pcfgs fun _ => adm m hR) (dats m hR) 0 (V m) r ∧ r.2.sem = fun _ => 0) :=
  Pipeline.θ_run_frameP (Q' := _) pcfgs (fun _ => adm m hR) (dats m hR) (0 : Fin 1) launch0 defs₀ Variants.none m ρ main
    (hbody := fun c => (body_obligation m hR c).loose) (hshare := fun c => (dats m hR 0 c).share_full fun _ => rfl)
    (howed := fun _ _ => rfl) (V := V m) (hmain := to_call m Variants.none) (hA := dats_A m hR) (hpf := V_pre m) (hΦ := fun _ _ => rfl)

/-- An input's array ends as it began. -/
theorem arr_in (c : Dev nD) (w : Fin (cfgM m hR).W) (hw : ((cfgM m hR).win w).isOut = false) :
    (dats m hR 0 c).arrAt w (cfgM m hR).N = V m c (Pipeline.arrRef spec0 w) :=
  ((dats m hR 0 c).arrAt_in w hw _).trans (dats_A m hR c w)

abbrev Unchanged (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)

theorem unchanged_of (r : PUnit × MemSt nD τ sig (Elt F)) (h : Pipeline.FramePost (Pipeline.pin pcfgs fun _ => adm m hR) (dats m hR) 0 (V m) r) (c : Dev nD) :
    Unchanged m r c :=
  ⟨((h c).1 0).trans ((arr_in m hR c 0 rfl).trans (V_of_ne m c main_arg0 (by decide))),
   ((h c).2 main_arg1 (by decide : main_arg1 ∈ Pipeline.restRefs sig spec0)).trans (V_of_ne m c main_arg1 (by decide)),
   ((h c).2 main_arg2 (by decide : main_arg2 ∈ Pipeline.restRefs sig spec0)).trans (V_of_ne m c main_arg2 (by decide)),
   ((h c).2 main_arg3 (by decide : main_arg3 ∈ Pipeline.restRefs sig spec0)).trans (V_of_ne m c main_arg3 (by decide)),
   ((h c).1 1).trans ((arr_in m hR c 1 rfl).trans (V_of_ne m c main_arg4 (by decide))),
   ((h c).2 main_arg5 (by decide : main_arg5 ∈ Pipeline.restRefs sig spec0)).trans (V_of_ne m c main_arg5 (by decide)),
   ((h c).1 3).trans ((arr_in m hR c 3 rfl).trans (V_of_ne m c main_arg6 (by decide))),
   ((h c).2 main_arg7 (by decide : main_arg7 ∈ Pipeline.restRefs sig spec0)).trans (V_of_ne m c main_arg7 (by decide)),
   ((h c).1 5).trans ((arr_in m hR c 5 rfl).trans (V_of_ne m c main_arg8 (by decide))),
   ((h c).2 main_arg9 (by decide : main_arg9 ∈ Pipeline.restRefs sig spec0)).trans (V_of_ne m c main_arg9 (by decide))⟩

include hR in
/-- The arguments end unchanged and the counters at zero. -/
theorem frame : θ_run defs (onTc (τ := τ) (main (F := F))) ⟨m, fun _ => 0, ρ⟩ (fun r => (∀ c : Dev nD, Unchanged m r c) ∧ r.2.sem = fun _ => 0) :=
  (θ_run defs _ _).mono (fun r h => ⟨fun c => unchanged_of m hR r h.1 c, h.2⟩) (run m ρ hR)

end Cert.ExpertsPacked.Hand

end
-- ==== Proof.ExpertsRanges.lean ====
module

public import proofs.«01_k».proof.Proof.Gen.Pre_blocks_in_range
public import proofs.«01_k».proof.Proof.Gen.On_used
public import Idealize.ShloMosaic.Lib.ReduceAll
public import Idealize.ShloMosaic.Lib.WordCmp
public import Idealize.ShloMosaic.Lib.Pointwise

/-! # What the precondition and the mask of used slots say -/

@[expose] public section

noncomputable section

namespace Cert.ExpertsRanges

open Idealize.ShloMosaic
open Idealize.ShloMosaic.WordCmp (ofBool_decide_eq_one_iff toInt_ofNat_of_lt)

variable {F : FTy → Type} [FloatOps F]

abbrev One : Shape := ⟨1, ![1]⟩
abbrev Blocks : Shape := ⟨1, ![288]⟩
abbrev Unit0 : Shape := ⟨0, ![]⟩

instance : Subsingleton Unit0.Idx := ⟨fun a b => funext fun d => d.elim0⟩

theorem andi_one {a b : BitVec 1} (h : IntOp.andi a b = 1#1) : a = 1#1 ∧ b = 1#1 := by
  revert a b; decide

theorem lt_of_slt {v : BitVec 32} {n : ℕ} (hn : n < 2147483648) (h : IntOp.cmpi .slt v (BitVec.ofNat 32 n) = 1#1) : v.toInt < (n : ℤ) := by
  have := (ofBool_decide_eq_one_iff _).mp h
  rwa [toInt_ofNat_of_lt (by show _ < 2147483648; omega)] at this

theorem le_of_sle {v : BitVec 32} {n : ℕ} (hn : n < 2147483648) (h : IntOp.cmpi .sle v (BitVec.ofNat 32 n) = 1#1) : v.toInt ≤ (n : ℤ) := by
  have := (ofBool_decide_eq_one_iff _).mp h
  rwa [toInt_ofNat_of_lt (by show _ < 2147483648; omega)] at this

theorem ge_of_sge {v : BitVec 32} {n : ℕ} (hn : n < 2147483648) (h : IntOp.cmpi .sge v (BitVec.ofNat 32 n) = 1#1) : (n : ℤ) ≤ v.toInt := by
  have := (ofBool_decide_eq_one_iff _).mp h
  rwa [toInt_ofNat_of_lt (by show _ < 2147483648; omega)] at this

theorem toNat_of_toInt (v : BitVec 32) (h : 0 ≤ v.toInt) : (v.toNat : ℤ) = v.toInt := by
  have hv := v.isLt
  rw [BitVec.toInt_eq_toNat_cond] at h ⊢
  split <;> split at h <;> omega

/-- The one word of a one-element array, read without its axis. -/
theorem scalar_of_one (x : IVec One 32) (h : One.ShapeCasts Unit0) (i : Unit0.Idx) : shapeCast Unit0 x h i = x (ix1 (n0 := 1) 0) := by
  show x _ = x _
  congr 1
  funext a
  exact match a with | ⟨0, _⟩ => Subsingleton.elim (α := Fin 1) _ _

/-- The precondition, in words: the experts' numbers are below 32, and between one and all of the blocks are in use. -/
theorem of_pre (a0 : IVec Cert.Pre_blocks_in_range.S294912x512 32) (be : IVec Blocks 32) (nu : IVec One 32) (nv : IVec Blocks 32)
    (wg : FVec F Cert.Pre_blocks_in_range.S32x1024x1024 .f32) (bg : FVec F Cert.Pre_blocks_in_range.S32x1024 .f32)
    (wl : FVec F Cert.Pre_blocks_in_range.S32x1024x1024 .f32) (bl : FVec F Cert.Pre_blocks_in_range.S32x1024 .f32)
    (wd : FVec F Cert.Pre_blocks_in_range.S32x1024x1024 .f32) (bd : FVec F Cert.Pre_blocks_in_range.S32x1024 .f32)
    (h : Cert.Pre_blocks_in_range.fn a0 be nu nv wg bg wl bl wd bd = fun _ => 1#1) :
    (∀ j : Blocks.Idx, (be j).toNat < 32) ∧ 1 ≤ (nu (ix1 (n0 := 1) 0)).toNat ∧ (nu (ix1 (n0 := 1) 0)).toNat ≤ 288 := by
  have i0 : Unit0.Idx := fun d => d.elim0
  have h0 := congrFun h i0
  obtain ⟨h1, hle⟩ := andi_one h0
  obtain ⟨hall, hge⟩ := andi_one h1
  have hle' : (nu (ix1 (n0 := 1) 0)).toInt ≤ (288 : ℕ) := by
    refine le_of_sle (by omega) ?_
    rw [← scalar_of_one nu Cert.Pre_blocks_in_range.Facts.shapeCasts_S1_S_ i0]; exact hle
  have hge' : ((1 : ℕ) : ℤ) ≤ (nu (ix1 (n0 := 1) 0)).toInt := by
    refine ge_of_sge (by omega) ?_
    rw [← scalar_of_one nu Cert.Pre_blocks_in_range.Facts.shapeCasts_S1_S_ i0]; exact hge
  have hn := toNat_of_toInt (nu (ix1 (n0 := 1) 0)) (by omega)
  refine ⟨fun j => ?_, by omega, by omega⟩
  have hj := Host.reduce_andi_all _ _ _ _ i0 hall j
  obtain ⟨hj0, hj1⟩ := andi_one hj
  have e0 : ((0 : ℕ) : ℤ) ≤ (be j).toInt := ge_of_sge (by omega) hj0
  have e1 : (be j).toInt < ((32 : ℕ) : ℤ) := lt_of_slt (by omega) hj1
  have := toNat_of_toInt (be j) (by omega)
  omega

/-- The mask, in words: a slot it marks belongs to a block in use. -/
theorem of_used (a0 : IVec Cert.On_used.S294912x512 32) (be : IVec Blocks 32) (nu : IVec One 32) (nv : IVec Blocks 32)
    (wg : FVec F Cert.On_used.S32x1024x1024 .f32) (bg : FVec F Cert.On_used.S32x1024 .f32)
    (wl : FVec F Cert.On_used.S32x1024x1024 .f32) (bl : FVec F Cert.On_used.S32x1024 .f32)
    (wd : FVec F Cert.On_used.S32x1024x1024 .f32) (bd : FVec F Cert.On_used.S32x1024 .f32)
    (hn : (nu (ix1 (n0 := 1) 0)).toNat ≤ 288) (i : Cert.On_used.S294912x1024.Idx)
    (h : Cert.On_used.fn a0 be nu nv wg bg wl bl wd bd i = 1#1) :
    (i 0).val / 1024 < (nu (ix1 (n0 := 1) 0)).toNat := by
  have h' : IntOp.cmpi .slt (BitVec.ofNat 32 (i 0).val) (shapeCast Unit0 nu Cert.On_used.Facts.shapeCasts_S1_S_ (fun d => d.elim0) * 1024#32) = 1#1 := by
    refine Eq.trans ?_ h
    show IntOp.cmpi .slt _ _ = IntOp.cmpi .slt _ _
    congr 1
  rw [scalar_of_one] at h'
  have hi : (i 0).val < 294912 := (i 0).isLt
  have e : (nu (ix1 (n0 := 1) 0) * 1024#32).toNat = (nu (ix1 (n0 := 1) 0)).toNat * 1024 := by
    rw [BitVec.toNat_mul]
    show (_ * 1024) % 4294967296 = _
    omega
  have hb := (WordCmp.ofBool_decide_eq_one_iff _).mp h'
  rw [toInt_ofNat_of_lt (by show _ < 2147483648; omega), WordCmp.toInt_eq_toNat_of_lt_half (by rw [e]; show _ < 2147483648; omega), e] at hb
  omega

end Cert.ExpertsRanges

end
-- ==== Proof.ExpertsFrames.lean ====
module

public import proofs.«01_k».proof.Defs
public import proofs.«01_k».proof.Proof.ExpertsRun
public import proofs.«01_k».proof.Proof.ExpertsBitsRun
public import proofs.«01_k».proof.Proof.ExpertsPackedRun
public import proofs.«01_k».proof.Proof.ExpertsRanges
public import proofs.«01_k».proof.Proof.Gen.ExpertsRefIdeal.Run
public import Idealize.ShloMosaic.Adequacy

/-! # The experts' frames: under the precondition the tables are in range, so the calls run -/

@[expose] public section

noncomputable section

open Idealize.ShloMosaic Idealize.ShloMosaic.TcCoe Idealize.SL.Sem

namespace Cert.ExpertsIdeal.Hand

open Cert.ExpertsIdeal Cert.ExpertsIdeal.Gen

theorem inRange (m : (ℓ : Loc nD τ sig) → Buf (Elt Ideal) ℓ) (h : Cert.Pre_ExpertsIdeal m) : InRange (tbl m) := by
  obtain ⟨he, h1, h2⟩ := Cert.ExpertsRanges.of_pre _ _ _ _ _ _ _ _ _ _ (h (0 : Dev nD))
  have e1 : tbl m 0 = m (((0 : Dev nD).tc : Thread nD τ).loc main_arg1) := V_of_ne m 0 main_arg1 (by decide)
  have e2 : tbl m 1 = m (((0 : Dev nD).tc : Thread nD τ).loc main_arg2) := V_of_ne m 0 main_arg2 (by decide)
  refine ⟨fun j => ?_, ?_, ?_⟩
  · exact Eq.mp (congrArg (fun f : S288.Idx → BitVec 32 => (f j).toNat < 32) e1.symm) (he j)
  · exact Eq.mp (congrArg (fun f : S1.Idx → BitVec 32 => 1 ≤ (f (ix1 (n0 := 1) 0)).toNat) e2.symm) h1
  · exact Eq.mp (congrArg (fun f : S1.Idx → BitVec 32 => (f (ix1 (n0 := 1) 0)).toNat ≤ 288) e2.symm) h2

theorem quiescent : Cert.quiescent_ExpertsIdeal := fun m ρ h => frame m ρ (inRange m h)

end Cert.ExpertsIdeal.Hand

namespace Cert.Experts.Hand

open Cert.Experts Cert.Experts.Gen

theorem inRange (m : (ℓ : Loc nD τ sig) → Buf (Elt Bits) ℓ) (h : Cert.Pre_Experts m) : InRange (tbl m) := by
  obtain ⟨he, h1, h2⟩ := Cert.ExpertsRanges.of_pre _ _ _ _ _ _ _ _ _ _ (h (0 : Dev nD))
  have e1 : tbl m 0 = m (((0 : Dev nD).tc : Thread nD τ).loc main_arg1) := V_of_ne m 0 main_arg1 (by decide)
  have e2 : tbl m 1 = m (((0 : Dev nD).tc : Thread nD τ).loc main_arg2) := V_of_ne m 0 main_arg2 (by decide)
  refine ⟨fun j => ?_, ?_, ?_⟩
  · exact Eq.mp (congrArg (fun f : S288.Idx → BitVec 32 => (f j).toNat < 32) e1.symm) (he j)
  · exact Eq.mp (congrArg (fun f : S1.Idx → BitVec 32 => 1 ≤ (f (ix1 (n0 := 1) 0)).toNat) e2.symm) h1
  · exact Eq.mp (congrArg (fun f : S1.Idx → BitVec 32 => (f (ix1 (n0 := 1) 0)).toNat ≤ 288) e2.symm) h2

theorem quiescent : Cert.quiescent_Experts := fun m ρ h => frame m ρ (inRange m h)

end Cert.Experts.Hand

namespace Cert.ExpertsPacked.Hand

open Cert.ExpertsPacked Cert.ExpertsPacked.Gen

theorem inRange (m : (ℓ : Loc nD τ sig) → Buf (Elt Bits) ℓ) (h : Cert.Pre_ExpertsPacked m) : InRange (tbl m) := by
  obtain ⟨he, h1, h2⟩ := Cert.ExpertsRanges.of_pre _ _ _ _ _ _ _ _ _ _ (h (0 : Dev nD))
  have e1 : tbl m 0 = m (((0 : Dev nD).tc : Thread nD τ).loc main_arg1) := V_of_ne m 0 main_arg1 (by decide)
  have e2 : tbl m 1 = m (((0 : Dev nD).tc : Thread nD τ).loc main_arg2) := V_of_ne m 0 main_arg2 (by decide)
  refine ⟨fun j => ?_, ?_, ?_⟩
  · exact Eq.mp (congrArg (fun f : S288.Idx → BitVec 32 => (f j).toNat < 32) e1.symm) (he j)
  · exact Eq.mp (congrArg (fun f : S1.Idx → BitVec 32 => 1 ≤ (f (ix1 (n0 := 1) 0)).toNat) e2.symm) h1
  · exact Eq.mp (congrArg (fun f : S1.Idx → BitVec 32 => (f (ix1 (n0 := 1) 0)).toNat ≤ 288) e2.symm) h2

theorem quiescent : Cert.quiescent_ExpertsPacked := fun m ρ h => frame m ρ (inRange m h)

end Cert.ExpertsPacked.Hand

namespace Cert.ExpertsRefIdeal.Hand

theorem quiescent : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

theorem quiescent_pre : Cert.quiescent_ExpertsRefIdeal_pre_blocks_in_range := fun m ρ _ => quiescent m ρ trivial

end Cert.ExpertsRefIdeal.Hand

end
-- ==== Proof.ExpertsForm.lean ====
/- What an expert makes of one token's row, as extended reals: two linear maps of the row, each with its bias, the first capped
   above and the second clipped, their gated product, and a third linear map of it. The gate's two spellings, by the hyperbolic
   tangent and by the exponential, agree. -/
module

public import Idealize.ShloMosaic.PureOps.Ideal
public import Idealize.ShloMosaic.Lib.IdealHost

@[expose] public section

noncomputable section

namespace Cert.ExpertsForm

open Idealize.ShloMosaic

/-- The bf16 at column `n` of a row of 512 words: the low half of word `n`, or the high half of word `n - 512`. -/
def half (w : Fin 512 → BitVec 32) (n : Fin 1024) : EReal :=
  if h : n.val < 512 then Ideal.ofBits .bf16 ((w ⟨n.val, h⟩).extractLsb' 0 16)
  else Ideal.ofBits .bf16 ((w ⟨n.val - 512, by omega⟩).extractLsb' 16 16)

/-- Row `r` of a block of tokens: its words' values if `r` is among the `nv` rows in use, zero otherwise. -/
def tok (w : Fin 512 → BitVec 32) (nv : BitVec 32) (r n : Fin 1024) : EReal :=
  if (BitVec.ofNat 32 r.val).slt nv then half w n else 0

/-- A linear map with a bias. -/
def lin (x : Fin 1024 → EReal) (W : Fin 1024 → Fin 1024 → EReal) (b : Fin 1024 → EReal) (n : Fin 1024) : EReal :=
  (∑ k : Fin 1024, x k * W k n) + b n

/-- The first map's value, capped at seven. -/
def cap (a : EReal) : EReal := min a (Ideal.ofBits .f32 0x40E00000#32)
/-- The second map's value, clipped to seven on both sides. -/
def clip (a : EReal) : EReal := min (Ideal.ofBits .f32 0x40E00000#32) (max (Ideal.ofBits .f32 0xC0E00000#32) a)

/-- The gated product, the gate by the exponential. -/
def act (g l : EReal) : EReal :=
  g * Ideal.div (Ideal.ofBits .f32 0x3F800000#32) (Ideal.ofBits .f32 0x3F800000#32 + Ideal.exp (-(Ideal.ofBits .f32 0x3FD9DB23#32 * g)))
    * (l + Ideal.ofBits .f32 0x3F800000#32)
/-- The gated product, the gate by the hyperbolic tangent. -/
def actT (g l : EReal) : EReal :=
  Ideal.ofBits .f32 0x3F000000#32 * g * (Ideal.ofBits .f32 0x3F800000#32 + Ideal.tanh (Ideal.ofBits .f32 0x3F59DB23#32 * g))
    * (l + Ideal.ofBits .f32 0x3F800000#32)

/-- The result row. -/
def row (x : Fin 1024 → EReal) (Wg : Fin 1024 → Fin 1024 → EReal) (bg : Fin 1024 → EReal) (Wl : Fin 1024 → Fin 1024 → EReal)
    (bl : Fin 1024 → EReal) (Wd : Fin 1024 → Fin 1024 → EReal) (bd : Fin 1024 → EReal) (n : Fin 1024) : EReal :=
  lin (fun k => act (cap (lin x Wg bg k)) (clip (lin x Wl bl k))) Wd bd n

/-- Slot `i`'s result row: its block `i / 1024` names the expert and how many of the block's rows are in use. -/
def slot (x : Fin 294912 → Fin 512 → BitVec 32) (be nv : Fin 288 → BitVec 32) (wg : Fin 32 → Fin 1024 → Fin 1024 → EReal) (bg : Fin 32 → Fin 1024 → EReal)
    (wl : Fin 32 → Fin 1024 → Fin 1024 → EReal) (bl : Fin 32 → Fin 1024 → EReal) (wd : Fin 32 → Fin 1024 → Fin 1024 → EReal) (bd : Fin 32 → Fin 1024 → EReal)
    (t : Fin 288) (r n : Fin 1024) : EReal :=
  row (tok (x ⟨t.val * 1024 + r.val, by omega⟩) (nv t) r)
    (wg ⟨(be t).toNat % 32, Nat.mod_lt _ (by omega)⟩) (bg ⟨(be t).toNat % 32, Nat.mod_lt _ (by omega)⟩)
    (wl ⟨(be t).toNat % 32, Nat.mod_lt _ (by omega)⟩) (bl ⟨(be t).toNat % 32, Nat.mod_lt _ (by omega)⟩)
    (wd ⟨(be t).toNat % 32, Nat.mod_lt _ (by omega)⟩) (bd ⟨(be t).toNat % 32, Nat.mod_lt _ (by omega)⟩) n

theorem half_f32 : Ideal.ofBits .f32 0x3F000000#32 = ((1 / 2 : ℝ) : EReal) := by
  simp [Ideal.ofBits, Ideal.ieee]; rw [← EReal.coe_mul]; norm_num
theorem seven_f32 : Ideal.ofBits .f32 0x40E00000#32 = ((7 : ℝ) : EReal) := by
  simp [Ideal.ofBits, Ideal.ieee]; rw [← EReal.coe_mul]; norm_num
theorem slope_f32 : Ideal.ofBits .f32 0x3F59DB23#32 = ((14277411 / 16777216 : ℝ) : EReal) := by
  simp [Ideal.ofBits, Ideal.ieee]; rw [← EReal.coe_mul]; norm_num
theorem slope2_f32 : Ideal.ofBits .f32 0x3FD9DB23#32 = ((14277411 / 8388608 : ℝ) : EReal) := by
  simp [Ideal.ofBits, Ideal.ieee]; rw [← EReal.coe_mul]; norm_num

/-- Half of one plus the hyperbolic tangent is the logistic function of twice the argument. -/
theorem tanh_logistic (y : ℝ) : 1 / 2 * (1 + Real.tanh y) = (1 + Real.exp (-(2 * y)))⁻¹ := by
  rw [Real.tanh_eq_sinh_div_cosh, Real.sinh_eq, Real.cosh_eq]
  have h1 : Real.exp y ≠ 0 := (Real.exp_pos y).ne'
  have h2 : Real.exp (-(2 * y)) = (Real.exp y)⁻¹ * (Real.exp y)⁻¹ := by
    rw [← Real.exp_neg, ← Real.exp_add]; congr 1; ring
  rw [h2, Real.exp_neg]
  have h3 : Real.exp y * Real.exp y + 1 ≠ 0 := by positivity
  have h4 : 0 < Real.exp y := Real.exp_pos y
  field_simp
  ring

/-- Under the cap the two spellings of the gated product agree. -/
theorem actT_eq (a l : EReal) : actT (cap a) l = act (cap a) l := by
  have hc : cap a ≤ ((7 : ℝ) : EReal) := by rw [cap, seven_f32]; exact min_le_right _ _
  generalize cap a = g at hc
  unfold actT act
  congr 1
  rw [half_f32, slope_f32, slope2_f32, Ideal.ofBits_one_f32]
  induction g using EReal.rec with
  | bot =>
    rw [EReal.coe_mul_bot_of_pos (by norm_num), EReal.coe_mul_bot_of_pos (by norm_num), EReal.coe_mul_bot_of_pos (by norm_num)]
    have : (1 : EReal) + -1 = 0 := by
      rw [← EReal.coe_one, ← EReal.coe_neg, ← EReal.coe_add]; norm_num
    have ht : (1 : EReal) + ⊤ = ⊤ := EReal.add_top_of_ne_bot (by rw [← EReal.coe_one]; exact EReal.coe_ne_bot _)
    simp [Ideal.div, this, ht]
  | top => exact absurd hc (by simp)
  | coe x =>
    have e : ∀ y : EReal, Ideal.div 1 (1 + Ideal.exp (-y)) = Ideal.logistic y := fun _ => rfl
    rw [e, ← EReal.coe_mul, ← EReal.coe_mul, ← EReal.coe_mul, Ideal.logistic_coe, Ideal.tanh_coe, ← EReal.coe_one, ← EReal.coe_add,
      ← EReal.coe_mul, ← EReal.coe_mul]
    congr 1
    rw [show (14277411 / 8388608 * x : ℝ) = 2 * (14277411 / 16777216 * x) by ring, ← tanh_logistic]
    ring

end Cert.ExpertsForm

end
-- ==== Proof.ExpertsPay.lean ====
/- What the experts' body stores at row `r` and column `n` of its block, at the extended reals. -/
module

public import proofs.«01_k».proof.Proof.ExpertsBody
public import proofs.«01_k».proof.Proof.ExpertsForm
public import Idealize.ShloMosaic.Lib.Pointwise
public import Idealize.ShloMosaic.Lib.Pipeline.ValueKit

@[expose] public section

noncomputable section

namespace Cert.ExpertsIdeal.Hand

open Cert.ExpertsIdeal Cert.ExpertsIdeal.Gen Cert.ExpertsIdeal.Facts Cert.ExpertsForm
open Idealize.ShloMosaic Idealize.ShloMosaic.TcCoe

theorem half_zero (n : Fin 1024) : half (fun _ => 0#32) n = 0 := by
  unfold half
  split <;> simp

theorem pay2_apply (v : Elt Ideal .i32) (x0 : Vec Ideal S1024x512 .i32) (r n : Fin 1024) :
    k0_pay2 (F := Ideal) v x0 (ix2 r n) = tok (fun c => x0 (ix2 r c)) v r n := by
  pointwise [k0_pay2]
  show half (fun c => Scalar.select (IntOp.cmpi CmpIPredicate.slt (BitVec.ofNat 32 r.val) v) (x0 (ix2 r c)) 0#32) n = _
  have hc : IntOp.cmpi CmpIPredicate.slt (BitVec.ofNat 32 r.val) v = BitVec.ofBool ((BitVec.ofNat 32 r.val).slt v) := rfl
  rw [hc]
  unfold tok
  cases (BitVec.ofNat 32 r.val).slt v
  · exact half_zero n
  · rfl

theorem pay3_apply (v : Elt Ideal .i32) (x0 : Vec Ideal S1024x512 .i32) (x1 : Vec Ideal S1x1024x1024 .f32) (x2 : Vec Ideal S1x1x1024 .f32) (r n : Fin 1024) :
    k0_pay3 (F := Ideal) v x0 x1 x2 (ix2 r n)
      = cap (lin (tok (fun c => x0 (ix2 r c)) v r) (fun k n => x1 (ix3 0 k n)) (fun n => x2 (ix3 0 0 n)) n) := by
  pointwise [k0_pay3, pay2_apply]
  rfl

theorem pay4_apply (v : Elt Ideal .i32) (x0 : Vec Ideal S1024x512 .i32) (x1 : Vec Ideal S1x1024x1024 .f32) (x2 : Vec Ideal S1x1x1024 .f32) (r n : Fin 1024) :
    k0_pay4 (F := Ideal) v x0 x1 x2 (ix2 r n)
      = clip (lin (tok (fun c => x0 (ix2 r c)) v r) (fun k n => x1 (ix3 0 k n)) (fun n => x2 (ix3 0 0 n)) n) := by
  pointwise [k0_pay4, pay2_apply]
  rfl

theorem pay1_apply (g l h : FVec Ideal S1024x1024 .f32) (s : Ideal .f32) (x5 : Vec Ideal S1x1024x1024 .f32) (x6 : Vec Ideal S1x1x1024 .f32) (r n : Fin 1024) :
    k0_pay1 (F := Ideal) g l h s x5 x6 (ix2 r n)
      = lin (fun k => h (ix2 r k) * (Ideal.ofBits .f32 0x3F800000#32 + Ideal.tanh (s * g (ix2 r k))) * (l (ix2 r k) + Ideal.ofBits .f32 0x3F800000#32))
          (fun k n => x5 (ix3 0 k n)) (fun n => x6 (ix3 0 0 n)) n := by
  pointwise [k0_pay1]
  rfl

/-- The block the body leaves, at row `r` and column `n`. -/
theorem outBlock_apply (v : Elt Ideal .i32) (x0 : Vec Ideal S1024x512 .i32) (x1 : Vec Ideal S1x1024x1024 .f32) (x2 : Vec Ideal S1x1x1024 .f32)
    (x3 : Vec Ideal S1x1024x1024 .f32) (x4 : Vec Ideal S1x1x1024 .f32) (x5 : Vec Ideal S1x1024x1024 .f32) (x6 : Vec Ideal S1x1x1024 .f32) (r n : Fin 1024) :
    outBlock (F := Ideal) v x0 x1 x2 x3 x4 x5 x6 (ix2 r n)
      = row (tok (fun c => x0 (ix2 r c)) v r) (fun k n => x1 (ix3 0 k n)) (fun n => x2 (ix3 0 0 n)) (fun k n => x3 (ix3 0 k n))
          (fun n => x4 (ix3 0 0 n)) (fun k n => x5 (ix3 0 k n)) (fun n => x6 (ix3 0 0 n)) n := by
  unfold outBlock
  frame_out
  rw [pay1_apply]
  unfold row
  congr 1
  funext k
  have h5 : k0_pay5 (F := Ideal) v x0 x1 x2 (ix2 r k) = Ideal.ofBits .f32 0x3F000000#32 * k0_pay3 (F := Ideal) v x0 x1 x2 (ix2 r k) := rfl
  rw [h5, pay3_apply, pay4_apply]
  exact actT_eq _ _

/-- The same, of the values its operands have. -/
theorem outBlock_eq {v : Elt Ideal .i32} {x0 : Vec Ideal S1024x512 .i32} {x1 : Vec Ideal S1x1024x1024 .f32} {x2 : Vec Ideal S1x1x1024 .f32}
    {x3 : Vec Ideal S1x1024x1024 .f32} {x4 : Vec Ideal S1x1x1024 .f32} {x5 : Vec Ideal S1x1024x1024 .f32} {x6 : Vec Ideal S1x1x1024 .f32} {r : Fin 1024}
    {v' : BitVec 32} {X : Fin 512 → BitVec 32} {W1 W3 W5 : Fin 1024 → Fin 1024 → EReal} {b2 b4 b6 : Fin 1024 → EReal}
    (hv : v = v') (h0 : ∀ k, x0 (ix2 r k) = X k) (h1 : ∀ k n, x1 (ix3 0 k n) = W1 k n) (h2 : ∀ n, x2 (ix3 0 0 n) = b2 n)
    (h3 : ∀ k n, x3 (ix3 0 k n) = W3 k n) (h4 : ∀ n, x4 (ix3 0 0 n) = b4 n) (h5 : ∀ k n, x5 (ix3 0 k n) = W5 k n) (h6 : ∀ n, x6 (ix3 0 0 n) = b6 n) (n : Fin 1024) :
    outBlock (F := Ideal) v x0 x1 x2 x3 x4 x5 x6 (ix2 r n) = row (tok X v' r) W1 b2 W3 b4 W5 b6 n := by
  rw [outBlock_apply]
  simp only [hv, h0, h1, h2, h3, h4, h5, h6]

end Cert.ExpertsIdeal.Hand

end
-- ==== Proof.ExpertsValue.lean ====
/- The array the experts' call leaves, on the slots of the blocks in use. -/
module

public import proofs.«01_k».proof.Proof.ExpertsRun
public import proofs.«01_k».proof.Proof.ExpertsPay

@[expose] public section

set_option maxRecDepth 16384

noncomputable section

namespace Cert.ExpertsIdeal.Hand

open Cert.ExpertsIdeal Cert.ExpertsIdeal.Gen Cert.ExpertsIdeal.Facts Cert.ExpertsForm
open Idealize.ShloMosaic Idealize.ShloMosaic.TcCoe Idealize.SL.Sem
open Idealize.ShloMosaic.Pipeline (Dat Window)

variable (m : (ℓ : Loc nD τ sig) → Buf (Elt Ideal) ℓ) (hR : InRange (tbl m))

/-- The host's three reshapes, as the call finds them. -/
theorem V_v0 (c : Dev nD) : V m c main_v0 = shapeCast S32x1x1024 (m ((c : Thread nD τ).loc main_arg5)) shapeCasts_S32x1024_S32x1x1024 := by
  dsimp only [V, hostOps0]
  after_results_simp <;> rfl
theorem V_v1 (c : Dev nD) : V m c main_v1 = shapeCast S32x1x1024 (m ((c : Thread nD τ).loc main_arg7)) shapeCasts_S32x1024_S32x1x1024 := by
  dsimp only [V, hostOps0]
  after_results_simp <;> rfl
theorem V_v2 (c : Dev nD) : V m c main_v2 = shapeCast S32x1x1024 (m ((c : Thread nD τ).loc main_arg9)) shapeCasts_S32x1024_S32x1x1024 := by
  dsimp only [V, hostOps0]
  after_results_simp <;> rfl

/-- Block `t`'s expert. -/
def expF (t : Fin 288) : Fin 32 := ⟨(expertOf (tbl m) (ix1 (n0 := 288) t)).toNat, hR.expert _⟩

theorem index0_at (t : Fin (cfgM m hR).N) (a : Fin 2) : ((cfgM m hR).win 0).index t a = ![(lastUsed m t).val, 0] a := congrFun (index7_row m hR t) a
theorem index1_at (t : Fin (cfgM m hR).N) (a : Fin 3) : ((cfgM m hR).win 1).index t a = ![(expF m hR (grid0.coords t 0)).val, 0, 0] a := congrFun (index1 (tbl m) (grid0.coords t)) a
theorem index2_at (t : Fin (cfgM m hR).N) (a : Fin 3) : ((cfgM m hR).win 2).index t a = ![(expF m hR (grid0.coords t 0)).val, 0, 0] a := congrFun (index1 (tbl m) (grid0.coords t)) a
theorem index3_at (t : Fin (cfgM m hR).N) (a : Fin 3) : ((cfgM m hR).win 3).index t a = ![(expF m hR (grid0.coords t 0)).val, 0, 0] a := congrFun (index1 (tbl m) (grid0.coords t)) a
theorem index4_at (t : Fin (cfgM m hR).N) (a : Fin 3) : ((cfgM m hR).win 4).index t a = ![(expF m hR (grid0.coords t 0)).val, 0, 0] a := congrFun (index1 (tbl m) (grid0.coords t)) a
theorem index5_at (t : Fin (cfgM m hR).N) (a : Fin 3) : ((cfgM m hR).win 5).index t a = ![(expF m hR (grid0.coords t 0)).val, 0, 0] a := congrFun (index1 (tbl m) (grid0.coords t)) a
theorem index6_at (t : Fin (cfgM m hR).N) (a : Fin 3) : ((cfgM m hR).win 6).index t a = ![(expF m hR (grid0.coords t 0)).val, 0, 0] a := congrFun (index1 (tbl m) (grid0.coords t)) a

theorem iblk0 (c : Dev nD) (t : Fin (cfgM m hR).N) (T : Fin 294912) (r : Fin 1024) (k : Fin 512) (hT : T.val = (lastUsed m t).val * 1024 + r.val) :
    iblk m hR c 0 t (ix2 r k : S1024x512.Idx) = m ((c : Thread nD τ).loc main_arg0) (ix2 T k) := by
  rw [← V_of_ne m c main_arg0 (by decide)]
  blk_simp [iblk]
  refine congrArg (V m c main_arg0) (by
    blk_ext
    · exact (congrArg (fun q : ℕ => q * 1024 + r.val) (index0_at m hR t 0)).trans hT.symm
    · exact (congrArg (fun q : ℕ => q * 512 + k.val) (index0_at m hR t 1)).trans (by show 0 * 512 + k.val = k.val; omega))

theorem iblk1 (c : Dev nD) (t : Fin (cfgM m hR).N) (k n : Fin 1024) :
    iblk m hR c 1 t (ix3 0 k n : S1x1024x1024.Idx) = m ((c : Thread nD τ).loc main_arg4) (ix3 (expF m hR (grid0.coords t 0)) k n) := by
  rw [← V_of_ne m c main_arg4 (by decide)]
  blk_simp [iblk]
  refine congrArg (V m c main_arg4) (by
    blk_ext
    · exact index1_at m hR t 0
    · exact (congrArg (fun q : ℕ => q * 1024 + k.val) (index1_at m hR t 1)).trans (by show 0 * 1024 + k.val = k.val; omega)
    · exact (congrArg (fun q : ℕ => q * 1024 + n.val) (index1_at m hR t 2)).trans (by show 0 * 1024 + n.val = n.val; omega))
theorem iblk3 (c : Dev nD) (t : Fin (cfgM m hR).N) (k n : Fin 1024) :
    iblk m hR c 3 t (ix3 0 k n : S1x1024x1024.Idx) = m ((c : Thread nD τ).loc main_arg6) (ix3 (expF m hR (grid0.coords t 0)) k n) := by
  rw [← V_of_ne m c main_arg6 (by decide)]
  blk_simp [iblk]
  refine congrArg (V m c main_arg6) (by
    blk_ext
    · exact index3_at m hR t 0
    · exact (congrArg (fun q : ℕ => q * 1024 + k.val) (index3_at m hR t 1)).trans (by show 0 * 1024 + k.val = k.val; omega)
    · exact (congrArg (fun q : ℕ => q * 1024 + n.val) (index3_at m hR t 2)).trans (by show 0 * 1024 + n.val = n.val; omega))
theorem iblk5 (c : Dev nD) (t : Fin (cfgM m hR).N) (k n : Fin 1024) :
    iblk m hR c 5 t (ix3 0 k n : S1x1024x1024.Idx) = m ((c : Thread nD τ).loc main_arg8) (ix3 (expF m hR (grid0.coords t 0)) k n) := by
  rw [← V_of_ne m c main_arg8 (by decide)]
  blk_simp [iblk]
  refine congrArg (V m c main_arg8) (by
    blk_ext
    · exact index5_at m hR t 0
    · exact (congrArg (fun q : ℕ => q * 1024 + k.val) (index5_at m hR t 1)).trans (by show 0 * 1024 + k.val = k.val; omega)
    · exact (congrArg (fun q : ℕ => q * 1024 + n.val) (index5_at m hR t 2)).trans (by show 0 * 1024 + n.val = n.val; omega))
theorem iblk2 (c : Dev nD) (t : Fin (cfgM m hR).N) (n : Fin 1024) :
    iblk m hR c 2 t (ix3 0 0 n : S1x1x1024.Idx) = m ((c : Thread nD τ).loc main_arg5) (ix2 (expF m hR (grid0.coords t 0)) n) := by
  have h : iblk m hR c 2 t (ix3 0 0 n : S1x1x1024.Idx) = V m c main_v0 (ix3 (expF m hR (grid0.coords t 0)) 0 n : S32x1x1024.Idx) := by
    blk_simp [iblk]
    refine congrArg (V m c main_v0) (by
      blk_ext
      · exact index2_at m hR t 0
      · exact index2_at m hR t 1
      · exact (congrArg (fun q : ℕ => q * 1024 + n.val) (index2_at m hR t 2)).trans (by show 0 * 1024 + n.val = n.val; omega))
  rw [h, V_v0]
  pointwise
theorem iblk4 (c : Dev nD) (t : Fin (cfgM m hR).N) (n : Fin 1024) :
    iblk m hR c 4 t (ix3 0 0 n : S1x1x1024.Idx) = m ((c : Thread nD τ).loc main_arg7) (ix2 (expF m hR (grid0.coords t 0)) n) := by
  have h : iblk m hR c 4 t (ix3 0 0 n : S1x1x1024.Idx) = V m c main_v1 (ix3 (expF m hR (grid0.coords t 0)) 0 n : S32x1x1024.Idx) := by
    blk_simp [iblk]
    refine congrArg (V m c main_v1) (by
      blk_ext
      · exact index4_at m hR t 0
      · exact index4_at m hR t 1
      · exact (congrArg (fun q : ℕ => q * 1024 + n.val) (index4_at m hR t 2)).trans (by show 0 * 1024 + n.val = n.val; omega))
  rw [h, V_v1]
  pointwise
theorem iblk6 (c : Dev nD) (t : Fin (cfgM m hR).N) (n : Fin 1024) :
    iblk m hR c 6 t (ix3 0 0 n : S1x1x1024.Idx) = m ((c : Thread nD τ).loc main_arg9) (ix2 (expF m hR (grid0.coords t 0)) n) := by
  have h : iblk m hR c 6 t (ix3 0 0 n : S1x1x1024.Idx) = V m c main_v2 (ix3 (expF m hR (grid0.coords t 0)) 0 n : S32x1x1024.Idx) := by
    blk_simp [iblk]
    refine congrArg (V m c main_v2) (by
      blk_ext
      · exact index6_at m hR t 0
      · exact index6_at m hR t 1
      · exact (congrArg (fun q : ℕ => q * 1024 + n.val) (index6_at m hR t 2)).trans (by show 0 * 1024 + n.val = n.val; omega))
  rw [h, V_v2]
  pointwise

/-- Slot `t * 1024 + r`'s result, of the arguments. -/
def slotOf (c : Dev nD) (t : Fin 288) (r n : Fin 1024) : EReal :=
  slot (fun i k => (m ((c : Thread nD τ).loc main_arg0) : S294912x512.Idx → BitVec 32) (ix2 i k))
    (fun j => (m ((c : Thread nD τ).loc main_arg1) : S288.Idx → BitVec 32) (ix1 j))
    (fun j => (m ((c : Thread nD τ).loc main_arg3) : S288.Idx → BitVec 32) (ix1 j))
    (fun e k n => (m ((c : Thread nD τ).loc main_arg4) : S32x1024x1024.Idx → EReal) (ix3 e k n)) (fun e n => (m ((c : Thread nD τ).loc main_arg5) : S32x1024.Idx → EReal) (ix2 e n))
    (fun e k n => (m ((c : Thread nD τ).loc main_arg6) : S32x1024x1024.Idx → EReal) (ix3 e k n)) (fun e n => (m ((c : Thread nD τ).loc main_arg7) : S32x1024.Idx → EReal) (ix2 e n))
    (fun e k n => (m ((c : Thread nD τ).loc main_arg8) : S32x1024x1024.Idx → EReal) (ix3 e k n)) (fun e n => (m ((c : Thread nD τ).loc main_arg9) : S32x1024.Idx → EReal) (ix2 e n))
    t r n

/-- A block in use ends at its slots' results. -/
theorem leftBlock_apply (c : Dev nD) (t : Fin (cfgM m hR).N) (t' : Fin 288) (e : t'.val = t.val) (h : t.val < used m) (r n : Fin 1024) :
    leftBlock m hR c t (ix2 r n) = slotOf m c t' r n := by
  obtain rfl : c = 0 := Subsingleton.elim (α := Fin 1) _ _
  have hc : (grid0.coords t 0 : Fin 288) = t' := Fin.ext ((coords_val t).trans e.symm)
  have hv : rowsWord (0 : Dev nD) (grid0.coords t) (tbl m 2) = (m (((0 : Dev nD) : Thread nD τ).loc main_arg3) : S288.Idx → BitVec 32) (ix1 t') := by
    have e2 : tbl m 2 = m (((0 : Dev nD) : Thread nD τ).loc main_arg3) := V_of_ne m 0 main_arg3 (by decide)
    show (tbl m 2 : S288.Idx → BitVec 32) (ix1 (n0 := 288) (grid0.coords t 0)) = _
    rw [hc, e2]
  have hm : (⟨((m (((0 : Dev nD) : Thread nD τ).loc main_arg1) : S288.Idx → BitVec 32) (ix1 t')).toNat % 32, Nat.mod_lt _ (by omega)⟩ : Fin 32) = expF m hR (grid0.coords t 0) := by
    have e1 : tbl m 0 = m (((0 : Dev nD) : Thread nD τ).loc main_arg1) := V_of_ne m 0 main_arg1 (by decide)
    apply Fin.ext
    rw [hc]
    show ((m (((0 : Dev nD) : Thread nD τ).loc main_arg1) : S288.Idx → BitVec 32) (ix1 t')).toNat % 32 = ((tbl m 0 : S288.Idx → BitVec 32) (ix1 t')).toNat
    rw [← e1]
    exact Nat.mod_eq_of_lt (hR.expert (ix1 t'))
  refine (outBlock_eq (v' := (m (((0 : Dev nD) : Thread nD τ).loc main_arg3) : S288.Idx → BitVec 32) (ix1 t')) hv
    (fun k => iblk0 m hR 0 t (⟨t'.val * 1024 + r.val, by omega⟩ : Fin 294912) r k (by
      rw [lastUsed_of_lt m t h]; show t'.val * 1024 + r.val = t.val * 1024 + r.val; omega))
    (iblk1 m hR 0 t) (iblk2 m hR 0 t) (iblk3 m hR 0 t) (iblk4 m hR 0 t) (iblk5 m hR 0 t) (iblk6 m hR 0 t) n).trans ?_
  unfold slotOf slot
  rw [hm]

/-- Element `i` of the result, of the arguments. -/
def resAt (c : Dev nD) (i : S294912x1024.Idx) : EReal :=
  slotOf m c ⟨(i 0).val / 1024, by have h : (i 0).val < 294912 := (i 0).isLt; omega⟩ ⟨(i 0).val % 1024, Nat.mod_lt _ (by omega)⟩ (i 1)

theorem resAt_ix2 (c : Dev nD) (t : Fin 288) (r n : Fin 1024) (T : Fin 294912) (hT : T.val = t.val * 1024 + r.val) : resAt m c (ix2 T n) = slotOf m c t r n := by
  unfold resAt
  have e1 : (⟨T.val / 1024, by omega⟩ : Fin 288) = t := Fin.ext (by show T.val / 1024 = t.val; omega)
  have e2 : (⟨T.val % 1024, Nat.mod_lt _ (by omega)⟩ : Fin 1024) = r := Fin.ext (by show T.val % 1024 = r.val; omega)
  show slotOf m c (⟨T.val / 1024, _⟩ : Fin 288) (⟨T.val % 1024, _⟩ : Fin 1024) n = _
  rw [e1, e2]

theorem index7_at (t : Fin (cfgM m hR).N) (a : Fin 2) : ((cfgM m hR).win 7).index t a = ![(lastUsed m t).val, 0] a := congrFun (index7_row m hR t) a

theorem emb7 (t : Fin (cfgM m hR).N) (r n : Fin 1024) (T : Fin 294912) (hT : T.val = (lastUsed m t).val * 1024 + r.val) (y : (((cfgM m hR).win 7).xblock ((cfgM m hR).grid.coords t)).Idx)
    (hy : (y : S1024x1024.Idx) = ix2 r n) :
    ((((cfgM m hR).win 7).blk t).view.emb y : S294912x1024.Idx) = (ix2 T n : S294912x1024.Idx) := by
  subst hy
  funext a
  apply Fin.ext
  refine (((cfgM m hR).win 7).rect_emb_val t (ix2 r n : S1024x1024.Idx) a).trans ?_
  match a with
  | ⟨0, _⟩ => exact (congrArg (fun q : ℕ => q * 1024 + r.val) (index7_at m hR t 0)).trans hT.symm
  | ⟨1, _⟩ => exact (congrArg (fun q : ℕ => q * 1024 + n.val) (index7_at m hR t 1)).trans (by show 0 * 1024 + n.val = n.val; omega)

/-- The point whose block's write-back reaches block row `t`: the point itself, or the last one for the last block in use. -/
theorem flush7 (t : Fin (cfgM m hR).N) (h : t.val < used m) :
    ∃ s : Fin (cfgM m hR).N, ((cfgM m hR).win 7).flush s = true ∧ (lastUsed m s).val = t.val := by
  have hl : used m ≤ 288 := hR.le
  by_cases ht : t.val + 1 < used m
  · have hN : t.val + 1 < grid0.N := by show t.val + 1 < 288; omega
    refine ⟨t, ?_, by show min t.val (used m - 1) = t.val; omega⟩
    unfold Window.flush
    rw [Bool.and_eq_true_iff, Bool.or_eq_true, decide_eq_true_iff, decide_eq_true_iff]
    refine ⟨rfl, Or.inr ⟨hN, fun e => ?_⟩⟩
    rw [index7_row, index7_row] at e
    have e0 : (lastUsed m ⟨t.val + 1, hN⟩).val = (lastUsed m t).val := congrFun e 0
    have e1 : min (t.val + 1) (used m - 1) = min t.val (used m - 1) := e0
    omega
  · obtain ⟨s, hs⟩ : ∃ s : Fin (cfgM m hR).N, s.val = 287 := ⟨(⟨287, by decide⟩ : Fin grid0.N), rfl⟩
    refine ⟨s, ?_, by show min s.val (used m - 1) = t.val; omega⟩
    unfold Window.flush
    rw [Bool.and_eq_true_iff, Bool.or_eq_true, decide_eq_true_iff]
    exact ⟨rfl, Or.inl (by rw [hs]; rfl)⟩

theorem final (c : Dev nD) (t : Fin 288) (h : t.val < used m) (r n : Fin 1024) (T : Fin 294912) (hT : T.val = t.val * 1024 + r.val) :
    (dats m hR 0 c).arrAt 7 (cfgM m hR).N (ix2 T n : S294912x1024.Idx) = resAt m c (ix2 T n) := by
  obtain ⟨s, hs, hl⟩ := flush7 m hR t h
  refine (dats m hR 0 c).arrAt_forall_of_flushed 7 (fun i v => v = resAt m c i) ?_ _ s _ s.isLt hs ?_
  · intro u hu y
    have key : ∀ y' : S1024x1024.Idx, ∃ r n : Fin 1024, y' = ix2 r n := fun y' => ⟨y' 0, y' 1, eq_ix2 y'⟩
    obtain ⟨r, n, hy⟩ := key y
    have hlu : (lastUsed m u).val < 288 := (lastUsed m u).isLt
    have hlt : (lastUsed m u).val < used m := by
      have := hR.pos
      show min u.val (used m - 1) < used m
      have h1 : 1 ≤ used m := this
      omega
    obtain ⟨T, hT⟩ : ∃ T : Fin 294912, T.val = (lastUsed m u).val * 1024 + r.val := ⟨⟨_, by omega⟩, rfl⟩
    refine Eq.trans ?_ (congrArg (resAt m c) (emb7 m hR u r n T hT y hy)).symm
    rw [resAt_ix2 m c ⟨(lastUsed m u).val, hlu⟩ r n T hT]
    refine Eq.trans ?_ (leftBlock_apply m hR c (lastUsed m u) ⟨(lastUsed m u).val, hlu⟩ rfl hlt r n)
    subst hy
    rw [← after_7]
    rfl
  · have e := emb7 m hR s r n T (by rw [hl]; exact hT) (ix2 r n : S1024x1024.Idx) rfl
    exact Eq.mp (congrArg (fun i : S294912x1024.Idx => i ∈ (((cfgM m hR).win 7).blk s).view.set) e) ((((cfgM m hR).win 7).blk s).view.emb_mem_set _)

end Cert.ExpertsIdeal.Hand

end
-- ==== Proof.ExpertsRefValue.lean ====
/- The experts' reference at the extended reals, slot by slot. -/
module

public import proofs.«01_k».proof.Proof.Gen.ExpertsRefIdeal.Run
public import proofs.«01_k».proof.Proof.ExpertsForm
public import proofs.«01_k».proof.Proof.Words
public import Idealize.ShloMosaic.Lib.Pointwise
public import Idealize.ShloMosaic.Lib.WordCmp
public import Idealize.ShloMosaic.Lib.Pipeline.ValueKit

@[expose] public section

set_option maxRecDepth 16384

noncomputable section

namespace Cert.ExpertsRefIdeal.Hand

open Cert.ExpertsRefIdeal Cert.ExpertsRefIdeal.Gen Cert.ExpertsForm
open Idealize.ShloMosaic Idealize.ShloMosaic.TcCoe Idealize.SL.Sem

/-- The block's expert, as the gathers take it. -/
def at_ (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

theorem at_apply (be : IVec S288 32) (t : Fin 288) (h : (be (ix1 t)).toNat < 32) : at_ be (ix2 t 0) = be (ix1 t) := by
  pointwise [at_]
  have hc : IntOp.cmpi CmpIPredicate.slt (be (ix1 t)) 0#32 = 0#1 := by
    show BitVec.ofBool _ = _
    have : (be (ix1 t)).slt 0#32 = false := by
      rw [BitVec.slt_eq_decide, decide_eq_false_iff_not, WordCmp.toInt_eq_toNat_of_lt_half (by show _ < 2147483648; omega)]
      show ¬ (((be (ix1 t)).toNat : ℤ) < 0)
      omega
    rw [this]; rfl
  rw [hc]
  rfl

/-- The words' values, low halves first. -/
def words (x : IVec S294912x512 32) : FVec Ideal S294912x1024 .f32 :=
  concatenate S294912x1024 1 [⟨S294912x512, (bitcastToFloat (F := Ideal) .f32 (Host.shli x (broadcastInDim S294912x512 ![] bcast_S_S294912x512 (constantI S_ 32 16#32))))⟩, ⟨S294912x512, (bitcastToFloat (F := Ideal) .f32 (andi x (broadcastInDim S294912x512 ![] bcast_S_S294912x512 (constantI S_ 32 4294901760#32))))⟩] concatenates_S294912x512_S294912x512_S294912x1024_d1

theorem words_apply (x : IVec S294912x512 32) (T : Fin 294912) (n : Fin 1024) : words x (ix2 T n) = half (fun k => x (ix2 T k)) n := by
  pointwise [words]
  have hs : ∀ w : BitVec 32, IntOp.shli .host w 16#32 = w <<< 16 := fun w => rfl
  simp only [half, hs, IntOp.andi, Words.low, Words.high]

/-- The rows in use. -/
def toks (x : FVec Ideal S288x1024x1024 .f32) (nv : IVec S288 32) : FVec Ideal S288x1024x1024 .f32 :=
  select (broadcastInDim S288x1024x1024 ![0, 1, 2] bcast_S288x1024x1_S288x1024x1024_0_1_2 (broadcastInDim S288x1024x1 ![0, 1] bcast_S288x1024_S288x1024x1_0_1 (cmpi .slt (broadcastInDim S288x1024 ![0, 1] bcast_S1x1024_S288x1024_0_1 (broadcastInDim S1x1024 ![1] bcast_S1024_S1x1024_1 (iotaInDim S1024 32 0))) (broadcastInDim S288x1024 ![0, 1] bcast_S288x1_S288x1024_0_1 (broadcastInDim S288x1 ![0] bcast_S288_S288x1_0 nv))))) x (broadcastInDim S288x1024x1024 ![] bcast_S_S288x1024x1024 (id (constant S_ .f32 0x00000000#32)))

theorem toks_apply (x : FVec Ideal S288x1024x1024 .f32) (nv : IVec S288 32) (t : Fin 288) (r n : Fin 1024) :
    toks x nv (ix3 t r n) = if (BitVec.ofNat 32 r.val).slt (nv (ix1 t)) then x (ix3 t r n) else 0 := by
  pointwise [toks]
  have h0 : (id (constant (F := Ideal) S_ FTy.f32 0#32) ix0 : EReal) = 0 := Ideal.ofBits_zero_f32
  have hc : IntOp.cmpi CmpIPredicate.slt (BitVec.ofNat 32 r.val) (nv (ix1 t)) = BitVec.ofBool ((BitVec.ofNat 32 r.val).slt (nv (ix1 t))) := rfl
  rw [hc]
  cases (BitVec.ofNat 32 r.val).slt (nv (ix1 t))
  · exact h0
  · rfl

/-- A product with each block's weights, plus each block's shift. -/
def linR (x w : FVec Ideal S288x1024x1024 .f32) (b : FVec Ideal S288x1024 .f32) : FVec Ideal S288x1024x1024 .f32 :=
  addf (Host.dotGeneral dot_S288x1024x1024_S288x1024x1024_S288x1024x1024_2_1_1_2_0_0 none x w) (broadcastInDim S288x1024x1024 ![0, 1, 2] bcast_S288x1x1024_S288x1024x1024_0_1_2 (broadcastInDim S288x1x1024 ![0, 2] bcast_S288x1024_S288x1x1024_0_2 b))

theorem linR_apply (x w : FVec Ideal S288x1024x1024 .f32) (b : FVec Ideal S288x1024 .f32) (t : Fin 288) (r n : Fin 1024) :
    linR x w b (ix3 t r n) = lin (fun k => x (ix3 t r k)) (fun k n => w (ix3 t k n)) (fun n => b (ix2 t n)) n := by
  pointwise [linR]
  rfl

/-- The gated product. -/
def actR (g l : FVec Ideal S288x1024x1024 .f32) : FVec Ideal S288x1024x1024 .f32 :=
  mulf (mulf (minimumf g (broadcastInDim S288x1024x1024 ![] bcast_S_S288x1024x1024 (constant S_ .f32 0x40E00000#32))) (Host.divf (broadcastInDim S288x1024x1024 ![] bcast_S_S288x1024x1024 (constant S_ .f32 0x3F800000#32)) (addf (broadcastInDim S288x1024x1024 ![] bcast_S_S288x1024x1024 (constant S_ .f32 0x3F800000#32)) (Host.exp (Host.negf (mulf (broadcastInDim S288x1024x1024 ![] bcast_S_S288x1024x1024 (constant S_ .f32 0x3FD9DB23#32)) (minimumf g (broadcastInDim S288x1024x1024 ![] bcast_S_S288x1024x1024 (constant S_ .f32 0x40E00000#32))))))))) (addf (minimumf (broadcastInDim S288x1024x1024 ![] bcast_S_S288x1024x1024 (id (constant S_ .f32 0x40E00000#32))) (maximumf (broadcastInDim S288x1024x1024 ![] bcast_S_S288x1024x1024 (id (constant S_ .f32 0xC0E00000#32))) l)) (broadcastInDim S288x1024x1024 ![] bcast_S_S288x1024x1024 (constant S_ .f32 0x3F800000#32)))

theorem actR_apply (g l : FVec Ideal S288x1024x1024 .f32) (j : S288x1024x1024.Idx) : actR g l j = act (cap (g j)) (clip (l j)) := by
  pointwise [actR]
  unfold act cap clip
  rw [Ideal.ofBits_one_f32]
  rfl

/-- The result, of the arguments. -/
def resR (x : IVec S294912x512 32) (be nv : IVec S288 32) (wg : FVec Ideal S32x1024x1024 .f32) (bg : FVec Ideal S32x1024 .f32) (wl : FVec Ideal S32x1024x1024 .f32)
    (bl : FVec Ideal S32x1024 .f32) (wd : FVec Ideal S32x1024x1024 .f32) (bd : FVec Ideal S32x1024 .f32) : FVec Ideal S294912x1024 .bf16 :=
  truncf .bf16 (shapeCast _ (linR (actR
      (linR (toks (shapeCast _ (words x) shapeCasts_S294912x1024_S288x1024x1024) nv) (Host.gather gather_S32x1024x1024_S288x1_S288x1024x1024_12_0_n_n_0_1_110241024 wg (at_ be)) (Host.gather gather_S32x1024_S288x1_S288x1024_1_0_n_n_0_1_11024 bg (at_ be)))
      (linR (toks (shapeCast _ (words x) shapeCasts_S294912x1024_S288x1024x1024) nv) (Host.gather gather_S32x1024x1024_S288x1_S288x1024x1024_12_0_n_n_0_1_110241024 wl (at_ be)) (Host.gather gather_S32x1024_S288x1_S288x1024_1_0_n_n_0_1_11024 bl (at_ be))))
      (Host.gather gather_S32x1024x1024_S288x1_S288x1024x1024_12_0_n_n_0_1_110241024 wd (at_ be)) (Host.gather gather_S32x1024_S288x1_S288x1024_1_0_n_n_0_1_11024 bd (at_ be))) shapeCasts_S288x1024x1024_S294912x1024) bitsLt_bf16_f32

theorem res_eq (m : (ℓ : Loc nD τ sig) → Buf (Elt Ideal) ℓ) (c : Dev nD) : Value.res_main_v86 (F := Ideal) m c
    = resR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- A block's weights: its expert's. -/
theorem gatherW_apply (w : FVec Ideal S32x1024x1024 .f32) (idx : IVec S288x1 32) (t : Fin 288) (k n : Fin 1024) (e : Fin 32) (h : (idx (ix2 t 0)).toNat = e.val) :
    Host.gather gather_S32x1024x1024_S288x1_S288x1024x1024_12_0_n_n_0_1_110241024 w idx (ix3 t k n) = w (ix3 e k n) := by
  have hi : (idx (ix2 t 0)).toInt.toNat = e.val := by
    rw [WordCmp.toInt_eq_toNat_of_lt_half (by show _ < 2147483648; have := e.isLt; omega), h]; rfl
  unfold Host.gather
  refine congrArg w (funext fun a => Fin.ext ?_)
  match a with
  | ⟨0, _⟩ =>
    show min (idx _).toInt.toNat (32 - 1) + 0 + 0 = e.val
    have hs : ∀ q : S288x1.Idx, q = ix2 t 0 → min (idx q).toInt.toNat (32 - 1) + 0 + 0 = e.val := fun q hq => by
      rw [hq, hi]; have := e.isLt; omega
    refine hs _ (funext fun b => Fin.ext ?_)
    match b with
    | ⟨0, _⟩ => rfl
    | ⟨1, _⟩ => rfl
  | ⟨1, _⟩ => show 0 + 0 + k.val = k.val; omega
  | ⟨2, _⟩ => show 0 + 0 + n.val = n.val; omega

/-- A block's shifts: its expert's. -/
theorem gatherB_apply (w : FVec Ideal S32x1024 .f32) (idx : IVec S288x1 32) (t : Fin 288) (n : Fin 1024) (e : Fin 32) (h : (idx (ix2 t 0)).toNat = e.val) :
    Host.gather gather_S32x1024_S288x1_S288x1024_1_0_n_n_0_1_11024 w idx (ix2 t n) = w (ix2 e n) := by
  have hi : (idx (ix2 t 0)).toInt.toNat = e.val := by
    rw [WordCmp.toInt_eq_toNat_of_lt_half (by show _ < 2147483648; have := e.isLt; omega), h]; rfl
  unfold Host.gather
  refine congrArg w (funext fun a => Fin.ext ?_)
  match a with
  | ⟨0, _⟩ =>
    show min (idx _).toInt.toNat (32 - 1) + 0 + 0 = e.val
    have hs : ∀ q : S288x1.Idx, q = ix2 t 0 → min (idx q).toInt.toNat (32 - 1) + 0 + 0 = e.val := fun q hq => by
      rw [hq, hi]; have := e.isLt; omega
    refine hs _ (funext fun b => Fin.ext ?_)
    match b with
    | ⟨0, _⟩ => rfl
    | ⟨1, _⟩ => rfl
  | ⟨1, _⟩ => show 0 + 0 + n.val = n.val; omega

/-- Slots as blocks of 1024, and back. -/
theorem split_apply (x : FVec Ideal S294912x1024 .f32) (t : Fin 288) (r n : Fin 1024) (T : Fin 294912) (hT : T.val = t.val * 1024 + r.val) :
    shapeCast S288x1024x1024 x shapeCasts_S294912x1024_S288x1024x1024 (ix3 t r n) = x (ix2 T n) := by
  refine shapeCast_apply x _ _ _ ?_
  rw [Shape.rowMajor_val_two, Shape.rowMajor_val_three]
  show T.val * 1024 + n.val = (t.val * 1024 + r.val) * 1024 + n.val
  omega
theorem merge_apply (x : FVec Ideal S288x1024x1024 .f32) (t : Fin 288) (r n : Fin 1024) (T : Fin 294912) (hT : T.val = t.val * 1024 + r.val) :
    shapeCast S294912x1024 x shapeCasts_S288x1024x1024_S294912x1024 (ix2 T n) = x (ix3 t r n) := by
  refine shapeCast_apply x _ _ _ ?_
  rw [Shape.rowMajor_val_two, Shape.rowMajor_val_three]
  show (t.val * 1024 + r.val) * 1024 + n.val = T.val * 1024 + n.val
  omega

/-- The reference's result at slot `t * 1024 + r`. -/
theorem resR_apply (x : IVec S294912x512 32) (be nv : IVec S288 32) (wg : FVec Ideal S32x1024x1024 .f32) (bg : FVec Ideal S32x1024 .f32) (wl : FVec Ideal S32x1024x1024 .f32)
    (bl : FVec Ideal S32x1024 .f32) (wd : FVec Ideal S32x1024x1024 .f32) (bd : FVec Ideal S32x1024 .f32) (t : Fin 288) (r n : Fin 1024) (T : Fin 294912)
    (hT : T.val = t.val * 1024 + r.val) (hb : (be (ix1 t)).toNat < 32) :
    resR x be nv wg bg wl bl wd bd (ix2 T n) = slot (fun i k => x (ix2 i k)) (fun j => be (ix1 j)) (fun j => nv (ix1 j)) (fun e k n => wg (ix3 e k n)) (fun e n => bg (ix2 e n))
      (fun e k n => wl (ix3 e k n)) (fun e n => bl (ix2 e n)) (fun e k n => wd (ix3 e k n)) (fun e n => bd (ix2 e n)) t r n := by
  have he : (at_ be (ix2 t 0)).toNat = (⟨(be (ix1 t)).toNat % 32, Nat.mod_lt _ (by omega)⟩ : Fin 32).val := by
    rw [at_apply be t hb]; exact (Nat.mod_eq_of_lt hb).symm
  have hlt : t.val * 1024 + r.val < 294912 := by rw [← hT]; exact T.isLt
  have hx : ∀ k, toks (shapeCast _ (words x) shapeCasts_S294912x1024_S288x1024x1024) nv (ix3 t r k) = tok (fun c => x (ix2 T c)) (nv (ix1 t)) r k := fun k => by
    rw [toks_apply, split_apply _ t r k T hT, words_apply]; rfl
  unfold resR
  rw [truncf_apply, Ideal.truncf_def, merge_apply _ t r n T hT, linR_apply]
  simp only [actR_apply, linR_apply, hx, gatherW_apply _ _ t _ _ _ he, gatherB_apply _ _ t _ _ he]
  obtain rfl : T = (⟨t.val * 1024 + r.val, hlt⟩ : Fin 294912) := Fin.ext hT
  rfl

end Cert.ExpertsRefIdeal.Hand

end
-- ==== Proof.ExpertsAlgebra.lean ====
/- The experts' call and its reference leave the same values on the slots of the blocks in use. -/
module

public import proofs.«01_k».proof.Proof.ExpertsFrames
public import proofs.«01_k».proof.Proof.ExpertsValue
public import proofs.«01_k».proof.Proof.ExpertsRefValue

@[expose] public section

noncomputable section

namespace Cert.ExpertsAlgebra

open Idealize.ShloMosaic Idealize.ShloMosaic.TcCoe Idealize.SL.Sem

theorem split_slot (i : Cert.ExpertsIdeal.S294912x1024.Idx) : ∃ (T : Fin 294912) (n : Fin 1024), i = ix2 T n := ⟨i 0, i 1, eq_ix2 i⟩

/-- The reference's result where the expert is in range. -/
theorem ref_at (m : (ℓ : Loc Cert.ExpertsIdeal.nD Cert.ExpertsIdeal.τ Cert.ExpertsIdeal.sig) → Buf (Elt Ideal) ℓ) (c : Dev Cert.ExpertsIdeal.nD)
    (he : ∀ j : Cert.ExpertsIdeal.S288.Idx, ((m ((c.tc : Thread Cert.ExpertsIdeal.nD Cert.ExpertsIdeal.τ).loc Cert.ExpertsIdeal.main_arg1) : Cert.ExpertsIdeal.S288.Idx → BitVec 32) j).toNat < 32)
    (i : Cert.ExpertsIdeal.S294912x1024.Idx) :
    Cert.ExpertsRefIdeal.Hand.resR (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))
      (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) i
      = Cert.ExpertsIdeal.Hand.resAt m c i := by
  obtain ⟨T, n, rfl⟩ := split_slot i
  have hT := T.isLt
  have e : T.val = (⟨T.val / 1024, by omega⟩ : Fin 288).val * 1024 + (⟨T.val % 1024, Nat.mod_lt _ (by omega)⟩ : Fin 1024).val := by
    show T.val = T.val / 1024 * 1024 + T.val % 1024
    omega
  exact (Cert.ExpertsRefIdeal.Hand.resR_apply _ _ _ _ _ _ _ _ _ (⟨T.val / 1024, by omega⟩ : Fin 288) (⟨T.val % 1024, Nat.mod_lt _ (by omega)⟩ : Fin 1024) n T e
    (he _)).trans (Cert.ExpertsIdeal.Hand.resAt_ix2 m c _ _ n T e).symm

/-- The kernel's result on a slot in use. -/
theorem kernel_at (m : (ℓ : Loc Cert.ExpertsIdeal.nD Cert.ExpertsIdeal.τ Cert.ExpertsIdeal.sig) → Buf (Elt Ideal) ℓ) (hR : Cert.ExpertsIdeal.Hand.InRange (Cert.ExpertsIdeal.Hand.tbl m))
    (c : Dev Cert.ExpertsIdeal.nD) (i : Cert.ExpertsIdeal.S294912x1024.Idx) (h : (i 0).val / 1024 < Cert.ExpertsIdeal.Hand.used m) :
    (Cert.ExpertsIdeal.Hand.dats m hR 0 c).arrAt 7 (Cert.ExpertsIdeal.Hand.cfgM m hR).N i = Cert.ExpertsIdeal.Hand.resAt m c i := by
  obtain ⟨T, n, rfl⟩ := split_slot i
  have hT := T.isLt
  exact Cert.ExpertsIdeal.Hand.final m hR c (⟨T.val / 1024, by omega⟩ : Fin 288) h (⟨T.val % 1024, Nat.mod_lt _ (by omega)⟩ : Fin 1024) n T (by
    show T.val = T.val / 1024 * 1024 + T.val % 1024
    omega)

theorem algebraic : Cert.algebraic_ExpertsIdeal_ExpertsRefIdeal_on_used := fun m g m' g' hpre hagree => by
  have hR := Cert.ExpertsIdeal.Hand.inRange m hpre
  have htab : ∀ c : Dev Cert.ExpertsIdeal.nD, Cert.ExpertsIdeal.Hand.tbl m 0 = m ((c.tc : Thread Cert.ExpertsIdeal.nD Cert.ExpertsIdeal.τ).loc Cert.ExpertsIdeal.main_arg1) := fun c => by
    obtain rfl : c = 0 := Subsingleton.elim (α := Fin 1) _ _
    exact Cert.ExpertsIdeal.Hand.V_of_ne m 0 Cert.ExpertsIdeal.main_arg1 (by decide)
  have hcnt : ∀ c : Dev Cert.ExpertsIdeal.nD, Cert.ExpertsIdeal.Hand.tbl m 1 = m ((c.tc : Thread Cert.ExpertsIdeal.nD Cert.ExpertsIdeal.τ).loc Cert.ExpertsIdeal.main_arg2) := fun c => by
    obtain rfl : c = 0 := Subsingleton.elim (α := Fin 1) _ _
    exact Cert.ExpertsIdeal.Hand.V_of_ne m 0 Cert.ExpertsIdeal.main_arg2 (by decide)
  refine ⟨fun c => Cert.ExpertsIdeal.Hand.resAt m c,
    (θ_run _ _ _).mono (fun r h c => ⟨fun i hi => ?_, Cert.ExpertsIdeal.Hand.unchanged_of m hR r h.1 c⟩) (Cert.ExpertsIdeal.Hand.run m g hR),
    (θ_run _ _ _).mono (fun r h c => ⟨fun i hi => ?_, (h c).2⟩) (Cert.ExpertsRefIdeal.Value.run (F := Ideal) m' g')⟩
  · have hl : (Cert.ExpertsIdeal.Hand.used m) ≤ 288 := hR.le
    have hu : Cert.ExpertsIdeal.Hand.used m = ((m ((c.tc : Thread Cert.ExpertsIdeal.nD Cert.ExpertsIdeal.τ).loc Cert.ExpertsIdeal.main_arg2) : Cert.ExpertsIdeal.S1.Idx → BitVec 32) (ix1 (n0 := 1) 0)).toNat :=
      congrArg (fun f : Cert.ExpertsIdeal.S1.Idx → BitVec 32 => (f (ix1 (n0 := 1) 0)).toNat) (hcnt c)
    have hi' := Cert.ExpertsRanges.of_used _ _ _ _ _ _ _ _ _ _ (by rw [← hu]; exact hl) i hi
    rw [← hu] at hi'
    exact (congrFun ((h.1 c).1 7) i).trans (kernel_at m hR c i hi')
  · rw [congrFun (h c).1 i, Cert.ExpertsRefIdeal.Hand.res_eq]
    obtain ⟨a0, a1, _, a3, a4, a5, a6, a7, a8, a9⟩ := hagree c
    rw [a0, a1, a3, a4, a5, a6, a7, a8, a9]
    refine ref_at m c (fun j => ?_) i
    exact Eq.mp (congrArg (fun f : Cert.ExpertsIdeal.S288.Idx → BitVec 32 => (f j).toNat < 32) (htab c)) (hR.expert j)

end Cert.ExpertsAlgebra

end
-- ==== Proof.QkvForm.lean ====
/- The normalised projection in closed form: a token's row divided by its root mean square and scaled, times the columns of the
   weights, the queries of either group with the scale of their logits. -/
module

public import proofs.«01_k».proof.Defs
public import Idealize.ShloMosaic.Lib.Pointwise

@[expose] public section

noncomputable section

namespace Cert.QkvForm

open Idealize.ShloMosaic

/-- A row divided by the root of its mean square plus the epsilon, times the scales. -/
def norm (v s : Fin 1024 → EReal) (n : Fin 1024) : EReal :=
  v n * Ideal.rsqrt (Ideal.div (∑ l : Fin 1024, v l * v l) (Ideal.ofBits .f32 0x44800000#32) + Ideal.ofBits .f32 0x358637BD#32) * s n

/-- What column `n` is scaled by: the queries of the first group by 1/8, those of the second by `k`, the rest not. -/
def scaled (k : EReal) (n : ℕ) (y : EReal) : EReal :=
  if n < 512 then y * Ideal.ofBits .f32 0x3E000000#32 else if 1536 ≤ n ∧ n < 2048 then y * k else y

/-- The projection's row at column `n`. -/
def proj (v s : Fin 1024 → EReal) (w : Fin 1024 → Fin 3072 → EReal) (n : Fin 3072) : EReal :=
  scaled ((8 * Real.log 2)⁻¹ : ℝ) n.val (∑ k : Fin 1024, norm v s k * w k n)

/-- Token `t`'s row of the projection. -/
def row (x : Cert.QkvIdeal.S65536x1024.Idx → EReal) (g : Cert.QkvIdeal.S1024.Idx → EReal) (w : Cert.QkvIdeal.S1024x3072.Idx → EReal)
    (t : Fin 65536) (n : Fin 3072) : EReal :=
  proj (fun l => x (ix2 t l)) (fun l => g (ix1 l)) (fun k n => w (ix2 k n)) n

/-- The three results: the projection; the first group's columns of 4 and of 16 tokens in a row. -/
def res0 (x : Cert.QkvIdeal.S65536x1024.Idx → EReal) (g : Cert.QkvIdeal.S1024.Idx → EReal) (w : Cert.QkvIdeal.S1024x3072.Idx → EReal) :
    Cert.QkvIdeal.S65536x3072.Idx → EReal := fun y => row x g w (y 0) (y 1)
def res1 (x : Cert.QkvIdeal.S65536x1024.Idx → EReal) (g : Cert.QkvIdeal.S1024.Idx → EReal) (w : Cert.QkvIdeal.S1024x3072.Idx → EReal) :
    Cert.QkvIdeal.S16384x6144.Idx → EReal := fun y => row x g w ⟨4 * (y 0).val + (y 1).val / 1536, by
  have h0 : (y 0).val < 16384 := (y 0).isLt
  have h1 : (y 1).val < 6144 := (y 1).isLt
  omega⟩ ⟨(y 1).val % 1536, by omega⟩
def res2 (x : Cert.QkvIdeal.S65536x1024.Idx → EReal) (g : Cert.QkvIdeal.S1024.Idx → EReal) (w : Cert.QkvIdeal.S1024x3072.Idx → EReal) :
    Cert.QkvIdeal.S4096x24576.Idx → EReal := fun y => row x g w ⟨16 * (y 0).val + (y 1).val / 1536, by
  have h0 : (y 0).val < 4096 := (y 0).isLt
  have h1 : (y 1).val < 24576 := (y 1).isLt
  omega⟩ ⟨(y 1).val % 1536, by omega⟩

end Cert.QkvForm

end
-- ==== Proof.QkvPay.lean ====
/- What the body of `qkv` stores, place by place, at the extended reals. -/
module

public import proofs.«01_k».proof.Proof.Gen.QkvIdeal.Frame
public import proofs.«01_k».proof.Proof.QkvForm
public import Idealize.ShloMosaic.Lib.Pointwise
public import Idealize.ShloMosaic.Lib.WholeRead
public import Idealize.ShloMosaic.Lib.Pipeline.ValueKit

@[expose] public section

set_option maxRecDepth 16384

noncomputable section

namespace Cert.QkvIdeal.Hand

open Cert.QkvIdeal Cert.QkvIdeal.Gen Cert.QkvForm
open Idealize.ShloMosaic Idealize.ShloMosaic.TcCoe Idealize.SL.Sem

section Pay
variable (X : Vec Ideal S1024x1024 .f32) (S : Vec Ideal S1x1024 .f32) (H : FVec Ideal S1024x1024 .bf16) (W : Vec Ideal S1024x512 .bf16)
  (Y : FVec Ideal S1024x512 .f32) (Z : FVec Ideal S1024x128 .f32)

/-- The product of rows with 512 columns. -/
def mm (H : FVec Ideal S1024x1024 .bf16) (W : Vec Ideal S1024x512 .bf16) (r : Fin 1024) (n : Fin 512) : EReal :=
  ∑ k : Fin 1024, H (ix2 r k) * W (ix2 k n)

theorem pay2_apply (r n : Fin 1024) :
    k0_pay2 (F := Ideal) X S (ix2 r n) = norm (fun l => X (ix2 r l)) (fun l => S (ix2 0 l)) n := by
  pointwise [k0_pay2]
  rfl

theorem pay3_apply (r : Fin 1024) (n : Fin 512) :
    k0_pay3 (F := Ideal) X S W (ix2 r n) = mm (k0_pay2 (F := Ideal) X S) W r n * Ideal.ofBits .f32 0x3E000000#32 := by
  pointwise [k0_pay3]
  rfl

theorem pay4_apply (r : Fin 1024) (n : Fin 512) :
    k0_pay4 (F := Ideal) X S W (ix2 r n) = mm (k0_pay2 (F := Ideal) X S) W r n * Ideal.ofBits .f32 0x3E000000#32 :=
  pay3_apply X S W r n

theorem pay5_apply (r : Fin 1024) (l : Fin 128) :
    k0_pay5 (F := Ideal) X S W (ix3 0 r l) = k0_pay3 (F := Ideal) X S W (ix2 r (⟨l.val, by omega⟩ : Fin 512)) := by
  pointwise [k0_pay5]

theorem pay6_apply (r : Fin 1024) (l : Fin 128) :
    k0_pay6 (F := Ideal) X S W (ix3 0 r l) = k0_pay3 (F := Ideal) X S W (ix2 r (⟨128 + l.val, by omega⟩ : Fin 512)) := by
  pointwise [k0_pay6]

theorem pay7_apply (r : Fin 1024) (l : Fin 128) :
    k0_pay7 (F := Ideal) X S W (ix2 r l) = k0_pay3 (F := Ideal) X S W (ix2 r (⟨256 + l.val, by omega⟩ : Fin 512)) := by
  pointwise [k0_pay7]

theorem pay8_apply (r : Fin 1024) (l : Fin 128) : k0_pay8 (F := Ideal) Z (ix3 0 r l) = Z (ix2 r l) := by
  pointwise [k0_pay8]

theorem pay9_apply (r : Fin 1024) (l : Fin 128) :
    k0_pay9 (F := Ideal) Y (ix3 0 r l) = Y (ix2 r (⟨384 + l.val, by omega⟩ : Fin 512)) := by
  pointwise [k0_pay9]

theorem pay10_apply (r : Fin 1024) (n : Fin 512) : k0_pay10 (F := Ideal) H W (ix2 r n) = mm H W r n := by
  pointwise [k0_pay10]
  rfl

theorem pay12_apply (r : Fin 1024) (l : Fin 128) :
    k0_pay12 (F := Ideal) H W (ix3 0 r l) = mm H W r (⟨l.val, by omega⟩ : Fin 512) := by
  rw [← pay10_apply]
  pointwise [k0_pay12]

theorem pay13_apply (r : Fin 1024) (l : Fin 128) :
    k0_pay13 (F := Ideal) H W (ix3 0 r l) = mm H W r (⟨128 + l.val, by omega⟩ : Fin 512) := by
  rw [← pay10_apply]
  pointwise [k0_pay13]

theorem pay14_apply (r : Fin 1024) (l : Fin 128) :
    k0_pay14 (F := Ideal) H W (ix3 0 r l) = mm H W r (⟨256 + l.val, by omega⟩ : Fin 512) := by
  rw [← pay10_apply]
  pointwise [k0_pay14]

theorem pay15_apply (r : Fin 1024) (l : Fin 128) :
    k0_pay15 (F := Ideal) H W (ix3 0 r l) = mm H W r (⟨384 + l.val, by omega⟩ : Fin 512) := by
  rw [← pay10_apply]
  pointwise [k0_pay15]

theorem pay16_apply (r : Fin 1024) (n : Fin 512) : k0_pay16 (F := Ideal) H W (ix2 r n) = mm H W r n := by
  pointwise [k0_pay16]
  rfl

theorem pay18_apply (r : Fin 1024) (l : Fin 128) :
    k0_pay18 (F := Ideal) Y (ix3 0 r l) = Y (ix2 r (⟨l.val, by omega⟩ : Fin 512)) := by
  pointwise [k0_pay18]

theorem pay19_apply (r : Fin 1024) (l : Fin 128) :
    k0_pay19 (F := Ideal) Y (ix3 0 r l) = Y (ix2 r (⟨128 + l.val, by omega⟩ : Fin 512)) := by
  pointwise [k0_pay19]

theorem pay20_apply (r : Fin 1024) (l : Fin 128) :
    k0_pay20 (F := Ideal) Y (ix3 0 r l) = Y (ix2 r (⟨256 + l.val, by omega⟩ : Fin 512)) := by
  pointwise [k0_pay20]

theorem pay21_apply (r : Fin 1024) (l : Fin 128) :
    k0_pay21 (F := Ideal) Y (ix3 0 r l) = Y (ix2 r (⟨384 + l.val, by omega⟩ : Fin 512)) := by
  pointwise [k0_pay21]

theorem pay22_apply (r : Fin 1024) (n : Fin 512) :
    k0_pay22 (F := Ideal) H W (ix2 r n) = mm H W r n * ((8 * Real.log 2)⁻¹ : ℝ) := by
  pointwise [k0_pay22]
  rfl

theorem pay23_apply (r : Fin 1024) (n : Fin 512) : k0_pay23 (F := Ideal) H W (ix2 r n) = mm H W r n := by
  pointwise [k0_pay23]
  rfl

theorem pay24_apply (r : Fin 1024) (n : Fin 512) : k0_pay24 (F := Ideal) H W (ix2 r n) = mm H W r n := by
  pointwise [k0_pay24]
  rfl

end Pay

end Cert.QkvIdeal.Hand

end
-- ==== Proof.QkvRun.lean ====
/- The blocks the body of `qkv` leaves, at the extended reals: every piece it stores agrees with one function of the block. -/
module

public import proofs.«01_k».proof.Proof.QkvPay

@[expose] public section

set_option maxRecDepth 16384

noncomputable section

namespace Cert.QkvIdeal.Hand

open Cert.QkvIdeal Cert.QkvIdeal.Gen Cert.QkvForm
open Idealize.ShloMosaic Idealize.ShloMosaic.TcCoe Idealize.ShloMosaic.Tactic Idealize.SL.Sem

section Run
variable (c : Dev nD) (i : grid0.Coords) (arg1 : Memref sig .tc .vmem S1024x1024 .f32) (harg1 : arg1.IsWhole)
  (arg2 : Memref sig .tc .vmem S1x1024 .f32) (harg2 : arg2.IsWhole) (arg3 : Memref sig .tc .vmem S1024x3072 .bf16) (harg3 : arg3.IsWhole)
  (arg4 : Memref sig .tc .vmem S1024x3072 .bf16) (harg4 : arg4.IsWhole) (arg5 : Memref sig .tc .vmem S256x6144 .bf16) (harg5 : arg5.IsWhole)
  (arg6 : Memref sig .tc .vmem S64x24576 .bf16) (harg6 : arg6.IsWhole) (arg7 : Memref sig .tc .vmem S12x1024x128 .f32) (harg7 : arg7.IsWhole)
  (x0 : Vec Ideal S1024x1024 .f32) (x1 : Vec Ideal S1x1024 .f32) (x2 : Vec Ideal S1024x3072 .bf16)

/-- The block's row `r` at column `n`. -/
def blk (r : Fin 1024) (n : Fin 3072) : EReal :=
  proj (fun l => x0 (ix2 r l)) (fun l => x1 (ix2 0 l)) (fun k n => x2 (ix2 k n)) n

/-- The block of each result, and of the staging buffer. -/
def G3 : S1024x3072.Idx → EReal := fun y => blk x0 x1 x2 (y 0) (y 1)
def GS : S12x1024x128.Idx → EReal := fun y => blk x0 x1 x2 (y 1) ⟨128 * (y 0).val + (y 2).val, by
  have h0 : (y 0).val < 12 := (y 0).isLt
  have h2 : (y 2).val < 128 := (y 2).isLt
  omega⟩
def G4 : S256x6144.Idx → EReal := fun y => blk x0 x1 x2 ⟨4 * (y 0).val + (y 1).val / 1536, by
  have h0 : (y 0).val < 256 := (y 0).isLt
  have h1 : (y 1).val < 6144 := (y 1).isLt
  omega⟩ ⟨(y 1).val % 1536, by omega⟩
def G5 : S64x24576.Idx → EReal := fun y => blk x0 x1 x2 ⟨16 * (y 0).val + (y 1).val / 1536, by
  have h0 : (y 0).val < 64 := (y 0).isLt
  have h1 : (y 1).val < 24576 := (y 1).isLt
  omega⟩ ⟨(y 1).val % 1536, by omega⟩

/-- The loads of the three inputs. -/
abbrev ldX : Vec Ideal S1024x1024 .f32 :=
  View.readAt (Elt Ideal) arg1.view (Rect.unit (s := S1024x1024) ![0, 0] S1024x1024.size inb_S1024x1024_S1024x1024_0_0).toLoadRect (harg1.unread x0)
abbrev ldS : Vec Ideal S1x1024 .f32 :=
  View.readAt (Elt Ideal) arg2.view (Rect.unit (s := S1x1024) ![0, 0] S1x1024.size inb_S1x1024_S1x1024_0_0).toLoadRect (harg2.unread x1)
abbrev ldW (o : ℕ) (inb : ∀ a, (![0, o] : Fin 2 → ℕ) a + S1024x512.size a ≤ S1024x3072.size a) : Vec Ideal S1024x512 .bf16 :=
  View.readAt (Elt Ideal) arg3.view (Rect.unit (s := S1024x3072) ![0, o] S1024x512.size inb).toLoadRect (harg3.unread x2)

theorem ldX_apply (r l : Fin 1024) : ldX arg1 harg1 x0 (ix2 r l) = x0 (ix2 r l) := by
  refine (harg1.readAt_unread x0 _ _).trans (congrArg x0 ?_)
  funext a; exact match a with
    | ⟨0, _⟩ => Fin.ext (show 0 + 1 * r.val = r.val by omega)
    | ⟨1, _⟩ => Fin.ext (show 0 + 1 * l.val = l.val by omega)

theorem ldS_apply (l : Fin 1024) : ldS arg2 harg2 x1 (ix2 0 l) = x1 (ix2 0 l) := by
  refine (harg2.readAt_unread x1 _ _).trans (congrArg x1 ?_)
  funext a; exact match a with
    | ⟨0, _⟩ => rfl
    | ⟨1, _⟩ => Fin.ext (show 0 + 1 * l.val = l.val by omega)

theorem ldW_apply (o : ℕ) (inb) (ho : o + 512 ≤ 3072) (k : Fin 1024) (n : Fin 512) :
    ldW arg3 harg3 x2 o inb (ix2 k n) = x2 (ix2 k (⟨o + n.val, by omega⟩ : Fin 3072)) := by
  refine (harg3.readAt_unread x2 _ _).trans (congrArg x2 ?_)
  funext a; exact match a with
    | ⟨0, _⟩ => Fin.ext (show 0 + 1 * k.val = k.val by omega)
    | ⟨1, _⟩ => Fin.ext (show o + 1 * n.val = o + n.val by omega)

/-- The normalised block times 512 columns of the weights. -/
theorem mm_eq (o : ℕ) (inb) (ho : o + 512 ≤ 3072) (r : Fin 1024) (n : Fin 512) :
    mm (k0_pay2 (F := Ideal) (ldX arg1 harg1 x0) (ldS arg2 harg2 x1)) (ldW arg3 harg3 x2 o inb) r n
      = ∑ k : Fin 1024, norm (fun l => x0 (ix2 r l)) (fun l => x1 (ix2 0 l)) k * x2 (ix2 k (⟨o + n.val, by omega⟩ : Fin 3072)) := by
  refine Finset.sum_congr rfl fun k _ => ?_
  rw [pay2_apply, ldW_apply _ _ _ _ _ ho]
  simp only [ldX_apply, ldS_apply]

/-- The 512 columns from `o`, scaled as their place asks. -/
theorem blk_eq (o : ℕ) (inb) (ho : o + 512 ≤ 3072) (r : Fin 1024) (n : Fin 512) :
    scaled ((8 * Real.log 2)⁻¹ : ℝ) (o + n.val) (mm (k0_pay2 (F := Ideal) (ldX arg1 harg1 x0) (ldS arg2 harg2 x1)) (ldW arg3 harg3 x2 o inb) r n)
      = blk x0 x1 x2 r (⟨o + n.val, by omega⟩ : Fin 3072) := by
  rw [mm_eq _ _ _ _ _ _ _ _ _ _ _ ho]; rfl

theorem scaled_qa (k : EReal) (n : ℕ) (h : n < 512) (y : EReal) : scaled k n y = y * Ideal.ofBits .f32 0x3E000000#32 := if_pos h
theorem scaled_qb (k : EReal) (n : ℕ) (h : 1536 ≤ n) (h' : n < 2048) (y : EReal) : scaled k n y = y * k :=
  (if_neg (by omega)).trans (if_pos ⟨h, h'⟩)
theorem scaled_not (k : EReal) (n : ℕ) (h : 512 ≤ n) (h' : n < 1536 ∨ 2048 ≤ n) (y : EReal) : scaled k n y = y :=
  (if_neg (by omega)).trans (if_neg (by omega))

/-- A stored piece of 512 columns. -/
theorem piece3 (o : ℕ) (inb : ∀ a, (![0, o] : Fin 2 → ℕ) a + S1024x512.size a ≤ S1024x3072.size a) (ho : o + 512 ≤ 3072)
    (P : S1024x512.Idx → EReal) (hP : ∀ (r : Fin 1024) (n : Fin 512), P (ix2 r n) = blk x0 x1 x2 r (⟨o + n.val, by omega⟩ : Fin 3072))
    (x : S1024x512.Idx) : P x = G3 x0 x1 x2 ((Rect.unit (s := S1024x3072) ![0, o] S1024x512.size inb).emb x) := by
  obtain ⟨r, n, rfl⟩ : ∃ (r : Fin 1024) (n : Fin 512), x = (ix2 r n : S1024x512.Idx) := ⟨x 0, x 1, eq_ix2 x⟩
  rw [hP]
  refine congrArg₂ (blk x0 x1 x2) ?_ ?_
  · exact Fin.ext (show r.val = 0 + 1 * r.val by omega)
  · exact Fin.ext (show o + n.val = o + 1 * n.val by omega)

/-- A staged piece of 128 columns. -/
theorem pieceS (k : ℕ) (inb : ∀ a, (![k, 0, 0] : Fin 3 → ℕ) a + S1x1024x128.size a ≤ S12x1024x128.size a) (hk : k < 12)
    (P : S1x1024x128.Idx → EReal)
    (hP : ∀ (r : Fin 1024) (l : Fin 128), P (ix3 0 r l) = blk x0 x1 x2 r (⟨128 * k + l.val, by omega⟩ : Fin 3072))
    (x : S1x1024x128.Idx) : P x = GS x0 x1 x2 ((Rect.unit (s := S12x1024x128) ![k, 0, 0] S1x1024x128.size inb).emb x) := by
  obtain ⟨z, r, l, rfl⟩ : ∃ (z : Fin 1) (r : Fin 1024) (l : Fin 128), x = (ix3 z r l : S1x1024x128.Idx) := ⟨x 0, x 1, x 2, eq_ix3 x⟩
  obtain rfl : z = 0 := Subsingleton.elim _ _
  rw [hP]
  refine congrArg₂ (blk x0 x1 x2) ?_ ?_
  · exact Fin.ext (show r.val = 0 + 1 * r.val by omega)
  · exact Fin.ext (show 128 * k + l.val = 128 * (k + 1 * 0) + (0 + 1 * l.val) by omega)

/-- Every piece of the first result. -/
theorem pieces3 : ∀ p ∈ (kernelRun0_A (F := Ideal) c i arg1 harg1 arg2 harg2 arg3 harg3 arg4 harg4 arg5 harg5 arg6 harg6 arg7 harg7 x0 x1 x2).1,
    ∀ x, p.2 x = G3 x0 x1 x2 (p.1.emb x) := by
  unfold kernelRun0_A
  dsimp only
  refine List.forall_mem_cons.2 ⟨?_, List.forall_mem_cons.2 ⟨?_, List.forall_mem_cons.2 ⟨?_, List.forall_mem_cons.2 ⟨?_, List.forall_mem_cons.2 ⟨?_,
    List.forall_mem_cons.2 ⟨?_, fun p hp => absurd hp List.not_mem_nil⟩⟩⟩⟩⟩⟩
  · refine piece3 x0 x1 x2 2560 inb_S1024x3072_S1024x512_0_2560 (by omega) _ fun r n => ?_
    exact (pay24_apply _ _ r n).trans ((scaled_not _ _ (by omega) (by omega) _).symm.trans (blk_eq arg1 harg1 arg2 harg2 arg3 harg3 x0 x1 x2 2560 inb_S1024x3072_S1024x512_0_2560 (by omega) r n))
  · refine piece3 x0 x1 x2 2048 inb_S1024x3072_S1024x512_0_2048 (by omega) _ fun r n => ?_
    exact (pay23_apply _ _ r n).trans ((scaled_not _ _ (by omega) (by omega) _).symm.trans (blk_eq arg1 harg1 arg2 harg2 arg3 harg3 x0 x1 x2 2048 inb_S1024x3072_S1024x512_0_2048 (by omega) r n))
  · refine piece3 x0 x1 x2 1536 inb_S1024x3072_S1024x512_0_1536 (by omega) _ fun r n => ?_
    exact (pay22_apply _ _ r n).trans ((scaled_qb _ _ (by omega) (by omega) _).symm.trans (blk_eq arg1 harg1 arg2 harg2 arg3 harg3 x0 x1 x2 1536 inb_S1024x3072_S1024x512_0_1536 (by omega) r n))
  · refine piece3 x0 x1 x2 1024 inb_S1024x3072_S1024x512_0_1024 (by omega) _ fun r n => ?_
    exact (pay16_apply _ _ r n).trans ((scaled_not _ _ (by omega) (by omega) _).symm.trans (blk_eq arg1 harg1 arg2 harg2 arg3 harg3 x0 x1 x2 1024 inb_S1024x3072_S1024x512_0_1024 (by omega) r n))
  · refine piece3 x0 x1 x2 512 inb_S1024x3072_S1024x512_0_512 (by omega) _ fun r n => ?_
    exact (pay10_apply _ _ r n).trans ((scaled_not _ _ (by omega) (by omega) _).symm.trans (blk_eq arg1 harg1 arg2 harg2 arg3 harg3 x0 x1 x2 512 inb_S1024x3072_S1024x512_0_512 (by omega) r n))
  · refine piece3 x0 x1 x2 0 inb_S1024x3072_S1024x512_0_0 (by omega) _ fun r n => ?_
    exact (pay4_apply _ _ _ r n).trans ((scaled_qa _ _ (by omega) _).symm.trans (blk_eq arg1 harg1 arg2 harg2 arg3 harg3 x0 x1 x2 0 inb_S1024x3072_S1024x512_0_0 (by omega) r n))

/-- Every piece staged. -/
theorem piecesS : ∀ p ∈ kernelRun0_A.sl.HS0_12 (F := Ideal) c arg1 harg1 arg2 harg2 arg3 harg3 x0 x1 x2, ∀ x, p.2 x = GS x0 x1 x2 (p.1.emb x) := by
  unfold kernelRun0_A.sl.HS0_12
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩⟩⟩⟩⟩
  · refine pieceS x0 x1 x2 11 inb_S12x1024x128_S1x1024x128_11_0_0 (by omega) _ fun r l => ?_
    refine (pay21_apply _ r l).trans ((pay16_apply _ _ r (⟨384 + l.val, by omega⟩ : Fin 512)).trans (((scaled_not _ _ (by dsimp only; omega) (by dsimp only; omega) _).symm.trans (blk_eq arg1 harg1 arg2 harg2 arg3 harg3 x0 x1 x2 1024 inb_S1024x3072_S1024x512_0_1024 (by omega) r (⟨384 + l.val, by omega⟩ : Fin 512))).trans ?_))
    exact congrArg (blk x0 x1 x2 r) (Fin.ext (by first | rfl | (dsimp only; omega)))
  · refine pieceS x0 x1 x2 10 inb_S12x1024x128_S1x1024x128_10_0_0 (by omega) _ fun r l => ?_
    refine (pay20_apply _ r l).trans ((pay16_apply _ _ r (⟨256 + l.val, by omega⟩ : Fin 512)).trans (((scaled_not _ _ (by dsimp only; omega) (by dsimp only; omega) _).symm.trans (blk_eq arg1 harg1 arg2 harg2 arg3 harg3 x0 x1 x2 1024 inb_S1024x3072_S1024x512_0_1024 (by omega) r (⟨256 + l.val, by omega⟩ : Fin 512))).trans ?_))
    exact congrArg (blk x0 x1 x2 r) (Fin.ext (by first | rfl | (dsimp only; omega)))
  · refine pieceS x0 x1 x2 9 inb_S12x1024x128_S1x1024x128_9_0_0 (by omega) _ fun r l => ?_
    refine (pay19_apply _ r l).trans ((pay16_apply _ _ r (⟨128 + l.val, by omega⟩ : Fin 512)).trans (((scaled_not _ _ (by dsimp only; omega) (by dsimp only; omega) _).symm.trans (blk_eq arg1 harg1 arg2 harg2 arg3 harg3 x0 x1 x2 1024 inb_S1024x3072_S1024x512_0_1024 (by omega) r (⟨128 + l.val, by omega⟩ : Fin 512))).trans ?_))
    exact congrArg (blk x0 x1 x2 r) (Fin.ext (by first | rfl | (dsimp only; omega)))
  · refine pieceS x0 x1 x2 8 inb_S12x1024x128_S1x1024x128_8_0_0 (by omega) _ fun r l => ?_
    refine (pay18_apply _ r l).trans ((pay16_apply _ _ r (⟨l.val, by omega⟩ : Fin 512)).trans (((scaled_not _ _ (by dsimp only; omega) (by dsimp only; omega) _).symm.trans (blk_eq arg1 harg1 arg2 harg2 arg3 harg3 x0 x1 x2 1024 inb_S1024x3072_S1024x512_0_1024 (by omega) r (⟨l.val, by omega⟩ : Fin 512))).trans ?_))
    exact congrArg (blk x0 x1 x2 r) (Fin.ext (by first | rfl | (dsimp only; omega)))
  · refine pieceS x0 x1 x2 7 inb_S12x1024x128_S1x1024x128_7_0_0 (by omega) _ fun r l => ?_
    refine (pay15_apply _ _ r l).trans (((scaled_not _ _ (by dsimp only; omega) (by dsimp only; omega) _).symm.trans (blk_eq arg1 harg1 arg2 harg2 arg3 harg3 x0 x1 x2 512 inb_S1024x3072_S1024x512_0_512 (by omega) r (⟨384 + l.val, by omega⟩ : Fin 512))).trans ?_)
    exact congrArg (blk x0 x1 x2 r) (Fin.ext (by first | rfl | (dsimp only; omega)))
  · refine pieceS x0 x1 x2 6 inb_S12x1024x128_S1x1024x128_6_0_0 (by omega) _ fun r l => ?_
    refine (pay14_apply _ _ r l).trans (((scaled_not _ _ (by dsimp only; omega) (by dsimp only; omega) _).symm.trans (blk_eq arg1 harg1 arg2 harg2 arg3 harg3 x0 x1 x2 512 inb_S1024x3072_S1024x512_0_512 (by omega) r (⟨256 + l.val, by omega⟩ : Fin 512))).trans ?_)
    exact congrArg (blk x0 x1 x2 r) (Fin.ext (by first | rfl | (dsimp only; omega)))
  · refine pieceS x0 x1 x2 5 inb_S12x1024x128_S1x1024x128_5_0_0 (by omega) _ fun r l => ?_
    refine (pay13_apply _ _ r l).trans (((scaled_not _ _ (by dsimp only; omega) (by dsimp only; omega) _).symm.trans (blk_eq arg1 harg1 arg2 harg2 arg3 harg3 x0 x1 x2 512 inb_S1024x3072_S1024x512_0_512 (by omega) r (⟨128 + l.val, by omega⟩ : Fin 512))).trans ?_)
    exact congrArg (blk x0 x1 x2 r) (Fin.ext (by first | rfl | (dsimp only; omega)))
  · refine pieceS x0 x1 x2 4 inb_S12x1024x128_S1x1024x128_4_0_0 (by omega) _ fun r l => ?_
    refine (pay12_apply _ _ r l).trans (((scaled_not _ _ (by dsimp only; omega) (by dsimp only; omega) _).symm.trans (blk_eq arg1 harg1 arg2 harg2 arg3 harg3 x0 x1 x2 512 inb_S1024x3072_S1024x512_0_512 (by omega) r (⟨l.val, by omega⟩ : Fin 512))).trans ?_)
    exact congrArg (blk x0 x1 x2 r) (Fin.ext (by first | rfl | (dsimp only; omega)))
  · refine pieceS x0 x1 x2 3 inb_S12x1024x128_S1x1024x128_3_0_0 (by omega) _ fun r l => ?_
    refine (pay9_apply _ r l).trans ((pay3_apply _ _ _ r (⟨384 + l.val, by omega⟩ : Fin 512)).trans (((scaled_qa _ _ (show _ < 512 by dsimp only; omega) _).symm.trans (blk_eq arg1 harg1 arg2 harg2 arg3 harg3 x0 x1 x2 0 inb_S1024x3072_S1024x512_0_0 (by omega) r (⟨384 + l.val, by omega⟩ : Fin 512))).trans ?_))
    exact congrArg (blk x0 x1 x2 r) (Fin.ext (by first | rfl | (dsimp only; omega)))
  · refine pieceS x0 x1 x2 2 inb_S12x1024x128_S1x1024x128_2_0_0 (by omega) _ fun r l => ?_
    refine ((pay8_apply _ r l).trans (pay7_apply _ _ _ r l)).trans ((pay3_apply _ _ _ r (⟨256 + l.val, by omega⟩ : Fin 512)).trans (((scaled_qa _ _ (show _ < 512 by dsimp only; omega) _).symm.trans (blk_eq arg1 harg1 arg2 harg2 arg3 harg3 x0 x1 x2 0 inb_S1024x3072_S1024x512_0_0 (by omega) r (⟨256 + l.val, by omega⟩ : Fin 512))).trans ?_))
    exact congrArg (blk x0 x1 x2 r) (Fin.ext (by first | rfl | (dsimp only; omega)))
  · refine pieceS x0 x1 x2 1 inb_S12x1024x128_S1x1024x128_1_0_0 (by omega) _ fun r l => ?_
    refine (pay6_apply _ _ _ r l).trans ((pay3_apply _ _ _ r (⟨128 + l.val, by omega⟩ : Fin 512)).trans (((scaled_qa _ _ (show _ < 512 by dsimp only; omega) _).symm.trans (blk_eq arg1 harg1 arg2 harg2 arg3 harg3 x0 x1 x2 0 inb_S1024x3072_S1024x512_0_0 (by omega) r (⟨128 + l.val, by omega⟩ : Fin 512))).trans ?_))
    exact congrArg (blk x0 x1 x2 r) (Fin.ext (by first | rfl | (dsimp only; omega)))
  · refine pieceS x0 x1 x2 0 inb_S12x1024x128_S1x1024x128_0_0_0 (by omega) _ fun r l => ?_
    refine (pay5_apply _ _ _ r l).trans ((pay3_apply _ _ _ r (⟨l.val, by omega⟩ : Fin 512)).trans (((scaled_qa _ _ (show _ < 512 by dsimp only; omega) _).symm.trans (blk_eq arg1 harg1 arg2 harg2 arg3 harg3 x0 x1 x2 0 inb_S1024x3072_S1024x512_0_0 (by omega) r (⟨l.val, by omega⟩ : Fin 512))).trans ?_))
    exact congrArg (blk x0 x1 x2 r) (Fin.ext (by first | rfl | (dsimp only; omega)))

/-- The staging buffer, once the pieces are in. -/
theorem stage_eq (y : S12x1024x128.Idx) :
    View.canon (kernelRun0_A.sl.HS0_12 (F := Ideal) c arg1 harg1 arg2 harg2 arg3 harg3 x0 x1 x2) y = GS x0 x1 x2 y :=
  View.canon_apply_of_pieces _ _ (piecesS c arg1 harg1 arg2 harg2 arg3 harg3 x0 x1 x2) y
    (View.cover_of_tiledL (kernelRun0_A.sl.HS0_12 (F := Ideal) c arg1 harg1 arg2 harg2 arg3 harg3 x0 x1 x2) S1x1024x128.size (by sl_kernel_rfl) y)

variable {arg7} {x0} {x1} {x2}

/-- The unit axis dropped. -/
theorem row256 (V : Vec Ideal S1x256x128 .f32) (t : Fin 256) (l : Fin 128) :
    truncf (F := Ideal) .bf16 (shapeCast S256x128 V shapeCasts_S1x256x128_S256x128) bitsLt_bf16_f32 (ix2 t l) = V (ix3 0 t l) := by
  pointwise

/-- Every fourth row of 128 staged columns. -/
theorem piece4 (L : List (View.Piece (Elt Ideal) S12x1024x128 .f32)) (hL : ∀ y, View.canon L y = GS x0 x1 x2 y) (k r o : ℕ)
    (inb : ∀ a, S1x256x128.size a = 0 ∨ (![k, r, 0] : Fin 3 → ℕ) a + (![1, 4, 1] : Fin 3 → ℕ) a * (S1x256x128.size a - 1) < S12x1024x128.size a)
    (inb' : ∀ a, (![0, o] : Fin 2 → ℕ) a + S256x128.size a ≤ S256x6144.size a) (hk : k < 12) (hr : r < 4) (ho : o = 1536 * r + 128 * k)
    (x : S256x128.Idx) :
    truncf (F := Ideal) .bf16 (shapeCast S256x128 (arg7.view.readCov L (⟨![k, r, 0], S1x256x128.size, ![1, 4, 1], inb⟩ : LoadRect S12x1024x128))
        shapeCasts_S1x256x128_S256x128) bitsLt_bf16_f32 x
      = G4 x0 x1 x2 ((Rect.unit (s := S256x6144) ![0, o] S256x128.size inb').emb x) := by
  obtain ⟨t, l, rfl⟩ : ∃ (t : Fin 256) (l : Fin 128), x = (ix2 t l : S256x128.Idx) := ⟨x 0, x 1, eq_ix2 x⟩
  refine (row256 _ t l).trans ((congrFun (View.readCov_eq_canon' arg7.view L _) _).trans ((hL _).trans ?_))
  subst ho
  unfold GS G4
  refine congrArg₂ (blk x0 x1 x2) (Fin.ext ?_) (Fin.ext ?_)
  · show r + 4 * t.val = 4 * (0 + 1 * t.val) + (1536 * r + 128 * k + 1 * l.val) / 1536
    omega
  · show 128 * (k + 1 * 0) + (0 + 1 * l.val) = (1536 * r + 128 * k + 1 * l.val) % 1536
    omega

/-- The unit axis dropped. -/
theorem row64 (V : Vec Ideal S1x64x128 .f32) (t : Fin 64) (l : Fin 128) :
    truncf (F := Ideal) .bf16 (shapeCast S64x128 V shapeCasts_S1x64x128_S64x128) bitsLt_bf16_f32 (ix2 t l) = V (ix3 0 t l) := by
  pointwise

/-- Every sixteenth row of 128 staged columns. -/
theorem piece5 (L : List (View.Piece (Elt Ideal) S12x1024x128 .f32)) (hL : ∀ y, View.canon L y = GS x0 x1 x2 y) (k r o : ℕ)
    (inb : ∀ a, S1x64x128.size a = 0 ∨ (![k, r, 0] : Fin 3 → ℕ) a + (![1, 16, 1] : Fin 3 → ℕ) a * (S1x64x128.size a - 1) < S12x1024x128.size a)
    (inb' : ∀ a, (![0, o] : Fin 2 → ℕ) a + S64x128.size a ≤ S64x24576.size a) (hk : k < 12) (hr : r < 16) (ho : o = 1536 * r + 128 * k)
    (x : S64x128.Idx) :
    truncf (F := Ideal) .bf16 (shapeCast S64x128 (arg7.view.readCov L (⟨![k, r, 0], S1x64x128.size, ![1, 16, 1], inb⟩ : LoadRect S12x1024x128))
        shapeCasts_S1x64x128_S64x128) bitsLt_bf16_f32 x
      = G5 x0 x1 x2 ((Rect.unit (s := S64x24576) ![0, o] S64x128.size inb').emb x) := by
  obtain ⟨t, l, rfl⟩ : ∃ (t : Fin 64) (l : Fin 128), x = (ix2 t l : S64x128.Idx) := ⟨x 0, x 1, eq_ix2 x⟩
  refine (row64 _ t l).trans ((congrFun (View.readCov_eq_canon' arg7.view L _) _).trans ((hL _).trans ?_))
  subst ho
  unfold GS G5
  refine congrArg₂ (blk x0 x1 x2) (Fin.ext ?_) (Fin.ext ?_)
  · show r + 16 * t.val = 16 * (0 + 1 * t.val) + (1536 * r + 128 * k + 1 * l.val) / 1536
    omega
  · show 128 * (k + 1 * 0) + (0 + 1 * l.val) = (1536 * r + 128 * k + 1 * l.val) % 1536
    omega

end Run

end Cert.QkvIdeal.Hand

end
-- ==== Proof.QkvStrided.lean ====
/- The strided results of `qkv`: every piece the body stores is a strided read of the staging buffer. -/
module

public import proofs.«01_k».proof.Proof.QkvRun

@[expose] public section

set_option maxRecDepth 16384

noncomputable section

namespace Cert.QkvIdeal.Hand

open Cert.QkvIdeal Cert.QkvIdeal.Gen Cert.QkvForm
open Idealize.ShloMosaic Idealize.ShloMosaic.TcCoe Idealize.ShloMosaic.Tactic Idealize.SL.Sem

section Run
variable (c : Dev nD) (i : grid0.Coords) (arg1 : Memref sig .tc .vmem S1024x1024 .f32) (harg1 : arg1.IsWhole)
  (arg2 : Memref sig .tc .vmem S1x1024 .f32) (harg2 : arg2.IsWhole) (arg3 : Memref sig .tc .vmem S1024x3072 .bf16) (harg3 : arg3.IsWhole)
  (arg4 : Memref sig .tc .vmem S1024x3072 .bf16) (harg4 : arg4.IsWhole) (arg5 : Memref sig .tc .vmem S256x6144 .bf16) (harg5 : arg5.IsWhole)
  (arg6 : Memref sig .tc .vmem S64x24576 .bf16) (harg6 : arg6.IsWhole) (arg7 : Memref sig .tc .vmem S12x1024x128 .f32) (harg7 : arg7.IsWhole)
  (x0 : Vec Ideal S1024x1024 .f32) (x1 : Vec Ideal S1x1024 .f32) (x2 : Vec Ideal S1024x3072 .bf16)

/-- Every piece of the second result. -/
theorem pieces4 : ∀ p ∈ (kernelRun0_A (F := Ideal) c i arg1 harg1 arg2 harg2 arg3 harg3 arg4 harg4 arg5 harg5 arg6 harg6 arg7 harg7 x0 x1 x2).2.1,
    ∀ x, p.2 x = G4 x0 x1 x2 (p.1.emb x) := by
  have hL := stage_eq c arg1 harg1 arg2 harg2 arg3 harg3 x0 x1 x2
  unfold kernelRun0_A
  dsimp only
  repeat refine List.forall_mem_cons.2 ⟨fun x => piece4 _ hL _ _ _ _ (by decide) (by decide) (by decide) (by rfl) x, ?_⟩
  exact fun p hp => absurd hp List.not_mem_nil

/-- Every piece of the third result. -/
theorem pieces5 : ∀ p ∈ (kernelRun0_A (F := Ideal) c i arg1 harg1 arg2 harg2 arg3 harg3 arg4 harg4 arg5 harg5 arg6 harg6 arg7 harg7 x0 x1 x2).2.2.1,
    ∀ x, p.2 x = G5 x0 x1 x2 (p.1.emb x) := by
  have hL := stage_eq c arg1 harg1 arg2 harg2 arg3 harg3 x0 x1 x2
  unfold kernelRun0_A
  dsimp only
  repeat refine List.forall_mem_cons.2 ⟨fun x => piece5 _ hL _ _ _ _ (by decide) (by decide) (by decide) (by rfl) x, ?_⟩
  exact fun p hp => absurd hp List.not_mem_nil

/-- Result 0's block. -/
theorem out3_eq : out0_A_3 (F := Ideal) c i arg1 harg1 arg2 harg2 arg3 harg3 arg4 harg4 arg5 harg5 arg6 harg6 arg7 harg7 x0 x1 x2 = G3 x0 x1 x2 := by
  funext y
  unfold out0_A_3
  exact (View.read_writes_junk_apply_eq_canon _ y _).trans (View.canon_apply_of_pieces _ _
    (pieces3 c i arg1 harg1 arg2 harg2 arg3 harg3 arg4 harg4 arg5 harg5 arg6 harg6 arg7 harg7 x0 x1 x2) y
    (cover0_A_3 c i arg1 harg1 arg2 harg2 arg3 harg3 arg4 harg4 arg5 harg5 arg6 harg6 arg7 harg7 x0 x1 x2 y))

/-- Result 1's block. -/
theorem out4_eq : out0_A_4 (F := Ideal) c i arg1 harg1 arg2 harg2 arg3 harg3 arg4 harg4 arg5 harg5 arg6 harg6 arg7 harg7 x0 x1 x2 = G4 x0 x1 x2 := by
  funext y
  unfold out0_A_4
  exact (View.read_writes_junk_apply_eq_canon _ y _).trans (View.canon_apply_of_pieces _ _
    (pieces4 c i arg1 harg1 arg2 harg2 arg3 harg3 arg4 harg4 arg5 harg5 arg6 harg6 arg7 harg7 x0 x1 x2) y
    (cover0_A_4 c i arg1 harg1 arg2 harg2 arg3 harg3 arg4 harg4 arg5 harg5 arg6 harg6 arg7 harg7 x0 x1 x2 y))

/-- Result 2's block. -/
theorem out5_eq : out0_A_5 (F := Ideal) c i arg1 harg1 arg2 harg2 arg3 harg3 arg4 harg4 arg5 harg5 arg6 harg6 arg7 harg7 x0 x1 x2 = G5 x0 x1 x2 := by
  funext y
  unfold out0_A_5
  exact (View.read_writes_junk_apply_eq_canon _ y _).trans (View.canon_apply_of_pieces _ _
    (pieces5 c i arg1 harg1 arg2 harg2 arg3 harg3 arg4 harg4 arg5 harg5 arg6 harg6 arg7 harg7 x0 x1 x2) y
    (cover0_A_5 c i arg1 harg1 arg2 harg2 arg3 harg3 arg4 harg4 arg5 harg5 arg6 harg6 arg7 harg7 x0 x1 x2 y))

end Run

end Cert.QkvIdeal.Hand

end
-- ==== Proof.QkvValue.lean ====
/- `qkv` at the extended reals: the three arrays the kernel leaves. -/
module

public import proofs.«01_k».proof.Proof.QkvStrided

@[expose] public section

set_option maxRecDepth 16384

noncomputable section

namespace Cert.QkvIdeal.Hand

open Cert.QkvIdeal Cert.QkvIdeal.Gen Cert.QkvForm
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments the region finds. -/
theorem V_v0 (c : Dev nD) : V m c main_v0 = shapeCast S65536x1024 (m ((c : Thread nD τ).loc main_arg0)) shapeCasts_S8x8192x1024_S65536x1024 := by
  dsimp only [V, hostOps0]
  after_results_simp <;> rfl

theorem V_v1 (c : Dev nD) : V m c main_v1 = shapeCast S1x1024 (m ((c : Thread nD τ).loc main_arg1)) shapeCasts_S1024_S1x1024 := by
  dsimp only [V, hostOps0]
  after_results_simp <;> rfl

theorem V_v2 (c : Dev nD) : V m c main_v2 = truncf (F := Ideal) (φ := .f32) .bf16 (m ((c : Thread nD τ).loc main_arg2)) bitsLt_bf16_f32 := by
  dsimp only [V, hostOps0]
  after_results_simp <;> rfl

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)

/-- The arguments as the results take them. -/
abbrev X0 (c : Dev nD) : S65536x1024.Idx → EReal := shapeCast S65536x1024 (m ((c : Thread nD τ).loc main_arg0)) shapeCasts_S8x8192x1024_S65536x1024
abbrev X1 (c : Dev nD) : S1024.Idx → EReal := m ((c : Thread nD τ).loc main_arg1)
abbrev X2 (c : Dev nD) : S1024x3072.Idx → EReal := m ((c : Thread nD τ).loc main_arg2)

theorem iblk0 (c : Dev nD) (t : Fin cfg0.N) (r l : Fin 1024) (T : Fin 65536) (hT : T.val = (grid0.coords t 0).val * 1024 + r.val) :
    iblk m c 0 t (ix2 r l : S1024x1024.Idx) = X0 m c (ix2 T l) := by
  rw [X0, ← V_v0 m c]
  blk_simp [iblk]
  exact congrArg (V m c main_v0) (by blk_ext [index0])

theorem iblk1 (c : Dev nD) (t : Fin cfg0.N) (l : Fin 1024) : iblk m c 1 t (ix2 0 l : S1x1024.Idx) = X1 m c (ix1 l) := by
  have h : iblk m c 1 t (ix2 0 l : S1x1024.Idx) = V m c main_v1 (ix2 0 l : S1x1024.Idx) := by
    blk_simp [iblk]
    exact congrArg (V m c main_v1) (by blk_ext [index1])
  rw [h, V_v1]
  pointwise

theorem iblk2 (c : Dev nD) (t : Fin cfg0.N) (k : Fin 1024) (n : Fin 3072) : iblk m c 2 t (ix2 k n : S1024x3072.Idx) = X2 m c (ix2 k n) := by
  have h : iblk m c 2 t (ix2 k n : S1024x3072.Idx) = V m c main_v2 (ix2 k n : S1024x3072.Idx) := by
    blk_simp [iblk]
    exact congrArg (V m c main_v2) (by blk_ext [index2])
  rw [h, V_v2]
  rfl

/-- Row `r` of grid point `t`'s block is row `T` of the projection. -/
theorem blk_row (c : Dev nD) (t : Fin cfg0.N) (r : Fin 1024) (n : Fin 3072) (T : Fin 65536) (hT : T.val = (grid0.coords t 0).val * 1024 + r.val) :
    blk (iblk m c 0 t) (iblk m c 1 t) (iblk m c 2 t) r n = row (X0 m c) (X1 m c) (X2 m c) T n := by
  unfold blk row
  simp only [iblk0 m c t r _ T hT, iblk1, iblk2]

/-- The arrays the kernel leaves. -/
theorem final3 (c : Dev nD) : (dats m 0 c).arrAt 3 cfg0.N = res0 (X0 m c) (X1 m c) (X2 m c) := by
  refine (dats m 0 c).arrAt_eq_of_covers 3 _ (by decide +kernel) fun t hf y => ?_
  blk_simp
  rw [after0_3]
  unfold outsAt0
  dsimp only
  rw [out3_eq]
  obtain ⟨r, n, rfl⟩ : ∃ (r : Fin 1024) (n : Fin 3072), y = (ix2 r n : S1024x3072.Idx) := ⟨y 0, y 1, eq_ix2 y⟩
  have ht : (grid0.coords t 0).val < 64 := (grid0.coords t 0).isLt
  obtain ⟨T, hT⟩ : ∃ T : Fin 65536, T.val = (grid0.coords t 0).val * 1024 + r.val := ⟨⟨(grid0.coords t 0).val * 1024 + r.val, by omega⟩, rfl⟩
  have e : (((View.whole main_v3_0).slice (win0_3.rect t)).emb (ix2 r n : S1024x3072.Idx)) = (ix2 T n : S65536x3072.Idx) := by
    blk_ext [index3]
  rw [e]
  exact blk_row m c t r n T hT

theorem final4 (c : Dev nD) : (dats m 0 c).arrAt 4 cfg0.N = res1 (X0 m c) (X1 m c) (X2 m c) := by
  refine (dats m 0 c).arrAt_eq_of_covers 4 _ (by decide +kernel) fun t hf y => ?_
  blk_simp
  rw [after0_4]
  unfold outsAt0
  dsimp only
  rw [out4_eq]
  obtain ⟨r, n, rfl⟩ : ∃ (r : Fin 256) (n : Fin 6144), y = (ix2 r n : S256x6144.Idx) := ⟨y 0, y 1, eq_ix2 y⟩
  have ht : (grid0.coords t 0).val < 64 := (grid0.coords t 0).isLt
  obtain ⟨T, hT⟩ : ∃ T : Fin 16384, T.val = (grid0.coords t 0).val * 256 + r.val := ⟨⟨(grid0.coords t 0).val * 256 + r.val, by omega⟩, rfl⟩
  have e : (((View.whole main_v3_1).slice (win0_4.rect t)).emb (ix2 r n : S256x6144.Idx)) = (ix2 T n : S16384x6144.Idx) := by
    blk_ext [index4]
  rw [e]
  exact blk_row m c t _ _ _ (show 4 * T.val + n.val / 1536 = (grid0.coords t 0).val * 1024 + (4 * r.val + n.val / 1536) by omega)

theorem final5 (c : Dev nD) : (dats m 0 c).arrAt 5 cfg0.N = res2 (X0 m c) (X1 m c) (X2 m c) := by
  refine (dats m 0 c).arrAt_eq_of_covers 5 _ (by decide +kernel) fun t hf y => ?_
  blk_simp
  rw [after0_5]
  unfold outsAt0
  dsimp only
  rw [out5_eq]
  obtain ⟨r, n, rfl⟩ : ∃ (r : Fin 64) (n : Fin 24576), y = (ix2 r n : S64x24576.Idx) := ⟨y 0, y 1, eq_ix2 y⟩
  have ht : (grid0.coords t 0).val < 64 := (grid0.coords t 0).isLt
  obtain ⟨T, hT⟩ : ∃ T : Fin 4096, T.val = (grid0.coords t 0).val * 64 + r.val := ⟨⟨(grid0.coords t 0).val * 64 + r.val, by omega⟩, rfl⟩
  have e : (((View.whole main_v3_2).slice (win0_5.rect t)).emb (ix2 r n : S64x24576.Idx)) = (ix2 T n : S4096x24576.Idx) := by
    blk_ext [index5]
  rw [e]
  exact blk_row m c t _ _ _ (show 16 * T.val + n.val / 1536 = (grid0.coords t 0).val * 1024 + (16 * r.val + n.val / 1536) by omega)

/-- Every run ends with the results at `res0`, `res1`, `res2` of the arguments, and the arguments as they were. -/
theorem run : θ_run defs (onTc (τ := τ) (main (F := Ideal))) ⟨m, fun _ => 0, ρ⟩ fun r => ∀ c : Dev nD,
      r.2.mem ((c.tc : Thread nD τ).loc main_v3_0) = res0 (X0 m c) (X1 m c) (X2 m c)
      ∧ r.2.mem ((c.tc : Thread nD τ).loc main_v3_1) = res1 (X0 m c) (X1 m c) (X2 m c)
      ∧ r.2.mem ((c.tc : Thread nD τ).loc main_v3_2) = res2 (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.QkvIdeal.Hand

end
-- ==== Proof.QkvRefValue.lean ====
/- The projection's reference at the extended reals: its results are the closed forms the kernel leaves. -/
module

public import proofs.«01_k».proof.Proof.Gen.QkvRefIdeal.Run
public import proofs.«01_k».proof.Proof.Gen.QkvIdeal
public import proofs.«01_k».proof.Proof.QkvForm
public import Idealize.ShloMosaic.Lib.Pointwise
public import Idealize.ShloMosaic.Lib.Pipeline.ValueKit

@[expose] public section

set_option maxRecDepth 16384

noncomputable section

namespace Cert.QkvRefIdeal.Hand

open Cert.QkvRefIdeal Cert.QkvRefIdeal.Gen Cert.QkvForm
open Idealize.ShloMosaic Idealize.ShloMosaic.TcCoe Idealize.SL.Sem

/-- The tokens in one row. -/
abbrev flat (x : FVec Ideal S8x8192x1024 .f32) : Cert.QkvIdeal.S65536x1024.Idx → EReal :=
  shapeCast Cert.QkvIdeal.S65536x1024 x Cert.QkvIdeal.Gen.facts.shapeCasts_S8x8192x1024_S65536x1024

theorem flat_apply (x : FVec Ideal S8x8192x1024 .f32) (t : Fin 65536) (l : Fin 1024) :
    flat x (ix2 t l) = x (ix3 (⟨t.val / 8192, by omega⟩ : Fin 8) (⟨t.val % 8192, by omega⟩ : Fin 8192) l) := by
  pointwise [flat]

/-- The projection, before the scales. -/
def projR (x : FVec Ideal S8x8192x1024 .f32) (g : FVec Ideal S1024 .f32) (w : FVec Ideal S1024x3072 .f32) : FVec Ideal S65536x3072 .f32 :=
  shapeCast S65536x3072 (Host.dotGeneral dot_S8x8192x1024_S1024x3072_S8x8192x3072_2_0_01_1_n_n none (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) w) shapeCasts_S8x8192x3072_S65536x3072

theorem projR_apply (x : FVec Ideal S8x8192x1024 .f32) (g : FVec Ideal S1024 .f32) (w : FVec Ideal S1024x3072 .f32) (t : Fin 65536) (n : Fin 3072) :
    projR x g w (ix2 t n) = ∑ k : Fin 1024, norm (fun l => flat x (ix2 t l)) (fun l => g (ix1 l)) k * w (ix2 k n) := by
  simp only [flat_apply]
  pointwise [projR]
  rfl

/-- The first group's columns. -/
def groupA (x : FVec Ideal S8x8192x1024 .f32) (g : FVec Ideal S1024 .f32) (w : FVec Ideal S1024x3072 .f32) : FVec Ideal S65536x1536 .f32 :=
  concatenate S65536x1536 1 [⟨S65536x512, (mulf (extractStridedSlice S65536x512 ![0, 0] (projR x g w) slices_S65536x3072_S65536x512_0_0) (broadcastInDim S65536x512 ![] bcast_S_S65536x512 (constant S_ .f32 0x3E000000#32)))⟩, ⟨S65536x1024, (extractStridedSlice S65536x1024 ![0, 512] (projR x g w) slices_S65536x3072_S65536x1024_0_512)⟩] concatenates_S65536x512_S65536x1024_S65536x1536_d1

/-- All the columns. -/
def allR (x : FVec Ideal S8x8192x1024 .f32) (g : FVec Ideal S1024 .f32) (w : FVec Ideal S1024x3072 .f32) : FVec Ideal S65536x3072 .bf16 :=
  truncf .bf16 ((concatenate S65536x3072 1 [⟨S65536x1536, ((groupA x g w) : (⟨S65536x1536, .f32⟩ : BufTy).Contents (Elt Ideal))⟩, ⟨S65536x512, ((Host.divf (mulf (extractStridedSlice S65536x512 ![0, 1536] (projR x g w) slices_S65536x3072_S65536x512_0_1536) (broadcastInDim S65536x512 ![] bcast_S_S65536x512 (constant S_ .f32 0x3E000000#32))) (broadcastInDim S65536x512 ![] bcast_S_S65536x512 (Host.log (constant S_ .f32 0x40000000#32)))) : (⟨S65536x512, .f32⟩ : BufTy).Contents (Elt Ideal))⟩, ⟨S65536x1024, ((extractStridedSlice S65536x1024 ![0, 2048] (projR x g w) slices_S65536x3072_S65536x1024_0_2048) : (⟨S65536x1024, .f32⟩ : BufTy).Contents (Elt Ideal))⟩] concatenates_S65536x1536_S65536x512_S65536x1024_S65536x3072_d1 : (⟨S65536x3072, .f32⟩ : BufTy).Contents (Elt Ideal))) bitsLt_bf16_f32

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- An eighth of `y` over the logarithm of two. -/
theorem base_two (y : EReal) :
    Ideal.div (y * Ideal.ofBits .f32 0x3E000000#32) (Ideal.log (Ideal.ofBits .f32 0x40000000#32)) = y * ((8 * Real.log 2)⁻¹ : ℝ) := by
  have h : Real.log 2 ≠ 0 := (Real.log_pos (by norm_num)).ne'
  have hl : Ideal.log ((2 : ℝ) : EReal) = ((Real.log 2 : ℝ) : EReal) := if_neg (by norm_num)
  rw [ofBits_eighth, ofBits_two, hl, Ideal.div_coe h, mul_assoc, ← EReal.coe_mul]
  congr 2
  rw [mul_inv, one_div, one_div]

theorem row_eq (x : FVec Ideal S8x8192x1024 .f32) (g : FVec Ideal S1024 .f32) (w : FVec Ideal S1024x3072 .f32) (t : Fin 65536) (n : Fin 3072) :
    row (flat x) g w t n = scaled ((8 * Real.log 2)⁻¹ : ℝ) n.val (projR x g w (ix2 t n)) := by
  rw [projR_apply]; rfl

theorem groupA_apply (x : FVec Ideal S8x8192x1024 .f32) (g : FVec Ideal S1024 .f32) (w : FVec Ideal S1024x3072 .f32) (t : Fin 65536) (n : Fin 1536) :
    groupA x g w (ix2 t n) = row (flat x) g w t (⟨n.val, by omega⟩ : Fin 3072) := by
  rw [row_eq]
  pointwise [groupA]
  by_cases h : n.val < 512
  · refine (dif_pos h).trans ?_
    exact (if_pos h).symm
  · have e : scaled ((8 * Real.log 2)⁻¹ : ℝ) n.val (projR x g w (ix2 t (⟨n.val, by omega⟩ : Fin 3072))) = projR x g w (ix2 t (⟨n.val, by omega⟩ : Fin 3072)) := by
      unfold scaled
      rw [if_neg (by omega), if_neg (by omega)]
    have hn : (⟨512 + (n.val - 512), by omega⟩ : Fin 3072) = ⟨n.val, by omega⟩ := Fin.ext (show 512 + (n.val - 512) = n.val by omega)
    refine (dif_neg h).trans (Eq.trans ?_ e.symm)
    exact congrArg (fun k => projR x g w (ix2 t k)) hn

theorem allR_apply (x : FVec Ideal S8x8192x1024 .f32) (g : FVec Ideal S1024 .f32) (w : FVec Ideal S1024x3072 .f32) (t : Fin 65536) (n : Fin 3072) :
    allR x g w (ix2 t n) = row (flat x) g w t n := by
  pointwise [allR]
  by_cases h : n.val < 1536
  · refine (dif_pos h).trans ?_
    exact groupA_apply x g w t ⟨n.val, h⟩
  · refine (dif_neg h).trans ?_
    by_cases h' : n.val - 1536 < 512
    · have e : scaled ((8 * Real.log 2)⁻¹ : ℝ) n.val (projR x g w (ix2 t n)) = projR x g w (ix2 t n) * ((8 * Real.log 2)⁻¹ : ℝ) := by
        unfold scaled
        rw [if_neg (by omega), if_pos (by omega)]
      have hn : (⟨1536 + (n.val - 1536), by omega⟩ : Fin 3072) = n := Fin.ext (show 1536 + (n.val - 1536) = n.val by omega)
      refine (dif_pos h').trans ((base_two _).trans (Eq.trans ?_ (e.symm.trans (row_eq x g w t n).symm)))
      exact congrArg (fun k => projR x g w (ix2 t k) * ((8 * Real.log 2)⁻¹ : ℝ)) hn
    · have e : scaled ((8 * Real.log 2)⁻¹ : ℝ) n.val (projR x g w (ix2 t n)) = projR x g w (ix2 t n) := by
        unfold scaled
        rw [if_neg (by omega), if_neg (by omega)]
      have hn : (⟨2048 + (n.val - 1536 - 512), by omega⟩ : Fin 3072) = n := Fin.ext (show 2048 + (n.val - 1536 - 512) = n.val by omega)
      refine (dif_neg h').trans (Eq.trans ?_ (e.symm.trans (row_eq x g w t n).symm))
      exact congrArg (fun k => projR x g w (ix2 t k)) hn

/-- The reference's results are the closed forms. -/
theorem ref0 (x : FVec Ideal S8x8192x1024 .f32) (g : FVec Ideal S1024 .f32) (w : FVec Ideal S1024x3072 .f32) : allR x g w = res0 (flat x) g w := by
  funext y
  obtain ⟨t, n, rfl⟩ : ∃ (t : Fin 65536) (n : Fin 3072), y = (ix2 t n : S65536x3072.Idx) := ⟨y 0, y 1, eq_ix2 y⟩
  exact allR_apply x g w t n

theorem ref1 (x : FVec Ideal S8x8192x1024 .f32) (g : FVec Ideal S1024 .f32) (w : FVec Ideal S1024x3072 .f32) :
    (truncf (F := Ideal) .bf16 (shapeCast S16384x6144 (groupA x g w) shapeCasts_S65536x1536_S16384x6144) bitsLt_bf16_f32 : FVec Ideal S16384x6144 .bf16)
      = res1 (flat x) g w := by
  funext y
  obtain ⟨t, n, rfl⟩ : ∃ (t : Fin 16384) (n : Fin 6144), y = (ix2 t n : S16384x6144.Idx) := ⟨y 0, y 1, eq_ix2 y⟩
  have h : truncf (F := Ideal) .bf16 (shapeCast S16384x6144 (groupA x g w) shapeCasts_S65536x1536_S16384x6144) bitsLt_bf16_f32 (ix2 t n)
      = groupA x g w (ix2 (⟨4 * t.val + n.val / 1536, by omega⟩ : Fin 65536) (⟨n.val % 1536, by omega⟩ : Fin 1536)) := by
    have ht : (⟨t.val * 4 + n.val / 1536, by omega⟩ : Fin 65536) = ⟨4 * t.val + n.val / 1536, by omega⟩ := Fin.ext (show t.val * 4 + n.val / 1536 = 4 * t.val + n.val / 1536 by omega)
    pointwise
    exact congrArg (fun k => groupA x g w (ix2 k (⟨n.val % 1536, by omega⟩ : Fin 1536))) ht
  exact h.trans (groupA_apply x g w _ _)

theorem ref2 (x : FVec Ideal S8x8192x1024 .f32) (g : FVec Ideal S1024 .f32) (w : FVec Ideal S1024x3072 .f32) :
    (truncf (F := Ideal) .bf16 (shapeCast S4096x24576 (groupA x g w) shapeCasts_S65536x1536_S4096x24576) bitsLt_bf16_f32 : FVec Ideal S4096x24576 .bf16)
      = res2 (flat x) g w := by
  funext y
  obtain ⟨t, n, rfl⟩ : ∃ (t : Fin 4096) (n : Fin 24576), y = (ix2 t n : S4096x24576.Idx) := ⟨y 0, y 1, eq_ix2 y⟩
  have h : truncf (F := Ideal) .bf16 (shapeCast S4096x24576 (groupA x g w) shapeCasts_S65536x1536_S4096x24576) bitsLt_bf16_f32 (ix2 t n)
      = groupA x g w (ix2 (⟨16 * t.val + n.val / 1536, by omega⟩ : Fin 65536) (⟨n.val % 1536, by omega⟩ : Fin 1536)) := by
    have ht : (⟨t.val * 16 + n.val / 1536, by omega⟩ : Fin 65536) = ⟨16 * t.val + n.val / 1536, by omega⟩ := Fin.ext (show t.val * 16 + n.val / 1536 = 16 * t.val + n.val / 1536 by omega)
    pointwise
    exact congrArg (fun k => groupA x g w (ix2 k (⟨n.val % 1536, by omega⟩ : Fin 1536))) ht
  exact h.trans (groupA_apply x g w _ _)

end Cert.QkvRefIdeal.Hand

end
-- ==== Proof.QkvAlgebra.lean ====
/- `qkv`: the kernel and its reference leave the same three arrays. -/
module

public import proofs.«01_k».proof.Proof.QkvValue
public import proofs.«01_k».proof.Proof.QkvRefValue
public import Idealize.ShloMosaic.Lib.Quiescent

@[expose] public section

noncomputable section

namespace Cert.QkvAlgebra

open Idealize.ShloMosaic Idealize.ShloMosaic.TcCoe Idealize.SL.Sem
open Cert.QkvForm Cert.QkvIdeal.Hand

/-- The reference's run leaves its arguments; it has no semaphore. -/
theorem frame_reference : Cert.quiescent_QkvRefIdeal := fun m ρ _ =>
  (θ_run Cert.QkvRefIdeal.defs _ _).mono (fun r h => ⟨fun c => (h c).2.2.2, Idealize.ShloMosaic.sem_eq_zero_of_no_sems (by decide) r.2⟩)
    (Cert.QkvRefIdeal.Value.run (F := Ideal) m ρ)

/-- The kernel's literal is the named constant's word. -/
theorem preserves : Cert.preserves_Qkv_QkvIdeal :=
  IdealRules.named_const.statement Cert.QkvIdeal.κ "log2e_8" .f32 0x3E38AA3B#32 (((8 * (Real.log 2))⁻¹ : ℝ) : EReal) rfl

theorem algebraic : Cert.algebraic_QkvIdeal_QkvRefIdeal := fun m g m' g' _ hagree =>
  ⟨fun c => res0 (X0 m c) (X1 m c) (X2 m c), fun c => res1 (X0 m c) (X1 m c) (X2 m c), fun c => res2 (X0 m c) (X1 m c) (X2 m c),
    Cert.QkvIdeal.Hand.run m g,
    (θ_run _ _ _).mono (fun r h c => by
      obtain ⟨h0, h1, h2, ha⟩ := h c
      obtain ⟨e0, e1, e2⟩ := hagree c
      refine ⟨h0.trans ?_, h1.trans ?_, h2.trans ?_, ha⟩
      · refine (Cert.QkvRefIdeal.Hand.ref0 _ _ _).trans ?_
        rw [e0, e1, e2]
      · refine (Cert.QkvRefIdeal.Hand.ref1 _ _ _).trans ?_
        rw [e0, e1, e2]
      · refine (Cert.QkvRefIdeal.Hand.ref2 _ _ _).trans ?_
        rw [e0, e1, e2]) (Cert.QkvRefIdeal.Value.run (F := Ideal) m' g')⟩

end Cert.QkvAlgebra

end
-- ==== Proof.DilPay.lean ====
/- What one tile of dilated attention stores, place by place, at the extended reals. -/
module

public import proofs.«01_k».proof.Proof.Gen.DilIdeal.Frame
public import Idealize.ShloMosaic.Lib.Pointwise
public import Idealize.ShloMosaic.Lib.WholeRead
public import Idealize.ShloMosaic.Lib.Pipeline.ValueKit

@[expose] public section

set_option maxRecDepth 16384

noncomputable section

namespace Cert.DilIdeal.Hand

open Cert.DilIdeal Cert.DilIdeal.Gen
open Idealize.ShloMosaic Idealize.ShloMosaic.TcCoe Idealize.SL.Sem

/-- The lane numbers of a tile. -/
abbrev lanes : IVec S128x128 32 := iota .tc S128x128 32 [1] iota_S128x128_d1_w32

/-- Two groups of 128 keys, one after the other. -/
def catT (a b : Vec Ideal S1x128x128 .bf16) : FVec Ideal S256x128 .bf16 :=
  concatenate (α := Ideal .bf16) S256x128 0 [⟨S128x128, shapeCast S128x128 a shapeCasts_S1x128x128_S128x128⟩, ⟨S128x128, shapeCast S128x128 b shapeCasts_S1x128x128_S128x128⟩]
    concatenates_S128x128_S128x128_S256x128_d0

/-- The logits of one head: 128 queries, masked to the head's lanes, against 256 keys. -/
def lgAll (msk : FVec Ideal S1x128 .bf16) (q : Vec Ideal S1x128x128 .bf16) (ka kb : Vec Ideal S1x128x128 .bf16) (b : Vec Ideal S1x128x256 .f32) :
    FVec Ideal S128x256 .f32 :=
  addf (F := Ideal) (φ := .f32) (matmul dot_S128x128_S256x128_S128x256_1_1_0_0_n_n none
      (mulf (F := Ideal) (φ := .bf16) (shapeCast S128x128 q shapeCasts_S1x128x128_S128x128) (broadcastTo S128x128 msk broadcasts_S1x128_S128x128))
      (catT ka kb) (constant S128x256 .f32 0x00000000#32))
    (shapeCast S128x256 b shapeCasts_S1x128x256_S128x256)

/-- The same, a first block's missing keys left out. -/
def lgFirst (i : grid0.Coords) (msk : FVec Ideal S1x128 .bf16) (q : Vec Ideal S1x128x128 .bf16) (ka kb : Vec Ideal S1x128x128 .bf16) (b : Vec Ideal S1x128x256 .f32) :
    FVec Ideal S128x256 .f32 :=
  select (k0_pay3 i) (lgAll msk q ka kb b) (broadcast S128x256 (Named.named κ "neg_inf" 0xF149F2CA#32))

/-- The largest logit of a query, its weights, and the weights' sum. -/
def mxT (L : FVec Ideal S128x256 .f32) : FVec Ideal S128x1 .f32 :=
  shapeCast S128x1 (multiReduction .maximumf [1] S128 L 0xFF800000#32 reduces_S128x256_S128 (.inl rfl) rfl) shapeCasts_S128_S128x1
def prT (L : FVec Ideal S128x256 .f32) : FVec Ideal S128x256 .f32 := exp (subf L (broadcastTo S128x256 (mxT L) broadcasts_S128x1_S128x256))
def dnT (L : FVec Ideal S128x256 .f32) : FVec Ideal S128x1 .f32 :=
  shapeCast S128x1 (multiReduction .add [1] S128 (prT L) 0x00000000#32 reduces_S128x256_S128 (.inl rfl) rfl) shapeCasts_S128_S128x1

/-- The weighted sum of the values, over all the lanes of a pair of heads. -/
def ovT (L : FVec Ideal S128x256 .f32) (va vb : Vec Ideal S1x128x128 .bf16) : FVec Ideal S128x128 .f32 :=
  matmul dot_S128x256_S256x128_S128x128_1_0_0_1_n_n none (truncf (F := Ideal) .bf16 (prT L) bitsLt_bf16_f32) (catT va vb) (constant S128x128 .f32 0x00000000#32)

/-- A stored tile of the first result. -/
def oT (L0 L1 : FVec Ideal S128x256 .f32) (va vb : Vec Ideal S1x128x128 .bf16) : FVec Ideal S1x128x128 .f32 :=
  shapeCast S1x128x128 (select (cmpi .slt lanes (broadcast S128x128 64#32)) (ovT L0 va vb) (ovT L1 va vb)) shapeCasts_S128x128_S1x128x128

/-- A head's largest logit and sum written into a tile of the second result. -/
def stT (a b : BitVec 32) (L : FVec Ideal S128x256 .f32) (T : FVec Ideal S128x128 .f32) : FVec Ideal S128x128 .f32 :=
  select (cmpi .eq lanes (broadcast S128x128 b)) (broadcastTo S128x128 (shapeCast S128x1 (dnT L) shapeCasts_S128x1_S128x1) broadcasts_S128x1_S128x128)
    (select (cmpi .eq lanes (broadcast S128x128 a)) (broadcastTo S128x128 (shapeCast S128x1 (mxT L) shapeCasts_S128x1_S128x1) broadcasts_S128x1_S128x128) T)

/-- A stored tile of the second result. -/
def lT (L0 L1 L2 L3 L4 L5 L6 L7 : FVec Ideal S128x256 .f32) : FVec Ideal S1x128x128 .f32 :=
  shapeCast S1x128x128 (stT 7#32 15#32 L7 (stT 6#32 14#32 L6 (stT 5#32 13#32 L5 (stT 4#32 12#32 L4 (stT 3#32 11#32 L3
    (stT 2#32 10#32 L2 (stT 1#32 9#32 L1 (stT 0#32 8#32 L0 (broadcast S128x128 (Scalar.ofBits (F := Ideal) .f32 0x00000000#32))))))))))
    shapeCasts_S128x128_S1x128x128

section Apply
variable (msk : FVec Ideal S1x128 .bf16) (q ka kb va vb : Vec Ideal S1x128x128 .bf16) (b : Vec Ideal S1x128x256 .f32) (L L0 L1 : FVec Ideal S128x256 .f32)

theorem catT_apply (j : Fin 256) (l : Fin 128) :
    catT ka kb (ix2 j l) = if h : j.val < 128 then ka (ix3 0 (⟨j.val, h⟩ : Fin 128) l) else kb (ix3 0 (⟨j.val - 128, by omega⟩ : Fin 128) l) := by
  pointwise [catT]

theorem lgAll_apply (r : Fin 128) (j : Fin 256) :
    lgAll msk q ka kb b (ix2 r j) = (∑ l : Fin 128, q (ix3 0 r l) * msk (ix2 0 l) * catT ka kb (ix2 j l)) + b (ix3 0 r j) := by
  pointwise [lgAll]

theorem lt64 : ∀ l : Fin 128, IntOp.cmpi CmpIPredicate.slt (BitVec.ofNat 32 l.val) 64#32 = if l.val < 64 then 1#1 else 0#1 := by decide +kernel
theorem ge64 : ∀ l : Fin 128, IntOp.cmpi CmpIPredicate.sge (BitVec.ofNat 32 l.val) 64#32 = if l.val < 64 then 0#1 else 1#1 := by decide +kernel
theorem eqk : ∀ k l : Fin 128, IntOp.cmpi CmpIPredicate.eq (BitVec.ofNat 32 l.val) (BitVec.ofNat 32 k.val) = if l.val = k.val then 1#1 else 0#1 := by decide +kernel
theorem hasPrev : ∀ (n : Fin 4) (j : Fin 256), IntOp.ori (Scalar.cmpi CmpIPredicate.sgt (BitVec.ofNat 32 n.val) 0#32)
      (IntOp.cmpi CmpIPredicate.sge (BitVec.ofNat 32 j.val) 128#32) = if n.val = 0 ∧ j.val < 128 then 0#1 else 1#1 := by decide +kernel

theorem lgFirst_apply (i : grid0.Coords) (r : Fin 128) (j : Fin 256) :
    lgFirst i msk q ka kb b (ix2 r j) = if (i 2).val = 0 ∧ j.val < 128 then ⊥ else lgAll msk q ka kb b (ix2 r j) := by
  pointwise [lgFirst, k0_pay3]
  have h := hasPrev (i 2) j
  rw [h]
  split <;> rfl

theorem ofBits_neg_inf : Ideal.ofBits FTy.f32 0xFF800000#32 = ⊥ := by
  simp [Ideal.ofBits, Ideal.ieee]

theorem mxT_apply (r : Fin 128) : mxT L (ix2 r 0) = Finset.univ.fold max ⊥ (fun j : Fin 256 => L (ix2 r j)) := by
  rw [← ofBits_neg_inf]
  pointwise [mxT]

theorem prT_apply (r : Fin 128) (j : Fin 256) : prT L (ix2 r j) = Ideal.exp (L (ix2 r j) - mxT L (ix2 r 0)) := by
  pointwise [prT]

theorem dnT_apply (r : Fin 128) : dnT L (ix2 r 0) = ∑ j : Fin 256, prT L (ix2 r j) := by
  pointwise [dnT]

theorem ovT_apply (r l : Fin 128) : ovT L va vb (ix2 r l) = ∑ j : Fin 256, prT L (ix2 r j) * catT va vb (ix2 j l) := by
  pointwise [ovT]

theorem oT_apply (r l : Fin 128) : oT L0 L1 va vb (ix3 0 r l) = if l.val < 64 then ovT L0 va vb (ix2 r l) else ovT L1 va vb (ix2 r l) := by
  pointwise [oT]
  rw [lt64]
  split <;> rfl

theorem stT_apply (a c : ℕ) (ha : a < 128) (hc : c < 128) (T) (r l : Fin 128) :
    stT (BitVec.ofNat 32 a) (BitVec.ofNat 32 c) L T (ix2 r l) = if l.val = c then dnT L (ix2 r 0) else if l.val = a then mxT L (ix2 r 0) else T (ix2 r l) := by
  pointwise [stT]
  have h1 := eqk ⟨a, ha⟩ l
  have h2 := eqk ⟨c, hc⟩ l
  dsimp only at h1 h2
  rw [h1, h2]
  split <;> split <;> rfl

theorem pay4_apply (l : Fin 128) : k0_pay4 (F := Ideal) (ix2 0 l) = if l.val < 64 then 1 else 0 := by
  pointwise [k0_pay4]
  rw [lt64]
  split <;> rfl
theorem pay5_apply (l : Fin 128) : k0_pay5 (F := Ideal) (ix2 0 l) = if l.val < 64 then 0 else 1 := by
  pointwise [k0_pay5]
  rw [ge64]
  split <;> rfl
theorem lT_apply (L0 L1 L2 L3 L4 L5 L6 L7 : FVec Ideal S128x256 .f32) (r l : Fin 128) :
    lT L0 L1 L2 L3 L4 L5 L6 L7 (ix3 0 r l)
      = if l.val = 15 then dnT L7 (ix2 r 0) else if l.val = 7 then mxT L7 (ix2 r 0)
        else if l.val = 14 then dnT L6 (ix2 r 0) else if l.val = 6 then mxT L6 (ix2 r 0)
        else if l.val = 13 then dnT L5 (ix2 r 0) else if l.val = 5 then mxT L5 (ix2 r 0)
        else if l.val = 12 then dnT L4 (ix2 r 0) else if l.val = 4 then mxT L4 (ix2 r 0)
        else if l.val = 11 then dnT L3 (ix2 r 0) else if l.val = 3 then mxT L3 (ix2 r 0)
        else if l.val = 10 then dnT L2 (ix2 r 0) else if l.val = 2 then mxT L2 (ix2 r 0)
        else if l.val = 9 then dnT L1 (ix2 r 0) else if l.val = 1 then mxT L1 (ix2 r 0)
        else if l.val = 8 then dnT L0 (ix2 r 0) else if l.val = 0 then mxT L0 (ix2 r 0) else 0 := by
  have h : ∀ T : FVec Ideal S128x128 .f32, shapeCast S1x128x128 T shapeCasts_S128x128_S1x128x128 (ix3 0 r l) = T (ix2 r l) := by
    intro T; pointwise
  have z : (broadcast S128x128 (Scalar.ofBits (F := Ideal) .f32 0x00000000#32) : FVec Ideal S128x128 .f32) (ix2 r l) = 0 := by pointwise
  unfold lT
  rw [h]
  refine (stT_apply _ 7 15 (by decide) (by decide) _ r l).trans (if_congr Iff.rfl rfl (if_congr Iff.rfl rfl ?_))
  refine (stT_apply _ 6 14 (by decide) (by decide) _ r l).trans (if_congr Iff.rfl rfl (if_congr Iff.rfl rfl ?_))
  refine (stT_apply _ 5 13 (by decide) (by decide) _ r l).trans (if_congr Iff.rfl rfl (if_congr Iff.rfl rfl ?_))
  refine (stT_apply _ 4 12 (by decide) (by decide) _ r l).trans (if_congr Iff.rfl rfl (if_congr Iff.rfl rfl ?_))
  refine (stT_apply _ 3 11 (by decide) (by decide) _ r l).trans (if_congr Iff.rfl rfl (if_congr Iff.rfl rfl ?_))
  refine (stT_apply _ 2 10 (by decide) (by decide) _ r l).trans (if_congr Iff.rfl rfl (if_congr Iff.rfl rfl ?_))
  refine (stT_apply _ 1 9 (by decide) (by decide) _ r l).trans (if_congr Iff.rfl rfl (if_congr Iff.rfl rfl ?_))
  refine (stT_apply _ 0 8 (by decide) (by decide) _ r l).trans (if_congr Iff.rfl rfl (if_congr Iff.rfl rfl ?_))
  exact z

end Apply

end Cert.DilIdeal.Hand

end
-- ==== Proof.DilRun.lean ====
/- The blocks the body of `dilated` leaves, at the extended reals: every tile it stores agrees with one function of the block. -/
module

public import proofs.«01_k».proof.Proof.DilPay

@[expose] public section

set_option maxRecDepth 16384

noncomputable section

namespace Cert.DilIdeal.Hand

open Cert.DilIdeal Cert.DilIdeal.Gen
open Idealize.ShloMosaic Idealize.ShloMosaic.TcCoe Idealize.SL.Sem

section Run
variable (i : grid0.Coords) (x0 : Vec Ideal S1x2048x1536 .bf16) (x1 : Vec Ideal S1x128x1536 .bf16) (x2 : Vec Ideal S8x128x256 .f32)

/-- The entries of a block's tokens, of the group before it and of the bias, by their numbers. -/
def at0 (t c : ℕ) : EReal := if h : t < 2048 ∧ c < 1536 then x0 (ix3 0 (⟨t, h.1⟩ : Fin 2048) (⟨c, h.2⟩ : Fin 1536)) else 0
def at1 (t c : ℕ) : EReal := if h : t < 128 ∧ c < 1536 then x1 (ix3 0 (⟨t, h.1⟩ : Fin 128) (⟨c, h.2⟩ : Fin 1536)) else 0
def at2 (k r j : ℕ) : EReal :=
  if h : k < 8 ∧ r < 128 ∧ j < 256 then x2 (ix3 (⟨k, h.1⟩ : Fin 8) (⟨r, h.2.1⟩ : Fin 128) (⟨j, h.2.2⟩ : Fin 256)) else 0

theorem at0_eq (t : Fin 2048) (c : Fin 1536) : at0 x0 t.val c.val = x0 (ix3 0 t c) := dif_pos ⟨t.isLt, c.isLt⟩
theorem at1_eq (t : Fin 128) (c : Fin 1536) : at1 x1 t.val c.val = x1 (ix3 0 t c) := dif_pos ⟨t.isLt, c.isLt⟩
theorem at2_eq (k : Fin 8) (r : Fin 128) (j : Fin 256) : at2 x2 k.val r.val j.val = x2 (ix3 k r j) := dif_pos ⟨k.isLt, r.isLt, j.isLt⟩

/-- Column `c` of the `j`-th key (or value) of token `t`: the 128 tokens before `t`'s group, then the group. -/
def keyAt (t j c : ℕ) : EReal := if 128 * (t / 128) + j < 128 then at1 x1 j c else at0 x0 (128 * (t / 128) + j - 128) c

/-- Head `h`'s logit of token `t` and its `j`-th key; the largest; the weight; the results. -/
def lgB (h t j : ℕ) : EReal :=
  if (i 2).val = 0 ∧ 128 * (t / 128) + j < 128 then ⊥
  else (∑ d : Fin 64, at0 x0 t (64 * h + d.val) * keyAt x0 x1 t j (512 + 64 * h + d.val)) + at2 x2 h (t % 128) j
def mB (h t : ℕ) : EReal := Finset.univ.fold max ⊥ fun j : Fin 256 => lgB i x0 x1 x2 h t j.val
def wB (h t j : ℕ) : EReal := Ideal.exp (lgB i x0 x1 x2 h t j - mB i x0 x1 x2 h t)
def oB (t c : ℕ) : EReal := ∑ j : Fin 256, wB i x0 x1 x2 (c / 64) t j.val * keyAt x0 x1 t j.val (1024 + c)
def lB (t l : ℕ) : EReal :=
  if l < 8 then mB i x0 x1 x2 l t else if l < 16 then ∑ j : Fin 256, wB i x0 x1 x2 (l - 8) t j.val else 0

def GO : S1x2048x512.Idx → EReal := fun y => oB i x0 x1 x2 (y 1).val (y 2).val
def GS : S1x2048x128.Idx → EReal := fun y => lB i x0 x1 x2 (y 1).val (y 2).val

/-- The loads. -/
abbrev ld0 (a c : ℕ) (inb : ∀ k, (![0, a, c] : Fin 3 → ℕ) k + S1x128x128.size k ≤ S1x2048x1536.size k) : Vec Ideal S1x128x128 .bf16 :=
  View.ld x0 (Rect.unit (s := S1x2048x1536) ![0, a, c] S1x128x128.size inb)
abbrev ld1 (c : ℕ) (inb : ∀ k, (![0, 0, c] : Fin 3 → ℕ) k + S1x128x128.size k ≤ S1x128x1536.size k) : Vec Ideal S1x128x128 .bf16 :=
  View.ld x1 (Rect.unit (s := S1x128x1536) ![0, 0, c] S1x128x128.size inb)
abbrev ld2 (k : ℕ) (inb : ∀ a, (![k, 0, 0] : Fin 3 → ℕ) a + S1x128x256.size a ≤ S8x128x256.size a) : Vec Ideal S1x128x256 .f32 :=
  View.ld x2 (Rect.unit (s := S8x128x256) ![k, 0, 0] S1x128x256.size inb)

theorem ld0_apply (a c : ℕ) (inb) (r l : Fin 128) : ld0 x0 a c inb (ix3 0 r l) = at0 x0 (a + r.val) (c + l.val) := by
  have h1 : a + 128 ≤ 2048 := inb 1
  have h2 : c + 128 ≤ 1536 := inb 2
  refine Eq.trans ?_ (at0_eq x0 ⟨a + r.val, by omega⟩ ⟨c + l.val, by omega⟩).symm
  refine congrArg x0 ?_
  funext k; exact match k with
    | ⟨0, _⟩ => rfl
    | ⟨1, _⟩ => Fin.ext (show a + 1 * r.val = a + r.val by omega)
    | ⟨2, _⟩ => Fin.ext (show c + 1 * l.val = c + l.val by omega)

theorem ld1_apply (c : ℕ) (inb) (r l : Fin 128) : ld1 x1 c inb (ix3 0 r l) = at1 x1 r.val (c + l.val) := by
  have h2 : c + 128 ≤ 1536 := inb 2
  refine Eq.trans ?_ (at1_eq x1 r ⟨c + l.val, by omega⟩).symm
  refine congrArg x1 ?_
  funext k; exact match k with
    | ⟨0, _⟩ => rfl
    | ⟨1, _⟩ => Fin.ext (show 0 + 1 * r.val = r.val by omega)
    | ⟨2, _⟩ => Fin.ext (show c + 1 * l.val = c + l.val by omega)

theorem ld2_apply (k : ℕ) (inb) (r : Fin 128) (j : Fin 256) : ld2 x2 k inb (ix3 0 r j) = at2 x2 k r.val j.val := by
  have h2 : k + 1 ≤ 8 := inb 0
  refine Eq.trans ?_ (at2_eq x2 ⟨k, by omega⟩ r j).symm
  refine congrArg x2 ?_
  funext b; exact match b with
    | ⟨0, _⟩ => Fin.ext (show k + 1 * 0 = k by omega)
    | ⟨1, _⟩ => Fin.ext (show 0 + 1 * r.val = r.val by omega)
    | ⟨2, _⟩ => Fin.ext (show 0 + 1 * j.val = j.val by omega)

/-- The 256 keys of a group, of the block's first and of a later one. -/
theorem catFirst (c : ℕ) (i1 i0) (r : Fin 128) (j : Fin 256) (l : Fin 128) :
    catT (ld1 x1 c i1) (ld0 x0 0 c i0) (ix2 j l) = keyAt x0 x1 r.val j.val (c + l.val) := by
  have hr : r.val / 128 = 0 := by omega
  rw [catT_apply, keyAt, hr]
  split
  · next h => rw [ld1_apply, if_pos (by omega)]
  · next h => rw [ld0_apply, if_neg (by omega)]; exact congrArg (at0 x0 · _) (show 0 + (j.val - 128) = 128 * 0 + j.val - 128 by omega)

theorem catNext (g a a' c : ℕ) (ha : a = 128 * g) (ha' : a' + 128 = a) (i1 i0) (r : Fin 128) (j : Fin 256) (l : Fin 128) :
    catT (ld0 x0 a' c i1) (ld0 x0 a c i0) (ix2 j l) = keyAt x0 x1 (a + r.val) j.val (c + l.val) := by
  have hr : (a + r.val) / 128 = g := by omega
  rw [catT_apply, keyAt, hr, if_neg (by omega)]
  split
  · next h => rw [ld0_apply]; exact congrArg (at0 x0 · _) (show a' + j.val = 128 * g + j.val - 128 by omega)
  · next h => rw [ld0_apply]; exact congrArg (at0 x0 · _) (show a + (j.val - 128) = 128 * g + j.val - 128 by omega)

theorem sum_lo (f k : Fin 128 → EReal) : ∑ l : Fin 128, f l * (if l.val < 64 then 1 else 0) * k l = ∑ d : Fin 64, f (⟨d.val, by omega⟩ : Fin 128) * k (⟨d.val, by omega⟩ : Fin 128) := by
  refine (Fin.sum_univ_add (a := 64) (b := 64) _).trans ?_
  rw [Finset.sum_eq_zero (s := Finset.univ) (f := fun d : Fin 64 => f (Fin.natAdd 64 d) * (if (Fin.natAdd 64 d).val < 64 then 1 else 0) * k (Fin.natAdd 64 d)) (fun d _ => ?_), add_zero]
  · refine Finset.sum_congr rfl fun d _ => ?_
    rw [if_pos (show (Fin.castAdd 64 d).val < 64 from d.isLt), mul_one]; rfl
  · rw [if_neg (show ¬ (Fin.natAdd 64 d).val < 64 from by show ¬ 64 + d.val < 64; omega), mul_zero, zero_mul]

theorem sum_hi (f k : Fin 128 → EReal) : ∑ l : Fin 128, f l * (if l.val < 64 then 0 else 1) * k l = ∑ d : Fin 64, f (⟨64 + d.val, by omega⟩ : Fin 128) * k (⟨64 + d.val, by omega⟩ : Fin 128) := by
  refine (Fin.sum_univ_add (a := 64) (b := 64) _).trans ?_
  rw [Finset.sum_eq_zero (s := Finset.univ) (f := fun d : Fin 64 => f (Fin.castAdd 64 d) * (if (Fin.castAdd 64 d).val < 64 then 0 else 1) * k (Fin.castAdd 64 d)) (fun d _ => ?_), zero_add]
  · refine Finset.sum_congr rfl fun d _ => ?_
    rw [if_neg (show ¬ (Fin.natAdd 64 d).val < 64 from by show ¬ 64 + d.val < 64; omega), mul_one]; rfl
  · rw [if_pos (show (Fin.castAdd 64 d).val < 64 from d.isLt), mul_zero, zero_mul]

/-- A head's logits, of a group after the block's first. -/
theorem nextLo (p g a a' qc kc k : ℕ) (ha : a = 128 * g) (ha' : a' + 128 = a) (hq : qc = 128 * p) (hk : kc = 512 + qc) (hh : k = 2 * p) (i1 i2 i3 i4) (r : Fin 128) (j : Fin 256) :
    lgAll k0_pay4 (ld0 x0 a qc i1) (ld0 x0 a' kc i2) (ld0 x0 a kc i3) (ld2 x2 k i4) (ix2 r j) = lgB i x0 x1 x2 k (a + r.val) j.val := by
  rw [lgAll_apply, lgB, if_neg (by omega), ld2_apply]
  simp only [pay4_apply, catNext x0 x1 g a a' kc ha ha' _ _ r j]
  rw [sum_lo]
  refine congrArg₂ (· + ·) (Finset.sum_congr rfl fun d _ => ?_) (congrArg (at2 x2 k · _) (by omega))
  exact congrArg₂ (· * ·) ((ld0_apply x0 a qc i1 r _).trans (congrArg (at0 x0 _) (by dsimp only; omega))) (congrArg (keyAt x0 x1 _ _) (by dsimp only; omega))

theorem nextHi (p g a a' qc kc k : ℕ) (ha : a = 128 * g) (ha' : a' + 128 = a) (hq : qc = 128 * p) (hk : kc = 512 + qc) (hh : k = 2 * p + 1) (i1 i2 i3 i4) (r : Fin 128) (j : Fin 256) :
    lgAll k0_pay5 (ld0 x0 a qc i1) (ld0 x0 a' kc i2) (ld0 x0 a kc i3) (ld2 x2 k i4) (ix2 r j) = lgB i x0 x1 x2 k (a + r.val) j.val := by
  rw [lgAll_apply, lgB, if_neg (by omega), ld2_apply]
  simp only [pay5_apply, catNext x0 x1 g a a' kc ha ha' _ _ r j]
  rw [sum_hi]
  refine congrArg₂ (· + ·) (Finset.sum_congr rfl fun d _ => ?_) (congrArg (at2 x2 k · _) (by omega))
  exact congrArg₂ (· * ·) ((ld0_apply x0 a qc i1 r _).trans (congrArg (at0 x0 _) (by dsimp only; omega))) (congrArg (keyAt x0 x1 _ _) (by dsimp only; omega))

/-- A head's logits, of the block's first group. -/
theorem firstLo (p qc kc k : ℕ) (hq : qc = 128 * p) (hk : kc = 512 + qc) (hh : k = 2 * p) (i1 i2 i3 i4) (r : Fin 128) (j : Fin 256) :
    lgFirst i k0_pay4 (ld0 x0 0 qc i1) (ld1 x1 kc i2) (ld0 x0 0 kc i3) (ld2 x2 k i4) (ix2 r j) = lgB i x0 x1 x2 k r.val j.val := by
  rw [lgFirst_apply, lgB]
  refine if_congr (by omega) rfl ?_
  rw [lgAll_apply, ld2_apply]
  simp only [pay4_apply, catFirst x0 x1 kc _ _ r j]
  rw [sum_lo]
  refine congrArg₂ (· + ·) (Finset.sum_congr rfl fun d _ => ?_) (congrArg (at2 x2 k · _) (by omega))
  exact congrArg₂ (· * ·) ((ld0_apply x0 0 qc i1 r _).trans (congrArg₂ (at0 x0) (by omega) (by dsimp only; omega))) (congrArg (keyAt x0 x1 _ _) (by dsimp only; omega))

theorem firstHi (p qc kc k : ℕ) (hq : qc = 128 * p) (hk : kc = 512 + qc) (hh : k = 2 * p + 1) (i1 i2 i3 i4) (r : Fin 128) (j : Fin 256) :
    lgFirst i k0_pay5 (ld0 x0 0 qc i1) (ld1 x1 kc i2) (ld0 x0 0 kc i3) (ld2 x2 k i4) (ix2 r j) = lgB i x0 x1 x2 k r.val j.val := by
  rw [lgFirst_apply, lgB]
  refine if_congr (by omega) rfl ?_
  rw [lgAll_apply, ld2_apply]
  simp only [pay5_apply, catFirst x0 x1 kc _ _ r j]
  rw [sum_hi]
  refine congrArg₂ (· + ·) (Finset.sum_congr rfl fun d _ => ?_) (congrArg (at2 x2 k · _) (by omega))
  exact congrArg₂ (· * ·) ((ld0_apply x0 0 qc i1 r _).trans (congrArg₂ (at0 x0) (by omega) (by dsimp only; omega))) (congrArg (keyAt x0 x1 _ _) (by dsimp only; omega))

/-- What a tile's head computes, from its logits. -/
theorem mxT_eq (L : FVec Ideal S128x256 .f32) (k a : ℕ) (r : Fin 128) (hL : ∀ (r : Fin 128) (j : Fin 256), L (ix2 r j) = lgB i x0 x1 x2 k (a + r.val) j.val) :
    mxT L (ix2 r 0) = mB i x0 x1 x2 k (a + r.val) := by
  rw [mxT_apply, mB]; exact congrArg (Finset.univ.fold max ⊥) (funext fun j => hL r j)
theorem prT_eq (L : FVec Ideal S128x256 .f32) (k a : ℕ) (r : Fin 128) (j : Fin 256) (hL : ∀ (r : Fin 128) (j : Fin 256), L (ix2 r j) = lgB i x0 x1 x2 k (a + r.val) j.val) :
    prT L (ix2 r j) = wB i x0 x1 x2 k (a + r.val) j.val := by
  rw [prT_apply, mxT_eq i x0 x1 x2 L k a r hL, hL, wB]
theorem dnT_eq (L : FVec Ideal S128x256 .f32) (k a : ℕ) (r : Fin 128) (hL : ∀ (r : Fin 128) (j : Fin 256), L (ix2 r j) = lgB i x0 x1 x2 k (a + r.val) j.val) :
    dnT L (ix2 r 0) = ∑ j : Fin 256, wB i x0 x1 x2 k (a + r.val) j.val := by
  rw [dnT_apply]; exact Finset.sum_congr rfl fun j _ => prT_eq i x0 x1 x2 L k a r j hL

/-- A stored tile of the first result. -/
theorem pieceO (p a cc vc : ℕ) (hc : cc = 128 * p) (hv : vc = 1024 + cc) (inb : ∀ k, (![0, a, cc] : Fin 3 → ℕ) k + S1x128x128.size k ≤ S1x2048x512.size k)
    (P : S1x128x128.Idx → EReal) (L0 L1 : FVec Ideal S128x256 .f32) (va vb : Vec Ideal S1x128x128 .bf16) (hP : P = oT L0 L1 va vb)
    (h0 : ∀ (r : Fin 128) (j : Fin 256), L0 (ix2 r j) = lgB i x0 x1 x2 (2 * p) (a + r.val) j.val)
    (h1 : ∀ (r : Fin 128) (j : Fin 256), L1 (ix2 r j) = lgB i x0 x1 x2 (2 * p + 1) (a + r.val) j.val)
    (hV : ∀ (r : Fin 128) (j : Fin 256) (l : Fin 128), catT va vb (ix2 j l) = keyAt x0 x1 (a + r.val) j.val (vc + l.val))
    (x : S1x128x128.Idx) : P x = GO i x0 x1 x2 ((Rect.unit (s := S1x2048x512) ![0, a, cc] S1x128x128.size inb).emb x) := by
  obtain ⟨z, r, l, rfl⟩ : ∃ (z : Fin 1) (r : Fin 128) (l : Fin 128), x = (ix3 z r l : S1x128x128.Idx) := ⟨x 0, x 1, x 2, eq_ix3 x⟩
  obtain rfl : z = 0 := Subsingleton.elim _ _
  have e : GO i x0 x1 x2 ((Rect.unit (s := S1x2048x512) ![0, a, cc] S1x128x128.size inb).emb (ix3 0 r l)) = oB i x0 x1 x2 (a + r.val) (cc + l.val) :=
    congrArg₂ (oB i x0 x1 x2) (show a + 1 * r.val = a + r.val by omega) (show cc + 1 * l.val = cc + l.val by omega)
  rw [e, hP, oT_apply, oB]
  have e1 : 1024 + (cc + l.val) = vc + l.val := by omega
  split
  · next h =>
    have e2 : (cc + l.val) / 64 = 2 * p := by omega
    rw [ovT_apply, e1, e2]
    exact Finset.sum_congr rfl fun j _ => congrArg₂ (· * ·) (prT_eq i x0 x1 x2 L0 _ a r j h0) (hV r j l)
  · next h =>
    have e2 : (cc + l.val) / 64 = 2 * p + 1 := by omega
    rw [ovT_apply, e1, e2]
    exact Finset.sum_congr rfl fun j _ => congrArg₂ (· * ·) (prT_eq i x0 x1 x2 L1 _ a r j h1) (hV r j l)

/-- A stored tile of the second result. -/
theorem pieceL (a : ℕ) (inb : ∀ k, (![0, a, 0] : Fin 3 → ℕ) k + S1x128x128.size k ≤ S1x2048x128.size k)
    (P : S1x128x128.Idx → EReal) (L0 L1 L2 L3 L4 L5 L6 L7 : FVec Ideal S128x256 .f32) (hP : P = lT L0 L1 L2 L3 L4 L5 L6 L7)
    (h0 : ∀ (r : Fin 128) (j : Fin 256), L0 (ix2 r j) = lgB i x0 x1 x2 0 (a + r.val) j.val)
    (h1 : ∀ (r : Fin 128) (j : Fin 256), L1 (ix2 r j) = lgB i x0 x1 x2 1 (a + r.val) j.val)
    (h2 : ∀ (r : Fin 128) (j : Fin 256), L2 (ix2 r j) = lgB i x0 x1 x2 2 (a + r.val) j.val)
    (h3 : ∀ (r : Fin 128) (j : Fin 256), L3 (ix2 r j) = lgB i x0 x1 x2 3 (a + r.val) j.val)
    (h4 : ∀ (r : Fin 128) (j : Fin 256), L4 (ix2 r j) = lgB i x0 x1 x2 4 (a + r.val) j.val)
    (h5 : ∀ (r : Fin 128) (j : Fin 256), L5 (ix2 r j) = lgB i x0 x1 x2 5 (a + r.val) j.val)
    (h6 : ∀ (r : Fin 128) (j : Fin 256), L6 (ix2 r j) = lgB i x0 x1 x2 6 (a + r.val) j.val)
    (h7 : ∀ (r : Fin 128) (j : Fin 256), L7 (ix2 r j) = lgB i x0 x1 x2 7 (a + r.val) j.val)
    (x : S1x128x128.Idx) : P x = GS i x0 x1 x2 ((Rect.unit (s := S1x2048x128) ![0, a, 0] S1x128x128.size inb).emb x) := by
  obtain ⟨z, r, l, rfl⟩ : ∃ (z : Fin 1) (r : Fin 128) (l : Fin 128), x = (ix3 z r l : S1x128x128.Idx) := ⟨x 0, x 1, x 2, eq_ix3 x⟩
  obtain rfl : z = 0 := Subsingleton.elim _ _
  have e : GS i x0 x1 x2 ((Rect.unit (s := S1x2048x128) ![0, a, 0] S1x128x128.size inb).emb (ix3 0 r l)) = lB i x0 x1 x2 (a + r.val) l.val :=
    congrArg₂ (lB i x0 x1 x2) (show a + 1 * r.val = a + r.val by omega) (show 0 + 1 * l.val = l.val by omega)
  rw [e, hP, lT_apply, lB]
  rw [mxT_eq i x0 x1 x2 L0 _ a r h0, mxT_eq i x0 x1 x2 L1 _ a r h1, mxT_eq i x0 x1 x2 L2 _ a r h2, mxT_eq i x0 x1 x2 L3 _ a r h3,
    mxT_eq i x0 x1 x2 L4 _ a r h4, mxT_eq i x0 x1 x2 L5 _ a r h5, mxT_eq i x0 x1 x2 L6 _ a r h6, mxT_eq i x0 x1 x2 L7 _ a r h7,
    dnT_eq i x0 x1 x2 L0 _ a r h0, dnT_eq i x0 x1 x2 L1 _ a r h1, dnT_eq i x0 x1 x2 L2 _ a r h2, dnT_eq i x0 x1 x2 L3 _ a r h3,
    dnT_eq i x0 x1 x2 L4 _ a r h4, dnT_eq i x0 x1 x2 L5 _ a r h5, dnT_eq i x0 x1 x2 L6 _ a r h6, dnT_eq i x0 x1 x2 L7 _ a r h7]
  by_cases hl : l.val < 16
  · generalize l.val = n at hl
    interval_cases n <;> rfl
  · repeat rw [if_neg (by omega)]

end Run

end Cert.DilIdeal.Hand

end
-- ==== Proof.DilTilesO.lean ====
/- The tiles of the first result that the body of `dilated` stores. -/
module

public import proofs.«01_k».proof.Proof.DilRun

@[expose] public section

set_option maxRecDepth 16384

noncomputable section

namespace Cert.DilIdeal.Hand

open Cert.DilIdeal Cert.DilIdeal.Gen
open Idealize.ShloMosaic Idealize.ShloMosaic.TcCoe Idealize.SL.Sem

section Run
variable (i : grid0.Coords) (x0 : Vec Ideal S1x2048x1536 .bf16) (x1 : Vec Ideal S1x128x1536 .bf16) (x2 : Vec Ideal S8x128x256 .f32)

theorem o_15_3 : ∀ x, (k0_pay1 (k0_pay963 i x0 x1 x2) (k0_pay954 (k0_pay1158 i x0 x1 x2) (k0_pay1159 i x0 x1 x2) (k0_pay1160 i x0 x1 x2) (k0_pay1156 i x0 x1 x2) (View.ld x2 r0_29)) (k0_pay959 (k0_pay966 i x0 x1 x2) (k0_pay1157 i x0 x1 x2) (k0_pay1158 i x0 x1 x2) (k0_pay1159 i x0 x1 x2) (View.ld x2 r0_30)) : FVec Ideal S1x128x128 .f32) x = GO i x0 x1 x2 (r0_286.emb x) :=
  pieceO i x0 x1 x2 3 1920 384 1408 rfl rfl inb_S1x2048x512_S1x128x128_0_1920_384 _
    (lgAll k0_pay4 (ld0 x0 1920 384 inb_S1x2048x1536_S1x128x128_0_1920_384) (ld0 x0 1792 896 inb_S1x2048x1536_S1x128x128_0_1792_896) (ld0 x0 1920 896 inb_S1x2048x1536_S1x128x128_0_1920_896) (ld2 x2 6 inb_S8x128x256_S1x128x256_6_0_0))
    (lgAll k0_pay5 (ld0 x0 1920 384 inb_S1x2048x1536_S1x128x128_0_1920_384) (ld0 x0 1792 896 inb_S1x2048x1536_S1x128x128_0_1792_896) (ld0 x0 1920 896 inb_S1x2048x1536_S1x128x128_0_1920_896) (ld2 x2 7 inb_S8x128x256_S1x128x256_7_0_0))
    (ld0 x0 1792 1408 inb_S1x2048x1536_S1x128x128_0_1792_1408) (ld0 x0 1920 1408 inb_S1x2048x1536_S1x128x128_0_1920_1408) rfl
    (fun r j => nextLo i x0 x1 x2 3 15 1920 1792 384 896 6 rfl rfl rfl rfl rfl _ _ _ _ r j)
    (fun r j => nextHi i x0 x1 x2 3 15 1920 1792 384 896 7 rfl rfl rfl rfl rfl _ _ _ _ r j)
    (fun r j l => catNext x0 x1 15 1920 1792 1408 rfl rfl _ _ r j l)

theorem o_15_2 : ∀ x, (k0_pay946 (k0_pay963 i x0 x1 x2) (k0_pay935 (k0_pay1154 i x0 x1 x2) (View.ld x0 r0_281)) (k0_pay939 (k0_pay965 i x0 x1 x2) (k0_pay1152 i x0 x1 x2) (k0_pay1153 i x0 x1 x2) (k0_pay1154 i x0 x1 x2) (View.ld x0 r0_280) (View.ld x0 r0_281) (View.ld x2 r0_21)) (k0_pay1155 i x0 x1 x2) : FVec Ideal S1x128x128 .f32) x = GO i x0 x1 x2 (r0_282.emb x) :=
  pieceO i x0 x1 x2 2 1920 256 1280 rfl rfl inb_S1x2048x512_S1x128x128_0_1920_256 _
    (lgAll k0_pay4 (ld0 x0 1920 256 inb_S1x2048x1536_S1x128x128_0_1920_256) (ld0 x0 1792 768 inb_S1x2048x1536_S1x128x128_0_1792_768) (ld0 x0 1920 768 inb_S1x2048x1536_S1x128x128_0_1920_768) (ld2 x2 4 inb_S8x128x256_S1x128x256_4_0_0))
    (lgAll k0_pay5 (ld0 x0 1920 256 inb_S1x2048x1536_S1x128x128_0_1920_256) (ld0 x0 1792 768 inb_S1x2048x1536_S1x128x128_0_1792_768) (ld0 x0 1920 768 inb_S1x2048x1536_S1x128x128_0_1920_768) (ld2 x2 5 inb_S8x128x256_S1x128x256_5_0_0))
    (ld0 x0 1792 1280 inb_S1x2048x1536_S1x128x128_0_1792_1280) (ld0 x0 1920 1280 inb_S1x2048x1536_S1x128x128_0_1920_1280) rfl
    (fun r j => nextLo i x0 x1 x2 2 15 1920 1792 256 768 4 rfl rfl rfl rfl rfl _ _ _ _ r j)
    (fun r j => nextHi i x0 x1 x2 2 15 1920 1792 256 768 5 rfl rfl rfl rfl rfl _ _ _ _ r j)
    (fun r j l => catNext x0 x1 15 1920 1792 1280 rfl rfl _ _ r j l)

theorem o_15_1 : ∀ x, (k0_pay930 (k0_pay963 i x0 x1 x2) (k0_pay1149 i x0 x1 x2) (k0_pay1150 i x0 x1 x2) (k0_pay919 (View.ld x0 r0_260) (View.ld x0 r0_277)) (k0_pay923 (k0_pay965 i x0 x1 x2) (View.ld x0 r0_275) (View.ld x0 r0_259) (View.ld x0 r0_260) (View.ld x0 r0_276) (View.ld x0 r0_277) (View.ld x2 r0_13)) (k0_pay1151 i x0 x1 x2) (View.ld x2 r0_14) : FVec Ideal S1x128x128 .f32) x = GO i x0 x1 x2 (r0_278.emb x) :=
  pieceO i x0 x1 x2 1 1920 128 1152 rfl rfl inb_S1x2048x512_S1x128x128_0_1920_128 _
    (lgAll k0_pay4 (ld0 x0 1920 128 inb_S1x2048x1536_S1x128x128_0_1920_128) (ld0 x0 1792 640 inb_S1x2048x1536_S1x128x128_0_1792_640) (ld0 x0 1920 640 inb_S1x2048x1536_S1x128x128_0_1920_640) (ld2 x2 2 inb_S8x128x256_S1x128x256_2_0_0))
    (lgAll k0_pay5 (ld0 x0 1920 128 inb_S1x2048x1536_S1x128x128_0_1920_128) (ld0 x0 1792 640 inb_S1x2048x1536_S1x128x128_0_1792_640) (ld0 x0 1920 640 inb_S1x2048x1536_S1x128x128_0_1920_640) (ld2 x2 3 inb_S8x128x256_S1x128x256_3_0_0))
    (ld0 x0 1792 1152 inb_S1x2048x1536_S1x128x128_0_1792_1152) (ld0 x0 1920 1152 inb_S1x2048x1536_S1x128x128_0_1920_1152) rfl
    (fun r j => nextLo i x0 x1 x2 1 15 1920 1792 128 640 2 rfl rfl rfl rfl rfl _ _ _ _ r j)
    (fun r j => nextHi i x0 x1 x2 1 15 1920 1792 128 640 3 rfl rfl rfl rfl rfl _ _ _ _ r j)
    (fun r j l => catNext x0 x1 15 1920 1792 1152 rfl rfl _ _ r j l)

theorem o_15_0 : ∀ x, (k0_pay916 (k0_pay963 i x0 x1 x2) (k0_pay966 i x0 x1 x2) (k0_pay1147 i x0 x1 x2) (k0_pay1148 i x0 x1 x2) (k0_pay906 (View.ld x0 r0_256) (View.ld x0 r0_273)) (k0_pay911 (k0_pay965 i x0 x1 x2) (View.ld x0 r0_271) (View.ld x0 r0_255) (View.ld x0 r0_272) (View.ld x2 r0_5)) (constant S128x128 .f32 0x00000000#32) (View.ld x2 r0_6) : FVec Ideal S1x128x128 .f32) x = GO i x0 x1 x2 (r0_274.emb x) :=
  pieceO i x0 x1 x2 0 1920 0 1024 rfl rfl inb_S1x2048x512_S1x128x128_0_1920_0 _
    (lgAll k0_pay4 (ld0 x0 1920 0 inb_S1x2048x1536_S1x128x128_0_1920_0) (ld0 x0 1792 512 inb_S1x2048x1536_S1x128x128_0_1792_512) (ld0 x0 1920 512 inb_S1x2048x1536_S1x128x128_0_1920_512) (ld2 x2 0 inb_S8x128x256_S1x128x256_0_0_0))
    (lgAll k0_pay5 (ld0 x0 1920 0 inb_S1x2048x1536_S1x128x128_0_1920_0) (ld0 x0 1792 512 inb_S1x2048x1536_S1x128x128_0_1792_512) (ld0 x0 1920 512 inb_S1x2048x1536_S1x128x128_0_1920_512) (ld2 x2 1 inb_S8x128x256_S1x128x256_1_0_0))
    (ld0 x0 1792 1024 inb_S1x2048x1536_S1x128x128_0_1792_1024) (ld0 x0 1920 1024 inb_S1x2048x1536_S1x128x128_0_1920_1024) rfl
    (fun r j => nextLo i x0 x1 x2 0 15 1920 1792 0 512 0 rfl rfl rfl rfl rfl _ _ _ _ r j)
    (fun r j => nextHi i x0 x1 x2 0 15 1920 1792 0 512 1 rfl rfl rfl rfl rfl _ _ _ _ r j)
    (fun r j l => catNext x0 x1 15 1920 1792 1024 rfl rfl _ _ r j l)

theorem o_14_3 : ∀ x, (k0_pay901 (k0_pay900 (k0_pay963 i x0 x1 x2) (k0_pay966 i x0 x1 x2) (k0_pay1144 i x0 x1 x2) (k0_pay1145 i x0 x1 x2) (k0_pay892 (View.ld x0 r0_251) (View.ld x0 r0_268)) (k0_pay1146 i x0 x1 x2) (View.ld x2 r0_30)) : FVec Ideal S1x128x128 .f32) x = GO i x0 x1 x2 (r0_269.emb x) :=
  pieceO i x0 x1 x2 3 1792 384 1408 rfl rfl inb_S1x2048x512_S1x128x128_0_1792_384 _
    (lgAll k0_pay4 (ld0 x0 1792 384 inb_S1x2048x1536_S1x128x128_0_1792_384) (ld0 x0 1664 896 inb_S1x2048x1536_S1x128x128_0_1664_896) (ld0 x0 1792 896 inb_S1x2048x1536_S1x128x128_0_1792_896) (ld2 x2 6 inb_S8x128x256_S1x128x256_6_0_0))
    (lgAll k0_pay5 (ld0 x0 1792 384 inb_S1x2048x1536_S1x128x128_0_1792_384) (ld0 x0 1664 896 inb_S1x2048x1536_S1x128x128_0_1664_896) (ld0 x0 1792 896 inb_S1x2048x1536_S1x128x128_0_1792_896) (ld2 x2 7 inb_S8x128x256_S1x128x256_7_0_0))
    (ld0 x0 1664 1408 inb_S1x2048x1536_S1x128x128_0_1664_1408) (ld0 x0 1792 1408 inb_S1x2048x1536_S1x128x128_0_1792_1408) rfl
    (fun r j => nextLo i x0 x1 x2 3 14 1792 1664 384 896 6 rfl rfl rfl rfl rfl _ _ _ _ r j)
    (fun r j => nextHi i x0 x1 x2 3 14 1792 1664 384 896 7 rfl rfl rfl rfl rfl _ _ _ _ r j)
    (fun r j l => catNext x0 x1 14 1792 1664 1408 rfl rfl _ _ r j l)

theorem o_14_2 : ∀ x, (k0_pay889 (k0_pay963 i x0 x1 x2) (k0_pay881 (k0_pay1141 i x0 x1 x2) (k0_pay1142 i x0 x1 x2) (k0_pay1143 i x0 x1 x2) (View.ld x2 r0_21)) (k0_pay886 (k0_pay966 i x0 x1 x2) (k0_pay1140 i x0 x1 x2) (k0_pay1141 i x0 x1 x2) (k0_pay1142 i x0 x1 x2) (View.ld x2 r0_22)) : FVec Ideal S1x128x128 .f32) x = GO i x0 x1 x2 (r0_265.emb x) :=
  pieceO i x0 x1 x2 2 1792 256 1280 rfl rfl inb_S1x2048x512_S1x128x128_0_1792_256 _
    (lgAll k0_pay4 (ld0 x0 1792 256 inb_S1x2048x1536_S1x128x128_0_1792_256) (ld0 x0 1664 768 inb_S1x2048x1536_S1x128x128_0_1664_768) (ld0 x0 1792 768 inb_S1x2048x1536_S1x128x128_0_1792_768) (ld2 x2 4 inb_S8x128x256_S1x128x256_4_0_0))
    (lgAll k0_pay5 (ld0 x0 1792 256 inb_S1x2048x1536_S1x128x128_0_1792_256) (ld0 x0 1664 768 inb_S1x2048x1536_S1x128x128_0_1664_768) (ld0 x0 1792 768 inb_S1x2048x1536_S1x128x128_0_1792_768) (ld2 x2 5 inb_S8x128x256_S1x128x256_5_0_0))
    (ld0 x0 1664 1280 inb_S1x2048x1536_S1x128x128_0_1664_1280) (ld0 x0 1792 1280 inb_S1x2048x1536_S1x128x128_0_1792_1280) rfl
    (fun r j => nextLo i x0 x1 x2 2 14 1792 1664 256 768 4 rfl rfl rfl rfl rfl _ _ _ _ r j)
    (fun r j => nextHi i x0 x1 x2 2 14 1792 1664 256 768 5 rfl rfl rfl rfl rfl _ _ _ _ r j)
    (fun r j l => catNext x0 x1 14 1792 1664 1280 rfl rfl _ _ r j l)

theorem o_14_1 : ∀ x, (k0_pay873 (k0_pay963 i x0 x1 x2) (k0_pay862 (k0_pay1137 i x0 x1 x2) (View.ld x0 r0_260)) (k0_pay866 (k0_pay965 i x0 x1 x2) (k0_pay1135 i x0 x1 x2) (k0_pay1136 i x0 x1 x2) (k0_pay1137 i x0 x1 x2) (View.ld x0 r0_259) (View.ld x0 r0_260) (View.ld x2 r0_13)) (k0_pay1138 i x0 x1 x2) (k0_pay1139 i x0 x1 x2) : FVec Ideal S1x128x128 .f32) x = GO i x0 x1 x2 (r0_261.emb x) :=
  pieceO i x0 x1 x2 1 1792 128 1152 rfl rfl inb_S1x2048x512_S1x128x128_0_1792_128 _
    (lgAll k0_pay4 (ld0 x0 1792 128 inb_S1x2048x1536_S1x128x128_0_1792_128) (ld0 x0 1664 640 inb_S1x2048x1536_S1x128x128_0_1664_640) (ld0 x0 1792 640 inb_S1x2048x1536_S1x128x128_0_1792_640) (ld2 x2 2 inb_S8x128x256_S1x128x256_2_0_0))
    (lgAll k0_pay5 (ld0 x0 1792 128 inb_S1x2048x1536_S1x128x128_0_1792_128) (ld0 x0 1664 640 inb_S1x2048x1536_S1x128x128_0_1664_640) (ld0 x0 1792 640 inb_S1x2048x1536_S1x128x128_0_1792_640) (ld2 x2 3 inb_S8x128x256_S1x128x256_3_0_0))
    (ld0 x0 1664 1152 inb_S1x2048x1536_S1x128x128_0_1664_1152) (ld0 x0 1792 1152 inb_S1x2048x1536_S1x128x128_0_1792_1152) rfl
    (fun r j => nextLo i x0 x1 x2 1 14 1792 1664 128 640 2 rfl rfl rfl rfl rfl _ _ _ _ r j)
    (fun r j => nextHi i x0 x1 x2 1 14 1792 1664 128 640 3 rfl rfl rfl rfl rfl _ _ _ _ r j)
    (fun r j l => catNext x0 x1 14 1792 1664 1152 rfl rfl _ _ r j l)

theorem o_14_0 : ∀ x, (k0_pay857 (k0_pay963 i x0 x1 x2) (k0_pay966 i x0 x1 x2) (k0_pay1133 i x0 x1 x2) (k0_pay1134 i x0 x1 x2) (k0_pay847 (View.ld x0 r0_239) (View.ld x0 r0_256)) (k0_pay851 (k0_pay965 i x0 x1 x2) (View.ld x0 r0_254) (View.ld x0 r0_238) (View.ld x0 r0_239) (View.ld x0 r0_255) (View.ld x0 r0_256) (View.ld x2 r0_5)) (View.ld x2 r0_6) : FVec Ideal S1x128x128 .f32) x = GO i x0 x1 x2 (r0_257.emb x) :=
  pieceO i x0 x1 x2 0 1792 0 1024 rfl rfl inb_S1x2048x512_S1x128x128_0_1792_0 _
    (lgAll k0_pay4 (ld0 x0 1792 0 inb_S1x2048x1536_S1x128x128_0_1792_0) (ld0 x0 1664 512 inb_S1x2048x1536_S1x128x128_0_1664_512) (ld0 x0 1792 512 inb_S1x2048x1536_S1x128x128_0_1792_512) (ld2 x2 0 inb_S8x128x256_S1x128x256_0_0_0))
    (lgAll k0_pay5 (ld0 x0 1792 0 inb_S1x2048x1536_S1x128x128_0_1792_0) (ld0 x0 1664 512 inb_S1x2048x1536_S1x128x128_0_1664_512) (ld0 x0 1792 512 inb_S1x2048x1536_S1x128x128_0_1792_512) (ld2 x2 1 inb_S8x128x256_S1x128x256_1_0_0))
    (ld0 x0 1664 1024 inb_S1x2048x1536_S1x128x128_0_1664_1024) (ld0 x0 1792 1024 inb_S1x2048x1536_S1x128x128_0_1792_1024) rfl
    (fun r j => nextLo i x0 x1 x2 0 14 1792 1664 0 512 0 rfl rfl rfl rfl rfl _ _ _ _ r j)
    (fun r j => nextHi i x0 x1 x2 0 14 1792 1664 0 512 1 rfl rfl rfl rfl rfl _ _ _ _ r j)
    (fun r j l => catNext x0 x1 14 1792 1664 1024 rfl rfl _ _ r j l)

theorem o_13_3 : ∀ x, (k0_pay842 (k0_pay963 i x0 x1 x2) (k0_pay966 i x0 x1 x2) (k0_pay1131 i x0 x1 x2) (k0_pay1132 i x0 x1 x2) (k0_pay832 (View.ld x0 r0_234) (View.ld x0 r0_251)) (k0_pay837 (k0_pay965 i x0 x1 x2) (View.ld x0 r0_249) (View.ld x0 r0_233) (View.ld x0 r0_234) (View.ld x0 r0_250) (View.ld x0 r0_251) (View.ld x2 r0_29)) (View.ld x2 r0_30) : FVec Ideal S1x128x128 .f32) x = GO i x0 x1 x2 (r0_252.emb x) :=
  pieceO i x0 x1 x2 3 1664 384 1408 rfl rfl inb_S1x2048x512_S1x128x128_0_1664_384 _
    (lgAll k0_pay4 (ld0 x0 1664 384 inb_S1x2048x1536_S1x128x128_0_1664_384) (ld0 x0 1536 896 inb_S1x2048x1536_S1x128x128_0_1536_896) (ld0 x0 1664 896 inb_S1x2048x1536_S1x128x128_0_1664_896) (ld2 x2 6 inb_S8x128x256_S1x128x256_6_0_0))
    (lgAll k0_pay5 (ld0 x0 1664 384 inb_S1x2048x1536_S1x128x128_0_1664_384) (ld0 x0 1536 896 inb_S1x2048x1536_S1x128x128_0_1536_896) (ld0 x0 1664 896 inb_S1x2048x1536_S1x128x128_0_1664_896) (ld2 x2 7 inb_S8x128x256_S1x128x256_7_0_0))
    (ld0 x0 1536 1408 inb_S1x2048x1536_S1x128x128_0_1536_1408) (ld0 x0 1664 1408 inb_S1x2048x1536_S1x128x128_0_1664_1408) rfl
    (fun r j => nextLo i x0 x1 x2 3 13 1664 1536 384 896 6 rfl rfl rfl rfl rfl _ _ _ _ r j)
    (fun r j => nextHi i x0 x1 x2 3 13 1664 1536 384 896 7 rfl rfl rfl rfl rfl _ _ _ _ r j)
    (fun r j l => catNext x0 x1 13 1664 1536 1408 rfl rfl _ _ r j l)

theorem o_13_2 : ∀ x, (k0_pay829 (k0_pay828 (k0_pay963 i x0 x1 x2) (k0_pay966 i x0 x1 x2) (k0_pay1128 i x0 x1 x2) (k0_pay1129 i x0 x1 x2) (k0_pay819 (View.ld x0 r0_230) (View.ld x0 r0_247)) (k0_pay1130 i x0 x1 x2) (View.ld x2 r0_22)) : FVec Ideal S1x128x128 .f32) x = GO i x0 x1 x2 (r0_248.emb x) :=
  pieceO i x0 x1 x2 2 1664 256 1280 rfl rfl inb_S1x2048x512_S1x128x128_0_1664_256 _
    (lgAll k0_pay4 (ld0 x0 1664 256 inb_S1x2048x1536_S1x128x128_0_1664_256) (ld0 x0 1536 768 inb_S1x2048x1536_S1x128x128_0_1536_768) (ld0 x0 1664 768 inb_S1x2048x1536_S1x128x128_0_1664_768) (ld2 x2 4 inb_S8x128x256_S1x128x256_4_0_0))
    (lgAll k0_pay5 (ld0 x0 1664 256 inb_S1x2048x1536_S1x128x128_0_1664_256) (ld0 x0 1536 768 inb_S1x2048x1536_S1x128x128_0_1536_768) (ld0 x0 1664 768 inb_S1x2048x1536_S1x128x128_0_1664_768) (ld2 x2 5 inb_S8x128x256_S1x128x256_5_0_0))
    (ld0 x0 1536 1280 inb_S1x2048x1536_S1x128x128_0_1536_1280) (ld0 x0 1664 1280 inb_S1x2048x1536_S1x128x128_0_1664_1280) rfl
    (fun r j => nextLo i x0 x1 x2 2 13 1664 1536 256 768 4 rfl rfl rfl rfl rfl _ _ _ _ r j)
    (fun r j => nextHi i x0 x1 x2 2 13 1664 1536 256 768 5 rfl rfl rfl rfl rfl _ _ _ _ r j)
    (fun r j l => catNext x0 x1 13 1664 1536 1280 rfl rfl _ _ r j l)

theorem o_13_1 : ∀ x, (k0_pay816 (k0_pay963 i x0 x1 x2) (k0_pay806 (k0_pay1124 i x0 x1 x2) (k0_pay1125 i x0 x1 x2) (k0_pay1126 i x0 x1 x2) (k0_pay1127 i x0 x1 x2) (View.ld x2 r0_13)) (k0_pay812 (k0_pay966 i x0 x1 x2) (k0_pay1124 i x0 x1 x2) (k0_pay1125 i x0 x1 x2) (k0_pay1126 i x0 x1 x2) (View.ld x2 r0_14)) : FVec Ideal S1x128x128 .f32) x = GO i x0 x1 x2 (r0_244.emb x) :=
  pieceO i x0 x1 x2 1 1664 128 1152 rfl rfl inb_S1x2048x512_S1x128x128_0_1664_128 _
    (lgAll k0_pay4 (ld0 x0 1664 128 inb_S1x2048x1536_S1x128x128_0_1664_128) (ld0 x0 1536 640 inb_S1x2048x1536_S1x128x128_0_1536_640) (ld0 x0 1664 640 inb_S1x2048x1536_S1x128x128_0_1664_640) (ld2 x2 2 inb_S8x128x256_S1x128x256_2_0_0))
    (lgAll k0_pay5 (ld0 x0 1664 128 inb_S1x2048x1536_S1x128x128_0_1664_128) (ld0 x0 1536 640 inb_S1x2048x1536_S1x128x128_0_1536_640) (ld0 x0 1664 640 inb_S1x2048x1536_S1x128x128_0_1664_640) (ld2 x2 3 inb_S8x128x256_S1x128x256_3_0_0))
    (ld0 x0 1536 1152 inb_S1x2048x1536_S1x128x128_0_1536_1152) (ld0 x0 1664 1152 inb_S1x2048x1536_S1x128x128_0_1664_1152) rfl
    (fun r j => nextLo i x0 x1 x2 1 13 1664 1536 128 640 2 rfl rfl rfl rfl rfl _ _ _ _ r j)
    (fun r j => nextHi i x0 x1 x2 1 13 1664 1536 128 640 3 rfl rfl rfl rfl rfl _ _ _ _ r j)
    (fun r j l => catNext x0 x1 13 1664 1536 1152 rfl rfl _ _ r j l)

theorem o_13_0 : ∀ x, (k0_pay798 (k0_pay963 i x0 x1 x2) (k0_pay788 (View.ld x0 r0_222) (View.ld x0 r0_239)) (k0_pay792 (k0_pay965 i x0 x1 x2) (k0_pay1120 i x0 x1 x2) (k0_pay1121 i x0 x1 x2) (View.ld x0 r0_222) (View.ld x0 r0_238) (View.ld x0 r0_239) (View.ld x2 r0_5)) (k0_pay1122 i x0 x1 x2) (k0_pay1123 i x0 x1 x2) : FVec Ideal S1x128x128 .f32) x = GO i x0 x1 x2 (r0_240.emb x) :=
  pieceO i x0 x1 x2 0 1664 0 1024 rfl rfl inb_S1x2048x512_S1x128x128_0_1664_0 _
    (lgAll k0_pay4 (ld0 x0 1664 0 inb_S1x2048x1536_S1x128x128_0_1664_0) (ld0 x0 1536 512 inb_S1x2048x1536_S1x128x128_0_1536_512) (ld0 x0 1664 512 inb_S1x2048x1536_S1x128x128_0_1664_512) (ld2 x2 0 inb_S8x128x256_S1x128x256_0_0_0))
    (lgAll k0_pay5 (ld0 x0 1664 0 inb_S1x2048x1536_S1x128x128_0_1664_0) (ld0 x0 1536 512 inb_S1x2048x1536_S1x128x128_0_1536_512) (ld0 x0 1664 512 inb_S1x2048x1536_S1x128x128_0_1664_512) (ld2 x2 1 inb_S8x128x256_S1x128x256_1_0_0))
    (ld0 x0 1536 1024 inb_S1x2048x1536_S1x128x128_0_1536_1024) (ld0 x0 1664 1024 inb_S1x2048x1536_S1x128x128_0_1664_1024) rfl
    (fun r j => nextLo i x0 x1 x2 0 13 1664 1536 0 512 0 rfl rfl rfl rfl rfl _ _ _ _ r j)
    (fun r j => nextHi i x0 x1 x2 0 13 1664 1536 0 512 1 rfl rfl rfl rfl rfl _ _ _ _ r j)
    (fun r j l => catNext x0 x1 13 1664 1536 1024 rfl rfl _ _ r j l)

theorem o_12_3 : ∀ x, (k0_pay782 (k0_pay963 i x0 x1 x2) (k0_pay772 (View.ld x0 r0_217) (View.ld x0 r0_234)) (k0_pay776 (k0_pay965 i x0 x1 x2) (k0_pay1118 i x0 x1 x2) (View.ld x0 r0_216) (View.ld x0 r0_217) (View.ld x0 r0_233) (View.ld x0 r0_234) (View.ld x2 r0_29)) (k0_pay1119 i x0 x1 x2) (View.ld x2 r0_30) : FVec Ideal S1x128x128 .f32) x = GO i x0 x1 x2 (r0_235.emb x) :=
  pieceO i x0 x1 x2 3 1536 384 1408 rfl rfl inb_S1x2048x512_S1x128x128_0_1536_384 _
    (lgAll k0_pay4 (ld0 x0 1536 384 inb_S1x2048x1536_S1x128x128_0_1536_384) (ld0 x0 1408 896 inb_S1x2048x1536_S1x128x128_0_1408_896) (ld0 x0 1536 896 inb_S1x2048x1536_S1x128x128_0_1536_896) (ld2 x2 6 inb_S8x128x256_S1x128x256_6_0_0))
    (lgAll k0_pay5 (ld0 x0 1536 384 inb_S1x2048x1536_S1x128x128_0_1536_384) (ld0 x0 1408 896 inb_S1x2048x1536_S1x128x128_0_1408_896) (ld0 x0 1536 896 inb_S1x2048x1536_S1x128x128_0_1536_896) (ld2 x2 7 inb_S8x128x256_S1x128x256_7_0_0))
    (ld0 x0 1408 1408 inb_S1x2048x1536_S1x128x128_0_1408_1408) (ld0 x0 1536 1408 inb_S1x2048x1536_S1x128x128_0_1536_1408) rfl
    (fun r j => nextLo i x0 x1 x2 3 12 1536 1408 384 896 6 rfl rfl rfl rfl rfl _ _ _ _ r j)
    (fun r j => nextHi i x0 x1 x2 3 12 1536 1408 384 896 7 rfl rfl rfl rfl rfl _ _ _ _ r j)
    (fun r j l => catNext x0 x1 12 1536 1408 1408 rfl rfl _ _ r j l)

theorem o_12_2 : ∀ x, (k0_pay769 (k0_pay963 i x0 x1 x2) (k0_pay966 i x0 x1 x2) (k0_pay1116 i x0 x1 x2) (k0_pay1117 i x0 x1 x2) (k0_pay758 (View.ld x0 r0_213) (View.ld x0 r0_230)) (k0_pay763 (k0_pay965 i x0 x1 x2) (View.ld x0 r0_228) (View.ld x0 r0_212) (View.ld x0 r0_213) (View.ld x0 r0_229) (View.ld x0 r0_230) (View.ld x2 r0_21)) (View.ld x2 r0_22) : FVec Ideal S1x128x128 .f32) x = GO i x0 x1 x2 (r0_231.emb x) :=
  pieceO i x0 x1 x2 2 1536 256 1280 rfl rfl inb_S1x2048x512_S1x128x128_0_1536_256 _
    (lgAll k0_pay4 (ld0 x0 1536 256 inb_S1x2048x1536_S1x128x128_0_1536_256) (ld0 x0 1408 768 inb_S1x2048x1536_S1x128x128_0_1408_768) (ld0 x0 1536 768 inb_S1x2048x1536_S1x128x128_0_1536_768) (ld2 x2 4 inb_S8x128x256_S1x128x256_4_0_0))
    (lgAll k0_pay5 (ld0 x0 1536 256 inb_S1x2048x1536_S1x128x128_0_1536_256) (ld0 x0 1408 768 inb_S1x2048x1536_S1x128x128_0_1408_768) (ld0 x0 1536 768 inb_S1x2048x1536_S1x128x128_0_1536_768) (ld2 x2 5 inb_S8x128x256_S1x128x256_5_0_0))
    (ld0 x0 1408 1280 inb_S1x2048x1536_S1x128x128_0_1408_1280) (ld0 x0 1536 1280 inb_S1x2048x1536_S1x128x128_0_1536_1280) rfl
    (fun r j => nextLo i x0 x1 x2 2 12 1536 1408 256 768 4 rfl rfl rfl rfl rfl _ _ _ _ r j)
    (fun r j => nextHi i x0 x1 x2 2 12 1536 1408 256 768 5 rfl rfl rfl rfl rfl _ _ _ _ r j)
    (fun r j l => catNext x0 x1 12 1536 1408 1280 rfl rfl _ _ r j l)

theorem o_12_1 : ∀ x, (k0_pay755 (k0_pay754 (k0_pay963 i x0 x1 x2) (k0_pay966 i x0 x1 x2) (k0_pay1112 i x0 x1 x2) (k0_pay1113 i x0 x1 x2) (k0_pay745 (View.ld x0 r0_209) (View.ld x0 r0_226)) (k0_pay1114 i x0 x1 x2) (k0_pay1115 i x0 x1 x2) (View.ld x2 r0_14)) : FVec Ideal S1x128x128 .f32) x = GO i x0 x1 x2 (r0_227.emb x) :=
  pieceO i x0 x1 x2 1 1536 128 1152 rfl rfl inb_S1x2048x512_S1x128x128_0_1536_128 _
    (lgAll k0_pay4 (ld0 x0 1536 128 inb_S1x2048x1536_S1x128x128_0_1536_128) (ld0 x0 1408 640 inb_S1x2048x1536_S1x128x128_0_1408_640) (ld0 x0 1536 640 inb_S1x2048x1536_S1x128x128_0_1536_640) (ld2 x2 2 inb_S8x128x256_S1x128x256_2_0_0))
    (lgAll k0_pay5 (ld0 x0 1536 128 inb_S1x2048x1536_S1x128x128_0_1536_128) (ld0 x0 1408 640 inb_S1x2048x1536_S1x128x128_0_1408_640) (ld0 x0 1536 640 inb_S1x2048x1536_S1x128x128_0_1536_640) (ld2 x2 3 inb_S8x128x256_S1x128x256_3_0_0))
    (ld0 x0 1408 1152 inb_S1x2048x1536_S1x128x128_0_1408_1152) (ld0 x0 1536 1152 inb_S1x2048x1536_S1x128x128_0_1536_1152) rfl
    (fun r j => nextLo i x0 x1 x2 1 12 1536 1408 128 640 2 rfl rfl rfl rfl rfl _ _ _ _ r j)
    (fun r j => nextHi i x0 x1 x2 1 12 1536 1408 128 640 3 rfl rfl rfl rfl rfl _ _ _ _ r j)
    (fun r j l => catNext x0 x1 12 1536 1408 1152 rfl rfl _ _ r j l)

theorem o_12_0 : ∀ x, (k0_pay742 (k0_pay963 i x0 x1 x2) (k0_pay732 (k0_pay965 i x0 x1 x2) (k0_pay1109 i x0 x1 x2) (k0_pay1110 i x0 x1 x2) (k0_pay1111 i x0 x1 x2) (View.ld x2 r0_5)) (k0_pay738 (k0_pay966 i x0 x1 x2) (k0_pay1109 i x0 x1 x2) (k0_pay1110 i x0 x1 x2) (k0_pay1111 i x0 x1 x2) (View.ld x2 r0_6)) : FVec Ideal S1x128x128 .f32) x = GO i x0 x1 x2 (r0_223.emb x) :=
  pieceO i x0 x1 x2 0 1536 0 1024 rfl rfl inb_S1x2048x512_S1x128x128_0_1536_0 _
    (lgAll k0_pay4 (ld0 x0 1536 0 inb_S1x2048x1536_S1x128x128_0_1536_0) (ld0 x0 1408 512 inb_S1x2048x1536_S1x128x128_0_1408_512) (ld0 x0 1536 512 inb_S1x2048x1536_S1x128x128_0_1536_512) (ld2 x2 0 inb_S8x128x256_S1x128x256_0_0_0))
    (lgAll k0_pay5 (ld0 x0 1536 0 inb_S1x2048x1536_S1x128x128_0_1536_0) (ld0 x0 1408 512 inb_S1x2048x1536_S1x128x128_0_1408_512) (ld0 x0 1536 512 inb_S1x2048x1536_S1x128x128_0_1536_512) (ld2 x2 1 inb_S8x128x256_S1x128x256_1_0_0))
    (ld0 x0 1408 1024 inb_S1x2048x1536_S1x128x128_0_1408_1024) (ld0 x0 1536 1024 inb_S1x2048x1536_S1x128x128_0_1536_1024) rfl
    (fun r j => nextLo i x0 x1 x2 0 12 1536 1408 0 512 0 rfl rfl rfl rfl rfl _ _ _ _ r j)
    (fun r j => nextHi i x0 x1 x2 0 12 1536 1408 0 512 1 rfl rfl rfl rfl rfl _ _ _ _ r j)
    (fun r j l => catNext x0 x1 12 1536 1408 1024 rfl rfl _ _ r j l)

theorem o_11_3 : ∀ x, (k0_pay723 (k0_pay963 i x0 x1 x2) (k0_pay712 (k0_pay1107 i x0 x1 x2) (View.ld x0 r0_217)) (k0_pay716 (k0_pay965 i x0 x1 x2) (k0_pay1106 i x0 x1 x2) (k0_pay1107 i x0 x1 x2) (k0_pay1108 i x0 x1 x2) (View.ld x0 r0_217) (View.ld x2 r0_29)) (k0_pay722 (k0_pay966 i x0 x1 x2) (k0_pay1106 i x0 x1 x2) (k0_pay1108 i x0 x1 x2) (View.ld x2 r0_30)) (constant S128x128 .f32 0x00000000#32) : FVec Ideal S1x128x128 .f32) x = GO i x0 x1 x2 (r0_218.emb x) :=
  pieceO i x0 x1 x2 3 1408 384 1408 rfl rfl inb_S1x2048x512_S1x128x128_0_1408_384 _
    (lgAll k0_pay4 (ld0 x0 1408 384 inb_S1x2048x1536_S1x128x128_0_1408_384) (ld0 x0 1280 896 inb_S1x2048x1536_S1x128x128_0_1280_896) (ld0 x0 1408 896 inb_S1x2048x1536_S1x128x128_0_1408_896) (ld2 x2 6 inb_S8x128x256_S1x128x256_6_0_0))
    (lgAll k0_pay5 (ld0 x0 1408 384 inb_S1x2048x1536_S1x128x128_0_1408_384) (ld0 x0 1280 896 inb_S1x2048x1536_S1x128x128_0_1280_896) (ld0 x0 1408 896 inb_S1x2048x1536_S1x128x128_0_1408_896) (ld2 x2 7 inb_S8x128x256_S1x128x256_7_0_0))
    (ld0 x0 1280 1408 inb_S1x2048x1536_S1x128x128_0_1280_1408) (ld0 x0 1408 1408 inb_S1x2048x1536_S1x128x128_0_1408_1408) rfl
    (fun r j => nextLo i x0 x1 x2 3 11 1408 1280 384 896 6 rfl rfl rfl rfl rfl _ _ _ _ r j)
    (fun r j => nextHi i x0 x1 x2 3 11 1408 1280 384 896 7 rfl rfl rfl rfl rfl _ _ _ _ r j)
    (fun r j l => catNext x0 x1 11 1408 1280 1408 rfl rfl _ _ r j l)

theorem o_11_2 : ∀ x, (k0_pay708 (k0_pay963 i x0 x1 x2) (k0_pay697 (View.ld x0 r0_196) (View.ld x0 r0_213)) (k0_pay701 (k0_pay965 i x0 x1 x2) (k0_pay1104 i x0 x1 x2) (View.ld x0 r0_195) (View.ld x0 r0_196) (View.ld x0 r0_212) (View.ld x0 r0_213) (View.ld x2 r0_21)) (k0_pay1105 i x0 x1 x2) (View.ld x2 r0_22) : FVec Ideal S1x128x128 .f32) x = GO i x0 x1 x2 (r0_214.emb x) :=
  pieceO i x0 x1 x2 2 1408 256 1280 rfl rfl inb_S1x2048x512_S1x128x128_0_1408_256 _
    (lgAll k0_pay4 (ld0 x0 1408 256 inb_S1x2048x1536_S1x128x128_0_1408_256) (ld0 x0 1280 768 inb_S1x2048x1536_S1x128x128_0_1280_768) (ld0 x0 1408 768 inb_S1x2048x1536_S1x128x128_0_1408_768) (ld2 x2 4 inb_S8x128x256_S1x128x256_4_0_0))
    (lgAll k0_pay5 (ld0 x0 1408 256 inb_S1x2048x1536_S1x128x128_0_1408_256) (ld0 x0 1280 768 inb_S1x2048x1536_S1x128x128_0_1280_768) (ld0 x0 1408 768 inb_S1x2048x1536_S1x128x128_0_1408_768) (ld2 x2 5 inb_S8x128x256_S1x128x256_5_0_0))
    (ld0 x0 1280 1280 inb_S1x2048x1536_S1x128x128_0_1280_1280) (ld0 x0 1408 1280 inb_S1x2048x1536_S1x128x128_0_1408_1280) rfl
    (fun r j => nextLo i x0 x1 x2 2 11 1408 1280 256 768 4 rfl rfl rfl rfl rfl _ _ _ _ r j)
    (fun r j => nextHi i x0 x1 x2 2 11 1408 1280 256 768 5 rfl rfl rfl rfl rfl _ _ _ _ r j)
    (fun r j l => catNext x0 x1 11 1408 1280 1280 rfl rfl _ _ r j l)

theorem o_11_1 : ∀ x, (k0_pay694 (k0_pay963 i x0 x1 x2) (k0_pay966 i x0 x1 x2) (k0_pay1102 i x0 x1 x2) (k0_pay1103 i x0 x1 x2) (k0_pay682 (View.ld x0 r0_192) (View.ld x0 r0_209)) (k0_pay687 (k0_pay965 i x0 x1 x2) (View.ld x0 r0_207) (View.ld x0 r0_191) (View.ld x0 r0_192) (View.ld x0 r0_208) (View.ld x0 r0_209) (View.ld x2 r0_13)) (View.ld x2 r0_14) : FVec Ideal S1x128x128 .f32) x = GO i x0 x1 x2 (r0_210.emb x) :=
  pieceO i x0 x1 x2 1 1408 128 1152 rfl rfl inb_S1x2048x512_S1x128x128_0_1408_128 _
    (lgAll k0_pay4 (ld0 x0 1408 128 inb_S1x2048x1536_S1x128x128_0_1408_128) (ld0 x0 1280 640 inb_S1x2048x1536_S1x128x128_0_1280_640) (ld0 x0 1408 640 inb_S1x2048x1536_S1x128x128_0_1408_640) (ld2 x2 2 inb_S8x128x256_S1x128x256_2_0_0))
    (lgAll k0_pay5 (ld0 x0 1408 128 inb_S1x2048x1536_S1x128x128_0_1408_128) (ld0 x0 1280 640 inb_S1x2048x1536_S1x128x128_0_1280_640) (ld0 x0 1408 640 inb_S1x2048x1536_S1x128x128_0_1408_640) (ld2 x2 3 inb_S8x128x256_S1x128x256_3_0_0))
    (ld0 x0 1280 1152 inb_S1x2048x1536_S1x128x128_0_1280_1152) (ld0 x0 1408 1152 inb_S1x2048x1536_S1x128x128_0_1408_1152) rfl
    (fun r j => nextLo i x0 x1 x2 1 11 1408 1280 128 640 2 rfl rfl rfl rfl rfl _ _ _ _ r j)
    (fun r j => nextHi i x0 x1 x2 1 11 1408 1280 128 640 3 rfl rfl rfl rfl rfl _ _ _ _ r j)
    (fun r j l => catNext x0 x1 11 1408 1280 1152 rfl rfl _ _ r j l)

theorem o_11_0 : ∀ x, (k0_pay679 (k0_pay678 (k0_pay963 i x0 x1 x2) (k0_pay966 i x0 x1 x2) (k0_pay1098 i x0 x1 x2) (k0_pay1099 i x0 x1 x2) (k0_pay670 (View.ld x0 r0_188) (View.ld x0 r0_205)) (k0_pay1100 i x0 x1 x2) (k0_pay1101 i x0 x1 x2) (View.ld x2 r0_6)) : FVec Ideal S1x128x128 .f32) x = GO i x0 x1 x2 (r0_206.emb x) :=
  pieceO i x0 x1 x2 0 1408 0 1024 rfl rfl inb_S1x2048x512_S1x128x128_0_1408_0 _
    (lgAll k0_pay4 (ld0 x0 1408 0 inb_S1x2048x1536_S1x128x128_0_1408_0) (ld0 x0 1280 512 inb_S1x2048x1536_S1x128x128_0_1280_512) (ld0 x0 1408 512 inb_S1x2048x1536_S1x128x128_0_1408_512) (ld2 x2 0 inb_S8x128x256_S1x128x256_0_0_0))
    (lgAll k0_pay5 (ld0 x0 1408 0 inb_S1x2048x1536_S1x128x128_0_1408_0) (ld0 x0 1280 512 inb_S1x2048x1536_S1x128x128_0_1280_512) (ld0 x0 1408 512 inb_S1x2048x1536_S1x128x128_0_1408_512) (ld2 x2 1 inb_S8x128x256_S1x128x256_1_0_0))
    (ld0 x0 1280 1024 inb_S1x2048x1536_S1x128x128_0_1280_1024) (ld0 x0 1408 1024 inb_S1x2048x1536_S1x128x128_0_1408_1024) rfl
    (fun r j => nextLo i x0 x1 x2 0 11 1408 1280 0 512 0 rfl rfl rfl rfl rfl _ _ _ _ r j)
    (fun r j => nextHi i x0 x1 x2 0 11 1408 1280 0 512 1 rfl rfl rfl rfl rfl _ _ _ _ r j)
    (fun r j l => catNext x0 x1 11 1408 1280 1024 rfl rfl _ _ r j l)

theorem o_10_3 : ∀ x, (k0_pay665 (k0_pay963 i x0 x1 x2) (k0_pay659 (k0_pay1096 i x0 x1 x2) (k0_pay1097 i x0 x1 x2) (View.ld x2 r0_29)) (k0_pay663 (k0_pay966 i x0 x1 x2) (k0_pay1094 i x0 x1 x2) (k0_pay1095 i x0 x1 x2) (k0_pay1096 i x0 x1 x2) (View.ld x2 r0_30)) : FVec Ideal S1x128x128 .f32) x = GO i x0 x1 x2 (r0_201.emb x) :=
  pieceO i x0 x1 x2 3 1280 384 1408 rfl rfl inb_S1x2048x512_S1x128x128_0_1280_384 _
    (lgAll k0_pay4 (ld0 x0 1280 384 inb_S1x2048x1536_S1x128x128_0_1280_384) (ld0 x0 1152 896 inb_S1x2048x1536_S1x128x128_0_1152_896) (ld0 x0 1280 896 inb_S1x2048x1536_S1x128x128_0_1280_896) (ld2 x2 6 inb_S8x128x256_S1x128x256_6_0_0))
    (lgAll k0_pay5 (ld0 x0 1280 384 inb_S1x2048x1536_S1x128x128_0_1280_384) (ld0 x0 1152 896 inb_S1x2048x1536_S1x128x128_0_1152_896) (ld0 x0 1280 896 inb_S1x2048x1536_S1x128x128_0_1280_896) (ld2 x2 7 inb_S8x128x256_S1x128x256_7_0_0))
    (ld0 x0 1152 1408 inb_S1x2048x1536_S1x128x128_0_1152_1408) (ld0 x0 1280 1408 inb_S1x2048x1536_S1x128x128_0_1280_1408) rfl
    (fun r j => nextLo i x0 x1 x2 3 10 1280 1152 384 896 6 rfl rfl rfl rfl rfl _ _ _ _ r j)
    (fun r j => nextHi i x0 x1 x2 3 10 1280 1152 384 896 7 rfl rfl rfl rfl rfl _ _ _ _ r j)
    (fun r j l => catNext x0 x1 10 1280 1152 1408 rfl rfl _ _ r j l)

theorem o_10_2 : ∀ x, (k0_pay651 (k0_pay963 i x0 x1 x2) (k0_pay639 (k0_pay1092 i x0 x1 x2) (View.ld x0 r0_196)) (k0_pay643 (k0_pay965 i x0 x1 x2) (k0_pay1091 i x0 x1 x2) (k0_pay1092 i x0 x1 x2) (k0_pay1093 i x0 x1 x2) (View.ld x0 r0_196) (View.ld x2 r0_21)) (k0_pay649 (k0_pay966 i x0 x1 x2) (k0_pay1091 i x0 x1 x2) (k0_pay1093 i x0 x1 x2) (View.ld x2 r0_22)) : FVec Ideal S1x128x128 .f32) x = GO i x0 x1 x2 (r0_197.emb x) :=
  pieceO i x0 x1 x2 2 1280 256 1280 rfl rfl inb_S1x2048x512_S1x128x128_0_1280_256 _
    (lgAll k0_pay4 (ld0 x0 1280 256 inb_S1x2048x1536_S1x128x128_0_1280_256) (ld0 x0 1152 768 inb_S1x2048x1536_S1x128x128_0_1152_768) (ld0 x0 1280 768 inb_S1x2048x1536_S1x128x128_0_1280_768) (ld2 x2 4 inb_S8x128x256_S1x128x256_4_0_0))
    (lgAll k0_pay5 (ld0 x0 1280 256 inb_S1x2048x1536_S1x128x128_0_1280_256) (ld0 x0 1152 768 inb_S1x2048x1536_S1x128x128_0_1152_768) (ld0 x0 1280 768 inb_S1x2048x1536_S1x128x128_0_1280_768) (ld2 x2 5 inb_S8x128x256_S1x128x256_5_0_0))
    (ld0 x0 1152 1280 inb_S1x2048x1536_S1x128x128_0_1152_1280) (ld0 x0 1280 1280 inb_S1x2048x1536_S1x128x128_0_1280_1280) rfl
    (fun r j => nextLo i x0 x1 x2 2 10 1280 1152 256 768 4 rfl rfl rfl rfl rfl _ _ _ _ r j)
    (fun r j => nextHi i x0 x1 x2 2 10 1280 1152 256 768 5 rfl rfl rfl rfl rfl _ _ _ _ r j)
    (fun r j l => catNext x0 x1 10 1280 1152 1280 rfl rfl _ _ r j l)

theorem o_10_1 : ∀ x, (k0_pay635 (k0_pay963 i x0 x1 x2) (k0_pay624 (View.ld x0 r0_175) (View.ld x0 r0_192)) (k0_pay628 (k0_pay965 i x0 x1 x2) (k0_pay1089 i x0 x1 x2) (View.ld x0 r0_174) (View.ld x0 r0_175) (View.ld x0 r0_191) (View.ld x0 r0_192) (View.ld x2 r0_13)) (k0_pay1090 i x0 x1 x2) (View.ld x2 r0_14) : FVec Ideal S1x128x128 .f32) x = GO i x0 x1 x2 (r0_193.emb x) :=
  pieceO i x0 x1 x2 1 1280 128 1152 rfl rfl inb_S1x2048x512_S1x128x128_0_1280_128 _
    (lgAll k0_pay4 (ld0 x0 1280 128 inb_S1x2048x1536_S1x128x128_0_1280_128) (ld0 x0 1152 640 inb_S1x2048x1536_S1x128x128_0_1152_640) (ld0 x0 1280 640 inb_S1x2048x1536_S1x128x128_0_1280_640) (ld2 x2 2 inb_S8x128x256_S1x128x256_2_0_0))
    (lgAll k0_pay5 (ld0 x0 1280 128 inb_S1x2048x1536_S1x128x128_0_1280_128) (ld0 x0 1152 640 inb_S1x2048x1536_S1x128x128_0_1152_640) (ld0 x0 1280 640 inb_S1x2048x1536_S1x128x128_0_1280_640) (ld2 x2 3 inb_S8x128x256_S1x128x256_3_0_0))
    (ld0 x0 1152 1152 inb_S1x2048x1536_S1x128x128_0_1152_1152) (ld0 x0 1280 1152 inb_S1x2048x1536_S1x128x128_0_1280_1152) rfl
    (fun r j => nextLo i x0 x1 x2 1 10 1280 1152 128 640 2 rfl rfl rfl rfl rfl _ _ _ _ r j)
    (fun r j => nextHi i x0 x1 x2 1 10 1280 1152 128 640 3 rfl rfl rfl rfl rfl _ _ _ _ r j)
    (fun r j l => catNext x0 x1 10 1280 1152 1152 rfl rfl _ _ r j l)

theorem o_10_0 : ∀ x, (k0_pay621 (k0_pay963 i x0 x1 x2) (k0_pay966 i x0 x1 x2) (k0_pay1087 i x0 x1 x2) (k0_pay1088 i x0 x1 x2) (k0_pay609 (View.ld x0 r0_171) (View.ld x0 r0_188)) (k0_pay614 (k0_pay965 i x0 x1 x2) (View.ld x0 r0_186) (View.ld x0 r0_170) (View.ld x0 r0_171) (View.ld x0 r0_187) (View.ld x0 r0_188) (View.ld x2 r0_5)) (View.ld x2 r0_6) : FVec Ideal S1x128x128 .f32) x = GO i x0 x1 x2 (r0_189.emb x) :=
  pieceO i x0 x1 x2 0 1280 0 1024 rfl rfl inb_S1x2048x512_S1x128x128_0_1280_0 _
    (lgAll k0_pay4 (ld0 x0 1280 0 inb_S1x2048x1536_S1x128x128_0_1280_0) (ld0 x0 1152 512 inb_S1x2048x1536_S1x128x128_0_1152_512) (ld0 x0 1280 512 inb_S1x2048x1536_S1x128x128_0_1280_512) (ld2 x2 0 inb_S8x128x256_S1x128x256_0_0_0))
    (lgAll k0_pay5 (ld0 x0 1280 0 inb_S1x2048x1536_S1x128x128_0_1280_0) (ld0 x0 1152 512 inb_S1x2048x1536_S1x128x128_0_1152_512) (ld0 x0 1280 512 inb_S1x2048x1536_S1x128x128_0_1280_512) (ld2 x2 1 inb_S8x128x256_S1x128x256_1_0_0))
    (ld0 x0 1152 1024 inb_S1x2048x1536_S1x128x128_0_1152_1024) (ld0 x0 1280 1024 inb_S1x2048x1536_S1x128x128_0_1280_1024) rfl
    (fun r j => nextLo i x0 x1 x2 0 10 1280 1152 0 512 0 rfl rfl rfl rfl rfl _ _ _ _ r j)
    (fun r j => nextHi i x0 x1 x2 0 10 1280 1152 0 512 1 rfl rfl rfl rfl rfl _ _ _ _ r j)
    (fun r j l => catNext x0 x1 10 1280 1152 1024 rfl rfl _ _ r j l)

theorem o_9_3 : ∀ x, (k0_pay604 (k0_pay963 i x0 x1 x2) (k0_pay966 i x0 x1 x2) (k0_pay1085 i x0 x1 x2) (k0_pay1086 i x0 x1 x2) (k0_pay594 (View.ld x0 r0_166) (View.ld x0 r0_183)) (k0_pay599 (k0_pay965 i x0 x1 x2) (View.ld x0 r0_181) (View.ld x0 r0_165) (View.ld x0 r0_182) (View.ld x2 r0_29)) (constant S128x128 .f32 0x00000000#32) (View.ld x2 r0_30) : FVec Ideal S1x128x128 .f32) x = GO i x0 x1 x2 (r0_184.emb x) :=
  pieceO i x0 x1 x2 3 1152 384 1408 rfl rfl inb_S1x2048x512_S1x128x128_0_1152_384 _
    (lgAll k0_pay4 (ld0 x0 1152 384 inb_S1x2048x1536_S1x128x128_0_1152_384) (ld0 x0 1024 896 inb_S1x2048x1536_S1x128x128_0_1024_896) (ld0 x0 1152 896 inb_S1x2048x1536_S1x128x128_0_1152_896) (ld2 x2 6 inb_S8x128x256_S1x128x256_6_0_0))
    (lgAll k0_pay5 (ld0 x0 1152 384 inb_S1x2048x1536_S1x128x128_0_1152_384) (ld0 x0 1024 896 inb_S1x2048x1536_S1x128x128_0_1024_896) (ld0 x0 1152 896 inb_S1x2048x1536_S1x128x128_0_1152_896) (ld2 x2 7 inb_S8x128x256_S1x128x256_7_0_0))
    (ld0 x0 1024 1408 inb_S1x2048x1536_S1x128x128_0_1024_1408) (ld0 x0 1152 1408 inb_S1x2048x1536_S1x128x128_0_1152_1408) rfl
    (fun r j => nextLo i x0 x1 x2 3 9 1152 1024 384 896 6 rfl rfl rfl rfl rfl _ _ _ _ r j)
    (fun r j => nextHi i x0 x1 x2 3 9 1152 1024 384 896 7 rfl rfl rfl rfl rfl _ _ _ _ r j)
    (fun r j l => catNext x0 x1 9 1152 1024 1408 rfl rfl _ _ r j l)

theorem o_9_2 : ∀ x, (k0_pay591 (k0_pay963 i x0 x1 x2) (k0_pay582 (k0_pay1083 i x0 x1 x2) (k0_pay1084 i x0 x1 x2) (View.ld x2 r0_21)) (k0_pay586 (k0_pay966 i x0 x1 x2) (k0_pay1081 i x0 x1 x2) (k0_pay1082 i x0 x1 x2) (k0_pay1083 i x0 x1 x2) (View.ld x2 r0_22)) : FVec Ideal S1x128x128 .f32) x = GO i x0 x1 x2 (r0_180.emb x) :=
  pieceO i x0 x1 x2 2 1152 256 1280 rfl rfl inb_S1x2048x512_S1x128x128_0_1152_256 _
    (lgAll k0_pay4 (ld0 x0 1152 256 inb_S1x2048x1536_S1x128x128_0_1152_256) (ld0 x0 1024 768 inb_S1x2048x1536_S1x128x128_0_1024_768) (ld0 x0 1152 768 inb_S1x2048x1536_S1x128x128_0_1152_768) (ld2 x2 4 inb_S8x128x256_S1x128x256_4_0_0))
    (lgAll k0_pay5 (ld0 x0 1152 256 inb_S1x2048x1536_S1x128x128_0_1152_256) (ld0 x0 1024 768 inb_S1x2048x1536_S1x128x128_0_1024_768) (ld0 x0 1152 768 inb_S1x2048x1536_S1x128x128_0_1152_768) (ld2 x2 5 inb_S8x128x256_S1x128x256_5_0_0))
    (ld0 x0 1024 1280 inb_S1x2048x1536_S1x128x128_0_1024_1280) (ld0 x0 1152 1280 inb_S1x2048x1536_S1x128x128_0_1152_1280) rfl
    (fun r j => nextLo i x0 x1 x2 2 9 1152 1024 256 768 4 rfl rfl rfl rfl rfl _ _ _ _ r j)
    (fun r j => nextHi i x0 x1 x2 2 9 1152 1024 256 768 5 rfl rfl rfl rfl rfl _ _ _ _ r j)
    (fun r j l => catNext x0 x1 9 1152 1024 1280 rfl rfl _ _ r j l)

theorem o_9_1 : ∀ x, (k0_pay574 (k0_pay963 i x0 x1 x2) (k0_pay563 (k0_pay1079 i x0 x1 x2) (View.ld x0 r0_175)) (k0_pay567 (k0_pay965 i x0 x1 x2) (k0_pay1077 i x0 x1 x2) (k0_pay1078 i x0 x1 x2) (k0_pay1079 i x0 x1 x2) (k0_pay1080 i x0 x1 x2) (View.ld x0 r0_175) (View.ld x2 r0_13)) (k0_pay571 (k0_pay966 i x0 x1 x2) (k0_pay1077 i x0 x1 x2) (k0_pay1078 i x0 x1 x2) (k0_pay1080 i x0 x1 x2) (View.ld x2 r0_14)) : FVec Ideal S1x128x128 .f32) x = GO i x0 x1 x2 (r0_176.emb x) :=
  pieceO i x0 x1 x2 1 1152 128 1152 rfl rfl inb_S1x2048x512_S1x128x128_0_1152_128 _
    (lgAll k0_pay4 (ld0 x0 1152 128 inb_S1x2048x1536_S1x128x128_0_1152_128) (ld0 x0 1024 640 inb_S1x2048x1536_S1x128x128_0_1024_640) (ld0 x0 1152 640 inb_S1x2048x1536_S1x128x128_0_1152_640) (ld2 x2 2 inb_S8x128x256_S1x128x256_2_0_0))
    (lgAll k0_pay5 (ld0 x0 1152 128 inb_S1x2048x1536_S1x128x128_0_1152_128) (ld0 x0 1024 640 inb_S1x2048x1536_S1x128x128_0_1024_640) (ld0 x0 1152 640 inb_S1x2048x1536_S1x128x128_0_1152_640) (ld2 x2 3 inb_S8x128x256_S1x128x256_3_0_0))
    (ld0 x0 1024 1152 inb_S1x2048x1536_S1x128x128_0_1024_1152) (ld0 x0 1152 1152 inb_S1x2048x1536_S1x128x128_0_1152_1152) rfl
    (fun r j => nextLo i x0 x1 x2 1 9 1152 1024 128 640 2 rfl rfl rfl rfl rfl _ _ _ _ r j)
    (fun r j => nextHi i x0 x1 x2 1 9 1152 1024 128 640 3 rfl rfl rfl rfl rfl _ _ _ _ r j)
    (fun r j l => catNext x0 x1 9 1152 1024 1152 rfl rfl _ _ r j l)

theorem o_9_0 : ∀ x, (k0_pay557 (k0_pay963 i x0 x1 x2) (k0_pay546 (View.ld x0 r0_154) (View.ld x0 r0_171)) (k0_pay550 (k0_pay965 i x0 x1 x2) (k0_pay1075 i x0 x1 x2) (View.ld x0 r0_153) (View.ld x0 r0_154) (View.ld x0 r0_170) (View.ld x0 r0_171) (View.ld x2 r0_5)) (k0_pay1076 i x0 x1 x2) (View.ld x2 r0_6) : FVec Ideal S1x128x128 .f32) x = GO i x0 x1 x2 (r0_172.emb x) :=
  pieceO i x0 x1 x2 0 1152 0 1024 rfl rfl inb_S1x2048x512_S1x128x128_0_1152_0 _
    (lgAll k0_pay4 (ld0 x0 1152 0 inb_S1x2048x1536_S1x128x128_0_1152_0) (ld0 x0 1024 512 inb_S1x2048x1536_S1x128x128_0_1024_512) (ld0 x0 1152 512 inb_S1x2048x1536_S1x128x128_0_1152_512) (ld2 x2 0 inb_S8x128x256_S1x128x256_0_0_0))
    (lgAll k0_pay5 (ld0 x0 1152 0 inb_S1x2048x1536_S1x128x128_0_1152_0) (ld0 x0 1024 512 inb_S1x2048x1536_S1x128x128_0_1024_512) (ld0 x0 1152 512 inb_S1x2048x1536_S1x128x128_0_1152_512) (ld2 x2 1 inb_S8x128x256_S1x128x256_1_0_0))
    (ld0 x0 1024 1024 inb_S1x2048x1536_S1x128x128_0_1024_1024) (ld0 x0 1152 1024 inb_S1x2048x1536_S1x128x128_0_1152_1024) rfl
    (fun r j => nextLo i x0 x1 x2 0 9 1152 1024 0 512 0 rfl rfl rfl rfl rfl _ _ _ _ r j)
    (fun r j => nextHi i x0 x1 x2 0 9 1152 1024 0 512 1 rfl rfl rfl rfl rfl _ _ _ _ r j)
    (fun r j l => catNext x0 x1 9 1152 1024 1024 rfl rfl _ _ r j l)

theorem o_8_3 : ∀ x, (k0_pay541 (k0_pay963 i x0 x1 x2) (k0_pay966 i x0 x1 x2) (k0_pay1073 i x0 x1 x2) (k0_pay1074 i x0 x1 x2) (k0_pay532 (View.ld x0 r0_149) (View.ld x0 r0_166)) (k0_pay536 (k0_pay965 i x0 x1 x2) (View.ld x0 r0_164) (View.ld x0 r0_148) (View.ld x0 r0_149) (View.ld x0 r0_165) (View.ld x0 r0_166) (View.ld x2 r0_29)) (View.ld x2 r0_30) : FVec Ideal S1x128x128 .f32) x = GO i x0 x1 x2 (r0_167.emb x) :=
  pieceO i x0 x1 x2 3 1024 384 1408 rfl rfl inb_S1x2048x512_S1x128x128_0_1024_384 _
    (lgAll k0_pay4 (ld0 x0 1024 384 inb_S1x2048x1536_S1x128x128_0_1024_384) (ld0 x0 896 896 inb_S1x2048x1536_S1x128x128_0_896_896) (ld0 x0 1024 896 inb_S1x2048x1536_S1x128x128_0_1024_896) (ld2 x2 6 inb_S8x128x256_S1x128x256_6_0_0))
    (lgAll k0_pay5 (ld0 x0 1024 384 inb_S1x2048x1536_S1x128x128_0_1024_384) (ld0 x0 896 896 inb_S1x2048x1536_S1x128x128_0_896_896) (ld0 x0 1024 896 inb_S1x2048x1536_S1x128x128_0_1024_896) (ld2 x2 7 inb_S8x128x256_S1x128x256_7_0_0))
    (ld0 x0 896 1408 inb_S1x2048x1536_S1x128x128_0_896_1408) (ld0 x0 1024 1408 inb_S1x2048x1536_S1x128x128_0_1024_1408) rfl
    (fun r j => nextLo i x0 x1 x2 3 8 1024 896 384 896 6 rfl rfl rfl rfl rfl _ _ _ _ r j)
    (fun r j => nextHi i x0 x1 x2 3 8 1024 896 384 896 7 rfl rfl rfl rfl rfl _ _ _ _ r j)
    (fun r j l => catNext x0 x1 8 1024 896 1408 rfl rfl _ _ r j l)

theorem o_8_2 : ∀ x, (k0_pay529 (k0_pay963 i x0 x1 x2) (k0_pay966 i x0 x1 x2) (k0_pay1071 i x0 x1 x2) (k0_pay1072 i x0 x1 x2) (k0_pay519 (View.ld x0 r0_145) (View.ld x0 r0_162)) (k0_pay524 (k0_pay965 i x0 x1 x2) (View.ld x0 r0_160) (View.ld x0 r0_144) (View.ld x0 r0_161) (View.ld x2 r0_21)) (View.ld x2 r0_22) : FVec Ideal S1x128x128 .f32) x = GO i x0 x1 x2 (r0_163.emb x) :=
  pieceO i x0 x1 x2 2 1024 256 1280 rfl rfl inb_S1x2048x512_S1x128x128_0_1024_256 _
    (lgAll k0_pay4 (ld0 x0 1024 256 inb_S1x2048x1536_S1x128x128_0_1024_256) (ld0 x0 896 768 inb_S1x2048x1536_S1x128x128_0_896_768) (ld0 x0 1024 768 inb_S1x2048x1536_S1x128x128_0_1024_768) (ld2 x2 4 inb_S8x128x256_S1x128x256_4_0_0))
    (lgAll k0_pay5 (ld0 x0 1024 256 inb_S1x2048x1536_S1x128x128_0_1024_256) (ld0 x0 896 768 inb_S1x2048x1536_S1x128x128_0_896_768) (ld0 x0 1024 768 inb_S1x2048x1536_S1x128x128_0_1024_768) (ld2 x2 5 inb_S8x128x256_S1x128x256_5_0_0))
    (ld0 x0 896 1280 inb_S1x2048x1536_S1x128x128_0_896_1280) (ld0 x0 1024 1280 inb_S1x2048x1536_S1x128x128_0_1024_1280) rfl
    (fun r j => nextLo i x0 x1 x2 2 8 1024 896 256 768 4 rfl rfl rfl rfl rfl _ _ _ _ r j)
    (fun r j => nextHi i x0 x1 x2 2 8 1024 896 256 768 5 rfl rfl rfl rfl rfl _ _ _ _ r j)
    (fun r j l => catNext x0 x1 8 1024 896 1280 rfl rfl _ _ r j l)

theorem o_8_1 : ∀ x, (k0_pay516 (k0_pay963 i x0 x1 x2) (k0_pay507 (k0_pay1069 i x0 x1 x2) (k0_pay1070 i x0 x1 x2) (View.ld x2 r0_13)) (k0_pay511 (k0_pay966 i x0 x1 x2) (k0_pay1067 i x0 x1 x2) (k0_pay1068 i x0 x1 x2) (k0_pay1069 i x0 x1 x2) (View.ld x2 r0_14)) : FVec Ideal S1x128x128 .f32) x = GO i x0 x1 x2 (r0_159.emb x) :=
  pieceO i x0 x1 x2 1 1024 128 1152 rfl rfl inb_S1x2048x512_S1x128x128_0_1024_128 _
    (lgAll k0_pay4 (ld0 x0 1024 128 inb_S1x2048x1536_S1x128x128_0_1024_128) (ld0 x0 896 640 inb_S1x2048x1536_S1x128x128_0_896_640) (ld0 x0 1024 640 inb_S1x2048x1536_S1x128x128_0_1024_640) (ld2 x2 2 inb_S8x128x256_S1x128x256_2_0_0))
    (lgAll k0_pay5 (ld0 x0 1024 128 inb_S1x2048x1536_S1x128x128_0_1024_128) (ld0 x0 896 640 inb_S1x2048x1536_S1x128x128_0_896_640) (ld0 x0 1024 640 inb_S1x2048x1536_S1x128x128_0_1024_640) (ld2 x2 3 inb_S8x128x256_S1x128x256_3_0_0))
    (ld0 x0 896 1152 inb_S1x2048x1536_S1x128x128_0_896_1152) (ld0 x0 1024 1152 inb_S1x2048x1536_S1x128x128_0_1024_1152) rfl
    (fun r j => nextLo i x0 x1 x2 1 8 1024 896 128 640 2 rfl rfl rfl rfl rfl _ _ _ _ r j)
    (fun r j => nextHi i x0 x1 x2 1 8 1024 896 128 640 3 rfl rfl rfl rfl rfl _ _ _ _ r j)
    (fun r j l => catNext x0 x1 8 1024 896 1152 rfl rfl _ _ r j l)

theorem o_8_0 : ∀ x, (k0_pay499 (k0_pay963 i x0 x1 x2) (k0_pay488 (k0_pay1066 i x0 x1 x2) (View.ld x0 r0_154)) (k0_pay492 (k0_pay965 i x0 x1 x2) (k0_pay1064 i x0 x1 x2) (k0_pay1065 i x0 x1 x2) (k0_pay1066 i x0 x1 x2) (View.ld x0 r0_153) (View.ld x0 r0_154) (View.ld x2 r0_5)) (k0_pay496 (k0_pay966 i x0 x1 x2) (k0_pay1064 i x0 x1 x2) (k0_pay1065 i x0 x1 x2) (View.ld x0 r0_153) (View.ld x2 r0_6)) : FVec Ideal S1x128x128 .f32) x = GO i x0 x1 x2 (r0_155.emb x) :=
  pieceO i x0 x1 x2 0 1024 0 1024 rfl rfl inb_S1x2048x512_S1x128x128_0_1024_0 _
    (lgAll k0_pay4 (ld0 x0 1024 0 inb_S1x2048x1536_S1x128x128_0_1024_0) (ld0 x0 896 512 inb_S1x2048x1536_S1x128x128_0_896_512) (ld0 x0 1024 512 inb_S1x2048x1536_S1x128x128_0_1024_512) (ld2 x2 0 inb_S8x128x256_S1x128x256_0_0_0))
    (lgAll k0_pay5 (ld0 x0 1024 0 inb_S1x2048x1536_S1x128x128_0_1024_0) (ld0 x0 896 512 inb_S1x2048x1536_S1x128x128_0_896_512) (ld0 x0 1024 512 inb_S1x2048x1536_S1x128x128_0_1024_512) (ld2 x2 1 inb_S8x128x256_S1x128x256_1_0_0))
    (ld0 x0 896 1024 inb_S1x2048x1536_S1x128x128_0_896_1024) (ld0 x0 1024 1024 inb_S1x2048x1536_S1x128x128_0_1024_1024) rfl
    (fun r j => nextLo i x0 x1 x2 0 8 1024 896 0 512 0 rfl rfl rfl rfl rfl _ _ _ _ r j)
    (fun r j => nextHi i x0 x1 x2 0 8 1024 896 0 512 1 rfl rfl rfl rfl rfl _ _ _ _ r j)
    (fun r j l => catNext x0 x1 8 1024 896 1024 rfl rfl _ _ r j l)

theorem o_7_3 : ∀ x, (k0_pay481 (k0_pay963 i x0 x1 x2) (k0_pay472 (View.ld x0 r0_132) (View.ld x0 r0_149)) (k0_pay476 (k0_pay965 i x0 x1 x2) (k0_pay1060 i x0 x1 x2) (k0_pay1061 i x0 x1 x2) (View.ld x0 r0_132) (View.ld x0 r0_148) (View.ld x0 r0_149) (View.ld x2 r0_29)) (k0_pay1062 i x0 x1 x2) (k0_pay1063 i x0 x1 x2) : FVec Ideal S1x128x128 .f32) x = GO i x0 x1 x2 (r0_150.emb x) :=
  pieceO i x0 x1 x2 3 896 384 1408 rfl rfl inb_S1x2048x512_S1x128x128_0_896_384 _
    (lgAll k0_pay4 (ld0 x0 896 384 inb_S1x2048x1536_S1x128x128_0_896_384) (ld0 x0 768 896 inb_S1x2048x1536_S1x128x128_0_768_896) (ld0 x0 896 896 inb_S1x2048x1536_S1x128x128_0_896_896) (ld2 x2 6 inb_S8x128x256_S1x128x256_6_0_0))
    (lgAll k0_pay5 (ld0 x0 896 384 inb_S1x2048x1536_S1x128x128_0_896_384) (ld0 x0 768 896 inb_S1x2048x1536_S1x128x128_0_768_896) (ld0 x0 896 896 inb_S1x2048x1536_S1x128x128_0_896_896) (ld2 x2 7 inb_S8x128x256_S1x128x256_7_0_0))
    (ld0 x0 768 1408 inb_S1x2048x1536_S1x128x128_0_768_1408) (ld0 x0 896 1408 inb_S1x2048x1536_S1x128x128_0_896_1408) rfl
    (fun r j => nextLo i x0 x1 x2 3 7 896 768 384 896 6 rfl rfl rfl rfl rfl _ _ _ _ r j)
    (fun r j => nextHi i x0 x1 x2 3 7 896 768 384 896 7 rfl rfl rfl rfl rfl _ _ _ _ r j)
    (fun r j l => catNext x0 x1 7 896 768 1408 rfl rfl _ _ r j l)

theorem o_7_2 : ∀ x, (k0_pay468 (k0_pay963 i x0 x1 x2) (k0_pay966 i x0 x1 x2) (k0_pay1058 i x0 x1 x2) (k0_pay1059 i x0 x1 x2) (k0_pay456 (View.ld x0 r0_128) (View.ld x0 r0_145)) (k0_pay460 (k0_pay965 i x0 x1 x2) (View.ld x0 r0_143) (View.ld x0 r0_127) (View.ld x0 r0_128) (View.ld x0 r0_144) (View.ld x0 r0_145) (View.ld x2 r0_21)) (View.ld x2 r0_22) : FVec Ideal S1x128x128 .f32) x = GO i x0 x1 x2 (r0_146.emb x) :=
  pieceO i x0 x1 x2 2 896 256 1280 rfl rfl inb_S1x2048x512_S1x128x128_0_896_256 _
    (lgAll k0_pay4 (ld0 x0 896 256 inb_S1x2048x1536_S1x128x128_0_896_256) (ld0 x0 768 768 inb_S1x2048x1536_S1x128x128_0_768_768) (ld0 x0 896 768 inb_S1x2048x1536_S1x128x128_0_896_768) (ld2 x2 4 inb_S8x128x256_S1x128x256_4_0_0))
    (lgAll k0_pay5 (ld0 x0 896 256 inb_S1x2048x1536_S1x128x128_0_896_256) (ld0 x0 768 768 inb_S1x2048x1536_S1x128x128_0_768_768) (ld0 x0 896 768 inb_S1x2048x1536_S1x128x128_0_896_768) (ld2 x2 5 inb_S8x128x256_S1x128x256_5_0_0))
    (ld0 x0 768 1280 inb_S1x2048x1536_S1x128x128_0_768_1280) (ld0 x0 896 1280 inb_S1x2048x1536_S1x128x128_0_896_1280) rfl
    (fun r j => nextLo i x0 x1 x2 2 7 896 768 256 768 4 rfl rfl rfl rfl rfl _ _ _ _ r j)
    (fun r j => nextHi i x0 x1 x2 2 7 896 768 256 768 5 rfl rfl rfl rfl rfl _ _ _ _ r j)
    (fun r j l => catNext x0 x1 7 896 768 1280 rfl rfl _ _ r j l)

theorem o_7_1 : ∀ x, (k0_pay453 (k0_pay963 i x0 x1 x2) (k0_pay966 i x0 x1 x2) (k0_pay1056 i x0 x1 x2) (k0_pay1057 i x0 x1 x2) (k0_pay444 (View.ld x0 r0_124) (View.ld x0 r0_141)) (k0_pay447 (k0_pay965 i x0 x1 x2) (View.ld x0 r0_139) (View.ld x0 r0_123) (View.ld x0 r0_140) (View.ld x2 r0_13)) (View.ld x2 r0_14) : FVec Ideal S1x128x128 .f32) x = GO i x0 x1 x2 (r0_142.emb x) :=
  pieceO i x0 x1 x2 1 896 128 1152 rfl rfl inb_S1x2048x512_S1x128x128_0_896_128 _
    (lgAll k0_pay4 (ld0 x0 896 128 inb_S1x2048x1536_S1x128x128_0_896_128) (ld0 x0 768 640 inb_S1x2048x1536_S1x128x128_0_768_640) (ld0 x0 896 640 inb_S1x2048x1536_S1x128x128_0_896_640) (ld2 x2 2 inb_S8x128x256_S1x128x256_2_0_0))
    (lgAll k0_pay5 (ld0 x0 896 128 inb_S1x2048x1536_S1x128x128_0_896_128) (ld0 x0 768 640 inb_S1x2048x1536_S1x128x128_0_768_640) (ld0 x0 896 640 inb_S1x2048x1536_S1x128x128_0_896_640) (ld2 x2 3 inb_S8x128x256_S1x128x256_3_0_0))
    (ld0 x0 768 1152 inb_S1x2048x1536_S1x128x128_0_768_1152) (ld0 x0 896 1152 inb_S1x2048x1536_S1x128x128_0_896_1152) rfl
    (fun r j => nextLo i x0 x1 x2 1 7 896 768 128 640 2 rfl rfl rfl rfl rfl _ _ _ _ r j)
    (fun r j => nextHi i x0 x1 x2 1 7 896 768 128 640 3 rfl rfl rfl rfl rfl _ _ _ _ r j)
    (fun r j l => catNext x0 x1 7 896 768 1152 rfl rfl _ _ r j l)

theorem o_7_0 : ∀ x, (k0_pay441 (k0_pay963 i x0 x1 x2) (k0_pay432 (k0_pay1054 i x0 x1 x2) (k0_pay1055 i x0 x1 x2) (View.ld x2 r0_5)) (k0_pay437 (k0_pay966 i x0 x1 x2) (k0_pay1052 i x0 x1 x2) (k0_pay1053 i x0 x1 x2) (k0_pay1054 i x0 x1 x2) (View.ld x2 r0_6)) : FVec Ideal S1x128x128 .f32) x = GO i x0 x1 x2 (r0_138.emb x) :=
  pieceO i x0 x1 x2 0 896 0 1024 rfl rfl inb_S1x2048x512_S1x128x128_0_896_0 _
    (lgAll k0_pay4 (ld0 x0 896 0 inb_S1x2048x1536_S1x128x128_0_896_0) (ld0 x0 768 512 inb_S1x2048x1536_S1x128x128_0_768_512) (ld0 x0 896 512 inb_S1x2048x1536_S1x128x128_0_896_512) (ld2 x2 0 inb_S8x128x256_S1x128x256_0_0_0))
    (lgAll k0_pay5 (ld0 x0 896 0 inb_S1x2048x1536_S1x128x128_0_896_0) (ld0 x0 768 512 inb_S1x2048x1536_S1x128x128_0_768_512) (ld0 x0 896 512 inb_S1x2048x1536_S1x128x128_0_896_512) (ld2 x2 1 inb_S8x128x256_S1x128x256_1_0_0))
    (ld0 x0 768 1024 inb_S1x2048x1536_S1x128x128_0_768_1024) (ld0 x0 896 1024 inb_S1x2048x1536_S1x128x128_0_896_1024) rfl
    (fun r j => nextLo i x0 x1 x2 0 7 896 768 0 512 0 rfl rfl rfl rfl rfl _ _ _ _ r j)
    (fun r j => nextHi i x0 x1 x2 0 7 896 768 0 512 1 rfl rfl rfl rfl rfl _ _ _ _ r j)
    (fun r j l => catNext x0 x1 7 896 768 1024 rfl rfl _ _ r j l)

theorem o_6_3 : ∀ x, (k0_pay422 (k0_pay963 i x0 x1 x2) (k0_pay413 (k0_pay965 i x0 x1 x2) (k0_pay1049 i x0 x1 x2) (k0_pay1050 i x0 x1 x2) (k0_pay1051 i x0 x1 x2) (View.ld x2 r0_29)) (k0_pay419 (k0_pay966 i x0 x1 x2) (k0_pay1049 i x0 x1 x2) (k0_pay1050 i x0 x1 x2) (k0_pay1051 i x0 x1 x2) (View.ld x2 r0_30)) : FVec Ideal S1x128x128 .f32) x = GO i x0 x1 x2 (r0_133.emb x) :=
  pieceO i x0 x1 x2 3 768 384 1408 rfl rfl inb_S1x2048x512_S1x128x128_0_768_384 _
    (lgAll k0_pay4 (ld0 x0 768 384 inb_S1x2048x1536_S1x128x128_0_768_384) (ld0 x0 640 896 inb_S1x2048x1536_S1x128x128_0_640_896) (ld0 x0 768 896 inb_S1x2048x1536_S1x128x128_0_768_896) (ld2 x2 6 inb_S8x128x256_S1x128x256_6_0_0))
    (lgAll k0_pay5 (ld0 x0 768 384 inb_S1x2048x1536_S1x128x128_0_768_384) (ld0 x0 640 896 inb_S1x2048x1536_S1x128x128_0_640_896) (ld0 x0 768 896 inb_S1x2048x1536_S1x128x128_0_768_896) (ld2 x2 7 inb_S8x128x256_S1x128x256_7_0_0))
    (ld0 x0 640 1408 inb_S1x2048x1536_S1x128x128_0_640_1408) (ld0 x0 768 1408 inb_S1x2048x1536_S1x128x128_0_768_1408) rfl
    (fun r j => nextLo i x0 x1 x2 3 6 768 640 384 896 6 rfl rfl rfl rfl rfl _ _ _ _ r j)
    (fun r j => nextHi i x0 x1 x2 3 6 768 640 384 896 7 rfl rfl rfl rfl rfl _ _ _ _ r j)
    (fun r j l => catNext x0 x1 6 768 640 1408 rfl rfl _ _ r j l)

theorem o_6_2 : ∀ x, (k0_pay406 (k0_pay963 i x0 x1 x2) (k0_pay395 (View.ld x0 r0_111) (View.ld x0 r0_128)) (k0_pay399 (k0_pay965 i x0 x1 x2) (k0_pay1045 i x0 x1 x2) (k0_pay1046 i x0 x1 x2) (View.ld x0 r0_111) (View.ld x0 r0_127) (View.ld x0 r0_128) (View.ld x2 r0_21)) (k0_pay1047 i x0 x1 x2) (k0_pay1048 i x0 x1 x2) : FVec Ideal S1x128x128 .f32) x = GO i x0 x1 x2 (r0_129.emb x) :=
  pieceO i x0 x1 x2 2 768 256 1280 rfl rfl inb_S1x2048x512_S1x128x128_0_768_256 _
    (lgAll k0_pay4 (ld0 x0 768 256 inb_S1x2048x1536_S1x128x128_0_768_256) (ld0 x0 640 768 inb_S1x2048x1536_S1x128x128_0_640_768) (ld0 x0 768 768 inb_S1x2048x1536_S1x128x128_0_768_768) (ld2 x2 4 inb_S8x128x256_S1x128x256_4_0_0))
    (lgAll k0_pay5 (ld0 x0 768 256 inb_S1x2048x1536_S1x128x128_0_768_256) (ld0 x0 640 768 inb_S1x2048x1536_S1x128x128_0_640_768) (ld0 x0 768 768 inb_S1x2048x1536_S1x128x128_0_768_768) (ld2 x2 5 inb_S8x128x256_S1x128x256_5_0_0))
    (ld0 x0 640 1280 inb_S1x2048x1536_S1x128x128_0_640_1280) (ld0 x0 768 1280 inb_S1x2048x1536_S1x128x128_0_768_1280) rfl
    (fun r j => nextLo i x0 x1 x2 2 6 768 640 256 768 4 rfl rfl rfl rfl rfl _ _ _ _ r j)
    (fun r j => nextHi i x0 x1 x2 2 6 768 640 256 768 5 rfl rfl rfl rfl rfl _ _ _ _ r j)
    (fun r j l => catNext x0 x1 6 768 640 1280 rfl rfl _ _ r j l)

theorem o_6_1 : ∀ x, (k0_pay391 (k0_pay963 i x0 x1 x2) (k0_pay966 i x0 x1 x2) (k0_pay1043 i x0 x1 x2) (k0_pay1044 i x0 x1 x2) (k0_pay379 (View.ld x0 r0_107) (View.ld x0 r0_124)) (k0_pay383 (k0_pay965 i x0 x1 x2) (View.ld x0 r0_122) (View.ld x0 r0_106) (View.ld x0 r0_107) (View.ld x0 r0_123) (View.ld x0 r0_124) (View.ld x2 r0_13)) (View.ld x2 r0_14) : FVec Ideal S1x128x128 .f32) x = GO i x0 x1 x2 (r0_125.emb x) :=
  pieceO i x0 x1 x2 1 768 128 1152 rfl rfl inb_S1x2048x512_S1x128x128_0_768_128 _
    (lgAll k0_pay4 (ld0 x0 768 128 inb_S1x2048x1536_S1x128x128_0_768_128) (ld0 x0 640 640 inb_S1x2048x1536_S1x128x128_0_640_640) (ld0 x0 768 640 inb_S1x2048x1536_S1x128x128_0_768_640) (ld2 x2 2 inb_S8x128x256_S1x128x256_2_0_0))
    (lgAll k0_pay5 (ld0 x0 768 128 inb_S1x2048x1536_S1x128x128_0_768_128) (ld0 x0 640 640 inb_S1x2048x1536_S1x128x128_0_640_640) (ld0 x0 768 640 inb_S1x2048x1536_S1x128x128_0_768_640) (ld2 x2 3 inb_S8x128x256_S1x128x256_3_0_0))
    (ld0 x0 640 1152 inb_S1x2048x1536_S1x128x128_0_640_1152) (ld0 x0 768 1152 inb_S1x2048x1536_S1x128x128_0_768_1152) rfl
    (fun r j => nextLo i x0 x1 x2 1 6 768 640 128 640 2 rfl rfl rfl rfl rfl _ _ _ _ r j)
    (fun r j => nextHi i x0 x1 x2 1 6 768 640 128 640 3 rfl rfl rfl rfl rfl _ _ _ _ r j)
    (fun r j l => catNext x0 x1 6 768 640 1152 rfl rfl _ _ r j l)

theorem o_6_0 : ∀ x, (k0_pay376 (k0_pay963 i x0 x1 x2) (k0_pay966 i x0 x1 x2) (k0_pay1041 i x0 x1 x2) (k0_pay1042 i x0 x1 x2) (k0_pay367 (View.ld x0 r0_103) (View.ld x0 r0_120)) (k0_pay370 (k0_pay965 i x0 x1 x2) (View.ld x0 r0_118) (View.ld x0 r0_102) (View.ld x0 r0_119) (View.ld x2 r0_5)) (View.ld x2 r0_6) : FVec Ideal S1x128x128 .f32) x = GO i x0 x1 x2 (r0_121.emb x) :=
  pieceO i x0 x1 x2 0 768 0 1024 rfl rfl inb_S1x2048x512_S1x128x128_0_768_0 _
    (lgAll k0_pay4 (ld0 x0 768 0 inb_S1x2048x1536_S1x128x128_0_768_0) (ld0 x0 640 512 inb_S1x2048x1536_S1x128x128_0_640_512) (ld0 x0 768 512 inb_S1x2048x1536_S1x128x128_0_768_512) (ld2 x2 0 inb_S8x128x256_S1x128x256_0_0_0))
    (lgAll k0_pay5 (ld0 x0 768 0 inb_S1x2048x1536_S1x128x128_0_768_0) (ld0 x0 640 512 inb_S1x2048x1536_S1x128x128_0_640_512) (ld0 x0 768 512 inb_S1x2048x1536_S1x128x128_0_768_512) (ld2 x2 1 inb_S8x128x256_S1x128x256_1_0_0))
    (ld0 x0 640 1024 inb_S1x2048x1536_S1x128x128_0_640_1024) (ld0 x0 768 1024 inb_S1x2048x1536_S1x128x128_0_768_1024) rfl
    (fun r j => nextLo i x0 x1 x2 0 6 768 640 0 512 0 rfl rfl rfl rfl rfl _ _ _ _ r j)
    (fun r j => nextHi i x0 x1 x2 0 6 768 640 0 512 1 rfl rfl rfl rfl rfl _ _ _ _ r j)
    (fun r j l => catNext x0 x1 6 768 640 1024 rfl rfl _ _ r j l)

theorem o_5_3 : ∀ x, (k0_pay362 (k0_pay361 (k0_pay963 i x0 x1 x2) (k0_pay966 i x0 x1 x2) (k0_pay1037 i x0 x1 x2) (k0_pay1038 i x0 x1 x2) (k0_pay353 (View.ld x0 r0_98) (View.ld x0 r0_115)) (k0_pay1039 i x0 x1 x2) (k0_pay1040 i x0 x1 x2) (View.ld x2 r0_30)) : FVec Ideal S1x128x128 .f32) x = GO i x0 x1 x2 (r0_116.emb x) :=
  pieceO i x0 x1 x2 3 640 384 1408 rfl rfl inb_S1x2048x512_S1x128x128_0_640_384 _
    (lgAll k0_pay4 (ld0 x0 640 384 inb_S1x2048x1536_S1x128x128_0_640_384) (ld0 x0 512 896 inb_S1x2048x1536_S1x128x128_0_512_896) (ld0 x0 640 896 inb_S1x2048x1536_S1x128x128_0_640_896) (ld2 x2 6 inb_S8x128x256_S1x128x256_6_0_0))
    (lgAll k0_pay5 (ld0 x0 640 384 inb_S1x2048x1536_S1x128x128_0_640_384) (ld0 x0 512 896 inb_S1x2048x1536_S1x128x128_0_512_896) (ld0 x0 640 896 inb_S1x2048x1536_S1x128x128_0_640_896) (ld2 x2 7 inb_S8x128x256_S1x128x256_7_0_0))
    (ld0 x0 512 1408 inb_S1x2048x1536_S1x128x128_0_512_1408) (ld0 x0 640 1408 inb_S1x2048x1536_S1x128x128_0_640_1408) rfl
    (fun r j => nextLo i x0 x1 x2 3 5 640 512 384 896 6 rfl rfl rfl rfl rfl _ _ _ _ r j)
    (fun r j => nextHi i x0 x1 x2 3 5 640 512 384 896 7 rfl rfl rfl rfl rfl _ _ _ _ r j)
    (fun r j l => catNext x0 x1 5 640 512 1408 rfl rfl _ _ r j l)

theorem o_5_2 : ∀ x, (k0_pay350 (k0_pay963 i x0 x1 x2) (k0_pay341 (k0_pay965 i x0 x1 x2) (k0_pay1033 i x0 x1 x2) (k0_pay1034 i x0 x1 x2) (k0_pay1035 i x0 x1 x2) (k0_pay1036 i x0 x1 x2) (View.ld x2 r0_21)) (k0_pay347 (k0_pay966 i x0 x1 x2) (k0_pay1033 i x0 x1 x2) (k0_pay1034 i x0 x1 x2) (k0_pay1035 i x0 x1 x2) (k0_pay1036 i x0 x1 x2) (View.ld x2 r0_22)) : FVec Ideal S1x128x128 .f32) x = GO i x0 x1 x2 (r0_112.emb x) :=
  pieceO i x0 x1 x2 2 640 256 1280 rfl rfl inb_S1x2048x512_S1x128x128_0_640_256 _
    (lgAll k0_pay4 (ld0 x0 640 256 inb_S1x2048x1536_S1x128x128_0_640_256) (ld0 x0 512 768 inb_S1x2048x1536_S1x128x128_0_512_768) (ld0 x0 640 768 inb_S1x2048x1536_S1x128x128_0_640_768) (ld2 x2 4 inb_S8x128x256_S1x128x256_4_0_0))
    (lgAll k0_pay5 (ld0 x0 640 256 inb_S1x2048x1536_S1x128x128_0_640_256) (ld0 x0 512 768 inb_S1x2048x1536_S1x128x128_0_512_768) (ld0 x0 640 768 inb_S1x2048x1536_S1x128x128_0_640_768) (ld2 x2 5 inb_S8x128x256_S1x128x256_5_0_0))
    (ld0 x0 512 1280 inb_S1x2048x1536_S1x128x128_0_512_1280) (ld0 x0 640 1280 inb_S1x2048x1536_S1x128x128_0_640_1280) rfl
    (fun r j => nextLo i x0 x1 x2 2 5 640 512 256 768 4 rfl rfl rfl rfl rfl _ _ _ _ r j)
    (fun r j => nextHi i x0 x1 x2 2 5 640 512 256 768 5 rfl rfl rfl rfl rfl _ _ _ _ r j)
    (fun r j l => catNext x0 x1 5 640 512 1280 rfl rfl _ _ r j l)

theorem o_5_1 : ∀ x, (k0_pay332 (k0_pay963 i x0 x1 x2) (k0_pay322 (View.ld x0 r0_90) (View.ld x0 r0_107)) (k0_pay326 (k0_pay965 i x0 x1 x2) (k0_pay1030 i x0 x1 x2) (k0_pay1031 i x0 x1 x2) (View.ld x0 r0_90) (View.ld x0 r0_106) (View.ld x0 r0_107) (View.ld x2 r0_13)) (k0_pay1032 i x0 x1 x2) : FVec Ideal S1x128x128 .f32) x = GO i x0 x1 x2 (r0_108.emb x) :=
  pieceO i x0 x1 x2 1 640 128 1152 rfl rfl inb_S1x2048x512_S1x128x128_0_640_128 _
    (lgAll k0_pay4 (ld0 x0 640 128 inb_S1x2048x1536_S1x128x128_0_640_128) (ld0 x0 512 640 inb_S1x2048x1536_S1x128x128_0_512_640) (ld0 x0 640 640 inb_S1x2048x1536_S1x128x128_0_640_640) (ld2 x2 2 inb_S8x128x256_S1x128x256_2_0_0))
    (lgAll k0_pay5 (ld0 x0 640 128 inb_S1x2048x1536_S1x128x128_0_640_128) (ld0 x0 512 640 inb_S1x2048x1536_S1x128x128_0_512_640) (ld0 x0 640 640 inb_S1x2048x1536_S1x128x128_0_640_640) (ld2 x2 3 inb_S8x128x256_S1x128x256_3_0_0))
    (ld0 x0 512 1152 inb_S1x2048x1536_S1x128x128_0_512_1152) (ld0 x0 640 1152 inb_S1x2048x1536_S1x128x128_0_640_1152) rfl
    (fun r j => nextLo i x0 x1 x2 1 5 640 512 128 640 2 rfl rfl rfl rfl rfl _ _ _ _ r j)
    (fun r j => nextHi i x0 x1 x2 1 5 640 512 128 640 3 rfl rfl rfl rfl rfl _ _ _ _ r j)
    (fun r j l => catNext x0 x1 5 640 512 1152 rfl rfl _ _ r j l)

theorem o_5_0 : ∀ x, (k0_pay318 (k0_pay963 i x0 x1 x2) (k0_pay966 i x0 x1 x2) (k0_pay1028 i x0 x1 x2) (k0_pay1029 i x0 x1 x2) (k0_pay306 (View.ld x0 r0_86) (View.ld x0 r0_103)) (k0_pay311 (k0_pay965 i x0 x1 x2) (View.ld x0 r0_101) (View.ld x0 r0_85) (View.ld x0 r0_86) (View.ld x0 r0_102) (View.ld x0 r0_103) (View.ld x2 r0_5)) (View.ld x2 r0_6) : FVec Ideal S1x128x128 .f32) x = GO i x0 x1 x2 (r0_104.emb x) :=
  pieceO i x0 x1 x2 0 640 0 1024 rfl rfl inb_S1x2048x512_S1x128x128_0_640_0 _
    (lgAll k0_pay4 (ld0 x0 640 0 inb_S1x2048x1536_S1x128x128_0_640_0) (ld0 x0 512 512 inb_S1x2048x1536_S1x128x128_0_512_512) (ld0 x0 640 512 inb_S1x2048x1536_S1x128x128_0_640_512) (ld2 x2 0 inb_S8x128x256_S1x128x256_0_0_0))
    (lgAll k0_pay5 (ld0 x0 640 0 inb_S1x2048x1536_S1x128x128_0_640_0) (ld0 x0 512 512 inb_S1x2048x1536_S1x128x128_0_512_512) (ld0 x0 640 512 inb_S1x2048x1536_S1x128x128_0_640_512) (ld2 x2 1 inb_S8x128x256_S1x128x256_1_0_0))
    (ld0 x0 512 1024 inb_S1x2048x1536_S1x128x128_0_512_1024) (ld0 x0 640 1024 inb_S1x2048x1536_S1x128x128_0_640_1024) rfl
    (fun r j => nextLo i x0 x1 x2 0 5 640 512 0 512 0 rfl rfl rfl rfl rfl _ _ _ _ r j)
    (fun r j => nextHi i x0 x1 x2 0 5 640 512 0 512 1 rfl rfl rfl rfl rfl _ _ _ _ r j)
    (fun r j l => catNext x0 x1 5 640 512 1024 rfl rfl _ _ r j l)

theorem o_4_3 : ∀ x, (k0_pay302 (k0_pay963 i x0 x1 x2) (k0_pay966 i x0 x1 x2) (k0_pay1026 i x0 x1 x2) (k0_pay1027 i x0 x1 x2) (k0_pay291 (View.ld x0 r0_81) (View.ld x0 r0_98)) (k0_pay296 (k0_pay965 i x0 x1 x2) (View.ld x0 r0_96) (View.ld x0 r0_80) (View.ld x0 r0_81) (View.ld x0 r0_97) (View.ld x0 r0_98) (View.ld x2 r0_29)) (View.ld x2 r0_30) : FVec Ideal S1x128x128 .f32) x = GO i x0 x1 x2 (r0_99.emb x) :=
  pieceO i x0 x1 x2 3 512 384 1408 rfl rfl inb_S1x2048x512_S1x128x128_0_512_384 _
    (lgAll k0_pay4 (ld0 x0 512 384 inb_S1x2048x1536_S1x128x128_0_512_384) (ld0 x0 384 896 inb_S1x2048x1536_S1x128x128_0_384_896) (ld0 x0 512 896 inb_S1x2048x1536_S1x128x128_0_512_896) (ld2 x2 6 inb_S8x128x256_S1x128x256_6_0_0))
    (lgAll k0_pay5 (ld0 x0 512 384 inb_S1x2048x1536_S1x128x128_0_512_384) (ld0 x0 384 896 inb_S1x2048x1536_S1x128x128_0_384_896) (ld0 x0 512 896 inb_S1x2048x1536_S1x128x128_0_512_896) (ld2 x2 7 inb_S8x128x256_S1x128x256_7_0_0))
    (ld0 x0 384 1408 inb_S1x2048x1536_S1x128x128_0_384_1408) (ld0 x0 512 1408 inb_S1x2048x1536_S1x128x128_0_512_1408) rfl
    (fun r j => nextLo i x0 x1 x2 3 4 512 384 384 896 6 rfl rfl rfl rfl rfl _ _ _ _ r j)
    (fun r j => nextHi i x0 x1 x2 3 4 512 384 384 896 7 rfl rfl rfl rfl rfl _ _ _ _ r j)
    (fun r j l => catNext x0 x1 4 512 384 1408 rfl rfl _ _ r j l)

theorem o_4_2 : ∀ x, (k0_pay288 (k0_pay287 (k0_pay963 i x0 x1 x2) (k0_pay966 i x0 x1 x2) (k0_pay1022 i x0 x1 x2) (k0_pay1023 i x0 x1 x2) (k0_pay278 (View.ld x0 r0_77) (View.ld x0 r0_94)) (k0_pay1024 i x0 x1 x2) (k0_pay1025 i x0 x1 x2) (View.ld x2 r0_22)) : FVec Ideal S1x128x128 .f32) x = GO i x0 x1 x2 (r0_95.emb x) :=
  pieceO i x0 x1 x2 2 512 256 1280 rfl rfl inb_S1x2048x512_S1x128x128_0_512_256 _
    (lgAll k0_pay4 (ld0 x0 512 256 inb_S1x2048x1536_S1x128x128_0_512_256) (ld0 x0 384 768 inb_S1x2048x1536_S1x128x128_0_384_768) (ld0 x0 512 768 inb_S1x2048x1536_S1x128x128_0_512_768) (ld2 x2 4 inb_S8x128x256_S1x128x256_4_0_0))
    (lgAll k0_pay5 (ld0 x0 512 256 inb_S1x2048x1536_S1x128x128_0_512_256) (ld0 x0 384 768 inb_S1x2048x1536_S1x128x128_0_384_768) (ld0 x0 512 768 inb_S1x2048x1536_S1x128x128_0_512_768) (ld2 x2 5 inb_S8x128x256_S1x128x256_5_0_0))
    (ld0 x0 384 1280 inb_S1x2048x1536_S1x128x128_0_384_1280) (ld0 x0 512 1280 inb_S1x2048x1536_S1x128x128_0_512_1280) rfl
    (fun r j => nextLo i x0 x1 x2 2 4 512 384 256 768 4 rfl rfl rfl rfl rfl _ _ _ _ r j)
    (fun r j => nextHi i x0 x1 x2 2 4 512 384 256 768 5 rfl rfl rfl rfl rfl _ _ _ _ r j)
    (fun r j l => catNext x0 x1 4 512 384 1280 rfl rfl _ _ r j l)

theorem o_4_1 : ∀ x, (k0_pay275 (k0_pay963 i x0 x1 x2) (k0_pay266 (k0_pay965 i x0 x1 x2) (k0_pay1019 i x0 x1 x2) (k0_pay1020 i x0 x1 x2) (k0_pay1021 i x0 x1 x2) (View.ld x0 r0_90) (View.ld x2 r0_13)) (k0_pay272 (k0_pay966 i x0 x1 x2) (k0_pay1019 i x0 x1 x2) (k0_pay1020 i x0 x1 x2) (k0_pay1021 i x0 x1 x2) (View.ld x0 r0_90) (View.ld x2 r0_14)) : FVec Ideal S1x128x128 .f32) x = GO i x0 x1 x2 (r0_91.emb x) :=
  pieceO i x0 x1 x2 1 512 128 1152 rfl rfl inb_S1x2048x512_S1x128x128_0_512_128 _
    (lgAll k0_pay4 (ld0 x0 512 128 inb_S1x2048x1536_S1x128x128_0_512_128) (ld0 x0 384 640 inb_S1x2048x1536_S1x128x128_0_384_640) (ld0 x0 512 640 inb_S1x2048x1536_S1x128x128_0_512_640) (ld2 x2 2 inb_S8x128x256_S1x128x256_2_0_0))
    (lgAll k0_pay5 (ld0 x0 512 128 inb_S1x2048x1536_S1x128x128_0_512_128) (ld0 x0 384 640 inb_S1x2048x1536_S1x128x128_0_384_640) (ld0 x0 512 640 inb_S1x2048x1536_S1x128x128_0_512_640) (ld2 x2 3 inb_S8x128x256_S1x128x256_3_0_0))
    (ld0 x0 384 1152 inb_S1x2048x1536_S1x128x128_0_384_1152) (ld0 x0 512 1152 inb_S1x2048x1536_S1x128x128_0_512_1152) rfl
    (fun r j => nextLo i x0 x1 x2 1 4 512 384 128 640 2 rfl rfl rfl rfl rfl _ _ _ _ r j)
    (fun r j => nextHi i x0 x1 x2 1 4 512 384 128 640 3 rfl rfl rfl rfl rfl _ _ _ _ r j)
    (fun r j l => catNext x0 x1 4 512 384 1152 rfl rfl _ _ r j l)

theorem o_4_0 : ∀ x, (k0_pay258 (k0_pay963 i x0 x1 x2) (k0_pay248 (View.ld x0 r0_69) (View.ld x0 r0_86)) (k0_pay252 (k0_pay965 i x0 x1 x2) (k0_pay1016 i x0 x1 x2) (k0_pay1017 i x0 x1 x2) (View.ld x0 r0_69) (View.ld x0 r0_85) (View.ld x0 r0_86) (View.ld x2 r0_5)) (k0_pay1018 i x0 x1 x2) : FVec Ideal S1x128x128 .f32) x = GO i x0 x1 x2 (r0_87.emb x) :=
  pieceO i x0 x1 x2 0 512 0 1024 rfl rfl inb_S1x2048x512_S1x128x128_0_512_0 _
    (lgAll k0_pay4 (ld0 x0 512 0 inb_S1x2048x1536_S1x128x128_0_512_0) (ld0 x0 384 512 inb_S1x2048x1536_S1x128x128_0_384_512) (ld0 x0 512 512 inb_S1x2048x1536_S1x128x128_0_512_512) (ld2 x2 0 inb_S8x128x256_S1x128x256_0_0_0))
    (lgAll k0_pay5 (ld0 x0 512 0 inb_S1x2048x1536_S1x128x128_0_512_0) (ld0 x0 384 512 inb_S1x2048x1536_S1x128x128_0_384_512) (ld0 x0 512 512 inb_S1x2048x1536_S1x128x128_0_512_512) (ld2 x2 1 inb_S8x128x256_S1x128x256_1_0_0))
    (ld0 x0 384 1024 inb_S1x2048x1536_S1x128x128_0_384_1024) (ld0 x0 512 1024 inb_S1x2048x1536_S1x128x128_0_512_1024) rfl
    (fun r j => nextLo i x0 x1 x2 0 4 512 384 0 512 0 rfl rfl rfl rfl rfl _ _ _ _ r j)
    (fun r j => nextHi i x0 x1 x2 0 4 512 384 0 512 1 rfl rfl rfl rfl rfl _ _ _ _ r j)
    (fun r j l => catNext x0 x1 4 512 384 1024 rfl rfl _ _ r j l)

theorem o_3_3 : ∀ x, (k0_pay242 (k0_pay963 i x0 x1 x2) (k0_pay232 (View.ld x0 r0_64) (View.ld x0 r0_81)) (k0_pay236 (k0_pay965 i x0 x1 x2) (k0_pay1014 i x0 x1 x2) (View.ld x0 r0_63) (View.ld x0 r0_64) (View.ld x0 r0_80) (View.ld x0 r0_81) (View.ld x2 r0_29)) (k0_pay1015 i x0 x1 x2) (View.ld x2 r0_30) : FVec Ideal S1x128x128 .f32) x = GO i x0 x1 x2 (r0_82.emb x) :=
  pieceO i x0 x1 x2 3 384 384 1408 rfl rfl inb_S1x2048x512_S1x128x128_0_384_384 _
    (lgAll k0_pay4 (ld0 x0 384 384 inb_S1x2048x1536_S1x128x128_0_384_384) (ld0 x0 256 896 inb_S1x2048x1536_S1x128x128_0_256_896) (ld0 x0 384 896 inb_S1x2048x1536_S1x128x128_0_384_896) (ld2 x2 6 inb_S8x128x256_S1x128x256_6_0_0))
    (lgAll k0_pay5 (ld0 x0 384 384 inb_S1x2048x1536_S1x128x128_0_384_384) (ld0 x0 256 896 inb_S1x2048x1536_S1x128x128_0_256_896) (ld0 x0 384 896 inb_S1x2048x1536_S1x128x128_0_384_896) (ld2 x2 7 inb_S8x128x256_S1x128x256_7_0_0))
    (ld0 x0 256 1408 inb_S1x2048x1536_S1x128x128_0_256_1408) (ld0 x0 384 1408 inb_S1x2048x1536_S1x128x128_0_384_1408) rfl
    (fun r j => nextLo i x0 x1 x2 3 3 384 256 384 896 6 rfl rfl rfl rfl rfl _ _ _ _ r j)
    (fun r j => nextHi i x0 x1 x2 3 3 384 256 384 896 7 rfl rfl rfl rfl rfl _ _ _ _ r j)
    (fun r j l => catNext x0 x1 3 384 256 1408 rfl rfl _ _ r j l)

theorem o_3_2 : ∀ x, (k0_pay229 (k0_pay963 i x0 x1 x2) (k0_pay966 i x0 x1 x2) (k0_pay1012 i x0 x1 x2) (k0_pay1013 i x0 x1 x2) (k0_pay218 (View.ld x0 r0_60) (View.ld x0 r0_77)) (k0_pay223 (k0_pay965 i x0 x1 x2) (View.ld x0 r0_75) (View.ld x0 r0_59) (View.ld x0 r0_60) (View.ld x0 r0_76) (View.ld x0 r0_77) (View.ld x2 r0_21)) (View.ld x2 r0_22) : FVec Ideal S1x128x128 .f32) x = GO i x0 x1 x2 (r0_78.emb x) :=
  pieceO i x0 x1 x2 2 384 256 1280 rfl rfl inb_S1x2048x512_S1x128x128_0_384_256 _
    (lgAll k0_pay4 (ld0 x0 384 256 inb_S1x2048x1536_S1x128x128_0_384_256) (ld0 x0 256 768 inb_S1x2048x1536_S1x128x128_0_256_768) (ld0 x0 384 768 inb_S1x2048x1536_S1x128x128_0_384_768) (ld2 x2 4 inb_S8x128x256_S1x128x256_4_0_0))
    (lgAll k0_pay5 (ld0 x0 384 256 inb_S1x2048x1536_S1x128x128_0_384_256) (ld0 x0 256 768 inb_S1x2048x1536_S1x128x128_0_256_768) (ld0 x0 384 768 inb_S1x2048x1536_S1x128x128_0_384_768) (ld2 x2 5 inb_S8x128x256_S1x128x256_5_0_0))
    (ld0 x0 256 1280 inb_S1x2048x1536_S1x128x128_0_256_1280) (ld0 x0 384 1280 inb_S1x2048x1536_S1x128x128_0_384_1280) rfl
    (fun r j => nextLo i x0 x1 x2 2 3 384 256 256 768 4 rfl rfl rfl rfl rfl _ _ _ _ r j)
    (fun r j => nextHi i x0 x1 x2 2 3 384 256 256 768 5 rfl rfl rfl rfl rfl _ _ _ _ r j)
    (fun r j l => catNext x0 x1 3 384 256 1280 rfl rfl _ _ r j l)

theorem o_3_1 : ∀ x, (k0_pay215 (k0_pay208 (k0_pay1010 i x0 x1 x2) (k0_pay1011 i x0 x1 x2)) (k0_pay212 (k0_pay966 i x0 x1 x2) (k0_pay1008 i x0 x1 x2) (k0_pay1009 i x0 x1 x2) (k0_pay1010 i x0 x1 x2) (View.ld x2 r0_14)) (k0_pay214 (k0_pay963 i x0 x1 x2)) : FVec Ideal S1x128x128 .f32) x = GO i x0 x1 x2 (r0_74.emb x) :=
  pieceO i x0 x1 x2 1 384 128 1152 rfl rfl inb_S1x2048x512_S1x128x128_0_384_128 _
    (lgAll k0_pay4 (ld0 x0 384 128 inb_S1x2048x1536_S1x128x128_0_384_128) (ld0 x0 256 640 inb_S1x2048x1536_S1x128x128_0_256_640) (ld0 x0 384 640 inb_S1x2048x1536_S1x128x128_0_384_640) (ld2 x2 2 inb_S8x128x256_S1x128x256_2_0_0))
    (lgAll k0_pay5 (ld0 x0 384 128 inb_S1x2048x1536_S1x128x128_0_384_128) (ld0 x0 256 640 inb_S1x2048x1536_S1x128x128_0_256_640) (ld0 x0 384 640 inb_S1x2048x1536_S1x128x128_0_384_640) (ld2 x2 3 inb_S8x128x256_S1x128x256_3_0_0))
    (ld0 x0 256 1152 inb_S1x2048x1536_S1x128x128_0_256_1152) (ld0 x0 384 1152 inb_S1x2048x1536_S1x128x128_0_384_1152) rfl
    (fun r j => nextLo i x0 x1 x2 1 3 384 256 128 640 2 rfl rfl rfl rfl rfl _ _ _ _ r j)
    (fun r j => nextHi i x0 x1 x2 1 3 384 256 128 640 3 rfl rfl rfl rfl rfl _ _ _ _ r j)
    (fun r j l => catNext x0 x1 3 384 256 1152 rfl rfl _ _ r j l)

theorem o_3_0 : ∀ x, (k0_pay201 (k0_pay963 i x0 x1 x2) (k0_pay193 (k0_pay965 i x0 x1 x2) (k0_pay1005 i x0 x1 x2) (k0_pay1006 i x0 x1 x2) (k0_pay1007 i x0 x1 x2) (View.ld x0 r0_69) (View.ld x2 r0_5)) (k0_pay199 (k0_pay966 i x0 x1 x2) (k0_pay1005 i x0 x1 x2) (k0_pay1006 i x0 x1 x2) (k0_pay1007 i x0 x1 x2) (View.ld x0 r0_69) (View.ld x2 r0_6)) : FVec Ideal S1x128x128 .f32) x = GO i x0 x1 x2 (r0_70.emb x) :=
  pieceO i x0 x1 x2 0 384 0 1024 rfl rfl inb_S1x2048x512_S1x128x128_0_384_0 _
    (lgAll k0_pay4 (ld0 x0 384 0 inb_S1x2048x1536_S1x128x128_0_384_0) (ld0 x0 256 512 inb_S1x2048x1536_S1x128x128_0_256_512) (ld0 x0 384 512 inb_S1x2048x1536_S1x128x128_0_384_512) (ld2 x2 0 inb_S8x128x256_S1x128x256_0_0_0))
    (lgAll k0_pay5 (ld0 x0 384 0 inb_S1x2048x1536_S1x128x128_0_384_0) (ld0 x0 256 512 inb_S1x2048x1536_S1x128x128_0_256_512) (ld0 x0 384 512 inb_S1x2048x1536_S1x128x128_0_384_512) (ld2 x2 1 inb_S8x128x256_S1x128x256_1_0_0))
    (ld0 x0 256 1024 inb_S1x2048x1536_S1x128x128_0_256_1024) (ld0 x0 384 1024 inb_S1x2048x1536_S1x128x128_0_384_1024) rfl
    (fun r j => nextLo i x0 x1 x2 0 3 384 256 0 512 0 rfl rfl rfl rfl rfl _ _ _ _ r j)
    (fun r j => nextHi i x0 x1 x2 0 3 384 256 0 512 1 rfl rfl rfl rfl rfl _ _ _ _ r j)
    (fun r j l => catNext x0 x1 3 384 256 1024 rfl rfl _ _ r j l)

theorem o_2_3 : ∀ x, (k0_pay183 (k0_pay963 i x0 x1 x2) (k0_pay173 (k0_pay1004 i x0 x1 x2) (View.ld x0 r0_64)) (k0_pay177 (k0_pay965 i x0 x1 x2) (k0_pay1002 i x0 x1 x2) (k0_pay1003 i x0 x1 x2) (k0_pay1004 i x0 x1 x2) (View.ld x0 r0_63) (View.ld x0 r0_64) (View.ld x2 r0_29)) (k0_pay181 (k0_pay966 i x0 x1 x2) (k0_pay1002 i x0 x1 x2) (k0_pay1003 i x0 x1 x2) (View.ld x0 r0_63) (View.ld x2 r0_30)) : FVec Ideal S1x128x128 .f32) x = GO i x0 x1 x2 (r0_65.emb x) :=
  pieceO i x0 x1 x2 3 256 384 1408 rfl rfl inb_S1x2048x512_S1x128x128_0_256_384 _
    (lgAll k0_pay4 (ld0 x0 256 384 inb_S1x2048x1536_S1x128x128_0_256_384) (ld0 x0 128 896 inb_S1x2048x1536_S1x128x128_0_128_896) (ld0 x0 256 896 inb_S1x2048x1536_S1x128x128_0_256_896) (ld2 x2 6 inb_S8x128x256_S1x128x256_6_0_0))
    (lgAll k0_pay5 (ld0 x0 256 384 inb_S1x2048x1536_S1x128x128_0_256_384) (ld0 x0 128 896 inb_S1x2048x1536_S1x128x128_0_128_896) (ld0 x0 256 896 inb_S1x2048x1536_S1x128x128_0_256_896) (ld2 x2 7 inb_S8x128x256_S1x128x256_7_0_0))
    (ld0 x0 128 1408 inb_S1x2048x1536_S1x128x128_0_128_1408) (ld0 x0 256 1408 inb_S1x2048x1536_S1x128x128_0_256_1408) rfl
    (fun r j => nextLo i x0 x1 x2 3 2 256 128 384 896 6 rfl rfl rfl rfl rfl _ _ _ _ r j)
    (fun r j => nextHi i x0 x1 x2 3 2 256 128 384 896 7 rfl rfl rfl rfl rfl _ _ _ _ r j)
    (fun r j l => catNext x0 x1 2 256 128 1408 rfl rfl _ _ r j l)

theorem o_2_2 : ∀ x, (k0_pay168 (k0_pay963 i x0 x1 x2) (k0_pay157 (View.ld x0 r0_43) (View.ld x0 r0_60)) (k0_pay161 (k0_pay965 i x0 x1 x2) (k0_pay1000 i x0 x1 x2) (View.ld x0 r0_42) (View.ld x0 r0_43) (View.ld x0 r0_59) (View.ld x0 r0_60) (View.ld x2 r0_21)) (k0_pay1001 i x0 x1 x2) (View.ld x2 r0_22) : FVec Ideal S1x128x128 .f32) x = GO i x0 x1 x2 (r0_61.emb x) :=
  pieceO i x0 x1 x2 2 256 256 1280 rfl rfl inb_S1x2048x512_S1x128x128_0_256_256 _
    (lgAll k0_pay4 (ld0 x0 256 256 inb_S1x2048x1536_S1x128x128_0_256_256) (ld0 x0 128 768 inb_S1x2048x1536_S1x128x128_0_128_768) (ld0 x0 256 768 inb_S1x2048x1536_S1x128x128_0_256_768) (ld2 x2 4 inb_S8x128x256_S1x128x256_4_0_0))
    (lgAll k0_pay5 (ld0 x0 256 256 inb_S1x2048x1536_S1x128x128_0_256_256) (ld0 x0 128 768 inb_S1x2048x1536_S1x128x128_0_128_768) (ld0 x0 256 768 inb_S1x2048x1536_S1x128x128_0_256_768) (ld2 x2 5 inb_S8x128x256_S1x128x256_5_0_0))
    (ld0 x0 128 1280 inb_S1x2048x1536_S1x128x128_0_128_1280) (ld0 x0 256 1280 inb_S1x2048x1536_S1x128x128_0_256_1280) rfl
    (fun r j => nextLo i x0 x1 x2 2 2 256 128 256 768 4 rfl rfl rfl rfl rfl _ _ _ _ r j)
    (fun r j => nextHi i x0 x1 x2 2 2 256 128 256 768 5 rfl rfl rfl rfl rfl _ _ _ _ r j)
    (fun r j l => catNext x0 x1 2 256 128 1280 rfl rfl _ _ r j l)

theorem o_2_1 : ∀ x, (k0_pay154 (k0_pay963 i x0 x1 x2) (k0_pay966 i x0 x1 x2) (k0_pay998 i x0 x1 x2) (k0_pay999 i x0 x1 x2) (k0_pay143 (View.ld x0 r0_39) (View.ld x0 r0_56)) (k0_pay148 (k0_pay965 i x0 x1 x2) (View.ld x0 r0_54) (View.ld x0 r0_38) (View.ld x0 r0_39) (View.ld x0 r0_55) (View.ld x0 r0_56) (View.ld x2 r0_13)) (View.ld x2 r0_14) : FVec Ideal S1x128x128 .f32) x = GO i x0 x1 x2 (r0_57.emb x) :=
  pieceO i x0 x1 x2 1 256 128 1152 rfl rfl inb_S1x2048x512_S1x128x128_0_256_128 _
    (lgAll k0_pay4 (ld0 x0 256 128 inb_S1x2048x1536_S1x128x128_0_256_128) (ld0 x0 128 640 inb_S1x2048x1536_S1x128x128_0_128_640) (ld0 x0 256 640 inb_S1x2048x1536_S1x128x128_0_256_640) (ld2 x2 2 inb_S8x128x256_S1x128x256_2_0_0))
    (lgAll k0_pay5 (ld0 x0 256 128 inb_S1x2048x1536_S1x128x128_0_256_128) (ld0 x0 128 640 inb_S1x2048x1536_S1x128x128_0_128_640) (ld0 x0 256 640 inb_S1x2048x1536_S1x128x128_0_256_640) (ld2 x2 3 inb_S8x128x256_S1x128x256_3_0_0))
    (ld0 x0 128 1152 inb_S1x2048x1536_S1x128x128_0_128_1152) (ld0 x0 256 1152 inb_S1x2048x1536_S1x128x128_0_256_1152) rfl
    (fun r j => nextLo i x0 x1 x2 1 2 256 128 128 640 2 rfl rfl rfl rfl rfl _ _ _ _ r j)
    (fun r j => nextHi i x0 x1 x2 1 2 256 128 128 640 3 rfl rfl rfl rfl rfl _ _ _ _ r j)
    (fun r j l => catNext x0 x1 2 256 128 1152 rfl rfl _ _ r j l)

theorem o_2_0 : ∀ x, (k0_pay140 (k0_pay963 i x0 x1 x2) (k0_pay133 (k0_pay996 i x0 x1 x2) (k0_pay997 i x0 x1 x2)) (k0_pay137 (k0_pay966 i x0 x1 x2) (k0_pay994 i x0 x1 x2) (k0_pay995 i x0 x1 x2) (k0_pay996 i x0 x1 x2) (View.ld x2 r0_6)) k0_pay139 : FVec Ideal S1x128x128 .f32) x = GO i x0 x1 x2 (r0_53.emb x) :=
  pieceO i x0 x1 x2 0 256 0 1024 rfl rfl inb_S1x2048x512_S1x128x128_0_256_0 _
    (lgAll k0_pay4 (ld0 x0 256 0 inb_S1x2048x1536_S1x128x128_0_256_0) (ld0 x0 128 512 inb_S1x2048x1536_S1x128x128_0_128_512) (ld0 x0 256 512 inb_S1x2048x1536_S1x128x128_0_256_512) (ld2 x2 0 inb_S8x128x256_S1x128x256_0_0_0))
    (lgAll k0_pay5 (ld0 x0 256 0 inb_S1x2048x1536_S1x128x128_0_256_0) (ld0 x0 128 512 inb_S1x2048x1536_S1x128x128_0_128_512) (ld0 x0 256 512 inb_S1x2048x1536_S1x128x128_0_256_512) (ld2 x2 1 inb_S8x128x256_S1x128x256_1_0_0))
    (ld0 x0 128 1024 inb_S1x2048x1536_S1x128x128_0_128_1024) (ld0 x0 256 1024 inb_S1x2048x1536_S1x128x128_0_256_1024) rfl
    (fun r j => nextLo i x0 x1 x2 0 2 256 128 0 512 0 rfl rfl rfl rfl rfl _ _ _ _ r j)
    (fun r j => nextHi i x0 x1 x2 0 2 256 128 0 512 1 rfl rfl rfl rfl rfl _ _ _ _ r j)
    (fun r j l => catNext x0 x1 2 256 128 1024 rfl rfl _ _ r j l)

theorem o_1_3 : ∀ x, (k0_pay124 (k0_pay963 i x0 x1 x2) (k0_pay116 (k0_pay992 i x0 x1 x2) (k0_pay993 i x0 x1 x2) (View.ld x2 r0_29)) (k0_pay121 (k0_pay966 i x0 x1 x2) (k0_pay990 i x0 x1 x2) (k0_pay991 i x0 x1 x2) (k0_pay992 i x0 x1 x2) (View.ld x2 r0_30)) : FVec Ideal S1x128x128 .f32) x = GO i x0 x1 x2 (r0_48.emb x) :=
  pieceO i x0 x1 x2 3 128 384 1408 rfl rfl inb_S1x2048x512_S1x128x128_0_128_384 _
    (lgAll k0_pay4 (ld0 x0 128 384 inb_S1x2048x1536_S1x128x128_0_128_384) (ld0 x0 0 896 inb_S1x2048x1536_S1x128x128_0_0_896) (ld0 x0 128 896 inb_S1x2048x1536_S1x128x128_0_128_896) (ld2 x2 6 inb_S8x128x256_S1x128x256_6_0_0))
    (lgAll k0_pay5 (ld0 x0 128 384 inb_S1x2048x1536_S1x128x128_0_128_384) (ld0 x0 0 896 inb_S1x2048x1536_S1x128x128_0_0_896) (ld0 x0 128 896 inb_S1x2048x1536_S1x128x128_0_128_896) (ld2 x2 7 inb_S8x128x256_S1x128x256_7_0_0))
    (ld0 x0 0 1408 inb_S1x2048x1536_S1x128x128_0_0_1408) (ld0 x0 128 1408 inb_S1x2048x1536_S1x128x128_0_128_1408) rfl
    (fun r j => nextLo i x0 x1 x2 3 1 128 0 384 896 6 rfl rfl rfl rfl rfl _ _ _ _ r j)
    (fun r j => nextHi i x0 x1 x2 3 1 128 0 384 896 7 rfl rfl rfl rfl rfl _ _ _ _ r j)
    (fun r j l => catNext x0 x1 1 128 0 1408 rfl rfl _ _ r j l)

theorem o_1_2 : ∀ x, (k0_pay108 (k0_pay963 i x0 x1 x2) (k0_pay98 (k0_pay988 i x0 x1 x2) (View.ld x0 r0_43)) (k0_pay102 (k0_pay965 i x0 x1 x2) (k0_pay986 i x0 x1 x2) (k0_pay987 i x0 x1 x2) (k0_pay988 i x0 x1 x2) (View.ld x0 r0_42) (View.ld x0 r0_43) (View.ld x2 r0_21)) (k0_pay989 i x0 x1 x2) : FVec Ideal S1x128x128 .f32) x = GO i x0 x1 x2 (r0_44.emb x) :=
  pieceO i x0 x1 x2 2 128 256 1280 rfl rfl inb_S1x2048x512_S1x128x128_0_128_256 _
    (lgAll k0_pay4 (ld0 x0 128 256 inb_S1x2048x1536_S1x128x128_0_128_256) (ld0 x0 0 768 inb_S1x2048x1536_S1x128x128_0_0_768) (ld0 x0 128 768 inb_S1x2048x1536_S1x128x128_0_128_768) (ld2 x2 4 inb_S8x128x256_S1x128x256_4_0_0))
    (lgAll k0_pay5 (ld0 x0 128 256 inb_S1x2048x1536_S1x128x128_0_128_256) (ld0 x0 0 768 inb_S1x2048x1536_S1x128x128_0_0_768) (ld0 x0 128 768 inb_S1x2048x1536_S1x128x128_0_128_768) (ld2 x2 5 inb_S8x128x256_S1x128x256_5_0_0))
    (ld0 x0 0 1280 inb_S1x2048x1536_S1x128x128_0_0_1280) (ld0 x0 128 1280 inb_S1x2048x1536_S1x128x128_0_128_1280) rfl
    (fun r j => nextLo i x0 x1 x2 2 1 128 0 256 768 4 rfl rfl rfl rfl rfl _ _ _ _ r j)
    (fun r j => nextHi i x0 x1 x2 2 1 128 0 256 768 5 rfl rfl rfl rfl rfl _ _ _ _ r j)
    (fun r j l => catNext x0 x1 1 128 0 1280 rfl rfl _ _ r j l)

theorem o_1_1 : ∀ x, (k0_pay93 (k0_pay963 i x0 x1 x2) (k0_pay984 i x0 x1 x2) (k0_pay82 (View.ld x0 r0_12) (View.ld x0 r0_39)) (k0_pay86 (k0_pay965 i x0 x1 x2) (View.ld x0 r0_37) (View.ld x0 r0_11) (View.ld x0 r0_12) (View.ld x0 r0_38) (View.ld x0 r0_39) (View.ld x2 r0_13)) (k0_pay985 i x0 x1 x2) (k0_pay983 i x0 x1 x2) (View.ld x2 r0_14) : FVec Ideal S1x128x128 .f32) x = GO i x0 x1 x2 (r0_40.emb x) :=
  pieceO i x0 x1 x2 1 128 128 1152 rfl rfl inb_S1x2048x512_S1x128x128_0_128_128 _
    (lgAll k0_pay4 (ld0 x0 128 128 inb_S1x2048x1536_S1x128x128_0_128_128) (ld0 x0 0 640 inb_S1x2048x1536_S1x128x128_0_0_640) (ld0 x0 128 640 inb_S1x2048x1536_S1x128x128_0_128_640) (ld2 x2 2 inb_S8x128x256_S1x128x256_2_0_0))
    (lgAll k0_pay5 (ld0 x0 128 128 inb_S1x2048x1536_S1x128x128_0_128_128) (ld0 x0 0 640 inb_S1x2048x1536_S1x128x128_0_0_640) (ld0 x0 128 640 inb_S1x2048x1536_S1x128x128_0_128_640) (ld2 x2 3 inb_S8x128x256_S1x128x256_3_0_0))
    (ld0 x0 0 1152 inb_S1x2048x1536_S1x128x128_0_0_1152) (ld0 x0 128 1152 inb_S1x2048x1536_S1x128x128_0_128_1152) rfl
    (fun r j => nextLo i x0 x1 x2 1 1 128 0 128 640 2 rfl rfl rfl rfl rfl _ _ _ _ r j)
    (fun r j => nextHi i x0 x1 x2 1 1 128 0 128 640 3 rfl rfl rfl rfl rfl _ _ _ _ r j)
    (fun r j l => catNext x0 x1 1 128 0 1152 rfl rfl _ _ r j l)

theorem o_1_0 : ∀ x, (k0_pay79 (k0_pay963 i x0 x1 x2) (k0_pay966 i x0 x1 x2) (k0_pay981 i x0 x1 x2) (k0_pay982 i x0 x1 x2) (k0_pay69 (View.ld x0 r0_4) (View.ld x0 r0_35)) (k0_pay74 (k0_pay965 i x0 x1 x2) (View.ld x0 r0_33) (View.ld x0 r0_3) (View.ld x0 r0_4) (View.ld x0 r0_34) (View.ld x0 r0_35) (View.ld x2 r0_5)) (View.ld x2 r0_6) : FVec Ideal S1x128x128 .f32) x = GO i x0 x1 x2 (r0_36.emb x) :=
  pieceO i x0 x1 x2 0 128 0 1024 rfl rfl inb_S1x2048x512_S1x128x128_0_128_0 _
    (lgAll k0_pay4 (ld0 x0 128 0 inb_S1x2048x1536_S1x128x128_0_128_0) (ld0 x0 0 512 inb_S1x2048x1536_S1x128x128_0_0_512) (ld0 x0 128 512 inb_S1x2048x1536_S1x128x128_0_128_512) (ld2 x2 0 inb_S8x128x256_S1x128x256_0_0_0))
    (lgAll k0_pay5 (ld0 x0 128 0 inb_S1x2048x1536_S1x128x128_0_128_0) (ld0 x0 0 512 inb_S1x2048x1536_S1x128x128_0_0_512) (ld0 x0 128 512 inb_S1x2048x1536_S1x128x128_0_128_512) (ld2 x2 1 inb_S8x128x256_S1x128x256_1_0_0))
    (ld0 x0 0 1024 inb_S1x2048x1536_S1x128x128_0_0_1024) (ld0 x0 128 1024 inb_S1x2048x1536_S1x128x128_0_128_1024) rfl
    (fun r j => nextLo i x0 x1 x2 0 1 128 0 0 512 0 rfl rfl rfl rfl rfl _ _ _ _ r j)
    (fun r j => nextHi i x0 x1 x2 0 1 128 0 0 512 1 rfl rfl rfl rfl rfl _ _ _ _ r j)
    (fun r j l => catNext x0 x1 1 128 0 1024 rfl rfl _ _ r j l)

theorem o_0_3 : ∀ x, (k0_pay64 (k0_pay964 i x0 x1 x2) (k0_pay963 i x0 x1 x2) (k0_pay966 i x0 x1 x2) (k0_pay979 i x0 x1 x2) (k0_pay980 i x0 x1 x2) (k0_pay54 (View.ld x1 r0_26) (View.ld x0 r0_28)) (k0_pay59 (k0_pay964 i x0 x1 x2) (k0_pay965 i x0 x1 x2) (View.ld x0 r0_24) (View.ld x1 r0_25) (View.ld x0 r0_27) (View.ld x2 r0_29)) (constant S128x128 .f32 0x00000000#32) (View.ld x2 r0_30) : FVec Ideal S1x128x128 .f32) x = GO i x0 x1 x2 (r0_31.emb x) :=
  pieceO i x0 x1 x2 3 0 384 1408 rfl rfl inb_S1x2048x512_S1x128x128_0_0_384 _
    (lgFirst i k0_pay4 (ld0 x0 0 384 inb_S1x2048x1536_S1x128x128_0_0_384) (ld1 x1 896 inb_S1x128x1536_S1x128x128_0_0_896) (ld0 x0 0 896 inb_S1x2048x1536_S1x128x128_0_0_896) (ld2 x2 6 inb_S8x128x256_S1x128x256_6_0_0))
    (lgFirst i k0_pay5 (ld0 x0 0 384 inb_S1x2048x1536_S1x128x128_0_0_384) (ld1 x1 896 inb_S1x128x1536_S1x128x128_0_0_896) (ld0 x0 0 896 inb_S1x2048x1536_S1x128x128_0_0_896) (ld2 x2 7 inb_S8x128x256_S1x128x256_7_0_0))
    (ld1 x1 1408 inb_S1x128x1536_S1x128x128_0_0_1408) (ld0 x0 0 1408 inb_S1x2048x1536_S1x128x128_0_0_1408) rfl
    (fun r j => (firstLo i x0 x1 x2 3 384 896 6 rfl rfl rfl _ _ _ _ r j).trans (congrArg (lgB i x0 x1 x2 _ · _) (Nat.zero_add _).symm))
    (fun r j => (firstHi i x0 x1 x2 3 384 896 7 rfl rfl rfl _ _ _ _ r j).trans (congrArg (lgB i x0 x1 x2 _ · _) (Nat.zero_add _).symm))
    (fun r j l => (catFirst x0 x1 1408 _ _ r j l).trans (congrArg (keyAt x0 x1 · _ _) (Nat.zero_add _).symm))

theorem o_0_2 : ∀ x, (k0_pay51 (k0_pay963 i x0 x1 x2) (k0_pay44 (k0_pay976 i x0 x1 x2) (k0_pay977 i x0 x1 x2) (k0_pay978 i x0 x1 x2)) (k0_pay48 (k0_pay964 i x0 x1 x2) (k0_pay966 i x0 x1 x2) (k0_pay974 i x0 x1 x2) (k0_pay975 i x0 x1 x2) (k0_pay976 i x0 x1 x2) (View.ld x2 r0_22)) k0_pay50 : FVec Ideal S1x128x128 .f32) x = GO i x0 x1 x2 (r0_23.emb x) :=
  pieceO i x0 x1 x2 2 0 256 1280 rfl rfl inb_S1x2048x512_S1x128x128_0_0_256 _
    (lgFirst i k0_pay4 (ld0 x0 0 256 inb_S1x2048x1536_S1x128x128_0_0_256) (ld1 x1 768 inb_S1x128x1536_S1x128x128_0_0_768) (ld0 x0 0 768 inb_S1x2048x1536_S1x128x128_0_0_768) (ld2 x2 4 inb_S8x128x256_S1x128x256_4_0_0))
    (lgFirst i k0_pay5 (ld0 x0 0 256 inb_S1x2048x1536_S1x128x128_0_0_256) (ld1 x1 768 inb_S1x128x1536_S1x128x128_0_0_768) (ld0 x0 0 768 inb_S1x2048x1536_S1x128x128_0_0_768) (ld2 x2 5 inb_S8x128x256_S1x128x256_5_0_0))
    (ld1 x1 1280 inb_S1x128x1536_S1x128x128_0_0_1280) (ld0 x0 0 1280 inb_S1x2048x1536_S1x128x128_0_0_1280) rfl
    (fun r j => (firstLo i x0 x1 x2 2 256 768 4 rfl rfl rfl _ _ _ _ r j).trans (congrArg (lgB i x0 x1 x2 _ · _) (Nat.zero_add _).symm))
    (fun r j => (firstHi i x0 x1 x2 2 256 768 5 rfl rfl rfl _ _ _ _ r j).trans (congrArg (lgB i x0 x1 x2 _ · _) (Nat.zero_add _).symm))
    (fun r j l => (catFirst x0 x1 1280 _ _ r j l).trans (congrArg (keyAt x0 x1 · _ _) (Nat.zero_add _).symm))

theorem o_0_1 : ∀ x, (k0_pay37 (k0_pay963 i x0 x1 x2) (k0_pay29 (k0_pay964 i x0 x1 x2) (k0_pay972 i x0 x1 x2) (k0_pay973 i x0 x1 x2) (View.ld x2 r0_13)) (k0_pay34 (k0_pay964 i x0 x1 x2) (k0_pay966 i x0 x1 x2) (k0_pay970 i x0 x1 x2) (k0_pay971 i x0 x1 x2) (k0_pay972 i x0 x1 x2) (View.ld x2 r0_14)) : FVec Ideal S1x128x128 .f32) x = GO i x0 x1 x2 (r0_15.emb x) :=
  pieceO i x0 x1 x2 1 0 128 1152 rfl rfl inb_S1x2048x512_S1x128x128_0_0_128 _
    (lgFirst i k0_pay4 (ld0 x0 0 128 inb_S1x2048x1536_S1x128x128_0_0_128) (ld1 x1 640 inb_S1x128x1536_S1x128x128_0_0_640) (ld0 x0 0 640 inb_S1x2048x1536_S1x128x128_0_0_640) (ld2 x2 2 inb_S8x128x256_S1x128x256_2_0_0))
    (lgFirst i k0_pay5 (ld0 x0 0 128 inb_S1x2048x1536_S1x128x128_0_0_128) (ld1 x1 640 inb_S1x128x1536_S1x128x128_0_0_640) (ld0 x0 0 640 inb_S1x2048x1536_S1x128x128_0_0_640) (ld2 x2 3 inb_S8x128x256_S1x128x256_3_0_0))
    (ld1 x1 1152 inb_S1x128x1536_S1x128x128_0_0_1152) (ld0 x0 0 1152 inb_S1x2048x1536_S1x128x128_0_0_1152) rfl
    (fun r j => (firstLo i x0 x1 x2 1 128 640 2 rfl rfl rfl _ _ _ _ r j).trans (congrArg (lgB i x0 x1 x2 _ · _) (Nat.zero_add _).symm))
    (fun r j => (firstHi i x0 x1 x2 1 128 640 3 rfl rfl rfl _ _ _ _ r j).trans (congrArg (lgB i x0 x1 x2 _ · _) (Nat.zero_add _).symm))
    (fun r j l => (catFirst x0 x1 1152 _ _ r j l).trans (congrArg (keyAt x0 x1 · _ _) (Nat.zero_add _).symm))

theorem o_0_0 : ∀ x, (k0_pay21 (k0_pay963 i x0 x1 x2) (k0_pay969 i x0 x1 x2) (k0_pay13 (k0_pay964 i x0 x1 x2) (k0_pay965 i x0 x1 x2) (k0_pay967 i x0 x1 x2) (k0_pay968 i x0 x1 x2) (k0_pay969 i x0 x1 x2) (View.ld x2 r0_5)) (k0_pay19 (k0_pay964 i x0 x1 x2) (k0_pay966 i x0 x1 x2) (k0_pay967 i x0 x1 x2) (k0_pay968 i x0 x1 x2) (View.ld x2 r0_6)) : FVec Ideal S1x128x128 .f32) x = GO i x0 x1 x2 (r0_7.emb x) :=
  pieceO i x0 x1 x2 0 0 0 1024 rfl rfl inb_S1x2048x512_S1x128x128_0_0_0 _
    (lgFirst i k0_pay4 (ld0 x0 0 0 inb_S1x2048x1536_S1x128x128_0_0_0) (ld1 x1 512 inb_S1x128x1536_S1x128x128_0_0_512) (ld0 x0 0 512 inb_S1x2048x1536_S1x128x128_0_0_512) (ld2 x2 0 inb_S8x128x256_S1x128x256_0_0_0))
    (lgFirst i k0_pay5 (ld0 x0 0 0 inb_S1x2048x1536_S1x128x128_0_0_0) (ld1 x1 512 inb_S1x128x1536_S1x128x128_0_0_512) (ld0 x0 0 512 inb_S1x2048x1536_S1x128x128_0_0_512) (ld2 x2 1 inb_S8x128x256_S1x128x256_1_0_0))
    (ld1 x1 1024 inb_S1x128x1536_S1x128x128_0_0_1024) (ld0 x0 0 1024 inb_S1x2048x1536_S1x128x128_0_0_1024) rfl
    (fun r j => (firstLo i x0 x1 x2 0 0 512 0 rfl rfl rfl _ _ _ _ r j).trans (congrArg (lgB i x0 x1 x2 _ · _) (Nat.zero_add _).symm))
    (fun r j => (firstHi i x0 x1 x2 0 0 512 1 rfl rfl rfl _ _ _ _ r j).trans (congrArg (lgB i x0 x1 x2 _ · _) (Nat.zero_add _).symm))
    (fun r j l => (catFirst x0 x1 1024 _ _ r j l).trans (congrArg (keyAt x0 x1 · _ _) (Nat.zero_add _).symm))

end Run

end Cert.DilIdeal.Hand

end
-- ==== Proof.DilTilesL.lean ====
/- The tiles of the second result that the body of `dilated` stores. -/
module

public import proofs.«01_k».proof.Proof.DilRun

@[expose] public section

set_option maxRecDepth 16384

noncomputable section

namespace Cert.DilIdeal.Hand

open Cert.DilIdeal Cert.DilIdeal.Gen
open Idealize.ShloMosaic Idealize.ShloMosaic.TcCoe Idealize.SL.Sem

section Run
variable (i : grid0.Coords) (x0 : Vec Ideal S1x2048x1536 .bf16) (x1 : Vec Ideal S1x128x1536 .bf16) (x2 : Vec Ideal S8x128x256 .f32)

theorem l_15 : ∀ x, (k0_pay2 (k0_pay960 (k0_pay963 i x0 x1 x2) (k0_pay966 i x0 x1 x2) (k0_pay945 (k0_pay963 i x0 x1 x2) (k0_pay940 (k0_pay963 i x0 x1 x2) (k0_pay965 i x0 x1 x2) (k0_pay929 (k0_pay963 i x0 x1 x2) (k0_pay1149 i x0 x1 x2) (k0_pay1150 i x0 x1 x2) (k0_pay924 (k0_pay963 i x0 x1 x2) (k0_pay965 i x0 x1 x2) (k0_pay915 (k0_pay963 i x0 x1 x2) (k0_pay966 i x0 x1 x2) (k0_pay903 (F := Ideal)) (k0_pay1147 i x0 x1 x2) (k0_pay1148 i x0 x1 x2) (k0_pay908 (k0_pay965 i x0 x1 x2) (View.ld x0 r0_271) (View.ld x0 r0_255) (View.ld x0 r0_272) (View.ld x2 r0_5)) (k0_pay910 (k0_pay965 i x0 x1 x2) (View.ld x0 r0_271) (View.ld x0 r0_255) (View.ld x0 r0_272) (View.ld x2 r0_5)) (View.ld x2 r0_6)) (View.ld x0 r0_275) (View.ld x0 r0_259) (View.ld x0 r0_276) (View.ld x2 r0_13)) (k0_pay1151 i x0 x1 x2) (View.ld x2 r0_14)) (k0_pay1152 i x0 x1 x2) (k0_pay1153 i x0 x1 x2) (View.ld x0 r0_280) (View.ld x2 r0_21)) (k0_pay942 (k0_pay966 i x0 x1 x2) (k0_pay1152 i x0 x1 x2) (k0_pay1153 i x0 x1 x2) (View.ld x0 r0_280) (View.ld x2 r0_22)) (k0_pay1155 i x0 x1 x2)) (k0_pay1157 i x0 x1 x2) (k0_pay1158 i x0 x1 x2) (k0_pay1160 i x0 x1 x2) (k0_pay1156 i x0 x1 x2) (View.ld x2 r0_29) (View.ld x2 r0_30)) (k0_pay961 (k0_pay963 i x0 x1 x2) 15#32) (k0_pay962 (k0_pay958 (k0_pay966 i x0 x1 x2) (k0_pay1157 i x0 x1 x2) (k0_pay1158 i x0 x1 x2) (View.ld x2 r0_30))) : FVec Ideal S1x128x128 .f32) x = GS i x0 x1 x2 (r0_287.emb x) :=
  pieceL i x0 x1 x2 1920 inb_S1x2048x128_S1x128x128_0_1920_0 _
    (lgAll k0_pay4 (ld0 x0 1920 0 inb_S1x2048x1536_S1x128x128_0_1920_0) (ld0 x0 1792 512 inb_S1x2048x1536_S1x128x128_0_1792_512) (ld0 x0 1920 512 inb_S1x2048x1536_S1x128x128_0_1920_512) (ld2 x2 0 inb_S8x128x256_S1x128x256_0_0_0))
    (lgAll k0_pay5 (ld0 x0 1920 0 inb_S1x2048x1536_S1x128x128_0_1920_0) (ld0 x0 1792 512 inb_S1x2048x1536_S1x128x128_0_1792_512) (ld0 x0 1920 512 inb_S1x2048x1536_S1x128x128_0_1920_512) (ld2 x2 1 inb_S8x128x256_S1x128x256_1_0_0))
    (lgAll k0_pay4 (ld0 x0 1920 128 inb_S1x2048x1536_S1x128x128_0_1920_128) (ld0 x0 1792 640 inb_S1x2048x1536_S1x128x128_0_1792_640) (ld0 x0 1920 640 inb_S1x2048x1536_S1x128x128_0_1920_640) (ld2 x2 2 inb_S8x128x256_S1x128x256_2_0_0))
    (lgAll k0_pay5 (ld0 x0 1920 128 inb_S1x2048x1536_S1x128x128_0_1920_128) (ld0 x0 1792 640 inb_S1x2048x1536_S1x128x128_0_1792_640) (ld0 x0 1920 640 inb_S1x2048x1536_S1x128x128_0_1920_640) (ld2 x2 3 inb_S8x128x256_S1x128x256_3_0_0))
    (lgAll k0_pay4 (ld0 x0 1920 256 inb_S1x2048x1536_S1x128x128_0_1920_256) (ld0 x0 1792 768 inb_S1x2048x1536_S1x128x128_0_1792_768) (ld0 x0 1920 768 inb_S1x2048x1536_S1x128x128_0_1920_768) (ld2 x2 4 inb_S8x128x256_S1x128x256_4_0_0))
    (lgAll k0_pay5 (ld0 x0 1920 256 inb_S1x2048x1536_S1x128x128_0_1920_256) (ld0 x0 1792 768 inb_S1x2048x1536_S1x128x128_0_1792_768) (ld0 x0 1920 768 inb_S1x2048x1536_S1x128x128_0_1920_768) (ld2 x2 5 inb_S8x128x256_S1x128x256_5_0_0))
    (lgAll k0_pay4 (ld0 x0 1920 384 inb_S1x2048x1536_S1x128x128_0_1920_384) (ld0 x0 1792 896 inb_S1x2048x1536_S1x128x128_0_1792_896) (ld0 x0 1920 896 inb_S1x2048x1536_S1x128x128_0_1920_896) (ld2 x2 6 inb_S8x128x256_S1x128x256_6_0_0))
    (lgAll k0_pay5 (ld0 x0 1920 384 inb_S1x2048x1536_S1x128x128_0_1920_384) (ld0 x0 1792 896 inb_S1x2048x1536_S1x128x128_0_1792_896) (ld0 x0 1920 896 inb_S1x2048x1536_S1x128x128_0_1920_896) (ld2 x2 7 inb_S8x128x256_S1x128x256_7_0_0))
    rfl
    (fun r j => nextLo i x0 x1 x2 0 15 1920 1792 0 512 0 rfl rfl rfl rfl rfl _ _ _ _ r j)
    (fun r j => nextHi i x0 x1 x2 0 15 1920 1792 0 512 1 rfl rfl rfl rfl rfl _ _ _ _ r j)
    (fun r j => nextLo i x0 x1 x2 1 15 1920 1792 128 640 2 rfl rfl rfl rfl rfl _ _ _ _ r j)
    (fun r j => nextHi i x0 x1 x2 1 15 1920 1792 128 640 3 rfl rfl rfl rfl rfl _ _ _ _ r j)
    (fun r j => nextLo i x0 x1 x2 2 15 1920 1792 256 768 4 rfl rfl rfl rfl rfl _ _ _ _ r j)
    (fun r j => nextHi i x0 x1 x2 2 15 1920 1792 256 768 5 rfl rfl rfl rfl rfl _ _ _ _ r j)
    (fun r j => nextLo i x0 x1 x2 3 15 1920 1792 384 896 6 rfl rfl rfl rfl rfl _ _ _ _ r j)
    (fun r j => nextHi i x0 x1 x2 3 15 1920 1792 384 896 7 rfl rfl rfl rfl rfl _ _ _ _ r j)

theorem l_14 : ∀ x, (k0_pay902 (k0_pay899 (k0_pay963 i x0 x1 x2) (k0_pay966 i x0 x1 x2) (k0_pay888 (k0_pay963 i x0 x1 x2) (k0_pay885 (k0_pay966 i x0 x1 x2) (k0_pay1140 i x0 x1 x2) (k0_pay1141 i x0 x1 x2) (View.ld x2 r0_22)) (k0_pay887 (k0_pay963 i x0 x1 x2) (k0_pay966 i x0 x1 x2) (k0_pay872 (k0_pay963 i x0 x1 x2) (k0_pay867 (k0_pay963 i x0 x1 x2) (k0_pay965 i x0 x1 x2) (k0_pay856 (k0_pay963 i x0 x1 x2) (k0_pay966 i x0 x1 x2) (k0_pay1133 i x0 x1 x2) (k0_pay1134 i x0 x1 x2) (k0_pay852 (k0_pay963 i x0 x1 x2) (k0_pay965 i x0 x1 x2) (k0_pay844 (F := Ideal)) (View.ld x0 r0_254) (View.ld x0 r0_238) (View.ld x0 r0_255) (View.ld x2 r0_5)) (View.ld x2 r0_6)) (k0_pay1135 i x0 x1 x2) (k0_pay1136 i x0 x1 x2) (View.ld x0 r0_259) (View.ld x2 r0_13)) (k0_pay1138 i x0 x1 x2) (k0_pay869 (k0_pay966 i x0 x1 x2) (k0_pay1135 i x0 x1 x2) (k0_pay1136 i x0 x1 x2) (View.ld x0 r0_259) (View.ld x2 r0_14)) (k0_pay1139 i x0 x1 x2)) (k0_pay1140 i x0 x1 x2) (k0_pay1141 i x0 x1 x2) (k0_pay1143 i x0 x1 x2) (View.ld x2 r0_21) (View.ld x2 r0_22))) (k0_pay1144 i x0 x1 x2) (k0_pay1145 i x0 x1 x2) (k0_pay894 (k0_pay965 i x0 x1 x2) (View.ld x0 r0_266) (View.ld x0 r0_250) (View.ld x0 r0_267) (View.ld x2 r0_29)) (k0_pay1146 i x0 x1 x2) (View.ld x2 r0_30)) : FVec Ideal S1x128x128 .f32) x = GS i x0 x1 x2 (r0_270.emb x) :=
  pieceL i x0 x1 x2 1792 inb_S1x2048x128_S1x128x128_0_1792_0 _
    (lgAll k0_pay4 (ld0 x0 1792 0 inb_S1x2048x1536_S1x128x128_0_1792_0) (ld0 x0 1664 512 inb_S1x2048x1536_S1x128x128_0_1664_512) (ld0 x0 1792 512 inb_S1x2048x1536_S1x128x128_0_1792_512) (ld2 x2 0 inb_S8x128x256_S1x128x256_0_0_0))
    (lgAll k0_pay5 (ld0 x0 1792 0 inb_S1x2048x1536_S1x128x128_0_1792_0) (ld0 x0 1664 512 inb_S1x2048x1536_S1x128x128_0_1664_512) (ld0 x0 1792 512 inb_S1x2048x1536_S1x128x128_0_1792_512) (ld2 x2 1 inb_S8x128x256_S1x128x256_1_0_0))
    (lgAll k0_pay4 (ld0 x0 1792 128 inb_S1x2048x1536_S1x128x128_0_1792_128) (ld0 x0 1664 640 inb_S1x2048x1536_S1x128x128_0_1664_640) (ld0 x0 1792 640 inb_S1x2048x1536_S1x128x128_0_1792_640) (ld2 x2 2 inb_S8x128x256_S1x128x256_2_0_0))
    (lgAll k0_pay5 (ld0 x0 1792 128 inb_S1x2048x1536_S1x128x128_0_1792_128) (ld0 x0 1664 640 inb_S1x2048x1536_S1x128x128_0_1664_640) (ld0 x0 1792 640 inb_S1x2048x1536_S1x128x128_0_1792_640) (ld2 x2 3 inb_S8x128x256_S1x128x256_3_0_0))
    (lgAll k0_pay4 (ld0 x0 1792 256 inb_S1x2048x1536_S1x128x128_0_1792_256) (ld0 x0 1664 768 inb_S1x2048x1536_S1x128x128_0_1664_768) (ld0 x0 1792 768 inb_S1x2048x1536_S1x128x128_0_1792_768) (ld2 x2 4 inb_S8x128x256_S1x128x256_4_0_0))
    (lgAll k0_pay5 (ld0 x0 1792 256 inb_S1x2048x1536_S1x128x128_0_1792_256) (ld0 x0 1664 768 inb_S1x2048x1536_S1x128x128_0_1664_768) (ld0 x0 1792 768 inb_S1x2048x1536_S1x128x128_0_1792_768) (ld2 x2 5 inb_S8x128x256_S1x128x256_5_0_0))
    (lgAll k0_pay4 (ld0 x0 1792 384 inb_S1x2048x1536_S1x128x128_0_1792_384) (ld0 x0 1664 896 inb_S1x2048x1536_S1x128x128_0_1664_896) (ld0 x0 1792 896 inb_S1x2048x1536_S1x128x128_0_1792_896) (ld2 x2 6 inb_S8x128x256_S1x128x256_6_0_0))
    (lgAll k0_pay5 (ld0 x0 1792 384 inb_S1x2048x1536_S1x128x128_0_1792_384) (ld0 x0 1664 896 inb_S1x2048x1536_S1x128x128_0_1664_896) (ld0 x0 1792 896 inb_S1x2048x1536_S1x128x128_0_1792_896) (ld2 x2 7 inb_S8x128x256_S1x128x256_7_0_0))
    rfl
    (fun r j => nextLo i x0 x1 x2 0 14 1792 1664 0 512 0 rfl rfl rfl rfl rfl _ _ _ _ r j)
    (fun r j => nextHi i x0 x1 x2 0 14 1792 1664 0 512 1 rfl rfl rfl rfl rfl _ _ _ _ r j)
    (fun r j => nextLo i x0 x1 x2 1 14 1792 1664 128 640 2 rfl rfl rfl rfl rfl _ _ _ _ r j)
    (fun r j => nextHi i x0 x1 x2 1 14 1792 1664 128 640 3 rfl rfl rfl rfl rfl _ _ _ _ r j)
    (fun r j => nextLo i x0 x1 x2 2 14 1792 1664 256 768 4 rfl rfl rfl rfl rfl _ _ _ _ r j)
    (fun r j => nextHi i x0 x1 x2 2 14 1792 1664 256 768 5 rfl rfl rfl rfl rfl _ _ _ _ r j)
    (fun r j => nextLo i x0 x1 x2 3 14 1792 1664 384 896 6 rfl rfl rfl rfl rfl _ _ _ _ r j)
    (fun r j => nextHi i x0 x1 x2 3 14 1792 1664 384 896 7 rfl rfl rfl rfl rfl _ _ _ _ r j)

theorem l_13 : ∀ x, (k0_pay843 (k0_pay963 i x0 x1 x2) (k0_pay966 i x0 x1 x2) (k0_pay1131 i x0 x1 x2) (k0_pay1132 i x0 x1 x2) (k0_pay836 (k0_pay965 i x0 x1 x2) (View.ld x0 r0_249) (View.ld x0 r0_233) (View.ld x0 r0_250) (View.ld x2 r0_29)) (k0_pay838 (k0_pay963 i x0 x1 x2) (k0_pay965 i x0 x1 x2) (k0_pay827 (k0_pay963 i x0 x1 x2) (k0_pay966 i x0 x1 x2) (k0_pay815 (k0_pay963 i x0 x1 x2) (k0_pay807 (k0_pay963 i x0 x1 x2) (k0_pay797 (k0_pay963 i x0 x1 x2) (k0_pay793 (k0_pay963 i x0 x1 x2) (k0_pay965 i x0 x1 x2) (k0_pay784 (F := Ideal)) (k0_pay1120 i x0 x1 x2) (k0_pay1121 i x0 x1 x2) (View.ld x0 r0_238) (View.ld x2 r0_5)) (k0_pay1122 i x0 x1 x2) (k0_pay1123 i x0 x1 x2)) (k0_pay1124 i x0 x1 x2) (k0_pay1125 i x0 x1 x2) (k0_pay1127 i x0 x1 x2) (View.ld x2 r0_13)) (k0_pay811 (k0_pay966 i x0 x1 x2) (k0_pay1124 i x0 x1 x2) (k0_pay1125 i x0 x1 x2) (View.ld x2 r0_14)) (k0_pay813 (k0_pay963 i x0 x1 x2)) (k0_pay814 (k0_pay966 i x0 x1 x2) (k0_pay1124 i x0 x1 x2) (k0_pay1125 i x0 x1 x2) (View.ld x2 r0_14))) (k0_pay1128 i x0 x1 x2) (k0_pay1129 i x0 x1 x2) (k0_pay821 (k0_pay965 i x0 x1 x2) (View.ld x0 r0_245) (View.ld x0 r0_229) (View.ld x0 r0_246) (View.ld x2 r0_21)) (k0_pay1130 i x0 x1 x2) (View.ld x2 r0_22)) (View.ld x0 r0_249) (View.ld x0 r0_233) (View.ld x0 r0_250) (View.ld x2 r0_29)) 14#32 (View.ld x2 r0_30) : FVec Ideal S1x128x128 .f32) x = GS i x0 x1 x2 (r0_253.emb x) :=
  pieceL i x0 x1 x2 1664 inb_S1x2048x128_S1x128x128_0_1664_0 _
    (lgAll k0_pay4 (ld0 x0 1664 0 inb_S1x2048x1536_S1x128x128_0_1664_0) (ld0 x0 1536 512 inb_S1x2048x1536_S1x128x128_0_1536_512) (ld0 x0 1664 512 inb_S1x2048x1536_S1x128x128_0_1664_512) (ld2 x2 0 inb_S8x128x256_S1x128x256_0_0_0))
    (lgAll k0_pay5 (ld0 x0 1664 0 inb_S1x2048x1536_S1x128x128_0_1664_0) (ld0 x0 1536 512 inb_S1x2048x1536_S1x128x128_0_1536_512) (ld0 x0 1664 512 inb_S1x2048x1536_S1x128x128_0_1664_512) (ld2 x2 1 inb_S8x128x256_S1x128x256_1_0_0))
    (lgAll k0_pay4 (ld0 x0 1664 128 inb_S1x2048x1536_S1x128x128_0_1664_128) (ld0 x0 1536 640 inb_S1x2048x1536_S1x128x128_0_1536_640) (ld0 x0 1664 640 inb_S1x2048x1536_S1x128x128_0_1664_640) (ld2 x2 2 inb_S8x128x256_S1x128x256_2_0_0))
    (lgAll k0_pay5 (ld0 x0 1664 128 inb_S1x2048x1536_S1x128x128_0_1664_128) (ld0 x0 1536 640 inb_S1x2048x1536_S1x128x128_0_1536_640) (ld0 x0 1664 640 inb_S1x2048x1536_S1x128x128_0_1664_640) (ld2 x2 3 inb_S8x128x256_S1x128x256_3_0_0))
    (lgAll k0_pay4 (ld0 x0 1664 256 inb_S1x2048x1536_S1x128x128_0_1664_256) (ld0 x0 1536 768 inb_S1x2048x1536_S1x128x128_0_1536_768) (ld0 x0 1664 768 inb_S1x2048x1536_S1x128x128_0_1664_768) (ld2 x2 4 inb_S8x128x256_S1x128x256_4_0_0))
    (lgAll k0_pay5 (ld0 x0 1664 256 inb_S1x2048x1536_S1x128x128_0_1664_256) (ld0 x0 1536 768 inb_S1x2048x1536_S1x128x128_0_1536_768) (ld0 x0 1664 768 inb_S1x2048x1536_S1x128x128_0_1664_768) (ld2 x2 5 inb_S8x128x256_S1x128x256_5_0_0))
    (lgAll k0_pay4 (ld0 x0 1664 384 inb_S1x2048x1536_S1x128x128_0_1664_384) (ld0 x0 1536 896 inb_S1x2048x1536_S1x128x128_0_1536_896) (ld0 x0 1664 896 inb_S1x2048x1536_S1x128x128_0_1664_896) (ld2 x2 6 inb_S8x128x256_S1x128x256_6_0_0))
    (lgAll k0_pay5 (ld0 x0 1664 384 inb_S1x2048x1536_S1x128x128_0_1664_384) (ld0 x0 1536 896 inb_S1x2048x1536_S1x128x128_0_1536_896) (ld0 x0 1664 896 inb_S1x2048x1536_S1x128x128_0_1664_896) (ld2 x2 7 inb_S8x128x256_S1x128x256_7_0_0))
    rfl
    (fun r j => nextLo i x0 x1 x2 0 13 1664 1536 0 512 0 rfl rfl rfl rfl rfl _ _ _ _ r j)
    (fun r j => nextHi i x0 x1 x2 0 13 1664 1536 0 512 1 rfl rfl rfl rfl rfl _ _ _ _ r j)
    (fun r j => nextLo i x0 x1 x2 1 13 1664 1536 128 640 2 rfl rfl rfl rfl rfl _ _ _ _ r j)
    (fun r j => nextHi i x0 x1 x2 1 13 1664 1536 128 640 3 rfl rfl rfl rfl rfl _ _ _ _ r j)
    (fun r j => nextLo i x0 x1 x2 2 13 1664 1536 256 768 4 rfl rfl rfl rfl rfl _ _ _ _ r j)
    (fun r j => nextHi i x0 x1 x2 2 13 1664 1536 256 768 5 rfl rfl rfl rfl rfl _ _ _ _ r j)
    (fun r j => nextLo i x0 x1 x2 3 13 1664 1536 384 896 6 rfl rfl rfl rfl rfl _ _ _ _ r j)
    (fun r j => nextHi i x0 x1 x2 3 13 1664 1536 384 896 7 rfl rfl rfl rfl rfl _ _ _ _ r j)

theorem l_12 : ∀ x, (k0_pay783 (k0_pay963 i x0 x1 x2) (k0_pay777 (k0_pay963 i x0 x1 x2) (k0_pay965 i x0 x1 x2) (k0_pay768 (k0_pay963 i x0 x1 x2) (k0_pay966 i x0 x1 x2) (k0_pay1116 i x0 x1 x2) (k0_pay1117 i x0 x1 x2) (k0_pay762 (k0_pay965 i x0 x1 x2) (View.ld x0 r0_228) (View.ld x0 r0_212) (View.ld x0 r0_229) (View.ld x2 r0_21)) (k0_pay764 (k0_pay963 i x0 x1 x2) (k0_pay965 i x0 x1 x2) (k0_pay753 (k0_pay963 i x0 x1 x2) (k0_pay966 i x0 x1 x2) (k0_pay741 (k0_pay963 i x0 x1 x2) (k0_pay733 (k0_pay963 i x0 x1 x2) (k0_pay965 i x0 x1 x2) (k0_pay725 (F := Ideal)) (k0_pay1109 i x0 x1 x2) (k0_pay1110 i x0 x1 x2) (View.ld x2 r0_5)) (k0_pay737 (k0_pay966 i x0 x1 x2) (k0_pay1109 i x0 x1 x2) (k0_pay1110 i x0 x1 x2) (View.ld x2 r0_6)) (k0_pay739 (k0_pay963 i x0 x1 x2)) (k0_pay740 (k0_pay966 i x0 x1 x2) (k0_pay1109 i x0 x1 x2) (k0_pay1110 i x0 x1 x2) (View.ld x2 r0_6))) (k0_pay1112 i x0 x1 x2) (k0_pay1113 i x0 x1 x2) (k0_pay1114 i x0 x1 x2) (k0_pay747 (k0_pay965 i x0 x1 x2) (View.ld x0 r0_224) (View.ld x0 r0_208) (View.ld x0 r0_225) (View.ld x2 r0_13)) (k0_pay1115 i x0 x1 x2) (View.ld x2 r0_14)) (View.ld x0 r0_228) (View.ld x0 r0_212) (View.ld x0 r0_229) (View.ld x2 r0_21)) (View.ld x2 r0_22)) (k0_pay1118 i x0 x1 x2) (View.ld x0 r0_216) (View.ld x0 r0_233) (View.ld x2 r0_29)) (k0_pay1119 i x0 x1 x2) (View.ld x2 r0_30) : FVec Ideal S1x128x128 .f32) x = GS i x0 x1 x2 (r0_236.emb x) :=
  pieceL i x0 x1 x2 1536 inb_S1x2048x128_S1x128x128_0_1536_0 _
    (lgAll k0_pay4 (ld0 x0 1536 0 inb_S1x2048x1536_S1x128x128_0_1536_0) (ld0 x0 1408 512 inb_S1x2048x1536_S1x128x128_0_1408_512) (ld0 x0 1536 512 inb_S1x2048x1536_S1x128x128_0_1536_512) (ld2 x2 0 inb_S8x128x256_S1x128x256_0_0_0))
    (lgAll k0_pay5 (ld0 x0 1536 0 inb_S1x2048x1536_S1x128x128_0_1536_0) (ld0 x0 1408 512 inb_S1x2048x1536_S1x128x128_0_1408_512) (ld0 x0 1536 512 inb_S1x2048x1536_S1x128x128_0_1536_512) (ld2 x2 1 inb_S8x128x256_S1x128x256_1_0_0))
    (lgAll k0_pay4 (ld0 x0 1536 128 inb_S1x2048x1536_S1x128x128_0_1536_128) (ld0 x0 1408 640 inb_S1x2048x1536_S1x128x128_0_1408_640) (ld0 x0 1536 640 inb_S1x2048x1536_S1x128x128_0_1536_640) (ld2 x2 2 inb_S8x128x256_S1x128x256_2_0_0))
    (lgAll k0_pay5 (ld0 x0 1536 128 inb_S1x2048x1536_S1x128x128_0_1536_128) (ld0 x0 1408 640 inb_S1x2048x1536_S1x128x128_0_1408_640) (ld0 x0 1536 640 inb_S1x2048x1536_S1x128x128_0_1536_640) (ld2 x2 3 inb_S8x128x256_S1x128x256_3_0_0))
    (lgAll k0_pay4 (ld0 x0 1536 256 inb_S1x2048x1536_S1x128x128_0_1536_256) (ld0 x0 1408 768 inb_S1x2048x1536_S1x128x128_0_1408_768) (ld0 x0 1536 768 inb_S1x2048x1536_S1x128x128_0_1536_768) (ld2 x2 4 inb_S8x128x256_S1x128x256_4_0_0))
    (lgAll k0_pay5 (ld0 x0 1536 256 inb_S1x2048x1536_S1x128x128_0_1536_256) (ld0 x0 1408 768 inb_S1x2048x1536_S1x128x128_0_1408_768) (ld0 x0 1536 768 inb_S1x2048x1536_S1x128x128_0_1536_768) (ld2 x2 5 inb_S8x128x256_S1x128x256_5_0_0))
    (lgAll k0_pay4 (ld0 x0 1536 384 inb_S1x2048x1536_S1x128x128_0_1536_384) (ld0 x0 1408 896 inb_S1x2048x1536_S1x128x128_0_1408_896) (ld0 x0 1536 896 inb_S1x2048x1536_S1x128x128_0_1536_896) (ld2 x2 6 inb_S8x128x256_S1x128x256_6_0_0))
    (lgAll k0_pay5 (ld0 x0 1536 384 inb_S1x2048x1536_S1x128x128_0_1536_384) (ld0 x0 1408 896 inb_S1x2048x1536_S1x128x128_0_1408_896) (ld0 x0 1536 896 inb_S1x2048x1536_S1x128x128_0_1536_896) (ld2 x2 7 inb_S8x128x256_S1x128x256_7_0_0))
    rfl
    (fun r j => nextLo i x0 x1 x2 0 12 1536 1408 0 512 0 rfl rfl rfl rfl rfl _ _ _ _ r j)
    (fun r j => nextHi i x0 x1 x2 0 12 1536 1408 0 512 1 rfl rfl rfl rfl rfl _ _ _ _ r j)
    (fun r j => nextLo i x0 x1 x2 1 12 1536 1408 128 640 2 rfl rfl rfl rfl rfl _ _ _ _ r j)
    (fun r j => nextHi i x0 x1 x2 1 12 1536 1408 128 640 3 rfl rfl rfl rfl rfl _ _ _ _ r j)
    (fun r j => nextLo i x0 x1 x2 2 12 1536 1408 256 768 4 rfl rfl rfl rfl rfl _ _ _ _ r j)
    (fun r j => nextHi i x0 x1 x2 2 12 1536 1408 256 768 5 rfl rfl rfl rfl rfl _ _ _ _ r j)
    (fun r j => nextLo i x0 x1 x2 3 12 1536 1408 384 896 6 rfl rfl rfl rfl rfl _ _ _ _ r j)
    (fun r j => nextHi i x0 x1 x2 3 12 1536 1408 384 896 7 rfl rfl rfl rfl rfl _ _ _ _ r j)

theorem l_11 : ∀ x, (k0_pay724 (k0_pay963 i x0 x1 x2) (k0_pay717 (k0_pay963 i x0 x1 x2) (k0_pay965 i x0 x1 x2) (k0_pay707 (k0_pay963 i x0 x1 x2) (k0_pay702 (k0_pay963 i x0 x1 x2) (k0_pay965 i x0 x1 x2) (k0_pay693 (k0_pay963 i x0 x1 x2) (k0_pay966 i x0 x1 x2) (k0_pay677 (k0_pay963 i x0 x1 x2) (k0_pay966 i x0 x1 x2) (k0_pay667 (F := Ideal)) (k0_pay1098 i x0 x1 x2) (k0_pay1099 i x0 x1 x2) (k0_pay1100 i x0 x1 x2) (k0_pay1101 i x0 x1 x2) (View.ld x2 r0_6)) (k0_pay1102 i x0 x1 x2) (k0_pay1103 i x0 x1 x2) (k0_pay686 (k0_pay965 i x0 x1 x2) (View.ld x0 r0_207) (View.ld x0 r0_191) (View.ld x0 r0_208) (View.ld x2 r0_13)) (k0_pay688 (k0_pay963 i x0 x1 x2)) (k0_pay689 (k0_pay965 i x0 x1 x2) (View.ld x0 r0_207) (View.ld x0 r0_191) (View.ld x0 r0_208) (View.ld x2 r0_13)) (View.ld x2 r0_14)) (k0_pay1104 i x0 x1 x2) (View.ld x0 r0_195) (View.ld x0 r0_212) (View.ld x2 r0_21)) (k0_pay1105 i x0 x1 x2) (View.ld x2 r0_22)) (k0_pay1106 i x0 x1 x2) (k0_pay1108 i x0 x1 x2) (View.ld x2 r0_29)) (k0_pay719 (k0_pay966 i x0 x1 x2) (k0_pay1106 i x0 x1 x2) (k0_pay1108 i x0 x1 x2) (View.ld x2 r0_30)) (k0_pay721 (k0_pay966 i x0 x1 x2) (k0_pay1106 i x0 x1 x2) (k0_pay1108 i x0 x1 x2) (View.ld x2 r0_30)) : FVec Ideal S1x128x128 .f32) x = GS i x0 x1 x2 (r0_219.emb x) :=
  pieceL i x0 x1 x2 1408 inb_S1x2048x128_S1x128x128_0_1408_0 _
    (lgAll k0_pay4 (ld0 x0 1408 0 inb_S1x2048x1536_S1x128x128_0_1408_0) (ld0 x0 1280 512 inb_S1x2048x1536_S1x128x128_0_1280_512) (ld0 x0 1408 512 inb_S1x2048x1536_S1x128x128_0_1408_512) (ld2 x2 0 inb_S8x128x256_S1x128x256_0_0_0))
    (lgAll k0_pay5 (ld0 x0 1408 0 inb_S1x2048x1536_S1x128x128_0_1408_0) (ld0 x0 1280 512 inb_S1x2048x1536_S1x128x128_0_1280_512) (ld0 x0 1408 512 inb_S1x2048x1536_S1x128x128_0_1408_512) (ld2 x2 1 inb_S8x128x256_S1x128x256_1_0_0))
    (lgAll k0_pay4 (ld0 x0 1408 128 inb_S1x2048x1536_S1x128x128_0_1408_128) (ld0 x0 1280 640 inb_S1x2048x1536_S1x128x128_0_1280_640) (ld0 x0 1408 640 inb_S1x2048x1536_S1x128x128_0_1408_640) (ld2 x2 2 inb_S8x128x256_S1x128x256_2_0_0))
    (lgAll k0_pay5 (ld0 x0 1408 128 inb_S1x2048x1536_S1x128x128_0_1408_128) (ld0 x0 1280 640 inb_S1x2048x1536_S1x128x128_0_1280_640) (ld0 x0 1408 640 inb_S1x2048x1536_S1x128x128_0_1408_640) (ld2 x2 3 inb_S8x128x256_S1x128x256_3_0_0))
    (lgAll k0_pay4 (ld0 x0 1408 256 inb_S1x2048x1536_S1x128x128_0_1408_256) (ld0 x0 1280 768 inb_S1x2048x1536_S1x128x128_0_1280_768) (ld0 x0 1408 768 inb_S1x2048x1536_S1x128x128_0_1408_768) (ld2 x2 4 inb_S8x128x256_S1x128x256_4_0_0))
    (lgAll k0_pay5 (ld0 x0 1408 256 inb_S1x2048x1536_S1x128x128_0_1408_256) (ld0 x0 1280 768 inb_S1x2048x1536_S1x128x128_0_1280_768) (ld0 x0 1408 768 inb_S1x2048x1536_S1x128x128_0_1408_768) (ld2 x2 5 inb_S8x128x256_S1x128x256_5_0_0))
    (lgAll k0_pay4 (ld0 x0 1408 384 inb_S1x2048x1536_S1x128x128_0_1408_384) (ld0 x0 1280 896 inb_S1x2048x1536_S1x128x128_0_1280_896) (ld0 x0 1408 896 inb_S1x2048x1536_S1x128x128_0_1408_896) (ld2 x2 6 inb_S8x128x256_S1x128x256_6_0_0))
    (lgAll k0_pay5 (ld0 x0 1408 384 inb_S1x2048x1536_S1x128x128_0_1408_384) (ld0 x0 1280 896 inb_S1x2048x1536_S1x128x128_0_1280_896) (ld0 x0 1408 896 inb_S1x2048x1536_S1x128x128_0_1408_896) (ld2 x2 7 inb_S8x128x256_S1x128x256_7_0_0))
    rfl
    (fun r j => nextLo i x0 x1 x2 0 11 1408 1280 0 512 0 rfl rfl rfl rfl rfl _ _ _ _ r j)
    (fun r j => nextHi i x0 x1 x2 0 11 1408 1280 0 512 1 rfl rfl rfl rfl rfl _ _ _ _ r j)
    (fun r j => nextLo i x0 x1 x2 1 11 1408 1280 128 640 2 rfl rfl rfl rfl rfl _ _ _ _ r j)
    (fun r j => nextHi i x0 x1 x2 1 11 1408 1280 128 640 3 rfl rfl rfl rfl rfl _ _ _ _ r j)
    (fun r j => nextLo i x0 x1 x2 2 11 1408 1280 256 768 4 rfl rfl rfl rfl rfl _ _ _ _ r j)
    (fun r j => nextHi i x0 x1 x2 2 11 1408 1280 256 768 5 rfl rfl rfl rfl rfl _ _ _ _ r j)
    (fun r j => nextLo i x0 x1 x2 3 11 1408 1280 384 896 6 rfl rfl rfl rfl rfl _ _ _ _ r j)
    (fun r j => nextHi i x0 x1 x2 3 11 1408 1280 384 896 7 rfl rfl rfl rfl rfl _ _ _ _ r j)

theorem l_10 : ∀ x, (k0_pay666 (k0_pay664 (k0_pay963 i x0 x1 x2) (k0_pay966 i x0 x1 x2) (k0_pay650 (k0_pay963 i x0 x1 x2) (k0_pay644 (k0_pay963 i x0 x1 x2) (k0_pay965 i x0 x1 x2) (k0_pay634 (k0_pay963 i x0 x1 x2) (k0_pay629 (k0_pay963 i x0 x1 x2) (k0_pay965 i x0 x1 x2) (k0_pay620 (k0_pay963 i x0 x1 x2) (k0_pay966 i x0 x1 x2) (k0_pay606 (F := Ideal)) (k0_pay1087 i x0 x1 x2) (k0_pay1088 i x0 x1 x2) (k0_pay613 (k0_pay965 i x0 x1 x2) (View.ld x0 r0_186) (View.ld x0 r0_170) (View.ld x0 r0_187) (View.ld x2 r0_5)) (k0_pay615 (k0_pay963 i x0 x1 x2)) (k0_pay616 (k0_pay965 i x0 x1 x2) (View.ld x0 r0_186) (View.ld x0 r0_170) (View.ld x0 r0_187) (View.ld x2 r0_5)) (View.ld x2 r0_6)) (k0_pay1089 i x0 x1 x2) (View.ld x0 r0_174) (View.ld x0 r0_191) (View.ld x2 r0_13)) (k0_pay1090 i x0 x1 x2) (View.ld x2 r0_14)) (k0_pay1091 i x0 x1 x2) (k0_pay1093 i x0 x1 x2) (View.ld x2 r0_21)) (k0_pay646 (k0_pay966 i x0 x1 x2) (k0_pay1091 i x0 x1 x2) (k0_pay1093 i x0 x1 x2) (View.ld x2 r0_22)) (k0_pay648 (k0_pay966 i x0 x1 x2) (k0_pay1091 i x0 x1 x2) (k0_pay1093 i x0 x1 x2) (View.ld x2 r0_22))) (k0_pay1094 i x0 x1 x2) (k0_pay1095 i x0 x1 x2) (k0_pay1097 i x0 x1 x2) (View.ld x2 r0_29) (View.ld x2 r0_30)) : FVec Ideal S1x128x128 .f32) x = GS i x0 x1 x2 (r0_202.emb x) :=
  pieceL i x0 x1 x2 1280 inb_S1x2048x128_S1x128x128_0_1280_0 _
    (lgAll k0_pay4 (ld0 x0 1280 0 inb_S1x2048x1536_S1x128x128_0_1280_0) (ld0 x0 1152 512 inb_S1x2048x1536_S1x128x128_0_1152_512) (ld0 x0 1280 512 inb_S1x2048x1536_S1x128x128_0_1280_512) (ld2 x2 0 inb_S8x128x256_S1x128x256_0_0_0))
    (lgAll k0_pay5 (ld0 x0 1280 0 inb_S1x2048x1536_S1x128x128_0_1280_0) (ld0 x0 1152 512 inb_S1x2048x1536_S1x128x128_0_1152_512) (ld0 x0 1280 512 inb_S1x2048x1536_S1x128x128_0_1280_512) (ld2 x2 1 inb_S8x128x256_S1x128x256_1_0_0))
    (lgAll k0_pay4 (ld0 x0 1280 128 inb_S1x2048x1536_S1x128x128_0_1280_128) (ld0 x0 1152 640 inb_S1x2048x1536_S1x128x128_0_1152_640) (ld0 x0 1280 640 inb_S1x2048x1536_S1x128x128_0_1280_640) (ld2 x2 2 inb_S8x128x256_S1x128x256_2_0_0))
    (lgAll k0_pay5 (ld0 x0 1280 128 inb_S1x2048x1536_S1x128x128_0_1280_128) (ld0 x0 1152 640 inb_S1x2048x1536_S1x128x128_0_1152_640) (ld0 x0 1280 640 inb_S1x2048x1536_S1x128x128_0_1280_640) (ld2 x2 3 inb_S8x128x256_S1x128x256_3_0_0))
    (lgAll k0_pay4 (ld0 x0 1280 256 inb_S1x2048x1536_S1x128x128_0_1280_256) (ld0 x0 1152 768 inb_S1x2048x1536_S1x128x128_0_1152_768) (ld0 x0 1280 768 inb_S1x2048x1536_S1x128x128_0_1280_768) (ld2 x2 4 inb_S8x128x256_S1x128x256_4_0_0))
    (lgAll k0_pay5 (ld0 x0 1280 256 inb_S1x2048x1536_S1x128x128_0_1280_256) (ld0 x0 1152 768 inb_S1x2048x1536_S1x128x128_0_1152_768) (ld0 x0 1280 768 inb_S1x2048x1536_S1x128x128_0_1280_768) (ld2 x2 5 inb_S8x128x256_S1x128x256_5_0_0))
    (lgAll k0_pay4 (ld0 x0 1280 384 inb_S1x2048x1536_S1x128x128_0_1280_384) (ld0 x0 1152 896 inb_S1x2048x1536_S1x128x128_0_1152_896) (ld0 x0 1280 896 inb_S1x2048x1536_S1x128x128_0_1280_896) (ld2 x2 6 inb_S8x128x256_S1x128x256_6_0_0))
    (lgAll k0_pay5 (ld0 x0 1280 384 inb_S1x2048x1536_S1x128x128_0_1280_384) (ld0 x0 1152 896 inb_S1x2048x1536_S1x128x128_0_1152_896) (ld0 x0 1280 896 inb_S1x2048x1536_S1x128x128_0_1280_896) (ld2 x2 7 inb_S8x128x256_S1x128x256_7_0_0))
    rfl
    (fun r j => nextLo i x0 x1 x2 0 10 1280 1152 0 512 0 rfl rfl rfl rfl rfl _ _ _ _ r j)
    (fun r j => nextHi i x0 x1 x2 0 10 1280 1152 0 512 1 rfl rfl rfl rfl rfl _ _ _ _ r j)
    (fun r j => nextLo i x0 x1 x2 1 10 1280 1152 128 640 2 rfl rfl rfl rfl rfl _ _ _ _ r j)
    (fun r j => nextHi i x0 x1 x2 1 10 1280 1152 128 640 3 rfl rfl rfl rfl rfl _ _ _ _ r j)
    (fun r j => nextLo i x0 x1 x2 2 10 1280 1152 256 768 4 rfl rfl rfl rfl rfl _ _ _ _ r j)
    (fun r j => nextHi i x0 x1 x2 2 10 1280 1152 256 768 5 rfl rfl rfl rfl rfl _ _ _ _ r j)
    (fun r j => nextLo i x0 x1 x2 3 10 1280 1152 384 896 6 rfl rfl rfl rfl rfl _ _ _ _ r j)
    (fun r j => nextHi i x0 x1 x2 3 10 1280 1152 384 896 7 rfl rfl rfl rfl rfl _ _ _ _ r j)

theorem l_9 : ∀ x, (k0_pay605 (k0_pay603 (k0_pay963 i x0 x1 x2) (k0_pay966 i x0 x1 x2) (k0_pay590 (k0_pay587 (k0_pay963 i x0 x1 x2) (k0_pay966 i x0 x1 x2) (k0_pay573 (k0_pay963 i x0 x1 x2) (k0_pay568 (k0_pay963 i x0 x1 x2) (k0_pay965 i x0 x1 x2) (k0_pay556 (k0_pay963 i x0 x1 x2) (k0_pay551 (k0_pay963 i x0 x1 x2) (k0_pay965 i x0 x1 x2) (k0_pay543 (F := Ideal)) (k0_pay1075 i x0 x1 x2) (View.ld x0 r0_153) (View.ld x0 r0_170) (View.ld x2 r0_5)) (k0_pay1076 i x0 x1 x2) (View.ld x2 r0_6)) (k0_pay1077 i x0 x1 x2) (k0_pay1078 i x0 x1 x2) (k0_pay1080 i x0 x1 x2) (View.ld x2 r0_13)) (k0_pay570 (k0_pay966 i x0 x1 x2) (k0_pay1077 i x0 x1 x2) (k0_pay1078 i x0 x1 x2) (k0_pay1080 i x0 x1 x2) (View.ld x2 r0_14)) (k0_pay572 (k0_pay966 i x0 x1 x2) (k0_pay1077 i x0 x1 x2) (k0_pay1078 i x0 x1 x2) (k0_pay1080 i x0 x1 x2) (View.ld x2 r0_14))) (k0_pay1081 i x0 x1 x2) (k0_pay1082 i x0 x1 x2) (k0_pay1084 i x0 x1 x2) (View.ld x2 r0_21) (View.ld x2 r0_22)) (k0_pay588 (k0_pay963 i x0 x1 x2)) (k0_pay589 (k0_pay966 i x0 x1 x2) (k0_pay1081 i x0 x1 x2) (k0_pay1082 i x0 x1 x2) (View.ld x2 r0_22))) (k0_pay1085 i x0 x1 x2) (k0_pay1086 i x0 x1 x2) (k0_pay596 (k0_pay965 i x0 x1 x2) (View.ld x0 r0_181) (View.ld x0 r0_165) (View.ld x0 r0_182) (View.ld x2 r0_29)) (k0_pay598 (k0_pay965 i x0 x1 x2) (View.ld x0 r0_181) (View.ld x0 r0_165) (View.ld x0 r0_182) (View.ld x2 r0_29)) (View.ld x2 r0_30)) : FVec Ideal S1x128x128 .f32) x = GS i x0 x1 x2 (r0_185.emb x) :=
  pieceL i x0 x1 x2 1152 inb_S1x2048x128_S1x128x128_0_1152_0 _
    (lgAll k0_pay4 (ld0 x0 1152 0 inb_S1x2048x1536_S1x128x128_0_1152_0) (ld0 x0 1024 512 inb_S1x2048x1536_S1x128x128_0_1024_512) (ld0 x0 1152 512 inb_S1x2048x1536_S1x128x128_0_1152_512) (ld2 x2 0 inb_S8x128x256_S1x128x256_0_0_0))
    (lgAll k0_pay5 (ld0 x0 1152 0 inb_S1x2048x1536_S1x128x128_0_1152_0) (ld0 x0 1024 512 inb_S1x2048x1536_S1x128x128_0_1024_512) (ld0 x0 1152 512 inb_S1x2048x1536_S1x128x128_0_1152_512) (ld2 x2 1 inb_S8x128x256_S1x128x256_1_0_0))
    (lgAll k0_pay4 (ld0 x0 1152 128 inb_S1x2048x1536_S1x128x128_0_1152_128) (ld0 x0 1024 640 inb_S1x2048x1536_S1x128x128_0_1024_640) (ld0 x0 1152 640 inb_S1x2048x1536_S1x128x128_0_1152_640) (ld2 x2 2 inb_S8x128x256_S1x128x256_2_0_0))
    (lgAll k0_pay5 (ld0 x0 1152 128 inb_S1x2048x1536_S1x128x128_0_1152_128) (ld0 x0 1024 640 inb_S1x2048x1536_S1x128x128_0_1024_640) (ld0 x0 1152 640 inb_S1x2048x1536_S1x128x128_0_1152_640) (ld2 x2 3 inb_S8x128x256_S1x128x256_3_0_0))
    (lgAll k0_pay4 (ld0 x0 1152 256 inb_S1x2048x1536_S1x128x128_0_1152_256) (ld0 x0 1024 768 inb_S1x2048x1536_S1x128x128_0_1024_768) (ld0 x0 1152 768 inb_S1x2048x1536_S1x128x128_0_1152_768) (ld2 x2 4 inb_S8x128x256_S1x128x256_4_0_0))
    (lgAll k0_pay5 (ld0 x0 1152 256 inb_S1x2048x1536_S1x128x128_0_1152_256) (ld0 x0 1024 768 inb_S1x2048x1536_S1x128x128_0_1024_768) (ld0 x0 1152 768 inb_S1x2048x1536_S1x128x128_0_1152_768) (ld2 x2 5 inb_S8x128x256_S1x128x256_5_0_0))
    (lgAll k0_pay4 (ld0 x0 1152 384 inb_S1x2048x1536_S1x128x128_0_1152_384) (ld0 x0 1024 896 inb_S1x2048x1536_S1x128x128_0_1024_896) (ld0 x0 1152 896 inb_S1x2048x1536_S1x128x128_0_1152_896) (ld2 x2 6 inb_S8x128x256_S1x128x256_6_0_0))
    (lgAll k0_pay5 (ld0 x0 1152 384 inb_S1x2048x1536_S1x128x128_0_1152_384) (ld0 x0 1024 896 inb_S1x2048x1536_S1x128x128_0_1024_896) (ld0 x0 1152 896 inb_S1x2048x1536_S1x128x128_0_1152_896) (ld2 x2 7 inb_S8x128x256_S1x128x256_7_0_0))
    rfl
    (fun r j => nextLo i x0 x1 x2 0 9 1152 1024 0 512 0 rfl rfl rfl rfl rfl _ _ _ _ r j)
    (fun r j => nextHi i x0 x1 x2 0 9 1152 1024 0 512 1 rfl rfl rfl rfl rfl _ _ _ _ r j)
    (fun r j => nextLo i x0 x1 x2 1 9 1152 1024 128 640 2 rfl rfl rfl rfl rfl _ _ _ _ r j)
    (fun r j => nextHi i x0 x1 x2 1 9 1152 1024 128 640 3 rfl rfl rfl rfl rfl _ _ _ _ r j)
    (fun r j => nextLo i x0 x1 x2 2 9 1152 1024 256 768 4 rfl rfl rfl rfl rfl _ _ _ _ r j)
    (fun r j => nextHi i x0 x1 x2 2 9 1152 1024 256 768 5 rfl rfl rfl rfl rfl _ _ _ _ r j)
    (fun r j => nextLo i x0 x1 x2 3 9 1152 1024 384 896 6 rfl rfl rfl rfl rfl _ _ _ _ r j)
    (fun r j => nextHi i x0 x1 x2 3 9 1152 1024 384 896 7 rfl rfl rfl rfl rfl _ _ _ _ r j)

theorem l_8 : ∀ x, (k0_pay542 (k0_pay963 i x0 x1 x2) (k0_pay966 i x0 x1 x2) (k0_pay1073 i x0 x1 x2) (k0_pay1074 i x0 x1 x2) (k0_pay537 (k0_pay963 i x0 x1 x2) (k0_pay965 i x0 x1 x2) (k0_pay528 (k0_pay963 i x0 x1 x2) (k0_pay966 i x0 x1 x2) (k0_pay515 (k0_pay512 (k0_pay963 i x0 x1 x2) (k0_pay966 i x0 x1 x2) (k0_pay498 (k0_pay963 i x0 x1 x2) (k0_pay493 (k0_pay963 i x0 x1 x2) (k0_pay965 i x0 x1 x2) (k0_pay483 (F := Ideal)) (k0_pay1064 i x0 x1 x2) (k0_pay1065 i x0 x1 x2) (View.ld x0 r0_153) (View.ld x2 r0_5)) (k0_pay495 (k0_pay966 i x0 x1 x2) (k0_pay1064 i x0 x1 x2) (k0_pay1065 i x0 x1 x2) (View.ld x0 r0_153) (View.ld x2 r0_6)) (k0_pay497 (k0_pay966 i x0 x1 x2) (k0_pay1064 i x0 x1 x2) (k0_pay1065 i x0 x1 x2) (View.ld x0 r0_153) (View.ld x2 r0_6))) (k0_pay1067 i x0 x1 x2) (k0_pay1068 i x0 x1 x2) (k0_pay1070 i x0 x1 x2) (View.ld x2 r0_13) (View.ld x2 r0_14)) (k0_pay513 (k0_pay963 i x0 x1 x2)) (k0_pay514 (k0_pay966 i x0 x1 x2) (k0_pay1067 i x0 x1 x2) (k0_pay1068 i x0 x1 x2) (View.ld x2 r0_14))) (k0_pay1071 i x0 x1 x2) (k0_pay1072 i x0 x1 x2) (k0_pay521 (k0_pay965 i x0 x1 x2) (View.ld x0 r0_160) (View.ld x0 r0_144) (View.ld x0 r0_161) (View.ld x2 r0_21)) (k0_pay523 (k0_pay965 i x0 x1 x2) (View.ld x0 r0_160) (View.ld x0 r0_144) (View.ld x0 r0_161) (View.ld x2 r0_21)) (View.ld x2 r0_22)) (View.ld x0 r0_164) (View.ld x0 r0_148) (View.ld x0 r0_165) (View.ld x2 r0_29)) (View.ld x2 r0_30) : FVec Ideal S1x128x128 .f32) x = GS i x0 x1 x2 (r0_168.emb x) :=
  pieceL i x0 x1 x2 1024 inb_S1x2048x128_S1x128x128_0_1024_0 _
    (lgAll k0_pay4 (ld0 x0 1024 0 inb_S1x2048x1536_S1x128x128_0_1024_0) (ld0 x0 896 512 inb_S1x2048x1536_S1x128x128_0_896_512) (ld0 x0 1024 512 inb_S1x2048x1536_S1x128x128_0_1024_512) (ld2 x2 0 inb_S8x128x256_S1x128x256_0_0_0))
    (lgAll k0_pay5 (ld0 x0 1024 0 inb_S1x2048x1536_S1x128x128_0_1024_0) (ld0 x0 896 512 inb_S1x2048x1536_S1x128x128_0_896_512) (ld0 x0 1024 512 inb_S1x2048x1536_S1x128x128_0_1024_512) (ld2 x2 1 inb_S8x128x256_S1x128x256_1_0_0))
    (lgAll k0_pay4 (ld0 x0 1024 128 inb_S1x2048x1536_S1x128x128_0_1024_128) (ld0 x0 896 640 inb_S1x2048x1536_S1x128x128_0_896_640) (ld0 x0 1024 640 inb_S1x2048x1536_S1x128x128_0_1024_640) (ld2 x2 2 inb_S8x128x256_S1x128x256_2_0_0))
    (lgAll k0_pay5 (ld0 x0 1024 128 inb_S1x2048x1536_S1x128x128_0_1024_128) (ld0 x0 896 640 inb_S1x2048x1536_S1x128x128_0_896_640) (ld0 x0 1024 640 inb_S1x2048x1536_S1x128x128_0_1024_640) (ld2 x2 3 inb_S8x128x256_S1x128x256_3_0_0))
    (lgAll k0_pay4 (ld0 x0 1024 256 inb_S1x2048x1536_S1x128x128_0_1024_256) (ld0 x0 896 768 inb_S1x2048x1536_S1x128x128_0_896_768) (ld0 x0 1024 768 inb_S1x2048x1536_S1x128x128_0_1024_768) (ld2 x2 4 inb_S8x128x256_S1x128x256_4_0_0))
    (lgAll k0_pay5 (ld0 x0 1024 256 inb_S1x2048x1536_S1x128x128_0_1024_256) (ld0 x0 896 768 inb_S1x2048x1536_S1x128x128_0_896_768) (ld0 x0 1024 768 inb_S1x2048x1536_S1x128x128_0_1024_768) (ld2 x2 5 inb_S8x128x256_S1x128x256_5_0_0))
    (lgAll k0_pay4 (ld0 x0 1024 384 inb_S1x2048x1536_S1x128x128_0_1024_384) (ld0 x0 896 896 inb_S1x2048x1536_S1x128x128_0_896_896) (ld0 x0 1024 896 inb_S1x2048x1536_S1x128x128_0_1024_896) (ld2 x2 6 inb_S8x128x256_S1x128x256_6_0_0))
    (lgAll k0_pay5 (ld0 x0 1024 384 inb_S1x2048x1536_S1x128x128_0_1024_384) (ld0 x0 896 896 inb_S1x2048x1536_S1x128x128_0_896_896) (ld0 x0 1024 896 inb_S1x2048x1536_S1x128x128_0_1024_896) (ld2 x2 7 inb_S8x128x256_S1x128x256_7_0_0))
    rfl
    (fun r j => nextLo i x0 x1 x2 0 8 1024 896 0 512 0 rfl rfl rfl rfl rfl _ _ _ _ r j)
    (fun r j => nextHi i x0 x1 x2 0 8 1024 896 0 512 1 rfl rfl rfl rfl rfl _ _ _ _ r j)
    (fun r j => nextLo i x0 x1 x2 1 8 1024 896 128 640 2 rfl rfl rfl rfl rfl _ _ _ _ r j)
    (fun r j => nextHi i x0 x1 x2 1 8 1024 896 128 640 3 rfl rfl rfl rfl rfl _ _ _ _ r j)
    (fun r j => nextLo i x0 x1 x2 2 8 1024 896 256 768 4 rfl rfl rfl rfl rfl _ _ _ _ r j)
    (fun r j => nextHi i x0 x1 x2 2 8 1024 896 256 768 5 rfl rfl rfl rfl rfl _ _ _ _ r j)
    (fun r j => nextLo i x0 x1 x2 3 8 1024 896 384 896 6 rfl rfl rfl rfl rfl _ _ _ _ r j)
    (fun r j => nextHi i x0 x1 x2 3 8 1024 896 384 896 7 rfl rfl rfl rfl rfl _ _ _ _ r j)

theorem l_7 : ∀ x, (k0_pay482 (k0_pay963 i x0 x1 x2) (k0_pay477 (k0_pay963 i x0 x1 x2) (k0_pay965 i x0 x1 x2) (k0_pay467 (k0_pay963 i x0 x1 x2) (k0_pay966 i x0 x1 x2) (k0_pay1058 i x0 x1 x2) (k0_pay1059 i x0 x1 x2) (k0_pay461 (k0_pay963 i x0 x1 x2) (k0_pay965 i x0 x1 x2) (k0_pay452 (k0_pay963 i x0 x1 x2) (k0_pay966 i x0 x1 x2) (k0_pay440 (k0_pay436 (k0_pay966 i x0 x1 x2) (k0_pay1052 i x0 x1 x2) (k0_pay1053 i x0 x1 x2) (View.ld x2 r0_6)) (k0_pay438 (k0_pay963 i x0 x1 x2) (k0_pay966 i x0 x1 x2) (k0_pay424 (F := Ideal)) (k0_pay1052 i x0 x1 x2) (k0_pay1053 i x0 x1 x2) (k0_pay1055 i x0 x1 x2) (View.ld x2 r0_5) (View.ld x2 r0_6)) (k0_pay439 (k0_pay963 i x0 x1 x2))) (k0_pay1056 i x0 x1 x2) (k0_pay1057 i x0 x1 x2) (k0_pay446 (k0_pay965 i x0 x1 x2) (View.ld x0 r0_139) (View.ld x0 r0_123) (View.ld x0 r0_140) (View.ld x2 r0_13)) (k0_pay448 (k0_pay965 i x0 x1 x2) (View.ld x0 r0_139) (View.ld x0 r0_123) (View.ld x0 r0_140) (View.ld x2 r0_13)) (View.ld x2 r0_14)) (View.ld x0 r0_143) (View.ld x0 r0_127) (View.ld x0 r0_144) (View.ld x2 r0_21)) (k0_pay462 (k0_pay963 i x0 x1 x2)) (k0_pay463 (k0_pay965 i x0 x1 x2) (View.ld x0 r0_143) (View.ld x0 r0_127) (View.ld x0 r0_144) (View.ld x2 r0_21)) (View.ld x2 r0_22)) (k0_pay1060 i x0 x1 x2) (k0_pay1061 i x0 x1 x2) (View.ld x0 r0_148) (View.ld x2 r0_29)) (k0_pay1062 i x0 x1 x2) (k0_pay1063 i x0 x1 x2) : FVec Ideal S1x128x128 .f32) x = GS i x0 x1 x2 (r0_151.emb x) :=
  pieceL i x0 x1 x2 896 inb_S1x2048x128_S1x128x128_0_896_0 _
    (lgAll k0_pay4 (ld0 x0 896 0 inb_S1x2048x1536_S1x128x128_0_896_0) (ld0 x0 768 512 inb_S1x2048x1536_S1x128x128_0_768_512) (ld0 x0 896 512 inb_S1x2048x1536_S1x128x128_0_896_512) (ld2 x2 0 inb_S8x128x256_S1x128x256_0_0_0))
    (lgAll k0_pay5 (ld0 x0 896 0 inb_S1x2048x1536_S1x128x128_0_896_0) (ld0 x0 768 512 inb_S1x2048x1536_S1x128x128_0_768_512) (ld0 x0 896 512 inb_S1x2048x1536_S1x128x128_0_896_512) (ld2 x2 1 inb_S8x128x256_S1x128x256_1_0_0))
    (lgAll k0_pay4 (ld0 x0 896 128 inb_S1x2048x1536_S1x128x128_0_896_128) (ld0 x0 768 640 inb_S1x2048x1536_S1x128x128_0_768_640) (ld0 x0 896 640 inb_S1x2048x1536_S1x128x128_0_896_640) (ld2 x2 2 inb_S8x128x256_S1x128x256_2_0_0))
    (lgAll k0_pay5 (ld0 x0 896 128 inb_S1x2048x1536_S1x128x128_0_896_128) (ld0 x0 768 640 inb_S1x2048x1536_S1x128x128_0_768_640) (ld0 x0 896 640 inb_S1x2048x1536_S1x128x128_0_896_640) (ld2 x2 3 inb_S8x128x256_S1x128x256_3_0_0))
    (lgAll k0_pay4 (ld0 x0 896 256 inb_S1x2048x1536_S1x128x128_0_896_256) (ld0 x0 768 768 inb_S1x2048x1536_S1x128x128_0_768_768) (ld0 x0 896 768 inb_S1x2048x1536_S1x128x128_0_896_768) (ld2 x2 4 inb_S8x128x256_S1x128x256_4_0_0))
    (lgAll k0_pay5 (ld0 x0 896 256 inb_S1x2048x1536_S1x128x128_0_896_256) (ld0 x0 768 768 inb_S1x2048x1536_S1x128x128_0_768_768) (ld0 x0 896 768 inb_S1x2048x1536_S1x128x128_0_896_768) (ld2 x2 5 inb_S8x128x256_S1x128x256_5_0_0))
    (lgAll k0_pay4 (ld0 x0 896 384 inb_S1x2048x1536_S1x128x128_0_896_384) (ld0 x0 768 896 inb_S1x2048x1536_S1x128x128_0_768_896) (ld0 x0 896 896 inb_S1x2048x1536_S1x128x128_0_896_896) (ld2 x2 6 inb_S8x128x256_S1x128x256_6_0_0))
    (lgAll k0_pay5 (ld0 x0 896 384 inb_S1x2048x1536_S1x128x128_0_896_384) (ld0 x0 768 896 inb_S1x2048x1536_S1x128x128_0_768_896) (ld0 x0 896 896 inb_S1x2048x1536_S1x128x128_0_896_896) (ld2 x2 7 inb_S8x128x256_S1x128x256_7_0_0))
    rfl
    (fun r j => nextLo i x0 x1 x2 0 7 896 768 0 512 0 rfl rfl rfl rfl rfl _ _ _ _ r j)
    (fun r j => nextHi i x0 x1 x2 0 7 896 768 0 512 1 rfl rfl rfl rfl rfl _ _ _ _ r j)
    (fun r j => nextLo i x0 x1 x2 1 7 896 768 128 640 2 rfl rfl rfl rfl rfl _ _ _ _ r j)
    (fun r j => nextHi i x0 x1 x2 1 7 896 768 128 640 3 rfl rfl rfl rfl rfl _ _ _ _ r j)
    (fun r j => nextLo i x0 x1 x2 2 7 896 768 256 768 4 rfl rfl rfl rfl rfl _ _ _ _ r j)
    (fun r j => nextHi i x0 x1 x2 2 7 896 768 256 768 5 rfl rfl rfl rfl rfl _ _ _ _ r j)
    (fun r j => nextLo i x0 x1 x2 3 7 896 768 384 896 6 rfl rfl rfl rfl rfl _ _ _ _ r j)
    (fun r j => nextHi i x0 x1 x2 3 7 896 768 384 896 7 rfl rfl rfl rfl rfl _ _ _ _ r j)

theorem l_6 : ∀ x, (k0_pay423 (k0_pay963 i x0 x1 x2) (k0_pay414 (k0_pay963 i x0 x1 x2) (k0_pay965 i x0 x1 x2) (k0_pay405 (k0_pay963 i x0 x1 x2) (k0_pay400 (k0_pay963 i x0 x1 x2) (k0_pay965 i x0 x1 x2) (k0_pay390 (k0_pay963 i x0 x1 x2) (k0_pay966 i x0 x1 x2) (k0_pay1043 i x0 x1 x2) (k0_pay1044 i x0 x1 x2) (k0_pay384 (k0_pay963 i x0 x1 x2) (k0_pay965 i x0 x1 x2) (k0_pay375 (k0_pay963 i x0 x1 x2) (k0_pay966 i x0 x1 x2) (k0_pay364 (F := Ideal)) (k0_pay1041 i x0 x1 x2) (k0_pay1042 i x0 x1 x2) (k0_pay369 (k0_pay965 i x0 x1 x2) (View.ld x0 r0_118) (View.ld x0 r0_102) (View.ld x0 r0_119) (View.ld x2 r0_5)) (k0_pay371 (k0_pay965 i x0 x1 x2) (View.ld x0 r0_118) (View.ld x0 r0_102) (View.ld x0 r0_119) (View.ld x2 r0_5)) (View.ld x2 r0_6)) (View.ld x0 r0_122) (View.ld x0 r0_106) (View.ld x0 r0_123) (View.ld x2 r0_13)) (k0_pay385 (k0_pay963 i x0 x1 x2)) (k0_pay386 (k0_pay965 i x0 x1 x2) (View.ld x0 r0_122) (View.ld x0 r0_106) (View.ld x0 r0_123) (View.ld x2 r0_13)) (View.ld x2 r0_14)) (k0_pay1045 i x0 x1 x2) (k0_pay1046 i x0 x1 x2) (View.ld x0 r0_127) (View.ld x2 r0_21)) (k0_pay1047 i x0 x1 x2) (k0_pay1048 i x0 x1 x2)) (k0_pay1049 i x0 x1 x2) (k0_pay1050 i x0 x1 x2) (View.ld x2 r0_29)) (k0_pay418 (k0_pay966 i x0 x1 x2) (k0_pay1049 i x0 x1 x2) (k0_pay1050 i x0 x1 x2) (View.ld x2 r0_30)) (k0_pay420 (k0_pay963 i x0 x1 x2)) (k0_pay421 (k0_pay966 i x0 x1 x2) (k0_pay1049 i x0 x1 x2) (k0_pay1050 i x0 x1 x2) (View.ld x2 r0_30)) : FVec Ideal S1x128x128 .f32) x = GS i x0 x1 x2 (r0_134.emb x) :=
  pieceL i x0 x1 x2 768 inb_S1x2048x128_S1x128x128_0_768_0 _
    (lgAll k0_pay4 (ld0 x0 768 0 inb_S1x2048x1536_S1x128x128_0_768_0) (ld0 x0 640 512 inb_S1x2048x1536_S1x128x128_0_640_512) (ld0 x0 768 512 inb_S1x2048x1536_S1x128x128_0_768_512) (ld2 x2 0 inb_S8x128x256_S1x128x256_0_0_0))
    (lgAll k0_pay5 (ld0 x0 768 0 inb_S1x2048x1536_S1x128x128_0_768_0) (ld0 x0 640 512 inb_S1x2048x1536_S1x128x128_0_640_512) (ld0 x0 768 512 inb_S1x2048x1536_S1x128x128_0_768_512) (ld2 x2 1 inb_S8x128x256_S1x128x256_1_0_0))
    (lgAll k0_pay4 (ld0 x0 768 128 inb_S1x2048x1536_S1x128x128_0_768_128) (ld0 x0 640 640 inb_S1x2048x1536_S1x128x128_0_640_640) (ld0 x0 768 640 inb_S1x2048x1536_S1x128x128_0_768_640) (ld2 x2 2 inb_S8x128x256_S1x128x256_2_0_0))
    (lgAll k0_pay5 (ld0 x0 768 128 inb_S1x2048x1536_S1x128x128_0_768_128) (ld0 x0 640 640 inb_S1x2048x1536_S1x128x128_0_640_640) (ld0 x0 768 640 inb_S1x2048x1536_S1x128x128_0_768_640) (ld2 x2 3 inb_S8x128x256_S1x128x256_3_0_0))
    (lgAll k0_pay4 (ld0 x0 768 256 inb_S1x2048x1536_S1x128x128_0_768_256) (ld0 x0 640 768 inb_S1x2048x1536_S1x128x128_0_640_768) (ld0 x0 768 768 inb_S1x2048x1536_S1x128x128_0_768_768) (ld2 x2 4 inb_S8x128x256_S1x128x256_4_0_0))
    (lgAll k0_pay5 (ld0 x0 768 256 inb_S1x2048x1536_S1x128x128_0_768_256) (ld0 x0 640 768 inb_S1x2048x1536_S1x128x128_0_640_768) (ld0 x0 768 768 inb_S1x2048x1536_S1x128x128_0_768_768) (ld2 x2 5 inb_S8x128x256_S1x128x256_5_0_0))
    (lgAll k0_pay4 (ld0 x0 768 384 inb_S1x2048x1536_S1x128x128_0_768_384) (ld0 x0 640 896 inb_S1x2048x1536_S1x128x128_0_640_896) (ld0 x0 768 896 inb_S1x2048x1536_S1x128x128_0_768_896) (ld2 x2 6 inb_S8x128x256_S1x128x256_6_0_0))
    (lgAll k0_pay5 (ld0 x0 768 384 inb_S1x2048x1536_S1x128x128_0_768_384) (ld0 x0 640 896 inb_S1x2048x1536_S1x128x128_0_640_896) (ld0 x0 768 896 inb_S1x2048x1536_S1x128x128_0_768_896) (ld2 x2 7 inb_S8x128x256_S1x128x256_7_0_0))
    rfl
    (fun r j => nextLo i x0 x1 x2 0 6 768 640 0 512 0 rfl rfl rfl rfl rfl _ _ _ _ r j)
    (fun r j => nextHi i x0 x1 x2 0 6 768 640 0 512 1 rfl rfl rfl rfl rfl _ _ _ _ r j)
    (fun r j => nextLo i x0 x1 x2 1 6 768 640 128 640 2 rfl rfl rfl rfl rfl _ _ _ _ r j)
    (fun r j => nextHi i x0 x1 x2 1 6 768 640 128 640 3 rfl rfl rfl rfl rfl _ _ _ _ r j)
    (fun r j => nextLo i x0 x1 x2 2 6 768 640 256 768 4 rfl rfl rfl rfl rfl _ _ _ _ r j)
    (fun r j => nextHi i x0 x1 x2 2 6 768 640 256 768 5 rfl rfl rfl rfl rfl _ _ _ _ r j)
    (fun r j => nextLo i x0 x1 x2 3 6 768 640 384 896 6 rfl rfl rfl rfl rfl _ _ _ _ r j)
    (fun r j => nextHi i x0 x1 x2 3 6 768 640 384 896 7 rfl rfl rfl rfl rfl _ _ _ _ r j)

theorem l_5 : ∀ x, (k0_pay363 (k0_pay360 (k0_pay963 i x0 x1 x2) (k0_pay966 i x0 x1 x2) (k0_pay349 (k0_pay963 i x0 x1 x2) (k0_pay342 (k0_pay963 i x0 x1 x2) (k0_pay965 i x0 x1 x2) (k0_pay331 (k0_pay963 i x0 x1 x2) (k0_pay327 (k0_pay963 i x0 x1 x2) (k0_pay965 i x0 x1 x2) (k0_pay317 (k0_pay963 i x0 x1 x2) (k0_pay966 i x0 x1 x2) (k0_pay1028 i x0 x1 x2) (k0_pay1029 i x0 x1 x2) (k0_pay310 (k0_pay965 i x0 x1 x2) (View.ld x0 r0_101) (View.ld x0 r0_85) (View.ld x0 r0_102) (View.ld x2 r0_5)) (k0_pay312 (k0_pay963 i x0 x1 x2) (k0_pay965 i x0 x1 x2) (View.ld x0 r0_101) (View.ld x0 r0_85) (View.ld x0 r0_102) (View.ld x2 r0_5)) (k0_pay313 (k0_pay963 i x0 x1 x2)) (View.ld x2 r0_6)) (k0_pay1030 i x0 x1 x2) (k0_pay1031 i x0 x1 x2) (View.ld x0 r0_106) (View.ld x2 r0_13)) (k0_pay1032 i x0 x1 x2)) (k0_pay1033 i x0 x1 x2) (k0_pay1035 i x0 x1 x2) (View.ld x2 r0_21)) (k0_pay344 (k0_pay966 i x0 x1 x2) (k0_pay1033 i x0 x1 x2) (k0_pay1035 i x0 x1 x2) (View.ld x2 r0_22)) (k0_pay346 (k0_pay966 i x0 x1 x2) (k0_pay1033 i x0 x1 x2) (k0_pay1035 i x0 x1 x2) (View.ld x2 r0_22)) (k0_pay348 (k0_pay963 i x0 x1 x2))) (k0_pay1037 i x0 x1 x2) (k0_pay1038 i x0 x1 x2) (k0_pay1039 i x0 x1 x2) (k0_pay1040 i x0 x1 x2) (View.ld x2 r0_30)) : FVec Ideal S1x128x128 .f32) x = GS i x0 x1 x2 (r0_117.emb x) :=
  pieceL i x0 x1 x2 640 inb_S1x2048x128_S1x128x128_0_640_0 _
    (lgAll k0_pay4 (ld0 x0 640 0 inb_S1x2048x1536_S1x128x128_0_640_0) (ld0 x0 512 512 inb_S1x2048x1536_S1x128x128_0_512_512) (ld0 x0 640 512 inb_S1x2048x1536_S1x128x128_0_640_512) (ld2 x2 0 inb_S8x128x256_S1x128x256_0_0_0))
    (lgAll k0_pay5 (ld0 x0 640 0 inb_S1x2048x1536_S1x128x128_0_640_0) (ld0 x0 512 512 inb_S1x2048x1536_S1x128x128_0_512_512) (ld0 x0 640 512 inb_S1x2048x1536_S1x128x128_0_640_512) (ld2 x2 1 inb_S8x128x256_S1x128x256_1_0_0))
    (lgAll k0_pay4 (ld0 x0 640 128 inb_S1x2048x1536_S1x128x128_0_640_128) (ld0 x0 512 640 inb_S1x2048x1536_S1x128x128_0_512_640) (ld0 x0 640 640 inb_S1x2048x1536_S1x128x128_0_640_640) (ld2 x2 2 inb_S8x128x256_S1x128x256_2_0_0))
    (lgAll k0_pay5 (ld0 x0 640 128 inb_S1x2048x1536_S1x128x128_0_640_128) (ld0 x0 512 640 inb_S1x2048x1536_S1x128x128_0_512_640) (ld0 x0 640 640 inb_S1x2048x1536_S1x128x128_0_640_640) (ld2 x2 3 inb_S8x128x256_S1x128x256_3_0_0))
    (lgAll k0_pay4 (ld0 x0 640 256 inb_S1x2048x1536_S1x128x128_0_640_256) (ld0 x0 512 768 inb_S1x2048x1536_S1x128x128_0_512_768) (ld0 x0 640 768 inb_S1x2048x1536_S1x128x128_0_640_768) (ld2 x2 4 inb_S8x128x256_S1x128x256_4_0_0))
    (lgAll k0_pay5 (ld0 x0 640 256 inb_S1x2048x1536_S1x128x128_0_640_256) (ld0 x0 512 768 inb_S1x2048x1536_S1x128x128_0_512_768) (ld0 x0 640 768 inb_S1x2048x1536_S1x128x128_0_640_768) (ld2 x2 5 inb_S8x128x256_S1x128x256_5_0_0))
    (lgAll k0_pay4 (ld0 x0 640 384 inb_S1x2048x1536_S1x128x128_0_640_384) (ld0 x0 512 896 inb_S1x2048x1536_S1x128x128_0_512_896) (ld0 x0 640 896 inb_S1x2048x1536_S1x128x128_0_640_896) (ld2 x2 6 inb_S8x128x256_S1x128x256_6_0_0))
    (lgAll k0_pay5 (ld0 x0 640 384 inb_S1x2048x1536_S1x128x128_0_640_384) (ld0 x0 512 896 inb_S1x2048x1536_S1x128x128_0_512_896) (ld0 x0 640 896 inb_S1x2048x1536_S1x128x128_0_640_896) (ld2 x2 7 inb_S8x128x256_S1x128x256_7_0_0))
    rfl
    (fun r j => nextLo i x0 x1 x2 0 5 640 512 0 512 0 rfl rfl rfl rfl rfl _ _ _ _ r j)
    (fun r j => nextHi i x0 x1 x2 0 5 640 512 0 512 1 rfl rfl rfl rfl rfl _ _ _ _ r j)
    (fun r j => nextLo i x0 x1 x2 1 5 640 512 128 640 2 rfl rfl rfl rfl rfl _ _ _ _ r j)
    (fun r j => nextHi i x0 x1 x2 1 5 640 512 128 640 3 rfl rfl rfl rfl rfl _ _ _ _ r j)
    (fun r j => nextLo i x0 x1 x2 2 5 640 512 256 768 4 rfl rfl rfl rfl rfl _ _ _ _ r j)
    (fun r j => nextHi i x0 x1 x2 2 5 640 512 256 768 5 rfl rfl rfl rfl rfl _ _ _ _ r j)
    (fun r j => nextLo i x0 x1 x2 3 5 640 512 384 896 6 rfl rfl rfl rfl rfl _ _ _ _ r j)
    (fun r j => nextHi i x0 x1 x2 3 5 640 512 384 896 7 rfl rfl rfl rfl rfl _ _ _ _ r j)

theorem l_4 : ∀ x, (k0_pay303 (k0_pay963 i x0 x1 x2) (k0_pay966 i x0 x1 x2) (k0_pay286 (k0_pay963 i x0 x1 x2) (k0_pay966 i x0 x1 x2) (k0_pay274 (k0_pay963 i x0 x1 x2) (k0_pay267 (k0_pay963 i x0 x1 x2) (k0_pay965 i x0 x1 x2) (k0_pay257 (k0_pay963 i x0 x1 x2) (k0_pay253 (k0_pay963 i x0 x1 x2) (k0_pay965 i x0 x1 x2) (k0_pay244 (F := Ideal)) (k0_pay1016 i x0 x1 x2) (k0_pay1017 i x0 x1 x2) (View.ld x0 r0_85) (View.ld x2 r0_5)) (k0_pay1018 i x0 x1 x2)) (k0_pay1019 i x0 x1 x2) (k0_pay1021 i x0 x1 x2) (View.ld x2 r0_13)) (k0_pay269 (k0_pay966 i x0 x1 x2) (k0_pay1019 i x0 x1 x2) (k0_pay1021 i x0 x1 x2) (View.ld x2 r0_14)) (k0_pay271 (k0_pay966 i x0 x1 x2) (k0_pay1019 i x0 x1 x2) (k0_pay1021 i x0 x1 x2) (View.ld x2 r0_14)) k0_pay273) (k0_pay1022 i x0 x1 x2) (k0_pay1023 i x0 x1 x2) (k0_pay1024 i x0 x1 x2) (k0_pay1025 i x0 x1 x2) (View.ld x2 r0_22)) (k0_pay1026 i x0 x1 x2) (k0_pay1027 i x0 x1 x2) (k0_pay295 (k0_pay965 i x0 x1 x2) (View.ld x0 r0_96) (View.ld x0 r0_80) (View.ld x0 r0_97) (View.ld x2 r0_29)) (k0_pay297 (k0_pay963 i x0 x1 x2)) (k0_pay298 (k0_pay965 i x0 x1 x2) (View.ld x0 r0_96) (View.ld x0 r0_80) (View.ld x0 r0_97) (View.ld x2 r0_29)) (View.ld x2 r0_30) : FVec Ideal S1x128x128 .f32) x = GS i x0 x1 x2 (r0_100.emb x) :=
  pieceL i x0 x1 x2 512 inb_S1x2048x128_S1x128x128_0_512_0 _
    (lgAll k0_pay4 (ld0 x0 512 0 inb_S1x2048x1536_S1x128x128_0_512_0) (ld0 x0 384 512 inb_S1x2048x1536_S1x128x128_0_384_512) (ld0 x0 512 512 inb_S1x2048x1536_S1x128x128_0_512_512) (ld2 x2 0 inb_S8x128x256_S1x128x256_0_0_0))
    (lgAll k0_pay5 (ld0 x0 512 0 inb_S1x2048x1536_S1x128x128_0_512_0) (ld0 x0 384 512 inb_S1x2048x1536_S1x128x128_0_384_512) (ld0 x0 512 512 inb_S1x2048x1536_S1x128x128_0_512_512) (ld2 x2 1 inb_S8x128x256_S1x128x256_1_0_0))
    (lgAll k0_pay4 (ld0 x0 512 128 inb_S1x2048x1536_S1x128x128_0_512_128) (ld0 x0 384 640 inb_S1x2048x1536_S1x128x128_0_384_640) (ld0 x0 512 640 inb_S1x2048x1536_S1x128x128_0_512_640) (ld2 x2 2 inb_S8x128x256_S1x128x256_2_0_0))
    (lgAll k0_pay5 (ld0 x0 512 128 inb_S1x2048x1536_S1x128x128_0_512_128) (ld0 x0 384 640 inb_S1x2048x1536_S1x128x128_0_384_640) (ld0 x0 512 640 inb_S1x2048x1536_S1x128x128_0_512_640) (ld2 x2 3 inb_S8x128x256_S1x128x256_3_0_0))
    (lgAll k0_pay4 (ld0 x0 512 256 inb_S1x2048x1536_S1x128x128_0_512_256) (ld0 x0 384 768 inb_S1x2048x1536_S1x128x128_0_384_768) (ld0 x0 512 768 inb_S1x2048x1536_S1x128x128_0_512_768) (ld2 x2 4 inb_S8x128x256_S1x128x256_4_0_0))
    (lgAll k0_pay5 (ld0 x0 512 256 inb_S1x2048x1536_S1x128x128_0_512_256) (ld0 x0 384 768 inb_S1x2048x1536_S1x128x128_0_384_768) (ld0 x0 512 768 inb_S1x2048x1536_S1x128x128_0_512_768) (ld2 x2 5 inb_S8x128x256_S1x128x256_5_0_0))
    (lgAll k0_pay4 (ld0 x0 512 384 inb_S1x2048x1536_S1x128x128_0_512_384) (ld0 x0 384 896 inb_S1x2048x1536_S1x128x128_0_384_896) (ld0 x0 512 896 inb_S1x2048x1536_S1x128x128_0_512_896) (ld2 x2 6 inb_S8x128x256_S1x128x256_6_0_0))
    (lgAll k0_pay5 (ld0 x0 512 384 inb_S1x2048x1536_S1x128x128_0_512_384) (ld0 x0 384 896 inb_S1x2048x1536_S1x128x128_0_384_896) (ld0 x0 512 896 inb_S1x2048x1536_S1x128x128_0_512_896) (ld2 x2 7 inb_S8x128x256_S1x128x256_7_0_0))
    rfl
    (fun r j => nextLo i x0 x1 x2 0 4 512 384 0 512 0 rfl rfl rfl rfl rfl _ _ _ _ r j)
    (fun r j => nextHi i x0 x1 x2 0 4 512 384 0 512 1 rfl rfl rfl rfl rfl _ _ _ _ r j)
    (fun r j => nextLo i x0 x1 x2 1 4 512 384 128 640 2 rfl rfl rfl rfl rfl _ _ _ _ r j)
    (fun r j => nextHi i x0 x1 x2 1 4 512 384 128 640 3 rfl rfl rfl rfl rfl _ _ _ _ r j)
    (fun r j => nextLo i x0 x1 x2 2 4 512 384 256 768 4 rfl rfl rfl rfl rfl _ _ _ _ r j)
    (fun r j => nextHi i x0 x1 x2 2 4 512 384 256 768 5 rfl rfl rfl rfl rfl _ _ _ _ r j)
    (fun r j => nextLo i x0 x1 x2 3 4 512 384 384 896 6 rfl rfl rfl rfl rfl _ _ _ _ r j)
    (fun r j => nextHi i x0 x1 x2 3 4 512 384 384 896 7 rfl rfl rfl rfl rfl _ _ _ _ r j)

theorem l_3 : ∀ x, (k0_pay243 (k0_pay963 i x0 x1 x2) (k0_pay237 (k0_pay963 i x0 x1 x2) (k0_pay965 i x0 x1 x2) (k0_pay228 (k0_pay963 i x0 x1 x2) (k0_pay966 i x0 x1 x2) (k0_pay213 (k0_pay963 i x0 x1 x2) (k0_pay966 i x0 x1 x2) (k0_pay200 (k0_pay963 i x0 x1 x2) (k0_pay194 (k0_pay963 i x0 x1 x2) (k0_pay965 i x0 x1 x2) (k0_pay185 (F := Ideal)) (k0_pay1005 i x0 x1 x2) (k0_pay1007 i x0 x1 x2) (View.ld x2 r0_5)) (k0_pay196 (k0_pay966 i x0 x1 x2) (k0_pay1005 i x0 x1 x2) (k0_pay1007 i x0 x1 x2) (View.ld x2 r0_6)) (k0_pay198 (k0_pay966 i x0 x1 x2) (k0_pay1005 i x0 x1 x2) (k0_pay1007 i x0 x1 x2) (View.ld x2 r0_6)) 1#32) (k0_pay1008 i x0 x1 x2) (k0_pay1009 i x0 x1 x2) (k0_pay1011 i x0 x1 x2) (View.ld x2 r0_14)) (k0_pay1012 i x0 x1 x2) (k0_pay1013 i x0 x1 x2) (k0_pay220 (k0_pay965 i x0 x1 x2) (View.ld x0 r0_75) (View.ld x0 r0_59) (View.ld x0 r0_76) (View.ld x2 r0_21)) (k0_pay222 (k0_pay965 i x0 x1 x2) (View.ld x0 r0_75) (View.ld x0 r0_59) (View.ld x0 r0_76) (View.ld x2 r0_21)) (k0_pay224 (k0_pay963 i x0 x1 x2)) (View.ld x2 r0_22)) (k0_pay1014 i x0 x1 x2) (View.ld x0 r0_63) (View.ld x0 r0_80) (View.ld x2 r0_29)) (k0_pay1015 i x0 x1 x2) (View.ld x2 r0_30) : FVec Ideal S1x128x128 .f32) x = GS i x0 x1 x2 (r0_83.emb x) :=
  pieceL i x0 x1 x2 384 inb_S1x2048x128_S1x128x128_0_384_0 _
    (lgAll k0_pay4 (ld0 x0 384 0 inb_S1x2048x1536_S1x128x128_0_384_0) (ld0 x0 256 512 inb_S1x2048x1536_S1x128x128_0_256_512) (ld0 x0 384 512 inb_S1x2048x1536_S1x128x128_0_384_512) (ld2 x2 0 inb_S8x128x256_S1x128x256_0_0_0))
    (lgAll k0_pay5 (ld0 x0 384 0 inb_S1x2048x1536_S1x128x128_0_384_0) (ld0 x0 256 512 inb_S1x2048x1536_S1x128x128_0_256_512) (ld0 x0 384 512 inb_S1x2048x1536_S1x128x128_0_384_512) (ld2 x2 1 inb_S8x128x256_S1x128x256_1_0_0))
    (lgAll k0_pay4 (ld0 x0 384 128 inb_S1x2048x1536_S1x128x128_0_384_128) (ld0 x0 256 640 inb_S1x2048x1536_S1x128x128_0_256_640) (ld0 x0 384 640 inb_S1x2048x1536_S1x128x128_0_384_640) (ld2 x2 2 inb_S8x128x256_S1x128x256_2_0_0))
    (lgAll k0_pay5 (ld0 x0 384 128 inb_S1x2048x1536_S1x128x128_0_384_128) (ld0 x0 256 640 inb_S1x2048x1536_S1x128x128_0_256_640) (ld0 x0 384 640 inb_S1x2048x1536_S1x128x128_0_384_640) (ld2 x2 3 inb_S8x128x256_S1x128x256_3_0_0))
    (lgAll k0_pay4 (ld0 x0 384 256 inb_S1x2048x1536_S1x128x128_0_384_256) (ld0 x0 256 768 inb_S1x2048x1536_S1x128x128_0_256_768) (ld0 x0 384 768 inb_S1x2048x1536_S1x128x128_0_384_768) (ld2 x2 4 inb_S8x128x256_S1x128x256_4_0_0))
    (lgAll k0_pay5 (ld0 x0 384 256 inb_S1x2048x1536_S1x128x128_0_384_256) (ld0 x0 256 768 inb_S1x2048x1536_S1x128x128_0_256_768) (ld0 x0 384 768 inb_S1x2048x1536_S1x128x128_0_384_768) (ld2 x2 5 inb_S8x128x256_S1x128x256_5_0_0))
    (lgAll k0_pay4 (ld0 x0 384 384 inb_S1x2048x1536_S1x128x128_0_384_384) (ld0 x0 256 896 inb_S1x2048x1536_S1x128x128_0_256_896) (ld0 x0 384 896 inb_S1x2048x1536_S1x128x128_0_384_896) (ld2 x2 6 inb_S8x128x256_S1x128x256_6_0_0))
    (lgAll k0_pay5 (ld0 x0 384 384 inb_S1x2048x1536_S1x128x128_0_384_384) (ld0 x0 256 896 inb_S1x2048x1536_S1x128x128_0_256_896) (ld0 x0 384 896 inb_S1x2048x1536_S1x128x128_0_384_896) (ld2 x2 7 inb_S8x128x256_S1x128x256_7_0_0))
    rfl
    (fun r j => nextLo i x0 x1 x2 0 3 384 256 0 512 0 rfl rfl rfl rfl rfl _ _ _ _ r j)
    (fun r j => nextHi i x0 x1 x2 0 3 384 256 0 512 1 rfl rfl rfl rfl rfl _ _ _ _ r j)
    (fun r j => nextLo i x0 x1 x2 1 3 384 256 128 640 2 rfl rfl rfl rfl rfl _ _ _ _ r j)
    (fun r j => nextHi i x0 x1 x2 1 3 384 256 128 640 3 rfl rfl rfl rfl rfl _ _ _ _ r j)
    (fun r j => nextLo i x0 x1 x2 2 3 384 256 256 768 4 rfl rfl rfl rfl rfl _ _ _ _ r j)
    (fun r j => nextHi i x0 x1 x2 2 3 384 256 256 768 5 rfl rfl rfl rfl rfl _ _ _ _ r j)
    (fun r j => nextLo i x0 x1 x2 3 3 384 256 384 896 6 rfl rfl rfl rfl rfl _ _ _ _ r j)
    (fun r j => nextHi i x0 x1 x2 3 3 384 256 384 896 7 rfl rfl rfl rfl rfl _ _ _ _ r j)

theorem l_2 : ∀ x, (k0_pay184 (k0_pay963 i x0 x1 x2) (k0_pay178 (k0_pay963 i x0 x1 x2) (k0_pay965 i x0 x1 x2) (k0_pay167 (k0_pay963 i x0 x1 x2) (k0_pay162 (k0_pay963 i x0 x1 x2) (k0_pay965 i x0 x1 x2) (k0_pay153 (k0_pay963 i x0 x1 x2) (k0_pay966 i x0 x1 x2) (k0_pay138 (k0_pay963 i x0 x1 x2) (k0_pay966 i x0 x1 x2) (k0_pay126 (F := Ideal)) (k0_pay994 i x0 x1 x2) (k0_pay995 i x0 x1 x2) (k0_pay997 i x0 x1 x2) (View.ld x2 r0_6)) (k0_pay998 i x0 x1 x2) (k0_pay999 i x0 x1 x2) (k0_pay145 (k0_pay965 i x0 x1 x2) (View.ld x0 r0_54) (View.ld x0 r0_38) (View.ld x0 r0_55) (View.ld x2 r0_13)) (k0_pay147 (k0_pay965 i x0 x1 x2) (View.ld x0 r0_54) (View.ld x0 r0_38) (View.ld x0 r0_55) (View.ld x2 r0_13)) k0_pay149 (View.ld x2 r0_14)) (k0_pay1000 i x0 x1 x2) (View.ld x0 r0_42) (View.ld x0 r0_59) (View.ld x2 r0_21)) (k0_pay1001 i x0 x1 x2) (View.ld x2 r0_22)) (k0_pay1002 i x0 x1 x2) (k0_pay1003 i x0 x1 x2) (View.ld x0 r0_63) (View.ld x2 r0_29)) (k0_pay180 (k0_pay966 i x0 x1 x2) (k0_pay1002 i x0 x1 x2) (k0_pay1003 i x0 x1 x2) (View.ld x0 r0_63) (View.ld x2 r0_30)) (k0_pay182 (k0_pay966 i x0 x1 x2) (k0_pay1002 i x0 x1 x2) (k0_pay1003 i x0 x1 x2) (View.ld x0 r0_63) (View.ld x2 r0_30)) : FVec Ideal S1x128x128 .f32) x = GS i x0 x1 x2 (r0_66.emb x) :=
  pieceL i x0 x1 x2 256 inb_S1x2048x128_S1x128x128_0_256_0 _
    (lgAll k0_pay4 (ld0 x0 256 0 inb_S1x2048x1536_S1x128x128_0_256_0) (ld0 x0 128 512 inb_S1x2048x1536_S1x128x128_0_128_512) (ld0 x0 256 512 inb_S1x2048x1536_S1x128x128_0_256_512) (ld2 x2 0 inb_S8x128x256_S1x128x256_0_0_0))
    (lgAll k0_pay5 (ld0 x0 256 0 inb_S1x2048x1536_S1x128x128_0_256_0) (ld0 x0 128 512 inb_S1x2048x1536_S1x128x128_0_128_512) (ld0 x0 256 512 inb_S1x2048x1536_S1x128x128_0_256_512) (ld2 x2 1 inb_S8x128x256_S1x128x256_1_0_0))
    (lgAll k0_pay4 (ld0 x0 256 128 inb_S1x2048x1536_S1x128x128_0_256_128) (ld0 x0 128 640 inb_S1x2048x1536_S1x128x128_0_128_640) (ld0 x0 256 640 inb_S1x2048x1536_S1x128x128_0_256_640) (ld2 x2 2 inb_S8x128x256_S1x128x256_2_0_0))
    (lgAll k0_pay5 (ld0 x0 256 128 inb_S1x2048x1536_S1x128x128_0_256_128) (ld0 x0 128 640 inb_S1x2048x1536_S1x128x128_0_128_640) (ld0 x0 256 640 inb_S1x2048x1536_S1x128x128_0_256_640) (ld2 x2 3 inb_S8x128x256_S1x128x256_3_0_0))
    (lgAll k0_pay4 (ld0 x0 256 256 inb_S1x2048x1536_S1x128x128_0_256_256) (ld0 x0 128 768 inb_S1x2048x1536_S1x128x128_0_128_768) (ld0 x0 256 768 inb_S1x2048x1536_S1x128x128_0_256_768) (ld2 x2 4 inb_S8x128x256_S1x128x256_4_0_0))
    (lgAll k0_pay5 (ld0 x0 256 256 inb_S1x2048x1536_S1x128x128_0_256_256) (ld0 x0 128 768 inb_S1x2048x1536_S1x128x128_0_128_768) (ld0 x0 256 768 inb_S1x2048x1536_S1x128x128_0_256_768) (ld2 x2 5 inb_S8x128x256_S1x128x256_5_0_0))
    (lgAll k0_pay4 (ld0 x0 256 384 inb_S1x2048x1536_S1x128x128_0_256_384) (ld0 x0 128 896 inb_S1x2048x1536_S1x128x128_0_128_896) (ld0 x0 256 896 inb_S1x2048x1536_S1x128x128_0_256_896) (ld2 x2 6 inb_S8x128x256_S1x128x256_6_0_0))
    (lgAll k0_pay5 (ld0 x0 256 384 inb_S1x2048x1536_S1x128x128_0_256_384) (ld0 x0 128 896 inb_S1x2048x1536_S1x128x128_0_128_896) (ld0 x0 256 896 inb_S1x2048x1536_S1x128x128_0_256_896) (ld2 x2 7 inb_S8x128x256_S1x128x256_7_0_0))
    rfl
    (fun r j => nextLo i x0 x1 x2 0 2 256 128 0 512 0 rfl rfl rfl rfl rfl _ _ _ _ r j)
    (fun r j => nextHi i x0 x1 x2 0 2 256 128 0 512 1 rfl rfl rfl rfl rfl _ _ _ _ r j)
    (fun r j => nextLo i x0 x1 x2 1 2 256 128 128 640 2 rfl rfl rfl rfl rfl _ _ _ _ r j)
    (fun r j => nextHi i x0 x1 x2 1 2 256 128 128 640 3 rfl rfl rfl rfl rfl _ _ _ _ r j)
    (fun r j => nextLo i x0 x1 x2 2 2 256 128 256 768 4 rfl rfl rfl rfl rfl _ _ _ _ r j)
    (fun r j => nextHi i x0 x1 x2 2 2 256 128 256 768 5 rfl rfl rfl rfl rfl _ _ _ _ r j)
    (fun r j => nextLo i x0 x1 x2 3 2 256 128 384 896 6 rfl rfl rfl rfl rfl _ _ _ _ r j)
    (fun r j => nextHi i x0 x1 x2 3 2 256 128 384 896 7 rfl rfl rfl rfl rfl _ _ _ _ r j)

theorem l_1 : ∀ x, (k0_pay125 (k0_pay120 (k0_pay966 i x0 x1 x2) (k0_pay990 i x0 x1 x2) (k0_pay991 i x0 x1 x2) (View.ld x2 r0_30)) (k0_pay122 (k0_pay963 i x0 x1 x2) (k0_pay966 i x0 x1 x2) (k0_pay107 (k0_pay963 i x0 x1 x2) (k0_pay103 (k0_pay963 i x0 x1 x2) (k0_pay965 i x0 x1 x2) (k0_pay92 (k0_pay963 i x0 x1 x2) (k0_pay984 i x0 x1 x2) (k0_pay87 (k0_pay963 i x0 x1 x2) (k0_pay965 i x0 x1 x2) (k0_pay78 (k0_pay963 i x0 x1 x2) (k0_pay966 i x0 x1 x2) (k0_pay66 (F := Ideal)) (k0_pay981 i x0 x1 x2) (k0_pay982 i x0 x1 x2) (k0_pay71 (k0_pay965 i x0 x1 x2) (View.ld x0 r0_33) (View.ld x0 r0_3) (View.ld x0 r0_34) (View.ld x2 r0_5)) (k0_pay73 (k0_pay965 i x0 x1 x2) (View.ld x0 r0_33) (View.ld x0 r0_3) (View.ld x0 r0_34) (View.ld x2 r0_5)) 0#32 (View.ld x2 r0_6)) (View.ld x0 r0_37) (View.ld x0 r0_11) (View.ld x0 r0_38) (View.ld x2 r0_13)) (k0_pay985 i x0 x1 x2) (k0_pay983 i x0 x1 x2) (View.ld x2 r0_14)) (k0_pay986 i x0 x1 x2) (k0_pay987 i x0 x1 x2) (View.ld x0 r0_42) (View.ld x2 r0_21)) (k0_pay105 (k0_pay966 i x0 x1 x2) (k0_pay986 i x0 x1 x2) (k0_pay987 i x0 x1 x2) (View.ld x0 r0_42) (View.ld x2 r0_22)) (k0_pay989 i x0 x1 x2)) (k0_pay990 i x0 x1 x2) (k0_pay991 i x0 x1 x2) (k0_pay993 i x0 x1 x2) (View.ld x2 r0_29) (View.ld x2 r0_30)) (k0_pay123 (k0_pay963 i x0 x1 x2)) : FVec Ideal S1x128x128 .f32) x = GS i x0 x1 x2 (r0_49.emb x) :=
  pieceL i x0 x1 x2 128 inb_S1x2048x128_S1x128x128_0_128_0 _
    (lgAll k0_pay4 (ld0 x0 128 0 inb_S1x2048x1536_S1x128x128_0_128_0) (ld0 x0 0 512 inb_S1x2048x1536_S1x128x128_0_0_512) (ld0 x0 128 512 inb_S1x2048x1536_S1x128x128_0_128_512) (ld2 x2 0 inb_S8x128x256_S1x128x256_0_0_0))
    (lgAll k0_pay5 (ld0 x0 128 0 inb_S1x2048x1536_S1x128x128_0_128_0) (ld0 x0 0 512 inb_S1x2048x1536_S1x128x128_0_0_512) (ld0 x0 128 512 inb_S1x2048x1536_S1x128x128_0_128_512) (ld2 x2 1 inb_S8x128x256_S1x128x256_1_0_0))
    (lgAll k0_pay4 (ld0 x0 128 128 inb_S1x2048x1536_S1x128x128_0_128_128) (ld0 x0 0 640 inb_S1x2048x1536_S1x128x128_0_0_640) (ld0 x0 128 640 inb_S1x2048x1536_S1x128x128_0_128_640) (ld2 x2 2 inb_S8x128x256_S1x128x256_2_0_0))
    (lgAll k0_pay5 (ld0 x0 128 128 inb_S1x2048x1536_S1x128x128_0_128_128) (ld0 x0 0 640 inb_S1x2048x1536_S1x128x128_0_0_640) (ld0 x0 128 640 inb_S1x2048x1536_S1x128x128_0_128_640) (ld2 x2 3 inb_S8x128x256_S1x128x256_3_0_0))
    (lgAll k0_pay4 (ld0 x0 128 256 inb_S1x2048x1536_S1x128x128_0_128_256) (ld0 x0 0 768 inb_S1x2048x1536_S1x128x128_0_0_768) (ld0 x0 128 768 inb_S1x2048x1536_S1x128x128_0_128_768) (ld2 x2 4 inb_S8x128x256_S1x128x256_4_0_0))
    (lgAll k0_pay5 (ld0 x0 128 256 inb_S1x2048x1536_S1x128x128_0_128_256) (ld0 x0 0 768 inb_S1x2048x1536_S1x128x128_0_0_768) (ld0 x0 128 768 inb_S1x2048x1536_S1x128x128_0_128_768) (ld2 x2 5 inb_S8x128x256_S1x128x256_5_0_0))
    (lgAll k0_pay4 (ld0 x0 128 384 inb_S1x2048x1536_S1x128x128_0_128_384) (ld0 x0 0 896 inb_S1x2048x1536_S1x128x128_0_0_896) (ld0 x0 128 896 inb_S1x2048x1536_S1x128x128_0_128_896) (ld2 x2 6 inb_S8x128x256_S1x128x256_6_0_0))
    (lgAll k0_pay5 (ld0 x0 128 384 inb_S1x2048x1536_S1x128x128_0_128_384) (ld0 x0 0 896 inb_S1x2048x1536_S1x128x128_0_0_896) (ld0 x0 128 896 inb_S1x2048x1536_S1x128x128_0_128_896) (ld2 x2 7 inb_S8x128x256_S1x128x256_7_0_0))
    rfl
    (fun r j => nextLo i x0 x1 x2 0 1 128 0 0 512 0 rfl rfl rfl rfl rfl _ _ _ _ r j)
    (fun r j => nextHi i x0 x1 x2 0 1 128 0 0 512 1 rfl rfl rfl rfl rfl _ _ _ _ r j)
    (fun r j => nextLo i x0 x1 x2 1 1 128 0 128 640 2 rfl rfl rfl rfl rfl _ _ _ _ r j)
    (fun r j => nextHi i x0 x1 x2 1 1 128 0 128 640 3 rfl rfl rfl rfl rfl _ _ _ _ r j)
    (fun r j => nextLo i x0 x1 x2 2 1 128 0 256 768 4 rfl rfl rfl rfl rfl _ _ _ _ r j)
    (fun r j => nextHi i x0 x1 x2 2 1 128 0 256 768 5 rfl rfl rfl rfl rfl _ _ _ _ r j)
    (fun r j => nextLo i x0 x1 x2 3 1 128 0 384 896 6 rfl rfl rfl rfl rfl _ _ _ _ r j)
    (fun r j => nextHi i x0 x1 x2 3 1 128 0 384 896 7 rfl rfl rfl rfl rfl _ _ _ _ r j)

theorem l_0 : ∀ x, (k0_pay65 (k0_pay63 (k0_pay964 i x0 x1 x2) (k0_pay963 i x0 x1 x2) (k0_pay966 i x0 x1 x2) (k0_pay49 (k0_pay964 i x0 x1 x2) (k0_pay963 i x0 x1 x2) (k0_pay966 i x0 x1 x2) (k0_pay36 (k0_pay963 i x0 x1 x2) (k0_pay33 (k0_pay964 i x0 x1 x2) (k0_pay966 i x0 x1 x2) (k0_pay970 i x0 x1 x2) (k0_pay971 i x0 x1 x2) (View.ld x2 r0_14)) (k0_pay35 (k0_pay964 i x0 x1 x2) (k0_pay963 i x0 x1 x2) (k0_pay966 i x0 x1 x2) (k0_pay20 (k0_pay963 i x0 x1 x2) (k0_pay14 (k0_pay964 i x0 x1 x2) (k0_pay963 i x0 x1 x2) (k0_pay965 i x0 x1 x2) (k0_pay6 (F := Ideal)) (k0_pay967 i x0 x1 x2) (k0_pay968 i x0 x1 x2) (View.ld x2 r0_5)) (k0_pay16 (k0_pay964 i x0 x1 x2) (k0_pay966 i x0 x1 x2) (k0_pay967 i x0 x1 x2) (k0_pay968 i x0 x1 x2) (View.ld x2 r0_6)) (k0_pay18 (k0_pay964 i x0 x1 x2) (k0_pay966 i x0 x1 x2) (k0_pay967 i x0 x1 x2) (k0_pay968 i x0 x1 x2) (View.ld x2 r0_6))) (k0_pay970 i x0 x1 x2) (k0_pay971 i x0 x1 x2) (k0_pay973 i x0 x1 x2) (View.ld x2 r0_13) (View.ld x2 r0_14))) (k0_pay974 i x0 x1 x2) (k0_pay975 i x0 x1 x2) (k0_pay977 i x0 x1 x2) (k0_pay978 i x0 x1 x2) (View.ld x2 r0_22)) (k0_pay979 i x0 x1 x2) (k0_pay980 i x0 x1 x2) (k0_pay56 (k0_pay964 i x0 x1 x2) (k0_pay965 i x0 x1 x2) (View.ld x0 r0_24) (View.ld x1 r0_25) (View.ld x0 r0_27) (View.ld x2 r0_29)) (k0_pay58 (k0_pay964 i x0 x1 x2) (k0_pay965 i x0 x1 x2) (View.ld x0 r0_24) (View.ld x1 r0_25) (View.ld x0 r0_27) (View.ld x2 r0_29)) (View.ld x2 r0_30)) : FVec Ideal S1x128x128 .f32) x = GS i x0 x1 x2 (r0_32.emb x) :=
  pieceL i x0 x1 x2 0 inb_S1x2048x128_S1x128x128_0_0_0 _
    (lgFirst i k0_pay4 (ld0 x0 0 0 inb_S1x2048x1536_S1x128x128_0_0_0) (ld1 x1 512 inb_S1x128x1536_S1x128x128_0_0_512) (ld0 x0 0 512 inb_S1x2048x1536_S1x128x128_0_0_512) (ld2 x2 0 inb_S8x128x256_S1x128x256_0_0_0))
    (lgFirst i k0_pay5 (ld0 x0 0 0 inb_S1x2048x1536_S1x128x128_0_0_0) (ld1 x1 512 inb_S1x128x1536_S1x128x128_0_0_512) (ld0 x0 0 512 inb_S1x2048x1536_S1x128x128_0_0_512) (ld2 x2 1 inb_S8x128x256_S1x128x256_1_0_0))
    (lgFirst i k0_pay4 (ld0 x0 0 128 inb_S1x2048x1536_S1x128x128_0_0_128) (ld1 x1 640 inb_S1x128x1536_S1x128x128_0_0_640) (ld0 x0 0 640 inb_S1x2048x1536_S1x128x128_0_0_640) (ld2 x2 2 inb_S8x128x256_S1x128x256_2_0_0))
    (lgFirst i k0_pay5 (ld0 x0 0 128 inb_S1x2048x1536_S1x128x128_0_0_128) (ld1 x1 640 inb_S1x128x1536_S1x128x128_0_0_640) (ld0 x0 0 640 inb_S1x2048x1536_S1x128x128_0_0_640) (ld2 x2 3 inb_S8x128x256_S1x128x256_3_0_0))
    (lgFirst i k0_pay4 (ld0 x0 0 256 inb_S1x2048x1536_S1x128x128_0_0_256) (ld1 x1 768 inb_S1x128x1536_S1x128x128_0_0_768) (ld0 x0 0 768 inb_S1x2048x1536_S1x128x128_0_0_768) (ld2 x2 4 inb_S8x128x256_S1x128x256_4_0_0))
    (lgFirst i k0_pay5 (ld0 x0 0 256 inb_S1x2048x1536_S1x128x128_0_0_256) (ld1 x1 768 inb_S1x128x1536_S1x128x128_0_0_768) (ld0 x0 0 768 inb_S1x2048x1536_S1x128x128_0_0_768) (ld2 x2 5 inb_S8x128x256_S1x128x256_5_0_0))
    (lgFirst i k0_pay4 (ld0 x0 0 384 inb_S1x2048x1536_S1x128x128_0_0_384) (ld1 x1 896 inb_S1x128x1536_S1x128x128_0_0_896) (ld0 x0 0 896 inb_S1x2048x1536_S1x128x128_0_0_896) (ld2 x2 6 inb_S8x128x256_S1x128x256_6_0_0))
    (lgFirst i k0_pay5 (ld0 x0 0 384 inb_S1x2048x1536_S1x128x128_0_0_384) (ld1 x1 896 inb_S1x128x1536_S1x128x128_0_0_896) (ld0 x0 0 896 inb_S1x2048x1536_S1x128x128_0_0_896) (ld2 x2 7 inb_S8x128x256_S1x128x256_7_0_0))
    rfl
    (fun r j => (firstLo i x0 x1 x2 0 0 512 0 rfl rfl rfl _ _ _ _ r j).trans (congrArg (lgB i x0 x1 x2 _ · _) (Nat.zero_add _).symm))
    (fun r j => (firstHi i x0 x1 x2 0 0 512 1 rfl rfl rfl _ _ _ _ r j).trans (congrArg (lgB i x0 x1 x2 _ · _) (Nat.zero_add _).symm))
    (fun r j => (firstLo i x0 x1 x2 1 128 640 2 rfl rfl rfl _ _ _ _ r j).trans (congrArg (lgB i x0 x1 x2 _ · _) (Nat.zero_add _).symm))
    (fun r j => (firstHi i x0 x1 x2 1 128 640 3 rfl rfl rfl _ _ _ _ r j).trans (congrArg (lgB i x0 x1 x2 _ · _) (Nat.zero_add _).symm))
    (fun r j => (firstLo i x0 x1 x2 2 256 768 4 rfl rfl rfl _ _ _ _ r j).trans (congrArg (lgB i x0 x1 x2 _ · _) (Nat.zero_add _).symm))
    (fun r j => (firstHi i x0 x1 x2 2 256 768 5 rfl rfl rfl _ _ _ _ r j).trans (congrArg (lgB i x0 x1 x2 _ · _) (Nat.zero_add _).symm))
    (fun r j => (firstLo i x0 x1 x2 3 384 896 6 rfl rfl rfl _ _ _ _ r j).trans (congrArg (lgB i x0 x1 x2 _ · _) (Nat.zero_add _).symm))
    (fun r j => (firstHi i x0 x1 x2 3 384 896 7 rfl rfl rfl _ _ _ _ r j).trans (congrArg (lgB i x0 x1 x2 _ · _) (Nat.zero_add _).symm))

end Run

end Cert.DilIdeal.Hand

end
-- ==== Proof.DilBlocks.lean ====
/- The two blocks that the body of `dilated` leaves. -/
module

public import proofs.«01_k».proof.Proof.DilTilesO
public import proofs.«01_k».proof.Proof.DilTilesL

@[expose] public section

set_option maxRecDepth 16384

noncomputable section

namespace Cert.DilIdeal.Hand

open Cert.DilIdeal Cert.DilIdeal.Gen
open Idealize.ShloMosaic Idealize.ShloMosaic.TcCoe Idealize.SL.Sem

section Run
variable (i : grid0.Coords) (x0 : Vec Ideal S1x2048x1536 .bf16) (x1 : Vec Ideal S1x128x1536 .bf16) (x2 : Vec Ideal S8x128x256 .f32)

/-- The block of the first result. -/
theorem out3_eq : out0_3 i x0 x1 x2 = GO i x0 x1 x2 := by
  funext y
  unfold out0_3
  exact View.canon_apply_of_pieces _ _
    (List.forall_mem_cons.2 ⟨o_15_3 i x0 x1 x2, List.forall_mem_cons.2 ⟨o_15_2 i x0 x1 x2, List.forall_mem_cons.2 ⟨o_15_1 i x0 x1 x2, List.forall_mem_cons.2 ⟨o_15_0 i x0 x1 x2, List.forall_mem_cons.2 ⟨o_14_3 i x0 x1 x2, List.forall_mem_cons.2 ⟨o_14_2 i x0 x1 x2, List.forall_mem_cons.2 ⟨o_14_1 i x0 x1 x2, List.forall_mem_cons.2 ⟨o_14_0 i x0 x1 x2, List.forall_mem_cons.2 ⟨o_13_3 i x0 x1 x2, List.forall_mem_cons.2 ⟨o_13_2 i x0 x1 x2, List.forall_mem_cons.2 ⟨o_13_1 i x0 x1 x2, List.forall_mem_cons.2 ⟨o_13_0 i x0 x1 x2, List.forall_mem_cons.2 ⟨o_12_3 i x0 x1 x2, List.forall_mem_cons.2 ⟨o_12_2 i x0 x1 x2, List.forall_mem_cons.2 ⟨o_12_1 i x0 x1 x2, List.forall_mem_cons.2 ⟨o_12_0 i x0 x1 x2, List.forall_mem_cons.2 ⟨o_11_3 i x0 x1 x2, List.forall_mem_cons.2 ⟨o_11_2 i x0 x1 x2, List.forall_mem_cons.2 ⟨o_11_1 i x0 x1 x2, List.forall_mem_cons.2 ⟨o_11_0 i x0 x1 x2, List.forall_mem_cons.2 ⟨o_10_3 i x0 x1 x2, List.forall_mem_cons.2 ⟨o_10_2 i x0 x1 x2, List.forall_mem_cons.2 ⟨o_10_1 i x0 x1 x2, List.forall_mem_cons.2 ⟨o_10_0 i x0 x1 x2, List.forall_mem_cons.2 ⟨o_9_3 i x0 x1 x2, List.forall_mem_cons.2 ⟨o_9_2 i x0 x1 x2, List.forall_mem_cons.2 ⟨o_9_1 i x0 x1 x2, List.forall_mem_cons.2 ⟨o_9_0 i x0 x1 x2, List.forall_mem_cons.2 ⟨o_8_3 i x0 x1 x2, List.forall_mem_cons.2 ⟨o_8_2 i x0 x1 x2, List.forall_mem_cons.2 ⟨o_8_1 i x0 x1 x2, List.forall_mem_cons.2 ⟨o_8_0 i x0 x1 x2, List.forall_mem_cons.2 ⟨o_7_3 i x0 x1 x2, List.forall_mem_cons.2 ⟨o_7_2 i x0 x1 x2, List.forall_mem_cons.2 ⟨o_7_1 i x0 x1 x2, List.forall_mem_cons.2 ⟨o_7_0 i x0 x1 x2, List.forall_mem_cons.2 ⟨o_6_3 i x0 x1 x2, List.forall_mem_cons.2 ⟨o_6_2 i x0 x1 x2, List.forall_mem_cons.2 ⟨o_6_1 i x0 x1 x2, List.forall_mem_cons.2 ⟨o_6_0 i x0 x1 x2, List.forall_mem_cons.2 ⟨o_5_3 i x0 x1 x2, List.forall_mem_cons.2 ⟨o_5_2 i x0 x1 x2, List.forall_mem_cons.2 ⟨o_5_1 i x0 x1 x2, List.forall_mem_cons.2 ⟨o_5_0 i x0 x1 x2, List.forall_mem_cons.2 ⟨o_4_3 i x0 x1 x2, List.forall_mem_cons.2 ⟨o_4_2 i x0 x1 x2, List.forall_mem_cons.2 ⟨o_4_1 i x0 x1 x2, List.forall_mem_cons.2 ⟨o_4_0 i x0 x1 x2, List.forall_mem_cons.2 ⟨o_3_3 i x0 x1 x2, List.forall_mem_cons.2 ⟨o_3_2 i x0 x1 x2, List.forall_mem_cons.2 ⟨o_3_1 i x0 x1 x2, List.forall_mem_cons.2 ⟨o_3_0 i x0 x1 x2, List.forall_mem_cons.2 ⟨o_2_3 i x0 x1 x2, List.forall_mem_cons.2 ⟨o_2_2 i x0 x1 x2, List.forall_mem_cons.2 ⟨o_2_1 i x0 x1 x2, List.forall_mem_cons.2 ⟨o_2_0 i x0 x1 x2, List.forall_mem_cons.2 ⟨o_1_3 i x0 x1 x2, List.forall_mem_cons.2 ⟨o_1_2 i x0 x1 x2, List.forall_mem_cons.2 ⟨o_1_1 i x0 x1 x2, List.forall_mem_cons.2 ⟨o_1_0 i x0 x1 x2, List.forall_mem_cons.2 ⟨o_0_3 i x0 x1 x2, List.forall_mem_cons.2 ⟨o_0_2 i x0 x1 x2, List.forall_mem_cons.2 ⟨o_0_1 i x0 x1 x2, List.forall_mem_cons.2 ⟨o_0_0 i x0 x1 x2, fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩) y
    (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)

/-- The block of the second result. -/
theorem out4_eq : out0_4 i x0 x1 x2 = GS i x0 x1 x2 := by
  funext y
  unfold out0_4
  exact View.canon_apply_of_pieces _ _
    (List.forall_mem_cons.2 ⟨l_15 i x0 x1 x2, List.forall_mem_cons.2 ⟨l_14 i x0 x1 x2, List.forall_mem_cons.2 ⟨l_13 i x0 x1 x2, List.forall_mem_cons.2 ⟨l_12 i x0 x1 x2, List.forall_mem_cons.2 ⟨l_11 i x0 x1 x2, List.forall_mem_cons.2 ⟨l_10 i x0 x1 x2, List.forall_mem_cons.2 ⟨l_9 i x0 x1 x2, List.forall_mem_cons.2 ⟨l_8 i x0 x1 x2, List.forall_mem_cons.2 ⟨l_7 i x0 x1 x2, List.forall_mem_cons.2 ⟨l_6 i x0 x1 x2, List.forall_mem_cons.2 ⟨l_5 i x0 x1 x2, List.forall_mem_cons.2 ⟨l_4 i x0 x1 x2, List.forall_mem_cons.2 ⟨l_3 i x0 x1 x2, List.forall_mem_cons.2 ⟨l_2 i x0 x1 x2, List.forall_mem_cons.2 ⟨l_1 i x0 x1 x2, List.forall_mem_cons.2 ⟨l_0 i x0 x1 x2, fun p hp => absurd hp List.not_mem_nil⟩⟩⟩⟩⟩⟩⟩⟩⟩⟩⟩⟩⟩⟩⟩⟩) y
    (cover0_4 _ _ _ _ _ _ _ _ _ _ _ _ _ _ _ _ y)

end Run

end Cert.DilIdeal.Hand

end
-- ==== Proof.DilForm.lean ====
/- Windowed attention at the extended reals, as a function of its arguments: what the kernel and the reference both leave. -/
module

public import proofs.«01_k».proof.Proof.Gen.DilIdeal
public import Idealize.ShloMosaic.Lib.Pointwise

@[expose] public section

noncomputable section

namespace Cert.DilForm

open Idealize.ShloMosaic Idealize.ShloMosaic.TcCoe Idealize.SL.Sem
open Cert.DilIdeal (S65536x3072 S8x128x256 S8x8192x512 S8x8192x128)

variable (src : S65536x3072.Idx → EReal) (bias : S8x128x256.Idx → EReal)

/-- The arguments' entries by their numbers. -/
def atS (t c : ℕ) : EReal := if h : t < 65536 ∧ c < 3072 then src (ix2 (⟨t, h.1⟩ : Fin 65536) (⟨c, h.2⟩ : Fin 3072)) else 0
def atB (k r j : ℕ) : EReal :=
  if h : k < 8 ∧ r < 128 ∧ j < 256 then bias (ix3 (⟨k, h.1⟩ : Fin 8) (⟨r, h.2.1⟩ : Fin 128) (⟨j, h.2.2⟩ : Fin 256)) else 0

theorem atS_eq (t : Fin 65536) (c : Fin 3072) : atS src t.val c.val = src (ix2 t c) := dif_pos ⟨t.isLt, c.isLt⟩
theorem atB_eq (k : Fin 8) (r : Fin 128) (j : Fin 256) : atB bias k.val r.val j.val = bias (ix3 k r j) := dif_pos ⟨k.isLt, r.isLt, j.isLt⟩

/-- Token `t` of a sequence sees the `j`-th of the 256 tokens that end with its group of 128: it is there, not later than `t` and
    at most 128 before. -/
def Ok (t j : ℕ) : Prop := 128 ≤ 128 * (t / 128) + j ∧ t % 128 ≤ j ∧ j ≤ t % 128 + 128
instance (t j : ℕ) : Decidable (Ok t j) := by unfold Ok; infer_instance

/-- The row of the `j`-th key of token `t` of sequence `b`. -/
def key (b t j : ℕ) : ℕ := 8192 * b + (128 * (t / 128) + j - 128)

/-- The logit of head `h`, the largest of a token, the weight, the weighted sum of the values, and the pair the call leaves for
    the mixture: the largest logits of the 8 heads, then the sums of their weights. -/
def lg (b h t j : ℕ) : EReal :=
  if Ok t j then (∑ d : Fin 64, atS src (8192 * b + t) (64 * h + d.val) * atS src (key b t j) (512 + 64 * h + d.val)) + atB bias h (t % 128) j else ⊥
def mx (b h t : ℕ) : EReal := Finset.univ.fold max ⊥ fun j : Fin 256 => lg src bias b h t j.val
def wt (b h t j : ℕ) : EReal := if Ok t j then Ideal.exp (lg src bias b h t j - mx src bias b h t) else 0
def att (b t c : ℕ) : EReal := ∑ j : Fin 256, wt src bias b (c / 64) t j.val * atS src (key b t j.val) (1024 + c)
def st (b t l : ℕ) : EReal :=
  if l < 8 then mx src bias b l t else if l < 16 then ∑ j : Fin 256, wt src bias b (l - 8) t j.val else 0

def res0 : S8x8192x512.Idx → EReal := fun y => att src bias (y 0).val (y 1).val (y 2).val
def res1 : S8x8192x128.Idx → EReal := fun y => st src bias (y 0).val (y 1).val (y 2).val

theorem lg_not {b h t j : ℕ} (n : ¬ Ok t j) : lg src bias b h t j = ⊥ := if_neg n

theorem lg_ok {b h t j : ℕ} (n : Ok t j) : lg src bias b h t j
    = (∑ d : Fin 64, atS src (8192 * b + t) (64 * h + d.val) * atS src (key b t j) (512 + 64 * h + d.val)) + atB bias h (t % 128) j := if_pos n

/-- A token that is not seen has weight zero. -/
theorem exp_lg (b h t j : ℕ) (M : EReal) : Ideal.exp (lg src bias b h t j - M) = if Ok t j then Ideal.exp (lg src bias b h t j - M) else 0 := by
  by_cases n : Ok t j
  · rw [if_pos n]
  · rw [if_neg n, lg_not src bias n, EReal.bot_sub]; rfl

end Cert.DilForm

end
-- ==== Proof.DilValue.lean ====
/- `dilated` at the extended reals: the two arrays the kernel leaves. -/
module

public import proofs.«01_k».proof.Proof.DilBlocks
public import proofs.«01_k».proof.Proof.DilForm

@[expose] public section

set_option maxRecDepth 16384

noncomputable section

namespace Cert.DilIdeal.Hand

open Cert.DilIdeal Cert.DilIdeal.Gen Cert.DilForm
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments. -/
abbrev X0 (c : Dev nD) : S65536x3072.Idx → EReal := m ((c : Thread nD τ).loc main_arg0)
abbrev X1 (c : Dev nD) : S8x128x256.Idx → EReal := m ((c : Thread nD τ).loc main_arg1)

theorem V_v0 (c : Dev nD) : V m c main_v0 = shapeCast S8x8192x3072 (m ((c : Thread nD τ).loc main_arg0)) shapeCasts_S65536x3072_S8x8192x3072 := by
  dsimp only [V, hostOps0, hostOps0_1]
  simp only [List.flatten_cons, List.flatten_nil, List.append_nil, List.cons_append, List.nil_append]
  after_results_simp <;> rfl

theorem fold_apply (x : S65536x3072.Idx → EReal) (b : Fin 8) (T : Fin 8192) (n : Fin 3072) :
    shapeCast (α := EReal) S8x8192x3072 x shapeCasts_S65536x3072_S8x8192x3072 (ix3 b T n) = x (ix2 (⟨8192 * b.val + T.val, by omega⟩ : Fin 65536) n) := by
  pointwise
  exact congrArg (fun k => x (ix2 k n)) (Fin.ext (show b.val * 8192 + T.val = 8192 * b.val + T.val by omega))

theorem V_v0_apply (c : Dev nD) (b : Fin 8) (T : Fin 8192) (n : Fin 3072) : V m c main_v0 (ix3 b T n : S8x8192x3072.Idx) = atS (X0 m c) (8192 * b.val + T.val) n.val := by
  rw [V_v0]
  refine Eq.trans ?_ (atS_eq (X0 m c) (⟨8192 * b.val + T.val, by omega⟩ : Fin 65536) n).symm
  exact fold_apply _ b T n

theorem band : ∀ (r : Fin 128) (j : Fin 256), IntOp.andi (IntOp.cmpi CmpIPredicate.sge (BitVec.ofNat 32 r.val + 128#32 - BitVec.ofNat 32 j.val) 0#32)
    (IntOp.cmpi CmpIPredicate.sle (BitVec.ofNat 32 r.val + 128#32 - BitVec.ofNat 32 j.val) 128#32) = if r.val ≤ j.val ∧ j.val ≤ r.val + 128 then 1#1 else 0#1 := by
  decide +kernel

/-- The keys in the band, for every head. -/
def maskB : IVec S8x128x256 1 :=
  broadcastInDim S8x128x256 ![0, 1, 2] bcast_S1x128x256_S8x128x256_0_1_2 (broadcastInDim S1x128x256 ![1, 2] bcast_S128x256_S1x128x256_1_2 (andi
    (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))
    (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))

theorem V_v16_apply (c : Dev nD) (h : Fin 8) (r : Fin 128) (j : Fin 256) :
    V m c main_v16 (ix3 h r j : S8x128x256.Idx) = if r.val ≤ j.val ∧ j.val ≤ r.val + 128 then atB (X1 m c) h.val r.val j.val else ⊥ := by
  have e : V m c main_v16 = select maskB (m ((c : Thread nD τ).loc main_arg1)) (broadcastInDim S8x128x256 ![] bcast_S_S8x128x256 (constant (F := Ideal) S_ .f32 0xFF800000#32)) := by
    dsimp only [V, hostOps0, hostOps0_1]
    simp only [List.flatten_cons, List.flatten_nil, List.append_nil, List.cons_append, List.nil_append]
    after_results_simp <;> rfl
  rw [e]
  pointwise [maskB]
  have hb := band r j
  refine (congrArg (fun k => Scalar.select k _ _) hb).trans ?_
  rw [ofBits_neg_inf]
  split
  · exact (atB_eq (X1 m c) h r j).symm
  · rfl

theorem index0 : ∀ t : Fin cfg0.N, win0_0.index t = ![(grid0.coords t 0).val, (grid0.coords t 2).val, 0] := (by decide +kernel : ∀ t : Fin grid0.N, _)
theorem index1 : ∀ t : Fin cfg0.N, win0_1.index t = ![(grid0.coords t 0).val, 16 * (grid0.coords t 2).val - 1, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, (grid0.coords t 2).val, 0] := (by decide +kernel : ∀ t : Fin grid0.N, _)
theorem index4 : ∀ t : Fin cfg0.N, win0_4.index t = ![(grid0.coords t 0).val, (grid0.coords t 2).val, 0] := (by decide +kernel : ∀ t : Fin grid0.N, _)

section Block
variable (c : Dev nD) (t : Fin cfg0.N)

theorem b_lt : (grid0.coords t 0).val < 8 := (grid0.coords t 0).isLt
theorem n_lt : (grid0.coords t 2).val < 4 := (grid0.coords t 2).isLt

theorem iblk0 (u k : ℕ) (hu : u < 2048) (hk : k < 1536) :
    at0 (iblk m c 0 t) u k = atS (X0 m c) (8192 * (grid0.coords t 0).val + (2048 * (grid0.coords t 2).val + u)) k := by
  have hb := b_lt t
  have hn := n_lt t
  refine (at0_eq (iblk m c 0 t) ⟨u, hu⟩ ⟨k, hk⟩).trans (Eq.trans ?_ (V_v0_apply m c (⟨(grid0.coords t 0).val, hb⟩ : Fin 8) (⟨2048 * (grid0.coords t 2).val + u, by omega⟩ : Fin 8192) (⟨k, by omega⟩ : Fin 3072)))
  blk_simp [iblk]
  exact congrArg (V m c main_v0) (by blk_ext [index0])

theorem iblk1 (u k : ℕ) (hu : u < 128) (hk : k < 1536) :
    at1 (iblk m c 1 t) u k = atS (X0 m c) (8192 * (grid0.coords t 0).val + (128 * (16 * (grid0.coords t 2).val - 1) + u)) k := by
  have hb := b_lt t
  have hn := n_lt t
  refine (at1_eq (iblk m c 1 t) ⟨u, hu⟩ ⟨k, hk⟩).trans (Eq.trans ?_ (V_v0_apply m c (⟨(grid0.coords t 0).val, hb⟩ : Fin 8) (⟨128 * (16 * (grid0.coords t 2).val - 1) + u, by omega⟩ : Fin 8192) (⟨k, by omega⟩ : Fin 3072)))
  blk_simp [iblk]
  exact congrArg (V m c main_v0) (by blk_ext [index1])

theorem iblk2 (h r j : ℕ) (hh : h < 8) (hr : r < 128) (hj : j < 256) :
    at2 (iblk m c 2 t) h r j = if r ≤ j ∧ j ≤ r + 128 then atB (X1 m c) h r j else ⊥ := by
  refine (at2_eq (iblk m c 2 t) ⟨h, hh⟩ ⟨r, hr⟩ ⟨j, hj⟩).trans (Eq.trans ?_ (V_v16_apply m c (⟨h, hh⟩ : Fin 8) (⟨r, hr⟩ : Fin 128) (⟨j, hj⟩ : Fin 256)))
  blk_simp [iblk]
  exact congrArg (V m c main_v16) (by blk_ext [index2])

variable (u T : ℕ) (hu : u < 2048) (hT : T = 2048 * (grid0.coords t 2).val + u)

include hu hT in
/-- The keys that are there. -/
theorem keyAt_eq (j k : ℕ) (hj : j < 256) (hk : k < 1536) (ok : 128 ≤ 128 * (T / 128) + j) :
    keyAt (iblk m c 0 t) (iblk m c 1 t) u j k = atS (X0 m c) (key (grid0.coords t 0).val T j) k := by
  have hn := n_lt t
  have e : T / 128 = 16 * (grid0.coords t 2).val + u / 128 := by omega
  unfold keyAt key
  split
  · next h => rw [iblk1 m c t _ _ (by omega) hk]; exact congrArg (atS (X0 m c) · k) (by omega)
  · next h => rw [iblk0 m c t _ _ (by omega) hk]; exact congrArg (atS (X0 m c) · k) (by omega)

include hu hT in
theorem lgB_eq (h j : ℕ) (hh : h < 8) (hj : j < 256) :
    lgB (grid0.coords t) (iblk m c 0 t) (iblk m c 1 t) (iblk m c 2 t) h u j = lg (X0 m c) (X1 m c) (grid0.coords t 0).val h T j := by
  have hn := n_lt t
  have e : T / 128 = 16 * (grid0.coords t 2).val + u / 128 := by omega
  have e' : T % 128 = u % 128 := by omega
  unfold lgB
  split
  · next n => rw [lg_not _ _ (fun k => by have := k.1; omega)]
  · next n =>
    rw [iblk2 m c t _ _ _ hh (by omega) hj]
    by_cases hb : u % 128 ≤ j ∧ j ≤ u % 128 + 128
    · have ok : Ok T j := ⟨by omega, by omega, by omega⟩
      rw [if_pos hb, lg_ok _ _ ok, e']
      refine congrArg (· + _) (Finset.sum_congr rfl fun d _ => ?_)
      rw [iblk0 m c t _ _ hu (by omega), keyAt_eq m c t u T hu hT j _ hj (by omega) ok.1, hT]
    · rw [if_neg hb, lg_not _ _ (fun k : Ok T j => hb ⟨by have := k.2.1; omega, by have := k.2.2; omega⟩), EReal.add_bot]

include hu hT in
theorem mB_eq (h : ℕ) (hh : h < 8) :
    mB (grid0.coords t) (iblk m c 0 t) (iblk m c 1 t) (iblk m c 2 t) h u = mx (X0 m c) (X1 m c) (grid0.coords t 0).val h T :=
  congrArg (Finset.univ.fold max ⊥) (funext fun j : Fin 256 => lgB_eq m c t u T hu hT h j.val hh j.isLt)

include hu hT in
theorem wB_eq (h j : ℕ) (hh : h < 8) (hj : j < 256) :
    wB (grid0.coords t) (iblk m c 0 t) (iblk m c 1 t) (iblk m c 2 t) h u j = wt (X0 m c) (X1 m c) (grid0.coords t 0).val h T j := by
  unfold wB wt
  rw [lgB_eq m c t u T hu hT h j hh hj, mB_eq m c t u T hu hT h hh]
  exact exp_lg _ _ _ _ _ _ _

include hu hT in
theorem oB_eq (k : ℕ) (hk : k < 512) :
    oB (grid0.coords t) (iblk m c 0 t) (iblk m c 1 t) (iblk m c 2 t) u k = att (X0 m c) (X1 m c) (grid0.coords t 0).val T k := by
  refine Finset.sum_congr rfl fun j _ => ?_
  rw [wB_eq m c t u T hu hT _ _ (by omega) j.isLt]
  by_cases ok : Ok T j.val
  · rw [keyAt_eq m c t u T hu hT _ _ j.isLt (by omega) ok.1]
  · have z : wt (X0 m c) (X1 m c) (grid0.coords t 0).val (k / 64) T j.val = 0 := if_neg ok
    rw [z, zero_mul, zero_mul]

include hu hT in
theorem lB_eq (l : ℕ) :
    lB (grid0.coords t) (iblk m c 0 t) (iblk m c 1 t) (iblk m c 2 t) u l = st (X0 m c) (X1 m c) (grid0.coords t 0).val T l := by
  unfold lB st
  by_cases h : l < 8
  · rw [if_pos h, if_pos h]; exact mB_eq m c t u T hu hT l h
  · rw [if_neg h, if_neg h]
    by_cases h' : l < 16
    · rw [if_pos h', if_pos h']; exact Finset.sum_congr rfl fun j _ => wB_eq m c t u T hu hT _ _ (by omega) j.isLt
    · rw [if_neg h', if_neg h']

end Block

/-- The arrays the kernel leaves. -/
theorem final3 (c : Dev nD) : (dats m 0 c).arrAt 3 cfg0.N = res0 (X0 m c) (X1 m c) := by
  refine (dats m 0 c).arrAt_eq_of_covers 3 _ (by decide +kernel) fun t hf y => ?_
  blk_simp
  rw [after0_3, out3_eq]
  obtain ⟨z, r, n, rfl⟩ : ∃ (z : Fin 1) (r : Fin 2048) (n : Fin 512), y = (ix3 z r n : S1x2048x512.Idx) := ⟨y 0, y 1, y 2, eq_ix3 y⟩
  obtain rfl : z = 0 := Subsingleton.elim _ _
  have hb := b_lt t
  have hn := n_lt t
  have e : (((View.whole main_v17_0).slice (win0_3.rect t)).emb (ix3 0 r n : S1x2048x512.Idx))
      = (ix3 (⟨(grid0.coords t 0).val, hb⟩ : Fin 8) (⟨2048 * (grid0.coords t 2).val + r.val, by omega⟩ : Fin 8192) n : S8x8192x512.Idx) := by
    blk_ext [index3]
  rw [e]
  exact oB_eq m c t r.val _ r.isLt rfl n.val n.isLt

theorem final4 (c : Dev nD) : (dats m 0 c).arrAt 4 cfg0.N = res1 (X0 m c) (X1 m c) := by
  refine (dats m 0 c).arrAt_eq_of_covers 4 _ (by decide +kernel) fun t hf y => ?_
  blk_simp
  rw [after0_4, out4_eq]
  obtain ⟨z, r, n, rfl⟩ : ∃ (z : Fin 1) (r : Fin 2048) (n : Fin 128), y = (ix3 z r n : S1x2048x128.Idx) := ⟨y 0, y 1, y 2, eq_ix3 y⟩
  obtain rfl : z = 0 := Subsingleton.elim _ _
  have hb := b_lt t
  have hn := n_lt t
  have e : (((View.whole main_v17_1).slice (win0_4.rect t)).emb (ix3 0 r n : S1x2048x128.Idx))
      = (ix3 (⟨(grid0.coords t 0).val, hb⟩ : Fin 8) (⟨2048 * (grid0.coords t 2).val + r.val, by omega⟩ : Fin 8192) n : S8x8192x128.Idx) := by
    blk_ext [index4]
  rw [e]
  exact lB_eq m c t r.val _ r.isLt rfl n.val

/-- Every run ends with the results at `res0`, `res1` of the arguments, and the arguments as they were. -/
theorem run : θ_run defs (onTc (τ := τ) (main (F := Ideal))) ⟨m, fun _ => 0, ρ⟩ fun r => ∀ c : Dev nD,
      r.2.mem ((c.tc : Thread nD τ).loc main_v17_0) = res0 (X0 m c) (X1 m c)
      ∧ r.2.mem ((c.tc : Thread nD τ).loc main_v17_1) = res1 (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.DilIdeal.Hand

end
-- ==== Proof.DilRefValue.lean ====
/- Windowed attention's reference at the extended reals: its results are the closed forms the kernel leaves. -/
module

public import proofs.«01_k».proof.Proof.Gen.DilRefIdeal.Run
public import proofs.«01_k».proof.Proof.Gen.DilIdeal
public import proofs.«01_k».proof.Proof.DilForm
public import Idealize.ShloMosaic.Lib.Pointwise
public import Idealize.ShloMosaic.Lib.Pipeline.ValueKit

@[expose] public section

set_option maxRecDepth 16384

noncomputable section

namespace Cert.DilRefIdeal.Hand

open Cert.DilRefIdeal Cert.DilRefIdeal.Gen Cert.DilForm
open Idealize.ShloMosaic Idealize.ShloMosaic.TcCoe Idealize.SL.Sem

theorem atS_of (x : FVec Ideal S65536x3072 .bf16) {t c : ℕ} (t' : Fin 65536) (c' : Fin 3072) (ht : t'.val = t) (hc : c'.val = c) :
    x (ix2 t' c') = atS x t c := by
  subst ht hc; exact (atS_eq x t' c').symm

/-- The queries, by block and head. -/
def qR (x : FVec Ideal S65536x3072 .bf16) : FVec Ideal S8x1x64x128x8x64 .f32 :=
  shapeCast _ (transpose S8x1x8192x8x64 [0, 2, 1, 3, 4] (shapeCast _ (extf .f32 (shapeCast _ (extractStridedSlice S65536x512 ![0, 0] x slices_S65536x3072_S65536x512_0_0) shapeCasts_S65536x512_S8x8192x8x64) bitsLt_bf16_f32) shapeCasts_S8x8192x8x64_S8x8192x1x8x64) transposes_S8x8192x1x8x64_S8x1x8192x8x64_0_2_1_3_4) shapeCasts_S8x1x8192x8x64_S8x1x64x128x8x64

theorem qR_apply (x : FVec Ideal S65536x3072 .bf16) (b : Fin 8) (n : Fin 64) (r : Fin 128) (h : Fin 8) (d : Fin 64) :
    qR x (ix6 b 0 n r h d) = atS x (8192 * b.val + (128 * n.val + r.val)) (64 * h.val + d.val) := by
  pointwise [qR]
  refine atS_of x _ _ ?_ ?_ <;> dsimp only <;> omega

/-- The keys. -/
def kR (x : FVec Ideal S65536x3072 .bf16) : FVec Ideal S8x1x64x128x8x64 .f32 :=
  shapeCast _ (transpose S8x1x8192x8x64 [0, 2, 1, 3, 4] (shapeCast _ (extf .f32 (shapeCast _ (extractStridedSlice S65536x512 ![0, 512] x slices_S65536x3072_S65536x512_0_512) shapeCasts_S65536x512_S8x8192x8x64) bitsLt_bf16_f32) shapeCasts_S8x8192x8x64_S8x8192x1x8x64) transposes_S8x8192x1x8x64_S8x1x8192x8x64_0_2_1_3_4) shapeCasts_S8x1x8192x8x64_S8x1x64x128x8x64

theorem kR_apply (x : FVec Ideal S65536x3072 .bf16) (b : Fin 8) (n : Fin 64) (r : Fin 128) (h : Fin 8) (d : Fin 64) :
    kR x (ix6 b 0 n r h d) = atS x (8192 * b.val + (128 * n.val + r.val)) (512 + 64 * h.val + d.val) := by
  pointwise [kR]
  refine atS_of x _ _ ?_ ?_ <;> dsimp only <;> omega

/-- The values. -/
def vR (x : FVec Ideal S65536x3072 .bf16) : FVec Ideal S8x1x64x128x8x64 .f32 :=
  shapeCast _ (transpose S8x1x8192x8x64 [0, 2, 1, 3, 4] (shapeCast _ (extf .f32 (shapeCast _ (extractStridedSlice S65536x512 ![0, 1024] x slices_S65536x3072_S65536x512_0_1024) shapeCasts_S65536x512_S8x8192x8x64) bitsLt_bf16_f32) shapeCasts_S8x8192x8x64_S8x8192x1x8x64) transposes_S8x8192x1x8x64_S8x1x8192x8x64_0_2_1_3_4) shapeCasts_S8x1x8192x8x64_S8x1x64x128x8x64

theorem vR_apply (x : FVec Ideal S65536x3072 .bf16) (b : Fin 8) (n : Fin 64) (r : Fin 128) (h : Fin 8) (d : Fin 64) :
    vR x (ix6 b 0 n r h d) = atS x (8192 * b.val + (128 * n.val + r.val)) (1024 + (64 * h.val + d.val)) := by
  pointwise [vR]
  refine atS_of x _ _ ?_ ?_ <;> dsimp only <;> omega

/-- A block of tokens after the block before it. -/
def prevR (a : FVec Ideal S8x1x64x128x8x64 .f32) : FVec Ideal S8x1x64x256x8x64 .f32 :=
  concatenate S8x1x64x256x8x64 3 [⟨S8x1x64x128x8x64, (pad S8x1x64x128x8x64 ![0, 0, 1, 0, 0, 0] ![0, 0, 0, 0, 0, 0] ![0, 0, 0, 0, 0, 0] (extractStridedSlice S8x1x63x128x8x64 ![0, 0, 0, 0, 0, 0] a slices_S8x1x64x128x8x64_S8x1x63x128x8x64_0_0_0_0_0_0) (sitofp (F := Ideal) .f32 (constantI S_ 32 0#32)) pads_S8x1x63x128x8x64_S8x1x64x128x8x64_000_000_100_000_000_000 h_S_)⟩, ⟨S8x1x64x128x8x64, a⟩] concatenates_S8x1x64x128x8x64_S8x1x64x128x8x64_S8x1x64x256x8x64_d3

theorem prevR_apply (a : FVec Ideal S8x1x64x128x8x64 .f32) (b : Fin 8) (n : Fin 64) (j : Fin 256) (h : Fin 8) (d : Fin 64) (hj : 128 ≤ 128 * n.val + j.val) :
    prevR a (ix6 b 0 n j h d) = a (ix6 b 0 (⟨(128 * n.val + j.val - 128) / 128, by omega⟩ : Fin 64) (⟨j.val % 128, by omega⟩ : Fin 128) h d) := by
  pointwise [prevR]
  by_cases p : j.val < 128
  · refine (dif_pos p).trans ((dif_pos (⟨by omega, p⟩ : (1 ≤ n.val ∧ n.val - 1 < 63) ∧ j.val < 128)).trans ?_)
    exact congrArg₂ (fun k l => a (ix6 b 0 k l h d)) (Fin.ext (show n.val - 1 = (128 * n.val + j.val - 128) / 128 by omega)) (Fin.ext (show j.val = j.val % 128 by omega))
  · refine (dif_neg p).trans ?_
    exact congrArg₂ (fun k l => a (ix6 b 0 k l h d)) (Fin.ext (show n.val = (128 * n.val + j.val - 128) / 128 by omega)) (Fin.ext (show j.val - 128 = j.val % 128 by omega))

/-- The keys a query sees. -/
def maskR : IVec S8x1x64x8x128x256 1 :=
  broadcastInDim S8x1x64x8x128x256 ![0, 1, 2, 3, 4, 5] bcast_S1x1x64x1x128x256_S8x1x64x8x128x256_0_1_2_3_4_5 (broadcastInDim S1x1x64x1x128x256 ![2, 4, 5] bcast_S64x128x256_S1x1x64x1x128x256_2_4_5 (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (cmpi .sge (addi (broadcastInDim S64x1x256 ![0, 1, 2] bcast_S64x1x1_S64x1x256_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 0#32))))))

theorem band : ∀ (r : Fin 128) (j : Fin 256), IntOp.andi (IntOp.cmpi CmpIPredicate.sge (IntOp.subi (IntOp.addi (BitVec.ofNat 32 r.val) 128#32) (BitVec.ofNat 32 j.val)) 0#32)
    (IntOp.cmpi CmpIPredicate.sle (IntOp.subi (IntOp.addi (BitVec.ofNat 32 r.val) 128#32) (BitVec.ofNat 32 j.val)) 128#32) = if r.val ≤ j.val ∧ j.val ≤ r.val + 128 then 1#1 else 0#1 := by
  decide +kernel

theorem there : ∀ (n : Fin 64) (j : Fin 256), IntOp.cmpi CmpIPredicate.sge (IntOp.addi (IntOp.subi (IntOp.muli (BitVec.ofNat 32 n.val) 128#32) 128#32) (BitVec.ofNat 32 j.val)) 0#32
    = if 128 ≤ 128 * n.val + j.val then 1#1 else 0#1 := by
  decide +kernel

theorem maskR_apply (b : Fin 8) (n : Fin 64) (h : Fin 8) (r : Fin 128) (j : Fin 256) :
    maskR (ix6 b 0 n h r j) = if Ok (128 * n.val + r.val) j.val then 1#1 else 0#1 := by
  pointwise [maskR]
  rw [band, there]
  have e : Ok (128 * n.val + r.val) j.val ↔ (128 ≤ 128 * n.val + j.val ∧ r.val ≤ j.val ∧ j.val ≤ r.val + 128) := by
    unfold Ok
    rw [show (128 * n.val + r.val) / 128 = n.val by omega, show (128 * n.val + r.val) % 128 = r.val by omega]
  by_cases p : 128 ≤ 128 * n.val + j.val <;> by_cases q : r.val ≤ j.val ∧ j.val ≤ r.val + 128
  · rw [if_pos p, if_pos q, if_pos (e.mpr ⟨p, q⟩)]; rfl
  · rw [if_pos p, if_neg q, if_neg fun k => q (e.mp k).2]; rfl
  · rw [if_neg p, if_pos q, if_neg fun k => p (e.mp k).1]; rfl
  · rw [if_neg p, if_neg q, if_neg fun k => p (e.mp k).1]; rfl

theorem ofBits_neg_inf : Ideal.ofBits FTy.f32 0xFF800000#32 = ⊥ := by
  simp [Ideal.ofBits, Ideal.ieee]

theorem dot1_apply (u : FVec Ideal S8x1x64x128x8x64 .f32) (w : FVec Ideal S8x1x64x256x8x64 .f32) (b : Fin 8) (n : Fin 64) (h : Fin 8) (r : Fin 128) (j : Fin 256) :
    Host.dotGeneral dot_S8x1x64x128x8x64_S8x1x64x256x8x64_S8x1x64x8x128x256_5_5_3_3_0124_0124 none u w (ix6 b 0 n h r j)
      = ∑ d : Fin 64, u (ix6 b 0 n r h d) * w (ix6 b 0 n j h d) := by
  pointwise

theorem dot2_apply (u : FVec Ideal S8x1x64x256x8x64 .f32) (w : FVec Ideal S8x1x64x8x128x256 .f32) (b : Fin 8) (n : Fin 64) (h : Fin 8) (d : Fin 64) (r : Fin 128) :
    Host.dotGeneral dot_S8x1x64x256x8x64_S8x1x64x8x128x256_S8x1x64x8x64x128_3_5_5_4_0124_0123 none u w (ix6 b 0 n h d r)
      = ∑ j : Fin 256, u (ix6 b 0 n j h d) * w (ix6 b 0 n h r j) := by
  pointwise

/-- The logits. -/
def lgR (x : FVec Ideal S65536x3072 .bf16) (b : FVec Ideal S8x128x256 .f32) : FVec Ideal S8x1x64x8x128x256 .f32 :=
  select maskR (addf (Host.dotGeneral dot_S8x1x64x128x8x64_S8x1x64x256x8x64_S8x1x64x8x128x256_5_5_3_3_0124_0124 none (qR x) (prevR (kR x))) (broadcastInDim S8x1x64x8x128x256 ![0, 1, 2, 3, 4, 5] bcast_S1x1x1x8x128x256_S8x1x64x8x128x256_0_1_2_3_4_5 (broadcastInDim S1x1x1x8x128x256 ![3, 4, 5] bcast_S8x128x256_S1x1x1x8x128x256_3_4_5 b))) (broadcastInDim S8x1x64x8x128x256 ![] bcast_S_S8x1x64x8x128x256 (id (constant (F := Ideal) S_ .f32 0xFF800000#32)))

theorem lgR_apply (x : FVec Ideal S65536x3072 .bf16) (bias : FVec Ideal S8x128x256 .f32) (b : Fin 8) (n : Fin 64) (h : Fin 8) (r : Fin 128) (j : Fin 256) :
    lgR x bias (ix6 b 0 n h r j) = lg x bias b.val h.val (128 * n.val + r.val) j.val := by
  have e : lgR x bias (ix6 b 0 n h r j) = Scalar.select (maskR (ix6 b 0 n h r j))
      ((Host.dotGeneral dot_S8x1x64x128x8x64_S8x1x64x256x8x64_S8x1x64x8x128x256_5_5_3_3_0124_0124 none (qR x) (prevR (kR x)) : FVec Ideal S8x1x64x8x128x256 .f32) (ix6 b 0 n h r j) + bias (ix3 h r j)) ⊥ := by
    rw [← ofBits_neg_inf]
    pointwise [lgR]
    rfl
  rw [e, maskR_apply, dot1_apply]
  by_cases k : Ok (128 * n.val + r.val) j.val
  · rw [if_pos k, lg_ok x bias k]
    refine congrArg₂ (· + ·) (Finset.sum_congr rfl fun d _ => ?_) ?_
    · rw [qR_apply, prevR_apply _ _ _ _ _ _ (by unfold Ok at k; omega), kR_apply]
      refine congrArg (_ * ·) (congrArg (fun t => atS x t _) ?_)
      have kj : 128 ≤ 128 * n.val + j.val := by unfold Ok at k; omega
      have hn : (128 * n.val + r.val) / 128 = n.val := by omega
      dsimp only
      unfold key
      rw [hn]
      omega
    · rw [show (128 * n.val + r.val) % 128 = r.val by omega]
      exact (atB_eq bias h r j).symm
  · rw [if_neg k, lg_not x bias k]; rfl

theorem reduces5 : S8x1x64x8x128x256.Reduces [5] S8x1x64x8x128 := by decide

theorem lift5 (b : Fin 8) (n : Fin 64) (h : Fin 8) (r : Fin 128) (j : Fin 256) :
    reduces5.lift (ix5 b 0 n h r : S8x1x64x8x128.Idx) j = ix6 b 0 n h r j := by
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- The largest logits. -/
def mxR (x : FVec Ideal S65536x3072 .bf16) (b : FVec Ideal S8x128x256 .f32) : FVec Ideal S8x1x64x8x128x1 .f32 :=
  broadcastInDim S8x1x64x8x128x1 ![0, 1, 2, 3, 4] bcast_S8x1x64x8x128_S8x1x64x8x128x1_0_1_2_3_4 (Host.reduce FloatOps.maximumf (lgR x b) (constant (F := Ideal) S_ .f32 0xFF800000#32) reducesTo_S8x1x64x8x128x256_S8x1x64x8x128_d5 h_S_)

theorem mxR_apply (x : FVec Ideal S65536x3072 .bf16) (bias : FVec Ideal S8x128x256 .f32) (b : Fin 8) (n : Fin 64) (h : Fin 8) (r : Fin 128) :
    mxR x bias (ix6 b 0 n h r 0) = mx x bias b.val h.val (128 * n.val + r.val) := by
  have e : mxR x bias (ix6 b 0 n h r 0) = Host.reduce FloatOps.maximumf (lgR x bias) (constant (F := Ideal) S_ .f32 0xFF800000#32) reducesTo_S8x1x64x8x128x256_S8x1x64x8x128_d5 h_S_ (ix5 b 0 n h r) := by
    unfold mxR
    generalize Host.reduce FloatOps.maximumf (lgR x bias) (constant (F := Ideal) S_ .f32 0xFF800000#32) reducesTo_S8x1x64x8x128x256_S8x1x64x8x128_d5 h_S_ = T
    pointwise
  rw [e, Ideal.maximumf_eq_max, Host.reduce_eq_fold_single max _ _ _ reduces5]
  unfold mx
  have e0 : (constant (F := Ideal) S_ .f32 0xFF800000#32) (Shape.Idx.first h_S_) = ⊥ := ofBits_neg_inf
  rw [e0]
  refine congrArg (fun f : Fin 256 → EReal => Finset.univ.fold max ⊥ f) (funext fun j => ?_)
  exact (congrArg (lgR x bias) (lift5 b n h r j)).trans (lgR_apply x bias b n h r j)

/-- The weights. -/
def pR (x : FVec Ideal S65536x3072 .bf16) (b : FVec Ideal S8x128x256 .f32) : FVec Ideal S8x1x64x8x128x256 .f32 :=
  select maskR (Host.exp (subf (lgR x b) (broadcastInDim S8x1x64x8x128x256 ![0, 1, 2, 3, 4, 5] bcast_S8x1x64x8x128x1_S8x1x64x8x128x256_0_1_2_3_4_5 (mxR x b)))) (broadcastInDim S8x1x64x8x128x256 ![] bcast_S_S8x1x64x8x128x256 (id (constant (F := Ideal) S_ .f32 0x00000000#32)))

theorem pR_apply (x : FVec Ideal S65536x3072 .bf16) (bias : FVec Ideal S8x128x256 .f32) (b : Fin 8) (n : Fin 64) (h : Fin 8) (r : Fin 128) (j : Fin 256) :
    pR x bias (ix6 b 0 n h r j) = wt x bias b.val h.val (128 * n.val + r.val) j.val := by
  have e : pR x bias (ix6 b 0 n h r j) = Scalar.select (maskR (ix6 b 0 n h r j)) (Ideal.exp (lgR x bias (ix6 b 0 n h r j) - mxR x bias (ix6 b 0 n h r 0))) 0 := by
    pointwise [pR]
    exact congrArg (Scalar.select _ _) Ideal.ofBits_zero_f32
  rw [e, maskR_apply, lgR_apply, mxR_apply]
  unfold wt
  split <;> rfl

theorem sumR (w : FVec Ideal S8x1x64x8x128x256 .f32) (b : Fin 8) (n : Fin 64) (h : Fin 8) (r : Fin 128) :
    Host.reduceAdd w (constant (F := Ideal) S_ .f32 0x00000000#32) reducesTo_S8x1x64x8x128x256_S8x1x64x8x128_d5 h_S_ (ix5 b 0 n h r)
      = ∑ j : Fin 256, w (ix6 b 0 n h r j) := by
  refine (Ideal.hostReduceAdd_single reducesTo_S8x1x64x8x128x256_S8x1x64x8x128_d5 reduces5 w _ _).trans ?_
  have e0 : (constant (F := Ideal) S_ .f32 0x00000000#32) (Shape.Idx.first h_S_) = (0 : EReal) := Ideal.ofBits_zero_f32
  rw [e0, zero_add]
  exact Finset.sum_congr rfl fun j _ => congrArg w (lift5 b n h r j)

/-- The weighted sums. -/
def oR (x : FVec Ideal S65536x3072 .bf16) (b : FVec Ideal S8x128x256 .f32) : FVec Ideal S8x8192x512 .f32 :=
  shapeCast _ (transpose S8x8192x1x8x64 [0, 2, 1, 3, 4] (shapeCast _ (transpose S8x1x64x128x8x64 [0, 1, 2, 5, 3, 4] (Host.dotGeneral dot_S8x1x64x256x8x64_S8x1x64x8x128x256_S8x1x64x8x64x128_3_5_5_4_0124_0123 none (prevR (vR x)) (pR x b)) transposes_S8x1x64x8x64x128_S8x1x64x128x8x64_0_1_2_5_3_4) shapeCasts_S8x1x64x128x8x64_S8x1x8192x8x64) transposes_S8x1x8192x8x64_S8x8192x1x8x64_0_2_1_3_4) shapeCasts_S8x8192x1x8x64_S8x8192x512

theorem joinO (T : FVec Ideal S8x1x64x8x64x128 .f32) (b : Fin 8) (t : Fin 8192) (c : Fin 512) :
    (shapeCast _ (transpose S8x8192x1x8x64 [0, 2, 1, 3, 4] (shapeCast _ (transpose S8x1x64x128x8x64 [0, 1, 2, 5, 3, 4] T transposes_S8x1x64x8x64x128_S8x1x64x128x8x64_0_1_2_5_3_4) shapeCasts_S8x1x64x128x8x64_S8x1x8192x8x64) transposes_S8x1x8192x8x64_S8x8192x1x8x64_0_2_1_3_4) shapeCasts_S8x8192x1x8x64_S8x8192x512 : FVec Ideal S8x8192x512 .f32) (ix3 b t c)
      = T (ix6 b 0 (⟨t.val / 128, by omega⟩ : Fin 64) (⟨c.val / 64, by omega⟩ : Fin 8) (⟨c.val % 64, by omega⟩ : Fin 64) (⟨t.val % 128, by omega⟩ : Fin 128)) := by
  pointwise

theorem oR_apply (x : FVec Ideal S65536x3072 .bf16) (bias : FVec Ideal S8x128x256 .f32) (b : Fin 8) (t : Fin 8192) (c : Fin 512) :
    oR x bias (ix3 b t c) = att x bias b.val t.val c.val := by
  refine (joinO _ b t c).trans ?_
  rw [dot2_apply]
  have et : 128 * (t.val / 128) + t.val % 128 = t.val := by omega
  unfold att
  refine Finset.sum_congr rfl fun j _ => ?_
  rw [pR_apply, mul_comm]
  dsimp only
  rw [et]
  by_cases k : Ok t.val j.val
  · refine congrArg (wt x bias b.val (c.val / 64) t.val j.val * ·) ?_
    rw [prevR_apply _ _ _ _ _ _ (by unfold Ok at k; exact k.1), vR_apply]
    dsimp only
    have ek : 8192 * b.val + (128 * ((128 * (t.val / 128) + j.val - 128) / 128) + j.val % 128) = key b.val t.val j.val := by
      unfold key; unfold Ok at k; omega
    rw [ek, show 64 * (c.val / 64) + c.val % 64 = c.val by omega]
  · have e : wt x bias b.val (c.val / 64) t.val j.val = 0 := if_neg k
    rw [e, zero_mul, zero_mul]

/-- The sums of the weights. -/
def smR (x : FVec Ideal S65536x3072 .bf16) (b : FVec Ideal S8x128x256 .f32) : FVec Ideal S8x1x64x8x128x1 .f32 :=
  broadcastInDim S8x1x64x8x128x1 ![0, 1, 2, 3, 4] bcast_S8x1x64x8x128_S8x1x64x8x128x1_0_1_2_3_4 (Host.reduceAdd (pR x b) (constant (F := Ideal) S_ .f32 0x00000000#32) reducesTo_S8x1x64x8x128x256_S8x1x64x8x128_d5 h_S_)

theorem smR_apply (x : FVec Ideal S65536x3072 .bf16) (bias : FVec Ideal S8x128x256 .f32) (b : Fin 8) (n : Fin 64) (h : Fin 8) (r : Fin 128) :
    smR x bias (ix6 b 0 n h r 0) = ∑ j : Fin 256, wt x bias b.val h.val (128 * n.val + r.val) j.val := by
  have e : smR x bias (ix6 b 0 n h r 0) = Host.reduceAdd (pR x bias) (constant (F := Ideal) S_ .f32 0x00000000#32) reducesTo_S8x1x64x8x128x256_S8x1x64x8x128_d5 h_S_ (ix5 b 0 n h r) := by
    unfold smR
    generalize Host.reduceAdd (pR x bias) (constant (F := Ideal) S_ .f32 0x00000000#32) reducesTo_S8x1x64x8x128x256_S8x1x64x8x128_d5 h_S_ = T
    pointwise
  rw [e, sumR]
  exact Finset.sum_congr rfl fun j _ => pR_apply x bias b n h r j

/-- One number a token and head, by token. -/
def joinS (T : FVec Ideal S8x1x64x8x128x1 .f32) : FVec Ideal S8x8192x8 .f32 :=
  shapeCast _ (transpose S8x8192x1x8 [0, 2, 1, 3] (shapeCast _ (transpose S8x1x64x128x8 [0, 1, 2, 4, 3] (shapeCast _ T shapeCasts_S8x1x64x8x128x1_S8x1x64x8x128) transposes_S8x1x64x8x128_S8x1x64x128x8_0_1_2_4_3) shapeCasts_S8x1x64x128x8_S8x1x8192x8) transposes_S8x1x8192x8_S8x8192x1x8_0_2_1_3) shapeCasts_S8x8192x1x8_S8x8192x8

theorem joinS_apply (T : FVec Ideal S8x1x64x8x128x1 .f32) (b : Fin 8) (t : Fin 8192) (h : Fin 8) :
    joinS T (ix3 b t h) = T (ix6 b 0 (⟨t.val / 128, by omega⟩ : Fin 64) h (⟨t.val % 128, by omega⟩ : Fin 128) 0) := by
  pointwise [joinS]

/-- The pair for the mixture. -/
def stR (x : FVec Ideal S65536x3072 .bf16) (b : FVec Ideal S8x128x256 .f32) : FVec Ideal S8x8192x128 .f32 :=
  (concatenate S8x8192x128 2 [⟨S8x8192x8, ((joinS (mxR x b)) : (⟨S8x8192x8, .f32⟩ : BufTy).Contents (Elt Ideal))⟩, ⟨S8x8192x8, ((joinS (smR x b)) : (⟨S8x8192x8, .f32⟩ : BufTy).Contents (Elt Ideal))⟩, ⟨S8x8192x112, ((broadcastInDim S8x8192x112 ![] bcast_S_S8x8192x112 (constant (F := Ideal) S_ .f32 0x00000000#32)) : (⟨S8x8192x112, .f32⟩ : BufTy).Contents (Elt Ideal))⟩] concatenates_S8x8192x8_S8x8192x8_S8x8192x112_S8x8192x128_d2 : (⟨S8x8192x128, .f32⟩ : BufTy).Contents (Elt Ideal))

theorem stR_apply (x : FVec Ideal S65536x3072 .bf16) (bias : FVec Ideal S8x128x256 .f32) (b : Fin 8) (t : Fin 8192) (l : Fin 128) :
    stR x bias (ix3 b t l) = st x bias b.val t.val l.val := by
  have et : 128 * (t.val / 128) + t.val % 128 = t.val := by omega
  have em (h : Fin 8) : joinS (mxR x bias) (ix3 b t h) = mx x bias b.val h.val t.val := by
    rw [joinS_apply, mxR_apply]; simp only [et]
  have es (h : Fin 8) : joinS (smR x bias) (ix3 b t h) = ∑ j : Fin 256, wt x bias b.val h.val t.val j.val := by
    rw [joinS_apply, smR_apply]; simp only [et]
  unfold stR st
  generalize joinS (mxR x bias) = A at em ⊢
  generalize joinS (smR x bias) = C at es ⊢
  pointwise
  by_cases p : l.val < 8
  · exact (dif_pos p).trans ((em ⟨l.val, p⟩).trans (if_pos p).symm)
  · by_cases q : l.val < 16
    · have q' : l.val - 8 < 8 := by omega
      exact (dif_neg p).trans ((dif_pos q').trans ((es ⟨l.val - 8, q'⟩).trans ((if_pos q).symm.trans (if_neg p).symm)))
    · have q' : ¬ l.val - 8 < 8 := by omega
      exact (dif_neg p).trans ((dif_neg q').trans ((if_neg q).symm.trans (if_neg p).symm))

theorem ref0 (x : FVec Ideal S65536x3072 .bf16) (bias : FVec Ideal S8x128x256 .f32) : oR x bias = res0 x bias := by
  funext y
  obtain ⟨b, t, c, rfl⟩ : ∃ (b : Fin 8) (t : Fin 8192) (c : Fin 512), y = (ix3 b t c : S8x8192x512.Idx) := ⟨y 0, y 1, y 2, eq_ix3 y⟩
  exact oR_apply x bias b t c

theorem ref1 (x : FVec Ideal S65536x3072 .bf16) (bias : FVec Ideal S8x128x256 .f32) : stR x bias = res1 x bias := by
  funext y
  obtain ⟨b, t, l, rfl⟩ : ∃ (b : Fin 8) (t : Fin 8192) (l : Fin 128), y = (ix3 b t l : S8x8192x128.Idx) := ⟨y 0, y 1, y 2, eq_ix3 y⟩
  exact stR_apply x bias b t l

theorem out0 (m : (ℓ : Loc nD τ sig) → Buf (Elt Ideal) ℓ) (c : Dev nD) :
    Value.res_main_v72 (F := Ideal) m c = oR (m ((c.tc : Thread nD τ).loc main_arg0)) (m ((c.tc : Thread nD τ).loc main_arg1)) := rfl

theorem out1 (m : (ℓ : Loc nD τ sig) → Buf (Elt Ideal) ℓ) (c : Dev nD) :
    Value.res_main_v84 (F := Ideal) m c = stR (m ((c.tc : Thread nD τ).loc main_arg0)) (m ((c.tc : Thread nD τ).loc main_arg1)) := rfl

end Cert.DilRefIdeal.Hand

end
-- ==== Proof.DilAlgebra.lean ====
/- Windowed attention: the kernel and its reference leave the same two arrays. -/
module

public import proofs.«01_k».proof.Defs
public import proofs.«01_k».proof.Proof.DilValue
public import proofs.«01_k».proof.Proof.DilRefValue
public import Idealize.ShloMosaic.Lib.Quiescent

@[expose] public section

noncomputable section

namespace Cert.DilAlgebra

open Idealize.ShloMosaic Idealize.ShloMosaic.TcCoe Idealize.SL.Sem
open Cert.DilForm Cert.DilIdeal.Hand

/-- The reference's run leaves its arguments; it has no semaphore. -/
theorem frame_reference : Cert.quiescent_DilRefIdeal := fun m ρ _ =>
  (θ_run Cert.DilRefIdeal.defs _ _).mono (fun r h => ⟨fun c => (h c).2.2, Idealize.ShloMosaic.sem_eq_zero_of_no_sems (by decide) r.2⟩)
    (Cert.DilRefIdeal.Value.run (F := Ideal) m ρ)

/-- The kernel's literal is the named constant's word. -/
theorem preserves : Cert.preserves_Dil_DilIdeal :=
  IdealRules.named_const.statement Cert.DilIdeal.κ "neg_inf" .f32 0xF149F2CA#32 ⊥ rfl

theorem algebraic : Cert.algebraic_DilIdeal_DilRefIdeal := fun m g m' g' _ hagree =>
  ⟨fun c => res0 (X0 m c) (X1 m c), fun c => res1 (X0 m c) (X1 m c), Cert.DilIdeal.Hand.run m g,
    (θ_run _ _ _).mono (fun r h c => by
      obtain ⟨h0, h1, ha⟩ := h c
      obtain ⟨e0, e1⟩ := hagree c
      refine ⟨h0.trans ?_, h1.trans ?_, ha⟩
      · refine ((Cert.DilRefIdeal.Hand.out0 m' c).trans (Cert.DilRefIdeal.Hand.ref0 _ _)).trans ?_
        rw [e0, e1]
      · refine ((Cert.DilRefIdeal.Hand.out1 m' c).trans (Cert.DilRefIdeal.Hand.ref1 _ _)).trans ?_
        rw [e0, e1]) (Cert.DilRefIdeal.Value.run (F := Ideal) m' g')⟩

end Cert.DilAlgebra

end
-- ==== Proof.Dil4Blocks.lean ====
/- The two blocks that the body of `dilated` leaves at dilation 4: the body is the same as at dilation 1. -/
module

public import proofs.«01_k».proof.Proof.DilBlocks
public import proofs.«01_k».proof.Proof.Gen.Dil4Ideal.Frame

@[expose] public section

set_option maxRecDepth 16384

noncomputable section

namespace Cert.Dil4Ideal.Hand

open Cert.Dil4Ideal Cert.Dil4Ideal.Gen
open Idealize.ShloMosaic Idealize.ShloMosaic.TcCoe Idealize.SL.Sem

/-- A step of this grid as a step of the other: its last coordinate alone is read. -/
def stepOf (i : grid0.Coords) : Cert.DilIdeal.grid0.Coords := fun k => match k with
  | ⟨0, _⟩ => (i 0 : Fin 8)
  | ⟨1, _⟩ => (0 : Fin 1)
  | ⟨2, _⟩ => (⟨(i 2).val, Nat.lt_of_lt_of_le (i 2).isLt (by decide : 1 ≤ 4)⟩ : Fin 4)

variable (i : grid0.Coords) (x0 : Vec Ideal S1x2048x1536 .bf16) (x1 : Vec Ideal S1x128x1536 .bf16) (x2 : Vec Ideal S8x128x256 .f32)

/-- The block of the first result. -/
theorem out3_eq : out0_3 (F := Ideal) i x0 x1 x2 = Cert.DilIdeal.Hand.GO (stepOf i) x0 x1 x2 :=
  (rfl : out0_3 (F := Ideal) i x0 x1 x2 = Cert.DilIdeal.Gen.out0_3 (F := Ideal) (stepOf i) x0 x1 x2).trans (Cert.DilIdeal.Hand.out3_eq (stepOf i) x0 x1 x2)

/-- The block of the second result. -/
theorem out4_eq : out0_4 (F := Ideal) i x0 x1 x2 = Cert.DilIdeal.Hand.GS (stepOf i) x0 x1 x2 :=
  (rfl : out0_4 (F := Ideal) i x0 x1 x2 = Cert.DilIdeal.Gen.out0_4 (F := Ideal) (stepOf i) x0 x1 x2).trans (Cert.DilIdeal.Hand.out4_eq (stepOf i) x0 x1 x2)

end Cert.Dil4Ideal.Hand

end
-- ==== Proof.DilSeqForm.lean ====
/- Windowed attention at the extended reals along one sequence of tokens, and the results of a dilation as its sequences' results. -/
module

public import proofs.«01_k».proof.Proof.DilForm
public import proofs.«01_k».proof.Proof.Gen.Dil4Ideal

@[expose] public section

noncomputable section

namespace Cert.DilSeqForm

open Idealize.ShloMosaic Idealize.ShloMosaic.TcCoe Idealize.SL.Sem
open Cert.Dil4Ideal (S16384x6144 S8x128x256 S8x2048x2048 S8x2048x512)
open Cert.DilForm (Ok atB)

section Seq
variable (s : ℕ → ℕ → EReal) (bias : S8x128x256.Idx → EReal)

/-- The `j`-th key of token `t`. -/
def kt (t j : ℕ) : ℕ := 128 * (t / 128) + j - 128

/-- The logit of head `h`, the largest of a token, the weight, the weighted sum of the values, and the pair the call leaves for
    the mixture: the largest logits of the 8 heads, then the sums of their weights. `s t c` is entry `c` of the sequence's token `t`. -/
def lg (h t j : ℕ) : EReal :=
  if Ok t j then (∑ d : Fin 64, s t (64 * h + d.val) * s (kt t j) (512 + 64 * h + d.val)) + atB bias h (t % 128) j else ⊥
def mx (h t : ℕ) : EReal := Finset.univ.fold max ⊥ fun j : Fin 256 => lg s bias h t j.val
def wt (h t j : ℕ) : EReal := if Ok t j then Ideal.exp (lg s bias h t j - mx s bias h t) else 0
def att (t c : ℕ) : EReal := ∑ j : Fin 256, wt s bias (c / 64) t j.val * s (kt t j.val) (1024 + c)
def st (t l : ℕ) : EReal :=
  if l < 8 then mx s bias l t else if l < 16 then ∑ j : Fin 256, wt s bias (l - 8) t j.val else 0

theorem lg_not {h t j : ℕ} (n : ¬ Ok t j) : lg s bias h t j = ⊥ := if_neg n

theorem lg_ok {h t j : ℕ} (n : Ok t j) : lg s bias h t j
    = (∑ d : Fin 64, s t (64 * h + d.val) * s (kt t j) (512 + 64 * h + d.val)) + atB bias h (t % 128) j := if_pos n

/-- A token that is not seen has weight zero. -/
theorem exp_lg (h t j : ℕ) (M : EReal) : Ideal.exp (lg s bias h t j - M) = if Ok t j then Ideal.exp (lg s bias h t j - M) else 0 := by
  by_cases n : Ok t j
  · rw [if_pos n]
  · rw [if_neg n, lg_not s bias n, EReal.bot_sub]; rfl

end Seq

variable (src : S16384x6144.Idx → EReal) (bias : S8x128x256.Idx → EReal)

/-- At dilation 4 the tokens `e`, `e + 4`, … of batch entry `b` are a sequence. Four tokens are a row of the argument. -/
def at4 (t c : ℕ) : EReal := if h : t < 16384 ∧ c < 6144 then src (ix2 (⟨t, h.1⟩ : Fin 16384) (⟨c, h.2⟩ : Fin 6144)) else 0
theorem at4_eq (t : Fin 16384) (c : Fin 6144) : at4 src t.val c.val = src (ix2 t c) := dif_pos ⟨t.isLt, c.isLt⟩
theorem at4_of (t' : Fin 16384) (c' : Fin 6144) {t c : ℕ} (ht : t'.val = t) (hc : c'.val = c) : src (ix2 t' c') = at4 src t c := by
  subst ht hc; exact (at4_eq src t' c').symm
def seq4 (b e : ℕ) : ℕ → ℕ → EReal := fun t c => at4 src (2048 * b + t) (1536 * e + c)

def res0 : S8x2048x2048.Idx → EReal := fun y => att (seq4 src (y 0).val ((y 2).val / 512)) bias (y 1).val ((y 2).val % 512)
def res1 : S8x2048x512.Idx → EReal := fun y => st (seq4 src (y 0).val ((y 2).val / 128)) bias (y 1).val ((y 2).val % 128)

end Cert.DilSeqForm

end
-- ==== Proof.Dil4Value.lean ====
/- `dilated` at dilation 4, at the extended reals: the two arrays the kernel leaves. -/
module

public import proofs.«01_k».proof.Proof.Dil4Blocks
public import proofs.«01_k».proof.Proof.DilSeqForm

@[expose] public section

set_option maxRecDepth 16384

noncomputable section

namespace Cert.Dil4Ideal.Hand

open Cert.Dil4Ideal Cert.Dil4Ideal.Gen Cert.DilSeqForm
open Cert.DilForm (Ok atB atB_eq)
open Cert.DilIdeal.Hand (at0 at1 at2 at0_eq at1_eq at2_eq keyAt lgB mB wB oB lB GO GS ofBits_neg_inf)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments. -/
abbrev X0 (c : Dev nD) : S16384x6144.Idx → EReal := m ((c : Thread nD τ).loc main_arg0)
abbrev X1 (c : Dev nD) : S8x128x256.Idx → EReal := m ((c : Thread nD τ).loc main_arg1)

theorem V_v0 (c : Dev nD) : V m c main_v0 = shapeCast S8x2048x6144 (m ((c : Thread nD τ).loc main_arg0)) shapeCasts_S16384x6144_S8x2048x6144 := by
  dsimp only [V, hostOps0, hostOps0_1]
  simp only [List.flatten_cons, List.flatten_nil, List.append_nil, List.cons_append, List.nil_append]
  after_results_simp <;> rfl

theorem fold_apply (x : S16384x6144.Idx → EReal) (b : Fin 8) (T : Fin 2048) (n : Fin 6144) :
    shapeCast (α := EReal) S8x2048x6144 x shapeCasts_S16384x6144_S8x2048x6144 (ix3 b T n) = x (ix2 (⟨2048 * b.val + T.val, by omega⟩ : Fin 16384) n) := by
  pointwise
  exact congrArg (fun k => x (ix2 k n)) (Fin.ext (show b.val * 2048 + T.val = 2048 * b.val + T.val by omega))

theorem V_v0_apply (c : Dev nD) (b : Fin 8) (T : Fin 2048) (n : Fin 6144) : V m c main_v0 (ix3 b T n : S8x2048x6144.Idx) = at4 (X0 m c) (2048 * b.val + T.val) n.val := by
  rw [V_v0, fold_apply]
  exact at4_of _ _ _ rfl rfl

theorem band : ∀ (r : Fin 128) (j : Fin 256), IntOp.andi (IntOp.cmpi CmpIPredicate.sge (BitVec.ofNat 32 r.val + 128#32 - BitVec.ofNat 32 j.val) 0#32)
    (IntOp.cmpi CmpIPredicate.sle (BitVec.ofNat 32 r.val + 128#32 - BitVec.ofNat 32 j.val) 128#32) = if r.val ≤ j.val ∧ j.val ≤ r.val + 128 then 1#1 else 0#1 := by
  decide +kernel

/-- The keys in the band, for every head. -/
def maskB : IVec S8x128x256 1 :=
  broadcastInDim S8x128x256 ![0, 1, 2] bcast_S1x128x256_S8x128x256_0_1_2 (broadcastInDim S1x128x256 ![1, 2] bcast_S128x256_S1x128x256_1_2 (andi
    (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))
    (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))

theorem V_v16_apply (c : Dev nD) (h : Fin 8) (r : Fin 128) (j : Fin 256) :
    V m c main_v16 (ix3 h r j : S8x128x256.Idx) = if r.val ≤ j.val ∧ j.val ≤ r.val + 128 then atB (X1 m c) h.val r.val j.val else ⊥ := by
  have e : V m c main_v16 = select maskB (m ((c : Thread nD τ).loc main_arg1)) (broadcastInDim S8x128x256 ![] bcast_S_S8x128x256 (constant (F := Ideal) S_ .f32 0xFF800000#32)) := by
    dsimp only [V, hostOps0, hostOps0_1]
    simp only [List.flatten_cons, List.flatten_nil, List.append_nil, List.cons_append, List.nil_append]
    after_results_simp <;> rfl
  rw [e]
  pointwise [maskB]
  have hb := band r j
  refine (congrArg (fun k => Scalar.select k _ _) hb).trans ?_
  rw [ofBits_neg_inf]
  split
  · exact (atB_eq (X1 m c) h r j).symm
  · rfl

theorem index0 : ∀ t : Fin cfg0.N, win0_0.index t = ![(grid0.coords t 0).val, 0, (grid0.coords t 1).val] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, 0, (grid0.coords t 1).val] := (by decide +kernel : ∀ t : Fin grid0.N, _)
theorem index4 : ∀ t : Fin cfg0.N, win0_4.index t = ![(grid0.coords t 0).val, 0, (grid0.coords t 1).val] := (by decide +kernel : ∀ t : Fin grid0.N, _)

section Block
variable (c : Dev nD) (t : Fin cfg0.N)

theorem b_lt : (grid0.coords t 0).val < 8 := (grid0.coords t 0).isLt
theorem e_lt : (grid0.coords t 1).val < 4 := (grid0.coords t 1).isLt

/-- The sequence of a step. -/
abbrev sq : ℕ → ℕ → EReal := seq4 (X0 m c) (grid0.coords t 0).val (grid0.coords t 1).val

/-- The step's group before its first is never there. -/
theorem n_zero : (stepOf (grid0.coords t) 2).val = 0 := Nat.lt_one_iff.mp (grid0.coords t 2).isLt

theorem iblk0 (u k : ℕ) (hu : u < 2048) (hk : k < 1536) :
    at0 (iblk m c 0 t) u k = sq m c t u k := by
  have hb := b_lt t
  have hn := e_lt t
  refine (at0_eq (iblk m c 0 t) ⟨u, hu⟩ ⟨k, hk⟩).trans (Eq.trans ?_ (V_v0_apply m c (⟨(grid0.coords t 0).val, hb⟩ : Fin 8) (⟨u, hu⟩ : Fin 2048) (⟨1536 * (grid0.coords t 1).val + k, by omega⟩ : Fin 6144)))
  blk_simp [iblk]
  exact congrArg (V m c main_v0) (by blk_ext [index0])

theorem iblk2 (h r j : ℕ) (hh : h < 8) (hr : r < 128) (hj : j < 256) :
    at2 (iblk m c 2 t) h r j = if r ≤ j ∧ j ≤ r + 128 then atB (X1 m c) h r j else ⊥ := by
  refine (at2_eq (iblk m c 2 t) ⟨h, hh⟩ ⟨r, hr⟩ ⟨j, hj⟩).trans (Eq.trans ?_ (V_v16_apply m c (⟨h, hh⟩ : Fin 8) (⟨r, hr⟩ : Fin 128) (⟨j, hj⟩ : Fin 256)))
  blk_simp [iblk]
  exact congrArg (V m c main_v16) (by blk_ext [index2])

variable (u : ℕ) (hu : u < 2048)

include hu in
/-- The keys that are there. -/
theorem keyAt_eq (j k : ℕ) (hj : j < 256) (hk : k < 1536) (ok : 128 ≤ 128 * (u / 128) + j) :
    keyAt (iblk m c 0 t) (iblk m c 1 t) u j k = sq m c t (kt u j) k := by
  unfold keyAt
  rw [if_neg (by omega)]
  exact iblk0 m c t _ _ (by omega) hk

include hu in
theorem lgB_eq (h j : ℕ) (hh : h < 8) (hj : j < 256) :
    lgB (stepOf (grid0.coords t)) (iblk m c 0 t) (iblk m c 1 t) (iblk m c 2 t) h u j = lg (sq m c t) (X1 m c) h u j := by
  have hn := n_zero t
  unfold lgB
  split
  · next n => rw [lg_not _ _ (fun k => by have := k.1; omega)]
  · next n =>
    rw [iblk2 m c t _ _ _ hh (by omega) hj]
    by_cases hb : u % 128 ≤ j ∧ j ≤ u % 128 + 128
    · have ok : Ok u j := ⟨by omega, by omega, by omega⟩
      rw [if_pos hb, lg_ok _ _ ok]
      refine congrArg (· + _) (Finset.sum_congr rfl fun d _ => ?_)
      rw [iblk0 m c t _ _ hu (by omega), keyAt_eq m c t u hu j _ hj (by omega) ok.1]
    · rw [if_neg hb, lg_not _ _ (fun k : Ok u j => hb ⟨by have := k.2.1; omega, by have := k.2.2; omega⟩), EReal.add_bot]

include hu in
theorem mB_eq (h : ℕ) (hh : h < 8) :
    mB (stepOf (grid0.coords t)) (iblk m c 0 t) (iblk m c 1 t) (iblk m c 2 t) h u = mx (sq m c t) (X1 m c) h u :=
  congrArg (Finset.univ.fold max ⊥) (funext fun j : Fin 256 => lgB_eq m c t u hu h j.val hh j.isLt)

include hu in
theorem wB_eq (h j : ℕ) (hh : h < 8) (hj : j < 256) :
    wB (stepOf (grid0.coords t)) (iblk m c 0 t) (iblk m c 1 t) (iblk m c 2 t) h u j = wt (sq m c t) (X1 m c) h u j := by
  unfold wB wt
  rw [lgB_eq m c t u hu h j hh hj, mB_eq m c t u hu h hh]
  exact exp_lg _ _ _ _ _ _

include hu in
theorem oB_eq (k : ℕ) (hk : k < 512) :
    oB (stepOf (grid0.coords t)) (iblk m c 0 t) (iblk m c 1 t) (iblk m c 2 t) u k = att (sq m c t) (X1 m c) u k := by
  refine Finset.sum_congr rfl fun j _ => ?_
  rw [wB_eq m c t u hu _ _ (by omega) j.isLt]
  by_cases ok : Ok u j.val
  · rw [keyAt_eq m c t u hu _ _ j.isLt (by omega) ok.1]
  · have z : wt (sq m c t) (X1 m c) (k / 64) u j.val = 0 := if_neg ok
    rw [z, zero_mul, zero_mul]

include hu in
theorem lB_eq (l : ℕ) :
    lB (stepOf (grid0.coords t)) (iblk m c 0 t) (iblk m c 1 t) (iblk m c 2 t) u l = st (sq m c t) (X1 m c) u l := by
  unfold lB st
  by_cases h : l < 8
  · rw [if_pos h, if_pos h]; exact mB_eq m c t u hu l h
  · rw [if_neg h, if_neg h]
    by_cases h' : l < 16
    · rw [if_pos h', if_pos h']; exact Finset.sum_congr rfl fun j _ => wB_eq m c t u hu _ _ (by omega) j.isLt
    · rw [if_neg h', if_neg h']

end Block

/-- The arrays the kernel leaves. -/
theorem final3 (c : Dev nD) : (dats m 0 c).arrAt 3 cfg0.N = res0 (X0 m c) (X1 m c) := by
  refine (dats m 0 c).arrAt_eq_of_covers 3 _ (by decide +kernel) fun t hf y => ?_
  blk_simp
  rw [after0_3, out3_eq]
  obtain ⟨z, r, n, rfl⟩ : ∃ (z : Fin 1) (r : Fin 2048) (n : Fin 512), y = (ix3 z r n : S1x2048x512.Idx) := ⟨y 0, y 1, y 2, eq_ix3 y⟩
  obtain rfl : z = 0 := Subsingleton.elim _ _
  have hb := b_lt t
  have hn := e_lt t
  have e : (((View.whole main_v17_0).slice (win0_3.rect t)).emb (ix3 0 r n : S1x2048x512.Idx))
      = (ix3 (⟨(grid0.coords t 0).val, hb⟩ : Fin 8) r (⟨512 * (grid0.coords t 1).val + n.val, by omega⟩ : Fin 2048) : S8x2048x2048.Idx) := by
    blk_ext [index3]
  rw [e]
  have e1 : (512 * (grid0.coords t 1).val + n.val) / 512 = (grid0.coords t 1).val := by omega
  have e2 : (512 * (grid0.coords t 1).val + n.val) % 512 = n.val := by omega
  refine (oB_eq m c t r.val r.isLt n.val n.isLt).trans ?_
  exact (congrArg₂ (fun p q => att (seq4 (X0 m c) (grid0.coords t 0).val p) (X1 m c) r.val q) e1 e2).symm

theorem final4 (c : Dev nD) : (dats m 0 c).arrAt 4 cfg0.N = res1 (X0 m c) (X1 m c) := by
  refine (dats m 0 c).arrAt_eq_of_covers 4 _ (by decide +kernel) fun t hf y => ?_
  blk_simp
  rw [after0_4, out4_eq]
  obtain ⟨z, r, n, rfl⟩ : ∃ (z : Fin 1) (r : Fin 2048) (n : Fin 128), y = (ix3 z r n : S1x2048x128.Idx) := ⟨y 0, y 1, y 2, eq_ix3 y⟩
  obtain rfl : z = 0 := Subsingleton.elim _ _
  have hb := b_lt t
  have hn := e_lt t
  have e : (((View.whole main_v17_1).slice (win0_4.rect t)).emb (ix3 0 r n : S1x2048x128.Idx))
      = (ix3 (⟨(grid0.coords t 0).val, hb⟩ : Fin 8) r (⟨128 * (grid0.coords t 1).val + n.val, by omega⟩ : Fin 512) : S8x2048x512.Idx) := by
    blk_ext [index4]
  rw [e]
  have e1 : (128 * (grid0.coords t 1).val + n.val) / 128 = (grid0.coords t 1).val := by omega
  have e2 : (128 * (grid0.coords t 1).val + n.val) % 128 = n.val := by omega
  refine (lB_eq m c t r.val r.isLt n.val).trans ?_
  exact (congrArg₂ (fun p q => st (seq4 (X0 m c) (grid0.coords t 0).val p) (X1 m c) r.val q) e1 e2).symm

/-- Every run ends with the results at `res0`, `res1` of the arguments, and the arguments as they were. -/
theorem run : θ_run defs (onTc (τ := τ) (main (F := Ideal))) ⟨m, fun _ => 0, ρ⟩ fun r => ∀ c : Dev nD,
      r.2.mem ((c.tc : Thread nD τ).loc main_v17_0) = res0 (X0 m c) (X1 m c)
      ∧ r.2.mem ((c.tc : Thread nD τ).loc main_v17_1) = res1 (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Dil4Ideal.Hand

end
-- ==== Proof.Dil4RefValue.lean ====
/- Windowed attention's reference at dilation 4, at the extended reals: its results are the closed forms the kernel leaves. -/
module

public import proofs.«01_k».proof.Proof.Gen.Dil4RefIdeal.Run
public import proofs.«01_k».proof.Proof.Gen.Dil4Ideal
public import proofs.«01_k».proof.Proof.DilSeqForm
public import Idealize.ShloMosaic.Lib.Pointwise
public import Idealize.ShloMosaic.Lib.Pipeline.ValueKit

@[expose] public section

set_option maxRecDepth 16384

noncomputable section

namespace Cert.Dil4RefIdeal.Hand

open Cert.Dil4RefIdeal Cert.Dil4RefIdeal.Gen Cert.DilSeqForm
open Cert.DilForm (Ok atB atB_eq)
open Idealize.ShloMosaic Idealize.ShloMosaic.TcCoe Idealize.SL.Sem

/-- A token a row. -/
def flatR (x : FVec Ideal S16384x6144 .bf16) : FVec Ideal S65536x1536 .bf16 := shapeCast _ x shapeCasts_S16384x6144_S65536x1536

theorem flatR_apply (x : FVec Ideal S16384x6144 .bf16) (t : Fin 65536) (c : Fin 1536) :
    flatR x (ix2 t c) = at4 x (t.val / 4) (1536 * (t.val % 4) + c.val) := by
  pointwise [flatR]
  refine at4_of x _ _ ?_ ?_ <;> dsimp only <;> omega

/-- The queries, by block and head. -/
def qR (x : FVec Ideal S16384x6144 .bf16) : FVec Ideal S8x4x16x128x8x64 .f32 :=
  shapeCast _ (transpose S8x4x2048x8x64 [0, 2, 1, 3, 4] (shapeCast _ (extf .f32 (shapeCast _ (extractStridedSlice S65536x512 ![0, 0] (flatR x) slices_S65536x1536_S65536x512_0_0) shapeCasts_S65536x512_S8x8192x8x64) bitsLt_bf16_f32) shapeCasts_S8x8192x8x64_S8x2048x4x8x64) transposes_S8x2048x4x8x64_S8x4x2048x8x64_0_2_1_3_4) shapeCasts_S8x4x2048x8x64_S8x4x16x128x8x64

theorem qR_apply (x : FVec Ideal S16384x6144 .bf16) (b : Fin 8) (e : Fin 4) (n : Fin 16) (r : Fin 128) (h : Fin 8) (d : Fin 64) :
    qR x (ix6 b e n r h d) = seq4 x b.val e.val (128 * n.val + r.val) (64 * h.val + d.val) := by
  pointwise [qR]
  refine (flatR_apply x _ _).trans ?_
  unfold seq4
  refine congrArg₂ (at4 x) ?_ ?_ <;> dsimp only <;> omega

/-- The keys. -/
def kR (x : FVec Ideal S16384x6144 .bf16) : FVec Ideal S8x4x16x128x8x64 .f32 :=
  shapeCast _ (transpose S8x4x2048x8x64 [0, 2, 1, 3, 4] (shapeCast _ (extf .f32 (shapeCast _ (extractStridedSlice S65536x512 ![0, 512] (flatR x) slices_S65536x1536_S65536x512_0_512) shapeCasts_S65536x512_S8x8192x8x64) bitsLt_bf16_f32) shapeCasts_S8x8192x8x64_S8x2048x4x8x64) transposes_S8x2048x4x8x64_S8x4x2048x8x64_0_2_1_3_4) shapeCasts_S8x4x2048x8x64_S8x4x16x128x8x64

theorem kR_apply (x : FVec Ideal S16384x6144 .bf16) (b : Fin 8) (e : Fin 4) (n : Fin 16) (r : Fin 128) (h : Fin 8) (d : Fin 64) :
    kR x (ix6 b e n r h d) = seq4 x b.val e.val (128 * n.val + r.val) (512 + 64 * h.val + d.val) := by
  pointwise [kR]
  refine (flatR_apply x _ _).trans ?_
  unfold seq4
  refine congrArg₂ (at4 x) ?_ ?_ <;> dsimp only <;> omega

/-- The values. -/
def vR (x : FVec Ideal S16384x6144 .bf16) : FVec Ideal S8x4x16x128x8x64 .f32 :=
  shapeCast _ (transpose S8x4x2048x8x64 [0, 2, 1, 3, 4] (shapeCast _ (extf .f32 (shapeCast _ (extractStridedSlice S65536x512 ![0, 1024] (flatR x) slices_S65536x1536_S65536x512_0_1024) shapeCasts_S65536x512_S8x8192x8x64) bitsLt_bf16_f32) shapeCasts_S8x8192x8x64_S8x2048x4x8x64) transposes_S8x2048x4x8x64_S8x4x2048x8x64_0_2_1_3_4) shapeCasts_S8x4x2048x8x64_S8x4x16x128x8x64

theorem vR_apply (x : FVec Ideal S16384x6144 .bf16) (b : Fin 8) (e : Fin 4) (n : Fin 16) (r : Fin 128) (h : Fin 8) (d : Fin 64) :
    vR x (ix6 b e n r h d) = seq4 x b.val e.val (128 * n.val + r.val) (1024 + (64 * h.val + d.val)) := by
  pointwise [vR]
  refine (flatR_apply x _ _).trans ?_
  unfold seq4
  refine congrArg₂ (at4 x) ?_ ?_ <;> dsimp only <;> omega

/-- A block of tokens after the block before it. -/
def prevR (a : FVec Ideal S8x4x16x128x8x64 .f32) : FVec Ideal S8x4x16x256x8x64 .f32 :=
  concatenate S8x4x16x256x8x64 3 [⟨S8x4x16x128x8x64, (pad S8x4x16x128x8x64 ![0, 0, 1, 0, 0, 0] ![0, 0, 0, 0, 0, 0] ![0, 0, 0, 0, 0, 0] (extractStridedSlice S8x4x15x128x8x64 ![0, 0, 0, 0, 0, 0] a slices_S8x4x16x128x8x64_S8x4x15x128x8x64_0_0_0_0_0_0) (sitofp (F := Ideal) .f32 (constantI S_ 32 0#32)) pads_S8x4x15x128x8x64_S8x4x16x128x8x64_000_000_100_000_000_000 h_S_)⟩, ⟨S8x4x16x128x8x64, a⟩] concatenates_S8x4x16x128x8x64_S8x4x16x128x8x64_S8x4x16x256x8x64_d3

theorem prevR_apply (a : FVec Ideal S8x4x16x128x8x64 .f32) (b : Fin 8) (e : Fin 4) (n : Fin 16) (j : Fin 256) (h : Fin 8) (d : Fin 64) (hj : 128 ≤ 128 * n.val + j.val) :
    prevR a (ix6 b e n j h d) = a (ix6 b e (⟨(128 * n.val + j.val - 128) / 128, by omega⟩ : Fin 16) (⟨j.val % 128, by omega⟩ : Fin 128) h d) := by
  pointwise [prevR]
  by_cases p : j.val < 128
  · refine (dif_pos p).trans ((dif_pos (⟨by omega, p⟩ : (1 ≤ n.val ∧ n.val - 1 < 15) ∧ j.val < 128)).trans ?_)
    exact congrArg₂ (fun k l => a (ix6 b e k l h d)) (Fin.ext (show n.val - 1 = (128 * n.val + j.val - 128) / 128 by omega)) (Fin.ext (show j.val = j.val % 128 by omega))
  · refine (dif_neg p).trans ?_
    exact congrArg₂ (fun k l => a (ix6 b e k l h d)) (Fin.ext (show n.val = (128 * n.val + j.val - 128) / 128 by omega)) (Fin.ext (show j.val - 128 = j.val % 128 by omega))

/-- The keys a query sees. -/
def maskR : IVec S8x4x16x8x128x256 1 :=
  broadcastInDim S8x4x16x8x128x256 ![0, 1, 2, 3, 4, 5] bcast_S1x1x16x1x128x256_S8x4x16x8x128x256_0_1_2_3_4_5 (broadcastInDim S1x1x16x1x128x256 ![2, 4, 5] bcast_S16x128x256_S1x1x16x1x128x256_2_4_5 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (cmpi .sge (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 0#32))))))

theorem band : ∀ (r : Fin 128) (j : Fin 256), IntOp.andi (IntOp.cmpi CmpIPredicate.sge (IntOp.subi (IntOp.addi (BitVec.ofNat 32 r.val) 128#32) (BitVec.ofNat 32 j.val)) 0#32)
    (IntOp.cmpi CmpIPredicate.sle (IntOp.subi (IntOp.addi (BitVec.ofNat 32 r.val) 128#32) (BitVec.ofNat 32 j.val)) 128#32) = if r.val ≤ j.val ∧ j.val ≤ r.val + 128 then 1#1 else 0#1 := by
  decide +kernel

theorem there : ∀ (n : Fin 16) (j : Fin 256), IntOp.cmpi CmpIPredicate.sge (IntOp.addi (IntOp.subi (IntOp.muli (BitVec.ofNat 32 n.val) 128#32) 128#32) (BitVec.ofNat 32 j.val)) 0#32
    = if 128 ≤ 128 * n.val + j.val then 1#1 else 0#1 := by
  decide +kernel

theorem maskR_apply (b : Fin 8) (e : Fin 4) (n : Fin 16) (h : Fin 8) (r : Fin 128) (j : Fin 256) :
    maskR (ix6 b e n h r j) = if Ok (128 * n.val + r.val) j.val then 1#1 else 0#1 := by
  pointwise [maskR]
  rw [band, there]
  have e' : Ok (128 * n.val + r.val) j.val ↔ (128 ≤ 128 * n.val + j.val ∧ r.val ≤ j.val ∧ j.val ≤ r.val + 128) := by
    unfold Ok
    rw [show (128 * n.val + r.val) / 128 = n.val by omega, show (128 * n.val + r.val) % 128 = r.val by omega]
  by_cases p : 128 ≤ 128 * n.val + j.val <;> by_cases q : r.val ≤ j.val ∧ j.val ≤ r.val + 128
  · rw [if_pos p, if_pos q, if_pos (e'.mpr ⟨p, q⟩)]; rfl
  · rw [if_pos p, if_neg q, if_neg fun k => q (e'.mp k).2]; rfl
  · rw [if_neg p, if_pos q, if_neg fun k => p (e'.mp k).1]; rfl
  · rw [if_neg p, if_neg q, if_neg fun k => p (e'.mp k).1]; rfl

theorem ofBits_neg_inf : Ideal.ofBits FTy.f32 0xFF800000#32 = ⊥ := by
  simp [Ideal.ofBits, Ideal.ieee]

theorem dot1_apply (u : FVec Ideal S8x4x16x128x8x64 .f32) (w : FVec Ideal S8x4x16x256x8x64 .f32) (b : Fin 8) (e : Fin 4) (n : Fin 16) (h : Fin 8) (r : Fin 128) (j : Fin 256) :
    Host.dotGeneral dot_S8x4x16x128x8x64_S8x4x16x256x8x64_S8x4x16x8x128x256_5_5_3_3_0124_0124 none u w (ix6 b e n h r j)
      = ∑ d : Fin 64, u (ix6 b e n r h d) * w (ix6 b e n j h d) := by
  pointwise

theorem dot2_apply (u : FVec Ideal S8x4x16x256x8x64 .f32) (w : FVec Ideal S8x4x16x8x128x256 .f32) (b : Fin 8) (e : Fin 4) (n : Fin 16) (h : Fin 8) (d : Fin 64) (r : Fin 128) :
    Host.dotGeneral dot_S8x4x16x256x8x64_S8x4x16x8x128x256_S8x4x16x8x64x128_3_5_5_4_0124_0123 none u w (ix6 b e n h d r)
      = ∑ j : Fin 256, u (ix6 b e n j h d) * w (ix6 b e n h r j) := by
  pointwise

/-- The logits. -/
def lgR (x : FVec Ideal S16384x6144 .bf16) (b : FVec Ideal S8x128x256 .f32) : FVec Ideal S8x4x16x8x128x256 .f32 :=
  select maskR (addf (Host.dotGeneral dot_S8x4x16x128x8x64_S8x4x16x256x8x64_S8x4x16x8x128x256_5_5_3_3_0124_0124 none (qR x) (prevR (kR x))) (broadcastInDim S8x4x16x8x128x256 ![0, 1, 2, 3, 4, 5] bcast_S1x1x1x8x128x256_S8x4x16x8x128x256_0_1_2_3_4_5 (broadcastInDim S1x1x1x8x128x256 ![3, 4, 5] bcast_S8x128x256_S1x1x1x8x128x256_3_4_5 b))) (broadcastInDim S8x4x16x8x128x256 ![] bcast_S_S8x4x16x8x128x256 (id (constant (F := Ideal) S_ .f32 0xFF800000#32)))

theorem lgR_apply (x : FVec Ideal S16384x6144 .bf16) (bias : FVec Ideal S8x128x256 .f32) (b : Fin 8) (e : Fin 4) (n : Fin 16) (h : Fin 8) (r : Fin 128) (j : Fin 256) :
    lgR x bias (ix6 b e n h r j) = lg (seq4 x b.val e.val) bias h.val (128 * n.val + r.val) j.val := by
  have e' : lgR x bias (ix6 b e n h r j) = Scalar.select (maskR (ix6 b e n h r j))
      ((Host.dotGeneral dot_S8x4x16x128x8x64_S8x4x16x256x8x64_S8x4x16x8x128x256_5_5_3_3_0124_0124 none (qR x) (prevR (kR x)) : FVec Ideal S8x4x16x8x128x256 .f32) (ix6 b e n h r j) + bias (ix3 h r j)) ⊥ := by
    rw [← ofBits_neg_inf]
    pointwise [lgR]
    rfl
  rw [e', maskR_apply, dot1_apply]
  by_cases k : Ok (128 * n.val + r.val) j.val
  · rw [if_pos k, lg_ok _ bias k]
    refine congrArg₂ (· + ·) (Finset.sum_congr rfl fun d _ => ?_) ?_
    · rw [qR_apply, prevR_apply _ _ _ _ _ _ _ (by unfold Ok at k; omega), kR_apply]
      refine congrArg (_ * ·) (congrArg (fun t => seq4 x b.val e.val t _) ?_)
      have kj : 128 ≤ 128 * n.val + j.val := by unfold Ok at k; omega
      have hn : (128 * n.val + r.val) / 128 = n.val := by omega
      dsimp only
      unfold kt
      rw [hn]
      omega
    · rw [show (128 * n.val + r.val) % 128 = r.val by omega]
      exact (atB_eq bias h r j).symm
  · rw [if_neg k, lg_not _ bias k]; rfl

theorem reduces5 : S8x4x16x8x128x256.Reduces [5] S8x4x16x8x128 := by decide

theorem lift5 (b : Fin 8) (e : Fin 4) (n : Fin 16) (h : Fin 8) (r : Fin 128) (j : Fin 256) :
    reduces5.lift (ix5 b e n h r : S8x4x16x8x128.Idx) j = ix6 b e n h r j := by
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- The largest logits. -/
def mxR (x : FVec Ideal S16384x6144 .bf16) (b : FVec Ideal S8x128x256 .f32) : FVec Ideal S8x4x16x8x128x1 .f32 :=
  broadcastInDim S8x4x16x8x128x1 ![0, 1, 2, 3, 4] bcast_S8x4x16x8x128_S8x4x16x8x128x1_0_1_2_3_4 (Host.reduce FloatOps.maximumf (lgR x b) (constant (F := Ideal) S_ .f32 0xFF800000#32) reducesTo_S8x4x16x8x128x256_S8x4x16x8x128_d5 h_S_)

theorem mxR_apply (x : FVec Ideal S16384x6144 .bf16) (bias : FVec Ideal S8x128x256 .f32) (b : Fin 8) (e : Fin 4) (n : Fin 16) (h : Fin 8) (r : Fin 128) :
    mxR x bias (ix6 b e n h r 0) = mx (seq4 x b.val e.val) bias h.val (128 * n.val + r.val) := by
  have e' : mxR x bias (ix6 b e n h r 0) = Host.reduce FloatOps.maximumf (lgR x bias) (constant (F := Ideal) S_ .f32 0xFF800000#32) reducesTo_S8x4x16x8x128x256_S8x4x16x8x128_d5 h_S_ (ix5 b e n h r) := by
    unfold mxR
    generalize Host.reduce FloatOps.maximumf (lgR x bias) (constant (F := Ideal) S_ .f32 0xFF800000#32) reducesTo_S8x4x16x8x128x256_S8x4x16x8x128_d5 h_S_ = T
    pointwise
  rw [e', Ideal.maximumf_eq_max, Host.reduce_eq_fold_single max _ _ _ reduces5]
  unfold mx
  have e0 : (constant (F := Ideal) S_ .f32 0xFF800000#32) (Shape.Idx.first h_S_) = ⊥ := ofBits_neg_inf
  rw [e0]
  refine congrArg (fun f : Fin 256 → EReal => Finset.univ.fold max ⊥ f) (funext fun j => ?_)
  exact (congrArg (lgR x bias) (lift5 b e n h r j)).trans (lgR_apply x bias b e n h r j)

/-- The weights. -/
def pR (x : FVec Ideal S16384x6144 .bf16) (b : FVec Ideal S8x128x256 .f32) : FVec Ideal S8x4x16x8x128x256 .f32 :=
  select maskR (Host.exp (subf (lgR x b) (broadcastInDim S8x4x16x8x128x256 ![0, 1, 2, 3, 4, 5] bcast_S8x4x16x8x128x1_S8x4x16x8x128x256_0_1_2_3_4_5 (mxR x b)))) (broadcastInDim S8x4x16x8x128x256 ![] bcast_S_S8x4x16x8x128x256 (id (constant (F := Ideal) S_ .f32 0x00000000#32)))

theorem pR_apply (x : FVec Ideal S16384x6144 .bf16) (bias : FVec Ideal S8x128x256 .f32) (b : Fin 8) (e : Fin 4) (n : Fin 16) (h : Fin 8) (r : Fin 128) (j : Fin 256) :
    pR x bias (ix6 b e n h r j) = wt (seq4 x b.val e.val) bias h.val (128 * n.val + r.val) j.val := by
  have e' : pR x bias (ix6 b e n h r j) = Scalar.select (maskR (ix6 b e n h r j)) (Ideal.exp (lgR x bias (ix6 b e n h r j) - mxR x bias (ix6 b e n h r 0))) 0 := by
    pointwise [pR]
    exact congrArg (Scalar.select _ _) Ideal.ofBits_zero_f32
  rw [e', maskR_apply, lgR_apply, mxR_apply]
  unfold wt
  split <;> rfl

theorem sumR (w : FVec Ideal S8x4x16x8x128x256 .f32) (b : Fin 8) (e : Fin 4) (n : Fin 16) (h : Fin 8) (r : Fin 128) :
    Host.reduceAdd w (constant (F := Ideal) S_ .f32 0x00000000#32) reducesTo_S8x4x16x8x128x256_S8x4x16x8x128_d5 h_S_ (ix5 b e n h r)
      = ∑ j : Fin 256, w (ix6 b e n h r j) := by
  refine (Ideal.hostReduceAdd_single reducesTo_S8x4x16x8x128x256_S8x4x16x8x128_d5 reduces5 w _ _).trans ?_
  have e0 : (constant (F := Ideal) S_ .f32 0x00000000#32) (Shape.Idx.first h_S_) = (0 : EReal) := Ideal.ofBits_zero_f32
  rw [e0, zero_add]
  exact Finset.sum_congr rfl fun j _ => congrArg w (lift5 b e n h r j)

/-- The weighted sums, by token. -/
def joinO (T : FVec Ideal S8x4x16x8x64x128 .f32) : FVec Ideal S8x8192x512 .f32 :=
  shapeCast _ (transpose S8x2048x4x8x64 [0, 2, 1, 3, 4] (shapeCast _ (transpose S8x4x16x128x8x64 [0, 1, 2, 5, 3, 4] T transposes_S8x4x16x8x64x128_S8x4x16x128x8x64_0_1_2_5_3_4) shapeCasts_S8x4x16x128x8x64_S8x4x2048x8x64) transposes_S8x4x2048x8x64_S8x2048x4x8x64_0_2_1_3_4) shapeCasts_S8x2048x4x8x64_S8x8192x512

theorem joinO_apply (T : FVec Ideal S8x4x16x8x64x128 .f32) (b : Fin 8) (t : Fin 8192) (c : Fin 512) :
    joinO T (ix3 b t c)
      = T (ix6 b (⟨t.val % 4, by omega⟩ : Fin 4) (⟨t.val / 4 / 128, by omega⟩ : Fin 16) (⟨c.val / 64, by omega⟩ : Fin 8) (⟨c.val % 64, by omega⟩ : Fin 64) (⟨t.val / 4 % 128, by omega⟩ : Fin 128)) := by
  pointwise [joinO]

theorem at_apply (x : FVec Ideal S16384x6144 .bf16) (bias : FVec Ideal S8x128x256 .f32) (b : Fin 8) (t : Fin 8192) (c : Fin 512) :
    joinO (Host.dotGeneral dot_S8x4x16x256x8x64_S8x4x16x8x128x256_S8x4x16x8x64x128_3_5_5_4_0124_0123 none (prevR (vR x)) (pR x bias)) (ix3 b t c) = att (seq4 x b.val (t.val % 4)) bias (t.val / 4) c.val := by
  refine (joinO_apply _ b t c).trans ?_
  rw [dot2_apply]
  have et : 128 * (t.val / 4 / 128) + t.val / 4 % 128 = t.val / 4 := by omega
  unfold att
  refine Finset.sum_congr rfl fun j _ => ?_
  rw [pR_apply, mul_comm]
  dsimp only
  rw [et]
  by_cases k : Ok (t.val / 4) j.val
  · refine congrArg (wt (seq4 x b.val (t.val % 4)) bias (c.val / 64) (t.val / 4) j.val * ·) ?_
    rw [prevR_apply _ _ _ _ _ _ _ (by unfold Ok at k; exact k.1), vR_apply]
    dsimp only
    have ek : 128 * ((128 * (t.val / 4 / 128) + j.val - 128) / 128) + j.val % 128 = kt (t.val / 4) j.val := by
      unfold kt; unfold Ok at k; omega
    rw [ek, show 64 * (c.val / 64) + c.val % 64 = c.val by omega]
  · have e : wt (seq4 x b.val (t.val % 4)) bias (c.val / 64) (t.val / 4) j.val = 0 := if_neg k
    rw [e, zero_mul, zero_mul]

/-- The first result: four tokens a row. -/
def oR (x : FVec Ideal S16384x6144 .bf16) (b : FVec Ideal S8x128x256 .f32) : FVec Ideal S8x2048x2048 .f32 :=
  shapeCast _ (joinO (Host.dotGeneral dot_S8x4x16x256x8x64_S8x4x16x8x128x256_S8x4x16x8x64x128_3_5_5_4_0124_0123 none (prevR (vR x)) (pR x b))) shapeCasts_S8x8192x512_S8x2048x2048

theorem four (T : FVec Ideal S8x8192x512 .f32) (b : Fin 8) (t : Fin 2048) (c : Fin 2048) :
    (shapeCast _ T shapeCasts_S8x8192x512_S8x2048x2048 : FVec Ideal S8x2048x2048 .f32) (ix3 b t c)
      = T (ix3 b (⟨4 * t.val + c.val / 512, by omega⟩ : Fin 8192) (⟨c.val % 512, by omega⟩ : Fin 512)) := by
  pointwise
  refine congrArg (fun k => T (ix3 b k _)) (Fin.ext ?_)
  dsimp only; omega

theorem oR_apply (x : FVec Ideal S16384x6144 .bf16) (bias : FVec Ideal S8x128x256 .f32) (b : Fin 8) (t : Fin 2048) (c : Fin 2048) :
    oR x bias (ix3 b t c) = att (seq4 x b.val (c.val / 512)) bias t.val (c.val % 512) := by
  refine (four _ b t c).trans ((at_apply x bias b _ _).trans ?_)
  dsimp only
  rw [show (4 * t.val + c.val / 512) % 4 = c.val / 512 by omega, show (4 * t.val + c.val / 512) / 4 = t.val by omega]

/-- The sums of the weights. -/
def smR (x : FVec Ideal S16384x6144 .bf16) (b : FVec Ideal S8x128x256 .f32) : FVec Ideal S8x4x16x8x128x1 .f32 :=
  broadcastInDim S8x4x16x8x128x1 ![0, 1, 2, 3, 4] bcast_S8x4x16x8x128_S8x4x16x8x128x1_0_1_2_3_4 (Host.reduceAdd (pR x b) (constant (F := Ideal) S_ .f32 0x00000000#32) reducesTo_S8x4x16x8x128x256_S8x4x16x8x128_d5 h_S_)

theorem smR_apply (x : FVec Ideal S16384x6144 .bf16) (bias : FVec Ideal S8x128x256 .f32) (b : Fin 8) (e : Fin 4) (n : Fin 16) (h : Fin 8) (r : Fin 128) :
    smR x bias (ix6 b e n h r 0) = ∑ j : Fin 256, wt (seq4 x b.val e.val) bias h.val (128 * n.val + r.val) j.val := by
  have e' : smR x bias (ix6 b e n h r 0) = Host.reduceAdd (pR x bias) (constant (F := Ideal) S_ .f32 0x00000000#32) reducesTo_S8x4x16x8x128x256_S8x4x16x8x128_d5 h_S_ (ix5 b e n h r) := by
    unfold smR
    generalize Host.reduceAdd (pR x bias) (constant (F := Ideal) S_ .f32 0x00000000#32) reducesTo_S8x4x16x8x128x256_S8x4x16x8x128_d5 h_S_ = T
    pointwise
  rw [e', sumR]
  exact Finset.sum_congr rfl fun j _ => pR_apply x bias b e n h r j

/-- One number a token and head, by token. -/
def joinS (T : FVec Ideal S8x4x16x8x128x1 .f32) : FVec Ideal S8x8192x8 .f32 :=
  shapeCast _ (transpose S8x2048x4x8 [0, 2, 1, 3] (shapeCast _ (transpose S8x4x16x128x8 [0, 1, 2, 4, 3] (shapeCast _ T shapeCasts_S8x4x16x8x128x1_S8x4x16x8x128) transposes_S8x4x16x8x128_S8x4x16x128x8_0_1_2_4_3) shapeCasts_S8x4x16x128x8_S8x4x2048x8) transposes_S8x4x2048x8_S8x2048x4x8_0_2_1_3) shapeCasts_S8x2048x4x8_S8x8192x8

theorem joinS_apply (T : FVec Ideal S8x4x16x8x128x1 .f32) (b : Fin 8) (t : Fin 8192) (h : Fin 8) :
    joinS T (ix3 b t h) = T (ix6 b (⟨t.val % 4, by omega⟩ : Fin 4) (⟨t.val / 4 / 128, by omega⟩ : Fin 16) h (⟨t.val / 4 % 128, by omega⟩ : Fin 128) 0) := by
  pointwise [joinS]

/-- The pair for the mixture, by token. -/
def pairR (x : FVec Ideal S16384x6144 .bf16) (b : FVec Ideal S8x128x256 .f32) : FVec Ideal S8x8192x128 .f32 :=
  (concatenate S8x8192x128 2 [⟨S8x8192x8, ((joinS (mxR x b)) : (⟨S8x8192x8, .f32⟩ : BufTy).Contents (Elt Ideal))⟩, ⟨S8x8192x8, ((joinS (smR x b)) : (⟨S8x8192x8, .f32⟩ : BufTy).Contents (Elt Ideal))⟩, ⟨S8x8192x112, ((broadcastInDim S8x8192x112 ![] bcast_S_S8x8192x112 (constant (F := Ideal) S_ .f32 0x00000000#32)) : (⟨S8x8192x112, .f32⟩ : BufTy).Contents (Elt Ideal))⟩] concatenates_S8x8192x8_S8x8192x8_S8x8192x112_S8x8192x128_d2 : (⟨S8x8192x128, .f32⟩ : BufTy).Contents (Elt Ideal))

theorem pairR_apply (x : FVec Ideal S16384x6144 .bf16) (bias : FVec Ideal S8x128x256 .f32) (b : Fin 8) (t : Fin 8192) (l : Fin 128) :
    pairR x bias (ix3 b t l) = st (seq4 x b.val (t.val % 4)) bias (t.val / 4) l.val := by
  have et : 128 * (t.val / 4 / 128) + t.val / 4 % 128 = t.val / 4 := by omega
  have em (h : Fin 8) : joinS (mxR x bias) (ix3 b t h) = mx (seq4 x b.val (t.val % 4)) bias h.val (t.val / 4) := by
    rw [joinS_apply, mxR_apply]; simp only [et]
  have es (h : Fin 8) : joinS (smR x bias) (ix3 b t h) = ∑ j : Fin 256, wt (seq4 x b.val (t.val % 4)) bias h.val (t.val / 4) j.val := by
    rw [joinS_apply, smR_apply]; simp only [et]
  unfold pairR st
  generalize joinS (mxR x bias) = A at em ⊢
  generalize joinS (smR x bias) = C at es ⊢
  pointwise
  by_cases p : l.val < 8
  · exact (dif_pos p).trans ((em ⟨l.val, p⟩).trans (if_pos p).symm)
  · by_cases q : l.val < 16
    · have q' : l.val - 8 < 8 := by omega
      exact (dif_neg p).trans ((dif_pos q').trans ((es ⟨l.val - 8, q'⟩).trans ((if_pos q).symm.trans (if_neg p).symm)))
    · have q' : ¬ l.val - 8 < 8 := by omega
      exact (dif_neg p).trans ((dif_neg q').trans ((if_neg q).symm.trans (if_neg p).symm))

/-- The second result: four tokens a row. -/
def stR (x : FVec Ideal S16384x6144 .bf16) (b : FVec Ideal S8x128x256 .f32) : FVec Ideal S8x2048x512 .f32 :=
  shapeCast _ (pairR x b) shapeCasts_S8x8192x128_S8x2048x512

theorem fourS (T : FVec Ideal S8x8192x128 .f32) (b : Fin 8) (t : Fin 2048) (c : Fin 512) :
    (shapeCast _ T shapeCasts_S8x8192x128_S8x2048x512 : FVec Ideal S8x2048x512 .f32) (ix3 b t c)
      = T (ix3 b (⟨4 * t.val + c.val / 128, by omega⟩ : Fin 8192) (⟨c.val % 128, by omega⟩ : Fin 128)) := by
  pointwise
  refine congrArg (fun k => T (ix3 b k _)) (Fin.ext ?_)
  dsimp only; omega

theorem stR_apply (x : FVec Ideal S16384x6144 .bf16) (bias : FVec Ideal S8x128x256 .f32) (b : Fin 8) (t : Fin 2048) (c : Fin 512) :
    stR x bias (ix3 b t c) = st (seq4 x b.val (c.val / 128)) bias t.val (c.val % 128) := by
  refine (fourS _ b t c).trans ((pairR_apply x bias b _ _).trans ?_)
  dsimp only
  rw [show (4 * t.val + c.val / 128) % 4 = c.val / 128 by omega, show (4 * t.val + c.val / 128) / 4 = t.val by omega]

theorem ref0 (x : FVec Ideal S16384x6144 .bf16) (bias : FVec Ideal S8x128x256 .f32) : oR x bias = res0 x bias := by
  funext y
  obtain ⟨b, t, c, rfl⟩ : ∃ (b : Fin 8) (t : Fin 2048) (c : Fin 2048), y = (ix3 b t c : S8x2048x2048.Idx) := ⟨y 0, y 1, y 2, eq_ix3 y⟩
  exact oR_apply x bias b t c

theorem ref1 (x : FVec Ideal S16384x6144 .bf16) (bias : FVec Ideal S8x128x256 .f32) : stR x bias = res1 x bias := by
  funext y
  obtain ⟨b, t, l, rfl⟩ : ∃ (b : Fin 8) (t : Fin 2048) (l : Fin 512), y = (ix3 b t l : S8x2048x512.Idx) := ⟨y 0, y 1, y 2, eq_ix3 y⟩
  exact stR_apply x bias b t l

theorem out0 (m : (ℓ : Loc nD τ sig) → Buf (Elt Ideal) ℓ) (c : Dev nD) :
    Value.res_main_v86 (F := Ideal) m c = oR (m ((c.tc : Thread nD τ).loc main_arg0)) (m ((c.tc : Thread nD τ).loc main_arg1)) := rfl

theorem out1 (m : (ℓ : Loc nD τ sig) → Buf (Elt Ideal) ℓ) (c : Dev nD) :
    Value.res_main_v87 (F := Ideal) m c = stR (m ((c.tc : Thread nD τ).loc main_arg0)) (m ((c.tc : Thread nD τ).loc main_arg1)) := rfl

end Cert.Dil4RefIdeal.Hand

end
-- ==== Proof.Dil4Algebra.lean ====
/- Windowed attention at dilation 4: the kernel and its reference leave the same two arrays. -/
module

public import proofs.«01_k».proof.Defs
public import proofs.«01_k».proof.Proof.Dil4Value
public import proofs.«01_k».proof.Proof.Dil4RefValue
public import Idealize.ShloMosaic.Lib.Quiescent

@[expose] public section

noncomputable section

namespace Cert.Dil4Algebra

open Idealize.ShloMosaic Idealize.ShloMosaic.TcCoe Idealize.SL.Sem
open Cert.DilSeqForm Cert.Dil4Ideal.Hand

/-- The reference's run leaves its arguments; it has no semaphore. -/
theorem frame_reference : Cert.quiescent_Dil4RefIdeal := fun m ρ _ =>
  (θ_run Cert.Dil4RefIdeal.defs _ _).mono (fun r h => ⟨fun c => (h c).2.2, Idealize.ShloMosaic.sem_eq_zero_of_no_sems (by decide) r.2⟩)
    (Cert.Dil4RefIdeal.Value.run (F := Ideal) m ρ)

/-- The kernel's literal is the named constant's word. -/
theorem preserves : Cert.preserves_Dil4_Dil4Ideal :=
  IdealRules.named_const.statement Cert.Dil4Ideal.κ "neg_inf" .f32 0xF149F2CA#32 ⊥ rfl

theorem algebraic : Cert.algebraic_Dil4Ideal_Dil4RefIdeal := fun m g m' g' _ hagree =>
  ⟨fun c => res0 (X0 m c) (X1 m c), fun c => res1 (X0 m c) (X1 m c), Cert.Dil4Ideal.Hand.run m g,
    (θ_run _ _ _).mono (fun r h c => by
      obtain ⟨h0, h1, ha⟩ := h c
      obtain ⟨e0, e1⟩ := hagree c
      refine ⟨h0.trans ?_, h1.trans ?_, ha⟩
      · refine ((Cert.Dil4RefIdeal.Hand.out0 m' c).trans (Cert.Dil4RefIdeal.Hand.ref0 _ _)).trans ?_
        rw [e0, e1]
      · refine ((Cert.Dil4RefIdeal.Hand.out1 m' c).trans (Cert.Dil4RefIdeal.Hand.ref1 _ _)).trans ?_
        rw [e0, e1]) (Cert.Dil4RefIdeal.Value.run (F := Ideal) m' g')⟩

end Cert.Dil4Algebra

end
-- ==== Proof.Dil16Tiles.lean ====
/- The tiles that the body of `dilated` stores at dilation 16. A step holds four sequences side by side; a tile of one of them
   is a tile of dilation 1's body over that sequence's columns. -/
module

public import proofs.«01_k».proof.Proof.DilRun
public import proofs.«01_k».proof.Proof.Gen.Dil16Ideal.Frame

@[expose] public section

set_option maxRecDepth 16384

noncomputable section

namespace Cert.Dil16Ideal.Hand

open Cert.Dil16Ideal Cert.Dil16Ideal.Gen
open Cert.DilIdeal.Hand (lgAll lgFirst oT lT catT ld0 ld1 ld2 lgB oB lB GO GS nextLo nextHi firstLo firstHi catNext catFirst pieceO pieceL)
open Idealize.ShloMosaic Idealize.ShloMosaic.TcCoe Idealize.SL.Sem

/-- A step of this grid as a step of dilation 1's: its last coordinate alone is read. -/
def stepOf (i : grid0.Coords) : Cert.DilIdeal.grid0.Coords := fun k => match k with
  | ⟨0, _⟩ => (i 0 : Fin 8)
  | ⟨1, _⟩ => (0 : Fin 1)
  | ⟨2, _⟩ => (⟨(i 2).val, Nat.lt_of_lt_of_le (i 2).isLt (by decide : 1 ≤ 4)⟩ : Fin 4)

section Run
variable (i : grid0.Coords) (x0 : Vec Ideal S1x512x6144 .bf16) (x1 : Vec Ideal S1x128x6144 .bf16) (x2 : Vec Ideal S8x128x256 .f32)

/-- The entries of a block's tokens and of the group before it, by their numbers. -/
def w0 (t c : ℕ) : EReal := if h : t < 512 ∧ c < 6144 then x0 (ix3 0 (⟨t, h.1⟩ : Fin 512) (⟨c, h.2⟩ : Fin 6144)) else 0
def w1 (t c : ℕ) : EReal := if h : t < 128 ∧ c < 6144 then x1 (ix3 0 (⟨t, h.1⟩ : Fin 128) (⟨c, h.2⟩ : Fin 6144)) else 0
theorem w0_eq (t : Fin 512) (c : Fin 6144) : w0 x0 t.val c.val = x0 (ix3 0 t c) := dif_pos ⟨t.isLt, c.isLt⟩
theorem w1_eq (t : Fin 128) (c : Fin 6144) : w1 x1 t.val c.val = x1 (ix3 0 t c) := dif_pos ⟨t.isLt, c.isLt⟩

/-- One sequence's columns, as blocks of dilation 1. -/
def cut0 (e : ℕ) : Vec Ideal Cert.DilIdeal.S1x2048x1536 .bf16 := fun y => w0 x0 (y 1).val (1536 * e + (y 2).val)
def cut1 (e : ℕ) : Vec Ideal Cert.DilIdeal.S1x128x1536 .bf16 := fun y => w1 x1 (y 1).val (1536 * e + (y 2).val)

theorem ib {a c A C : ℕ} (ha : a + 128 ≤ A) (hc : c + 128 ≤ C) :
    ∀ k, (![0, a, c] : Fin 3 → ℕ) k + S1x128x128.size k ≤ (![1, A, C] : Fin 3 → ℕ) k := fun k => match k with
  | ⟨0, _⟩ => Nat.le_refl 1
  | ⟨1, _⟩ => ha
  | ⟨2, _⟩ => hc
theorem ib2 {k : ℕ} (hk : k + 1 ≤ 8) : ∀ a, (![k, 0, 0] : Fin 3 → ℕ) a + S1x128x256.size a ≤ S8x128x256.size a := fun a => match a with
  | ⟨0, _⟩ => hk
  | ⟨1, _⟩ => Nat.le_refl 128
  | ⟨2, _⟩ => Nat.le_refl 256

/-- The loads. -/
abbrev wl0 (a c : ℕ) (ha : a + 128 ≤ 512) (hc : c + 128 ≤ 6144) : Vec Ideal S1x128x128 .bf16 :=
  View.ld x0 (Rect.unit (s := S1x512x6144) ![0, a, c] S1x128x128.size (ib ha hc))
abbrev wl1 (c : ℕ) (hc : c + 128 ≤ 6144) : Vec Ideal S1x128x128 .bf16 :=
  View.ld x1 (Rect.unit (s := S1x128x6144) ![0, 0, c] S1x128x128.size (ib (Nat.le_refl 128) hc))

theorem wl0_cut (e a c C : ℕ) (ha hC) (h : C = 1536 * e + c) (h1 : a + 128 ≤ 2048) (h2 : c + 128 ≤ 1536) :
    wl0 x0 a C ha hC = ld0 (cut0 x0 e) a c (ib h1 h2) := by
  funext y
  obtain ⟨z, r, l, rfl⟩ : ∃ (z : Fin 1) (r : Fin 128) (l : Fin 128), y = (ix3 z r l : S1x128x128.Idx) := ⟨y 0, y 1, y 2, eq_ix3 y⟩
  obtain rfl : z = 0 := Subsingleton.elim _ _
  refine Eq.trans ?_ (show w0 x0 (a + 1 * r.val) (1536 * e + (c + 1 * l.val)) = _ from rfl)
  refine Eq.trans ?_ ((w0_eq x0 ⟨a + r.val, by omega⟩ ⟨C + l.val, by omega⟩).symm.trans (congrArg₂ (w0 x0) (by dsimp only; omega) (by dsimp only; omega)))
  refine congrArg x0 ?_
  funext k; exact match k with
    | ⟨0, _⟩ => rfl
    | ⟨1, _⟩ => Fin.ext (show a + 1 * r.val = a + r.val by omega)
    | ⟨2, _⟩ => Fin.ext (show C + 1 * l.val = C + l.val by omega)

theorem wl1_cut (e c C : ℕ) (hC) (h : C = 1536 * e + c) (h2 : c + 128 ≤ 1536) :
    wl1 x1 C hC = ld1 (cut1 x1 e) c (ib (Nat.le_refl 128) h2) := by
  funext y
  obtain ⟨z, r, l, rfl⟩ : ∃ (z : Fin 1) (r : Fin 128) (l : Fin 128), y = (ix3 z r l : S1x128x128.Idx) := ⟨y 0, y 1, y 2, eq_ix3 y⟩
  obtain rfl : z = 0 := Subsingleton.elim _ _
  refine Eq.trans ?_ (show w1 x1 (0 + 1 * r.val) (1536 * e + (c + 1 * l.val)) = _ from rfl)
  refine Eq.trans ?_ ((w1_eq x1 r ⟨C + l.val, by omega⟩).symm.trans (congrArg₂ (w1 x1) (by omega) (by dsimp only; omega)))
  refine congrArg x1 ?_
  funext k; exact match k with
    | ⟨0, _⟩ => rfl
    | ⟨1, _⟩ => Fin.ext (show 0 + 1 * r.val = r.val by omega)
    | ⟨2, _⟩ => Fin.ext (show C + 1 * l.val = C + l.val by omega)

/-- The blocks of the results: 512 columns, and 128, of each sequence. -/
def HO : S1x512x2048.Idx → EReal := fun y => oB (stepOf i) (cut0 x0 ((y 2).val / 512)) (cut1 x1 ((y 2).val / 512)) x2 (y 1).val ((y 2).val % 512)
def HS : S1x512x512.Idx → EReal := fun y => lB (stepOf i) (cut0 x0 ((y 2).val / 128)) (cut1 x1 ((y 2).val / 128)) x2 (y 1).val ((y 2).val % 128)

/-- The logits of head `k` of sequence `e`, of a later group and of the first. -/
abbrev hdN (msk : FVec Ideal S1x128 .bf16) (a a' Q K k : ℕ) (h : a + 128 ≤ 512 ∧ a' + 128 ≤ 512 ∧ Q + 128 ≤ 6144 ∧ K + 128 ≤ 6144 ∧ k + 1 ≤ 8) :
    FVec Ideal S128x256 .f32 :=
  lgAll msk (wl0 x0 a Q h.1 h.2.2.1) (wl0 x0 a' K h.2.1 h.2.2.2.1) (wl0 x0 a K h.1 h.2.2.2.1) (ld2 x2 k (ib2 h.2.2.2.2))
abbrev hdF (msk : FVec Ideal S1x128 .bf16) (Q K k : ℕ) (h : Q + 128 ≤ 6144 ∧ K + 128 ≤ 6144 ∧ k + 1 ≤ 8) : FVec Ideal S128x256 .f32 :=
  lgFirst (stepOf i) msk (wl0 x0 0 Q (by omega) h.1) (wl1 x1 K h.2.1) (wl0 x0 0 K (by omega) h.2.1) (ld2 x2 k (ib2 h.2.2))

theorem hdN_lo (e p g a a' Q K k : ℕ) (h) (H : Q = 1536 * e + 128 * p ∧ K = Q + 512 ∧ k = 2 * p ∧ a = 128 * g ∧ a' + 128 = a) (r : Fin 128) (j : Fin 256) :
    hdN x0 x2 Cert.DilIdeal.Gen.k0_pay4 a a' Q K k h (ix2 r j) = lgB (stepOf i) (cut0 x0 e) (cut1 x1 e) x2 k (a + r.val) j.val := by
  unfold hdN
  rw [wl0_cut x0 e a (128 * p) Q _ _ (by omega) (by omega) (by omega), wl0_cut x0 e a' (512 + 128 * p) K _ _ (by omega) (by omega) (by omega),
    wl0_cut x0 e a (512 + 128 * p) K _ _ (by omega) (by omega) (by omega)]
  exact nextLo (stepOf i) (cut0 x0 e) (cut1 x1 e) x2 p g a a' (128 * p) (512 + 128 * p) k H.2.2.2.1 H.2.2.2.2 rfl rfl H.2.2.1 _ _ _ _ r j

theorem hdN_hi (e p g a a' Q K k : ℕ) (h) (H : Q = 1536 * e + 128 * p ∧ K = Q + 512 ∧ k = 2 * p + 1 ∧ a = 128 * g ∧ a' + 128 = a) (r : Fin 128) (j : Fin 256) :
    hdN x0 x2 Cert.DilIdeal.Gen.k0_pay5 a a' Q K k h (ix2 r j) = lgB (stepOf i) (cut0 x0 e) (cut1 x1 e) x2 k (a + r.val) j.val := by
  unfold hdN
  rw [wl0_cut x0 e a (128 * p) Q _ _ (by omega) (by omega) (by omega), wl0_cut x0 e a' (512 + 128 * p) K _ _ (by omega) (by omega) (by omega),
    wl0_cut x0 e a (512 + 128 * p) K _ _ (by omega) (by omega) (by omega)]
  exact nextHi (stepOf i) (cut0 x0 e) (cut1 x1 e) x2 p g a a' (128 * p) (512 + 128 * p) k H.2.2.2.1 H.2.2.2.2 rfl rfl H.2.2.1 _ _ _ _ r j

theorem hdF_lo (e p Q K k : ℕ) (h) (H : Q = 1536 * e + 128 * p ∧ K = Q + 512 ∧ k = 2 * p) (r : Fin 128) (j : Fin 256) :
    hdF i x0 x1 x2 Cert.DilIdeal.Gen.k0_pay4 Q K k h (ix2 r j) = lgB (stepOf i) (cut0 x0 e) (cut1 x1 e) x2 k (0 + r.val) j.val := by
  unfold hdF
  rw [wl0_cut x0 e 0 (128 * p) Q _ _ (by omega) (by omega) (by omega), wl1_cut x1 e (512 + 128 * p) K _ (by omega) (by omega),
    wl0_cut x0 e 0 (512 + 128 * p) K _ _ (by omega) (by omega) (by omega), Nat.zero_add r.val]
  exact firstLo (stepOf i) (cut0 x0 e) (cut1 x1 e) x2 p (128 * p) (512 + 128 * p) k rfl rfl H.2.2 _ _ _ _ r j

theorem hdF_hi (e p Q K k : ℕ) (h) (H : Q = 1536 * e + 128 * p ∧ K = Q + 512 ∧ k = 2 * p + 1) (r : Fin 128) (j : Fin 256) :
    hdF i x0 x1 x2 Cert.DilIdeal.Gen.k0_pay5 Q K k h (ix2 r j) = lgB (stepOf i) (cut0 x0 e) (cut1 x1 e) x2 k (0 + r.val) j.val := by
  unfold hdF
  rw [wl0_cut x0 e 0 (128 * p) Q _ _ (by omega) (by omega) (by omega), wl1_cut x1 e (512 + 128 * p) K _ (by omega) (by omega),
    wl0_cut x0 e 0 (512 + 128 * p) K _ _ (by omega) (by omega) (by omega), Nat.zero_add r.val]
  exact firstHi (stepOf i) (cut0 x0 e) (cut1 x1 e) x2 p (128 * p) (512 + 128 * p) k rfl rfl H.2.2 _ _ _ _ r j

/-- A place of a tile, in the sequence's block and in the step's. -/
theorem placeO (e p a C : ℕ) (hp : p < 4) (hC : C = 512 * e + 128 * p) (h1) (h2) (x : S1x128x128.Idx) :
    GO (stepOf i) (cut0 x0 e) (cut1 x1 e) x2 ((Rect.unit (s := Cert.DilIdeal.S1x2048x512) ![0, a, 128 * p] S1x128x128.size h1).emb x)
      = HO i x0 x1 x2 ((Rect.unit (s := S1x512x2048) ![0, a, C] S1x128x128.size h2).emb x) := by
  have hx : (x 2).val < 128 := (x 2).isLt
  show oB (stepOf i) (cut0 x0 e) (cut1 x1 e) x2 (a + 1 * (x 1).val) (128 * p + 1 * (x 2).val)
    = oB (stepOf i) (cut0 x0 ((C + 1 * (x 2).val) / 512)) (cut1 x1 ((C + 1 * (x 2).val) / 512)) x2 (a + 1 * (x 1).val) ((C + 1 * (x 2).val) % 512)
  rw [show (C + 1 * (x 2).val) / 512 = e by omega, show (C + 1 * (x 2).val) % 512 = 128 * p + 1 * (x 2).val by omega]

theorem placeS (e a C : ℕ) (hC : C = 128 * e) (h1) (h2) (x : S1x128x128.Idx) :
    GS (stepOf i) (cut0 x0 e) (cut1 x1 e) x2 ((Rect.unit (s := Cert.DilIdeal.S1x2048x128) ![0, a, 0] S1x128x128.size h1).emb x)
      = HS i x0 x1 x2 ((Rect.unit (s := S1x512x512) ![0, a, C] S1x128x128.size h2).emb x) := by
  have hx : (x 2).val < 128 := (x 2).isLt
  show lB (stepOf i) (cut0 x0 e) (cut1 x1 e) x2 (a + 1 * (x 1).val) (0 + 1 * (x 2).val)
    = lB (stepOf i) (cut0 x0 ((C + 1 * (x 2).val) / 128)) (cut1 x1 ((C + 1 * (x 2).val) / 128)) x2 (a + 1 * (x 1).val) ((C + 1 * (x 2).val) % 128)
  rw [show (C + 1 * (x 2).val) / 128 = e by omega, show (C + 1 * (x 2).val) % 128 = 0 + 1 * (x 2).val by omega]

/-- A stored tile of the first result: of sequence `e`, pair of heads `p`, group `g`. -/
theorem oNext (e p g a a' Q K V C k k' : ℕ) (H : Q = 1536 * e + 128 * p ∧ K = Q + 512 ∧ V = Q + 1024 ∧ C = 512 * e + 128 * p ∧ k = 2 * p ∧ k' = 2 * p + 1
      ∧ a = 128 * g ∧ a' + 128 = a ∧ e < 4 ∧ p < 4 ∧ g < 4) (h2) (P : S1x128x128.Idx → EReal)
    (hP : P = oT (hdN x0 x2 Cert.DilIdeal.Gen.k0_pay4 a a' Q K k (by omega)) (hdN x0 x2 Cert.DilIdeal.Gen.k0_pay5 a a' Q K k' (by omega))
      (wl0 x0 a' V (by omega) (by omega)) (wl0 x0 a V (by omega) (by omega))) (x : S1x128x128.Idx) :
    P x = HO i x0 x1 x2 ((Rect.unit (s := S1x512x2048) ![0, a, C] S1x128x128.size h2).emb x) := by
  obtain ⟨hQ, hK, hV, hC, hk, hk', ha, ha', he, hp, hg⟩ := H
  refine (pieceO (stepOf i) (cut0 x0 e) (cut1 x1 e) x2 p a (128 * p) (1024 + 128 * p) rfl rfl (ib (by omega) (by omega)) P _ _ _ _ hP
    (fun r j => ?_) (fun r j => ?_) (fun r j l => ?_) x).trans (placeO i x0 x1 x2 e p a C hp hC _ _ x)
  · subst hk; exact hdN_lo i x0 x1 x2 e p g a a' Q K _ _ ⟨hQ, hK, rfl, ha, ha'⟩ r j
  · subst hk'; exact hdN_hi i x0 x1 x2 e p g a a' Q K _ _ ⟨hQ, hK, rfl, ha, ha'⟩ r j
  · rw [wl0_cut x0 e a (1024 + 128 * p) V _ _ (by omega) (by omega) (by omega), wl0_cut x0 e a' (1024 + 128 * p) V _ _ (by omega) (by omega) (by omega)]
    exact catNext (cut0 x0 e) (cut1 x1 e) g a a' (1024 + 128 * p) ha ha' _ _ r j l

theorem oFirst (e p Q K V C k k' : ℕ) (H : Q = 1536 * e + 128 * p ∧ K = Q + 512 ∧ V = Q + 1024 ∧ C = 512 * e + 128 * p ∧ k = 2 * p ∧ k' = 2 * p + 1
      ∧ e < 4 ∧ p < 4) (h2) (P : S1x128x128.Idx → EReal)
    (hP : P = oT (hdF i x0 x1 x2 Cert.DilIdeal.Gen.k0_pay4 Q K k (by omega)) (hdF i x0 x1 x2 Cert.DilIdeal.Gen.k0_pay5 Q K k' (by omega))
      (wl1 x1 V (by omega)) (wl0 x0 0 V (by omega) (by omega))) (x : S1x128x128.Idx) :
    P x = HO i x0 x1 x2 ((Rect.unit (s := S1x512x2048) ![0, 0, C] S1x128x128.size h2).emb x) := by
  obtain ⟨hQ, hK, hV, hC, hk, hk', he, hp⟩ := H
  refine (pieceO (stepOf i) (cut0 x0 e) (cut1 x1 e) x2 p 0 (128 * p) (1024 + 128 * p) rfl rfl (ib (by omega) (by omega)) P _ _ _ _ hP
    (fun r j => ?_) (fun r j => ?_) (fun r j l => ?_) x).trans (placeO i x0 x1 x2 e p 0 C hp hC _ _ x)
  · subst hk; exact hdF_lo i x0 x1 x2 e p Q K _ _ ⟨hQ, hK, rfl⟩ r j
  · subst hk'; exact hdF_hi i x0 x1 x2 e p Q K _ _ ⟨hQ, hK, rfl⟩ r j
  · rw [wl0_cut x0 e 0 (1024 + 128 * p) V _ _ (by omega) (by omega) (by omega), wl1_cut x1 e (1024 + 128 * p) V _ (by omega) (by omega), Nat.zero_add r.val]
    exact catFirst (cut0 x0 e) (cut1 x1 e) (1024 + 128 * p) _ _ r j l

/-- A stored tile of the second result: of sequence `e`, group `g`. -/
theorem sNext (e g a a' q0 q1 q2 q3 k0 k1 k2 k3 C : ℕ) (H : q0 = 1536 * e ∧ q1 = q0 + 128 ∧ q2 = q0 + 256 ∧ q3 = q0 + 384
      ∧ k0 = q0 + 512 ∧ k1 = q1 + 512 ∧ k2 = q2 + 512 ∧ k3 = q3 + 512 ∧ C = 128 * e ∧ a = 128 * g ∧ a' + 128 = a ∧ e < 4 ∧ g < 4) (h2) (P : S1x128x128.Idx → EReal)
    (hP : P = lT (hdN x0 x2 Cert.DilIdeal.Gen.k0_pay4 a a' q0 k0 0 (by omega)) (hdN x0 x2 Cert.DilIdeal.Gen.k0_pay5 a a' q0 k0 1 (by omega))
      (hdN x0 x2 Cert.DilIdeal.Gen.k0_pay4 a a' q1 k1 2 (by omega)) (hdN x0 x2 Cert.DilIdeal.Gen.k0_pay5 a a' q1 k1 3 (by omega))
      (hdN x0 x2 Cert.DilIdeal.Gen.k0_pay4 a a' q2 k2 4 (by omega)) (hdN x0 x2 Cert.DilIdeal.Gen.k0_pay5 a a' q2 k2 5 (by omega))
      (hdN x0 x2 Cert.DilIdeal.Gen.k0_pay4 a a' q3 k3 6 (by omega)) (hdN x0 x2 Cert.DilIdeal.Gen.k0_pay5 a a' q3 k3 7 (by omega))) (x : S1x128x128.Idx) :
    P x = HS i x0 x1 x2 ((Rect.unit (s := S1x512x512) ![0, a, C] S1x128x128.size h2).emb x) := by
  obtain ⟨hq0, hq1, hq2, hq3, hk0, hk1, hk2, hk3, hC, ha, ha', he, hg⟩ := H
  exact (pieceL (stepOf i) (cut0 x0 e) (cut1 x1 e) x2 a (ib (by omega) (by omega)) P _ _ _ _ _ _ _ _ hP
    (hdN_lo i x0 x1 x2 e 0 g a a' q0 k0 0 _ ⟨by omega, by omega, rfl, ha, ha'⟩) (hdN_hi i x0 x1 x2 e 0 g a a' q0 k0 1 _ ⟨by omega, by omega, rfl, ha, ha'⟩)
    (hdN_lo i x0 x1 x2 e 1 g a a' q1 k1 2 _ ⟨by omega, by omega, rfl, ha, ha'⟩) (hdN_hi i x0 x1 x2 e 1 g a a' q1 k1 3 _ ⟨by omega, by omega, rfl, ha, ha'⟩)
    (hdN_lo i x0 x1 x2 e 2 g a a' q2 k2 4 _ ⟨by omega, by omega, rfl, ha, ha'⟩) (hdN_hi i x0 x1 x2 e 2 g a a' q2 k2 5 _ ⟨by omega, by omega, rfl, ha, ha'⟩)
    (hdN_lo i x0 x1 x2 e 3 g a a' q3 k3 6 _ ⟨by omega, by omega, rfl, ha, ha'⟩) (hdN_hi i x0 x1 x2 e 3 g a a' q3 k3 7 _ ⟨by omega, by omega, rfl, ha, ha'⟩) x).trans
    (placeS i x0 x1 x2 e a C hC _ _ x)

theorem sFirst (e q0 q1 q2 q3 k0 k1 k2 k3 C : ℕ) (H : q0 = 1536 * e ∧ q1 = q0 + 128 ∧ q2 = q0 + 256 ∧ q3 = q0 + 384
      ∧ k0 = q0 + 512 ∧ k1 = q1 + 512 ∧ k2 = q2 + 512 ∧ k3 = q3 + 512 ∧ C = 128 * e ∧ e < 4) (h2) (P : S1x128x128.Idx → EReal)
    (hP : P = lT (hdF i x0 x1 x2 Cert.DilIdeal.Gen.k0_pay4 q0 k0 0 (by omega)) (hdF i x0 x1 x2 Cert.DilIdeal.Gen.k0_pay5 q0 k0 1 (by omega))
      (hdF i x0 x1 x2 Cert.DilIdeal.Gen.k0_pay4 q1 k1 2 (by omega)) (hdF i x0 x1 x2 Cert.DilIdeal.Gen.k0_pay5 q1 k1 3 (by omega))
      (hdF i x0 x1 x2 Cert.DilIdeal.Gen.k0_pay4 q2 k2 4 (by omega)) (hdF i x0 x1 x2 Cert.DilIdeal.Gen.k0_pay5 q2 k2 5 (by omega))
      (hdF i x0 x1 x2 Cert.DilIdeal.Gen.k0_pay4 q3 k3 6 (by omega)) (hdF i x0 x1 x2 Cert.DilIdeal.Gen.k0_pay5 q3 k3 7 (by omega))) (x : S1x128x128.Idx) :
    P x = HS i x0 x1 x2 ((Rect.unit (s := S1x512x512) ![0, 0, C] S1x128x128.size h2).emb x) := by
  obtain ⟨hq0, hq1, hq2, hq3, hk0, hk1, hk2, hk3, hC, he⟩ := H
  exact (pieceL (stepOf i) (cut0 x0 e) (cut1 x1 e) x2 0 (ib (by omega) (by omega)) P _ _ _ _ _ _ _ _ hP
    (hdF_lo i x0 x1 x2 e 0 q0 k0 0 _ ⟨by omega, by omega, rfl⟩) (hdF_hi i x0 x1 x2 e 0 q0 k0 1 _ ⟨by omega, by omega, rfl⟩)
    (hdF_lo i x0 x1 x2 e 1 q1 k1 2 _ ⟨by omega, by omega, rfl⟩) (hdF_hi i x0 x1 x2 e 1 q1 k1 3 _ ⟨by omega, by omega, rfl⟩)
    (hdF_lo i x0 x1 x2 e 2 q2 k2 4 _ ⟨by omega, by omega, rfl⟩) (hdF_hi i x0 x1 x2 e 2 q2 k2 5 _ ⟨by omega, by omega, rfl⟩)
    (hdF_lo i x0 x1 x2 e 3 q3 k3 6 _ ⟨by omega, by omega, rfl⟩) (hdF_hi i x0 x1 x2 e 3 q3 k3 7 _ ⟨by omega, by omega, rfl⟩) x).trans
    (placeS i x0 x1 x2 e 0 C hC _ _ x)

end Run

end Cert.Dil16Ideal.Hand

end
-- ==== Proof.Dil16Blocks.lean ====
/- The two blocks that the body of `dilated` leaves at dilation 16. -/
module

public import proofs.«01_k».proof.Proof.Dil16Tiles

@[expose] public section

set_option maxRecDepth 16384

noncomputable section

namespace Cert.Dil16Ideal.Hand

open Cert.Dil16Ideal Cert.Dil16Ideal.Gen
open Idealize.ShloMosaic Idealize.ShloMosaic.TcCoe Idealize.SL.Sem

variable (i : grid0.Coords) (x0 : Vec Ideal S1x512x6144 .bf16) (x1 : Vec Ideal S1x128x6144 .bf16) (x2 : Vec Ideal S8x128x256 .f32)

set_option maxHeartbeats 8000000 in
/-- The block of the first result. -/
theorem out3_eq : out0_3 (F := Ideal) i x0 x1 x2 = HO i x0 x1 x2 := by
  funext y
  unfold out0_3
  refine View.canon_apply_of_pieces _ _ ?_ y (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.2 ⟨fun x => ?_, ?_⟩
  · dsimp only
    refine oNext i x0 x1 x2 3 3 3 384 256 4992 5504 6016 1920 6 7 (by decide) _ _ ?_ x
    rfl
  refine List.forall_mem_cons.2 ⟨fun x => ?_, ?_⟩
  · dsimp only
    refine oNext i x0 x1 x2 3 2 3 384 256 4864 5376 5888 1792 4 5 (by decide) _ _ ?_ x
    rfl
  refine List.forall_mem_cons.2 ⟨fun x => ?_, ?_⟩
  · dsimp only
    refine oNext i x0 x1 x2 3 1 3 384 256 4736 5248 5760 1664 2 3 (by decide) _ _ ?_ x
    rfl
  refine List.forall_mem_cons.2 ⟨fun x => ?_, ?_⟩
  · dsimp only
    refine oNext i x0 x1 x2 3 0 3 384 256 4608 5120 5632 1536 0 1 (by decide) _ _ ?_ x
    rfl
  refine List.forall_mem_cons.2 ⟨fun x => ?_, ?_⟩
  · dsimp only
    refine oNext i x0 x1 x2 3 3 2 256 128 4992 5504 6016 1920 6 7 (by decide) _ _ ?_ x
    rfl
  refine List.forall_mem_cons.2 ⟨fun x => ?_, ?_⟩
  · dsimp only
    refine oNext i x0 x1 x2 3 2 2 256 128 4864 5376 5888 1792 4 5 (by decide) _ _ ?_ x
    rfl
  refine List.forall_mem_cons.2 ⟨fun x => ?_, ?_⟩
  · dsimp only
    refine oNext i x0 x1 x2 3 1 2 256 128 4736 5248 5760 1664 2 3 (by decide) _ _ ?_ x
    rfl
  refine List.forall_mem_cons.2 ⟨fun x => ?_, ?_⟩
  · dsimp only
    refine oNext i x0 x1 x2 3 0 2 256 128 4608 5120 5632 1536 0 1 (by decide) _ _ ?_ x
    rfl
  refine List.forall_mem_cons.2 ⟨fun x => ?_, ?_⟩
  · dsimp only
    refine oNext i x0 x1 x2 3 3 1 128 0 4992 5504 6016 1920 6 7 (by decide) _ _ ?_ x
    rfl
  refine List.forall_mem_cons.2 ⟨fun x => ?_, ?_⟩
  · dsimp only
    refine oNext i x0 x1 x2 3 2 1 128 0 4864 5376 5888 1792 4 5 (by decide) _ _ ?_ x
    rfl
  refine List.forall_mem_cons.2 ⟨fun x => ?_, ?_⟩
  · dsimp only
    refine oNext i x0 x1 x2 3 1 1 128 0 4736 5248 5760 1664 2 3 (by decide) _ _ ?_ x
    rfl
  refine List.forall_mem_cons.2 ⟨fun x => ?_, ?_⟩
  · dsimp only
    refine oNext i x0 x1 x2 3 0 1 128 0 4608 5120 5632 1536 0 1 (by decide) _ _ ?_ x
    rfl
  refine List.forall_mem_cons.2 ⟨fun x => ?_, ?_⟩
  · dsimp only
    refine oFirst i x0 x1 x2 3 3 4992 5504 6016 1920 6 7 (by decide) _ _ ?_ x
    rfl
  refine List.forall_mem_cons.2 ⟨fun x => ?_, ?_⟩
  · dsimp only
    refine oFirst i x0 x1 x2 3 2 4864 5376 5888 1792 4 5 (by decide) _ _ ?_ x
    rfl
  refine List.forall_mem_cons.2 ⟨fun x => ?_, ?_⟩
  · dsimp only
    refine oFirst i x0 x1 x2 3 1 4736 5248 5760 1664 2 3 (by decide) _ _ ?_ x
    rfl
  refine List.forall_mem_cons.2 ⟨fun x => ?_, ?_⟩
  · dsimp only
    refine oFirst i x0 x1 x2 3 0 4608 5120 5632 1536 0 1 (by decide) _ _ ?_ x
    rfl
  refine List.forall_mem_cons.2 ⟨fun x => ?_, ?_⟩
  · dsimp only
    refine oNext i x0 x1 x2 2 3 3 384 256 3456 3968 4480 1408 6 7 (by decide) _ _ ?_ x
    rfl
  refine List.forall_mem_cons.2 ⟨fun x => ?_, ?_⟩
  · dsimp only
    refine oNext i x0 x1 x2 2 2 3 384 256 3328 3840 4352 1280 4 5 (by decide) _ _ ?_ x
    rfl
  refine List.forall_mem_cons.2 ⟨fun x => ?_, ?_⟩
  · dsimp only
    refine oNext i x0 x1 x2 2 1 3 384 256 3200 3712 4224 1152 2 3 (by decide) _ _ ?_ x
    rfl
  refine List.forall_mem_cons.2 ⟨fun x => ?_, ?_⟩
  · dsimp only
    refine oNext i x0 x1 x2 2 0 3 384 256 3072 3584 4096 1024 0 1 (by decide) _ _ ?_ x
    rfl
  refine List.forall_mem_cons.2 ⟨fun x => ?_, ?_⟩
  · dsimp only
    refine oNext i x0 x1 x2 2 3 2 256 128 3456 3968 4480 1408 6 7 (by decide) _ _ ?_ x
    rfl
  refine List.forall_mem_cons.2 ⟨fun x => ?_, ?_⟩
  · dsimp only
    refine oNext i x0 x1 x2 2 2 2 256 128 3328 3840 4352 1280 4 5 (by decide) _ _ ?_ x
    rfl
  refine List.forall_mem_cons.2 ⟨fun x => ?_, ?_⟩
  · dsimp only
    refine oNext i x0 x1 x2 2 1 2 256 128 3200 3712 4224 1152 2 3 (by decide) _ _ ?_ x
    rfl
  refine List.forall_mem_cons.2 ⟨fun x => ?_, ?_⟩
  · dsimp only
    refine oNext i x0 x1 x2 2 0 2 256 128 3072 3584 4096 1024 0 1 (by decide) _ _ ?_ x
    rfl
  refine List.forall_mem_cons.2 ⟨fun x => ?_, ?_⟩
  · dsimp only
    refine oNext i x0 x1 x2 2 3 1 128 0 3456 3968 4480 1408 6 7 (by decide) _ _ ?_ x
    rfl
  refine List.forall_mem_cons.2 ⟨fun x => ?_, ?_⟩
  · dsimp only
    refine oNext i x0 x1 x2 2 2 1 128 0 3328 3840 4352 1280 4 5 (by decide) _ _ ?_ x
    rfl
  refine List.forall_mem_cons.2 ⟨fun x => ?_, ?_⟩
  · dsimp only
    refine oNext i x0 x1 x2 2 1 1 128 0 3200 3712 4224 1152 2 3 (by decide) _ _ ?_ x
    rfl
  refine List.forall_mem_cons.2 ⟨fun x => ?_, ?_⟩
  · dsimp only
    refine oNext i x0 x1 x2 2 0 1 128 0 3072 3584 4096 1024 0 1 (by decide) _ _ ?_ x
    rfl
  refine List.forall_mem_cons.2 ⟨fun x => ?_, ?_⟩
  · dsimp only
    refine oFirst i x0 x1 x2 2 3 3456 3968 4480 1408 6 7 (by decide) _ _ ?_ x
    rfl
  refine List.forall_mem_cons.2 ⟨fun x => ?_, ?_⟩
  · dsimp only
    refine oFirst i x0 x1 x2 2 2 3328 3840 4352 1280 4 5 (by decide) _ _ ?_ x
    rfl
  refine List.forall_mem_cons.2 ⟨fun x => ?_, ?_⟩
  · dsimp only
    refine oFirst i x0 x1 x2 2 1 3200 3712 4224 1152 2 3 (by decide) _ _ ?_ x
    rfl
  refine List.forall_mem_cons.2 ⟨fun x => ?_, ?_⟩
  · dsimp only
    refine oFirst i x0 x1 x2 2 0 3072 3584 4096 1024 0 1 (by decide) _ _ ?_ x
    rfl
  refine List.forall_mem_cons.2 ⟨fun x => ?_, ?_⟩
  · dsimp only
    refine oNext i x0 x1 x2 1 3 3 384 256 1920 2432 2944 896 6 7 (by decide) _ _ ?_ x
    rfl
  refine List.forall_mem_cons.2 ⟨fun x => ?_, ?_⟩
  · dsimp only
    refine oNext i x0 x1 x2 1 2 3 384 256 1792 2304 2816 768 4 5 (by decide) _ _ ?_ x
    rfl
  refine List.forall_mem_cons.2 ⟨fun x => ?_, ?_⟩
  · dsimp only
    refine oNext i x0 x1 x2 1 1 3 384 256 1664 2176 2688 640 2 3 (by decide) _ _ ?_ x
    rfl
  refine List.forall_mem_cons.2 ⟨fun x => ?_, ?_⟩
  · dsimp only
    refine oNext i x0 x1 x2 1 0 3 384 256 1536 2048 2560 512 0 1 (by decide) _ _ ?_ x
    rfl
  refine List.forall_mem_cons.2 ⟨fun x => ?_, ?_⟩
  · dsimp only
    refine oNext i x0 x1 x2 1 3 2 256 128 1920 2432 2944 896 6 7 (by decide) _ _ ?_ x
    rfl
  refine List.forall_mem_cons.2 ⟨fun x => ?_, ?_⟩
  · dsimp only
    refine oNext i x0 x1 x2 1 2 2 256 128 1792 2304 2816 768 4 5 (by decide) _ _ ?_ x
    rfl
  refine List.forall_mem_cons.2 ⟨fun x => ?_, ?_⟩
  · dsimp only
    refine oNext i x0 x1 x2 1 1 2 256 128 1664 2176 2688 640 2 3 (by decide) _ _ ?_ x
    rfl
  refine List.forall_mem_cons.2 ⟨fun x => ?_, ?_⟩
  · dsimp only
    refine oNext i x0 x1 x2 1 0 2 256 128 1536 2048 2560 512 0 1 (by decide) _ _ ?_ x
    rfl
  refine List.forall_mem_cons.2 ⟨fun x => ?_, ?_⟩
  · dsimp only
    refine oNext i x0 x1 x2 1 3 1 128 0 1920 2432 2944 896 6 7 (by decide) _ _ ?_ x
    rfl
  refine List.forall_mem_cons.2 ⟨fun x => ?_, ?_⟩
  · dsimp only
    refine oNext i x0 x1 x2 1 2 1 128 0 1792 2304 2816 768 4 5 (by decide) _ _ ?_ x
    rfl
  refine List.forall_mem_cons.2 ⟨fun x => ?_, ?_⟩
  · dsimp only
    refine oNext i x0 x1 x2 1 1 1 128 0 1664 2176 2688 640 2 3 (by decide) _ _ ?_ x
    rfl
  refine List.forall_mem_cons.2 ⟨fun x => ?_, ?_⟩
  · dsimp only
    refine oNext i x0 x1 x2 1 0 1 128 0 1536 2048 2560 512 0 1 (by decide) _ _ ?_ x
    rfl
  refine List.forall_mem_cons.2 ⟨fun x => ?_, ?_⟩
  · dsimp only
    refine oFirst i x0 x1 x2 1 3 1920 2432 2944 896 6 7 (by decide) _ _ ?_ x
    rfl
  refine List.forall_mem_cons.2 ⟨fun x => ?_, ?_⟩
  · dsimp only
    refine oFirst i x0 x1 x2 1 2 1792 2304 2816 768 4 5 (by decide) _ _ ?_ x
    rfl
  refine List.forall_mem_cons.2 ⟨fun x => ?_, ?_⟩
  · dsimp only
    refine oFirst i x0 x1 x2 1 1 1664 2176 2688 640 2 3 (by decide) _ _ ?_ x
    rfl
  refine List.forall_mem_cons.2 ⟨fun x => ?_, ?_⟩
  · dsimp only
    refine oFirst i x0 x1 x2 1 0 1536 2048 2560 512 0 1 (by decide) _ _ ?_ x
    rfl
  refine List.forall_mem_cons.2 ⟨fun x => ?_, ?_⟩
  · dsimp only
    refine oNext i x0 x1 x2 0 3 3 384 256 384 896 1408 384 6 7 (by decide) _ _ ?_ x
    rfl
  refine List.forall_mem_cons.2 ⟨fun x => ?_, ?_⟩
  · dsimp only
    refine oNext i x0 x1 x2 0 2 3 384 256 256 768 1280 256 4 5 (by decide) _ _ ?_ x
    rfl
  refine List.forall_mem_cons.2 ⟨fun x => ?_, ?_⟩
  · dsimp only
    refine oNext i x0 x1 x2 0 1 3 384 256 128 640 1152 128 2 3 (by decide) _ _ ?_ x
    rfl
  refine List.forall_mem_cons.2 ⟨fun x => ?_, ?_⟩
  · dsimp only
    refine oNext i x0 x1 x2 0 0 3 384 256 0 512 1024 0 0 1 (by decide) _ _ ?_ x
    rfl
  refine List.forall_mem_cons.2 ⟨fun x => ?_, ?_⟩
  · dsimp only
    refine oNext i x0 x1 x2 0 3 2 256 128 384 896 1408 384 6 7 (by decide) _ _ ?_ x
    rfl
  refine List.forall_mem_cons.2 ⟨fun x => ?_, ?_⟩
  · dsimp only
    refine oNext i x0 x1 x2 0 2 2 256 128 256 768 1280 256 4 5 (by decide) _ _ ?_ x
    rfl
  refine List.forall_mem_cons.2 ⟨fun x => ?_, ?_⟩
  · dsimp only
    refine oNext i x0 x1 x2 0 1 2 256 128 128 640 1152 128 2 3 (by decide) _ _ ?_ x
    rfl
  refine List.forall_mem_cons.2 ⟨fun x => ?_, ?_⟩
  · dsimp only
    refine oNext i x0 x1 x2 0 0 2 256 128 0 512 1024 0 0 1 (by decide) _ _ ?_ x
    rfl
  refine List.forall_mem_cons.2 ⟨fun x => ?_, ?_⟩
  · dsimp only
    refine oNext i x0 x1 x2 0 3 1 128 0 384 896 1408 384 6 7 (by decide) _ _ ?_ x
    rfl
  refine List.forall_mem_cons.2 ⟨fun x => ?_, ?_⟩
  · dsimp only
    refine oNext i x0 x1 x2 0 2 1 128 0 256 768 1280 256 4 5 (by decide) _ _ ?_ x
    rfl
  refine List.forall_mem_cons.2 ⟨fun x => ?_, ?_⟩
  · dsimp only
    refine oNext i x0 x1 x2 0 1 1 128 0 128 640 1152 128 2 3 (by decide) _ _ ?_ x
    rfl
  refine List.forall_mem_cons.2 ⟨fun x => ?_, ?_⟩
  · dsimp only
    refine oNext i x0 x1 x2 0 0 1 128 0 0 512 1024 0 0 1 (by decide) _ _ ?_ x
    rfl
  refine List.forall_mem_cons.2 ⟨fun x => ?_, ?_⟩
  · dsimp only
    refine oFirst i x0 x1 x2 0 3 384 896 1408 384 6 7 (by decide) _ _ ?_ x
    rfl
  refine List.forall_mem_cons.2 ⟨fun x => ?_, ?_⟩
  · dsimp only
    refine oFirst i x0 x1 x2 0 2 256 768 1280 256 4 5 (by decide) _ _ ?_ x
    rfl
  refine List.forall_mem_cons.2 ⟨fun x => ?_, ?_⟩
  · dsimp only
    refine oFirst i x0 x1 x2 0 1 128 640 1152 128 2 3 (by decide) _ _ ?_ x
    rfl
  refine List.forall_mem_cons.2 ⟨fun x => ?_, ?_⟩
  · dsimp only
    refine oFirst i x0 x1 x2 0 0 0 512 1024 0 0 1 (by decide) _ _ ?_ x
    rfl
  exact fun _ h => absurd h List.not_mem_nil

set_option maxHeartbeats 8000000 in
/-- The block of the second result. -/
theorem out4_eq : out0_4 (F := Ideal) i x0 x1 x2 = HS i x0 x1 x2 := by
  funext y
  unfold out0_4
  refine View.canon_apply_of_pieces _ _ ?_ y (cover0_4 _ _ _ _ _ _ _ _ _ _ _ _ _ _ _ _ y)
  refine List.forall_mem_cons.2 ⟨fun x => ?_, ?_⟩
  · dsimp only
    refine sNext i x0 x1 x2 3 3 384 256 4608 4736 4864 4992 5120 5248 5376 5504 384 (by decide) _ _ ?_ x
    rfl
  refine List.forall_mem_cons.2 ⟨fun x => ?_, ?_⟩
  · dsimp only
    refine sNext i x0 x1 x2 3 2 256 128 4608 4736 4864 4992 5120 5248 5376 5504 384 (by decide) _ _ ?_ x
    rfl
  refine List.forall_mem_cons.2 ⟨fun x => ?_, ?_⟩
  · dsimp only
    refine sNext i x0 x1 x2 3 1 128 0 4608 4736 4864 4992 5120 5248 5376 5504 384 (by decide) _ _ ?_ x
    rfl
  refine List.forall_mem_cons.2 ⟨fun x => ?_, ?_⟩
  · dsimp only
    refine sFirst i x0 x1 x2 3 4608 4736 4864 4992 5120 5248 5376 5504 384 (by decide) _ _ ?_ x
    rfl
  refine List.forall_mem_cons.2 ⟨fun x => ?_, ?_⟩
  · dsimp only
    refine sNext i x0 x1 x2 2 3 384 256 3072 3200 3328 3456 3584 3712 3840 3968 256 (by decide) _ _ ?_ x
    rfl
  refine List.forall_mem_cons.2 ⟨fun x => ?_, ?_⟩
  · dsimp only
    refine sNext i x0 x1 x2 2 2 256 128 3072 3200 3328 3456 3584 3712 3840 3968 256 (by decide) _ _ ?_ x
    rfl
  refine List.forall_mem_cons.2 ⟨fun x => ?_, ?_⟩
  · dsimp only
    refine sNext i x0 x1 x2 2 1 128 0 3072 3200 3328 3456 3584 3712 3840 3968 256 (by decide) _ _ ?_ x
    rfl
  refine List.forall_mem_cons.2 ⟨fun x => ?_, ?_⟩
  · dsimp only
    refine sFirst i x0 x1 x2 2 3072 3200 3328 3456 3584 3712 3840 3968 256 (by decide) _ _ ?_ x
    rfl
  refine List.forall_mem_cons.2 ⟨fun x => ?_, ?_⟩
  · dsimp only
    refine sNext i x0 x1 x2 1 3 384 256 1536 1664 1792 1920 2048 2176 2304 2432 128 (by decide) _ _ ?_ x
    rfl
  refine List.forall_mem_cons.2 ⟨fun x => ?_, ?_⟩
  · dsimp only
    refine sNext i x0 x1 x2 1 2 256 128 1536 1664 1792 1920 2048 2176 2304 2432 128 (by decide) _ _ ?_ x
    rfl
  refine List.forall_mem_cons.2 ⟨fun x => ?_, ?_⟩
  · dsimp only
    refine sNext i x0 x1 x2 1 1 128 0 1536 1664 1792 1920 2048 2176 2304 2432 128 (by decide) _ _ ?_ x
    rfl
  refine List.forall_mem_cons.2 ⟨fun x => ?_, ?_⟩
  · dsimp only
    refine sFirst i x0 x1 x2 1 1536 1664 1792 1920 2048 2176 2304 2432 128 (by decide) _ _ ?_ x
    rfl
  refine List.forall_mem_cons.2 ⟨fun x => ?_, ?_⟩
  · dsimp only
    refine sNext i x0 x1 x2 0 3 384 256 0 128 256 384 512 640 768 896 0 (by decide) _ _ ?_ x
    rfl
  refine List.forall_mem_cons.2 ⟨fun x => ?_, ?_⟩
  · dsimp only
    refine sNext i x0 x1 x2 0 2 256 128 0 128 256 384 512 640 768 896 0 (by decide) _ _ ?_ x
    rfl
  refine List.forall_mem_cons.2 ⟨fun x => ?_, ?_⟩
  · dsimp only
    refine sNext i x0 x1 x2 0 1 128 0 0 128 256 384 512 640 768 896 0 (by decide) _ _ ?_ x
    rfl
  refine List.forall_mem_cons.2 ⟨fun x => ?_, ?_⟩
  · dsimp only
    refine sFirst i x0 x1 x2 0 0 128 256 384 512 640 768 896 0 (by decide) _ _ ?_ x
    rfl
  exact fun _ h => absurd h List.not_mem_nil

end Cert.Dil16Ideal.Hand

end
-- ==== Proof.Dil16Form.lean ====
/- Windowed attention at dilation 16, at the extended reals: the results as the 16 sequences' results. -/
module

public import proofs.«01_k».proof.Proof.DilSeqForm
public import proofs.«01_k».proof.Proof.Gen.Dil16Ideal

@[expose] public section

noncomputable section

namespace Cert.Dil16Form

open Idealize.ShloMosaic Idealize.ShloMosaic.TcCoe Idealize.SL.Sem
open Cert.Dil16Ideal (S4096x24576 S8x128x256 S8x512x8192 S8x512x2048)
open Cert.DilSeqForm (att st)

variable (src : S4096x24576.Idx → EReal) (bias : S8x128x256.Idx → EReal)

/-- At dilation 16 the tokens `e`, `e + 16`, … of batch entry `b` are a sequence. Sixteen tokens are a row of the argument. -/
def at16 (t c : ℕ) : EReal := if h : t < 4096 ∧ c < 24576 then src (ix2 (⟨t, h.1⟩ : Fin 4096) (⟨c, h.2⟩ : Fin 24576)) else 0
theorem at16_eq (t : Fin 4096) (c : Fin 24576) : at16 src t.val c.val = src (ix2 t c) := dif_pos ⟨t.isLt, c.isLt⟩
theorem at16_of (t' : Fin 4096) (c' : Fin 24576) {t c : ℕ} (ht : t'.val = t) (hc : c'.val = c) : src (ix2 t' c') = at16 src t c := by
  subst ht hc; exact (at16_eq src t' c').symm
def seq16 (b e : ℕ) : ℕ → ℕ → EReal := fun t c => at16 src (512 * b + t) (1536 * e + c)

def res0 : S8x512x8192.Idx → EReal := fun y => att (seq16 src (y 0).val ((y 2).val / 512)) bias (y 1).val ((y 2).val % 512)
def res1 : S8x512x2048.Idx → EReal := fun y => st (seq16 src (y 0).val ((y 2).val / 128)) bias (y 1).val ((y 2).val % 128)

end Cert.Dil16Form

end
-- ==== Proof.Dil16Value.lean ====
/- `dilated` at dilation 16, at the extended reals: the two arrays the kernel leaves. -/
module

public import proofs.«01_k».proof.Proof.Dil16Blocks
public import proofs.«01_k».proof.Proof.Dil16Form

@[expose] public section

set_option maxRecDepth 16384

noncomputable section

namespace Cert.Dil16Ideal.Hand

open Cert.Dil16Ideal Cert.Dil16Ideal.Gen Cert.Dil16Form
open Cert.DilSeqForm (kt lg mx wt att st lg_not lg_ok exp_lg)
open Cert.DilForm (Ok atB atB_eq)
open Cert.DilIdeal.Hand (at0 at1 at2 at0_eq at1_eq at2_eq keyAt lgB mB wB oB lB GO GS ofBits_neg_inf)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments. -/
abbrev X0 (c : Dev nD) : S4096x24576.Idx → EReal := m ((c : Thread nD τ).loc main_arg0)
abbrev X1 (c : Dev nD) : S8x128x256.Idx → EReal := m ((c : Thread nD τ).loc main_arg1)

theorem V_v0 (c : Dev nD) : V m c main_v0 = shapeCast S8x512x24576 (m ((c : Thread nD τ).loc main_arg0)) shapeCasts_S4096x24576_S8x512x24576 := by
  dsimp only [V, hostOps0, hostOps0_1]
  simp only [List.flatten_cons, List.flatten_nil, List.append_nil, List.cons_append, List.nil_append]
  after_results_simp <;> rfl

theorem fold_apply (x : S4096x24576.Idx → EReal) (b : Fin 8) (T : Fin 512) (n : Fin 24576) :
    shapeCast (α := EReal) S8x512x24576 x shapeCasts_S4096x24576_S8x512x24576 (ix3 b T n) = x (ix2 (⟨512 * b.val + T.val, by omega⟩ : Fin 4096) n) := by
  pointwise
  exact congrArg (fun k => x (ix2 k n)) (Fin.ext (show b.val * 512 + T.val = 512 * b.val + T.val by omega))

theorem V_v0_apply (c : Dev nD) (b : Fin 8) (T : Fin 512) (n : Fin 24576) : V m c main_v0 (ix3 b T n : S8x512x24576.Idx) = at16 (X0 m c) (512 * b.val + T.val) n.val := by
  rw [V_v0, fold_apply]
  exact at16_of _ _ _ rfl rfl

theorem band : ∀ (r : Fin 128) (j : Fin 256), IntOp.andi (IntOp.cmpi CmpIPredicate.sge (BitVec.ofNat 32 r.val + 128#32 - BitVec.ofNat 32 j.val) 0#32)
    (IntOp.cmpi CmpIPredicate.sle (BitVec.ofNat 32 r.val + 128#32 - BitVec.ofNat 32 j.val) 128#32) = if r.val ≤ j.val ∧ j.val ≤ r.val + 128 then 1#1 else 0#1 := by
  decide +kernel

/-- The keys in the band, for every head. -/
def maskB : IVec S8x128x256 1 :=
  broadcastInDim S8x128x256 ![0, 1, 2] bcast_S1x128x256_S8x128x256_0_1_2 (broadcastInDim S1x128x256 ![1, 2] bcast_S128x256_S1x128x256_1_2 (andi
    (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))
    (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))

theorem V_v16_apply (c : Dev nD) (h : Fin 8) (r : Fin 128) (j : Fin 256) :
    V m c main_v16 (ix3 h r j : S8x128x256.Idx) = if r.val ≤ j.val ∧ j.val ≤ r.val + 128 then atB (X1 m c) h.val r.val j.val else ⊥ := by
  have e : V m c main_v16 = select maskB (m ((c : Thread nD τ).loc main_arg1)) (broadcastInDim S8x128x256 ![] bcast_S_S8x128x256 (constant (F := Ideal) S_ .f32 0xFF800000#32)) := by
    dsimp only [V, hostOps0, hostOps0_1]
    simp only [List.flatten_cons, List.flatten_nil, List.append_nil, List.cons_append, List.nil_append]
    after_results_simp <;> rfl
  rw [e]
  pointwise [maskB]
  have hb := band r j
  refine (congrArg (fun k => Scalar.select k _ _) hb).trans ?_
  rw [ofBits_neg_inf]
  split
  · exact (atB_eq (X1 m c) h r j).symm
  · rfl

theorem index0 : ∀ t : Fin cfg0.N, win0_0.index t = ![(grid0.coords t 0).val, 0, (grid0.coords t 1).val] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, 0, (grid0.coords t 1).val] := (by decide +kernel : ∀ t : Fin grid0.N, _)
theorem index4 : ∀ t : Fin cfg0.N, win0_4.index t = ![(grid0.coords t 0).val, 0, (grid0.coords t 1).val] := (by decide +kernel : ∀ t : Fin grid0.N, _)

section Block
variable (c : Dev nD) (t : Fin cfg0.N) (e : ℕ)

theorem b_lt : (grid0.coords t 0).val < 8 := (grid0.coords t 0).isLt
theorem q_lt : (grid0.coords t 1).val < 4 := (grid0.coords t 1).isLt

/-- The sequence `e` of the four of a step, and the step's blocks of it. -/
abbrev sq : ℕ → ℕ → EReal := seq16 (X0 m c) (grid0.coords t 0).val (4 * (grid0.coords t 1).val + e)
abbrev B0 : Vec Ideal Cert.DilIdeal.S1x2048x1536 .bf16 := cut0 (iblk m c 0 t) e
abbrev B1 : Vec Ideal Cert.DilIdeal.S1x128x1536 .bf16 := cut1 (iblk m c 1 t) e

/-- The step's group before its first is never there. -/
theorem n_zero : (stepOf (grid0.coords t) 2).val = 0 := Nat.lt_one_iff.mp (grid0.coords t 2).isLt

theorem iblk0 (he : e < 4) (u k : ℕ) (hu : u < 512) (hk : k < 1536) :
    at0 (B0 m c t e) u k = sq m c t e u k := by
  have hb := b_lt t
  have hn := q_lt t
  refine (at0_eq (B0 m c t e) ⟨u, by omega⟩ ⟨k, hk⟩).trans ?_
  refine (show _ = w0 (iblk m c 0 t) u (1536 * e + k) from rfl).trans ((w0_eq (iblk m c 0 t) ⟨u, hu⟩ ⟨1536 * e + k, by omega⟩).trans ?_)
  refine Eq.trans ?_ ((V_v0_apply m c (⟨(grid0.coords t 0).val, hb⟩ : Fin 8) (⟨u, hu⟩ : Fin 512) (⟨6144 * (grid0.coords t 1).val + (1536 * e + k), by omega⟩ : Fin 24576)).trans
    (congrArg (at16 (X0 m c) _) (by dsimp only; omega)))
  blk_simp [iblk]
  exact congrArg (V m c main_v0) (by blk_ext [index0])

theorem iblk2 (h r j : ℕ) (hh : h < 8) (hr : r < 128) (hj : j < 256) :
    at2 (iblk m c 2 t) h r j = if r ≤ j ∧ j ≤ r + 128 then atB (X1 m c) h r j else ⊥ := by
  refine (at2_eq (iblk m c 2 t) ⟨h, hh⟩ ⟨r, hr⟩ ⟨j, hj⟩).trans (Eq.trans ?_ (V_v16_apply m c (⟨h, hh⟩ : Fin 8) (⟨r, hr⟩ : Fin 128) (⟨j, hj⟩ : Fin 256)))
  blk_simp [iblk]
  exact congrArg (V m c main_v16) (by blk_ext [index2])

variable (he : e < 4) (u : ℕ) (hu : u < 512)

include he hu in
/-- The keys that are there. -/
theorem keyAt_eq (j k : ℕ) (hj : j < 256) (hk : k < 1536) (ok : 128 ≤ 128 * (u / 128) + j) :
    keyAt (B0 m c t e) (B1 m c t e) u j k = sq m c t e (kt u j) k := by
  unfold keyAt
  rw [if_neg (by omega)]
  exact iblk0 m c t e he _ _ (by omega) hk

include he hu in
theorem lgB_eq (h j : ℕ) (hh : h < 8) (hj : j < 256) :
    lgB (stepOf (grid0.coords t)) (B0 m c t e) (B1 m c t e) (iblk m c 2 t) h u j = lg (sq m c t e) (X1 m c) h u j := by
  have hn := n_zero t
  unfold lgB
  split
  · next n => rw [lg_not _ _ (fun k => by have := k.1; omega)]
  · next n =>
    rw [iblk2 m c t _ _ _ hh (by omega) hj]
    by_cases hb : u % 128 ≤ j ∧ j ≤ u % 128 + 128
    · have ok : Ok u j := ⟨by omega, by omega, by omega⟩
      rw [if_pos hb, lg_ok _ _ ok]
      refine congrArg (· + _) (Finset.sum_congr rfl fun d _ => ?_)
      rw [iblk0 m c t e he _ _ hu (by omega), keyAt_eq m c t e he u hu j _ hj (by omega) ok.1]
    · rw [if_neg hb, lg_not _ _ (fun k : Ok u j => hb ⟨by have := k.2.1; omega, by have := k.2.2; omega⟩), EReal.add_bot]

include he hu in
theorem mB_eq (h : ℕ) (hh : h < 8) :
    mB (stepOf (grid0.coords t)) (B0 m c t e) (B1 m c t e) (iblk m c 2 t) h u = mx (sq m c t e) (X1 m c) h u :=
  congrArg (Finset.univ.fold max ⊥) (funext fun j : Fin 256 => lgB_eq m c t e he u hu h j.val hh j.isLt)

include he hu in
theorem wB_eq (h j : ℕ) (hh : h < 8) (hj : j < 256) :
    wB (stepOf (grid0.coords t)) (B0 m c t e) (B1 m c t e) (iblk m c 2 t) h u j = wt (sq m c t e) (X1 m c) h u j := by
  unfold wB wt
  rw [lgB_eq m c t e he u hu h j hh hj, mB_eq m c t e he u hu h hh]
  exact exp_lg _ _ _ _ _ _

include he hu in
theorem oB_eq (k : ℕ) (hk : k < 512) :
    oB (stepOf (grid0.coords t)) (B0 m c t e) (B1 m c t e) (iblk m c 2 t) u k = att (sq m c t e) (X1 m c) u k := by
  refine Finset.sum_congr rfl fun j _ => ?_
  rw [wB_eq m c t e he u hu _ _ (by omega) j.isLt]
  by_cases ok : Ok u j.val
  · rw [keyAt_eq m c t e he u hu _ _ j.isLt (by omega) ok.1]
  · have z : wt (sq m c t e) (X1 m c) (k / 64) u j.val = 0 := if_neg ok
    rw [z, zero_mul, zero_mul]

include he hu in
theorem lB_eq (l : ℕ) :
    lB (stepOf (grid0.coords t)) (B0 m c t e) (B1 m c t e) (iblk m c 2 t) u l = st (sq m c t e) (X1 m c) u l := by
  unfold lB st
  by_cases h : l < 8
  · rw [if_pos h, if_pos h]; exact mB_eq m c t e he u hu l h
  · rw [if_neg h, if_neg h]
    by_cases h' : l < 16
    · rw [if_pos h', if_pos h']; exact Finset.sum_congr rfl fun j _ => wB_eq m c t e he u hu _ _ (by omega) j.isLt
    · rw [if_neg h', if_neg h']

end Block

/-- The arrays the kernel leaves. -/
theorem final3 (c : Dev nD) : (dats m 0 c).arrAt 3 cfg0.N = res0 (X0 m c) (X1 m c) := by
  refine (dats m 0 c).arrAt_eq_of_covers 3 _ (by decide +kernel) fun t hf y => ?_
  blk_simp
  rw [after0_3, out3_eq]
  obtain ⟨z, r, n, rfl⟩ : ∃ (z : Fin 1) (r : Fin 512) (n : Fin 2048), y = (ix3 z r n : S1x512x2048.Idx) := ⟨y 0, y 1, y 2, eq_ix3 y⟩
  obtain rfl : z = 0 := Subsingleton.elim _ _
  have hb := b_lt t
  have hn := q_lt t
  have e : (((View.whole main_v17_0).slice (win0_3.rect t)).emb (ix3 0 r n : S1x512x2048.Idx))
      = (ix3 (⟨(grid0.coords t 0).val, hb⟩ : Fin 8) r (⟨2048 * (grid0.coords t 1).val + n.val, by omega⟩ : Fin 8192) : S8x512x8192.Idx) := by
    blk_ext [index3]
  rw [e]
  have e1 : (2048 * (grid0.coords t 1).val + n.val) / 512 = 4 * (grid0.coords t 1).val + n.val / 512 := by omega
  have e2 : (2048 * (grid0.coords t 1).val + n.val) % 512 = n.val % 512 := by omega
  refine (oB_eq m c t (n.val / 512) (by omega) r.val r.isLt (n.val % 512) (by omega)).trans ?_
  exact (congrArg₂ (fun p q => att (seq16 (X0 m c) (grid0.coords t 0).val p) (X1 m c) r.val q) e1 e2).symm

theorem final4 (c : Dev nD) : (dats m 0 c).arrAt 4 cfg0.N = res1 (X0 m c) (X1 m c) := by
  refine (dats m 0 c).arrAt_eq_of_covers 4 _ (by decide +kernel) fun t hf y => ?_
  blk_simp
  rw [after0_4, out4_eq]
  obtain ⟨z, r, n, rfl⟩ : ∃ (z : Fin 1) (r : Fin 512) (n : Fin 512), y = (ix3 z r n : S1x512x512.Idx) := ⟨y 0, y 1, y 2, eq_ix3 y⟩
  obtain rfl : z = 0 := Subsingleton.elim _ _
  have hb := b_lt t
  have hn := q_lt t
  have e : (((View.whole main_v17_1).slice (win0_4.rect t)).emb (ix3 0 r n : S1x512x512.Idx))
      = (ix3 (⟨(grid0.coords t 0).val, hb⟩ : Fin 8) r (⟨512 * (grid0.coords t 1).val + n.val, by omega⟩ : Fin 2048) : S8x512x2048.Idx) := by
    blk_ext [index4]
  rw [e]
  have e1 : (512 * (grid0.coords t 1).val + n.val) / 128 = 4 * (grid0.coords t 1).val + n.val / 128 := by omega
  have e2 : (512 * (grid0.coords t 1).val + n.val) % 128 = n.val % 128 := by omega
  refine (lB_eq m c t (n.val / 128) (by omega) r.val r.isLt (n.val % 128)).trans ?_
  exact (congrArg₂ (fun p q => st (seq16 (X0 m c) (grid0.coords t 0).val p) (X1 m c) r.val q) e1 e2).symm

/-- Every run ends with the results at `res0`, `res1` of the arguments, and the arguments as they were. -/
theorem run : θ_run defs (onTc (τ := τ) (main (F := Ideal))) ⟨m, fun _ => 0, ρ⟩ fun r => ∀ c : Dev nD,
      r.2.mem ((c.tc : Thread nD τ).loc main_v17_0) = res0 (X0 m c) (X1 m c)
      ∧ r.2.mem ((c.tc : Thread nD τ).loc main_v17_1) = res1 (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Dil16Ideal.Hand

end
-- ==== Proof.Dil16RefValue.lean ====
/- Windowed attention's reference at dilation 16, at the extended reals: its results are the closed forms the kernel leaves. -/
module

public import proofs.«01_k».proof.Proof.Gen.Dil16RefIdeal.Run
public import proofs.«01_k».proof.Proof.Gen.Dil16Ideal
public import proofs.«01_k».proof.Proof.Dil16Form
public import Idealize.ShloMosaic.Lib.Pointwise
public import Idealize.ShloMosaic.Lib.Pipeline.ValueKit

@[expose] public section

set_option maxRecDepth 16384

noncomputable section

namespace Cert.Dil16RefIdeal.Hand

open Cert.Dil16RefIdeal Cert.Dil16RefIdeal.Gen Cert.Dil16Form
open Cert.DilSeqForm (kt lg mx wt att st lg_not lg_ok)
open Cert.DilForm (Ok atB atB_eq)
open Idealize.ShloMosaic Idealize.ShloMosaic.TcCoe Idealize.SL.Sem

/-- A token a row. -/
def flatR (x : FVec Ideal S4096x24576 .bf16) : FVec Ideal S65536x1536 .bf16 := shapeCast _ x shapeCasts_S4096x24576_S65536x1536

theorem flatR_apply (x : FVec Ideal S4096x24576 .bf16) (t : Fin 65536) (c : Fin 1536) :
    flatR x (ix2 t c) = at16 x (t.val / 16) (1536 * (t.val % 16) + c.val) := by
  pointwise [flatR]
  refine at16_of x _ _ ?_ ?_ <;> dsimp only <;> omega

/-- The queries, by block and head. -/
def qR (x : FVec Ideal S4096x24576 .bf16) : FVec Ideal S8x16x4x128x8x64 .f32 :=
  shapeCast _ (transpose S8x16x512x8x64 [0, 2, 1, 3, 4] (shapeCast _ (extf .f32 (shapeCast _ (extractStridedSlice S65536x512 ![0, 0] (flatR x) slices_S65536x1536_S65536x512_0_0) shapeCasts_S65536x512_S8x8192x8x64) bitsLt_bf16_f32) shapeCasts_S8x8192x8x64_S8x512x16x8x64) transposes_S8x512x16x8x64_S8x16x512x8x64_0_2_1_3_4) shapeCasts_S8x16x512x8x64_S8x16x4x128x8x64

theorem qR_apply (x : FVec Ideal S4096x24576 .bf16) (b : Fin 8) (e : Fin 16) (n : Fin 4) (r : Fin 128) (h : Fin 8) (d : Fin 64) :
    qR x (ix6 b e n r h d) = seq16 x b.val e.val (128 * n.val + r.val) (64 * h.val + d.val) := by
  pointwise [qR]
  refine (flatR_apply x _ _).trans ?_
  unfold seq16
  refine congrArg₂ (at16 x) ?_ ?_ <;> dsimp only <;> omega

/-- The keys. -/
def kR (x : FVec Ideal S4096x24576 .bf16) : FVec Ideal S8x16x4x128x8x64 .f32 :=
  shapeCast _ (transpose S8x16x512x8x64 [0, 2, 1, 3, 4] (shapeCast _ (extf .f32 (shapeCast _ (extractStridedSlice S65536x512 ![0, 512] (flatR x) slices_S65536x1536_S65536x512_0_512) shapeCasts_S65536x512_S8x8192x8x64) bitsLt_bf16_f32) shapeCasts_S8x8192x8x64_S8x512x16x8x64) transposes_S8x512x16x8x64_S8x16x512x8x64_0_2_1_3_4) shapeCasts_S8x16x512x8x64_S8x16x4x128x8x64

theorem kR_apply (x : FVec Ideal S4096x24576 .bf16) (b : Fin 8) (e : Fin 16) (n : Fin 4) (r : Fin 128) (h : Fin 8) (d : Fin 64) :
    kR x (ix6 b e n r h d) = seq16 x b.val e.val (128 * n.val + r.val) (512 + 64 * h.val + d.val) := by
  pointwise [kR]
  refine (flatR_apply x _ _).trans ?_
  unfold seq16
  refine congrArg₂ (at16 x) ?_ ?_ <;> dsimp only <;> omega

/-- The values. -/
def vR (x : FVec Ideal S4096x24576 .bf16) : FVec Ideal S8x16x4x128x8x64 .f32 :=
  shapeCast _ (transpose S8x16x512x8x64 [0, 2, 1, 3, 4] (shapeCast _ (extf .f32 (shapeCast _ (extractStridedSlice S65536x512 ![0, 1024] (flatR x) slices_S65536x1536_S65536x512_0_1024) shapeCasts_S65536x512_S8x8192x8x64) bitsLt_bf16_f32) shapeCasts_S8x8192x8x64_S8x512x16x8x64) transposes_S8x512x16x8x64_S8x16x512x8x64_0_2_1_3_4) shapeCasts_S8x16x512x8x64_S8x16x4x128x8x64

theorem vR_apply (x : FVec Ideal S4096x24576 .bf16) (b : Fin 8) (e : Fin 16) (n : Fin 4) (r : Fin 128) (h : Fin 8) (d : Fin 64) :
    vR x (ix6 b e n r h d) = seq16 x b.val e.val (128 * n.val + r.val) (1024 + (64 * h.val + d.val)) := by
  pointwise [vR]
  refine (flatR_apply x _ _).trans ?_
  unfold seq16
  refine congrArg₂ (at16 x) ?_ ?_ <;> dsimp only <;> omega

/-- A block of tokens after the block before it. -/
def prevR (a : FVec Ideal S8x16x4x128x8x64 .f32) : FVec Ideal S8x16x4x256x8x64 .f32 :=
  concatenate S8x16x4x256x8x64 3 [⟨S8x16x4x128x8x64, (pad S8x16x4x128x8x64 ![0, 0, 1, 0, 0, 0] ![0, 0, 0, 0, 0, 0] ![0, 0, 0, 0, 0, 0] (extractStridedSlice S8x16x3x128x8x64 ![0, 0, 0, 0, 0, 0] a slices_S8x16x4x128x8x64_S8x16x3x128x8x64_0_0_0_0_0_0) (sitofp (F := Ideal) .f32 (constantI S_ 32 0#32)) pads_S8x16x3x128x8x64_S8x16x4x128x8x64_000_000_100_000_000_000 h_S_)⟩, ⟨S8x16x4x128x8x64, a⟩] concatenates_S8x16x4x128x8x64_S8x16x4x128x8x64_S8x16x4x256x8x64_d3

theorem prevR_apply (a : FVec Ideal S8x16x4x128x8x64 .f32) (b : Fin 8) (e : Fin 16) (n : Fin 4) (j : Fin 256) (h : Fin 8) (d : Fin 64) (hj : 128 ≤ 128 * n.val + j.val) :
    prevR a (ix6 b e n j h d) = a (ix6 b e (⟨(128 * n.val + j.val - 128) / 128, by omega⟩ : Fin 4) (⟨j.val % 128, by omega⟩ : Fin 128) h d) := by
  pointwise [prevR]
  by_cases p : j.val < 128
  · refine (dif_pos p).trans ((dif_pos (⟨by omega, p⟩ : (1 ≤ n.val ∧ n.val - 1 < 3) ∧ j.val < 128)).trans ?_)
    exact congrArg₂ (fun k l => a (ix6 b e k l h d)) (Fin.ext (show n.val - 1 = (128 * n.val + j.val - 128) / 128 by omega)) (Fin.ext (show j.val = j.val % 128 by omega))
  · refine (dif_neg p).trans ?_
    exact congrArg₂ (fun k l => a (ix6 b e k l h d)) (Fin.ext (show n.val = (128 * n.val + j.val - 128) / 128 by omega)) (Fin.ext (show j.val - 128 = j.val % 128 by omega))

/-- The keys a query sees. -/
def maskR : IVec S8x16x4x8x128x256 1 :=
  broadcastInDim S8x16x4x8x128x256 ![0, 1, 2, 3, 4, 5] bcast_S1x1x4x1x128x256_S8x16x4x8x128x256_0_1_2_3_4_5 (broadcastInDim S1x1x4x1x128x256 ![2, 4, 5] bcast_S4x128x256_S1x1x4x1x128x256_2_4_5 (andi (broadcastInDim S4x128x256 ![0, 1, 2] bcast_S1x128x256_S4x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S4x128x256 ![0, 1, 2] bcast_S4x1x256_S4x128x256_0_1_2 (cmpi .sge (addi (broadcastInDim S4x1x256 ![0, 1, 2] bcast_S4x1x1_S4x1x256_0_1_2 (subi (muli (broadcastInDim S4x1x1 ![0] bcast_S4_S4x1x1_0 (iotaInDim S4 32 0)) (broadcastInDim S4x1x1 ![] bcast_S_S4x1x1 (constantI S_ 32 128#32))) (broadcastInDim S4x1x1 ![] bcast_S_S4x1x1 (constantI S_ 32 128#32)))) (broadcastInDim S4x1x256 ![0, 1, 2] bcast_S1x1x256_S4x1x256_0_1_2 (broadcastInDim S1x1x256 ![1, 2] bcast_S1x256_S1x1x256_1_2 (broadcastInDim S1x256 ![1] bcast_S256_S1x256_1 (iotaInDim S256 32 0))))) (broadcastInDim S4x1x256 ![] bcast_S_S4x1x256 (constantI S_ 32 0#32))))))

theorem band : ∀ (r : Fin 128) (j : Fin 256), IntOp.andi (IntOp.cmpi CmpIPredicate.sge (IntOp.subi (IntOp.addi (BitVec.ofNat 32 r.val) 128#32) (BitVec.ofNat 32 j.val)) 0#32)
    (IntOp.cmpi CmpIPredicate.sle (IntOp.subi (IntOp.addi (BitVec.ofNat 32 r.val) 128#32) (BitVec.ofNat 32 j.val)) 128#32) = if r.val ≤ j.val ∧ j.val ≤ r.val + 128 then 1#1 else 0#1 := by
  decide +kernel

theorem there : ∀ (n : Fin 4) (j : Fin 256), IntOp.cmpi CmpIPredicate.sge (IntOp.addi (IntOp.subi (IntOp.muli (BitVec.ofNat 32 n.val) 128#32) 128#32) (BitVec.ofNat 32 j.val)) 0#32
    = if 128 ≤ 128 * n.val + j.val then 1#1 else 0#1 := by
  decide +kernel

theorem maskR_apply (b : Fin 8) (e : Fin 16) (n : Fin 4) (h : Fin 8) (r : Fin 128) (j : Fin 256) :
    maskR (ix6 b e n h r j) = if Ok (128 * n.val + r.val) j.val then 1#1 else 0#1 := by
  pointwise [maskR]
  rw [band, there]
  have e' : Ok (128 * n.val + r.val) j.val ↔ (128 ≤ 128 * n.val + j.val ∧ r.val ≤ j.val ∧ j.val ≤ r.val + 128) := by
    unfold Ok
    rw [show (128 * n.val + r.val) / 128 = n.val by omega, show (128 * n.val + r.val) % 128 = r.val by omega]
  by_cases p : 128 ≤ 128 * n.val + j.val <;> by_cases q : r.val ≤ j.val ∧ j.val ≤ r.val + 128
  · rw [if_pos p, if_pos q, if_pos (e'.mpr ⟨p, q⟩)]; rfl
  · rw [if_pos p, if_neg q, if_neg fun k => q (e'.mp k).2]; rfl
  · rw [if_neg p, if_pos q, if_neg fun k => p (e'.mp k).1]; rfl
  · rw [if_neg p, if_neg q, if_neg fun k => p (e'.mp k).1]; rfl

theorem ofBits_neg_inf : Ideal.ofBits FTy.f32 0xFF800000#32 = ⊥ := by
  simp [Ideal.ofBits, Ideal.ieee]

theorem dot1_apply (u : FVec Ideal S8x16x4x128x8x64 .f32) (w : FVec Ideal S8x16x4x256x8x64 .f32) (b : Fin 8) (e : Fin 16) (n : Fin 4) (h : Fin 8) (r : Fin 128) (j : Fin 256) :
    Host.dotGeneral dot_S8x16x4x128x8x64_S8x16x4x256x8x64_S8x16x4x8x128x256_5_5_3_3_0124_0124 none u w (ix6 b e n h r j)
      = ∑ d : Fin 64, u (ix6 b e n r h d) * w (ix6 b e n j h d) := by
  pointwise

theorem dot2_apply (u : FVec Ideal S8x16x4x256x8x64 .f32) (w : FVec Ideal S8x16x4x8x128x256 .f32) (b : Fin 8) (e : Fin 16) (n : Fin 4) (h : Fin 8) (d : Fin 64) (r : Fin 128) :
    Host.dotGeneral dot_S8x16x4x256x8x64_S8x16x4x8x128x256_S8x16x4x8x64x128_3_5_5_4_0124_0123 none u w (ix6 b e n h d r)
      = ∑ j : Fin 256, u (ix6 b e n j h d) * w (ix6 b e n h r j) := by
  pointwise

/-- The logits. -/
def lgR (x : FVec Ideal S4096x24576 .bf16) (b : FVec Ideal S8x128x256 .f32) : FVec Ideal S8x16x4x8x128x256 .f32 :=
  select maskR (addf (Host.dotGeneral dot_S8x16x4x128x8x64_S8x16x4x256x8x64_S8x16x4x8x128x256_5_5_3_3_0124_0124 none (qR x) (prevR (kR x))) (broadcastInDim S8x16x4x8x128x256 ![0, 1, 2, 3, 4, 5] bcast_S1x1x1x8x128x256_S8x16x4x8x128x256_0_1_2_3_4_5 (broadcastInDim S1x1x1x8x128x256 ![3, 4, 5] bcast_S8x128x256_S1x1x1x8x128x256_3_4_5 b))) (broadcastInDim S8x16x4x8x128x256 ![] bcast_S_S8x16x4x8x128x256 (id (constant (F := Ideal) S_ .f32 0xFF800000#32)))

theorem lgR_apply (x : FVec Ideal S4096x24576 .bf16) (bias : FVec Ideal S8x128x256 .f32) (b : Fin 8) (e : Fin 16) (n : Fin 4) (h : Fin 8) (r : Fin 128) (j : Fin 256) :
    lgR x bias (ix6 b e n h r j) = lg (seq16 x b.val e.val) bias h.val (128 * n.val + r.val) j.val := by
  have e' : lgR x bias (ix6 b e n h r j) = Scalar.select (maskR (ix6 b e n h r j))
      ((Host.dotGeneral dot_S8x16x4x128x8x64_S8x16x4x256x8x64_S8x16x4x8x128x256_5_5_3_3_0124_0124 none (qR x) (prevR (kR x)) : FVec Ideal S8x16x4x8x128x256 .f32) (ix6 b e n h r j) + bias (ix3 h r j)) ⊥ := by
    rw [← ofBits_neg_inf]
    pointwise [lgR]
    rfl
  rw [e', maskR_apply, dot1_apply]
  by_cases k : Ok (128 * n.val + r.val) j.val
  · rw [if_pos k, lg_ok _ bias k]
    refine congrArg₂ (· + ·) (Finset.sum_congr rfl fun d _ => ?_) ?_
    · rw [qR_apply, prevR_apply _ _ _ _ _ _ _ (by unfold Ok at k; omega), kR_apply]
      refine congrArg (_ * ·) (congrArg (fun t => seq16 x b.val e.val t _) ?_)
      have kj : 128 ≤ 128 * n.val + j.val := by unfold Ok at k; omega
      have hn : (128 * n.val + r.val) / 128 = n.val := by omega
      dsimp only
      unfold kt
      rw [hn]
      omega
    · rw [show (128 * n.val + r.val) % 128 = r.val by omega]
      exact (atB_eq bias h r j).symm
  · rw [if_neg k, lg_not _ bias k]; rfl

theorem reduces5 : S8x16x4x8x128x256.Reduces [5] S8x16x4x8x128 := by decide

theorem lift5 (b : Fin 8) (e : Fin 16) (n : Fin 4) (h : Fin 8) (r : Fin 128) (j : Fin 256) :
    reduces5.lift (ix5 b e n h r : S8x16x4x8x128.Idx) j = ix6 b e n h r j := by
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- The largest logits. -/
def mxR (x : FVec Ideal S4096x24576 .bf16) (b : FVec Ideal S8x128x256 .f32) : FVec Ideal S8x16x4x8x128x1 .f32 :=
  broadcastInDim S8x16x4x8x128x1 ![0, 1, 2, 3, 4] bcast_S8x16x4x8x128_S8x16x4x8x128x1_0_1_2_3_4 (Host.reduce FloatOps.maximumf (lgR x b) (constant (F := Ideal) S_ .f32 0xFF800000#32) reducesTo_S8x16x4x8x128x256_S8x16x4x8x128_d5 h_S_)

theorem mxR_apply (x : FVec Ideal S4096x24576 .bf16) (bias : FVec Ideal S8x128x256 .f32) (b : Fin 8) (e : Fin 16) (n : Fin 4) (h : Fin 8) (r : Fin 128) :
    mxR x bias (ix6 b e n h r 0) = mx (seq16 x b.val e.val) bias h.val (128 * n.val + r.val) := by
  have e' : mxR x bias (ix6 b e n h r 0) = Host.reduce FloatOps.maximumf (lgR x bias) (constant (F := Ideal) S_ .f32 0xFF800000#32) reducesTo_S8x16x4x8x128x256_S8x16x4x8x128_d5 h_S_ (ix5 b e n h r) := by
    unfold mxR
    generalize Host.reduce FloatOps.maximumf (lgR x bias) (constant (F := Ideal) S_ .f32 0xFF800000#32) reducesTo_S8x16x4x8x128x256_S8x16x4x8x128_d5 h_S_ = T
    pointwise
  rw [e', Ideal.maximumf_eq_max, Host.reduce_eq_fold_single max _ _ _ reduces5]
  unfold mx
  have e0 : (constant (F := Ideal) S_ .f32 0xFF800000#32) (Shape.Idx.first h_S_) = ⊥ := ofBits_neg_inf
  rw [e0]
  refine congrArg (fun f : Fin 256 → EReal => Finset.univ.fold max ⊥ f) (funext fun j => ?_)
  exact (congrArg (lgR x bias) (lift5 b e n h r j)).trans (lgR_apply x bias b e n h r j)

/-- The weights. -/
def pR (x : FVec Ideal S4096x24576 .bf16) (b : FVec Ideal S8x128x256 .f32) : FVec Ideal S8x16x4x8x128x256 .f32 :=
  select maskR (Host.exp (subf (lgR x b) (broadcastInDim S8x16x4x8x128x256 ![0, 1, 2, 3, 4, 5] bcast_S8x16x4x8x128x1_S8x16x4x8x128x256_0_1_2_3_4_5 (mxR x b)))) (broadcastInDim S8x16x4x8x128x256 ![] bcast_S_S8x16x4x8x128x256 (id (constant (F := Ideal) S_ .f32 0x00000000#32)))

theorem pR_apply (x : FVec Ideal S4096x24576 .bf16) (bias : FVec Ideal S8x128x256 .f32) (b : Fin 8) (e : Fin 16) (n : Fin 4) (h : Fin 8) (r : Fin 128) (j : Fin 256) :
    pR x bias (ix6 b e n h r j) = wt (seq16 x b.val e.val) bias h.val (128 * n.val + r.val) j.val := by
  have e' : pR x bias (ix6 b e n h r j) = Scalar.select (maskR (ix6 b e n h r j)) (Ideal.exp (lgR x bias (ix6 b e n h r j) - mxR x bias (ix6 b e n h r 0))) 0 := by
    pointwise [pR]
    exact congrArg (Scalar.select _ _) Ideal.ofBits_zero_f32
  rw [e', maskR_apply, lgR_apply, mxR_apply]
  unfold wt
  split <;> rfl

theorem sumR (w : FVec Ideal S8x16x4x8x128x256 .f32) (b : Fin 8) (e : Fin 16) (n : Fin 4) (h : Fin 8) (r : Fin 128) :
    Host.reduceAdd w (constant (F := Ideal) S_ .f32 0x00000000#32) reducesTo_S8x16x4x8x128x256_S8x16x4x8x128_d5 h_S_ (ix5 b e n h r)
      = ∑ j : Fin 256, w (ix6 b e n h r j) := by
  refine (Ideal.hostReduceAdd_single reducesTo_S8x16x4x8x128x256_S8x16x4x8x128_d5 reduces5 w _ _).trans ?_
  have e0 : (constant (F := Ideal) S_ .f32 0x00000000#32) (Shape.Idx.first h_S_) = (0 : EReal) := Ideal.ofBits_zero_f32
  rw [e0, zero_add]
  exact Finset.sum_congr rfl fun j _ => congrArg w (lift5 b e n h r j)

/-- The weighted sums, by token. -/
def joinO (T : FVec Ideal S8x16x4x8x64x128 .f32) : FVec Ideal S8x8192x512 .f32 :=
  shapeCast _ (transpose S8x512x16x8x64 [0, 2, 1, 3, 4] (shapeCast _ (transpose S8x16x4x128x8x64 [0, 1, 2, 5, 3, 4] T transposes_S8x16x4x8x64x128_S8x16x4x128x8x64_0_1_2_5_3_4) shapeCasts_S8x16x4x128x8x64_S8x16x512x8x64) transposes_S8x16x512x8x64_S8x512x16x8x64_0_2_1_3_4) shapeCasts_S8x512x16x8x64_S8x8192x512

theorem joinO_apply (T : FVec Ideal S8x16x4x8x64x128 .f32) (b : Fin 8) (t : Fin 8192) (c : Fin 512) :
    joinO T (ix3 b t c)
      = T (ix6 b (⟨t.val % 16, by omega⟩ : Fin 16) (⟨t.val / 16 / 128, by omega⟩ : Fin 4) (⟨c.val / 64, by omega⟩ : Fin 8) (⟨c.val % 64, by omega⟩ : Fin 64) (⟨t.val / 16 % 128, by omega⟩ : Fin 128)) := by
  pointwise [joinO]

theorem at_apply (x : FVec Ideal S4096x24576 .bf16) (bias : FVec Ideal S8x128x256 .f32) (b : Fin 8) (t : Fin 8192) (c : Fin 512) :
    joinO (Host.dotGeneral dot_S8x16x4x256x8x64_S8x16x4x8x128x256_S8x16x4x8x64x128_3_5_5_4_0124_0123 none (prevR (vR x)) (pR x bias)) (ix3 b t c) = att (seq16 x b.val (t.val % 16)) bias (t.val / 16) c.val := by
  refine (joinO_apply _ b t c).trans ?_
  rw [dot2_apply]
  have et : 128 * (t.val / 16 / 128) + t.val / 16 % 128 = t.val / 16 := by omega
  unfold att
  refine Finset.sum_congr rfl fun j _ => ?_
  rw [pR_apply, mul_comm]
  dsimp only
  rw [et]
  by_cases k : Ok (t.val / 16) j.val
  · refine congrArg (wt (seq16 x b.val (t.val % 16)) bias (c.val / 64) (t.val / 16) j.val * ·) ?_
    rw [prevR_apply _ _ _ _ _ _ _ (by unfold Ok at k; exact k.1), vR_apply]
    dsimp only
    have ek : 128 * ((128 * (t.val / 16 / 128) + j.val - 128) / 128) + j.val % 128 = kt (t.val / 16) j.val := by
      unfold kt; unfold Ok at k; omega
    rw [ek, show 64 * (c.val / 64) + c.val % 64 = c.val by omega]
  · have e : wt (seq16 x b.val (t.val % 16)) bias (c.val / 64) (t.val / 16) j.val = 0 := if_neg k
    rw [e, zero_mul, zero_mul]

/-- The first result: sixteen tokens a row. -/
def oR (x : FVec Ideal S4096x24576 .bf16) (b : FVec Ideal S8x128x256 .f32) : FVec Ideal S8x512x8192 .f32 :=
  shapeCast _ (joinO (Host.dotGeneral dot_S8x16x4x256x8x64_S8x16x4x8x128x256_S8x16x4x8x64x128_3_5_5_4_0124_0123 none (prevR (vR x)) (pR x b))) shapeCasts_S8x8192x512_S8x512x8192

theorem rowsO (T : FVec Ideal S8x8192x512 .f32) (b : Fin 8) (t : Fin 512) (c : Fin 8192) :
    (shapeCast _ T shapeCasts_S8x8192x512_S8x512x8192 : FVec Ideal S8x512x8192 .f32) (ix3 b t c)
      = T (ix3 b (⟨16 * t.val + c.val / 512, by omega⟩ : Fin 8192) (⟨c.val % 512, by omega⟩ : Fin 512)) := by
  pointwise
  refine congrArg (fun k => T (ix3 b k _)) (Fin.ext ?_)
  dsimp only; omega

theorem oR_apply (x : FVec Ideal S4096x24576 .bf16) (bias : FVec Ideal S8x128x256 .f32) (b : Fin 8) (t : Fin 512) (c : Fin 8192) :
    oR x bias (ix3 b t c) = att (seq16 x b.val (c.val / 512)) bias t.val (c.val % 512) := by
  refine (rowsO _ b t c).trans ((at_apply x bias b _ _).trans ?_)
  dsimp only
  rw [show (16 * t.val + c.val / 512) % 16 = c.val / 512 by omega, show (16 * t.val + c.val / 512) / 16 = t.val by omega]

/-- The sums of the weights. -/
def smR (x : FVec Ideal S4096x24576 .bf16) (b : FVec Ideal S8x128x256 .f32) : FVec Ideal S8x16x4x8x128x1 .f32 :=
  broadcastInDim S8x16x4x8x128x1 ![0, 1, 2, 3, 4] bcast_S8x16x4x8x128_S8x16x4x8x128x1_0_1_2_3_4 (Host.reduceAdd (pR x b) (constant (F := Ideal) S_ .f32 0x00000000#32) reducesTo_S8x16x4x8x128x256_S8x16x4x8x128_d5 h_S_)

theorem smR_apply (x : FVec Ideal S4096x24576 .bf16) (bias : FVec Ideal S8x128x256 .f32) (b : Fin 8) (e : Fin 16) (n : Fin 4) (h : Fin 8) (r : Fin 128) :
    smR x bias (ix6 b e n h r 0) = ∑ j : Fin 256, wt (seq16 x b.val e.val) bias h.val (128 * n.val + r.val) j.val := by
  have e' : smR x bias (ix6 b e n h r 0) = Host.reduceAdd (pR x bias) (constant (F := Ideal) S_ .f32 0x00000000#32) reducesTo_S8x16x4x8x128x256_S8x16x4x8x128_d5 h_S_ (ix5 b e n h r) := by
    unfold smR
    generalize Host.reduceAdd (pR x bias) (constant (F := Ideal) S_ .f32 0x00000000#32) reducesTo_S8x16x4x8x128x256_S8x16x4x8x128_d5 h_S_ = T
    pointwise
  rw [e', sumR]
  exact Finset.sum_congr rfl fun j _ => pR_apply x bias b e n h r j

/-- One number a token and head, by token. -/
def joinS (T : FVec Ideal S8x16x4x8x128x1 .f32) : FVec Ideal S8x8192x8 .f32 :=
  shapeCast _ (transpose S8x512x16x8 [0, 2, 1, 3] (shapeCast _ (transpose S8x16x4x128x8 [0, 1, 2, 4, 3] (shapeCast _ T shapeCasts_S8x16x4x8x128x1_S8x16x4x8x128) transposes_S8x16x4x8x128_S8x16x4x128x8_0_1_2_4_3) shapeCasts_S8x16x4x128x8_S8x16x512x8) transposes_S8x16x512x8_S8x512x16x8_0_2_1_3) shapeCasts_S8x512x16x8_S8x8192x8

theorem joinS_apply (T : FVec Ideal S8x16x4x8x128x1 .f32) (b : Fin 8) (t : Fin 8192) (h : Fin 8) :
    joinS T (ix3 b t h) = T (ix6 b (⟨t.val % 16, by omega⟩ : Fin 16) (⟨t.val / 16 / 128, by omega⟩ : Fin 4) h (⟨t.val / 16 % 128, by omega⟩ : Fin 128) 0) := by
  pointwise [joinS]

/-- The pair for the mixture, by token. -/
def pairR (x : FVec Ideal S4096x24576 .bf16) (b : FVec Ideal S8x128x256 .f32) : FVec Ideal S8x8192x128 .f32 :=
  (concatenate S8x8192x128 2 [⟨S8x8192x8, ((joinS (mxR x b)) : (⟨S8x8192x8, .f32⟩ : BufTy).Contents (Elt Ideal))⟩, ⟨S8x8192x8, ((joinS (smR x b)) : (⟨S8x8192x8, .f32⟩ : BufTy).Contents (Elt Ideal))⟩, ⟨S8x8192x112, ((broadcastInDim S8x8192x112 ![] bcast_S_S8x8192x112 (constant (F := Ideal) S_ .f32 0x00000000#32)) : (⟨S8x8192x112, .f32⟩ : BufTy).Contents (Elt Ideal))⟩] concatenates_S8x8192x8_S8x8192x8_S8x8192x112_S8x8192x128_d2 : (⟨S8x8192x128, .f32⟩ : BufTy).Contents (Elt Ideal))

theorem pairR_apply (x : FVec Ideal S4096x24576 .bf16) (bias : FVec Ideal S8x128x256 .f32) (b : Fin 8) (t : Fin 8192) (l : Fin 128) :
    pairR x bias (ix3 b t l) = st (seq16 x b.val (t.val % 16)) bias (t.val / 16) l.val := by
  have et : 128 * (t.val / 16 / 128) + t.val / 16 % 128 = t.val / 16 := by omega
  have em (h : Fin 8) : joinS (mxR x bias) (ix3 b t h) = mx (seq16 x b.val (t.val % 16)) bias h.val (t.val / 16) := by
    rw [joinS_apply, mxR_apply]; simp only [et]
  have es (h : Fin 8) : joinS (smR x bias) (ix3 b t h) = ∑ j : Fin 256, wt (seq16 x b.val (t.val % 16)) bias h.val (t.val / 16) j.val := by
    rw [joinS_apply, smR_apply]; simp only [et]
  unfold pairR st
  generalize joinS (mxR x bias) = A at em ⊢
  generalize joinS (smR x bias) = C at es ⊢
  pointwise
  by_cases p : l.val < 8
  · exact (dif_pos p).trans ((em ⟨l.val, p⟩).trans (if_pos p).symm)
  · by_cases q : l.val < 16
    · have q' : l.val - 8 < 8 := by omega
      exact (dif_neg p).trans ((dif_pos q').trans ((es ⟨l.val - 8, q'⟩).trans ((if_pos q).symm.trans (if_neg p).symm)))
    · have q' : ¬ l.val - 8 < 8 := by omega
      exact (dif_neg p).trans ((dif_neg q').trans ((if_neg q).symm.trans (if_neg p).symm))

/-- The second result: sixteen tokens a row. -/
def stR (x : FVec Ideal S4096x24576 .bf16) (b : FVec Ideal S8x128x256 .f32) : FVec Ideal S8x512x2048 .f32 :=
  shapeCast _ (pairR x b) shapeCasts_S8x8192x128_S8x512x2048

theorem rowsS (T : FVec Ideal S8x8192x128 .f32) (b : Fin 8) (t : Fin 512) (c : Fin 2048) :
    (shapeCast _ T shapeCasts_S8x8192x128_S8x512x2048 : FVec Ideal S8x512x2048 .f32) (ix3 b t c)
      = T (ix3 b (⟨16 * t.val + c.val / 128, by omega⟩ : Fin 8192) (⟨c.val % 128, by omega⟩ : Fin 128)) := by
  pointwise
  refine congrArg (fun k => T (ix3 b k _)) (Fin.ext ?_)
  dsimp only; omega

theorem stR_apply (x : FVec Ideal S4096x24576 .bf16) (bias : FVec Ideal S8x128x256 .f32) (b : Fin 8) (t : Fin 512) (c : Fin 2048) :
    stR x bias (ix3 b t c) = st (seq16 x b.val (c.val / 128)) bias t.val (c.val % 128) := by
  refine (rowsS _ b t c).trans ((pairR_apply x bias b _ _).trans ?_)
  dsimp only
  rw [show (16 * t.val + c.val / 128) % 16 = c.val / 128 by omega, show (16 * t.val + c.val / 128) / 16 = t.val by omega]

theorem ref0 (x : FVec Ideal S4096x24576 .bf16) (bias : FVec Ideal S8x128x256 .f32) : oR x bias = res0 x bias := by
  funext y
  obtain ⟨b, t, c, rfl⟩ : ∃ (b : Fin 8) (t : Fin 512) (c : Fin 8192), y = (ix3 b t c : S8x512x8192.Idx) := ⟨y 0, y 1, y 2, eq_ix3 y⟩
  exact oR_apply x bias b t c

theorem ref1 (x : FVec Ideal S4096x24576 .bf16) (bias : FVec Ideal S8x128x256 .f32) : stR x bias = res1 x bias := by
  funext y
  obtain ⟨b, t, l, rfl⟩ : ∃ (b : Fin 8) (t : Fin 512) (l : Fin 2048), y = (ix3 b t l : S8x512x2048.Idx) := ⟨y 0, y 1, y 2, eq_ix3 y⟩
  exact stR_apply x bias b t l

theorem out0 (m : (ℓ : Loc nD τ sig) → Buf (Elt Ideal) ℓ) (c : Dev nD) :
    Value.res_main_v86 (F := Ideal) m c = oR (m ((c.tc : Thread nD τ).loc main_arg0)) (m ((c.tc : Thread nD τ).loc main_arg1)) := rfl

theorem out1 (m : (ℓ : Loc nD τ sig) → Buf (Elt Ideal) ℓ) (c : Dev nD) :
    Value.res_main_v87 (F := Ideal) m c = stR (m ((c.tc : Thread nD τ).loc main_arg0)) (m ((c.tc : Thread nD τ).loc main_arg1)) := rfl

end Cert.Dil16RefIdeal.Hand

end
-- ==== Proof.Dil16Algebra.lean ====
/- Windowed attention at dilation 16: the kernel and its reference leave the same two arrays. -/
module

public import proofs.«01_k».proof.Defs
public import proofs.«01_k».proof.Proof.Dil16Value
public import proofs.«01_k».proof.Proof.Dil16RefValue
public import Idealize.ShloMosaic.Lib.Quiescent

@[expose] public section

noncomputable section

namespace Cert.Dil16Algebra

open Idealize.ShloMosaic Idealize.ShloMosaic.TcCoe Idealize.SL.Sem
open Cert.Dil16Form Cert.Dil16Ideal.Hand

/-- The reference's run leaves its arguments; it has no semaphore. -/
theorem frame_reference : Cert.quiescent_Dil16RefIdeal := fun m ρ _ =>
  (θ_run Cert.Dil16RefIdeal.defs _ _).mono (fun r h => ⟨fun c => (h c).2.2, Idealize.ShloMosaic.sem_eq_zero_of_no_sems (by decide) r.2⟩)
    (Cert.Dil16RefIdeal.Value.run (F := Ideal) m ρ)

/-- The kernel's literal is the named constant's word. -/
theorem preserves : Cert.preserves_Dil16_Dil16Ideal :=
  IdealRules.named_const.statement Cert.Dil16Ideal.κ "neg_inf" .f32 0xF149F2CA#32 ⊥ rfl

theorem algebraic : Cert.algebraic_Dil16Ideal_Dil16RefIdeal := fun m g m' g' _ hagree =>
  ⟨fun c => res0 (X0 m c) (X1 m c), fun c => res1 (X0 m c) (X1 m c), Cert.Dil16Ideal.Hand.run m g,
    (θ_run _ _ _).mono (fun r h c => by
      obtain ⟨h0, h1, ha⟩ := h c
      obtain ⟨e0, e1⟩ := hagree c
      refine ⟨h0.trans ?_, h1.trans ?_, ha⟩
      · refine ((Cert.Dil16RefIdeal.Hand.out0 m' c).trans (Cert.Dil16RefIdeal.Hand.ref0 _ _)).trans ?_
        rw [e0, e1]
      · refine ((Cert.Dil16RefIdeal.Hand.out1 m' c).trans (Cert.Dil16RefIdeal.Hand.ref1 _ _)).trans ?_
        rw [e0, e1]) (Cert.Dil16RefIdeal.Value.run (F := Ideal) m' g')⟩

end Cert.Dil16Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Combine
public import proofs.«01_k».proof.Proof.ExpertsFrames
public import proofs.«01_k».proof.Proof.ExpertsAlgebra
public import proofs.«01_k».proof.Proof.QkvAlgebra
public import proofs.«01_k».proof.Proof.DilAlgebra
public import proofs.«01_k».proof.Proof.Dil4Algebra
public import proofs.«01_k».proof.Proof.Dil16Algebra
public import proofs.«01_k».proof.Proof.Gen.ExpertsIdeal.Launch
public import proofs.«01_k».proof.Proof.Gen.ExpertsIdeal.Skeleton
public import proofs.«01_k».proof.Proof.Gen.ExpertsRefIdeal.Run
public import proofs.«01_k».proof.Proof.Gen.Experts.Launch
public import proofs.«01_k».proof.Proof.Gen.Experts.Skeleton
public import proofs.«01_k».proof.Proof.Gen.ExpertsPacked.Launch
public import proofs.«01_k».proof.Proof.Gen.ExpertsPacked.Skeleton
public import proofs.«01_k».proof.Proof.Gen.Pre_blocks_in_range
public import proofs.«01_k».proof.Proof.Gen.On_used
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.Dil
public import proofs.«01_k».proof.Proof.Gen.Dil.Skeleton
public import proofs.«01_k».proof.Proof.Gen.Dil.Launch
public import proofs.«01_k».proof.Proof.Gen.Dil.Points
public import proofs.«01_k».proof.Proof.Gen.Dil.Frame
public import proofs.«01_k».proof.Proof.Gen.DilIdeal
public import proofs.«01_k».proof.Proof.Gen.DilIdeal.Skeleton
public import proofs.«01_k».proof.Proof.Gen.DilIdeal.Launch
public import proofs.«01_k».proof.Proof.Gen.DilIdeal.Points
public import proofs.«01_k».proof.Proof.Gen.DilIdeal.Frame
public import proofs.«01_k».proof.Proof.Gen.DilRefIdeal
public import proofs.«01_k».proof.Proof.Gen.DilRefIdeal.Run
public import proofs.«01_k».proof.Proof.Gen.Dil4
public import proofs.«01_k».proof.Proof.Gen.Dil4.Skeleton
public import proofs.«01_k».proof.Proof.Gen.Dil4.Launch
public import proofs.«01_k».proof.Proof.Gen.Dil4.Points
public import proofs.«01_k».proof.Proof.Gen.Dil4.Frame
public import proofs.«01_k».proof.Proof.Gen.Dil4Ideal
public import proofs.«01_k».proof.Proof.Gen.Dil4Ideal.Skeleton
public import proofs.«01_k».proof.Proof.Gen.Dil4Ideal.Launch
public import proofs.«01_k».proof.Proof.Gen.Dil4Ideal.Points
public import proofs.«01_k».proof.Proof.Gen.Dil4Ideal.Frame
public import proofs.«01_k».proof.Proof.Gen.Dil4RefIdeal
public import proofs.«01_k».proof.Proof.Gen.Dil4RefIdeal.Run
public import proofs.«01_k».proof.Proof.Gen.Dil16
public import proofs.«01_k».proof.Proof.Gen.Dil16.Skeleton
public import proofs.«01_k».proof.Proof.Gen.Dil16.Launch
public import proofs.«01_k».proof.Proof.Gen.Dil16.Points
public import proofs.«01_k».proof.Proof.Gen.Dil16.Frame
public import proofs.«01_k».proof.Proof.Gen.Dil16Ideal
public import proofs.«01_k».proof.Proof.Gen.Dil16Ideal.Skeleton
public import proofs.«01_k».proof.Proof.Gen.Dil16Ideal.Launch
public import proofs.«01_k».proof.Proof.Gen.Dil16Ideal.Points
public import proofs.«01_k».proof.Proof.Gen.Dil16Ideal.Frame
public import proofs.«01_k».proof.Proof.Gen.Dil16RefIdeal
public import proofs.«01_k».proof.Proof.Gen.Dil16RefIdeal.Run
public import Idealize.ShloMosaic.Adequacy
public import Idealize.ShloMosaic.Init

@[expose] public section

noncomputable section

namespace Cert.Proof

open Idealize.ShloMosaic Idealize.SL.Sem Cert.Kernel

/-- The reference's run leaves its arguments; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Experts.Gen.facts, Cert.ExpertsIdeal.Gen.facts, Cert.ExpertsRefIdeal.Gen.facts, Cert.ExpertsPacked.Gen.facts,
  Cert.Qkv.Gen.facts, Cert.QkvIdeal.Gen.facts, Cert.QkvRefIdeal.Gen.facts,
  Cert.Dil.Gen.facts, Cert.DilIdeal.Gen.facts, Cert.DilRefIdeal.Gen.facts,
  Cert.Dil4.Gen.facts, Cert.Dil4Ideal.Gen.facts, Cert.Dil4RefIdeal.Gen.facts,
  Cert.Dil16.Gen.facts, Cert.Dil16Ideal.Gen.facts, Cert.Dil16RefIdeal.Gen.facts,
  Cert.Pre_blocks_in_range.Gen.facts, Cert.On_used.Gen.facts,
  fun m ρ _ => Cert.Kernel.Gen.frame m ρ, fun m ρ _ => Cert.KernelIdeal.Gen.frame m ρ, frame_reference,
  Cert.Experts.Hand.quiescent, Cert.ExpertsIdeal.Hand.quiescent, Cert.ExpertsRefIdeal.Hand.quiescent,
  Cert.ExpertsRefIdeal.Hand.quiescent_pre, Cert.ExpertsPacked.Hand.quiescent,
  fun m ρ _ => Cert.Qkv.Gen.frame m ρ, fun m ρ _ => Cert.QkvIdeal.Gen.frame m ρ, Cert.QkvAlgebra.frame_reference,
  fun m ρ _ => Cert.Dil.Gen.frame m ρ, fun m ρ _ => Cert.DilIdeal.Gen.frame m ρ, Cert.DilAlgebra.frame_reference,
  fun m ρ _ => Cert.Dil4.Gen.frame m ρ, fun m ρ _ => Cert.Dil4Ideal.Gen.frame m ρ, Cert.Dil4Algebra.frame_reference,
  fun m ρ _ => Cert.Dil16.Gen.frame m ρ, fun m ρ _ => Cert.Dil16Ideal.Gen.frame m ρ, Cert.Dil16Algebra.frame_reference,
  trivial, Cert.Combine.algebraic, trivial, Cert.ExpertsAlgebra.algebraic,
  Cert.QkvAlgebra.preserves, Cert.QkvAlgebra.algebraic,
  Cert.DilAlgebra.preserves, Cert.DilAlgebra.algebraic,
  Cert.Dil4Algebra.preserves, Cert.Dil4Algebra.algebraic,
  Cert.Dil16Algebra.preserves, Cert.Dil16Algebra.algebraic⟩

end Cert.Proof

end
